-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mlp_arguments_finite [hPre_mlp_arguments_finite : Cert.Pre_mlp_arguments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mlp_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mlp_arguments_finite [hPre_mlp_arguments_finite : Cert.Pre_mlp_arguments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mlp_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mixer_arguments_finite [hPre_mixer_arguments_finite : Cert.Pre_mixer_arguments_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mixer_arguments_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mixer_arguments_finite [hPre_mixer_arguments_finite : Cert.Pre_mixer_arguments_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mixer_arguments_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_forward_arguments_finite [hPre_forward_arguments_finite : Cert.Pre_forward_arguments_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_forward_arguments_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_forward_arguments_finite [hPre_forward_arguments_finite : Cert.Pre_forward_arguments_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_forward_arguments_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 [hPre_slot_in_range : Cert.Pre_slot_in_range.Facts] (m : (ℓ : Loc Cert.Kernel4.nD Cert.Kernel4.τ Cert.Kernel4.sig) → Buf (Elt Bits) ℓ) : Prop :=
  ∀ c : Dev Cert.Kernel4.nD,
    (Cert.Pre_slot_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7)) (m ((c.tc : Thread Cert.Kernel4.nD Cert.Kernel4.τ).loc Cert.Kernel4.main_arg8))) = (fun _ => 1#1)

def Pre_Kernel4Ideal [hPre_slot_in_range : Cert.Pre_slot_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_slot_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_mlp_arguments_finite [hKernelIdeal : Cert.KernelIdeal.Facts] [hPre_mlp_arguments_finite : Cert.Pre_mlp_arguments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mlp_arguments_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_mlp_arguments_finite [hReferenceIdeal : Cert.ReferenceIdeal.Facts] [hPre_mlp_arguments_finite : Cert.Pre_mlp_arguments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mlp_arguments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_mixer_arguments_finite [hKernel2Ideal : Cert.Kernel2Ideal.Facts] [hPre_mixer_arguments_finite : Cert.Pre_mixer_arguments_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mixer_arguments_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_mixer_arguments_finite [hReference2Ideal : Cert.Reference2Ideal.Facts] [hPre_mixer_arguments_finite : Cert.Pre_mixer_arguments_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mixer_arguments_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_forward_arguments_finite [hKernel3Ideal : Cert.Kernel3Ideal.Facts] [hPre_forward_arguments_finite : Cert.Pre_forward_arguments_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_forward_arguments_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_forward_arguments_finite [hReference3Ideal : Cert.Reference3Ideal.Facts] [hPre_forward_arguments_finite : Cert.Pre_forward_arguments_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_forward_arguments_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] [hPre_slot_in_range : Cert.Pre_slot_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] [hPre_slot_in_range : Cert.Pre_slot_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_mlp_arguments_finite [hKernelIdeal : Cert.KernelIdeal.Facts] [hReferenceIdeal : Cert.ReferenceIdeal.Facts] [hPre_mlp_arguments_finite : Cert.Pre_mlp_arguments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mlp_arguments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v131_0)) (v1 : (c : Dev Cert.KernelIdeal.nD) → Buf (Elt Ideal) ((c.tc : Thread Cert.KernelIdeal.nD Cert.KernelIdeal.τ).loc Cert.KernelIdeal.main_v131_1)) (v2 : (c : Dev Cert.KernelIdeal.nD) → Buf (Elt Ideal) ((c.tc : Thread Cert.KernelIdeal.nD Cert.KernelIdeal.τ).loc Cert.KernelIdeal.main_v131_2)) (v3 : (c : Dev Cert.KernelIdeal.nD) → Buf (Elt Ideal) ((c.tc : Thread Cert.KernelIdeal.nD Cert.KernelIdeal.τ).loc Cert.KernelIdeal.main_v131_3)) (v4 : (c : Dev Cert.KernelIdeal.nD) → Buf (Elt Ideal) ((c.tc : Thread Cert.KernelIdeal.nD Cert.KernelIdeal.τ).loc Cert.KernelIdeal.main_v131_4)) (v5 : (c : Dev Cert.KernelIdeal.nD) → Buf (Elt Ideal) ((c.tc : Thread Cert.KernelIdeal.nD Cert.KernelIdeal.τ).loc Cert.KernelIdeal.main_v131_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131_0) = v0 c
          ∧ r.2.mem ((c.tc : Thread Cert.KernelIdeal.nD Cert.KernelIdeal.τ).loc Cert.KernelIdeal.main_v131_1) = v1 c
          ∧ r.2.mem ((c.tc : Thread Cert.KernelIdeal.nD Cert.KernelIdeal.τ).loc Cert.KernelIdeal.main_v131_2) = v2 c
          ∧ r.2.mem ((c.tc : Thread Cert.KernelIdeal.nD Cert.KernelIdeal.τ).loc Cert.KernelIdeal.main_v131_3) = v3 c
          ∧ r.2.mem ((c.tc : Thread Cert.KernelIdeal.nD Cert.KernelIdeal.τ).loc Cert.KernelIdeal.main_v131_4) = v4 c
          ∧ r.2.mem ((c.tc : Thread Cert.KernelIdeal.nD Cert.KernelIdeal.τ).loc Cert.KernelIdeal.main_v131_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_v257) = v1 c
          ∧ r.2.mem ((c.tc : Thread Cert.ReferenceIdeal.nD Cert.ReferenceIdeal.τ).loc Cert.ReferenceIdeal.main_v258) = v2 c
          ∧ r.2.mem ((c.tc : Thread Cert.ReferenceIdeal.nD Cert.ReferenceIdeal.τ).loc Cert.ReferenceIdeal.main_v259) = v3 c
          ∧ r.2.mem ((c.tc : Thread Cert.ReferenceIdeal.nD Cert.ReferenceIdeal.τ).loc Cert.ReferenceIdeal.main_v260) = v4 c
          ∧ r.2.mem ((c.tc : Thread Cert.ReferenceIdeal.nD Cert.ReferenceIdeal.τ).loc Cert.ReferenceIdeal.main_v256) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal_pre_mixer_arguments_finite [hKernel2Ideal : Cert.Kernel2Ideal.Facts] [hReference2Ideal : Cert.Reference2Ideal.Facts] [hPre_mixer_arguments_finite : Cert.Pre_mixer_arguments_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mixer_arguments_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v132_0)) (v1 : (c : Dev Cert.Kernel2Ideal.nD) → Buf (Elt Ideal) ((c.tc : Thread Cert.Kernel2Ideal.nD Cert.Kernel2Ideal.τ).loc Cert.Kernel2Ideal.main_v132_1)) (v2 : (c : Dev Cert.Kernel2Ideal.nD) → Buf (Elt Ideal) ((c.tc : Thread Cert.Kernel2Ideal.nD Cert.Kernel2Ideal.τ).loc Cert.Kernel2Ideal.main_v132_2)) (v3 : (c : Dev Cert.Kernel2Ideal.nD) → Buf (Elt Ideal) ((c.tc : Thread Cert.Kernel2Ideal.nD Cert.Kernel2Ideal.τ).loc Cert.Kernel2Ideal.main_v132_3)) (v4 : (c : Dev Cert.Kernel2Ideal.nD) → Buf (Elt Ideal) ((c.tc : Thread Cert.Kernel2Ideal.nD Cert.Kernel2Ideal.τ).loc Cert.Kernel2Ideal.main_v132_4)) (v5 : (c : Dev Cert.Kernel2Ideal.nD) → Buf (Elt Ideal) ((c.tc : Thread Cert.Kernel2Ideal.nD Cert.Kernel2Ideal.τ).loc Cert.Kernel2Ideal.main_v132_5)) (v6 : (c : Dev Cert.Kernel2Ideal.nD) → Buf (Elt Ideal) ((c.tc : Thread Cert.Kernel2Ideal.nD Cert.Kernel2Ideal.τ).loc Cert.Kernel2Ideal.main_v132_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v132_0) = v0 c
          ∧ r.2.mem ((c.tc : Thread Cert.Kernel2Ideal.nD Cert.Kernel2Ideal.τ).loc Cert.Kernel2Ideal.main_v132_1) = v1 c
          ∧ r.2.mem ((c.tc : Thread Cert.Kernel2Ideal.nD Cert.Kernel2Ideal.τ).loc Cert.Kernel2Ideal.main_v132_2) = v2 c
          ∧ r.2.mem ((c.tc : Thread Cert.Kernel2Ideal.nD Cert.Kernel2Ideal.τ).loc Cert.Kernel2Ideal.main_v132_3) = v3 c
          ∧ r.2.mem ((c.tc : Thread Cert.Kernel2Ideal.nD Cert.Kernel2Ideal.τ).loc Cert.Kernel2Ideal.main_v132_4) = v4 c
          ∧ r.2.mem ((c.tc : Thread Cert.Kernel2Ideal.nD Cert.Kernel2Ideal.τ).loc Cert.Kernel2Ideal.main_v132_5) = v5 c
          ∧ r.2.mem ((c.tc : Thread Cert.Kernel2Ideal.nD Cert.Kernel2Ideal.τ).loc Cert.Kernel2Ideal.main_v132_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v301) = v0 c
          ∧ r.2.mem ((c.tc : Thread Cert.Reference2Ideal.nD Cert.Reference2Ideal.τ).loc Cert.Reference2Ideal.main_v306) = v1 c
          ∧ r.2.mem ((c.tc : Thread Cert.Reference2Ideal.nD Cert.Reference2Ideal.τ).loc Cert.Reference2Ideal.main_v307) = v2 c
          ∧ r.2.mem ((c.tc : Thread Cert.Reference2Ideal.nD Cert.Reference2Ideal.τ).loc Cert.Reference2Ideal.main_v308) = v3 c
          ∧ r.2.mem ((c.tc : Thread Cert.Reference2Ideal.nD Cert.Reference2Ideal.τ).loc Cert.Reference2Ideal.main_v303) = v4 c
          ∧ r.2.mem ((c.tc : Thread Cert.Reference2Ideal.nD Cert.Reference2Ideal.τ).loc Cert.Reference2Ideal.main_v305) = v5 c
          ∧ r.2.mem ((c.tc : Thread Cert.Reference2Ideal.nD Cert.Reference2Ideal.τ).loc Cert.Reference2Ideal.main_v198) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_forward_arguments_finite [hKernel3Ideal : Cert.Kernel3Ideal.Facts] [hReference3Ideal : Cert.Reference3Ideal.Facts] [hPre_forward_arguments_finite : Cert.Pre_forward_arguments_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_forward_arguments_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v128) = v0 c
          ∧ r.2.mem ((c.tc : Thread Cert.Reference3Ideal.nD Cert.Reference3Ideal.τ).loc Cert.Reference3Ideal.main_v129) = v1 c
          ∧ r.2.mem ((c.tc : Thread Cert.Reference3Ideal.nD Cert.Reference3Ideal.τ).loc Cert.Reference3Ideal.main_v127) = v2 c
          ∧ r.2.mem ((c.tc : Thread Cert.Reference3Ideal.nD Cert.Reference3Ideal.τ).loc Cert.Reference3Ideal.main_v123) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_mlp_arguments_finite : Cert.Pre_mlp_arguments_finite.Facts) (hPre_mixer_arguments_finite : Cert.Pre_mixer_arguments_finite.Facts) (hPre_forward_arguments_finite : Cert.Pre_forward_arguments_finite.Facts) (hPre_slot_in_range : Cert.Pre_slot_in_range.Facts),
    quiescent_Kernel (hKernel := hKernel)
    ∧ quiescent_KernelIdeal (hKernelIdeal := hKernelIdeal)
    ∧ quiescent_KernelIdeal_pre_mlp_arguments_finite (hKernelIdeal := hKernelIdeal) (hPre_mlp_arguments_finite := hPre_mlp_arguments_finite)
    ∧ quiescent_ReferenceIdeal (hReferenceIdeal := hReferenceIdeal)
    ∧ quiescent_ReferenceIdeal_pre_mlp_arguments_finite (hReferenceIdeal := hReferenceIdeal) (hPre_mlp_arguments_finite := hPre_mlp_arguments_finite)
    ∧ quiescent_Kernel2 (hKernel2 := hKernel2)
    ∧ quiescent_Kernel2Ideal (hKernel2Ideal := hKernel2Ideal)
    ∧ quiescent_Kernel2Ideal_pre_mixer_arguments_finite (hKernel2Ideal := hKernel2Ideal) (hPre_mixer_arguments_finite := hPre_mixer_arguments_finite)
    ∧ quiescent_Reference2Ideal (hReference2Ideal := hReference2Ideal)
    ∧ quiescent_Reference2Ideal_pre_mixer_arguments_finite (hReference2Ideal := hReference2Ideal) (hPre_mixer_arguments_finite := hPre_mixer_arguments_finite)
    ∧ quiescent_Kernel3 (hKernel3 := hKernel3)
    ∧ quiescent_Kernel3Ideal (hKernel3Ideal := hKernel3Ideal)
    ∧ quiescent_Kernel3Ideal_pre_forward_arguments_finite (hKernel3Ideal := hKernel3Ideal) (hPre_forward_arguments_finite := hPre_forward_arguments_finite)
    ∧ quiescent_Reference3Ideal (hReference3Ideal := hReference3Ideal)
    ∧ quiescent_Reference3Ideal_pre_forward_arguments_finite (hReference3Ideal := hReference3Ideal) (hPre_forward_arguments_finite := hPre_forward_arguments_finite)
    ∧ quiescent_Kernel4 (hKernel4 := hKernel4) (hPre_slot_in_range := hPre_slot_in_range)
    ∧ quiescent_Kernel4Ideal (hKernel4Ideal := hKernel4Ideal) (hPre_slot_in_range := hPre_slot_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_mlp_arguments_finite (hKernelIdeal := hKernelIdeal) (hReferenceIdeal := hReferenceIdeal) (hPre_mlp_arguments_finite := hPre_mlp_arguments_finite)
    ∧ preserves_Kernel2_Kernel2Ideal
    ∧ algebraic_Kernel2Ideal_Reference2Ideal_pre_mixer_arguments_finite (hKernel2Ideal := hKernel2Ideal) (hReference2Ideal := hReference2Ideal) (hPre_mixer_arguments_finite := hPre_mixer_arguments_finite)
    ∧ preserves_Kernel3_Kernel3Ideal
    ∧ algebraic_Kernel3Ideal_Reference3Ideal_pre_forward_arguments_finite (hKernel3Ideal := hKernel3Ideal) (hReference3Ideal := hReference3Ideal) (hPre_forward_arguments_finite := hPre_forward_arguments_finite)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_forward_arguments_finite.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1x6144 : S_.BroadcastsInDim S1x6144 (![] : Fin 0 → Fin S1x6144.rank)
  reducesTo_S1x6144_S_d0_1 : S1x6144.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S1024x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1024 .f32 := Host.absf main_arg8
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1024x2048 .f32) (main_arg5 : FVec F S3x512 .f32) (main_arg6 : FVec F S4x128x128 .f32) (main_arg7 : FVec F S1x512 .f32) (main_arg8 : FVec F S1024x1024 .f32) (main_v3 : IVec S_ 1) (main_v7 : IVec S_ 1) (main_v11 : IVec S_ 1) (main_v15 : IVec S_ 1) : IVec S_ 1 :=
  let main_v16 : FVec F S1024x2048 .f32 := Host.absf main_arg4
  let main_cst_6 : FVec F S_ .f32 := constant S_ .f32 0x7F800000#32
  let main_v17 : FVec F S1024x2048 .f32 := broadcastInDim S1024x2048 ![] bcast_S_S1024x2048 main_cst_6
  let main_v18 : IVec S1024x2048 1 := cmpf .olt main_v16 main_v17
  let main_c_7 : IVec S_ 1 := constantI S_ 1 1#1
  let main_v19 : IVec S_ 1 := (fun x v => Host.reduce IntOp.andi x v reducesTo_S1024x2048_S_d0_1 h_S_) main_v18 main_c_7
  let main_v20 : FVec F S3x512 .f32 := Host.absf main_arg5
  let main_cst_8 : FVec F S_ .f32 := constant S_ .f32 0x7F800000#32
  let main_v21 : FVec F S3x512 .f32 := broadcastInDim S3x512 ![] bcast_S_S3x512 main_cst_8
  let main_v22 : IVec S3x512 1 := cmpf .olt main_v20 main_v21
  let main_c_9 : IVec S_ 1 := constantI S_ 1 1#1
  let main_v23 : IVec S_ 1 := (fun x v => Host.reduce IntOp.andi x v reducesTo_S3x512_S_d0_1 h_S_) main_v22 main_c_9
  let main_v24 : FVec F S4x128x128 .f32 := Host.absf main_arg6
  let main_cst_10 : FVec F S_ .f32 := constant S_ .f32 0x7F800000#32
  let main_v25 : FVec F S4x128x128 .f32 := broadcastInDim S4x128x128 ![] bcast_S_S4x128x128 main_cst_10
  let main_v26 : IVec S4x128x128 1 := cmpf .olt main_v24 main_v25
  let main_c_11 : IVec S_ 1 := constantI S_ 1 1#1
  let main_v27 : IVec S_ 1 := (fun x v => Host.reduce IntOp.andi x v reducesTo_S4x128x128_S_d0_1_2 h_S_) main_v26 main_c_11
  let main_v28 : FVec F S1x512 .f32 := Host.absf main_arg7
  let main_cst_12 : FVec F S_ .f32 := constant S_ .f32 0x7F800000#32
  let main_v29 : FVec F S1x512 .f32 := broadcastInDim S1x512 ![] bcast_S_S1x512 main_cst_12
  let main_v30 : IVec S1x512 1 := cmpf .olt main_v28 main_v29
  let main_c_13 : IVec S_ 1 := constantI S_ 1 1#1
  let main_v31 : IVec S_ 1 := (fun x v => Host.reduce IntOp.andi x v reducesTo_S1x512_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S1x1024 .f32) (main_arg2 : FVec F S1024x6144 .f32) (main_arg3 : FVec F S1x6144 .f32) (main_arg4 : FVec F S1024x2048 .f32) (main_arg5 : FVec F S3x512 .f32) (main_arg6 : FVec F S4x128x128 .f32) (main_arg7 : FVec F S1x512 .f32) (main_arg8 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x6144 .f32 := Host.absf main_arg2
  let main_cst_2 : FVec F S_ .f32 := constant S_ .f32 0x7F800000#32
  let main_v9 : FVec F S1024x6144 .f32 := broadcastInDim S1024x6144 ![] bcast_S_S1024x6144 main_cst_2
  let main_v10 : IVec S1024x6144 1 := cmpf .olt main_v8 main_v9
  let main_c_3 : IVec S_ 1 := constantI S_ 1 1#1
  let main_v11 : IVec S_ 1 := (fun x v => Host.reduce IntOp.andi x v reducesTo_S1024x6144_S_d0_1 h_S_) main_v10 main_c_3
  let main_v12 : FVec F S1x6144 .f32 := Host.absf main_arg3
  let main_cst_4 : FVec F S_ .f32 := constant S_ .f32 0x7F800000#32
  let main_v13 : FVec F S1x6144 .f32 := broadcastInDim S1x6144 ![] bcast_S_S1x6144 main_cst_4
  let main_v14 : IVec S1x6144 1 := cmpf .olt main_v12 main_v13
  let main_c_5 : IVec S_ 1 := constantI S_ 1 1#1
  let main_v15 : IVec S_ 1 := (fun x v => Host.reduce IntOp.andi x v reducesTo_S1x6144_S_d0_1 h_S_) main_v14 main_c_5
  fn_part1 (F := F) main_arg4 main_arg5 main_arg6 main_arg7 main_arg8 main_v3 main_v7 main_v11 main_v15
-- ==== Pre_mixer_arguments_finite.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1x6144 : S_.BroadcastsInDim S1x6144 (![] : Fin 0 → Fin S1x6144.rank)
  reducesTo_S1x6144_S_d0_1 : S1x6144.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S1x512 .f32) (main_arg9 : FVec F S1024x1024 .f32) (main_arg10 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg8
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1024x1024 .f32 := Host.absf main_arg9
  let main_cst_16 : FVec F S_ .f32 := constant S_ .f32 0x7F800000#32
  let main_v37 : FVec F S1024x1024 .f32 := broadcastInDim S1024x1024 ![] bcast_S_S1024x1024 main_cst_16
  let main_v38 : IVec S1024x1024 1 := cmpf .olt main_v36 main_v37
  let main_c_17 : IVec S_ 1 := constantI S_ 1 1#1
  let main_v39 : IVec S_ 1 := (fun x v => Host.reduce IntOp.andi x v reducesTo_S1024x1024_S_d0_1 h_S_) main_v38 main_c_17
  let main_v40 : FVec F S1x1024 .f32 := Host.absf main_arg10
  let main_cst_18 : FVec F S_ .f32 := constant S_ .f32 0x7F800000#32
  let main_v41 : FVec F S1x1024 .f32 := broadcastInDim S1x1024 ![] bcast_S_S1x1024 main_cst_18
  let main_v42 : IVec S1x1024 1 := cmpf .olt main_v40 main_v41
  let main_c_19 : IVec S_ 1 := constantI S_ 1 1#1
  let main_v43 : IVec S_ 1 := (fun x v => Host.reduce IntOp.andi x v reducesTo_S1x1024_S_d0_1 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S1x6144 .f32) (main_arg5 : FVec F S1024x2048 .f32) (main_arg6 : FVec F S3x512 .f32) (main_arg7 : FVec F S4x128x128 .f32) (main_arg8 : FVec F S1x512 .f32) (main_arg9 : FVec F S1024x1024 .f32) (main_arg10 : FVec F S1x1024 .f32) (main_v3 : IVec S_ 1) (main_v7 : IVec S_ 1) (main_v11 : IVec S_ 1) (main_v15 : IVec S_ 1) : IVec S_ 1 :=
  let main_v16 : FVec F S1x6144 .f32 := Host.absf main_arg4
  let main_cst_6 : FVec F S_ .f32 := constant S_ .f32 0x7F800000#32
  let main_v17 : FVec F S1x6144 .f32 := broadcastInDim S1x6144 ![] bcast_S_S1x6144 main_cst_6
  let main_v18 : IVec S1x6144 1 := cmpf .olt main_v16 main_v17
  let main_c_7 : IVec S_ 1 := constantI S_ 1 1#1
  let main_v19 : IVec S_ 1 := (fun x v => Host.reduce IntOp.andi x v reducesTo_S1x6144_S_d0_1 h_S_) main_v18 main_c_7
  let main_v20 : FVec F S1024x2048 .f32 := Host.absf main_arg5
  let main_cst_8 : FVec F S_ .f32 := constant S_ .f32 0x7F800000#32
  let main_v21 : FVec F S1024x2048 .f32 := broadcastInDim S1024x2048 ![] bcast_S_S1024x2048 main_cst_8
  let main_v22 : IVec S1024x2048 1 := cmpf .olt main_v20 main_v21
  let main_c_9 : IVec S_ 1 := constantI S_ 1 1#1
  let main_v23 : IVec S_ 1 := (fun x v => Host.reduce IntOp.andi x v reducesTo_S1024x2048_S_d0_1 h_S_) main_v22 main_c_9
  let main_v24 : FVec F S3x512 .f32 := Host.absf main_arg6
  let main_cst_10 : FVec F S_ .f32 := constant S_ .f32 0x7F800000#32
  let main_v25 : FVec F S3x512 .f32 := broadcastInDim S3x512 ![] bcast_S_S3x512 main_cst_10
  let main_v26 : IVec S3x512 1 := cmpf .olt main_v24 main_v25
  let main_c_11 : IVec S_ 1 := constantI S_ 1 1#1
  let main_v27 : IVec S_ 1 := (fun x v => Host.reduce IntOp.andi x v reducesTo_S3x512_S_d0_1 h_S_) main_v26 main_c_11
  let main_v28 : FVec F S4x128x128 .f32 := Host.absf main_arg7
  let main_cst_12 : FVec F S_ .f32 := constant S_ .f32 0x7F800000#32
  let main_v29 : FVec F S4x128x128 .f32 := broadcastInDim S4x128x128 ![] bcast_S_S4x128x128 main_cst_12
  let main_v30 : IVec S4x128x128 1 := cmpf .olt main_v28 main_v29
  let main_c_13 : IVec S_ 1 := constantI S_ 1 1#1
  let main_v31 : IVec S_ 1 := (fun x v => Host.reduce IntOp.andi x v reducesTo_S4x128x128_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1024x6144 .f32) (main_arg4 : FVec F S1x6144 .f32) (main_arg5 : FVec F S1024x2048 .f32) (main_arg6 : FVec F S3x512 .f32) (main_arg7 : FVec F S4x128x128 .f32) (main_arg8 : FVec F S1x512 .f32) (main_arg9 : FVec F S1024x1024 .f32) (main_arg10 : FVec F S1x1024 .f32) (main_arg11 : FVec F S1x1024 .f32) (main_arg12 : FVec F S1x1024 .f32) (main_arg13 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x6144 .f32 := Host.absf main_arg3
  let main_cst_4 : FVec F S_ .f32 := constant S_ .f32 0x7F800000#32
  let main_v13 : FVec F S1024x6144 .f32 := broadcastInDim S1024x6144 ![] bcast_S_S1024x6144 main_cst_4
  let main_v14 : IVec S1024x6144 1 := cmpf .olt main_v12 main_v13
  let main_c_5 : IVec S_ 1 := constantI S_ 1 1#1
  let main_v15 : IVec S_ 1 := (fun x v => Host.reduce IntOp.andi x v reducesTo_S1024x6144_S_d0_1 h_S_) main_v14 main_c_5
  fn_part1 (F := F) main_arg4 main_arg5 main_arg6 main_arg7 main_arg8 main_arg9 main_arg10 main_v3 main_v7 main_v11 main_v15
-- ==== Pre_mlp_arguments_finite.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1x6144 : S_.BroadcastsInDim S1x6144 (![] : Fin 0 → Fin S1x6144.rank)
  reducesTo_S1x6144_S_d0_1 : S1x6144.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3x512 : S_.BroadcastsInDim S3x512 (![] : Fin 0 → Fin S3x512.rank)
  reducesTo_S3x512_S_d0_1 : S3x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part4 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v63 : IVec S_ 1) : IVec S_ 1 :=
  let main_v64 : IVec S_ 1 := andi main_v3 main_v7
  let main_v65 : IVec S_ 1 := andi main_v64 main_v11
  let main_v66 : IVec S_ 1 := andi main_v65 main_v15
  let main_v67 : IVec S_ 1 := andi main_v66 main_v19
  let main_v68 : IVec S_ 1 := andi main_v67 main_v23
  let main_v69 : IVec S_ 1 := andi main_v68 main_v27
  let main_v70 : IVec S_ 1 := andi main_v69 main_v31
  let main_v71 : IVec S_ 1 := andi main_v70 main_v35
  let main_v72 : IVec S_ 1 := andi main_v71 main_v39
  let main_v73 : IVec S_ 1 := andi main_v72 main_v43
  let main_v74 : IVec S_ 1 := andi main_v73 main_v47
  let main_v75 : IVec S_ 1 := andi main_v74 main_v51
  let main_v76 : IVec S_ 1 := andi main_v75 main_v55
  let main_v77 : IVec S_ 1 := andi main_v76 main_v59
  let main_v78 : IVec S_ 1 := andi main_v77 main_v63
  main_v78

def fn_part3 {F : FTy → Type} [FloatOps F] (main_arg12 : FVec F S1024x4096 .f32) (main_arg13 : FVec F S4096x1024 .f32) (main_arg14 : FVec F S1x1024 .f32) (main_arg15 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1024x4096 .f32 := Host.absf main_arg12
  let main_cst_22 : FVec F S_ .f32 := constant S_ .f32 0x7F800000#32
  let main_v49 : FVec F S1024x4096 .f32 := broadcastInDim S1024x4096 ![] bcast_S_S1024x4096 main_cst_22
  let main_v50 : IVec S1024x4096 1 := cmpf .olt main_v48 main_v49
  let main_c_23 : IVec S_ 1 := constantI S_ 1 1#1
  let main_v51 : IVec S_ 1 := (fun x v => Host.reduce IntOp.andi x v reducesTo_S1024x4096_S_d0_1 h_S_) main_v50 main_c_23
  let main_v52 : FVec F S4096x1024 .f32 := Host.absf main_arg13
  let main_cst_24 : FVec F S_ .f32 := constant S_ .f32 0x7F800000#32
  let main_v53 : FVec F S4096x1024 .f32 := broadcastInDim S4096x1024 ![] bcast_S_S4096x1024 main_cst_24
  let main_v54 : IVec S4096x1024 1 := cmpf .olt main_v52 main_v53
  let main_c_25 : IVec S_ 1 := constantI S_ 1 1#1
  let main_v55 : IVec S_ 1 := (fun x v => Host.reduce IntOp.andi x v reducesTo_S4096x1024_S_d0_1 h_S_) main_v54 main_c_25
  let main_v56 : FVec F S1x1024 .f32 := Host.absf main_arg14
  let main_cst_26 : FVec F S_ .f32 := constant S_ .f32 0x7F800000#32
  let main_v57 : FVec F S1x1024 .f32 := broadcastInDim S1x1024 ![] bcast_S_S1x1024 main_cst_26
  let main_v58 : IVec S1x1024 1 := cmpf .olt main_v56 main_v57
  let main_c_27 : IVec S_ 1 := constantI S_ 1 1#1
  let main_v59 : IVec S_ 1 := (fun x v => Host.reduce IntOp.andi x v reducesTo_S1x1024_S_d0_1 h_S_) main_v58 main_c_27
  let main_v60 : FVec F S1x1024 .f32 := Host.absf main_arg15
  let main_cst_28 : FVec F S_ .f32 := constant S_ .f32 0x7F800000#32
  let main_v61 : FVec F S1x1024 .f32 := broadcastInDim S1x1024 ![] bcast_S_S1x1024 main_cst_28
  let main_v62 : IVec S1x1024 1 := cmpf .olt main_v60 main_v61
  let main_c_29 : IVec S_ 1 := constantI S_ 1 1#1
  let main_v63 : IVec S_ 1 := (fun x v => Host.reduce IntOp.andi x v reducesTo_S1x1024_S_d0_1 h_S_) main_v62 main_c_29
  fn_part4 (F := F) main_v3 main_v7 main_v11 main_v15 main_v19 main_v23 main_v27 main_v31 main_v35 main_v39 main_v43 main_v47 main_v51 main_v55 main_v59 main_v63

def fn_part2 {F : FTy → Type} [FloatOps F] (main_arg8 : FVec F S1x512 .f32) (main_arg9 : FVec F S1024x1024 .f32) (main_arg10 : FVec F S1x1024 .f32) (main_arg11 : FVec F S1x1024 .f32) (main_arg12 : FVec F S1024x4096 .f32) (main_arg13 : FVec F S4096x1024 .f32) (main_arg14 : FVec F S1x1024 .f32) (main_arg15 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x512 .f32 := Host.absf main_arg8
  let main_cst_14 : FVec F S_ .f32 := constant S_ .f32 0x7F800000#32
  let main_v33 : FVec F S1x512 .f32 := broadcastInDim S1x512 ![] bcast_S_S1x512 main_cst_14
  let main_v34 : IVec S1x512 1 := cmpf .olt main_v32 main_v33
  let main_c_15 : IVec S_ 1 := constantI S_ 1 1#1
  let main_v35 : IVec S_ 1 := (fun x v => Host.reduce IntOp.andi x v reducesTo_S1x512_S_d0_1 h_S_) main_v34 main_c_15
  let main_v36 : FVec F S1024x1024 .f32 := Host.absf main_arg9
  let main_cst_16 : FVec F S_ .f32 := constant S_ .f32 0x7F800000#32
  let main_v37 : FVec F S1024x1024 .f32 := broadcastInDim S1024x1024 ![] bcast_S_S1024x1024 main_cst_16
  let main_v38 : IVec S1024x1024 1 := cmpf .olt main_v36 main_v37
  let main_c_17 : IVec S_ 1 := constantI S_ 1 1#1
  let main_v39 : IVec S_ 1 := (fun x v => Host.reduce IntOp.andi x v reducesTo_S1024x1024_S_d0_1 h_S_) main_v38 main_c_17
  let main_v40 : FVec F S1x1024 .f32 := Host.absf main_arg10
  let main_cst_18 : FVec F S_ .f32 := constant S_ .f32 0x7F800000#32
  let main_v41 : FVec F S1x1024 .f32 := broadcastInDim S1x1024 ![] bcast_S_S1x1024 main_cst_18
  let main_v42 : IVec S1x1024 1 := cmpf .olt main_v40 main_v41
  let main_c_19 : IVec S_ 1 := constantI S_ 1 1#1
  let main_v43 : IVec S_ 1 := (fun x v => Host.reduce IntOp.andi x v reducesTo_S1x1024_S_d0_1 h_S_) main_v42 main_c_19
  let main_v44 : FVec F S1x1024 .f32 := Host.absf main_arg11
  let main_cst_20 : FVec F S_ .f32 := constant S_ .f32 0x7F800000#32
  let main_v45 : FVec F S1x1024 .f32 := broadcastInDim S1x1024 ![] bcast_S_S1x1024 main_cst_20
  let main_v46 : IVec S1x1024 1 := cmpf .olt main_v44 main_v45
  let main_c_21 : IVec S_ 1 := constantI S_ 1 1#1
  let main_v47 : IVec S_ 1 := (fun x v => Host.reduce IntOp.andi x v reducesTo_S1x1024_S_d0_1 h_S_) main_v46 main_c_21
  fn_part3 (F := F) main_arg12 main_arg13 main_arg14 main_arg15 main_v3 main_v7 main_v11 main_v15 main_v19 main_v23 main_v27 main_v31 main_v35 main_v39 main_v43 main_v47

def fn_part1 {F : FTy → Type} [FloatOps F] (main_arg4 : FVec F S1x6144 .f32) (main_arg5 : FVec F S1024x2048 .f32) (main_arg6 : FVec F S3x512 .f32) (main_arg7 : FVec F S4x128x128 .f32) (main_arg8 : FVec F S1x512 .f32) (main_arg9 : FVec F S1024x1024 .f32) (main_arg10 : FVec F S1x1024 .f32) (main_arg11 : FVec F S1x1024 .f32) (main_arg12 : FVec F S1024x4096 .f32) (main_arg13 : FVec F S4096x1024 .f32) (main_arg14 : FVec F S1x1024 .f32) (main_arg15 : FVec F S1x1024 .f32) (main_v3 : IVec S_ 1) (main_v7 : IVec S_ 1) (main_v11 : IVec S_ 1) (main_v15 : IVec S_ 1) : IVec S_ 1 :=
  let main_v16 : FVec F S1x6144 .f32 := Host.absf main_arg4
  let main_cst_6 : FVec F S_ .f32 := constant S_ .f32 0x7F800000#32
  let main_v17 : FVec F S1x6144 .f32 := broadcastInDim S1x6144 ![] bcast_S_S1x6144 main_cst_6
  let main_v18 : IVec S1x6144 1 := cmpf .olt main_v16 main_v17
  let main_c_7 : IVec S_ 1 := constantI S_ 1 1#1
  let main_v19 : IVec S_ 1 := (fun x v => Host.reduce IntOp.andi x v reducesTo_S1x6144_S_d0_1 h_S_) main_v18 main_c_7
  let main_v20 : FVec F S1024x2048 .f32 := Host.absf main_arg5
  let main_cst_8 : FVec F S_ .f32 := constant S_ .f32 0x7F800000#32
  let main_v21 : FVec F S1024x2048 .f32 := broadcastInDim S1024x2048 ![] bcast_S_S1024x2048 main_cst_8
  let main_v22 : IVec S1024x2048 1 := cmpf .olt main_v20 main_v21
  let main_c_9 : IVec S_ 1 := constantI S_ 1 1#1
  let main_v23 : IVec S_ 1 := (fun x v => Host.reduce IntOp.andi x v reducesTo_S1024x2048_S_d0_1 h_S_) main_v22 main_c_9
  let main_v24 : FVec F S3x512 .f32 := Host.absf main_arg6
  let main_cst_10 : FVec F S_ .f32 := constant S_ .f32 0x7F800000#32
  let main_v25 : FVec F S3x512 .f32 := broadcastInDim S3x512 ![] bcast_S_S3x512 main_cst_10
  let main_v26 : IVec S3x512 1 := cmpf .olt main_v24 main_v25
  let main_c_11 : IVec S_ 1 := constantI S_ 1 1#1
  let main_v27 : IVec S_ 1 := (fun x v => Host.reduce IntOp.andi x v reducesTo_S3x512_S_d0_1 h_S_) main_v26 main_c_11
  let main_v28 : FVec F S4x128x128 .f32 := Host.absf main_arg7
  let main_cst_12 : FVec F S_ .f32 := constant S_ .f32 0x7F800000#32
  let main_v29 : FVec F S4x128x128 .f32 := broadcastInDim S4x128x128 ![] bcast_S_S4x128x128 main_cst_12
  let main_v30 : IVec S4x128x128 1 := cmpf .olt main_v28 main_v29
  let main_c_13 : IVec S_ 1 := constantI S_ 1 1#1
  let main_v31 : IVec S_ 1 := (fun x v => Host.reduce IntOp.andi x v reducesTo_S4x128x128_S_d0_1_2 h_S_) main_v30 main_c_13
  fn_part2 (F := F) main_arg8 main_arg9 main_arg10 main_arg11 main_arg12 main_arg13 main_arg14 main_arg15 main_v3 main_v7 main_v11 main_v15 main_v19 main_v23 main_v27 main_v31

def fn {F : FTy → Type} [FloatOps F] (main_arg0 : FVec F S8192x1024 .f32) (main_arg1 : FVec F S8192x1024 .f32) (main_arg2 : FVec F S1x1024 .f32) (main_arg3 : FVec F S1024x6144 .f32) (main_arg4 : FVec F S1x6144 .f32) (main_arg5 : FVec F S1024x2048 .f32) (main_arg6 : FVec F S3x512 .f32) (main_arg7 : FVec F S4x128x128 .f32) (main_arg8 : FVec F S1x512 .f32) (main_arg9 : FVec F S1024x1024 .f32) (main_arg10 : FVec F S1x1024 .f32) (main_arg11 : FVec F S1x1024 .f32) (main_arg12 : FVec F S1024x4096 .f32) (main_arg13 : FVec F S4096x1024 .f32) (main_arg14 : FVec F S1x1024 .f32) (main_arg15 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x6144 .f32 := Host.absf main_arg3
  let main_cst_4 : FVec F S_ .f32 := constant S_ .f32 0x7F800000#32
  let main_v13 : FVec F S1024x6144 .f32 := broadcastInDim S1024x6144 ![] bcast_S_S1024x6144 main_cst_4
  let main_v14 : IVec S1024x6144 1 := cmpf .olt main_v12 main_v13
  let main_c_5 : IVec S_ 1 := constantI S_ 1 1#1
  let main_v15 : IVec S_ 1 := (fun x v => Host.reduce IntOp.andi x v reducesTo_S1024x6144_S_d0_1 h_S_) main_v14 main_c_5
  fn_part1 (F := F) main_arg4 main_arg5 main_arg6 main_arg7 main_arg8 main_arg9 main_arg10 main_arg11 main_arg12 main_arg13 main_arg14 main_arg15 main_v3 main_v7 main_v11 main_v15
-- ==== Pre_slot_in_range.lean ====
abbrev S8x8x1024 : Shape := ⟨3, ![8, 8, 1024]⟩
abbrev S8x8x512 : Shape := ⟨3, ![8, 8, 512]⟩
abbrev S8x4x128x128 : Shape := ⟨4, ![8, 4, 128, 128]⟩
abbrev S8x1024 : Shape := ⟨2, ![8, 1024]⟩
abbrev S1 : Shape := ⟨1, ![1]⟩
abbrev S1x1024x768 : Shape := ⟨3, ![1, 1024, 768]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S8x8x1024 .f32) (main_arg1 : FVec F S8x8x1024 .f32) (main_arg2 : FVec F S8x8x512 .f32) (main_arg3 : FVec F S8x4x128x128 .f32) (main_arg4 : FVec F S8x1024 .f32) (main_arg5 : IVec S1 32) (main_arg6 : FVec F S1x1024x768 .f32) (main_arg7 : FVec F S1x1024x768 .f32) (main_arg8 : FVec F S1x1024x768 .f32) : IVec S_ 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 8#32
  let main_v2 : IVec S1 32 := broadcastInDim S1 ![] bcast_S_S1 main_c_0
  let main_v3 : IVec S1 1 := cmpi .slt main_arg5 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024x4096 : Shape := ⟨2, ![1024, 4096]⟩
abbrev S4096x1024 : Shape := ⟨2, ![4096, 1024]⟩
abbrev S4x1024 : Shape := ⟨2, ![4, 1024]⟩
abbrev S_ : Shape := ⟨0, ![]⟩
abbrev S6x1024 : Shape := ⟨2, ![6, 1024]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8194x128 : Shape := ⟨2, ![8194, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S8192x4096 : Shape := ⟨2, ![8192, 4096]⟩
abbrev S8x1024 : Shape := ⟨2, ![8, 1024]⟩
abbrev S512x1024 : Shape := ⟨2, ![512, 1024]⟩
abbrev S512x4096 : Shape := ⟨2, ![512, 4096]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 181
  | .vmem => 19
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S1x6144, .f32⟩
  | 5 => ⟨S1024x2048, .f32⟩
  | 6 => ⟨S3x512, .f32⟩
  | 7 => ⟨S4x128x128, .f32⟩
  | 8 => ⟨S1x512, .f32⟩
  | 9 => ⟨S1024x1024, .f32⟩
  | 10 => ⟨S1x1024, .f32⟩
  | 11 => ⟨S1x1024, .f32⟩
  | 12 => ⟨S1024x4096, .f32⟩
  | 13 => ⟨S4096x1024, .f32⟩
  | 14 => ⟨S1x1024, .f32⟩
  | 15 => ⟨S1x1024, .f32⟩
  | 16 => ⟨S4x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S1x6144, .f32⟩
  | 27 => ⟨S1x6144, .f32⟩
  | 28 => ⟨S6x1024, .f32⟩
  | 29 => ⟨S1x1024, .f32⟩
  | 30 => ⟨S_, .f32⟩
  | 31 => ⟨S1x1024, .f32⟩
  | 32 => ⟨S1x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x2048, .f32⟩
  | 39 => ⟨S8192x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S2x512, .f32⟩
  | 46 => ⟨S8194x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S1x512, .f32⟩
  | 55 => ⟨S512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S_, .f32⟩
  | 70 => ⟨S8192x512, .f32⟩
  | 71 => ⟨S8192, .f32⟩
  | 72 => ⟨S_, .f32⟩
  | 73 => ⟨S8192, .f32⟩
  | 74 => ⟨S8192, .f32⟩
  | 75 => ⟨S8192x1, .f32⟩
  | 76 => ⟨S8192x128, .f32⟩
  | 77 => ⟨S_, .f32⟩
  | 78 => ⟨S2x128, .f32⟩
  | 79 => ⟨S8194x128, .f32⟩
  | 80 => ⟨S8192x128, .f32⟩
  | 81 => ⟨S8192x128, .f32⟩
  | 82 => ⟨S_, .f32⟩
  | 83 => ⟨S8192x1, .f32⟩
  | 84 => ⟨S8192x1, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S_, .f32⟩
  | 91 => ⟨S4x128, .f32⟩
  | 92 => ⟨S8196x128, .f32⟩
  | 93 => ⟨S8192x128, .f32⟩
  | 94 => ⟨S8192x128, .f32⟩
  | 95 => ⟨S_, .f32⟩
  | 96 => ⟨S8192x1, .f32⟩
  | 97 => ⟨S8192x1, .f32⟩
  | 98 => ⟨S8192x128, .f32⟩
  | 99 => ⟨S8192x128, .f32⟩
  | 100 => ⟨S8192x128, .f32⟩
  | 101 => ⟨S8192x128, .f32⟩
  | 102 => ⟨S8192x128, .f32⟩
  | 103 => ⟨S_, .f32⟩
  | 104 => ⟨S8x128, .f32⟩
  | 105 => ⟨S8200x128, .f32⟩
  | 106 => ⟨S8192x128, .f32⟩
  | 107 => ⟨S8192x128, .f32⟩
  | 108 => ⟨S_, .f32⟩
  | 109 => ⟨S8192x1, .f32⟩
  | 110 => ⟨S8192x1, .f32⟩
  | 111 => ⟨S8192x128, .f32⟩
  | 112 => ⟨S8192x128, .f32⟩
  | 113 => ⟨S8192x128, .f32⟩
  | 114 => ⟨S8192x128, .f32⟩
  | 115 => ⟨S8192x128, .f32⟩
  | 116 => ⟨S_, .f32⟩
  | 117 => ⟨S16x128, .f32⟩
  | 118 => ⟨S8208x128, .f32⟩
  | 119 => ⟨S8192x128, .f32⟩
  | 120 => ⟨S8192x128, .f32⟩
  | 121 => ⟨S_, .f32⟩
  | 122 => ⟨S8192x1, .f32⟩
  | 123 => ⟨S8192x1, .f32⟩
  | 124 => ⟨S8192x128, .f32⟩
  | 125 => ⟨S8192x128, .f32⟩
  | 126 => ⟨S8192x128, .f32⟩
  | 127 => ⟨S8192x128, .f32⟩
  | _ => ⟨S8192x1024, .f32⟩

abbrev hbmTy0_1 (i : Nat) : BufTy := match i % 128 with
  | 0 => ⟨S8192x1x128, .f32⟩
  | 1 => ⟨S8192x1x128, .f32⟩
  | 2 => ⟨S8192x1x128, .f32⟩
  | 3 => ⟨S8192x1x128, .f32⟩
  | 4 => ⟨S8192x4x128, .f32⟩
  | 5 => ⟨S4x128x8192, .f32⟩
  | 6 => ⟨S8192x4x128, .f32⟩
  | 7 => ⟨S8192x512, .f32⟩
  | 8 => ⟨S8192x512, .f32⟩
  | 9 => ⟨S8192x512, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S1x1024, .f32⟩
  | 16 => ⟨S_, .f32⟩
  | 17 => ⟨S1x1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S8192x1024, .f32⟩
  | 45 => ⟨S1024x4096, .bf16⟩
  | 46 => ⟨S4096x1024, .bf16⟩
  | 47 => ⟨S8192x1024, .f32⟩
  | 48 => ⟨S8192x1024, .bf16⟩
  | 49 => ⟨S8192x4096, .bf16⟩
  | 50 => ⟨S8192x4096, .bf16⟩
  | 51 => ⟨S8192x1024, .bf16⟩
  | 52 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S6x1024, .f32⟩
  | .local _ .vmem, ⟨5, _⟩ => ⟨S4x1024, .f32⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call1_call0_cst : Ref sig .tc := ⟨.hbm, 68, rfl⟩
abbrev main_call1_call0_v0 : Ref sig .tc := ⟨.hbm, 69, rfl⟩
abbrev main_v42 : Ref sig .tc := ⟨.hbm, 70, rfl⟩
abbrev main_v43 : Ref sig .tc := ⟨.hbm, 71, rfl⟩
abbrev main_cst_1 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_3 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_5 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_6 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_7 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_9 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_10 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_11 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_12 : Ref sig .tc := ⟨.hbm, 150, rfl⟩
abbrev main_v111 : Ref sig .tc := ⟨.hbm, 151, rfl⟩
abbrev main_v112 : Ref sig .tc := ⟨.hbm, 152, rfl⟩
abbrev main_cst_13 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_14 : Ref sig .tc := ⟨.hbm, 159, rfl⟩
abbrev main_v118 : Ref sig .tc := ⟨.hbm, 160, rfl⟩
abbrev main_v119 : Ref sig .tc := ⟨.hbm, 161, rfl⟩
abbrev main_cst_15 : Ref sig .tc := ⟨.hbm, 162, rfl⟩
abbrev main_v120 : Ref sig .tc := ⟨.hbm, 163, rfl⟩
abbrev main_v121 : Ref sig .tc := ⟨.hbm, 164, rfl⟩
abbrev main_cst_16 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131_0 : Ref sig .tc := ⟨.hbm, 175, rfl⟩
abbrev main_v131_1 : Ref sig .tc := ⟨.hbm, 176, rfl⟩
abbrev main_v131_2 : Ref sig .tc := ⟨.hbm, 177, rfl⟩
abbrev main_v131_3 : Ref sig .tc := ⟨.hbm, 178, rfl⟩
abbrev main_v131_4 : Ref sig .tc := ⟨.hbm, 179, rfl⟩
abbrev main_v131_5 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S6x1024 : Shape := ⟨2, ![6, 1024]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8194x128 : Shape := ⟨2, ![8194, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S8192x4096 : Shape := ⟨2, ![8192, 4096]⟩
abbrev S1024 : Shape := ⟨1, ![1024]⟩
abbrev S2x1024 : Shape := ⟨2, ![2, 1024]⟩
abbrev S8x1024 : Shape := ⟨2, ![8, 1024]⟩

abbrev nBuf : Space → Nat
  | .hbm => 345
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S1x6144, .f32⟩
  | 5 => ⟨S1024x2048, .f32⟩
  | 6 => ⟨S3x512, .f32⟩
  | 7 => ⟨S4x128x128, .f32⟩
  | 8 => ⟨S1x512, .f32⟩
  | 9 => ⟨S1024x1024, .f32⟩
  | 10 => ⟨S1x1024, .f32⟩
  | 11 => ⟨S1x1024, .f32⟩
  | 12 => ⟨S1024x4096, .f32⟩
  | 13 => ⟨S4096x1024, .f32⟩
  | 14 => ⟨S1x1024, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S1x6144, .f32⟩
  | 26 => ⟨S1x6144, .f32⟩
  | 27 => ⟨S6x1024, .f32⟩
  | 28 => ⟨S1x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x2048, .f32⟩
  | 38 => ⟨S8192x512, .f32⟩
  | 39 => ⟨S8192x512, .f32⟩
  | 40 => ⟨S8192x512, .f32⟩
  | 41 => ⟨S8192x512, .f32⟩
  | 42 => ⟨S8192x512, .f32⟩
  | 43 => ⟨S_, .f32⟩
  | 44 => ⟨S2x512, .f32⟩
  | 45 => ⟨S8194x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S_, .f32⟩
  | 69 => ⟨S8192x512, .f32⟩
  | 70 => ⟨S8192, .f32⟩
  | 71 => ⟨S_, .f32⟩
  | 72 => ⟨S8192, .f32⟩
  | 73 => ⟨S8192, .f32⟩
  | 74 => ⟨S8192x1, .f32⟩
  | 75 => ⟨S8192x128, .f32⟩
  | 76 => ⟨S_, .f32⟩
  | 77 => ⟨S2x128, .f32⟩
  | 78 => ⟨S8194x128, .f32⟩
  | 79 => ⟨S8192x128, .f32⟩
  | 80 => ⟨S8192x128, .f32⟩
  | 81 => ⟨S_, .f32⟩
  | 82 => ⟨S8192x1, .f32⟩
  | 83 => ⟨S8192x1, .f32⟩
  | 84 => ⟨S8192x128, .f32⟩
  | 85 => ⟨S8192x128, .f32⟩
  | 86 => ⟨S8192x128, .f32⟩
  | 87 => ⟨S8192x128, .f32⟩
  | 88 => ⟨S8192x128, .f32⟩
  | 89 => ⟨S_, .f32⟩
  | 90 => ⟨S4x128, .f32⟩
  | 91 => ⟨S8196x128, .f32⟩
  | 92 => ⟨S8192x128, .f32⟩
  | 93 => ⟨S8192x128, .f32⟩
  | 94 => ⟨S_, .f32⟩
  | 95 => ⟨S8192x1, .f32⟩
  | 96 => ⟨S8192x1, .f32⟩
  | 97 => ⟨S8192x128, .f32⟩
  | 98 => ⟨S8192x128, .f32⟩
  | 99 => ⟨S8192x128, .f32⟩
  | 100 => ⟨S8192x128, .f32⟩
  | 101 => ⟨S8192x128, .f32⟩
  | 102 => ⟨S_, .f32⟩
  | 103 => ⟨S8x128, .f32⟩
  | 104 => ⟨S8200x128, .f32⟩
  | 105 => ⟨S8192x128, .f32⟩
  | 106 => ⟨S8192x128, .f32⟩
  | 107 => ⟨S_, .f32⟩
  | 108 => ⟨S8192x1, .f32⟩
  | 109 => ⟨S8192x1, .f32⟩
  | 110 => ⟨S8192x128, .f32⟩
  | 111 => ⟨S8192x128, .f32⟩
  | 112 => ⟨S8192x128, .f32⟩
  | 113 => ⟨S8192x128, .f32⟩
  | 114 => ⟨S8192x128, .f32⟩
  | 115 => ⟨S_, .f32⟩
  | 116 => ⟨S16x128, .f32⟩
  | 117 => ⟨S8208x128, .f32⟩
  | 118 => ⟨S8192x128, .f32⟩
  | 119 => ⟨S8192x128, .f32⟩
  | 120 => ⟨S_, .f32⟩
  | 121 => ⟨S8192x1, .f32⟩
  | 122 => ⟨S8192x1, .f32⟩
  | 123 => ⟨S8192x128, .f32⟩
  | 124 => ⟨S8192x128, .f32⟩
  | 125 => ⟨S8192x128, .f32⟩
  | 126 => ⟨S8192x128, .f32⟩
  | 127 => ⟨S8192x1x128, .f32⟩
  | _ => ⟨S8192x1024, .f32⟩

abbrev hbmTy0_1 (i : Nat) : BufTy := match i % 128 with
  | 0 => ⟨S8192x1x128, .f32⟩
  | 1 => ⟨S8192x1x128, .f32⟩
  | 2 => ⟨S8192x1x128, .f32⟩
  | 3 => ⟨S8192x4x128, .f32⟩
  | 4 => ⟨S4x128x8192, .f32⟩
  | 5 => ⟨S8192x4x128, .f32⟩
  | 6 => ⟨S8192x512, .f32⟩
  | 7 => ⟨S8192x512, .f32⟩
  | 8 => ⟨S8192x512, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S1x1024, .f32⟩
  | 15 => ⟨S_, .f32⟩
  | 16 => ⟨S1x1024, .f32⟩
  | 17 => ⟨S1x1024, .f32⟩
  | 18 => ⟨S8192x1024, .f32⟩
  | 19 => ⟨S8192x1024, .f32⟩
  | 20 => ⟨S8192x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S_, .f32⟩
  | 39 => ⟨S8192x1, .f32⟩
  | 40 => ⟨S8192x1, .f32⟩
  | 41 => ⟨S8192x1, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S1x1024, .f32⟩
  | 49 => ⟨S1x1024, .f32⟩
  | 50 => ⟨S1x1024, .f32⟩
  | 51 => ⟨S_, .f32⟩
  | 52 => ⟨S8192x4096, .f32⟩
  | 53 => ⟨S_, .f32⟩
  | 54 => ⟨S8192x1024, .f32⟩
  | 55 => ⟨S_, .f32⟩
  | 56 => ⟨S1x1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S8192x4096, .f32⟩
  | 63 => ⟨S8192x4096, .f32⟩
  | 64 => ⟨S_, .f32⟩
  | 65 => ⟨S8192x4096, .f32⟩
  | 66 => ⟨S8192x4096, .f32⟩
  | 67 => ⟨S_, .f32⟩
  | 68 => ⟨S8192x4096, .f32⟩
  | 69 => ⟨S8192x4096, .i1⟩
  | 70 => ⟨S_, .f32⟩
  | 71 => ⟨S8192x4096, .f32⟩
  | 72 => ⟨S8192x4096, .f32⟩
  | 73 => ⟨S_, .f32⟩
  | 74 => ⟨S8192x4096, .f32⟩
  | 75 => ⟨S8192x4096, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S1x1024, .f32⟩
  | 83 => ⟨S1x1024, .f32⟩
  | 84 => ⟨S8192x1024, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x1024, .f32⟩
  | 106 => ⟨S8192x1024, .f32⟩
  | 107 => ⟨S_, .f32⟩
  | 108 => ⟨S8192x1, .f32⟩
  | 109 => ⟨S8192x1, .f32⟩
  | 110 => ⟨S8192x1, .f32⟩
  | 111 => ⟨S8192x1, .f32⟩
  | 112 => ⟨S_, .f32⟩
  | 113 => ⟨S8192x1, .f32⟩
  | 114 => ⟨S8192x1, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S_, .f32⟩
  | 127 => ⟨S8192, .f32⟩
  | _ => ⟨S8192x1024, .f32⟩

abbrev hbmTy0_2 (i : Nat) : BufTy := match i % 128 with
  | 0 => ⟨S_, .f32⟩
  | 1 => ⟨S8192, .f32⟩
  | 2 => ⟨S8192, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S8192, .f32⟩
  | 11 => ⟨S_, .f32⟩
  | 12 => ⟨S8192, .f32⟩
  | 13 => ⟨S8192, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S_, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S_, .f32⟩
  | 27 => ⟨S8192, .f32⟩
  | 28 => ⟨S8192x1, .f32⟩
  | 29 => ⟨S8192x1024, .f32⟩
  | 30 => ⟨S8192x1024, .f32⟩
  | 31 => ⟨S8192x1, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S_, .f32⟩
  | 63 => ⟨S8192x1024, .f32⟩
  | 64 => ⟨S8192x1024, .f32⟩
  | 65 => ⟨S8192x4096, .f32⟩
  | 66 => ⟨S8192x4096, .f32⟩
  | 67 => ⟨S_, .f32⟩
  | 68 => ⟨S8192x4096, .f32⟩
  | 69 => ⟨S8192x4096, .f32⟩
  | 70 => ⟨S8192x1024, .f32⟩
  | 71 => ⟨S_, .f32⟩
  | 72 => ⟨S1024, .f32⟩
  | 73 => ⟨S1x1024, .f32⟩
  | 74 => ⟨S8192x1024, .f32⟩
  | 75 => ⟨S_, .f32⟩
  | 76 => ⟨S1024, .f32⟩
  | 77 => ⟨S1x1024, .f32⟩
  | 78 => ⟨S8192x1024, .f32⟩
  | 79 => ⟨S8192x1024, .f32⟩
  | 80 => ⟨S8192x1024, .f32⟩
  | 81 => ⟨S1x1024, .f32⟩
  | 82 => ⟨S_, .f32⟩
  | 83 => ⟨S2x1024, .f32⟩
  | 84 => ⟨S8x1024, .f32⟩
  | 85 => ⟨S8192x1024, .bf16⟩
  | 86 => ⟨S8192x4096, .bf16⟩
  | 87 => ⟨S8192x4096, .bf16⟩
  | 88 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call1_call0_cst : Ref sig .tc := ⟨.hbm, 67, rfl⟩
abbrev main_call1_call0_v0 : Ref sig .tc := ⟨.hbm, 68, rfl⟩
abbrev main_v41 : Ref sig .tc := ⟨.hbm, 69, rfl⟩
abbrev main_v42 : Ref sig .tc := ⟨.hbm, 70, rfl⟩
abbrev main_cst_1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_3 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_4 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_6 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_7 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_8 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_9 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_10 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_11 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_12 : Ref sig .tc := ⟨.hbm, 149, rfl⟩
abbrev main_v110 : Ref sig .tc := ⟨.hbm, 150, rfl⟩
abbrev main_v111 : Ref sig .tc := ⟨.hbm, 151, rfl⟩
abbrev main_cst_13 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_14 : Ref sig .tc := ⟨.hbm, 158, rfl⟩
abbrev main_v117 : Ref sig .tc := ⟨.hbm, 159, rfl⟩
abbrev main_v118 : Ref sig .tc := ⟨.hbm, 160, rfl⟩
abbrev main_cst_15 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_16 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_17 : Ref sig .tc := ⟨.hbm, 179, rfl⟩
abbrev main_v135 : Ref sig .tc := ⟨.hbm, 180, rfl⟩
abbrev main_cst_18 : Ref sig .tc := ⟨.hbm, 181, rfl⟩
abbrev main_v136 : Ref sig .tc := ⟨.hbm, 182, rfl⟩
abbrev main_cst_19 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_call2_cst : Ref sig .tc := ⟨.hbm, 192, rfl⟩
abbrev main_call2_v0 : Ref sig .tc := ⟨.hbm, 193, rfl⟩
abbrev main_v145 : Ref sig .tc := ⟨.hbm, 194, rfl⟩
abbrev main_cst_20 : Ref sig .tc := ⟨.hbm, 195, rfl⟩
abbrev main_v146 : Ref sig .tc := ⟨.hbm, 196, rfl⟩
abbrev main_v147 : Ref sig .tc := ⟨.hbm, 197, rfl⟩
abbrev main_cst_21 : Ref sig .tc := ⟨.hbm, 198, rfl⟩
abbrev main_v148 : Ref sig .tc := ⟨.hbm, 199, rfl⟩
abbrev main_v149 : Ref sig .tc := ⟨.hbm, 200, rfl⟩
abbrev main_cst_22 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_23 : Ref sig .tc := ⟨.hbm, 206, rfl⟩
abbrev main_v154 : Ref sig .tc := ⟨.hbm, 207, rfl⟩
abbrev main_v155 : Ref sig .tc := ⟨.hbm, 208, rfl⟩
abbrev main_cst_24 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_25 : Ref sig .tc := ⟨.hbm, 215, rfl⟩
abbrev main_v161 : Ref sig .tc := ⟨.hbm, 216, rfl⟩
abbrev main_v162 : Ref sig .tc := ⟨.hbm, 217, rfl⟩
abbrev main_cst_26 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_27 : Ref sig .tc := ⟨.hbm, 224, rfl⟩
abbrev main_v168 : Ref sig .tc := ⟨.hbm, 225, rfl⟩
abbrev main_v169 : Ref sig .tc := ⟨.hbm, 226, rfl⟩
abbrev main_cst_28 : Ref sig .tc := ⟨.hbm, 227, rfl⟩
abbrev main_v170 : Ref sig .tc := ⟨.hbm, 228, rfl⟩
abbrev main_v171 : Ref sig .tc := ⟨.hbm, 229, rfl⟩
abbrev main_cst_29 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_30 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_31 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_32 : Ref sig .tc := ⟨.hbm, 251, rfl⟩
abbrev main_v190 : Ref sig .tc := ⟨.hbm, 252, rfl⟩
abbrev main_v191 : Ref sig .tc := ⟨.hbm, 253, rfl⟩
abbrev main_cst_33 : Ref sig .tc := ⟨.hbm, 254, rfl⟩
abbrev main_v192 : Ref sig .tc := ⟨.hbm, 255, rfl⟩
abbrev main_cst_34 : Ref sig .tc := ⟨.hbm, 256, rfl⟩
abbrev main_v193 : Ref sig .tc := ⟨.hbm, 257, rfl⟩
abbrev main_v194 : Ref sig .tc := ⟨.hbm, 258, rfl⟩
abbrev main_cst_35 : Ref sig .tc := ⟨.hbm, 259, rfl⟩
abbrev main_v195 : Ref sig .tc := ⟨.hbm, 260, rfl⟩
abbrev main_cst_36 : Ref sig .tc := ⟨.hbm, 261, rfl⟩
abbrev main_v196 : Ref sig .tc := ⟨.hbm, 262, rfl⟩
abbrev main_cst_37 : Ref sig .tc := ⟨.hbm, 263, rfl⟩
abbrev main_cst_38 : Ref sig .tc := ⟨.hbm, 264, rfl⟩
abbrev main_v197 : Ref sig .tc := ⟨.hbm, 265, rfl⟩
abbrev main_v198 : Ref sig .tc := ⟨.hbm, 266, rfl⟩
abbrev main_cst_39 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_40 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_cst_41 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_cst_42 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_cst_43 : Ref sig .tc := ⟨.hbm, 289, rfl⟩
abbrev main_v217 : Ref sig .tc := ⟨.hbm, 290, rfl⟩
abbrev main_v218 : Ref sig .tc := ⟨.hbm, 291, rfl⟩
abbrev main_cst_44 : Ref sig .tc := ⟨.hbm, 292, rfl⟩
abbrev main_v219 : Ref sig .tc := ⟨.hbm, 293, rfl⟩
abbrev main_v220 : Ref sig .tc := ⟨.hbm, 294, rfl⟩
abbrev main_cst_45 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_cst_46 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_47 : Ref sig .tc := ⟨.hbm, 305, rfl⟩
abbrev main_v229 : Ref sig .tc := ⟨.hbm, 306, rfl⟩
abbrev main_v230 : Ref sig .tc := ⟨.hbm, 307, rfl⟩
abbrev main_cst_48 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_cst_49 : Ref sig .tc := ⟨.hbm, 315, rfl⟩
abbrev main_v237 : Ref sig .tc := ⟨.hbm, 316, rfl⟩
abbrev main_v238 : Ref sig .tc := ⟨.hbm, 317, rfl⟩
abbrev main_cst_50 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_cst_51 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_cst_52 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_cst_53 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_cst_54 : Ref sig .tc := ⟨.hbm, 338, rfl⟩
abbrev main_v255 : Ref sig .tc := ⟨.hbm, 339, rfl⟩
abbrev main_v256 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S4x1024 : Shape := ⟨2, ![4, 1024]⟩
abbrev S_ : Shape := ⟨0, ![]⟩
abbrev S6x1024 : Shape := ⟨2, ![6, 1024]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8194x128 : Shape := ⟨2, ![8194, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S8x1024 : Shape := ⟨2, ![8, 1024]⟩
abbrev S8x512 : Shape := ⟨2, ![8, 512]⟩
abbrev S512x1024 : Shape := ⟨2, ![512, 1024]⟩
abbrev S512x1 : Shape := ⟨2, ![512, 1]⟩
abbrev S512x2048 : Shape := ⟨2, ![512, 2048]⟩
abbrev S16x2048 : Shape := ⟨2, ![16, 2048]⟩
abbrev S528x512 : Shape := ⟨2, ![528, 512]⟩
abbrev S16x512 : Shape := ⟨2, ![16, 512]⟩
abbrev S1024 : Shape := ⟨1, ![1024]⟩
abbrev S512x512 : Shape := ⟨2, ![512, 512]⟩
abbrev S512x128 : Shape := ⟨2, ![512, 128]⟩
abbrev S528x384 : Shape := ⟨2, ![528, 384]⟩
abbrev S528x256 : Shape := ⟨2, ![528, 256]⟩
abbrev S528x128 : Shape := ⟨2, ![528, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩

abbrev nBuf : Space → Nat
  | .hbm => 181
  | .vmem => 36
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S1x6144, .f32⟩
  | 5 => ⟨S1024x2048, .f32⟩
  | 6 => ⟨S3x512, .f32⟩
  | 7 => ⟨S4x128x128, .f32⟩
  | 8 => ⟨S1x512, .f32⟩
  | 9 => ⟨S1024x1024, .f32⟩
  | 10 => ⟨S1x1024, .f32⟩
  | 11 => ⟨S1x1024, .f32⟩
  | 12 => ⟨S1x1024, .f32⟩
  | 13 => ⟨S1x1024, .f32⟩
  | 14 => ⟨S4x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S1x6144, .f32⟩
  | 25 => ⟨S1x6144, .f32⟩
  | 26 => ⟨S6x1024, .f32⟩
  | 27 => ⟨S1x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x2048, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S_, .f32⟩
  | 43 => ⟨S2x512, .f32⟩
  | 44 => ⟨S8194x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S_, .f32⟩
  | 67 => ⟨S_, .f32⟩
  | 68 => ⟨S8192x512, .f32⟩
  | 69 => ⟨S8192, .f32⟩
  | 70 => ⟨S_, .f32⟩
  | 71 => ⟨S8192, .f32⟩
  | 72 => ⟨S8192, .f32⟩
  | 73 => ⟨S8192x1, .f32⟩
  | 74 => ⟨S8192x128, .f32⟩
  | 75 => ⟨S_, .f32⟩
  | 76 => ⟨S2x128, .f32⟩
  | 77 => ⟨S8194x128, .f32⟩
  | 78 => ⟨S8192x128, .f32⟩
  | 79 => ⟨S8192x128, .f32⟩
  | 80 => ⟨S_, .f32⟩
  | 81 => ⟨S8192x1, .f32⟩
  | 82 => ⟨S8192x1, .f32⟩
  | 83 => ⟨S8192x128, .f32⟩
  | 84 => ⟨S8192x128, .f32⟩
  | 85 => ⟨S8192x128, .f32⟩
  | 86 => ⟨S8192x128, .f32⟩
  | 87 => ⟨S8192x128, .f32⟩
  | 88 => ⟨S_, .f32⟩
  | 89 => ⟨S4x128, .f32⟩
  | 90 => ⟨S8196x128, .f32⟩
  | 91 => ⟨S8192x128, .f32⟩
  | 92 => ⟨S8192x128, .f32⟩
  | 93 => ⟨S_, .f32⟩
  | 94 => ⟨S8192x1, .f32⟩
  | 95 => ⟨S8192x1, .f32⟩
  | 96 => ⟨S8192x128, .f32⟩
  | 97 => ⟨S8192x128, .f32⟩
  | 98 => ⟨S8192x128, .f32⟩
  | 99 => ⟨S8192x128, .f32⟩
  | 100 => ⟨S8192x128, .f32⟩
  | 101 => ⟨S_, .f32⟩
  | 102 => ⟨S8x128, .f32⟩
  | 103 => ⟨S8200x128, .f32⟩
  | 104 => ⟨S8192x128, .f32⟩
  | 105 => ⟨S8192x128, .f32⟩
  | 106 => ⟨S_, .f32⟩
  | 107 => ⟨S8192x1, .f32⟩
  | 108 => ⟨S8192x1, .f32⟩
  | 109 => ⟨S8192x128, .f32⟩
  | 110 => ⟨S8192x128, .f32⟩
  | 111 => ⟨S8192x128, .f32⟩
  | 112 => ⟨S8192x128, .f32⟩
  | 113 => ⟨S8192x128, .f32⟩
  | 114 => ⟨S_, .f32⟩
  | 115 => ⟨S16x128, .f32⟩
  | 116 => ⟨S8208x128, .f32⟩
  | 117 => ⟨S8192x128, .f32⟩
  | 118 => ⟨S8192x128, .f32⟩
  | 119 => ⟨S_, .f32⟩
  | 120 => ⟨S8192x1, .f32⟩
  | 121 => ⟨S8192x1, .f32⟩
  | 122 => ⟨S8192x128, .f32⟩
  | 123 => ⟨S8192x128, .f32⟩
  | 124 => ⟨S8192x128, .f32⟩
  | 125 => ⟨S8192x128, .f32⟩
  | 126 => ⟨S8192x1x128, .f32⟩
  | 127 => ⟨S8192x1x128, .f32⟩
  | _ => ⟨S8192x1024, .f32⟩

abbrev hbmTy0_1 (i : Nat) : BufTy := match i % 128 with
  | 0 => ⟨S8192x1x128, .f32⟩
  | 1 => ⟨S8192x1x128, .f32⟩
  | 2 => ⟨S8192x4x128, .f32⟩
  | 3 => ⟨S4x128x8192, .f32⟩
  | 4 => ⟨S8192x4x128, .f32⟩
  | 5 => ⟨S8192x512, .f32⟩
  | 6 => ⟨S8192x512, .f32⟩
  | 7 => ⟨S8192x512, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S1x1024, .f32⟩
  | 14 => ⟨S_, .f32⟩
  | 15 => ⟨S1x1024, .f32⟩
  | 16 => ⟨S1x1024, .f32⟩
  | 17 => ⟨S8192x1024, .f32⟩
  | 18 => ⟨S8192x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S8192x1024, .f32⟩
  | 43 => ⟨S8192x2048, .bf16⟩
  | 44 => ⟨S1024x1024, .bf16⟩
  | 45 => ⟨S1024x2048, .bf16⟩
  | 46 => ⟨S8192x1024, .f32⟩
  | 47 => ⟨S8192x1024, .bf16⟩
  | 48 => ⟨S8192x1024, .bf16⟩
  | 49 => ⟨S8192x2048, .bf16⟩
  | 50 => ⟨S8x1024, .f32⟩
  | 51 => ⟨S8x512, .f32⟩
  | 52 => ⟨S4x128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S16x2048, .bf16⟩
  | .local _ .vmem, ⟨13, _⟩ => ⟨S16x2048, .bf16⟩
  | .local _ .vmem, ⟨14, _⟩ => ⟨S6x1024, .f32⟩
  | .local _ .vmem, ⟨15, _⟩ => ⟨S4x1024, .f32⟩
  | .local _ .vmem, ⟨16, _⟩ => ⟨S1024x1024, .bf16⟩
  | .local _ .vmem, ⟨17, _⟩ => ⟨S1024x2048, .bf16⟩
  | .local _ .vmem, ⟨18, _⟩ => ⟨S3x512, .f32⟩
  | .local _ .vmem, ⟨19, _⟩ => ⟨S4x128x128, .f32⟩
  | .local _ .vmem, ⟨20, _⟩ => ⟨S1x512, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | .local _ .vmem, ⟨29, _⟩ => ⟨S8x1024, .f32⟩
  | .local _ .vmem, ⟨30, _⟩ => ⟨S8x512, .f32⟩
  | .local _ .vmem, ⟨31, _⟩ => ⟨S4x128x128, .f32⟩
  | .local _ .vmem, ⟨32, _⟩ => ⟨S528x512, .f32⟩
  | .local _ .vmem, ⟨33, _⟩ => ⟨S528x512, .f32⟩
  | .local _ .vmem, ⟨34, _⟩ => ⟨S528x512, .f32⟩
  | .local _ .vmem, ⟨35, _⟩ => ⟨S528x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_call0_cst : Ref sig .tc := ⟨.hbm, 66, rfl⟩
abbrev main_call1_call0_v0 : Ref sig .tc := ⟨.hbm, 67, rfl⟩
abbrev main_v42 : Ref sig .tc := ⟨.hbm, 68, rfl⟩
abbrev main_v43 : Ref sig .tc := ⟨.hbm, 69, rfl⟩
abbrev main_cst_1 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_3 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_4 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_5 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_6 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_8 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_9 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_10 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_11 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_12 : Ref sig .tc := ⟨.hbm, 148, rfl⟩
abbrev main_v111 : Ref sig .tc := ⟨.hbm, 149, rfl⟩
abbrev main_v112 : Ref sig .tc := ⟨.hbm, 150, rfl⟩
abbrev main_cst_13 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_14 : Ref sig .tc := ⟨.hbm, 157, rfl⟩
abbrev main_v118 : Ref sig .tc := ⟨.hbm, 158, rfl⟩
abbrev main_v119 : Ref sig .tc := ⟨.hbm, 159, rfl⟩
abbrev main_cst_15 : Ref sig .tc := ⟨.hbm, 160, rfl⟩
abbrev main_v120 : Ref sig .tc := ⟨.hbm, 161, rfl⟩
abbrev main_v121 : Ref sig .tc := ⟨.hbm, 162, rfl⟩
abbrev main_cst_16 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132_0 : Ref sig .tc := ⟨.hbm, 174, rfl⟩
abbrev main_v132_1 : Ref sig .tc := ⟨.hbm, 175, rfl⟩
abbrev main_v132_2 : Ref sig .tc := ⟨.hbm, 176, rfl⟩
abbrev main_v132_3 : Ref sig .tc := ⟨.hbm, 177, rfl⟩
abbrev main_v132_4 : Ref sig .tc := ⟨.hbm, 178, rfl⟩
abbrev main_v132_5 : Ref sig .tc := ⟨.hbm, 179, rfl⟩
abbrev main_v132_6 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S6x1024 : Shape := ⟨2, ![6, 1024]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8194x128 : Shape := ⟨2, ![8194, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S1024 : Shape := ⟨1, ![1024]⟩
abbrev S4x8192x128 : Shape := ⟨3, ![4, 8192, 128]⟩
abbrev S3x1024 : Shape := ⟨2, ![3, 1024]⟩
abbrev S8x1024 : Shape := ⟨2, ![8, 1024]⟩
abbrev S4x512 : Shape := ⟨2, ![4, 512]⟩
abbrev S8x512 : Shape := ⟨2, ![8, 512]⟩

abbrev nBuf : Space → Nat
  | .hbm => 402
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S1x6144, .f32⟩
  | 5 => ⟨S1024x2048, .f32⟩
  | 6 => ⟨S3x512, .f32⟩
  | 7 => ⟨S4x128x128, .f32⟩
  | 8 => ⟨S1x512, .f32⟩
  | 9 => ⟨S1024x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S1x6144, .f32⟩
  | 24 => ⟨S1x6144, .f32⟩
  | 25 => ⟨S6x1024, .f32⟩
  | 26 => ⟨S1x1024, .f32⟩
  | 27 => ⟨S1x1024, .f32⟩
  | 28 => ⟨S1x1024, .f32⟩
  | 29 => ⟨S_, .f32⟩
  | 30 => ⟨S8192x2048, .f32⟩
  | 31 => ⟨S_, .f32⟩
  | 32 => ⟨S8192x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S8192x2048, .f32⟩
  | 41 => ⟨S8192x2048, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S2x512, .f32⟩
  | 49 => ⟨S8194x512, .f32⟩
  | 50 => ⟨S_, .f32⟩
  | 51 => ⟨S2x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S_, .f32⟩
  | 74 => ⟨S_, .f32⟩
  | 75 => ⟨S8192x512, .f32⟩
  | 76 => ⟨S8192, .f32⟩
  | 77 => ⟨S_, .f32⟩
  | 78 => ⟨S8192, .f32⟩
  | 79 => ⟨S8192, .f32⟩
  | 80 => ⟨S8192x1, .f32⟩
  | 81 => ⟨S8192x128, .f32⟩
  | 82 => ⟨S_, .f32⟩
  | 83 => ⟨S2x128, .f32⟩
  | 84 => ⟨S8194x128, .f32⟩
  | 85 => ⟨S_, .f32⟩
  | 86 => ⟨S2x128, .f32⟩
  | 87 => ⟨S8192x128, .f32⟩
  | 88 => ⟨S8192x128, .f32⟩
  | 89 => ⟨S_, .f32⟩
  | 90 => ⟨S8192x1, .f32⟩
  | 91 => ⟨S8192x1, .f32⟩
  | 92 => ⟨S8192x128, .f32⟩
  | 93 => ⟨S8192x128, .f32⟩
  | 94 => ⟨S8192x128, .f32⟩
  | 95 => ⟨S8192x128, .f32⟩
  | 96 => ⟨S8192x128, .f32⟩
  | 97 => ⟨S_, .f32⟩
  | 98 => ⟨S4x128, .f32⟩
  | 99 => ⟨S8196x128, .f32⟩
  | 100 => ⟨S_, .f32⟩
  | 101 => ⟨S4x128, .f32⟩
  | 102 => ⟨S8192x128, .f32⟩
  | 103 => ⟨S8192x128, .f32⟩
  | 104 => ⟨S_, .f32⟩
  | 105 => ⟨S8192x1, .f32⟩
  | 106 => ⟨S8192x1, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S_, .f32⟩
  | 113 => ⟨S8x128, .f32⟩
  | 114 => ⟨S8200x128, .f32⟩
  | 115 => ⟨S_, .f32⟩
  | 116 => ⟨S8x128, .f32⟩
  | 117 => ⟨S8192x128, .f32⟩
  | 118 => ⟨S8192x128, .f32⟩
  | 119 => ⟨S_, .f32⟩
  | 120 => ⟨S8192x1, .f32⟩
  | 121 => ⟨S8192x1, .f32⟩
  | 122 => ⟨S8192x128, .f32⟩
  | 123 => ⟨S8192x128, .f32⟩
  | 124 => ⟨S8192x128, .f32⟩
  | 125 => ⟨S8192x128, .f32⟩
  | 126 => ⟨S8192x128, .f32⟩
  | 127 => ⟨S_, .f32⟩
  | _ => ⟨S8192x1024, .f32⟩

abbrev hbmTy0_1 (i : Nat) : BufTy := match i % 128 with
  | 0 => ⟨S16x128, .f32⟩
  | 1 => ⟨S8208x128, .f32⟩
  | 2 => ⟨S_, .f32⟩
  | 3 => ⟨S16x128, .f32⟩
  | 4 => ⟨S8192x128, .f32⟩
  | 5 => ⟨S8192x128, .f32⟩
  | 6 => ⟨S_, .f32⟩
  | 7 => ⟨S8192x1, .f32⟩
  | 8 => ⟨S8192x1, .f32⟩
  | 9 => ⟨S8192x128, .f32⟩
  | 10 => ⟨S8192x128, .f32⟩
  | 11 => ⟨S8192x128, .f32⟩
  | 12 => ⟨S8192x128, .f32⟩
  | 13 => ⟨S8192x1x128, .f32⟩
  | 14 => ⟨S8192x1x128, .f32⟩
  | 15 => ⟨S8192x1x128, .f32⟩
  | 16 => ⟨S8192x1x128, .f32⟩
  | 17 => ⟨S8192x4x128, .f32⟩
  | 18 => ⟨S4x128x8192, .f32⟩
  | 19 => ⟨S8192x4x128, .f32⟩
  | 20 => ⟨S8192x512, .f32⟩
  | 21 => ⟨S8192x512, .f32⟩
  | 22 => ⟨S8192x512, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S_, .f32⟩
  | 75 => ⟨S1024, .f32⟩
  | 76 => ⟨S1x1024, .f32⟩
  | 77 => ⟨S8192x1024, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S8192x1024, .f32⟩
  | 84 => ⟨S8192x1024, .f32⟩
  | 85 => ⟨S8192x1, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S1024, .f32⟩
  | 115 => ⟨S1x1024, .f32⟩
  | 116 => ⟨S_, .f32⟩
  | 117 => ⟨S8192x1024, .f32⟩
  | 118 => ⟨S8192x1024, .f32⟩
  | 119 => ⟨S8192x1024, .f32⟩
  | 120 => ⟨S8192x512, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x4x128, .f32⟩
  | 1 => ⟨S4x128x8192, .f32⟩
  | 2 => ⟨S4x8192x128, .f32⟩
  | 3 => ⟨S8192x4x128, .f32⟩
  | 4 => ⟨S4x128x128, .f32⟩
  | 5 => ⟨S4x128x128, .f32⟩
  | 6 => ⟨S8192x1x128, .f32⟩
  | 7 => ⟨S8192x128, .f32⟩
  | 8 => ⟨S8192x1x128, .f32⟩
  | 9 => ⟨S8192x128, .f32⟩
  | 10 => ⟨S8192x1x128, .f32⟩
  | 11 => ⟨S8192x128, .f32⟩
  | 12 => ⟨S8192x1x128, .f32⟩
  | 13 => ⟨S8192x128, .f32⟩
  | 14 => ⟨S8192x128, .f32⟩
  | 15 => ⟨S_, .f32⟩
  | 16 => ⟨S8192x512, .f32⟩
  | 17 => ⟨S8192x128, .f32⟩
  | 18 => ⟨S8192x128, .f32⟩
  | 19 => ⟨S8192x128, .f32⟩
  | 20 => ⟨S_, .f32⟩
  | 21 => ⟨S8208x128, .f32⟩
  | 22 => ⟨S16x128, .f32⟩
  | 23 => ⟨S8192x128, .f32⟩
  | 24 => ⟨S8192x128, .f32⟩
  | 25 => ⟨S_, .f32⟩
  | 26 => ⟨S8192x512, .f32⟩
  | 27 => ⟨S8192x128, .f32⟩
  | 28 => ⟨S_, .f32⟩
  | 29 => ⟨S8192x512, .f32⟩
  | 30 => ⟨S8192x512, .f32⟩
  | 31 => ⟨S8192x128, .f32⟩
  | 32 => ⟨S8192x128, .f32⟩
  | 33 => ⟨S8192x128, .f32⟩
  | 34 => ⟨S_, .f32⟩
  | 35 => ⟨S8200x128, .f32⟩
  | 36 => ⟨S8x128, .f32⟩
  | 37 => ⟨S8192x128, .f32⟩
  | 38 => ⟨S8192x128, .f32⟩
  | 39 => ⟨S_, .f32⟩
  | 40 => ⟨S8192x512, .f32⟩
  | 41 => ⟨S8192x512, .f32⟩
  | 42 => ⟨S8192x128, .f32⟩
  | 43 => ⟨S_, .f32⟩
  | 44 => ⟨S8192x512, .f32⟩
  | 45 => ⟨S8192x512, .f32⟩
  | 46 => ⟨S8192x128, .f32⟩
  | 47 => ⟨S8192x128, .f32⟩
  | 48 => ⟨S8192x128, .f32⟩
  | 49 => ⟨S_, .f32⟩
  | 50 => ⟨S8196x128, .f32⟩
  | 51 => ⟨S4x128, .f32⟩
  | 52 => ⟨S8192x128, .f32⟩
  | 53 => ⟨S8192x128, .f32⟩
  | 54 => ⟨S_, .f32⟩
  | 55 => ⟨S8192x512, .f32⟩
  | 56 => ⟨S8192x512, .f32⟩
  | 57 => ⟨S8192x128, .f32⟩
  | 58 => ⟨S_, .f32⟩
  | 59 => ⟨S8192x512, .f32⟩
  | 60 => ⟨S8192x512, .f32⟩
  | 61 => ⟨S8192x128, .f32⟩
  | 62 => ⟨S8192x128, .f32⟩
  | 63 => ⟨S8192x128, .f32⟩
  | 64 => ⟨S_, .f32⟩
  | 65 => ⟨S8194x128, .f32⟩
  | 66 => ⟨S2x128, .f32⟩
  | 67 => ⟨S8192x128, .f32⟩
  | 68 => ⟨S8192x128, .f32⟩
  | 69 => ⟨S_, .f32⟩
  | 70 => ⟨S8192x512, .f32⟩
  | 71 => ⟨S8192x512, .f32⟩
  | 72 => ⟨S_, .f32⟩
  | 73 => ⟨S_, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S_, .f32⟩
  | 80 => ⟨S512, .f32⟩
  | 81 => ⟨S1x512, .f32⟩
  | 82 => ⟨S8192x512, .f32⟩
  | 83 => ⟨S8192x512, .f32⟩
  | 84 => ⟨S_, .f32⟩
  | 85 => ⟨S512, .f32⟩
  | 86 => ⟨S1x512, .f32⟩
  | 87 => ⟨S_, .f32⟩
  | 88 => ⟨S3x512, .f32⟩
  | 89 => ⟨S_, .f32⟩
  | 90 => ⟨S8194x512, .f32⟩
  | 91 => ⟨S8192x512, .f32⟩
  | 92 => ⟨S_, .f32⟩
  | 93 => ⟨S512, .f32⟩
  | 94 => ⟨S1x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S3x512, .f32⟩
  | 102 => ⟨S3x512, .f32⟩
  | 103 => ⟨S_, .f32⟩
  | 104 => ⟨S8194x512, .f32⟩
  | 105 => ⟨S8194x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S_, .f32⟩
  | 116 => ⟨S3x512, .f32⟩
  | 117 => ⟨S3x512, .f32⟩
  | 118 => ⟨S_, .f32⟩
  | 119 => ⟨S8194x512, .f32⟩
  | 120 => ⟨S8194x512, .f32⟩
  | 121 => ⟨S2x512, .f32⟩
  | 122 => ⟨S8192x512, .f32⟩
  | 123 => ⟨S8192x512, .f32⟩
  | 124 => ⟨S8192x512, .f32⟩
  | 125 => ⟨S8192x2048, .f32⟩
  | 126 => ⟨S8192x1024, .f32⟩
  | 127 => ⟨S_, .f32⟩
  | _ => ⟨S8192x1024, .f32⟩

abbrev hbmTy0_3 (i : Nat) : BufTy := match i % 128 with
  | 0 => ⟨S1024, .f32⟩
  | 1 => ⟨S1x1024, .f32⟩
  | 2 => ⟨S8192x1024, .f32⟩
  | 3 => ⟨S_, .f32⟩
  | 4 => ⟨S1024, .f32⟩
  | 5 => ⟨S1x1024, .f32⟩
  | 6 => ⟨S8192x1024, .f32⟩
  | 7 => ⟨S8192x1024, .f32⟩
  | 8 => ⟨S8192x1024, .f32⟩
  | 9 => ⟨S_, .f32⟩
  | 10 => ⟨S3x1024, .f32⟩
  | 11 => ⟨S8x1024, .f32⟩
  | 12 => ⟨S_, .f32⟩
  | 13 => ⟨S4x512, .f32⟩
  | 14 => ⟨S8x512, .f32⟩
  | 15 => ⟨S8192x1024, .bf16⟩
  | 16 => ⟨S8192x1024, .bf16⟩
  | 17 => ⟨S8192x2048, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_call0_cst : Ref sig .tc := ⟨.hbm, 73, rfl⟩
abbrev main_call1_call0_v0 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_5 : Ref sig .tc := ⟨.hbm, 82, rfl⟩
abbrev main_v52 : Ref sig .tc := ⟨.hbm, 83, rfl⟩
abbrev main_v53 : Ref sig .tc := ⟨.hbm, 84, rfl⟩
abbrev main_cst_6 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_8 : Ref sig .tc := ⟨.hbm, 97, rfl⟩
abbrev main_v64 : Ref sig .tc := ⟨.hbm, 98, rfl⟩
abbrev main_v65 : Ref sig .tc := ⟨.hbm, 99, rfl⟩
abbrev main_cst_9 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_10 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_11 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_14 : Ref sig .tc := ⟨.hbm, 127, rfl⟩
abbrev main_v88 : Ref sig .tc := ⟨.hbm, 128, rfl⟩
abbrev main_v89 : Ref sig .tc := ⟨.hbm, 129, rfl⟩
abbrev main_cst_15 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_17 : Ref sig .tc := ⟨.hbm, 154, rfl⟩
abbrev main_v112 : Ref sig .tc := ⟨.hbm, 155, rfl⟩
abbrev main_v113 : Ref sig .tc := ⟨.hbm, 156, rfl⟩
abbrev main_cst_18 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_19 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_21 : Ref sig .tc := ⟨.hbm, 172, rfl⟩
abbrev main_v126 : Ref sig .tc := ⟨.hbm, 173, rfl⟩
abbrev main_v127 : Ref sig .tc := ⟨.hbm, 174, rfl⟩
abbrev main_cst_22 : Ref sig .tc := ⟨.hbm, 175, rfl⟩
abbrev main_v128 : Ref sig .tc := ⟨.hbm, 176, rfl⟩
abbrev main_v129 : Ref sig .tc := ⟨.hbm, 177, rfl⟩
abbrev main_cst_23 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_24 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_25 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_26 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_27 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_28 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_29 : Ref sig .tc := ⟨.hbm, 215, rfl⟩
abbrev main_v161 : Ref sig .tc := ⟨.hbm, 216, rfl⟩
abbrev main_v162 : Ref sig .tc := ⟨.hbm, 217, rfl⟩
abbrev main_cst_30 : Ref sig .tc := ⟨.hbm, 218, rfl⟩
abbrev main_v163 : Ref sig .tc := ⟨.hbm, 219, rfl⟩
abbrev main_v164 : Ref sig .tc := ⟨.hbm, 220, rfl⟩
abbrev main_cst_31 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_32 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_33 : Ref sig .tc := ⟨.hbm, 231, rfl⟩
abbrev main_v173 : Ref sig .tc := ⟨.hbm, 232, rfl⟩
abbrev main_v174 : Ref sig .tc := ⟨.hbm, 233, rfl⟩
abbrev main_cst_34 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_cst_35 : Ref sig .tc := ⟨.hbm, 241, rfl⟩
abbrev main_v181 : Ref sig .tc := ⟨.hbm, 242, rfl⟩
abbrev main_v182 : Ref sig .tc := ⟨.hbm, 243, rfl⟩
abbrev main_cst_36 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_37 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_38 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_39 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_cst_40 : Ref sig .tc := ⟨.hbm, 281, rfl⟩
abbrev main_v216 : Ref sig .tc := ⟨.hbm, 282, rfl⟩
abbrev main_v217 : Ref sig .tc := ⟨.hbm, 283, rfl⟩
abbrev main_cst_41 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_42 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_cst_43 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_cst_44 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_45 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_46 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_cst_47 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_cst_48 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_cst_49 : Ref sig .tc := ⟨.hbm, 325, rfl⟩
abbrev main_v251 : Ref sig .tc := ⟨.hbm, 326, rfl⟩
abbrev main_v252 : Ref sig .tc := ⟨.hbm, 327, rfl⟩
abbrev main_call2_call0_cst : Ref sig .tc := ⟨.hbm, 328, rfl⟩
abbrev main_call2_call0_v0 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_cst_50 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_cst_51 : Ref sig .tc := ⟨.hbm, 340, rfl⟩
abbrev main_v262 : Ref sig .tc := ⟨.hbm, 341, rfl⟩
abbrev main_v263 : Ref sig .tc := ⟨.hbm, 342, rfl⟩
abbrev main_cst_52 : Ref sig .tc := ⟨.hbm, 343, rfl⟩
abbrev main_v264 : Ref sig .tc := ⟨.hbm, 344, rfl⟩
abbrev main_cst_53 : Ref sig .tc := ⟨.hbm, 345, rfl⟩
abbrev main_v265 : Ref sig .tc := ⟨.hbm, 346, rfl⟩
abbrev main_v266 : Ref sig .tc := ⟨.hbm, 347, rfl⟩
abbrev main_cst_54 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_cst_55 : Ref sig .tc := ⟨.hbm, 353, rfl⟩
abbrev main_v271 : Ref sig .tc := ⟨.hbm, 354, rfl⟩
abbrev main_v272 : Ref sig .tc := ⟨.hbm, 355, rfl⟩
abbrev main_cst_56 : Ref sig .tc := ⟨.hbm, 356, rfl⟩
abbrev main_v273 : Ref sig .tc := ⟨.hbm, 357, rfl⟩
abbrev main_v274 : Ref sig .tc := ⟨.hbm, 358, rfl⟩
abbrev main_cst_57 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_cst_58 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_cst_59 : Ref sig .tc := ⟨.hbm, 368, rfl⟩
abbrev main_v282 : Ref sig .tc := ⟨.hbm, 369, rfl⟩
abbrev main_v283 : Ref sig .tc := ⟨.hbm, 370, rfl⟩
abbrev main_cst_60 : Ref sig .tc := ⟨.hbm, 371, rfl⟩
abbrev main_v284 : Ref sig .tc := ⟨.hbm, 372, rfl⟩
abbrev main_v285 : Ref sig .tc := ⟨.hbm, 373, rfl⟩
abbrev main_cst_61 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_cst_62 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_cst_63 : Ref sig .tc := ⟨.hbm, 387, rfl⟩
abbrev main_v297 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_cst_64 : Ref sig .tc := ⟨.hbm, 393, rfl⟩
abbrev main_v302 : Ref sig .tc := ⟨.hbm, 394, rfl⟩
abbrev main_v303 : Ref sig .tc := ⟨.hbm, 395, rfl⟩
abbrev main_cst_65 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S6x1024 : Shape := ⟨2, ![6, 1024]⟩
abbrev S8192x2048 : Shape := ⟨2, ![8192, 2048]⟩
abbrev S8192x1 : Shape := ⟨2, ![8192, 1]⟩
abbrev S512x1024 : Shape := ⟨2, ![512, 1024]⟩
abbrev S512x2048 : Shape := ⟨2, ![512, 2048]⟩
abbrev S512x1 : Shape := ⟨2, ![512, 1]⟩
abbrev S528x512 : Shape := ⟨2, ![528, 512]⟩
abbrev S16x512 : Shape := ⟨2, ![16, 512]⟩
abbrev S512x512 : Shape := ⟨2, ![512, 512]⟩
abbrev S512x128 : Shape := ⟨2, ![512, 128]⟩
abbrev S528x384 : Shape := ⟨2, ![528, 384]⟩
abbrev S528x256 : Shape := ⟨2, ![528, 256]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512 : Shape := ⟨1, ![512]⟩

abbrev nBuf : Space → Nat
  | .hbm => 28
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S1x6144, .f32⟩
  | .hbm, ⟨4, _⟩ => ⟨S1024x2048, .f32⟩
  | .hbm, ⟨5, _⟩ => ⟨S3x512, .f32⟩
  | .hbm, ⟨6, _⟩ => ⟨S4x128x128, .f32⟩
  | .hbm, ⟨7, _⟩ => ⟨S1x512, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x6144, .f32⟩
  | .hbm, ⟨19, _⟩ => ⟨S1x6144, .f32⟩
  | .hbm, ⟨20, _⟩ => ⟨S6x1024, .f32⟩
  | .hbm, ⟨21, _⟩ => ⟨S1024x2048, .bf16⟩
  | .hbm, ⟨22, _⟩ => ⟨S1024x1024, .bf16⟩
  | .hbm, ⟨23, _⟩ => ⟨S8192x2048, .bf16⟩
  | .hbm, ⟨24, _⟩ => ⟨S8192x1024, .bf16⟩
  | .hbm, ⟨25, _⟩ => ⟨S8192x1024, .f32⟩
  | .hbm, ⟨26, _⟩ => ⟨S8192x1, .f32⟩
  | .hbm, ⟨27, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S6x1024, .f32⟩
  | .local _ .vmem, ⟨3, _⟩ => ⟨S1024x2048, .bf16⟩
  | .local _ .vmem, ⟨4, _⟩ => ⟨S3x512, .f32⟩
  | .local _ .vmem, ⟨5, _⟩ => ⟨S4x128x128, .f32⟩
  | .local _ .vmem, ⟨6, _⟩ => ⟨S1x512, .f32⟩
  | .local _ .vmem, ⟨7, _⟩ => ⟨S1024x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | .local _ .vmem, ⟨17, _⟩ => ⟨S512x1024, .f32⟩
  | .local _ .vmem, ⟨18, _⟩ => ⟨S528x512, .f32⟩
  | .local _ .vmem, ⟨19, _⟩ => ⟨S528x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v6_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x1024 : Shape := ⟨2, ![8192, 1024]⟩
abbrev S1x1024 : Shape := ⟨2, ![1, 1024]⟩
abbrev S1024x6144 : Shape := ⟨2, ![1024, 6144]⟩
abbrev S1x6144 : Shape := ⟨2, ![1, 6144]⟩
abbrev S1024x2048 : Shape := ⟨2, ![1024, 2048]⟩
abbrev S3x512 : Shape := ⟨2, ![3, 512]⟩
abbrev S4x128x128 : Shape := ⟨3, ![4, 128, 128]⟩
abbrev S1x512 : Shape := ⟨2, ![1, 512]⟩
abbrev S1024x1024 : Shape := ⟨2, ![1024, 1024]⟩
abbrev S_ : Shape := ⟨0, ![]⟩
abbrev S6x1024 : Shape := ⟨2, ![6, 1024]⟩
abbrev S8192x2048 : Shape := ⟨2, ![8192, 2048]⟩
abbrev S8192x512 : Shape := ⟨2, ![8192, 512]⟩
abbrev S2x512 : Shape := ⟨2, ![2, 512]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S2x128 : Shape := ⟨2, ![2, 128]⟩
abbrev S8194x128 : Shape := ⟨2, ![8194, 128]⟩
abbrev S4x128 : Shape := ⟨2, ![4, 128]⟩
abbrev S8196x128 : Shape := ⟨2, ![8196, 128]⟩
abbrev S8x128 : Shape := ⟨2, ![8, 128]⟩
abbrev S8200x128 : Shape := ⟨2, ![8200, 128]⟩
abbrev S16x128 : Shape := ⟨2, ![16, 128]⟩
abbrev S8208x128 : Shape := ⟨2, ![8208, 128]⟩
abbrev S8192x1x128 : Shape := ⟨3, ![8192, 1, 128]⟩
abbrev S8192x4x128 : Shape := ⟨3, ![8192, 4, 128]⟩
abbrev S4x128x8192 : Shape := ⟨3, ![4, 128, 8192]⟩

abbrev nBuf : Space → Nat
  | .hbm => 167
  | .vmem => 0
  | .smem => 0
  | _ => 0

abbrev hbmTy0_0 (i : Nat) : BufTy := match i % 128 with
  | 0 => ⟨S8192x1024, .f32⟩
  | 1 => ⟨S1x1024, .f32⟩
  | 2 => ⟨S1024x6144, .f32⟩
  | 3 => ⟨S1x6144, .f32⟩
  | 4 => ⟨S1024x2048, .f32⟩
  | 5 => ⟨S3x512, .f32⟩
  | 6 => ⟨S4x128x128, .f32⟩
  | 7 => ⟨S1x512, .f32⟩
  | 8 => ⟨S1024x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S1x6144, .f32⟩
  | 19 => ⟨S1x6144, .f32⟩
  | 20 => ⟨S6x1024, .f32⟩
  | 21 => ⟨S1x1024, .f32⟩
  | 22 => ⟨S_, .f32⟩
  | 23 => ⟨S1x1024, .f32⟩
  | 24 => ⟨S1x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x2048, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S2x512, .f32⟩
  | 38 => ⟨S8194x512, .f32⟩
  | 39 => ⟨S8192x512, .f32⟩
  | 40 => ⟨S1x512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S_, .f32⟩
  | 61 => ⟨S_, .f32⟩
  | 62 => ⟨S8192x512, .f32⟩
  | 63 => ⟨S8192, .f32⟩
  | 64 => ⟨S_, .f32⟩
  | 65 => ⟨S8192, .f32⟩
  | 66 => ⟨S8192, .f32⟩
  | 67 => ⟨S8192x1, .f32⟩
  | 68 => ⟨S8192x128, .f32⟩
  | 69 => ⟨S_, .f32⟩
  | 70 => ⟨S2x128, .f32⟩
  | 71 => ⟨S8194x128, .f32⟩
  | 72 => ⟨S8192x128, .f32⟩
  | 73 => ⟨S8192x128, .f32⟩
  | 74 => ⟨S_, .f32⟩
  | 75 => ⟨S8192x1, .f32⟩
  | 76 => ⟨S8192x1, .f32⟩
  | 77 => ⟨S8192x128, .f32⟩
  | 78 => ⟨S8192x128, .f32⟩
  | 79 => ⟨S8192x128, .f32⟩
  | 80 => ⟨S8192x128, .f32⟩
  | 81 => ⟨S8192x128, .f32⟩
  | 82 => ⟨S_, .f32⟩
  | 83 => ⟨S4x128, .f32⟩
  | 84 => ⟨S8196x128, .f32⟩
  | 85 => ⟨S8192x128, .f32⟩
  | 86 => ⟨S8192x128, .f32⟩
  | 87 => ⟨S_, .f32⟩
  | 88 => ⟨S8192x1, .f32⟩
  | 89 => ⟨S8192x1, .f32⟩
  | 90 => ⟨S8192x128, .f32⟩
  | 91 => ⟨S8192x128, .f32⟩
  | 92 => ⟨S8192x128, .f32⟩
  | 93 => ⟨S8192x128, .f32⟩
  | 94 => ⟨S8192x128, .f32⟩
  | 95 => ⟨S_, .f32⟩
  | 96 => ⟨S8x128, .f32⟩
  | 97 => ⟨S8200x128, .f32⟩
  | 98 => ⟨S8192x128, .f32⟩
  | 99 => ⟨S8192x128, .f32⟩
  | 100 => ⟨S_, .f32⟩
  | 101 => ⟨S8192x1, .f32⟩
  | 102 => ⟨S8192x1, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S_, .f32⟩
  | 109 => ⟨S16x128, .f32⟩
  | 110 => ⟨S8208x128, .f32⟩
  | 111 => ⟨S8192x128, .f32⟩
  | 112 => ⟨S8192x128, .f32⟩
  | 113 => ⟨S_, .f32⟩
  | 114 => ⟨S8192x1, .f32⟩
  | 115 => ⟨S8192x1, .f32⟩
  | 116 => ⟨S8192x128, .f32⟩
  | 117 => ⟨S8192x128, .f32⟩
  | 118 => ⟨S8192x128, .f32⟩
  | 119 => ⟨S8192x128, .f32⟩
  | 120 => ⟨S8192x1x128, .f32⟩
  | 121 => ⟨S8192x1x128, .f32⟩
  | 122 => ⟨S8192x1x128, .f32⟩
  | 123 => ⟨S8192x1x128, .f32⟩
  | 124 => ⟨S8192x4x128, .f32⟩
  | 125 => ⟨S4x128x8192, .f32⟩
  | 126 => ⟨S8192x4x128, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x1024, .f32⟩
  | 3 => ⟨S8192x1024, .f32⟩
  | 4 => ⟨S_, .f32⟩
  | 5 => ⟨S8192x1024, .f32⟩
  | 6 => ⟨S8192x1024, .f32⟩
  | 7 => ⟨S1x1024, .f32⟩
  | 8 => ⟨S_, .f32⟩
  | 9 => ⟨S1x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S8192x1024, .f32⟩
  | 37 => ⟨S8192x2048, .bf16⟩
  | 38 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_call0_cst : Ref sig .tc := ⟨.hbm, 60, rfl⟩
abbrev main_call1_call0_v0 : Ref sig .tc := ⟨.hbm, 61, rfl⟩
abbrev main_v41 : Ref sig .tc := ⟨.hbm, 62, rfl⟩
abbrev main_v42 : Ref sig .tc := ⟨.hbm, 63, rfl⟩
abbrev main_cst_1 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_6 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_8 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_10 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_11 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_12 : Ref sig .tc := ⟨.hbm, 142, rfl⟩
abbrev main_v110 : Ref sig .tc := ⟨.hbm, 143, rfl⟩
abbrev main_v111 : Ref sig .tc := ⟨.hbm, 144, rfl⟩
abbrev main_cst_13 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_14 : Ref sig .tc := ⟨.hbm, 151, rfl⟩
abbrev main_v117 : Ref sig .tc := ⟨.hbm, 152, rfl⟩
abbrev main_v118 : Ref sig .tc := ⟨.hbm, 153, rfl⟩
abbrev main_cst_15 : Ref sig .tc := ⟨.hbm, 154, rfl⟩
abbrev main_v119 : Ref sig .tc := ⟨.hbm, 155, rfl⟩
abbrev main_v120 : Ref sig .tc := ⟨.hbm, 156, rfl⟩
abbrev main_cst_16 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩

abbrev nD : Nat := 1
abbrev τ : Topo := Topo.v7x

variable {F : FTy → Type} [FloatOps F]
-- ==== Kernel4.lean ====
abbrev S8x8x1024 : Shape := ⟨3, ![8, 8, 1024]⟩
abbrev S8x8x512 : Shape := ⟨3, ![8, 8, 512]⟩
abbrev S8x4x128x128 : Shape := ⟨4, ![8, 4, 128, 128]⟩
abbrev S8x1024 : Shape := ⟨2, ![8, 1024]⟩
abbrev S1 : Shape := ⟨1, ![1]⟩
abbrev S1x1024x768 : Shape := ⟨3, ![1, 1024, 768]⟩
abbrev S1024x8 : Shape := ⟨2, ![1024, 8]⟩
abbrev S1x6144 : Shape := ⟨2, ![1, 6144]⟩
abbrev S1x1024 : Shape := ⟨2, ![1, 1024]⟩
abbrev S8x512 : Shape := ⟨2, ![8, 512]⟩
abbrev S1x512 : Shape := ⟨2, ![1, 512]⟩
abbrev S1x4x128x128 : Shape := ⟨4, ![1, 4, 128, 128]⟩
abbrev S1x1 : Shape := ⟨2, ![1, 1]⟩
abbrev S256x8 : Shape := ⟨2, ![256, 8]⟩
abbrev S1x256x768 : Shape := ⟨3, ![1, 256, 768]⟩
abbrev S48x8x128 : Shape := ⟨3, ![48, 8, 128]⟩
abbrev S1x1x1024 : Shape := ⟨3, ![1, 1, 1024]⟩
abbrev S1x128 : Shape := ⟨2, ![1, 128]⟩
abbrev S1x1x128 : Shape := ⟨3, ![1, 1, 128]⟩
abbrev S1x1x512 : Shape := ⟨3, ![1, 1, 512]⟩
abbrev S4x128x128 : Shape := ⟨3, ![4, 128, 128]⟩
abbrev S1x8x128 : Shape := ⟨3, ![1, 8, 128]⟩
abbrev S8x128 : Shape := ⟨2, ![8, 128]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 23
  | .vmem => 30
  | .smem => 1
  | _ => 0

abbrev bufTy : (tb : Table) → Fin (tcTables nBuf tb) → BufTy
  | .hbm, ⟨0, _⟩ => ⟨S8x8x1024, .f32⟩
  | .hbm, ⟨1, _⟩ => ⟨S8x8x1024, .f32⟩
  | .hbm, ⟨2, _⟩ => ⟨S8x8x512, .f32⟩
  | .hbm, ⟨3, _⟩ => ⟨S8x4x128x128, .f32⟩
  | .hbm, ⟨4, _⟩ => ⟨S8x1024, .f32⟩
  | .hbm, ⟨5, _⟩ => ⟨S1, .i32⟩
  | .hbm, ⟨6, _⟩ => ⟨S1x1024x768, .f32⟩
  | .hbm, ⟨7, _⟩ => ⟨S1x1024x768, .f32⟩
  | .hbm, ⟨8, _⟩ => ⟨S1x1024x768, .f32⟩
  | .hbm, ⟨9, _⟩ => ⟨S1024x8, .f32⟩
  | .hbm, ⟨10, _⟩ => ⟨S1x6144, .f32⟩
  | .hbm, ⟨11, _⟩ => ⟨S1x1024x768, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8x512, .f32⟩
  | .hbm, ⟨17, _⟩ => ⟨S1x512, .f32⟩
  | .hbm, ⟨18, _⟩ => ⟨S1x4x128x128, .f32⟩
  | .hbm, ⟨19, _⟩ => ⟨S1x1, .f32⟩
  | .hbm, ⟨20, _⟩ => ⟨S1x1024x768, .f32⟩
  | .hbm, ⟨21, _⟩ => ⟨S1x1024x768, .f32⟩
  | .hbm, ⟨22, _⟩ => ⟨S1x1024x768, .f32⟩
  | .local _ .vmem, ⟨0, _⟩ => ⟨S8x8x1024, .f32⟩
  | .local _ .vmem, ⟨1, _⟩ => ⟨S8x8x1024, .f32⟩
  | .local _ .vmem, ⟨2, _⟩ => ⟨S8x8x512, .f32⟩
  | .local _ .vmem, ⟨3, _⟩ => ⟨S8x4x128x128, .f32⟩
  | .local _ .vmem, ⟨4, _⟩ => ⟨S256x8, .f32⟩
  | .local _ .vmem, ⟨5, _⟩ => ⟨S256x8, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x6144, .f32⟩
  | .local _ .vmem, ⟨13, _⟩ => ⟨S1x256x768, .f32⟩
  | .local _ .vmem, ⟨14, _⟩ => ⟨S1x256x768, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S8x512, .f32⟩
  | .local _ .vmem, ⟨20, _⟩ => ⟨S1x512, .f32⟩
  | .local _ .vmem, ⟨21, _⟩ => ⟨S1x4x128x128, .f32⟩
  | .local _ .vmem, ⟨22, _⟩ => ⟨S1x1, .f32⟩
  | .local _ .vmem, ⟨23, _⟩ => ⟨S1x256x768, .f32⟩
  | .local _ .vmem, ⟨24, _⟩ => ⟨S1x256x768, .f32⟩
  | .local _ .vmem, ⟨25, _⟩ => ⟨S1x256x768, .f32⟩
  | .local _ .vmem, ⟨26, _⟩ => ⟨S1x256x768, .f32⟩
  | .local _ .vmem, ⟨27, _⟩ => ⟨S1x256x768, .f32⟩
  | .local _ .vmem, ⟨28, _⟩ => ⟨S1x256x768, .f32⟩
  | .local _ .vmem, ⟨29, _⟩ => ⟨S48x8x128, .f32⟩
  | .local _ .smem, ⟨0, _⟩ => ⟨S1, .i32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev main_v1_8 : Ref sig .tc := ⟨.hbm, 18, rfl⟩
abbrev main_v1_9 : Ref sig .tc := ⟨.hbm, 19, rfl⟩
abbrev main_v1_10 : Ref sig .tc := ⟨.hbm, 20, rfl⟩
abbrev main_v1_11 : Ref sig .tc := ⟨.hbm, 21, rfl⟩
abbrev main_v1_12 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_scratch0 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨1, ![4], ![false]⟩

def k0_off1 (v7 : BitVec 32) (c0_i32_3 : BitVec 32) : Fin 3 → Nat :=
  let c6_i32 : BitVec 32 := 6#32
  let v8 : BitVec 32 := Scalar.muli v7 c6_i32
  let v9 : BitVec 32 := Scalar.addi v8 c0_i32_3
  let v10 : Index := Scalar.indexCast v9
  let c0_4 : Index := 0#32
  let c0_5 : Index := 0#32
  ![v10.toNat, 0, 0]

def k0_chk1 (v7 : BitVec 32) : Prop :=
  (∀ (r : Fin 6), ∀ a, (k0_off1 v7 (BitVec.ofNat 32 r.val)) a + S1x8x128.size a ≤ S48x8x128.size a)
theorem k0_off1_inb : ∀ (v7 : BitVec 32) (k0_hw1 : k0_chk1 v7), ∀ (r : Fin 6), ∀ a, (k0_off1 v7 (BitVec.ofNat 32 r.val)) a + S1x8x128.size a ≤ S48x8x128.size a := fun v7 k0_hw1 r => k0_hw1 r

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x256x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x256x768 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x256x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩
abbrev S1024x4096 : Shape := ⟨2, ![1024, 4096]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x8192, .bf16⟩
  | .hbm, ⟨3, _⟩ => ⟨S4096x1024, .f32⟩
  | .hbm, ⟨4, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8x512x1024 : Shape := ⟨3, ![8, 512, 1024]⟩
abbrev S1x512x1024 : Shape := ⟨3, ![1, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8x512x1024 : Shape := ⟨3, ![8, 512, 1024]⟩
abbrev S1x512x1024 : Shape := ⟨3, ![1, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.RealMat.lean ====
/- Vectors of extended reals whose every element is a real number, named by a real function of the
   coordinates: what each operation of the programs does to such a vector. With these, a program
   started on finite arguments is read as real arithmetic. -/
module

public import Idealize.ShloMosaic.Lib.MatmulPlain
public import Idealize.ShloMosaic.Lib.Pipeline.Value
public import Idealize.ShloMosaic.Lib.Pointwise.Index

@[expose] public section

set_option maxRecDepth 16384

noncomputable section

namespace Cert.RealMat

open Idealize.ShloMosaic Finset

variable {φ ψ : FTy} {m n k : ℕ}

/-- The matrix of the real numbers `f i j`. -/
def mat (m n : ℕ) (f : ℕ → ℕ → ℝ) : FVec Ideal ⟨2, ![m, n]⟩ φ := fun i => ((f (i 0).val (i 1).val : ℝ) : EReal)
/-- The vector of the real numbers `f i`. -/
def vec (n : ℕ) (f : ℕ → ℝ) : FVec Ideal ⟨1, ![n]⟩ φ := fun i => ((f (i 0).val : ℝ) : EReal)
/-- The rank-zero array of the real number `r`. -/
def scl (r : ℝ) : FVec Ideal ⟨0, ![]⟩ φ := fun _ => ((r : ℝ) : EReal)

theorem coe_sum (n : ℕ) (f : ℕ → ℝ) : ((∑ i ∈ range n, f i : ℝ) : EReal) = ∑ i : Fin n, ((f i.val : ℝ) : EReal) := by
  induction n with
  | zero => simp
  | succ n ih => rw [sum_range_succ, Fin.sum_univ_castSucc, EReal.coe_add, ih]; rfl

theorem mat_congr {f g : ℕ → ℕ → ℝ} (h : ∀ i < m, ∀ j < n, f i j = g i j) : (mat m n f : FVec Ideal _ φ) = mat m n g :=
  funext fun i => congrArg _ (h _ (i 0).isLt _ (i 1).isLt)

theorem vec_congr {f g : ℕ → ℝ} (h : ∀ i < n, f i = g i) : (vec n f : FVec Ideal _ φ) = vec n g :=
  funext fun i => congrArg _ (h _ (i 0).isLt)

/-- A finite array is the matrix of its own real values. -/
theorem eq_mat (x : FVec Ideal ⟨2, ![m, n]⟩ φ) (f : ℕ → ℕ → ℝ)
    (h : ∀ i : (⟨2, ![m, n]⟩ : Shape).Idx, x i = ((f (i 0).val (i 1).val : ℝ) : EReal)) : x = mat m n f := funext h

/-! ### Operations element by element -/

section Elementwise
variable (f g : ℕ → ℕ → ℝ) (a b : ℕ → ℝ) (r s : ℝ)

theorem addf_mat : addf (mat m n f : FVec Ideal _ φ) (mat m n g) = mat m n fun i j => f i j + g i j := rfl
theorem subf_mat : subf (mat m n f : FVec Ideal _ φ) (mat m n g) = mat m n fun i j => f i j - g i j := rfl
theorem mulf_mat : mulf (mat m n f : FVec Ideal _ φ) (mat m n g) = mat m n fun i j => f i j * g i j := rfl
theorem negf_mat : negf (mat m n f : FVec Ideal _ φ) = mat m n fun i j => - f i j := rfl
theorem maximumf_mat : maximumf (mat m n f : FVec Ideal _ φ) (mat m n g) = mat m n fun i j => max (f i j) (g i j) :=
  funext fun _ => (EReal.coe_strictMono.monotone.map_max).symm
theorem truncf_mat (h : ψ.bits < φ.bits) : truncf ψ (mat m n f : FVec Ideal _ φ) h = mat m n f := rfl
theorem extf_mat (h : φ.bits < ψ.bits) : extf ψ (mat m n f : FVec Ideal _ φ) h = mat m n f := rfl

theorem addf_vec : addf (vec n a : FVec Ideal _ φ) (vec n b) = vec n fun i => a i + b i := rfl
theorem subf_vec : subf (vec n a : FVec Ideal _ φ) (vec n b) = vec n fun i => a i - b i := rfl
theorem mulf_vec : mulf (vec n a : FVec Ideal _ φ) (vec n b) = vec n fun i => a i * b i := rfl
theorem negf_vec : negf (vec n a : FVec Ideal _ φ) = vec n fun i => - a i := rfl
theorem addf_scl : addf (scl r : FVec Ideal _ φ) (scl s) = scl (r + s) := rfl
theorem mulf_scl : mulf (scl r : FVec Ideal _ φ) (scl s) = scl (r * s) := rfl

theorem ediv_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem ersqrt_coe (x : ℝ) (h : 0 < x) : Ideal.rsqrt (x : EReal) = (((√x)⁻¹ : ℝ) : EReal) := by
  show (if x < 0 then ⊥ else if x = 0 then ⊤ else ((√x)⁻¹ : ℝ) : EReal) = _
  rw [if_neg h.le.not_gt, if_neg h.ne']

theorem divf_mat (c : ℝ) (h : c ≠ 0) : divf (mat m n f : FVec Ideal _ φ) (mat m n fun _ _ => c) = mat m n fun i j => f i j / c :=
  funext fun _ => ediv_coe _ _ h
theorem divf_mat_1024 : divf (mat m n f : FVec Ideal _ φ) (mat m n fun _ _ => 1024) = mat m n fun i j => f i j / 1024 :=
  divf_mat f 1024 (by norm_num)
theorem hdivf_mat (c : ℝ) (h : c ≠ 0) :
    Host.divf (mat m n f : FVec Ideal _ φ) (mat m n fun _ _ => c) = mat m n fun i j => f i j / c :=
  funext fun _ => ediv_coe _ _ h
theorem hdivf_mat_of (h : ∀ i < m, ∀ j < n, g i j ≠ 0) :
    Host.divf (mat m n f : FVec Ideal _ φ) (mat m n g) = mat m n fun i j => f i j / g i j :=
  funext fun i => ediv_coe _ _ (h _ (i 0).isLt _ (i 1).isLt)
theorem hdivf_vec (c : ℝ) (h : c ≠ 0) : Host.divf (vec n a : FVec Ideal _ φ) (vec n fun _ => c) = vec n fun i => a i / c :=
  funext fun _ => ediv_coe _ _ h
theorem rsqrt_mat (h : ∀ i < m, ∀ j < n, 0 < f i j) : rsqrt (mat m n f : FVec Ideal _ φ) = mat m n fun i j => (√(f i j))⁻¹ :=
  funext fun i => ersqrt_coe _ (h _ (i 0).isLt _ (i 1).isLt)
theorem hrsqrt_mat (h : ∀ i < m, ∀ j < n, 0 < f i j) : Host.rsqrt (mat m n f : FVec Ideal _ φ) = mat m n fun i j => (√(f i j))⁻¹ :=
  funext fun i => ersqrt_coe _ (h _ (i 0).isLt _ (i 1).isLt)

/-- `select` on "greater than" is the real conditional. -/
theorem select_ogt_mat (u v : ℕ → ℕ → ℝ) :
    select (cmpf .ogt (mat m n f : FVec Ideal _ φ) (mat m n g)) (mat m n u : FVec Ideal _ ψ) (mat m n v)
      = mat m n fun i j => if g i j < f i j then u i j else v i j := by
  funext i
  show Scalar.select (Ideal.cmp .ogt ((f (i 0).val (i 1).val : ℝ) : EReal) ((g (i 0).val (i 1).val : ℝ) : EReal)) ((u (i 0).val (i 1).val : ℝ) : EReal) ((v (i 0).val (i 1).val : ℝ) : EReal) = ((if g (i 0).val (i 1).val < f (i 0).val (i 1).val then u (i 0).val (i 1).val else v (i 0).val (i 1).val : ℝ) : EReal)
  unfold Ideal.cmp Scalar.select
  by_cases h : g (i 0).val (i 1).val < f (i 0).val (i 1).val
  · simp [h]
  · simp [h]

theorem broadcast_mat : broadcast (α := Ideal φ) ⟨2, ![m, n]⟩ ((r : ℝ) : EReal) = mat m n fun _ _ => r := rfl

end Elementwise

/-! ### Layout -/

section Layout
variable (f g : ℕ → ℕ → ℝ) (a b : ℕ → ℝ) (r s : ℝ)

theorem shapeCast_mat_self (h : (⟨2, ![m, n]⟩ : Shape).ShapeCasts ⟨2, ![m, n]⟩) :
    shapeCast ⟨2, ![m, n]⟩ (mat m n f : FVec Ideal _ φ) h = mat m n f := by
  funext i; exact shapeCast_apply _ _ _ i rfl

/-- A column of row values. -/
theorem shapeCast_vec_col (h : (⟨1, ![m]⟩ : Shape).ShapeCasts ⟨2, ![m, 1]⟩) :
    shapeCast ⟨2, ![m, 1]⟩ (vec m a : FVec Ideal _ φ) h = mat m 1 fun i _ => a i := by
  funext i
  refine shapeCast_apply _ _ _ (fun x => match x with | ⟨0, _⟩ => ⟨(i 0).val, (i 0).isLt⟩ : (⟨1, ![m]⟩ : Shape).Idx) ?_
  have h1 : (i 1).val < 1 := (i 1).isLt
  simp only [Shape.rowMajor_val_one, Shape.rowMajor_val_two]
  show (i 0).val = (i 0).val * 1 + (i 1).val
  omega

theorem shapeCast_vec_row (h : (⟨1, ![n]⟩ : Shape).ShapeCasts ⟨2, ![1, n]⟩) :
    shapeCast ⟨2, ![1, n]⟩ (vec n a : FVec Ideal _ φ) h = mat 1 n fun _ j => a j := by
  funext i
  refine shapeCast_apply _ _ _ (fun x => match x with | ⟨0, _⟩ => ⟨(i 1).val, (i 1).isLt⟩ : (⟨1, ![n]⟩ : Shape).Idx) ?_
  have h1 : (i 0).val < 1 := (i 0).isLt
  simp only [Shape.rowMajor_val_one, Shape.rowMajor_val_two]
  show (i 1).val = (i 0).val * n + (i 1).val
  have : (i 0).val = 0 := by omega
  rw [this]; omega

theorem broadcastTo_row (h : (⟨2, ![1, n]⟩ : Shape).Broadcasts ⟨2, ![m, n]⟩) :
    broadcastTo ⟨2, ![m, n]⟩ (mat 1 n f : FVec Ideal _ φ) h = mat m n fun _ j => f 0 j := by
  funext i
  refine broadcastTo_apply _ _ _ (fun x => match x with | ⟨0, _⟩ => ⟨0, Nat.one_pos⟩ | ⟨1, _⟩ => ⟨(i 1).val, (i 1).isLt⟩ : (⟨2, ![1, n]⟩ : Shape).Idx) ?_
  intro x
  match x with
  | ⟨0, _⟩ => rfl
  | ⟨1, _⟩ =>
    show (i 1).val = if n = 1 then 0 else (i 1).val
    have : (i 1).val < n := (i 1).isLt
    split <;> omega

theorem broadcastTo_col (h : (⟨2, ![m, 1]⟩ : Shape).Broadcasts ⟨2, ![m, n]⟩) :
    broadcastTo ⟨2, ![m, n]⟩ (mat m 1 f : FVec Ideal _ φ) h = mat m n fun i _ => f i 0 := by
  funext i
  refine broadcastTo_apply _ _ _ (fun x => match x with | ⟨0, _⟩ => ⟨(i 0).val, (i 0).isLt⟩ | ⟨1, _⟩ => ⟨0, Nat.one_pos⟩ : (⟨2, ![m, 1]⟩ : Shape).Idx) ?_
  intro x
  match x with
  | ⟨0, _⟩ =>
    show (i 0).val = if m = 1 then 0 else (i 0).val
    have : (i 0).val < m := (i 0).isLt
    split <;> omega
  | ⟨1, _⟩ => rfl

theorem bcastInDim_row (h : (⟨2, ![1, n]⟩ : Shape).BroadcastsInDim ⟨2, ![m, n]⟩ ![0, 1]) :
    broadcastInDim ⟨2, ![m, n]⟩ ![0, 1] h (mat 1 n f : FVec Ideal _ φ) = mat m n fun _ j => f 0 j := by
  funext i
  refine broadcastInDim_apply _ _ _ _ (fun x => match x with | ⟨0, _⟩ => ⟨0, Nat.one_pos⟩ | ⟨1, _⟩ => ⟨(i 1).val, (i 1).isLt⟩ : (⟨2, ![1, n]⟩ : Shape).Idx) ?_
  intro x
  match x with
  | ⟨0, _⟩ => rfl
  | ⟨1, _⟩ =>
    show (i 1).val = if n = 1 then 0 else (i 1).val
    have : (i 1).val < n := (i 1).isLt
    split <;> omega

theorem bcastInDim_col (h : (⟨2, ![m, 1]⟩ : Shape).BroadcastsInDim ⟨2, ![m, n]⟩ ![0, 1]) :
    broadcastInDim ⟨2, ![m, n]⟩ ![0, 1] h (mat m 1 f : FVec Ideal _ φ) = mat m n fun i _ => f i 0 := by
  funext i
  refine broadcastInDim_apply _ _ _ _ (fun x => match x with | ⟨0, _⟩ => ⟨(i 0).val, (i 0).isLt⟩ | ⟨1, _⟩ => ⟨0, Nat.one_pos⟩ : (⟨2, ![m, 1]⟩ : Shape).Idx) ?_
  intro x
  match x with
  | ⟨0, _⟩ =>
    show (i 0).val = if m = 1 then 0 else (i 0).val
    have : (i 0).val < m := (i 0).isLt
    split <;> omega
  | ⟨1, _⟩ => rfl

theorem bcastInDim_vec_col (h : (⟨1, ![m]⟩ : Shape).BroadcastsInDim ⟨2, ![m, n]⟩ ![0]) :
    broadcastInDim ⟨2, ![m, n]⟩ ![0] h (vec m a : FVec Ideal _ φ) = mat m n fun i _ => a i := by
  funext i
  refine broadcastInDim_apply _ _ _ _ (fun x => ⟨(i 0).val, by match x with | ⟨0, _⟩ => exact (i 0).isLt⟩ : (⟨1, ![m]⟩ : Shape).Idx) ?_
  intro x
  match x with
  | ⟨0, _⟩ =>
    show (i 0).val = if m = 1 then 0 else (i 0).val
    have : (i 0).val < m := (i 0).isLt
    split <;> omega

theorem bcastInDim_vec_row (h : (⟨1, ![n]⟩ : Shape).BroadcastsInDim ⟨2, ![m, n]⟩ ![1]) :
    broadcastInDim ⟨2, ![m, n]⟩ ![1] h (vec n a : FVec Ideal _ φ) = mat m n fun _ j => a j := by
  funext i
  refine broadcastInDim_apply _ _ _ _ (fun x => ⟨(i 1).val, by match x with | ⟨0, _⟩ => exact (i 1).isLt⟩ : (⟨1, ![n]⟩ : Shape).Idx) ?_
  intro x
  match x with
  | ⟨0, _⟩ =>
    show (i 1).val = if n = 1 then 0 else (i 1).val
    have : (i 1).val < n := (i 1).isLt
    split <;> omega

theorem bcastInDim_scl_mat (h : (⟨0, ![]⟩ : Shape).BroadcastsInDim ⟨2, ![m, n]⟩ ![]) :
    broadcastInDim ⟨2, ![m, n]⟩ ![] h (scl r : FVec Ideal _ φ) = mat m n fun _ _ => r := rfl
theorem bcastInDim_scl_vec (h : (⟨0, ![]⟩ : Shape).BroadcastsInDim ⟨1, ![n]⟩ ![]) :
    broadcastInDim ⟨1, ![n]⟩ ![] h (scl r : FVec Ideal _ φ) = vec n fun _ => r := rfl

theorem slice_mat (p q o₀ o₁ : ℕ) (h : (⟨2, ![m, n]⟩ : Shape).Slices ![o₀, o₁] ⟨2, ![p, q]⟩) :
    extractStridedSlice ⟨2, ![p, q]⟩ ![o₀, o₁] (mat m n f : FVec Ideal _ φ) h = mat p q fun i j => f (o₀ + i) (o₁ + j) := rfl

end Layout

/-! ### Sums -/

section Sums
variable (f g : ℕ → ℕ → ℝ) (a b : ℕ → ℝ) (r s : ℝ)

theorem sum_rows_mat (acc : BitVec 32) (h : (⟨2, ![m, n]⟩ : Shape).Reduces [1] ⟨1, ![m]⟩) (hφ : FKind.Formats .f32)
    (hacc : acc = FKind.add.neutral .f32 hφ) :
    multiReduction .add (no_index [1]) ⟨1, ![m]⟩ (mat m n f : FVec Ideal _ .f32) acc h hφ hacc = vec m fun i => ∑ j ∈ range n, f i j := by
  funext i
  refine (Ideal.multiReduction_add_single _ _ h hφ hacc i).trans ?_
  exact (coe_sum n fun j => f (i 0).val j).symm

theorem sum_cols_mat (acc : BitVec 32) (h : (⟨2, ![m, n]⟩ : Shape).Reduces [0] ⟨1, ![n]⟩) (hφ : FKind.Formats .f32)
    (hacc : acc = FKind.add.neutral .f32 hφ) :
    multiReduction .add (no_index [0]) ⟨1, ![n]⟩ (mat m n f : FVec Ideal _ .f32) acc h hφ hacc = vec n fun j => ∑ i ∈ range m, f i j := by
  funext i
  refine (Ideal.multiReduction_add_single _ _ h hφ hacc i).trans ?_
  exact (coe_sum m fun j => f j (i 0).val).symm

theorem dot_mat (d : DotDims ⟨2, ![m, k]⟩ ⟨2, ![k, n]⟩ ⟨2, ![m, n]⟩) (hd : d = DotDims.plain m k n) (prec : Option ContractPrecision)
    (sched : HostSchedule) :
    FloatOps.dotGeneral d prec sched (mat m k f : FVec Ideal _ φ) (mat k n g : FVec Ideal _ ψ)
      = mat m n fun i j => ∑ l ∈ range k, f i l * g l j := by
  subst hd
  funext i
  rw [Ideal.dotGeneral_apply, ← Equiv.sum_comp (DotDims.plainContr m k n).symm]
  exact (coe_sum k fun l => f (i 0).val l * g l (i 1).val).symm

theorem dot_t_mat (d : DotDims ⟨2, ![m, k]⟩ ⟨2, ![n, k]⟩ ⟨2, ![m, n]⟩) (hd : d = DotDims.transposedRhs m k n)
    (prec : Option ContractPrecision) (sched : HostSchedule) :
    FloatOps.dotGeneral d prec sched (mat m k f : FVec Ideal _ φ) (mat n k g : FVec Ideal _ ψ)
      = mat m n fun i j => ∑ l ∈ range k, f i l * g j l := by
  subst hd
  funext i
  rw [Ideal.dotGeneral_apply, ← Equiv.sum_comp (DotDims.transposedRhsContr m k n).symm]
  exact (coe_sum k fun l => f (i 0).val l * g (i 1).val l).symm

theorem matmul_mat (d : DotDims ⟨2, ![m, k]⟩ ⟨2, ![k, n]⟩ ⟨2, ![m, n]⟩) (hd : d = DotDims.plain m k n) (prec : Option ContractPrecision)
    (c : ℕ → ℕ → ℝ) :
    FloatOps.matmul d prec (mat m k f : FVec Ideal _ φ) (mat k n g : FVec Ideal _ ψ) (mat m n c)
      = mat m n fun i j => c i j + ∑ l ∈ range k, f i l * g l j := by
  subst hd
  funext i
  rw [Ideal.matmul_apply, ← Equiv.sum_comp (DotDims.plainContr m k n).symm]
  refine (congrArg ((c (i 0).val (i 1).val : EReal) + ·) ?_).trans (EReal.coe_add _ _).symm
  exact (coe_sum k fun l => f (i 0).val l * g l (i 1).val).symm

theorem matmul_t_mat (d : DotDims ⟨2, ![m, k]⟩ ⟨2, ![n, k]⟩ ⟨2, ![m, n]⟩) (hd : d = DotDims.transposedRhs m k n)
    (prec : Option ContractPrecision) (c : ℕ → ℕ → ℝ) :
    FloatOps.matmul d prec (mat m k f : FVec Ideal _ φ) (mat n k g : FVec Ideal _ ψ) (mat m n c)
      = mat m n fun i j => c i j + ∑ l ∈ range k, f i l * g j l := by
  subst hd
  funext i
  rw [Ideal.matmul_apply, ← Equiv.sum_comp (DotDims.transposedRhsContr m k n).symm]
  refine (congrArg ((c (i 0).val (i 1).val : EReal) + ·) ?_).trans (EReal.coe_add _ _).symm
  exact (coe_sum k fun l => f (i 0).val l * g (i 1).val l).symm

/-- The kernel's sum of a whole matrix: reshaped to one slab, reduced and taken out. -/
theorem sum_all_mat (acc : BitVec 32) (hc : (⟨2, ![m, n]⟩ : Shape).ShapeCasts ⟨3, ![1, m, n]⟩)
    (h : (⟨3, ![1, m, n]⟩ : Shape).Reduces [1, 2] ⟨1, ![1]⟩) (hφ : FKind.Formats .f32) (hacc : acc = FKind.add.neutral .f32 hφ)
    (hc' : (⟨1, ![1]⟩ : Shape).ShapeCasts ⟨3, ![1, 1, 1]⟩) (hp) :
    extractAt ![0, 0, 0] (shapeCast ⟨3, ![1, 1, 1]⟩ (multiReduction .add (no_index [1, 2]) ⟨1, ![1]⟩ (shapeCast ⟨3, ![1, m, n]⟩ (mat m n f : FVec Ideal _ .f32) hc) acc h hφ hacc) hc') hp
      = ((∑ i ∈ range m, ∑ j ∈ range n, f i j : ℝ) : EReal) := by
  refine (shapeCast_apply _ _ _ (fun x => match x with | ⟨0, _⟩ => ⟨0, Nat.one_pos⟩ : (⟨1, ![1]⟩ : Shape).Idx) ?_).trans ?_
  · simp only [Shape.rowMajor_val_one, Shape.rowMajor_val_three]; rfl
  refine (Ideal.multiReduction_add_total _ _ h (fun b => by match b with | ⟨0, _⟩ => rfl) hφ hacc _).trans ?_
  refine (sum_idx3 _).trans ?_
  rw [Fin.sum_univ_one, coe_sum]
  refine sum_congr rfl fun i _ => ?_
  rw [coe_sum]
  refine sum_congr rfl fun j _ => ?_
  refine shapeCast_apply _ _ _ (ix2 i j) ?_
  simp only [Shape.rowMajor_val_two, Shape.rowMajor_val_three]
  show i.val * n + j.val = (0 * m + i.val) * n + j.val
  rw [Nat.zero_mul, Nat.zero_add]

theorem mulf_real : Scalar.mulf (F := Ideal) (φ := φ) ((r : ℝ) : EReal) ((s : ℝ) : EReal) = ((r * s : ℝ) : EReal) := (EReal.coe_mul r s).symm

/-! ### Constants -/

theorem ofBits_zero : (Scalar.ofBits .f32 0x00000000#32 : Ideal .f32) = ((0 : ℝ) : EReal) := by
  show Ideal.ofBits .f32 _ = _
  simp [Ideal.ofBits, Ideal.ieee, -EReal.coe_mul]
theorem ofBits_one : (Scalar.ofBits .f32 0x3F800000#32 : Ideal .f32) = ((1 : ℝ) : EReal) := by
  show Ideal.ofBits .f32 _ = _
  simp [Ideal.ofBits, Ideal.ieee, -EReal.coe_mul]; norm_num
theorem ofBits_two : (Scalar.ofBits .f32 0x40000000#32 : Ideal .f32) = ((2 : ℝ) : EReal) := by
  show Ideal.ofBits .f32 _ = _
  simp [Ideal.ofBits, Ideal.ieee, -EReal.coe_mul]; norm_num
theorem ofBits_half : (Scalar.ofBits .f32 0x3F000000#32 : Ideal .f32) = ((1 / 2 : ℝ) : EReal) := by
  show Ideal.ofBits .f32 _ = _
  simp [Ideal.ofBits, Ideal.ieee, -EReal.coe_mul]; norm_num
theorem ofBits_neg_half : (Scalar.ofBits .f32 0xBF000000#32 : Ideal .f32) = ((-(1 / 2) : ℝ) : EReal) := by
  show Ideal.ofBits .f32 _ = _
  simp [Ideal.ofBits, Ideal.ieee, -EReal.coe_mul]; norm_num
theorem ofBits_1024 : (Scalar.ofBits .f32 0x44800000#32 : Ideal .f32) = ((1024 : ℝ) : EReal) := by
  show Ideal.ofBits .f32 _ = _
  simp [Ideal.ofBits, Ideal.ieee, -EReal.coe_mul]; norm_num
theorem ofBits_inv_1024 : (Scalar.ofBits .f32 0x3A800000#32 : Ideal .f32) = ((1 / 1024 : ℝ) : EReal) := by
  show Ideal.ofBits .f32 _ = _
  simp [Ideal.ofBits, Ideal.ieee, -EReal.coe_mul]; norm_num
theorem ofBits_inv_2048 : (Scalar.ofBits .f32 0x3A000000#32 : Ideal .f32) = ((1 / 2048 : ℝ) : EReal) := by
  show Ideal.ofBits .f32 _ = _
  simp [Ideal.ofBits, Ideal.ieee, -EReal.coe_mul]; norm_num

/-- The residual's scale, as the number its float constant is. -/
def alpha : ℝ := 9975792 / 8388608
/-- The number added to a variance, as its float constant is. -/
def eps : ℝ := 10995116 / 1099511627776
theorem eps_pos : 0 < eps := by unfold eps; norm_num
theorem ofBits_alpha : (Scalar.ofBits .f32 0x3F9837F0#32 : Ideal .f32) = ((alpha : ℝ) : EReal) := by
  show Ideal.ofBits .f32 _ = _
  simp [Ideal.ofBits, Ideal.ieee, -EReal.coe_mul, alpha]; norm_num
theorem ofBits_eps : (Scalar.ofBits .f32 0x3727C5AC#32 : Ideal .f32) = ((eps : ℝ) : EReal) := by
  show Ideal.ofBits .f32 _ = _
  simp [Ideal.ofBits, Ideal.ieee, -EReal.coe_mul, eps]; norm_num

theorem constant_mat (w : BitVec 32) (r : ℝ) (h : (Scalar.ofBits .f32 w : Ideal .f32) = ((r : ℝ) : EReal)) :
    (constant ⟨2, ![m, n]⟩ .f32 w : FVec Ideal _ .f32) = mat m n fun _ _ => r := funext fun _ => h
theorem constant_scl (w : BitVec 32) (r : ℝ) (h : (Scalar.ofBits .f32 w : Ideal .f32) = ((r : ℝ) : EReal)) :
    (constant ⟨0, ![]⟩ .f32 w : FVec Ideal _ .f32) = scl r := funext fun _ => h
theorem constant_mat_zero : (constant ⟨2, ![m, n]⟩ .f32 0x00000000#32 : FVec Ideal _ .f32) = mat m n fun _ _ => 0 :=
  constant_mat _ _ ofBits_zero

theorem matmul_plain (prec : Option ContractPrecision) (c : ℕ → ℕ → ℝ) :
    FloatOps.matmul (DotDims.plain m k n) prec (mat m k f : FVec Ideal _ φ) (mat k n g : FVec Ideal _ ψ) (mat m n c)
      = mat m n fun i j => c i j + ∑ l ∈ range k, f i l * g l j := matmul_mat f g _ rfl prec c
theorem matmul_transposed (prec : Option ContractPrecision) (c : ℕ → ℕ → ℝ) :
    FloatOps.matmul (DotDims.transposedRhs m k n) prec (mat m k f : FVec Ideal _ φ) (mat n k g : FVec Ideal _ ψ) (mat m n c)
      = mat m n fun i j => c i j + ∑ l ∈ range k, f i l * g j l := matmul_t_mat f g _ rfl prec c

end Sums

end Cert.RealMat

end
-- ==== Proof.Finite.lean ====
/- Arrays whose elements are all real numbers: the host operations that keep them so. `All P x`: every element of `x` is a
   real number with the property `P`. -/
module

public import proofs.«01_k».proof.Proof.RealMat

@[expose] public section

set_option backward.isDefEq.respectTransparency false

noncomputable section

namespace Cert.Finite

open Finset Cert.RealMat Idealize.ShloMosaic

variable {s t u : Shape} {φ ψ : FTy} {P Q R : ℝ → Prop}

/-- Every element is a real number with the property `P`. -/
def All (P : ℝ → Prop) (x : s.Idx → EReal) : Prop := ∀ i, ∃ r : ℝ, x i = (r : EReal) ∧ P r

/-- Every element is a real number. -/
abbrev Fin (x : s.Idx → EReal) : Prop := All (fun _ => True) x
/-- Every element is a non-negative real number. -/
abbrev NonNeg (x : s.Idx → EReal) : Prop := All (fun r => 0 ≤ r) x
/-- Every element is a positive real number. -/
abbrev Pos (x : s.Idx → EReal) : Prop := All (fun r => 0 < r) x

theorem All.imp {x : s.Idx → EReal} (h : All P x) (hq : ∀ r, P r → Q r) : All Q x :=
  fun i => let ⟨r, e, p⟩ := h i; ⟨r, e, hq r p⟩

theorem All.fin {x : s.Idx → EReal} (h : All P x) : Fin x := h.imp fun _ _ => trivial
theorem All.nonneg {x : s.Idx → EReal} (h : Pos x) : NonNeg x := h.imp fun _ p => p.le

theorem All.map {x y : s.Idx → EReal} (h : All P x) (g : ℝ → ℝ) (e : ∀ i (r : ℝ), x i = (r : EReal) → P r → y i = (g r : ℝ)) (hg : ∀ r, P r → Q (g r)) :
    All Q y := fun i => let ⟨r, er, p⟩ := h i; ⟨g r, e i r er p, hg r p⟩

theorem All.map₂ {x y z : s.Idx → EReal} (hx : All P x) (hy : All Q y) (g : ℝ → ℝ → ℝ)
    (e : ∀ i (r q : ℝ), x i = (r : EReal) → y i = (q : EReal) → P r → Q q → z i = (g r q : ℝ)) (hg : ∀ r q, P r → Q q → R (g r q)) : All R z :=
  fun i => let ⟨r, er, p⟩ := hx i; let ⟨q, eq, p'⟩ := hy i; ⟨g r q, e i r q er eq p p', hg r q p p'⟩

theorem const {b : BitVec (FTy.f32).bits} {r : ℝ} (h : Ideal.ofBits .f32 b = (r : EReal)) (p : P r) : All P (constant (F := Ideal) s .f32 b) :=
  fun _ => ⟨r, h, p⟩

theorem All.bcast {dims : _root_.Fin s.rank → _root_.Fin t.rank} {h : s.BroadcastsInDim t dims} {x : s.Idx → EReal} (hx : All P x) :
    All P (broadcastInDim t dims h x) := fun _ => hx _
theorem All.slice {off : _} {x : s.Idx → EReal} {h} (hx : All P x) : All P (extractStridedSlice t off x h) := fun _ => hx _
theorem All.cast {x : s.Idx → EReal} {h : s.ShapeCasts t} (hx : All P x) : All P (shapeCast t x h) := fun _ => hx _
theorem All.transpose {perm} {x : s.Idx → EReal} {h : s.Transposes perm t} (hx : All P x) : All P (transpose t perm x h) := fun _ => hx _

theorem concat {a : _root_.Fin t.rank} {xs : List ((s : Shape) × (s.Idx → EReal))} {h : Shape.Concatenates (xs.map (·.1)) t a}
    (hx : ∀ p ∈ xs, All P p.2) : All P (concatenate t a xs h) := fun j => by
  unfold concatenate
  exact hx _ (List.getElem_mem _) _

theorem concat₂ {s₁ s₂ : Shape} {a : _root_.Fin t.rank} {x₁ : s₁.Idx → EReal} {x₂ : s₂.Idx → EReal} {h} (h₁ : All P x₁) (h₂ : All P x₂) :
    All P (concatenate t a [⟨s₁, x₁⟩, ⟨s₂, x₂⟩] h) := concat (by
  intro p hp
  simp only [List.mem_cons, List.not_mem_nil, or_false] at hp
  rcases hp with rfl | rfl
  · exact h₁
  · exact h₂)

theorem concat₄ {s₁ s₂ s₃ s₄ : Shape} {a : _root_.Fin t.rank} {x₁ : s₁.Idx → EReal} {x₂ : s₂.Idx → EReal} {x₃ : s₃.Idx → EReal}
    {x₄ : s₄.Idx → EReal} {h} (h₁ : All P x₁) (h₂ : All P x₂) (h₃ : All P x₃) (h₄ : All P x₄) :
    All P (concatenate t a [⟨s₁, x₁⟩, ⟨s₂, x₂⟩, ⟨s₃, x₃⟩, ⟨s₄, x₄⟩] h) := concat (by
  intro p hp
  simp only [List.mem_cons, List.not_mem_nil, or_false] at hp
  rcases hp with rfl | rfl | rfl | rfl
  · exact h₁
  · exact h₂
  · exact h₃
  · exact h₄)

theorem All.add {x y : FVec Ideal s φ} (hx : All P x) (hy : All Q y) (hg : ∀ r q, P r → Q q → R (r + q)) : All R (addf x y) :=
  hx.map₂ hy (· + ·) (fun i r q er eq _ _ => by show x i + y i = _; rw [er, eq]; rfl) hg
theorem All.sub {x y : FVec Ideal s φ} (hx : All P x) (hy : All Q y) : Fin (subf x y) :=
  hx.map₂ hy (· - ·) (fun i r q er eq _ _ => by show x i - y i = _; rw [er, eq]; rfl) fun _ _ _ _ => trivial
theorem All.mul {x y : FVec Ideal s φ} (hx : All P x) (hy : All Q y) : Fin (mulf x y) :=
  hx.map₂ hy (· * ·) (fun i r q er eq _ _ => by show x i * y i = _; rw [er, eq]; exact (EReal.coe_mul _ _).symm) fun _ _ _ _ => trivial
theorem All.sq {x : FVec Ideal s φ} (hx : All P x) : NonNeg (mulf x x) :=
  hx.map (fun r => r * r) (fun i r er _ => by show x i * x i = _; rw [er]; exact (EReal.coe_mul _ _).symm) fun r _ => mul_self_nonneg r
theorem All.min {x y : FVec Ideal s φ} (hx : Pos x) (hy : Pos y) : Pos (minimumf x y) :=
  hx.map₂ hy Min.min (fun i r q er eq _ _ => by show Min.min (x i) (y i) = _; rw [er, eq]; rcases le_total r q with h | h
                                                · rw [min_eq_left h, min_eq_left (EReal.coe_le_coe_iff.mpr h : (r : EReal) ≤ q)]
                                                · rw [min_eq_right h, min_eq_right (EReal.coe_le_coe_iff.mpr h : (q : EReal) ≤ r)]) fun _ _ p q => lt_min p q
theorem All.neg {x : FVec Ideal s φ} (hx : All P x) : Fin (Host.negf x) :=
  hx.map (fun r => -r) (fun i r er _ => by show -(x i) = _; rw [er]; rfl) fun _ _ => trivial
theorem All.exp {x : FVec Ideal s φ} (hx : All P x) : Pos (Host.exp x) :=
  hx.map Real.exp (fun i r er _ => by show Ideal.exp (x i) = _; rw [er]; rfl) fun r _ => Real.exp_pos r
theorem All.div {x y : FVec Ideal s φ} (hx : All P x) (hy : Pos y) (hg : ∀ r q, P r → 0 < q → R (r / q)) : All R (Host.divf x y) :=
  hx.map₂ hy (· / ·) (fun i r q er eq _ h => by show Ideal.div (x i) (y i) = _; rw [er, eq]; exact ediv_coe _ _ h.ne') hg
theorem All.rsqrt {x : FVec Ideal s φ} (hx : Pos x) : Pos (Host.rsqrt x) :=
  hx.map (fun r => (Real.sqrt r)⁻¹) (fun i r er h => by show Ideal.rsqrt (x i) = _; rw [er]; exact ersqrt_coe _ h)
    fun r h => inv_pos.mpr (Real.sqrt_pos.mpr h)

theorem sum_all {ι : Type} {S : Finset ι} {f : ι → EReal} (h0 : P 0) (ha : ∀ r q, P r → P q → P (r + q))
    (hf : ∀ i ∈ S, ∃ r : ℝ, f i = (r : EReal) ∧ P r) : ∃ r : ℝ, ∑ i ∈ S, f i = (r : EReal) ∧ P r := by
  classical
  induction S using Finset.induction_on with
  | empty => exact ⟨0, rfl, h0⟩
  | insert a S hn ih =>
    obtain ⟨r, er, pr⟩ := ih fun i hi => hf i (Finset.mem_insert_of_mem hi)
    obtain ⟨q, eq, pq⟩ := hf a (Finset.mem_insert_self a S)
    exact ⟨q + r, by rw [Finset.sum_insert hn, er, eq]; rfl, ha q r pq pr⟩

theorem All.dot {s₁ s₂ : Shape} {d : DotDims s₁ s₂ t} {prec} {x : FVec Ideal s₁ φ} {y : FVec Ideal s₂ φ} (hx : All P x) (hy : All Q y) :
    Fin (Host.dotGeneral d prec x y) := fun i => by
  show ∃ r : ℝ, FloatOps.dotGeneral d prec _ x y i = _ ∧ _
  rw [Ideal.dotGeneral_apply]
  refine sum_all trivial (fun _ _ _ _ => trivial) fun k _ => ?_
  obtain ⟨r, er, _⟩ := hx (d.lhsIdx i k)
  obtain ⟨q, eq, _⟩ := hy (d.rhsIdx i k)
  exact ⟨r * q, by rw [er, eq]; exact (EReal.coe_mul _ _).symm, trivial⟩

theorem All.sum {axes : List (_root_.Fin s.rank)} {x : FVec Ideal s φ} {init : FVec Ideal u φ} {h : s.ReducesTo axes t} {hu}
    (hx : All P x) (hi : All P init) (h0 : P 0) (ha : ∀ r q, P r → P q → P (r + q)) : All P (Host.reduceAdd x init h hu) := fun j => by
  show ∃ r : ℝ, Ideal.hostReduceAdd h x (init _) j = _ ∧ _
  unfold Ideal.hostReduceAdd
  obtain ⟨r, er, pr⟩ := hi (Shape.Idx.first hu)
  obtain ⟨q, eq, pq⟩ := sum_all (S := Finset.univ.filter fun i => h.drop i = j) (f := x) h0 ha fun i _ => hx i
  exact ⟨r + q, by rw [er, eq]; rfl, ha r q pr pq⟩

theorem foldl_all {ι : Type} (f : ι → EReal) (hf : ∀ i, ∃ r : ℝ, f i = (r : EReal)) (l : List ι) (v : EReal) (hv : ∃ r : ℝ, v = (r : EReal)) :
    ∃ r : ℝ, l.foldl (fun a n => a + f n) v = (r : EReal) := by
  induction l generalizing v with
  | nil => exact hv
  | cons n l ih =>
    obtain ⟨r, rfl⟩ := hv
    obtain ⟨q, eq⟩ := hf n
    exact ih _ ⟨r + q, by show (r : EReal) + f n = _; rw [eq]; rfl⟩

theorem All.window {window strides lo hi : _root_.Fin s.rank → ℕ} {x : FVec Ideal s φ} {init : FVec Ideal u φ}
    {h : s.ReduceWindows window strides lo hi t} {hu} (hx : Fin x) (hv : Fin init) : Fin (Host.reduceWindowAdd window strides lo hi x init h hu) := fun j => by
  suffices h1 : ∃ r : ℝ, Host.reduceWindowAdd window strides lo hi x init h hu j = (r : EReal) from let ⟨r, e⟩ := h1; ⟨r, e, trivial⟩
  refine foldl_all (fun n => _) (fun n => ?_) (List.finRange (Shape.numel ⟨s.rank, window⟩)) (init (Shape.Idx.first hu))
    (let ⟨r, e, _⟩ := hv (Shape.Idx.first hu); ⟨r, e⟩)
  dsimp only
  split
  · exact let ⟨r, e, _⟩ := hx _; ⟨r, e⟩
  · exact let ⟨r, e, _⟩ := hv (Shape.Idx.first hu); ⟨r, e⟩

theorem iota {d : _root_.Fin s.rank} (h : s.size d ≤ 2 ^ 31) : NonNeg (sitofp (F := Ideal) .f32 (iotaInDim s 32 d)) := fun i =>
  ⟨(((BitVec.ofNat 32 (i d).val).toInt : ℤ) : ℝ), rfl, by
    have hi : (i d).val < 2 ^ 31 := lt_of_lt_of_le (i d).isLt h
    rw [BitVec.toInt_eq_toNat_of_lt (by rw [BitVec.toNat_ofNat]; omega)]
    exact Int.cast_nonneg (Int.natCast_nonneg _)⟩

theorem add_nonneg' : ∀ r q : ℝ, 0 ≤ r → 0 ≤ q → 0 ≤ r + q := fun _ _ => add_nonneg
theorem div_nonneg' : ∀ r q : ℝ, 0 ≤ r → 0 < q → 0 ≤ r / q := fun _ _ h h' => div_nonneg h h'.le
theorem add_pos₁ : ∀ r q : ℝ, 0 < r → 0 ≤ q → 0 < r + q := fun _ _ => add_pos_of_pos_of_nonneg
theorem add_pos₂ : ∀ r q : ℝ, 0 ≤ r → 0 < q → 0 < r + q := fun _ _ => add_pos_of_nonneg_of_pos

theorem four : (Scalar.ofBits .f32 0x40800000#32 : Ideal .f32) = ((4 : ℝ) : EReal) := by
  show Ideal.ofBits .f32 _ = _
  simp [Ideal.ofBits, Ideal.ieee, -EReal.coe_mul]; norm_num
theorem eight : (Scalar.ofBits .f32 0x41000000#32 : Ideal .f32) = ((8 : ℝ) : EReal) := by
  show Ideal.ofBits .f32 _ = _
  simp [Ideal.ofBits, Ideal.ieee, -EReal.coe_mul]; norm_num
theorem sixteen : (Scalar.ofBits .f32 0x41800000#32 : Ideal .f32) = ((16 : ℝ) : EReal) := by
  show Ideal.ofBits .f32 _ = _
  simp [Ideal.ofBits, Ideal.ieee, -EReal.coe_mul]; norm_num

/-- The real matrix an array of real numbers of rank two is. -/
theorem All.mat {m n : ℕ} {x : FVec Ideal ⟨2, ![m, n]⟩ φ} (hx : All P x) : ∃ f : ℕ → ℕ → ℝ, x = mat m n f ∧ ∀ (i : _root_.Fin m) (j : _root_.Fin n), P (f i j) := by
  choose f hf hp using hx
  refine ⟨fun i j => if h : i < m ∧ j < n then f (ix2 ⟨i, h.1⟩ ⟨j, h.2⟩) else 0, ?_, ?_⟩
  · funext i
    rw [hf i]
    show ((f i : ℝ) : EReal) = ((dite _ _ _ : ℝ) : EReal)
    rw [dif_pos ⟨(i 0).isLt, (i 1).isLt⟩]
    exact congrArg (fun k => ((f k : ℝ) : EReal)) (eq_ix2 i)
  · intro i j
    dsimp only
    rw [dif_pos ⟨i.isLt, j.isLt⟩]
    exact hp _

end Cert.Finite
-- ==== Proof.Pre.lean ====
/- What the three preconditions on real arguments say: every element of the arguments they name is a real number. -/
module

public import proofs.«01_k».proof.Pre_mlp_arguments_finite
public import proofs.«01_k».proof.Pre_mixer_arguments_finite
public import proofs.«01_k».proof.Pre_forward_arguments_finite
public import proofs.«01_k».proof.Proof.Finite
public import Idealize.ShloMosaic.Lib.ReduceAll
public import Idealize.ShloMosaic.Lib.Pointwise.Select

@[expose] public section

set_option backward.isDefEq.respectTransparency false

noncomputable section

namespace Cert.Pre

open Idealize.ShloMosaic Cert.Finite

variable {s : Shape}

theorem real_of_abs_lt (x : EReal) (h : Ideal.cmp .olt (max x (-x)) (Ideal.ofBits .f32 0x7F800000#32) = 1#1) : ∃ r : ℝ, x = (r : EReal) ∧ True := by
  have htop : Ideal.ofBits .f32 0x7F800000#32 = ⊤ := by simp [Ideal.ofBits, Ideal.ieee]
  rw [htop] at h
  have hlt : max x (-x) < ⊤ := (Ideal.cmp_olt_eq_one _ _).1 h
  rw [max_lt_iff] at hlt
  refine ⟨x.toReal, (EReal.coe_toReal hlt.1.ne fun e => ?_).symm, trivial⟩
  rw [e] at hlt
  exact absurd hlt.2 (by simp)

/-- `|x| < ∞` of every element, joined by `and`. -/
theorem fin_of_all {x : FVec Ideal s .f32} {axes} {h : s.ReducesTo axes ⟨0, ![]⟩} {hu} {hb : (⟨0, ![]⟩ : Shape).BroadcastsInDim s (![] : _root_.Fin 0 → _root_.Fin s.rank)}
    {j : (⟨0, ![]⟩ : Shape).Idx}
    (e : Host.reduce IntOp.andi (cmpf .olt (Host.absf x) (broadcastInDim s ![] hb (constant ⟨0, ![]⟩ .f32 0x7F800000#32))) (constantI ⟨0, ![]⟩ 1 1#1) h hu j = 1#1) :
    Fin x := fun i =>
  have : Subsingleton (⟨0, ![]⟩ : Shape).Idx := ⟨fun a b => funext fun k => k.elim0⟩
  real_of_abs_lt (x i) (Host.reduce_andi_all _ _ h hu j e i)

theorem both {a b : BitVec 1} (h : IntOp.andi a b = 1#1) : a = 1#1 ∧ b = 1#1 := IntOp.andi_eq_one.1 h

instance facts_mlp : Cert.Pre_mlp_arguments_finite.Facts where
  bcast_S_S8192x1024 := by decide
  reducesTo_S8192x1024_S_d0_1 := by decide
  h_S_ := by decide
  bcast_S_S1x1024 := by decide
  reducesTo_S1x1024_S_d0_1 := by decide
  bcast_S_S1024x6144 := by decide
  reducesTo_S1024x6144_S_d0_1 := by decide
  bcast_S_S1x6144 := by decide
  reducesTo_S1x6144_S_d0_1 := by decide
  bcast_S_S1024x2048 := by decide
  reducesTo_S1024x2048_S_d0_1 := by decide
  bcast_S_S3x512 := by decide
  reducesTo_S3x512_S_d0_1 := by decide
  bcast_S_S4x128x128 := by decide
  reducesTo_S4x128x128_S_d0_1_2 := by decide
  bcast_S_S1x512 := by decide
  reducesTo_S1x512_S_d0_1 := by decide
  bcast_S_S1024x1024 := by decide
  reducesTo_S1024x1024_S_d0_1 := by decide
  bcast_S_S1024x4096 := by decide
  reducesTo_S1024x4096_S_d0_1 := by decide
  bcast_S_S4096x1024 := by decide
  reducesTo_S4096x1024_S_d0_1 := by decide

theorem mlp {x0 : FVec Ideal Cert.Pre_mlp_arguments_finite.S8192x1024 .f32} {x1 : FVec Ideal Cert.Pre_mlp_arguments_finite.S8192x1024 .f32} {x2 : FVec Ideal Cert.Pre_mlp_arguments_finite.S1x1024 .f32} {x3 : FVec Ideal Cert.Pre_mlp_arguments_finite.S1024x6144 .f32} {x4 : FVec Ideal Cert.Pre_mlp_arguments_finite.S1x6144 .f32} {x5 : FVec Ideal Cert.Pre_mlp_arguments_finite.S1024x2048 .f32} {x6 : FVec Ideal Cert.Pre_mlp_arguments_finite.S3x512 .f32} {x7 : FVec Ideal Cert.Pre_mlp_arguments_finite.S4x128x128 .f32} {x8 : FVec Ideal Cert.Pre_mlp_arguments_finite.S1x512 .f32} {x9 : FVec Ideal Cert.Pre_mlp_arguments_finite.S1024x1024 .f32} {x10 : FVec Ideal Cert.Pre_mlp_arguments_finite.S1x1024 .f32} {x11 : FVec Ideal Cert.Pre_mlp_arguments_finite.S1x1024 .f32} {x12 : FVec Ideal Cert.Pre_mlp_arguments_finite.S1024x4096 .f32} {x13 : FVec Ideal Cert.Pre_mlp_arguments_finite.S4096x1024 .f32} {x14 : FVec Ideal Cert.Pre_mlp_arguments_finite.S1x1024 .f32} {x15 : FVec Ideal Cert.Pre_mlp_arguments_finite.S1x1024 .f32}
    (e : Cert.Pre_mlp_arguments_finite.fn (F := Ideal) x0 x1 x2 x3 x4 x5 x6 x7 x8 x9 x10 x11 x12 x13 x14 x15 = fun _ => 1#1) :
    Fin x0 ∧ Fin x1 ∧ Fin x2 ∧ Fin x3 ∧ Fin x4 ∧ Fin x5 ∧ Fin x6 ∧ Fin x7 ∧ Fin x8 ∧ Fin x9 ∧ Fin x10 ∧ Fin x11 ∧ Fin x12 ∧ Fin x13 ∧ Fin x14 ∧ Fin x15 := by
  have e := congrFun e (fun k => k.elim0)
  obtain ⟨e, e15⟩ := both e
  obtain ⟨e, e14⟩ := both e
  obtain ⟨e, e13⟩ := both e
  obtain ⟨e, e12⟩ := both e
  obtain ⟨e, e11⟩ := both e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  exact ⟨fin_of_all e, fin_of_all e1, fin_of_all e2, fin_of_all e3, fin_of_all e4, fin_of_all e5, fin_of_all e6, fin_of_all e7, fin_of_all e8, fin_of_all e9, fin_of_all e10, fin_of_all e11, fin_of_all e12, fin_of_all e13, fin_of_all e14, fin_of_all e15⟩

instance facts_mixer : Cert.Pre_mixer_arguments_finite.Facts where
  bcast_S_S8192x1024 := by decide
  reducesTo_S8192x1024_S_d0_1 := by decide
  h_S_ := by decide
  bcast_S_S1x1024 := by decide
  reducesTo_S1x1024_S_d0_1 := by decide
  bcast_S_S1024x6144 := by decide
  reducesTo_S1024x6144_S_d0_1 := by decide
  bcast_S_S1x6144 := by decide
  reducesTo_S1x6144_S_d0_1 := by decide
  bcast_S_S1024x2048 := by decide
  reducesTo_S1024x2048_S_d0_1 := by decide
  bcast_S_S3x512 := by decide
  reducesTo_S3x512_S_d0_1 := by decide
  bcast_S_S4x128x128 := by decide
  reducesTo_S4x128x128_S_d0_1_2 := by decide
  bcast_S_S1x512 := by decide
  reducesTo_S1x512_S_d0_1 := by decide
  bcast_S_S1024x1024 := by decide
  reducesTo_S1024x1024_S_d0_1 := by decide

theorem mixer {x0 : FVec Ideal Cert.Pre_mixer_arguments_finite.S8192x1024 .f32} {x1 : FVec Ideal Cert.Pre_mixer_arguments_finite.S8192x1024 .f32} {x2 : FVec Ideal Cert.Pre_mixer_arguments_finite.S1x1024 .f32} {x3 : FVec Ideal Cert.Pre_mixer_arguments_finite.S1024x6144 .f32} {x4 : FVec Ideal Cert.Pre_mixer_arguments_finite.S1x6144 .f32} {x5 : FVec Ideal Cert.Pre_mixer_arguments_finite.S1024x2048 .f32} {x6 : FVec Ideal Cert.Pre_mixer_arguments_finite.S3x512 .f32} {x7 : FVec Ideal Cert.Pre_mixer_arguments_finite.S4x128x128 .f32} {x8 : FVec Ideal Cert.Pre_mixer_arguments_finite.S1x512 .f32} {x9 : FVec Ideal Cert.Pre_mixer_arguments_finite.S1024x1024 .f32} {x10 : FVec Ideal Cert.Pre_mixer_arguments_finite.S1x1024 .f32} {x11 : FVec Ideal Cert.Pre_mixer_arguments_finite.S1x1024 .f32} {x12 : FVec Ideal Cert.Pre_mixer_arguments_finite.S1x1024 .f32} {x13 : FVec Ideal Cert.Pre_mixer_arguments_finite.S1x1024 .f32}
    (e : Cert.Pre_mixer_arguments_finite.fn (F := Ideal) x0 x1 x2 x3 x4 x5 x6 x7 x8 x9 x10 x11 x12 x13 = fun _ => 1#1) :
    Fin x0 ∧ Fin x1 ∧ Fin x2 ∧ Fin x3 ∧ Fin x4 ∧ Fin x5 ∧ Fin x6 ∧ Fin x7 ∧ Fin x8 ∧ Fin x9 ∧ Fin x10 := by
  have e := congrFun e (fun k => k.elim0)
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  exact ⟨fin_of_all e, fin_of_all e1, fin_of_all e2, fin_of_all e3, fin_of_all e4, fin_of_all e5, fin_of_all e6, fin_of_all e7, fin_of_all e8, fin_of_all e9, fin_of_all e10⟩

instance facts_forward : Cert.Pre_forward_arguments_finite.Facts where
  bcast_S_S8192x1024 := by decide
  reducesTo_S8192x1024_S_d0_1 := by decide
  h_S_ := by decide
  bcast_S_S1x1024 := by decide
  reducesTo_S1x1024_S_d0_1 := by decide
  bcast_S_S1024x6144 := by decide
  reducesTo_S1024x6144_S_d0_1 := by decide
  bcast_S_S1x6144 := by decide
  reducesTo_S1x6144_S_d0_1 := by decide
  bcast_S_S1024x2048 := by decide
  reducesTo_S1024x2048_S_d0_1 := by decide
  bcast_S_S3x512 := by decide
  reducesTo_S3x512_S_d0_1 := by decide
  bcast_S_S4x128x128 := by decide
  reducesTo_S4x128x128_S_d0_1_2 := by decide
  bcast_S_S1x512 := by decide
  reducesTo_S1x512_S_d0_1 := by decide
  bcast_S_S1024x1024 := by decide
  reducesTo_S1024x1024_S_d0_1 := by decide

theorem forward {x0 : FVec Ideal Cert.Pre_forward_arguments_finite.S8192x1024 .f32} {x1 : FVec Ideal Cert.Pre_forward_arguments_finite.S1x1024 .f32} {x2 : FVec Ideal Cert.Pre_forward_arguments_finite.S1024x6144 .f32} {x3 : FVec Ideal Cert.Pre_forward_arguments_finite.S1x6144 .f32} {x4 : FVec Ideal Cert.Pre_forward_arguments_finite.S1024x2048 .f32} {x5 : FVec Ideal Cert.Pre_forward_arguments_finite.S3x512 .f32} {x6 : FVec Ideal Cert.Pre_forward_arguments_finite.S4x128x128 .f32} {x7 : FVec Ideal Cert.Pre_forward_arguments_finite.S1x512 .f32} {x8 : FVec Ideal Cert.Pre_forward_arguments_finite.S1024x1024 .f32}
    (e : Cert.Pre_forward_arguments_finite.fn (F := Ideal) x0 x1 x2 x3 x4 x5 x6 x7 x8 = fun _ => 1#1) :
    Fin x0 ∧ Fin x1 ∧ Fin x2 ∧ Fin x3 ∧ Fin x4 ∧ Fin x5 ∧ Fin x6 ∧ Fin x7 ∧ Fin x8 := by
  have e := congrFun e (fun k => k.elim0)
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  exact ⟨fin_of_all e, fin_of_all e1, fin_of_all e2, fin_of_all e3, fin_of_all e4, fin_of_all e5, fin_of_all e6, fin_of_all e7, fin_of_all e8⟩

end Cert.Pre

end
-- ==== Proof.HostStep.lean ====
/- A host line read one operation at a time: what a buffer holds at the end is what its one writer computes from what the
   operands hold at the end. -/
module

public import Idealize.ShloMosaic.Lib.StableHlo.RunRead
public import Idealize.ShloMosaic.Lib.Pipeline.Frame

@[expose] public section

noncomputable section

namespace Cert.Step

open Idealize.ShloMosaic Idealize.ShloMosaic.StableHlo

variable {τ : Topo} {sig : RefSig} {Val : EltTy → Type}
variable {ops : List (HloOp τ sig Val)} {W : List (Ref sig .tc)}

/-- `W` lists what the operations write, in order. -/
abbrev Writes (ops : List (HloOp τ sig Val)) (W : List (Ref sig .tc)) : Prop :=
  ops.map HloOp.writes = W.map fun w => {Proc.devRef (τ := τ) .tc w}

variable (hW : Writes ops W) {V : Valuation τ sig Val}
include hW

theorem last (i : ℕ) {op : HloOp τ sig Val} {r : Ref sig .tc} (hop : ops[i]? = some op) (hr : r ∉ W.drop (i + 1)) :
    after ops V (Proc.devRef .tc r) = op.result (upto ops V i) (Proc.devRef .tc r) := by
  obtain ⟨hi, he⟩ := List.getElem?_eq_some_iff.mp hop
  refine after_last_write (rest := ops.drop (i + 1)) (W.drop (i + 1)) ?_ ?_ hr V
  · rw [List.drop_eq_getElem_cons hi, he]
  · rw [List.map_drop, List.map_drop]; exact congrArg (List.drop (i + 1)) hW

theorem keep (i : ℕ) {x : Ref sig .tc} (hx : x ∉ W.drop i) : upto ops V i (Proc.devRef .tc x) = after ops V (Proc.devRef .tc x) := by
  have h := after_unwritten (ops := ops.drop i) (W.drop i) (r := x)
    (by rw [List.map_drop, List.map_drop]; exact congrArg (List.drop i) hW) hx (upto ops V i)
  refine h.symm.trans ?_
  have : after ops V = after (ops.drop i) (upto ops V i) := by

    have h2 := StableHlo.after_append (ops.take i) (ops.drop i) V
    rwa [List.take_append_drop] at h2
  rw [this]

theorem arg {x : Ref sig .tc} (hx : x ∉ W := by decide) : after ops V (Proc.devRef .tc x) = V (Proc.devRef .tc x) :=
  after_unwritten W hW hx V

variable {x a b d e y : Ref sig .tc}

theorem nullary (i : ℕ) {v : y.ty.Contents Val} {hy} {w : y.ty.Contents Val}
    (hop : ops[i]? = some (StableHlo.nullary y v hy) := by rfl) (hr : y ∉ W.drop (i + 1) := by decide) (hw : v = w := by rfl) : after ops V (Proc.devRef .tc y) = w :=
  ((last hW i hop hr).trans (nullary_result' v hy _)).trans hw

theorem unary (i : ℕ) {f : x.ty.Contents Val → y.ty.Contents Val} {hx hy} {v : x.ty.Contents Val}
    (hv : after ops V (Proc.devRef .tc x) = v) {w : y.ty.Contents Val}
    (hop : ops[i]? = some (StableHlo.unary x y f hx hy) := by rfl) (hr : y ∉ W.drop (i + 1) := by decide)
    (kx : x ∉ W.drop i := by decide) (hw : f v = w := by rfl) : after ops V (Proc.devRef .tc y) = w :=
  (((last hW i hop hr).trans (unary_result' f hx hy _)).trans (congrArg f ((keep hW i kx).trans hv))).trans hw

theorem reshape (i : ℕ) {he hn hx hy} {v : x.ty.Contents Val} (hv : after ops V (Proc.devRef .tc x) = v) {w : y.ty.Contents Val}
    (hop : ops[i]? = some (StableHlo.reshape x y he hn hx hy) := by rfl) (hr : y ∉ W.drop (i + 1) := by decide)
    (kx : x ∉ W.drop i := by decide) (hw : (fun i => he ▸ shapeCast y.ty.shape v hn i) = w := by rfl) : after ops V (Proc.devRef .tc y) = w :=
  (((last hW i hop hr).trans (reshape_result' he hn hx hy _)).trans
    (congrArg (fun (z : x.ty.Contents Val) => (fun i => he ▸ shapeCast y.ty.shape z hn i : y.ty.Contents Val)) ((keep hW i kx).trans hv))).trans hw

theorem binary (i : ℕ) {f : a.ty.Contents Val → b.ty.Contents Val → y.ty.Contents Val} {ha hb hy}
    {u : a.ty.Contents Val} (hu : after ops V (Proc.devRef .tc a) = u) {v : b.ty.Contents Val} (hv : after ops V (Proc.devRef .tc b) = v)
    {w : y.ty.Contents Val} (hop : ops[i]? = some (StableHlo.binary a b y f ha hb hy) := by rfl)
    (hr : y ∉ W.drop (i + 1) := by decide) (ka : a ∉ W.drop i := by decide) (kb : b ∉ W.drop i := by decide)
    (hw : f u v = w := by rfl) : after ops V (Proc.devRef .tc y) = w :=
  (((last hW i hop hr).trans (binary_result' f ha hb hy _)).trans (congrArg₂ f ((keep hW i ka).trans hu) ((keep hW i kb).trans hv))).trans hw

theorem nary4 (i : ℕ) {f : ((k : Fin 4) → ((![a, b, d, e] : Fin 4 → Ref sig .tc) k).ty.Contents Val) → y.ty.Contents Val} {hxs hy}
    (hop : ops[i]? = some (StableHlo.nary ![a, b, d, e] y f hxs hy)) (hr : y ∉ W.drop (i + 1)) (ka : a ∉ W.drop i) (kb : b ∉ W.drop i)
    (kd : d ∉ W.drop i) (ke : e ∉ W.drop i)
    {u₀ : a.ty.Contents Val} (h₀ : after ops V (Proc.devRef .tc a) = u₀) {u₁ : b.ty.Contents Val} (h₁ : after ops V (Proc.devRef .tc b) = u₁)
    {u₂ : d.ty.Contents Val} (h₂ : after ops V (Proc.devRef .tc d) = u₂) {u₃ : e.ty.Contents Val} (h₃ : after ops V (Proc.devRef .tc e) = u₃)
    {w : y.ty.Contents Val} (hw : f (Fin.cons u₀ (Fin.cons u₁ (Fin.cons u₂ (Fin.cons u₃ (fun i => i.elim0))))) = w) :
    after ops V (Proc.devRef .tc y) = w := by
  refine ((last hW i hop hr).trans (nary4_result' f hxs hy _)).trans ?_
  rw [keep hW i ka, keep hW i kb, keep hW i kd, keep hW i ke, h₀, h₁, h₂, h₃]
  exact hw

end Cert.Step
-- ==== Proof.MlpHost.lean ====
/- What the lines before the kernel call leave in its buffers, one operation after the other: each buffer holds the value the
   reference's line of the same name computes from the same arguments. -/
module

public import proofs.«01_k».proof.Proof.HostStep
public import proofs.«01_k».proof.Proof.Gen.KernelIdeal.Frame
public import proofs.«01_k».proof.Proof.Gen.ReferenceIdeal.Read

@[expose] public section

set_option maxRecDepth 4000

noncomputable section

namespace Cert.MlpHost

open Idealize.ShloMosaic Idealize.ShloMosaic.TcCoe Idealize.SL.Sem Cert.KernelIdeal Cert.KernelIdeal.Gen Cert.ReferenceIdeal.Read

variable {F : FTy → Type} [FloatOps F] (m : (ℓ : Loc nD τ sig) → Buf (Elt F) ℓ) (c : Dev nD)

/-- Everything the lines write, in order. -/
abbrev W : List (Ref sig .tc) := [main_v0, main_call0_v0, main_call0_v1, main_call0_cst, main_call0_v2, main_call0_v3, main_call0_cst_0, main_call0_v4, main_call0_v5, main_v1, main_v2, main_v3, main_v4, main_v5, main_cst, main_v6, main_v7, main_v8, main_v9, main_v10, main_v11, main_v12, main_v13, main_v14, main_v15, main_v16, main_v17, main_v18, main_cst_0, main_v19, main_v20, main_v21, main_v22, main_v23, main_v24, main_v25, main_v26, main_v27, main_v28, main_v29, main_v30, main_v31, main_v32, main_v33, main_v34, main_v35, main_v36, main_v37, main_v38, main_v39, main_v40, main_v41, main_call1_call0_cst, main_call1_call0_v0, main_v42, main_v43, main_cst_1, main_v44, main_v45, main_v46, main_v47, main_cst_2, main_v48, main_v49, main_v50, main_v51, main_cst_3, main_v52, main_v53, main_v54, main_v55, main_v56, main_v57, main_v58, main_cst_4, main_v59, main_v60, main_v61, main_v62, main_cst_5, main_v63, main_v64, main_v65, main_v66, main_v67, main_v68, main_v69, main_cst_6, main_v70, main_v71, main_v72, main_v73, main_cst_7, main_v74, main_v75, main_v76, main_v77, main_v78, main_v79, main_v80, main_cst_8, main_v81, main_v82, main_v83, main_v84, main_cst_9, main_v85, main_v86, main_v87, main_v88, main_v89, main_v90, main_v91, main_v92, main_v93, main_v94, main_v95, main_v96, main_v97, main_v98, main_v99, main_v100, main_v101, main_v102, main_cst_10, main_v103, main_v104, main_v105, main_cst_11, main_v106, main_v107, main_v108, main_v109, main_v110, main_cst_12, main_v111, main_v112, main_cst_13, main_v113, main_v114, main_v115, main_v116, main_v117, main_cst_14, main_v118, main_v119, main_cst_15, main_v120, main_v121, main_cst_16, main_v122, main_v123, main_v124, main_v125, main_v126, main_v127, main_v128, main_v129, main_v130]

theorem hW : Step.Writes (τ := τ) (Val := Elt F) (List.flatten [hostOps0, hostOps0_1, hostOps0_2, hostOps0_3, hostOps0_4]) W := rfl

/-- What the buffer `b` holds when the program starts. -/
abbrev A (b : Ref sig .tc) : b.ty.Contents (Elt F) := m (c, Proc.devRef .tc b)
abbrev a1 := A m c main_arg1
abbrev a2 := A m c main_arg2
abbrev a3 := A m c main_arg3
abbrev a4 := A m c main_arg4
abbrev a5 := A m c main_arg5
abbrev a6 := A m c main_arg6
abbrev a7 := A m c main_arg7
abbrev a8 := A m c main_arg8
abbrev a9 := A m c main_arg9
theorem v_main_arg1 : V m c main_arg1 = A m c main_arg1 := Step.arg hW
theorem v_main_arg0 : V m c main_arg0 = A m c main_arg0 := Step.arg hW
theorem v_main_arg10 : V m c main_arg10 = A m c main_arg10 := Step.arg hW
theorem v_main_arg11 : V m c main_arg11 = A m c main_arg11 := Step.arg hW
theorem v_main_arg12 : V m c main_arg12 = A m c main_arg12 := Step.arg hW
theorem v_main_arg13 : V m c main_arg13 = A m c main_arg13 := Step.arg hW
theorem v_main_arg14 : V m c main_arg14 = A m c main_arg14 := Step.arg hW
theorem v_main_arg15 : V m c main_arg15 = A m c main_arg15 := Step.arg hW
theorem v_main_arg2 : V m c main_arg2 = A m c main_arg2 := Step.arg hW
theorem v_main_arg3 : V m c main_arg3 = A m c main_arg3 := Step.arg hW
theorem v_main_arg4 : V m c main_arg4 = A m c main_arg4 := Step.arg hW
theorem v_main_arg5 : V m c main_arg5 = A m c main_arg5 := Step.arg hW
theorem v_main_arg6 : V m c main_arg6 = A m c main_arg6 := Step.arg hW
theorem v_main_arg7 : V m c main_arg7 = A m c main_arg7 := Step.arg hW
theorem v_main_arg8 : V m c main_arg8 = A m c main_arg8 := Step.arg hW
theorem v_main_arg9 : V m c main_arg9 = A m c main_arg9 := Step.arg hW
theorem v_main_call0_v0 : V m c main_call0_v0 = val_main_call0_v0 (a2 m c) := Step.unary hW 1 (v_main_arg2 m c)
theorem v_main_call0_v1 : V m c main_call0_v1 = val_main_call0_v1 (a2 m c) := Step.unary hW 2 (v_main_call0_v0 m c)
theorem v_main_call0_cst : V m c main_call0_cst = val_main_call0_cst (F := F) := Step.nullary hW 3
theorem v_main_call0_v2 : V m c main_call0_v2 = val_main_call0_v2 (F := F) := Step.unary hW 4 (v_main_call0_cst m c)
theorem v_main_call0_v3 : V m c main_call0_v3 = val_main_call0_v3 (a2 m c) := Step.binary hW 5 (v_main_call0_v2 m c) (v_main_call0_v1 m c)
theorem v_main_call0_cst_0 : V m c main_call0_cst_0 = val_main_call0_cst_0 (F := F) := Step.nullary hW 6
theorem v_main_call0_v4 : V m c main_call0_v4 = val_main_call0_v4 (F := F) := Step.unary hW 7 (v_main_call0_cst_0 m c)
theorem v_main_call0_v5 : V m c main_call0_v5 = val_main_call0_v5 (a2 m c) := Step.binary hW 8 (v_main_call0_v4 m c) (v_main_call0_v3 m c)
theorem v_main_v1 : V m c main_v1 = val_main_v0 (a2 m c) := Step.binary hW 9 (v_main_arg2 m c) (v_main_call0_v5 m c)
theorem v_main_v2 : V m c main_v2 = val_main_v1 (a2 m c) (a3 m c) := Step.binary hW 10 (v_main_v1 m c) (v_main_arg3 m c)
theorem v_main_v3 : V m c main_v3 = val_main_v2 (a2 m c) (a3 m c) (a4 m c) := Step.binary hW 11 (v_main_v2 m c) (v_main_arg4 m c)
theorem v_main_v4 : V m c main_v4 = val_main_v3 (a2 m c) (a3 m c) (a4 m c) := Step.reshape hW 12 (v_main_v3 m c)
theorem v_main_v5 : V m c main_v5 = val_main_v4 (a2 m c) (a3 m c) (a4 m c) := Step.unary hW 13 (v_main_v4 m c)
theorem v_main_cst : V m c main_cst = val_main_cst (F := F) := Step.nullary hW 14
theorem v_main_v6 : V m c main_v6 = val_main_v5 (F := F) := Step.unary hW 15 (v_main_cst m c)
theorem v_main_v7 : V m c main_v7 = val_main_v6 (a2 m c) (a3 m c) (a4 m c) := Step.binary hW 16 (v_main_v6 m c) (v_main_v5 m c)
theorem v_main_v8 : V m c main_v8 = val_main_v7 (a2 m c) (a3 m c) (a4 m c) := Step.unary hW 17 (v_main_v7 m c)
theorem v_main_v9 : V m c main_v9 = val_main_v8 (a1 m c) (a2 m c) (a3 m c) (a4 m c) := Step.binary hW 18 (v_main_arg1 m c) (v_main_v8 m c)
theorem v_main_v10 : V m c main_v10 = val_main_v9 (a2 m c) (a3 m c) (a4 m c) := Step.unary hW 19 (v_main_v4 m c)
theorem v_main_v11 : V m c main_v11 = val_main_v10 (a2 m c) (a3 m c) (a4 m c) := Step.unary hW 20 (v_main_v10 m c)
theorem v_main_v12 : V m c main_v12 = val_main_v11 (a1 m c) (a2 m c) (a3 m c) (a4 m c) := Step.binary hW 21 (v_main_v9 m c) (v_main_v11 m c)
theorem v_main_v13 : V m c main_v13 = val_main_v12 (a1 m c) (a2 m c) (a3 m c) (a4 m c) (a5 m c) := Step.binary hW 22 (v_main_v12 m c) (v_main_arg5 m c)
theorem v_main_v14 : V m c main_v14 = val_main_v13 (a1 m c) (a2 m c) (a3 m c) (a4 m c) (a5 m c) := Step.unary hW 23 (v_main_v13 m c)
theorem v_main_v15 : V m c main_v15 = val_main_v14 (a1 m c) (a2 m c) (a3 m c) (a4 m c) (a5 m c) := Step.unary hW 24 (v_main_v13 m c)
theorem v_main_v16 : V m c main_v16 = val_main_v15 (a1 m c) (a2 m c) (a3 m c) (a4 m c) (a5 m c) := Step.unary hW 25 (v_main_v13 m c)
theorem v_main_v17 : V m c main_v17 = val_main_v16 (a1 m c) (a2 m c) (a3 m c) (a4 m c) (a5 m c) := Step.unary hW 26 (v_main_v13 m c)
theorem v_main_v18 : V m c main_v18 = val_main_v17 (a1 m c) (a2 m c) (a3 m c) (a4 m c) (a5 m c) := Step.binary hW 27 (v_main_v15 m c) (v_main_v16 m c)
theorem v_main_cst_0 : V m c main_cst_0 = val_main_cst_0 (F := F) := Step.nullary hW 28
theorem v_main_v19 : V m c main_v19 = val_main_v18 (F := F) := Step.unary hW 29 (v_main_cst_0 m c)
theorem v_main_v20 : V m c main_v20 = val_main_v19 (a1 m c) (a2 m c) (a3 m c) (a4 m c) (a5 m c) := Step.binary hW 30 (v_main_v19 m c) (v_main_v18 m c)
theorem v_main_v21 : V m c main_v21 = val_main_v20 (a1 m c) (a2 m c) (a3 m c) (a4 m c) (a5 m c) := Step.unary hW 31 (v_main_v20 m c)
theorem v_main_v22 : V m c main_v22 = val_main_v21 (a6 m c) := Step.unary hW 32 (v_main_arg6 m c)
theorem v_main_v23 : V m c main_v23 = val_main_v22 (a6 m c) := Step.reshape hW 33 (v_main_v22 m c)
theorem v_main_v24 : V m c main_v24 = val_main_v23 (a6 m c) := Step.unary hW 34 (v_main_v23 m c)
theorem v_main_v25 : V m c main_v25 = val_main_v24 (a6 m c) := Step.unary hW 35 (v_main_v24 m c)
theorem v_main_v26 : V m c main_v26 = val_main_v25 (a1 m c) (a2 m c) (a3 m c) (a4 m c) (a5 m c) (a6 m c) := Step.binary hW 36 (v_main_v21 m c) (v_main_v25 m c)
theorem v_main_v27 : V m c main_v27 = val_main_v26 (a1 m c) (a2 m c) (a3 m c) (a4 m c) (a5 m c) := Step.unary hW 37 (v_main_v20 m c)
theorem v_main_v28 : V m c main_v28 = val_main_v27 (a6 m c) := Step.unary hW 38 (v_main_arg6 m c)
theorem v_main_v29 : V m c main_v29 = val_main_v28 (a6 m c) := Step.reshape hW 39 (v_main_v28 m c)
theorem v_main_v30 : V m c main_v30 = val_main_v29 (a6 m c) := Step.unary hW 40 (v_main_v29 m c)
theorem v_main_v31 : V m c main_v31 = val_main_v30 (a6 m c) := Step.unary hW 41 (v_main_v30 m c)
theorem v_main_v32 : V m c main_v32 = val_main_v31 (a1 m c) (a2 m c) (a3 m c) (a4 m c) (a5 m c) (a6 m c) := Step.binary hW 42 (v_main_v27 m c) (v_main_v31 m c)
theorem v_main_v33 : V m c main_v33 = val_main_v32 (a1 m c) (a2 m c) (a3 m c) (a4 m c) (a5 m c) (a6 m c) := Step.binary hW 43 (v_main_v26 m c) (v_main_v32 m c)
theorem v_main_v34 : V m c main_v34 = val_main_v33 (a1 m c) (a2 m c) (a3 m c) (a4 m c) (a5 m c) := Step.unary hW 44 (v_main_v20 m c)
theorem v_main_v35 : V m c main_v35 = val_main_v34 (a6 m c) := Step.unary hW 45 (v_main_arg6 m c)
theorem v_main_v36 : V m c main_v36 = val_main_v35 (a6 m c) := Step.reshape hW 46 (v_main_v35 m c)
theorem v_main_v37 : V m c main_v37 = val_main_v36 (a6 m c) := Step.unary hW 47 (v_main_v36 m c)
theorem v_main_v38 : V m c main_v38 = val_main_v37 (a6 m c) := Step.unary hW 48 (v_main_v37 m c)
theorem v_main_v39 : V m c main_v39 = val_main_v38 (a1 m c) (a2 m c) (a3 m c) (a4 m c) (a5 m c) (a6 m c) := Step.binary hW 49 (v_main_v34 m c) (v_main_v38 m c)
theorem v_main_v40 : V m c main_v40 = val_main_v39 (a1 m c) (a2 m c) (a3 m c) (a4 m c) (a5 m c) (a6 m c) := Step.binary hW 50 (v_main_v33 m c) (v_main_v39 m c)
theorem v_main_v41 : V m c main_v41 = val_main_v40 (a1 m c) (a2 m c) (a3 m c) (a4 m c) (a5 m c) (a6 m c) := Step.binary hW 51 (v_main_v14 m c) (v_main_v40 m c)
theorem v_main_call1_call0_cst : V m c main_call1_call0_cst = val_main_call1_call0_cst (F := F) := Step.nullary hW 52
theorem v_main_call1_call0_v0 : V m c main_call1_call0_v0 = val_main_call1_call0_v0 (F := F) := Step.unary hW 53 (v_main_call1_call0_cst m c)
theorem v_main_v42 : V m c main_v42 = val_main_v41 (a1 m c) (a2 m c) (a3 m c) (a4 m c) (a5 m c) := Step.binary hW 54 (v_main_v17 m c) (v_main_call1_call0_v0 m c)
theorem v_main_v43 : V m c main_v43 = val_main_v42 (F := F) := Step.nullary hW 55
theorem v_main_cst_1 : V m c main_cst_1 = val_main_cst_1 (F := F) := Step.nullary hW 56
theorem v_main_v44 : V m c main_v44 = val_main_v43 (F := F) := Step.unary hW 57 (v_main_cst_1 m c)
theorem v_main_v45 : V m c main_v45 = val_main_v44 (F := F) := Step.binary hW 58 (v_main_v44 m c) (v_main_v43 m c)
theorem v_main_v46 : V m c main_v46 = val_main_v45 (F := F) := Step.unary hW 59 (v_main_v45 m c)
theorem v_main_v47 : V m c main_v47 = val_main_v46 (a1 m c) (a2 m c) (a3 m c) (a4 m c) (a5 m c) := Step.unary hW 60 (v_main_v42 m c)
theorem v_main_cst_2 : V m c main_cst_2 = val_main_cst_2 (F := F) := Step.nullary hW 61
theorem v_main_v48 : V m c main_v48 = val_main_v47 (F := F) := Step.unary hW 62 (v_main_cst_2 m c)
theorem v_main_v49 : V m c main_v49 = val_main_v48 (a1 m c) (a2 m c) (a3 m c) (a4 m c) (a5 m c) := Step.binary hW 63 (v_main_v48 m c) (v_main_v47 m c)
theorem v_main_v50 : V m c main_v50 = val_main_v49 (a1 m c) (a2 m c) (a3 m c) (a4 m c) (a5 m c) := Step.unary hW 64 (v_main_v49 m c)
theorem v_main_v51 : V m c main_v51 = val_main_v50 (a1 m c) (a2 m c) (a3 m c) (a4 m c) (a5 m c) := Step.binary hW 65 (v_main_v47 m c) (v_main_v50 m c)
theorem v_main_cst_3 : V m c main_cst_3 = val_main_cst_3 (F := F) := Step.nullary hW 66
theorem v_main_v52 : V m c main_v52 = val_main_v51 (F := F) := Step.unary hW 67 (v_main_cst_3 m c)
theorem v_main_v53 : V m c main_v53 = val_main_v52 (F := F) := Step.binary hW 68 (v_main_v46 m c) (v_main_v52 m c)
theorem v_main_v54 : V m c main_v54 = val_main_v53 (F := F) := Step.unary hW 69 (v_main_v53 m c)
theorem v_main_v55 : V m c main_v55 = val_main_v54 (a1 m c) (a2 m c) (a3 m c) (a4 m c) (a5 m c) := Step.binary hW 70 (v_main_v51 m c) (v_main_v54 m c)
theorem v_main_v56 : V m c main_v56 = val_main_v55 (a1 m c) (a2 m c) (a3 m c) (a4 m c) (a5 m c) := Step.unary hW 71 (v_main_v17 m c)
theorem v_main_v57 : V m c main_v57 = val_main_v56 (a1 m c) (a2 m c) (a3 m c) (a4 m c) (a5 m c) := Step.binary hW 72 (v_main_v55 m c) (v_main_v56 m c)
theorem v_main_v58 : V m c main_v58 = val_main_v57 (a1 m c) (a2 m c) (a3 m c) (a4 m c) (a5 m c) := Step.unary hW 73 (v_main_v42 m c)
theorem v_main_cst_4 : V m c main_cst_4 = val_main_cst_4 (F := F) := Step.nullary hW 74
theorem v_main_v59 : V m c main_v59 = val_main_v58 (F := F) := Step.unary hW 75 (v_main_cst_4 m c)
theorem v_main_v60 : V m c main_v60 = val_main_v59 (a1 m c) (a2 m c) (a3 m c) (a4 m c) (a5 m c) := Step.binary hW 76 (v_main_v59 m c) (v_main_v58 m c)
theorem v_main_v61 : V m c main_v61 = val_main_v60 (a1 m c) (a2 m c) (a3 m c) (a4 m c) (a5 m c) := Step.unary hW 77 (v_main_v60 m c)
theorem v_main_v62 : V m c main_v62 = val_main_v61 (a1 m c) (a2 m c) (a3 m c) (a4 m c) (a5 m c) := Step.binary hW 78 (v_main_v58 m c) (v_main_v61 m c)
theorem v_main_cst_5 : V m c main_cst_5 = val_main_cst_5 (F := F) := Step.nullary hW 79
theorem v_main_v63 : V m c main_v63 = val_main_v62 (F := F) := Step.unary hW 80 (v_main_cst_5 m c)
theorem v_main_v64 : V m c main_v64 = val_main_v63 (F := F) := Step.binary hW 81 (v_main_v46 m c) (v_main_v63 m c)
theorem v_main_v65 : V m c main_v65 = val_main_v64 (F := F) := Step.unary hW 82 (v_main_v64 m c)
theorem v_main_v66 : V m c main_v66 = val_main_v65 (a1 m c) (a2 m c) (a3 m c) (a4 m c) (a5 m c) := Step.binary hW 83 (v_main_v62 m c) (v_main_v65 m c)
theorem v_main_v67 : V m c main_v67 = val_main_v66 (a1 m c) (a2 m c) (a3 m c) (a4 m c) (a5 m c) := Step.unary hW 84 (v_main_v17 m c)
theorem v_main_v68 : V m c main_v68 = val_main_v67 (a1 m c) (a2 m c) (a3 m c) (a4 m c) (a5 m c) := Step.binary hW 85 (v_main_v66 m c) (v_main_v67 m c)
theorem v_main_v69 : V m c main_v69 = val_main_v68 (a1 m c) (a2 m c) (a3 m c) (a4 m c) (a5 m c) := Step.unary hW 86 (v_main_v42 m c)
theorem v_main_cst_6 : V m c main_cst_6 = val_main_cst_6 (F := F) := Step.nullary hW 87
theorem v_main_v70 : V m c main_v70 = val_main_v69 (F := F) := Step.unary hW 88 (v_main_cst_6 m c)
theorem v_main_v71 : V m c main_v71 = val_main_v70 (a1 m c) (a2 m c) (a3 m c) (a4 m c) (a5 m c) := Step.binary hW 89 (v_main_v70 m c) (v_main_v69 m c)
theorem v_main_v72 : V m c main_v72 = val_main_v71 (a1 m c) (a2 m c) (a3 m c) (a4 m c) (a5 m c) := Step.unary hW 90 (v_main_v71 m c)
theorem v_main_v73 : V m c main_v73 = val_main_v72 (a1 m c) (a2 m c) (a3 m c) (a4 m c) (a5 m c) := Step.binary hW 91 (v_main_v69 m c) (v_main_v72 m c)
theorem v_main_cst_7 : V m c main_cst_7 = val_main_cst_7 (F := F) := Step.nullary hW 92
theorem v_main_v74 : V m c main_v74 = val_main_v73 (F := F) := Step.unary hW 93 (v_main_cst_7 m c)
theorem v_main_v75 : V m c main_v75 = val_main_v74 (F := F) := Step.binary hW 94 (v_main_v46 m c) (v_main_v74 m c)
theorem v_main_v76 : V m c main_v76 = val_main_v75 (F := F) := Step.unary hW 95 (v_main_v75 m c)
theorem v_main_v77 : V m c main_v77 = val_main_v76 (a1 m c) (a2 m c) (a3 m c) (a4 m c) (a5 m c) := Step.binary hW 96 (v_main_v73 m c) (v_main_v76 m c)
theorem v_main_v78 : V m c main_v78 = val_main_v77 (a1 m c) (a2 m c) (a3 m c) (a4 m c) (a5 m c) := Step.unary hW 97 (v_main_v17 m c)
theorem v_main_v79 : V m c main_v79 = val_main_v78 (a1 m c) (a2 m c) (a3 m c) (a4 m c) (a5 m c) := Step.binary hW 98 (v_main_v77 m c) (v_main_v78 m c)
theorem v_main_v80 : V m c main_v80 = val_main_v79 (a1 m c) (a2 m c) (a3 m c) (a4 m c) (a5 m c) := Step.unary hW 99 (v_main_v42 m c)
theorem v_main_cst_8 : V m c main_cst_8 = val_main_cst_8 (F := F) := Step.nullary hW 100
theorem v_main_v81 : V m c main_v81 = val_main_v80 (F := F) := Step.unary hW 101 (v_main_cst_8 m c)
theorem v_main_v82 : V m c main_v82 = val_main_v81 (a1 m c) (a2 m c) (a3 m c) (a4 m c) (a5 m c) := Step.binary hW 102 (v_main_v81 m c) (v_main_v80 m c)
theorem v_main_v83 : V m c main_v83 = val_main_v82 (a1 m c) (a2 m c) (a3 m c) (a4 m c) (a5 m c) := Step.unary hW 103 (v_main_v82 m c)
theorem v_main_v84 : V m c main_v84 = val_main_v83 (a1 m c) (a2 m c) (a3 m c) (a4 m c) (a5 m c) := Step.binary hW 104 (v_main_v80 m c) (v_main_v83 m c)
theorem v_main_cst_9 : V m c main_cst_9 = val_main_cst_9 (F := F) := Step.nullary hW 105
theorem v_main_v85 : V m c main_v85 = val_main_v84 (F := F) := Step.unary hW 106 (v_main_cst_9 m c)
theorem v_main_v86 : V m c main_v86 = val_main_v85 (F := F) := Step.binary hW 107 (v_main_v46 m c) (v_main_v85 m c)
theorem v_main_v87 : V m c main_v87 = val_main_v86 (F := F) := Step.unary hW 108 (v_main_v86 m c)
theorem v_main_v88 : V m c main_v88 = val_main_v87 (a1 m c) (a2 m c) (a3 m c) (a4 m c) (a5 m c) := Step.binary hW 109 (v_main_v84 m c) (v_main_v87 m c)
theorem v_main_v89 : V m c main_v89 = val_main_v88 (a1 m c) (a2 m c) (a3 m c) (a4 m c) (a5 m c) := Step.unary hW 110 (v_main_v17 m c)
theorem v_main_v90 : V m c main_v90 = val_main_v89 (a1 m c) (a2 m c) (a3 m c) (a4 m c) (a5 m c) := Step.binary hW 111 (v_main_v88 m c) (v_main_v89 m c)
theorem v_main_v91 : V m c main_v91 = val_main_v90 (a1 m c) (a2 m c) (a3 m c) (a4 m c) (a5 m c) := Step.unary hW 112 (v_main_v57 m c)
theorem v_main_v92 : V m c main_v92 = val_main_v91 (a1 m c) (a2 m c) (a3 m c) (a4 m c) (a5 m c) := Step.unary hW 113 (v_main_v68 m c)
theorem v_main_v93 : V m c main_v93 = val_main_v92 (a1 m c) (a2 m c) (a3 m c) (a4 m c) (a5 m c) := Step.unary hW 114 (v_main_v79 m c)
theorem v_main_v94 : V m c main_v94 = val_main_v93 (a1 m c) (a2 m c) (a3 m c) (a4 m c) (a5 m c) := Step.unary hW 115 (v_main_v90 m c)
theorem v_main_v95 : V m c main_v95 = val_main_v94 (a1 m c) (a2 m c) (a3 m c) (a4 m c) (a5 m c) := Step.nary4 hW (a := main_v91) (b := main_v92) (d := main_v93) (e := main_v94) (y := main_v95) 116 rfl (by decide) (by decide) (by decide) (by decide) (by decide) (v_main_v91 m c) (v_main_v92 m c) (v_main_v93 m c) (v_main_v94 m c) rfl
theorem v_main_v96 : V m c main_v96 = val_main_v95 (a1 m c) (a2 m c) (a3 m c) (a4 m c) (a5 m c) (a7 m c) := Step.binary hW 117 (v_main_arg7 m c) (v_main_v95 m c)
theorem v_main_v97 : V m c main_v97 = val_main_v96 (a1 m c) (a2 m c) (a3 m c) (a4 m c) (a5 m c) (a7 m c) := Step.unary hW 118 (v_main_v96 m c)
theorem v_main_v98 : V m c main_v98 = val_main_v97 (a1 m c) (a2 m c) (a3 m c) (a4 m c) (a5 m c) (a7 m c) := Step.reshape hW 119 (v_main_v97 m c)
theorem v_main_v99 : V m c main_v99 = val_main_v98 (a8 m c) := Step.unary hW 120 (v_main_arg8 m c)
theorem v_main_v100 : V m c main_v100 = val_main_v99 (a1 m c) (a2 m c) (a3 m c) (a4 m c) (a5 m c) (a7 m c) (a8 m c) := Step.binary hW 121 (v_main_v98 m c) (v_main_v99 m c)
theorem v_main_v101 : V m c main_v101 = val_main_v100 (a1 m c) (a2 m c) (a3 m c) (a4 m c) (a5 m c) (a6 m c) (a7 m c) (a8 m c) := Step.binary hW 122 (v_main_v41 m c) (v_main_v100 m c)
theorem v_main_v102 : V m c main_v102 = val_main_v101 (a1 m c) (a2 m c) (a3 m c) (a4 m c) (a5 m c) (a6 m c) (a7 m c) (a8 m c) (a9 m c) := Step.binary hW 123 (v_main_v101 m c) (v_main_arg9 m c)
theorem v_main_cst_10 : V m c main_cst_10 = val_main_cst_10 (F := F) := Step.nullary hW 124
theorem v_main_v103 : V m c main_v103 = val_main_v102 (F := F) := Step.unary hW 125 (v_main_cst_10 m c)
theorem v_main_v104 : V m c main_v104 = val_main_v103 (a1 m c) := Step.binary hW 126 (v_main_v103 m c) (v_main_arg1 m c)
theorem v_main_v105 : V m c main_v105 = val_main_v104 (a2 m c) (a3 m c) (a4 m c) := Step.unary hW 127 (v_main_v4 m c)
theorem v_main_cst_11 : V m c main_cst_11 = val_main_cst_11 (F := F) := Step.nullary hW 128
theorem v_main_v106 : V m c main_v106 = val_main_v105 (F := F) := Step.unary hW 129 (v_main_cst_11 m c)
theorem v_main_v107 : V m c main_v107 = val_main_v106 (a2 m c) (a3 m c) (a4 m c) := Step.binary hW 130 (v_main_v106 m c) (v_main_v105 m c)
theorem v_main_v108 : V m c main_v108 = val_main_v107 (a2 m c) (a3 m c) (a4 m c) := Step.unary hW 131 (v_main_v107 m c)
theorem v_main_v109 : V m c main_v109 = val_main_v108 (a1 m c) (a2 m c) (a3 m c) (a4 m c) (a5 m c) (a6 m c) (a7 m c) (a8 m c) (a9 m c) := Step.binary hW 132 (v_main_v108 m c) (v_main_v102 m c)
theorem v_main_v110 : V m c main_v110 = val_main_v109 (a1 m c) (a2 m c) (a3 m c) (a4 m c) (a5 m c) (a6 m c) (a7 m c) (a8 m c) (a9 m c) := Step.binary hW 133 (v_main_v104 m c) (v_main_v109 m c)
theorem v_main_cst_12 : V m c main_cst_12 = val_main_cst_12 (F := F) := Step.nullary hW 134
theorem v_main_v111 : V m c main_v111 = val_main_v110 (a1 m c) (a2 m c) (a3 m c) (a4 m c) (a5 m c) (a6 m c) (a7 m c) (a8 m c) (a9 m c) := Step.binary hW 135 (v_main_v110 m c) (v_main_cst_12 m c)
theorem v_main_v112 : V m c main_v112 = val_main_v111 (a1 m c) (a2 m c) (a3 m c) (a4 m c) (a5 m c) (a6 m c) (a7 m c) (a8 m c) (a9 m c) := Step.unary hW 136 (v_main_v111 m c)
theorem v_main_cst_13 : V m c main_cst_13 = val_main_cst_13 (F := F) := Step.nullary hW 137
theorem v_main_v113 : V m c main_v113 = val_main_v112 (F := F) := Step.unary hW 138 (v_main_cst_13 m c)
theorem v_main_v114 : V m c main_v114 = val_main_v113 (a1 m c) (a2 m c) (a3 m c) (a4 m c) (a5 m c) (a6 m c) (a7 m c) (a8 m c) (a9 m c) := Step.binary hW 139 (v_main_v112 m c) (v_main_v113 m c)
theorem v_main_v115 : V m c main_v115 = val_main_v114 (a1 m c) (a2 m c) (a3 m c) (a4 m c) (a5 m c) (a6 m c) (a7 m c) (a8 m c) (a9 m c) := Step.unary hW 140 (v_main_v114 m c)
theorem v_main_v116 : V m c main_v116 = val_main_v115 (a1 m c) (a2 m c) (a3 m c) (a4 m c) (a5 m c) (a6 m c) (a7 m c) (a8 m c) (a9 m c) := Step.binary hW 141 (v_main_v110 m c) (v_main_v115 m c)
theorem v_main_v117 : V m c main_v117 = val_main_v116 (a1 m c) (a2 m c) (a3 m c) (a4 m c) (a5 m c) (a6 m c) (a7 m c) (a8 m c) (a9 m c) := Step.binary hW 142 (v_main_v116 m c) (v_main_v116 m c)
theorem v_main_cst_14 : V m c main_cst_14 = val_main_cst_14 (F := F) := Step.nullary hW 143
theorem v_main_v118 : V m c main_v118 = val_main_v117 (a1 m c) (a2 m c) (a3 m c) (a4 m c) (a5 m c) (a6 m c) (a7 m c) (a8 m c) (a9 m c) := Step.binary hW 144 (v_main_v117 m c) (v_main_cst_14 m c)
theorem v_main_v119 : V m c main_v119 = val_main_v118 (a1 m c) (a2 m c) (a3 m c) (a4 m c) (a5 m c) (a6 m c) (a7 m c) (a8 m c) (a9 m c) := Step.unary hW 145 (v_main_v118 m c)
theorem v_main_cst_15 : V m c main_cst_15 = val_main_cst_15 (F := F) := Step.nullary hW 146
theorem v_main_v120 : V m c main_v120 = val_main_v119 (F := F) := Step.unary hW 147 (v_main_cst_15 m c)
theorem v_main_v121 : V m c main_v121 = val_main_v120 (a1 m c) (a2 m c) (a3 m c) (a4 m c) (a5 m c) (a6 m c) (a7 m c) (a8 m c) (a9 m c) := Step.binary hW 148 (v_main_v119 m c) (v_main_v120 m c)
theorem v_main_cst_16 : V m c main_cst_16 = val_main_cst_16 (F := F) := Step.nullary hW 149
theorem v_main_v122 : V m c main_v122 = val_main_v123 (F := F) := Step.unary hW 150 (v_main_cst_16 m c)
theorem v_main_v123 : V m c main_v123 = val_main_v124 (a1 m c) (a2 m c) (a3 m c) (a4 m c) (a5 m c) (a6 m c) (a7 m c) (a8 m c) (a9 m c) := Step.binary hW 151 (v_main_v121 m c) (v_main_v122 m c)
theorem v_main_v124 : V m c main_v124 = val_main_v125 (a1 m c) (a2 m c) (a3 m c) (a4 m c) (a5 m c) (a6 m c) (a7 m c) (a8 m c) (a9 m c) := Step.unary hW 152 (v_main_v123 m c)
theorem v_main_v125 : V m c main_v125 = val_main_v121 (a1 m c) (a2 m c) (a3 m c) (a4 m c) (a5 m c) (a6 m c) (a7 m c) (a8 m c) (a9 m c) := Step.unary hW 153 (v_main_v114 m c)
theorem v_main_v126 : V m c main_v126 = val_main_v122 (a1 m c) (a2 m c) (a3 m c) (a4 m c) (a5 m c) (a6 m c) (a7 m c) (a8 m c) (a9 m c) := Step.binary hW 154 (v_main_v110 m c) (v_main_v125 m c)
theorem v_main_v127 : V m c main_v127 = val_main_v126 (a1 m c) (a2 m c) (a3 m c) (a4 m c) (a5 m c) (a6 m c) (a7 m c) (a8 m c) (a9 m c) := Step.unary hW 155 (v_main_v124 m c)
theorem v_main_v128 : V m c main_v128 = val_main_v127 (a1 m c) (a2 m c) (a3 m c) (a4 m c) (a5 m c) (a6 m c) (a7 m c) (a8 m c) (a9 m c) := Step.binary hW 156 (v_main_v126 m c) (v_main_v127 m c)
theorem v_main_v0 : V m c main_v0 = concatenate S4x1024 0 [⟨S1x1024, A m c main_arg10⟩, ⟨S1x1024, A m c main_arg11⟩, ⟨S1x1024, A m c main_arg14⟩, ⟨S1x1024, A m c main_arg15⟩] concatenates_S1x1024_S1x1024_S1x1024_S1x1024_S4x1024_d0 := Step.nary4 hW (a := main_arg10) (b := main_arg11) (d := main_arg14) (e := main_arg15) (y := main_v0) 0 rfl (by decide) (by decide) (by decide) (by decide) (by decide) (v_main_arg10 m c) (v_main_arg11 m c) (v_main_arg14 m c) (v_main_arg15 m c) rfl
theorem v_main_v129 : V m c main_v129 = truncf .bf16 (A m c main_arg12 : FVec F S1024x4096 .f32) bitsLt_bf16_f32 := Step.unary hW 157 (v_main_arg12 m c)
theorem v_main_v130 : V m c main_v130 = truncf .bf16 (A m c main_arg13 : FVec F S4096x1024 .f32) bitsLt_bf16_f32 := Step.unary hW 158 (v_main_arg13 m c)

end Cert.MlpHost
-- ==== Proof.MlpFinite.lean ====
/- The forward lines of the reference on finite arguments: every value they compute is a real number, the square roots and
   the divisions being of positive numbers. -/
module

public import proofs.«01_k».proof.Proof.Finite
public import proofs.«01_k».proof.Proof.Gen.ReferenceIdeal.Read

@[expose] public section

noncomputable section

namespace Cert.MlpFinite

open Cert.RealMat Cert.Finite Idealize.ShloMosaic Cert.ReferenceIdeal Cert.ReferenceIdeal.Gen Cert.ReferenceIdeal.Read

variable {x1 : (⟨S8192x1024, .f32⟩ : BufTy).Contents (Elt Ideal)} {x2 : (⟨S1x1024, .f32⟩ : BufTy).Contents (Elt Ideal)} {x3 : (⟨S1024x6144, .f32⟩ : BufTy).Contents (Elt Ideal)} {x4 : (⟨S1x6144, .f32⟩ : BufTy).Contents (Elt Ideal)} {x5 : (⟨S1024x2048, .f32⟩ : BufTy).Contents (Elt Ideal)} {x6 : (⟨S3x512, .f32⟩ : BufTy).Contents (Elt Ideal)} {x7 : (⟨S4x128x128, .f32⟩ : BufTy).Contents (Elt Ideal)} {x8 : (⟨S1x512, .f32⟩ : BufTy).Contents (Elt Ideal)} {x9 : (⟨S1024x1024, .f32⟩ : BufTy).Contents (Elt Ideal)}
theorem f_main_call0_v0 (h2 : Fin x2) : Fin (val_main_call0_v0 x2) := h2.neg
theorem f_main_call0_v1 (h2 : Fin x2) : Pos (val_main_call0_v1 x2) := (f_main_call0_v0 h2).exp
theorem f_main_call0_cst  : Pos (val_main_call0_cst (F := Ideal) ) := const ofBits_one (one_pos)
theorem f_main_call0_v2  : Pos (val_main_call0_v2 (F := Ideal) ) := (f_main_call0_cst).bcast
theorem f_main_call0_v3 (h2 : Fin x2) : Pos (val_main_call0_v3 x2) := (f_main_call0_v2).add ((f_main_call0_v1 h2).nonneg) add_pos₁
theorem f_main_call0_cst_0  : Pos (val_main_call0_cst_0 (F := Ideal) ) := const ofBits_one (one_pos)
theorem f_main_call0_v4  : Pos (val_main_call0_v4 (F := Ideal) ) := (f_main_call0_cst_0).bcast
theorem f_main_call0_v5 (h2 : Fin x2) : Fin (val_main_call0_v5 x2) := (f_main_call0_v4).div (f_main_call0_v3 h2) (fun _ _ _ _ => trivial)
theorem f_main_v0 (h2 : Fin x2) : Fin (val_main_v0 x2) := h2.mul (f_main_call0_v5 h2)
theorem f_main_v1 (h2 : Fin x2) (h3 : Fin x3) : Fin (val_main_v1 x2 x3) := (f_main_v0 h2).dot h3
theorem f_main_v2 (h2 : Fin x2) (h3 : Fin x3) (h4 : Fin x4) : Fin (val_main_v2 x2 x3 x4) := (f_main_v1 h2 h3).add h4 (fun _ _ _ _ => trivial)
theorem f_main_v3 (h2 : Fin x2) (h3 : Fin x3) (h4 : Fin x4) : Fin (val_main_v3 x2 x3 x4) := (f_main_v2 h2 h3 h4).cast
theorem f_main_v4 (h2 : Fin x2) (h3 : Fin x3) (h4 : Fin x4) : Fin (val_main_v4 x2 x3 x4) := (f_main_v3 h2 h3 h4).slice
theorem f_main_cst  : Pos (val_main_cst (F := Ideal) ) := const ofBits_one (one_pos)
theorem f_main_v5  : Pos (val_main_v5 (F := Ideal) ) := (f_main_cst).bcast
theorem f_main_v6 (h2 : Fin x2) (h3 : Fin x3) (h4 : Fin x4) : Fin (val_main_v6 x2 x3 x4) := (f_main_v5).add (f_main_v4 h2 h3 h4) (fun _ _ _ _ => trivial)
theorem f_main_v7 (h2 : Fin x2) (h3 : Fin x3) (h4 : Fin x4) : Fin (val_main_v7 x2 x3 x4) := (f_main_v6 h2 h3 h4).bcast
theorem f_main_v8 (h1 : Fin x1) (h2 : Fin x2) (h3 : Fin x3) (h4 : Fin x4) : Fin (val_main_v8 x1 x2 x3 x4) := h1.mul (f_main_v7 h2 h3 h4)
theorem f_main_v9 (h2 : Fin x2) (h3 : Fin x3) (h4 : Fin x4) : Fin (val_main_v9 x2 x3 x4) := (f_main_v3 h2 h3 h4).slice
theorem f_main_v10 (h2 : Fin x2) (h3 : Fin x3) (h4 : Fin x4) : Fin (val_main_v10 x2 x3 x4) := (f_main_v9 h2 h3 h4).bcast
theorem f_main_v11 (h1 : Fin x1) (h2 : Fin x2) (h3 : Fin x3) (h4 : Fin x4) : Fin (val_main_v11 x1 x2 x3 x4) := (f_main_v8 h1 h2 h3 h4).add (f_main_v10 h2 h3 h4) (fun _ _ _ _ => trivial)
theorem f_main_v12 (h1 : Fin x1) (h2 : Fin x2) (h3 : Fin x3) (h4 : Fin x4) (h5 : Fin x5) : Fin (val_main_v12 x1 x2 x3 x4 x5) := (f_main_v11 h1 h2 h3 h4).dot h5
theorem f_main_v13 (h1 : Fin x1) (h2 : Fin x2) (h3 : Fin x3) (h4 : Fin x4) (h5 : Fin x5) : Fin (val_main_v13 x1 x2 x3 x4 x5) := (f_main_v12 h1 h2 h3 h4 h5).slice
theorem f_main_v14 (h1 : Fin x1) (h2 : Fin x2) (h3 : Fin x3) (h4 : Fin x4) (h5 : Fin x5) : Fin (val_main_v14 x1 x2 x3 x4 x5) := (f_main_v12 h1 h2 h3 h4 h5).slice
theorem f_main_v15 (h1 : Fin x1) (h2 : Fin x2) (h3 : Fin x3) (h4 : Fin x4) (h5 : Fin x5) : Fin (val_main_v15 x1 x2 x3 x4 x5) := (f_main_v12 h1 h2 h3 h4 h5).slice
theorem f_main_v16 (h1 : Fin x1) (h2 : Fin x2) (h3 : Fin x3) (h4 : Fin x4) (h5 : Fin x5) : Fin (val_main_v16 x1 x2 x3 x4 x5) := (f_main_v12 h1 h2 h3 h4 h5).slice
theorem f_main_v17 (h1 : Fin x1) (h2 : Fin x2) (h3 : Fin x3) (h4 : Fin x4) (h5 : Fin x5) : Fin (val_main_v17 x1 x2 x3 x4 x5) := (f_main_v14 h1 h2 h3 h4 h5).mul (f_main_v15 h1 h2 h3 h4 h5)
theorem f_main_cst_0  : NonNeg (val_main_cst_0 (F := Ideal) ) := const ofBits_zero (le_rfl)
theorem f_main_v18  : NonNeg (val_main_v18 (F := Ideal) ) := (f_main_cst_0).bcast
theorem f_main_v19 (h1 : Fin x1) (h2 : Fin x2) (h3 : Fin x3) (h4 : Fin x4) (h5 : Fin x5) : Fin (val_main_v19 x1 x2 x3 x4 x5) := concat₂ (f_main_v18).fin (f_main_v17 h1 h2 h3 h4 h5).fin
theorem f_main_v20 (h1 : Fin x1) (h2 : Fin x2) (h3 : Fin x3) (h4 : Fin x4) (h5 : Fin x5) : Fin (val_main_v20 x1 x2 x3 x4 x5) := (f_main_v19 h1 h2 h3 h4 h5).slice
theorem f_main_v21 (h6 : Fin x6) : Fin (val_main_v21 x6) := h6.slice
theorem f_main_v22 (h6 : Fin x6) : Fin (val_main_v22 x6) := (f_main_v21 h6).cast
theorem f_main_v23 (h6 : Fin x6) : Fin (val_main_v23 x6) := (f_main_v22 h6).bcast
theorem f_main_v24 (h6 : Fin x6) : Fin (val_main_v24 x6) := (f_main_v23 h6).bcast
theorem f_main_v25 (h1 : Fin x1) (h2 : Fin x2) (h3 : Fin x3) (h4 : Fin x4) (h5 : Fin x5) (h6 : Fin x6) : Fin (val_main_v25 x1 x2 x3 x4 x5 x6) := (f_main_v20 h1 h2 h3 h4 h5).mul (f_main_v24 h6)
theorem f_main_v26 (h1 : Fin x1) (h2 : Fin x2) (h3 : Fin x3) (h4 : Fin x4) (h5 : Fin x5) : Fin (val_main_v26 x1 x2 x3 x4 x5) := (f_main_v19 h1 h2 h3 h4 h5).slice
theorem f_main_v27 (h6 : Fin x6) : Fin (val_main_v27 x6) := h6.slice
theorem f_main_v28 (h6 : Fin x6) : Fin (val_main_v28 x6) := (f_main_v27 h6).cast
theorem f_main_v29 (h6 : Fin x6) : Fin (val_main_v29 x6) := (f_main_v28 h6).bcast
theorem f_main_v30 (h6 : Fin x6) : Fin (val_main_v30 x6) := (f_main_v29 h6).bcast
theorem f_main_v31 (h1 : Fin x1) (h2 : Fin x2) (h3 : Fin x3) (h4 : Fin x4) (h5 : Fin x5) (h6 : Fin x6) : Fin (val_main_v31 x1 x2 x3 x4 x5 x6) := (f_main_v26 h1 h2 h3 h4 h5).mul (f_main_v30 h6)
theorem f_main_v32 (h1 : Fin x1) (h2 : Fin x2) (h3 : Fin x3) (h4 : Fin x4) (h5 : Fin x5) (h6 : Fin x6) : Fin (val_main_v32 x1 x2 x3 x4 x5 x6) := (f_main_v25 h1 h2 h3 h4 h5 h6).add (f_main_v31 h1 h2 h3 h4 h5 h6) (fun _ _ _ _ => trivial)
theorem f_main_v33 (h1 : Fin x1) (h2 : Fin x2) (h3 : Fin x3) (h4 : Fin x4) (h5 : Fin x5) : Fin (val_main_v33 x1 x2 x3 x4 x5) := (f_main_v19 h1 h2 h3 h4 h5).slice
theorem f_main_v34 (h6 : Fin x6) : Fin (val_main_v34 x6) := h6.slice
theorem f_main_v35 (h6 : Fin x6) : Fin (val_main_v35 x6) := (f_main_v34 h6).cast
theorem f_main_v36 (h6 : Fin x6) : Fin (val_main_v36 x6) := (f_main_v35 h6).bcast
theorem f_main_v37 (h6 : Fin x6) : Fin (val_main_v37 x6) := (f_main_v36 h6).bcast
theorem f_main_v38 (h1 : Fin x1) (h2 : Fin x2) (h3 : Fin x3) (h4 : Fin x4) (h5 : Fin x5) (h6 : Fin x6) : Fin (val_main_v38 x1 x2 x3 x4 x5 x6) := (f_main_v33 h1 h2 h3 h4 h5).mul (f_main_v37 h6)
theorem f_main_v39 (h1 : Fin x1) (h2 : Fin x2) (h3 : Fin x3) (h4 : Fin x4) (h5 : Fin x5) (h6 : Fin x6) : Fin (val_main_v39 x1 x2 x3 x4 x5 x6) := (f_main_v32 h1 h2 h3 h4 h5 h6).add (f_main_v38 h1 h2 h3 h4 h5 h6) (fun _ _ _ _ => trivial)
theorem f_main_v40 (h1 : Fin x1) (h2 : Fin x2) (h3 : Fin x3) (h4 : Fin x4) (h5 : Fin x5) (h6 : Fin x6) : Fin (val_main_v40 x1 x2 x3 x4 x5 x6) := (f_main_v13 h1 h2 h3 h4 h5).mul (f_main_v39 h1 h2 h3 h4 h5 h6)
theorem f_main_call1_call0_cst  : NonNeg (val_main_call1_call0_cst (F := Ideal) ) := const ofBits_zero (le_rfl)
theorem f_main_call1_call0_v0  : NonNeg (val_main_call1_call0_v0 (F := Ideal) ) := (f_main_call1_call0_cst).bcast
theorem f_main_v41 (h1 : Fin x1) (h2 : Fin x2) (h3 : Fin x3) (h4 : Fin x4) (h5 : Fin x5) : Fin (val_main_v41 x1 x2 x3 x4 x5) := (f_main_v16 h1 h2 h3 h4 h5).fin.window (f_main_call1_call0_v0).fin
theorem f_main_v42  : NonNeg (val_main_v42 (F := Ideal) ) := iota (by decide)
theorem f_main_cst_1  : Pos (val_main_cst_1 (F := Ideal) ) := const ofBits_one (one_pos)
theorem f_main_v43  : Pos (val_main_v43 (F := Ideal) ) := (f_main_cst_1).bcast
theorem f_main_v44  : Pos (val_main_v44 (F := Ideal) ) := (f_main_v43).add ((f_main_v42)) add_pos₁
theorem f_main_v45  : Pos (val_main_v45 (F := Ideal) ) := (f_main_v44).bcast
theorem f_main_v46 (h1 : Fin x1) (h2 : Fin x2) (h3 : Fin x3) (h4 : Fin x4) (h5 : Fin x5) : Fin (val_main_v46 x1 x2 x3 x4 x5) := (f_main_v41 h1 h2 h3 h4 h5).slice
theorem f_main_cst_2  : NonNeg (val_main_cst_2 (F := Ideal) ) := const ofBits_zero (le_rfl)
theorem f_main_v47  : NonNeg (val_main_v47 (F := Ideal) ) := (f_main_cst_2).bcast
theorem f_main_v48 (h1 : Fin x1) (h2 : Fin x2) (h3 : Fin x3) (h4 : Fin x4) (h5 : Fin x5) : Fin (val_main_v48 x1 x2 x3 x4 x5) := concat₂ (f_main_v47).fin (f_main_v46 h1 h2 h3 h4 h5).fin
theorem f_main_v49 (h1 : Fin x1) (h2 : Fin x2) (h3 : Fin x3) (h4 : Fin x4) (h5 : Fin x5) : Fin (val_main_v49 x1 x2 x3 x4 x5) := (f_main_v48 h1 h2 h3 h4 h5).slice
theorem f_main_v50 (h1 : Fin x1) (h2 : Fin x2) (h3 : Fin x3) (h4 : Fin x4) (h5 : Fin x5) : Fin (val_main_v50 x1 x2 x3 x4 x5) := (f_main_v46 h1 h2 h3 h4 h5).sub (f_main_v49 h1 h2 h3 h4 h5)
theorem f_main_cst_3  : Pos (val_main_cst_3 (F := Ideal) ) := const ofBits_two (two_pos)
theorem f_main_v51  : Pos (val_main_v51 (F := Ideal) ) := (f_main_cst_3).bcast
theorem f_main_v52  : Pos (val_main_v52 (F := Ideal) ) := (f_main_v45).min (f_main_v51)
theorem f_main_v53  : Pos (val_main_v53 (F := Ideal) ) := (f_main_v52).bcast
theorem f_main_v54 (h1 : Fin x1) (h2 : Fin x2) (h3 : Fin x3) (h4 : Fin x4) (h5 : Fin x5) : Fin (val_main_v54 x1 x2 x3 x4 x5) := (f_main_v50 h1 h2 h3 h4 h5).div (f_main_v53) (fun _ _ _ _ => trivial)
theorem f_main_v55 (h1 : Fin x1) (h2 : Fin x2) (h3 : Fin x3) (h4 : Fin x4) (h5 : Fin x5) : Fin (val_main_v55 x1 x2 x3 x4 x5) := (f_main_v16 h1 h2 h3 h4 h5).slice
theorem f_main_v56 (h1 : Fin x1) (h2 : Fin x2) (h3 : Fin x3) (h4 : Fin x4) (h5 : Fin x5) : Fin (val_main_v56 x1 x2 x3 x4 x5) := (f_main_v54 h1 h2 h3 h4 h5).sub (f_main_v55 h1 h2 h3 h4 h5)
theorem f_main_v57 (h1 : Fin x1) (h2 : Fin x2) (h3 : Fin x3) (h4 : Fin x4) (h5 : Fin x5) : Fin (val_main_v57 x1 x2 x3 x4 x5) := (f_main_v41 h1 h2 h3 h4 h5).slice
theorem f_main_cst_4  : NonNeg (val_main_cst_4 (F := Ideal) ) := const ofBits_zero (le_rfl)
theorem f_main_v58  : NonNeg (val_main_v58 (F := Ideal) ) := (f_main_cst_4).bcast
theorem f_main_v59 (h1 : Fin x1) (h2 : Fin x2) (h3 : Fin x3) (h4 : Fin x4) (h5 : Fin x5) : Fin (val_main_v59 x1 x2 x3 x4 x5) := concat₂ (f_main_v58).fin (f_main_v57 h1 h2 h3 h4 h5).fin
theorem f_main_v60 (h1 : Fin x1) (h2 : Fin x2) (h3 : Fin x3) (h4 : Fin x4) (h5 : Fin x5) : Fin (val_main_v60 x1 x2 x3 x4 x5) := (f_main_v59 h1 h2 h3 h4 h5).slice
theorem f_main_v61 (h1 : Fin x1) (h2 : Fin x2) (h3 : Fin x3) (h4 : Fin x4) (h5 : Fin x5) : Fin (val_main_v61 x1 x2 x3 x4 x5) := (f_main_v57 h1 h2 h3 h4 h5).sub (f_main_v60 h1 h2 h3 h4 h5)
theorem f_main_cst_5  : Pos (val_main_cst_5 (F := Ideal) ) := const four (by norm_num)
theorem f_main_v62  : Pos (val_main_v62 (F := Ideal) ) := (f_main_cst_5).bcast
theorem f_main_v63  : Pos (val_main_v63 (F := Ideal) ) := (f_main_v45).min (f_main_v62)
theorem f_main_v64  : Pos (val_main_v64 (F := Ideal) ) := (f_main_v63).bcast
theorem f_main_v65 (h1 : Fin x1) (h2 : Fin x2) (h3 : Fin x3) (h4 : Fin x4) (h5 : Fin x5) : Fin (val_main_v65 x1 x2 x3 x4 x5) := (f_main_v61 h1 h2 h3 h4 h5).div (f_main_v64) (fun _ _ _ _ => trivial)
theorem f_main_v66 (h1 : Fin x1) (h2 : Fin x2) (h3 : Fin x3) (h4 : Fin x4) (h5 : Fin x5) : Fin (val_main_v66 x1 x2 x3 x4 x5) := (f_main_v16 h1 h2 h3 h4 h5).slice
theorem f_main_v67 (h1 : Fin x1) (h2 : Fin x2) (h3 : Fin x3) (h4 : Fin x4) (h5 : Fin x5) : Fin (val_main_v67 x1 x2 x3 x4 x5) := (f_main_v65 h1 h2 h3 h4 h5).sub (f_main_v66 h1 h2 h3 h4 h5)
theorem f_main_v68 (h1 : Fin x1) (h2 : Fin x2) (h3 : Fin x3) (h4 : Fin x4) (h5 : Fin x5) : Fin (val_main_v68 x1 x2 x3 x4 x5) := (f_main_v41 h1 h2 h3 h4 h5).slice
theorem f_main_cst_6  : NonNeg (val_main_cst_6 (F := Ideal) ) := const ofBits_zero (le_rfl)
theorem f_main_v69  : NonNeg (val_main_v69 (F := Ideal) ) := (f_main_cst_6).bcast
theorem f_main_v70 (h1 : Fin x1) (h2 : Fin x2) (h3 : Fin x3) (h4 : Fin x4) (h5 : Fin x5) : Fin (val_main_v70 x1 x2 x3 x4 x5) := concat₂ (f_main_v69).fin (f_main_v68 h1 h2 h3 h4 h5).fin
theorem f_main_v71 (h1 : Fin x1) (h2 : Fin x2) (h3 : Fin x3) (h4 : Fin x4) (h5 : Fin x5) : Fin (val_main_v71 x1 x2 x3 x4 x5) := (f_main_v70 h1 h2 h3 h4 h5).slice
theorem f_main_v72 (h1 : Fin x1) (h2 : Fin x2) (h3 : Fin x3) (h4 : Fin x4) (h5 : Fin x5) : Fin (val_main_v72 x1 x2 x3 x4 x5) := (f_main_v68 h1 h2 h3 h4 h5).sub (f_main_v71 h1 h2 h3 h4 h5)
theorem f_main_cst_7  : Pos (val_main_cst_7 (F := Ideal) ) := const eight (by norm_num)
theorem f_main_v73  : Pos (val_main_v73 (F := Ideal) ) := (f_main_cst_7).bcast
theorem f_main_v74  : Pos (val_main_v74 (F := Ideal) ) := (f_main_v45).min (f_main_v73)
theorem f_main_v75  : Pos (val_main_v75 (F := Ideal) ) := (f_main_v74).bcast
theorem f_main_v76 (h1 : Fin x1) (h2 : Fin x2) (h3 : Fin x3) (h4 : Fin x4) (h5 : Fin x5) : Fin (val_main_v76 x1 x2 x3 x4 x5) := (f_main_v72 h1 h2 h3 h4 h5).div (f_main_v75) (fun _ _ _ _ => trivial)
theorem f_main_v77 (h1 : Fin x1) (h2 : Fin x2) (h3 : Fin x3) (h4 : Fin x4) (h5 : Fin x5) : Fin (val_main_v77 x1 x2 x3 x4 x5) := (f_main_v16 h1 h2 h3 h4 h5).slice
theorem f_main_v78 (h1 : Fin x1) (h2 : Fin x2) (h3 : Fin x3) (h4 : Fin x4) (h5 : Fin x5) : Fin (val_main_v78 x1 x2 x3 x4 x5) := (f_main_v76 h1 h2 h3 h4 h5).sub (f_main_v77 h1 h2 h3 h4 h5)
theorem f_main_v79 (h1 : Fin x1) (h2 : Fin x2) (h3 : Fin x3) (h4 : Fin x4) (h5 : Fin x5) : Fin (val_main_v79 x1 x2 x3 x4 x5) := (f_main_v41 h1 h2 h3 h4 h5).slice
theorem f_main_cst_8  : NonNeg (val_main_cst_8 (F := Ideal) ) := const ofBits_zero (le_rfl)
theorem f_main_v80  : NonNeg (val_main_v80 (F := Ideal) ) := (f_main_cst_8).bcast
theorem f_main_v81 (h1 : Fin x1) (h2 : Fin x2) (h3 : Fin x3) (h4 : Fin x4) (h5 : Fin x5) : Fin (val_main_v81 x1 x2 x3 x4 x5) := concat₂ (f_main_v80).fin (f_main_v79 h1 h2 h3 h4 h5).fin
theorem f_main_v82 (h1 : Fin x1) (h2 : Fin x2) (h3 : Fin x3) (h4 : Fin x4) (h5 : Fin x5) : Fin (val_main_v82 x1 x2 x3 x4 x5) := (f_main_v81 h1 h2 h3 h4 h5).slice
theorem f_main_v83 (h1 : Fin x1) (h2 : Fin x2) (h3 : Fin x3) (h4 : Fin x4) (h5 : Fin x5) : Fin (val_main_v83 x1 x2 x3 x4 x5) := (f_main_v79 h1 h2 h3 h4 h5).sub (f_main_v82 h1 h2 h3 h4 h5)
theorem f_main_cst_9  : Pos (val_main_cst_9 (F := Ideal) ) := const sixteen (by norm_num)
theorem f_main_v84  : Pos (val_main_v84 (F := Ideal) ) := (f_main_cst_9).bcast
theorem f_main_v85  : Pos (val_main_v85 (F := Ideal) ) := (f_main_v45).min (f_main_v84)
theorem f_main_v86  : Pos (val_main_v86 (F := Ideal) ) := (f_main_v85).bcast
theorem f_main_v87 (h1 : Fin x1) (h2 : Fin x2) (h3 : Fin x3) (h4 : Fin x4) (h5 : Fin x5) : Fin (val_main_v87 x1 x2 x3 x4 x5) := (f_main_v83 h1 h2 h3 h4 h5).div (f_main_v86) (fun _ _ _ _ => trivial)
theorem f_main_v88 (h1 : Fin x1) (h2 : Fin x2) (h3 : Fin x3) (h4 : Fin x4) (h5 : Fin x5) : Fin (val_main_v88 x1 x2 x3 x4 x5) := (f_main_v16 h1 h2 h3 h4 h5).slice
theorem f_main_v89 (h1 : Fin x1) (h2 : Fin x2) (h3 : Fin x3) (h4 : Fin x4) (h5 : Fin x5) : Fin (val_main_v89 x1 x2 x3 x4 x5) := (f_main_v87 h1 h2 h3 h4 h5).sub (f_main_v88 h1 h2 h3 h4 h5)
theorem f_main_v90 (h1 : Fin x1) (h2 : Fin x2) (h3 : Fin x3) (h4 : Fin x4) (h5 : Fin x5) : Fin (val_main_v90 x1 x2 x3 x4 x5) := (f_main_v56 h1 h2 h3 h4 h5).bcast
theorem f_main_v91 (h1 : Fin x1) (h2 : Fin x2) (h3 : Fin x3) (h4 : Fin x4) (h5 : Fin x5) : Fin (val_main_v91 x1 x2 x3 x4 x5) := (f_main_v67 h1 h2 h3 h4 h5).bcast
theorem f_main_v92 (h1 : Fin x1) (h2 : Fin x2) (h3 : Fin x3) (h4 : Fin x4) (h5 : Fin x5) : Fin (val_main_v92 x1 x2 x3 x4 x5) := (f_main_v78 h1 h2 h3 h4 h5).bcast
theorem f_main_v93 (h1 : Fin x1) (h2 : Fin x2) (h3 : Fin x3) (h4 : Fin x4) (h5 : Fin x5) : Fin (val_main_v93 x1 x2 x3 x4 x5) := (f_main_v89 h1 h2 h3 h4 h5).bcast
theorem f_main_v94 (h1 : Fin x1) (h2 : Fin x2) (h3 : Fin x3) (h4 : Fin x4) (h5 : Fin x5) : Fin (val_main_v94 x1 x2 x3 x4 x5) := concat₄ (f_main_v90 h1 h2 h3 h4 h5).fin (f_main_v91 h1 h2 h3 h4 h5).fin (f_main_v92 h1 h2 h3 h4 h5).fin (f_main_v93 h1 h2 h3 h4 h5).fin
theorem f_main_v95 (h1 : Fin x1) (h2 : Fin x2) (h3 : Fin x3) (h4 : Fin x4) (h5 : Fin x5) (h7 : Fin x7) : Fin (val_main_v95 x1 x2 x3 x4 x5 x7) := h7.dot (f_main_v94 h1 h2 h3 h4 h5)
theorem f_main_v96 (h1 : Fin x1) (h2 : Fin x2) (h3 : Fin x3) (h4 : Fin x4) (h5 : Fin x5) (h7 : Fin x7) : Fin (val_main_v96 x1 x2 x3 x4 x5 x7) := (f_main_v95 h1 h2 h3 h4 h5 h7).transpose
theorem f_main_v97 (h1 : Fin x1) (h2 : Fin x2) (h3 : Fin x3) (h4 : Fin x4) (h5 : Fin x5) (h7 : Fin x7) : Fin (val_main_v97 x1 x2 x3 x4 x5 x7) := (f_main_v96 h1 h2 h3 h4 h5 h7).cast
theorem f_main_v98 (h8 : Fin x8) : Fin (val_main_v98 x8) := h8.bcast
theorem f_main_v99 (h1 : Fin x1) (h2 : Fin x2) (h3 : Fin x3) (h4 : Fin x4) (h5 : Fin x5) (h7 : Fin x7) (h8 : Fin x8) : Fin (val_main_v99 x1 x2 x3 x4 x5 x7 x8) := (f_main_v97 h1 h2 h3 h4 h5 h7).mul (f_main_v98 h8)
theorem f_main_v100 (h1 : Fin x1) (h2 : Fin x2) (h3 : Fin x3) (h4 : Fin x4) (h5 : Fin x5) (h6 : Fin x6) (h7 : Fin x7) (h8 : Fin x8) : Fin (val_main_v100 x1 x2 x3 x4 x5 x6 x7 x8) := concat₂ (f_main_v40 h1 h2 h3 h4 h5 h6).fin (f_main_v99 h1 h2 h3 h4 h5 h7 h8).fin
theorem f_main_v101 (h1 : Fin x1) (h2 : Fin x2) (h3 : Fin x3) (h4 : Fin x4) (h5 : Fin x5) (h6 : Fin x6) (h7 : Fin x7) (h8 : Fin x8) (h9 : Fin x9) : Fin (val_main_v101 x1 x2 x3 x4 x5 x6 x7 x8 x9) := (f_main_v100 h1 h2 h3 h4 h5 h6 h7 h8).dot h9
theorem f_main_cst_10  : Pos (val_main_cst_10 (F := Ideal) ) := const ofBits_alpha (by norm_num [alpha])
theorem f_main_v102  : Pos (val_main_v102 (F := Ideal) ) := (f_main_cst_10).bcast
theorem f_main_v103 (h1 : Fin x1) : Fin (val_main_v103 x1) := (f_main_v102).mul h1
theorem f_main_v104 (h2 : Fin x2) (h3 : Fin x3) (h4 : Fin x4) : Fin (val_main_v104 x2 x3 x4) := (f_main_v3 h2 h3 h4).slice
theorem f_main_cst_11  : Pos (val_main_cst_11 (F := Ideal) ) := const ofBits_one (one_pos)
theorem f_main_v105  : Pos (val_main_v105 (F := Ideal) ) := (f_main_cst_11).bcast
theorem f_main_v106 (h2 : Fin x2) (h3 : Fin x3) (h4 : Fin x4) : Fin (val_main_v106 x2 x3 x4) := (f_main_v105).add (f_main_v104 h2 h3 h4) (fun _ _ _ _ => trivial)
theorem f_main_v107 (h2 : Fin x2) (h3 : Fin x3) (h4 : Fin x4) : Fin (val_main_v107 x2 x3 x4) := (f_main_v106 h2 h3 h4).bcast
theorem f_main_v108 (h1 : Fin x1) (h2 : Fin x2) (h3 : Fin x3) (h4 : Fin x4) (h5 : Fin x5) (h6 : Fin x6) (h7 : Fin x7) (h8 : Fin x8) (h9 : Fin x9) : Fin (val_main_v108 x1 x2 x3 x4 x5 x6 x7 x8 x9) := (f_main_v107 h2 h3 h4).mul (f_main_v101 h1 h2 h3 h4 h5 h6 h7 h8 h9)
theorem f_main_v109 (h1 : Fin x1) (h2 : Fin x2) (h3 : Fin x3) (h4 : Fin x4) (h5 : Fin x5) (h6 : Fin x6) (h7 : Fin x7) (h8 : Fin x8) (h9 : Fin x9) : Fin (val_main_v109 x1 x2 x3 x4 x5 x6 x7 x8 x9) := (f_main_v103 h1).add (f_main_v108 h1 h2 h3 h4 h5 h6 h7 h8 h9) (fun _ _ _ _ => trivial)
theorem f_main_cst_12  : NonNeg (val_main_cst_12 (F := Ideal) ) := const ofBits_zero (le_rfl)
theorem f_main_v110 (h1 : Fin x1) (h2 : Fin x2) (h3 : Fin x3) (h4 : Fin x4) (h5 : Fin x5) (h6 : Fin x6) (h7 : Fin x7) (h8 : Fin x8) (h9 : Fin x9) : Fin (val_main_v110 x1 x2 x3 x4 x5 x6 x7 x8 x9) := (f_main_v109 h1 h2 h3 h4 h5 h6 h7 h8 h9).fin.sum (f_main_cst_12).fin trivial (fun _ _ _ _ => trivial)
theorem f_main_v111 (h1 : Fin x1) (h2 : Fin x2) (h3 : Fin x3) (h4 : Fin x4) (h5 : Fin x5) (h6 : Fin x6) (h7 : Fin x7) (h8 : Fin x8) (h9 : Fin x9) : Fin (val_main_v111 x1 x2 x3 x4 x5 x6 x7 x8 x9) := (f_main_v110 h1 h2 h3 h4 h5 h6 h7 h8 h9).bcast
theorem f_main_cst_13  : Pos (val_main_cst_13 (F := Ideal) ) := const ofBits_1024 (by norm_num)
theorem f_main_v112  : Pos (val_main_v112 (F := Ideal) ) := (f_main_cst_13).bcast
theorem f_main_v113 (h1 : Fin x1) (h2 : Fin x2) (h3 : Fin x3) (h4 : Fin x4) (h5 : Fin x5) (h6 : Fin x6) (h7 : Fin x7) (h8 : Fin x8) (h9 : Fin x9) : Fin (val_main_v113 x1 x2 x3 x4 x5 x6 x7 x8 x9) := (f_main_v111 h1 h2 h3 h4 h5 h6 h7 h8 h9).div (f_main_v112) (fun _ _ _ _ => trivial)
theorem f_main_v114 (h1 : Fin x1) (h2 : Fin x2) (h3 : Fin x3) (h4 : Fin x4) (h5 : Fin x5) (h6 : Fin x6) (h7 : Fin x7) (h8 : Fin x8) (h9 : Fin x9) : Fin (val_main_v114 x1 x2 x3 x4 x5 x6 x7 x8 x9) := (f_main_v113 h1 h2 h3 h4 h5 h6 h7 h8 h9).bcast
theorem f_main_v115 (h1 : Fin x1) (h2 : Fin x2) (h3 : Fin x3) (h4 : Fin x4) (h5 : Fin x5) (h6 : Fin x6) (h7 : Fin x7) (h8 : Fin x8) (h9 : Fin x9) : Fin (val_main_v115 x1 x2 x3 x4 x5 x6 x7 x8 x9) := (f_main_v109 h1 h2 h3 h4 h5 h6 h7 h8 h9).sub (f_main_v114 h1 h2 h3 h4 h5 h6 h7 h8 h9)
theorem f_main_v116 (h1 : Fin x1) (h2 : Fin x2) (h3 : Fin x3) (h4 : Fin x4) (h5 : Fin x5) (h6 : Fin x6) (h7 : Fin x7) (h8 : Fin x8) (h9 : Fin x9) : NonNeg (val_main_v116 x1 x2 x3 x4 x5 x6 x7 x8 x9) := (f_main_v115 h1 h2 h3 h4 h5 h6 h7 h8 h9).sq
theorem f_main_cst_14  : NonNeg (val_main_cst_14 (F := Ideal) ) := const ofBits_zero (le_rfl)
theorem f_main_v117 (h1 : Fin x1) (h2 : Fin x2) (h3 : Fin x3) (h4 : Fin x4) (h5 : Fin x5) (h6 : Fin x6) (h7 : Fin x7) (h8 : Fin x8) (h9 : Fin x9) : NonNeg (val_main_v117 x1 x2 x3 x4 x5 x6 x7 x8 x9) := (f_main_v116 h1 h2 h3 h4 h5 h6 h7 h8 h9).sum (f_main_cst_14) le_rfl add_nonneg'
theorem f_main_v118 (h1 : Fin x1) (h2 : Fin x2) (h3 : Fin x3) (h4 : Fin x4) (h5 : Fin x5) (h6 : Fin x6) (h7 : Fin x7) (h8 : Fin x8) (h9 : Fin x9) : NonNeg (val_main_v118 x1 x2 x3 x4 x5 x6 x7 x8 x9) := (f_main_v117 h1 h2 h3 h4 h5 h6 h7 h8 h9).bcast
theorem f_main_cst_15  : Pos (val_main_cst_15 (F := Ideal) ) := const ofBits_1024 (by norm_num)
theorem f_main_v119  : Pos (val_main_v119 (F := Ideal) ) := (f_main_cst_15).bcast
theorem f_main_v120 (h1 : Fin x1) (h2 : Fin x2) (h3 : Fin x3) (h4 : Fin x4) (h5 : Fin x5) (h6 : Fin x6) (h7 : Fin x7) (h8 : Fin x8) (h9 : Fin x9) : NonNeg (val_main_v120 x1 x2 x3 x4 x5 x6 x7 x8 x9) := (f_main_v118 h1 h2 h3 h4 h5 h6 h7 h8 h9).div (f_main_v119) div_nonneg'
theorem f_main_v121 (h1 : Fin x1) (h2 : Fin x2) (h3 : Fin x3) (h4 : Fin x4) (h5 : Fin x5) (h6 : Fin x6) (h7 : Fin x7) (h8 : Fin x8) (h9 : Fin x9) : Fin (val_main_v121 x1 x2 x3 x4 x5 x6 x7 x8 x9) := (f_main_v113 h1 h2 h3 h4 h5 h6 h7 h8 h9).bcast
theorem f_main_v122 (h1 : Fin x1) (h2 : Fin x2) (h3 : Fin x3) (h4 : Fin x4) (h5 : Fin x5) (h6 : Fin x6) (h7 : Fin x7) (h8 : Fin x8) (h9 : Fin x9) : Fin (val_main_v122 x1 x2 x3 x4 x5 x6 x7 x8 x9) := (f_main_v109 h1 h2 h3 h4 h5 h6 h7 h8 h9).sub (f_main_v121 h1 h2 h3 h4 h5 h6 h7 h8 h9)
theorem f_main_cst_16  : Pos (val_main_cst_16 (F := Ideal) ) := const ofBits_eps (eps_pos)
theorem f_main_v123  : Pos (val_main_v123 (F := Ideal) ) := (f_main_cst_16).bcast
theorem f_main_v124 (h1 : Fin x1) (h2 : Fin x2) (h3 : Fin x3) (h4 : Fin x4) (h5 : Fin x5) (h6 : Fin x6) (h7 : Fin x7) (h8 : Fin x8) (h9 : Fin x9) : Pos (val_main_v124 x1 x2 x3 x4 x5 x6 x7 x8 x9) := (f_main_v120 h1 h2 h3 h4 h5 h6 h7 h8 h9).add (f_main_v123) add_pos₂
theorem f_main_v125 (h1 : Fin x1) (h2 : Fin x2) (h3 : Fin x3) (h4 : Fin x4) (h5 : Fin x5) (h6 : Fin x6) (h7 : Fin x7) (h8 : Fin x8) (h9 : Fin x9) : Pos (val_main_v125 x1 x2 x3 x4 x5 x6 x7 x8 x9) := (f_main_v124 h1 h2 h3 h4 h5 h6 h7 h8 h9).rsqrt
theorem f_main_v126 (h1 : Fin x1) (h2 : Fin x2) (h3 : Fin x3) (h4 : Fin x4) (h5 : Fin x5) (h6 : Fin x6) (h7 : Fin x7) (h8 : Fin x8) (h9 : Fin x9) : Pos (val_main_v126 x1 x2 x3 x4 x5 x6 x7 x8 x9) := (f_main_v125 h1 h2 h3 h4 h5 h6 h7 h8 h9).bcast
theorem f_main_v127 (h1 : Fin x1) (h2 : Fin x2) (h3 : Fin x3) (h4 : Fin x4) (h5 : Fin x5) (h6 : Fin x6) (h7 : Fin x7) (h8 : Fin x8) (h9 : Fin x9) : Fin (val_main_v127 x1 x2 x3 x4 x5 x6 x7 x8 x9) := (f_main_v122 h1 h2 h3 h4 h5 h6 h7 h8 h9).mul (f_main_v126 h1 h2 h3 h4 h5 h6 h7 h8 h9)

end Cert.MlpFinite
-- ==== Proof.RealHost.lean ====
/- The host's sums and joins on arrays of real numbers. -/
module

public import proofs.«01_k».proof.Proof.RealMat
public import Idealize.ShloMosaic.Lib.Pointwise.SelectCore

@[expose] public section

set_option backward.isDefEq.respectTransparency false

noncomputable section

namespace Cert.RealMat

open Finset Idealize.ShloMosaic

variable {m n p q k : ℕ} {φ ψ : FTy} (f g : ℕ → ℕ → ℝ) (a b : ℕ → ℝ) (r s : ℝ)

theorem hnegf_mat : Host.negf (mat m n f : FVec Ideal _ φ) = mat m n fun i j => - f i j := rfl
theorem hexp_mat : Host.exp (mat m n f : FVec Ideal _ φ) = mat m n fun i j => Real.exp (f i j) := rfl
theorem hdivf_vec_of (h : ∀ i < m, b i ≠ 0) : Host.divf (vec m a : FVec Ideal _ φ) (vec m b) = vec m fun i => a i / b i :=
  funext fun i => ediv_coe _ _ (h _ (i 0).isLt)

theorem hsum_rows (h : (⟨2, ![m, n]⟩ : Shape).ReducesTo [1] ⟨1, ![m]⟩) (hu) :
    Host.reduceAdd (mat m n f : FVec Ideal _ φ) (scl 0 : FVec Ideal _ φ) h hu = vec m fun i => ∑ j ∈ range n, f i j := by
  funext i
  have h' : (⟨2, ![m, n]⟩ : Shape).Reduces [1] ⟨1, ![m]⟩ := ⟨h.1, Nat.one_pos, h.2⟩
  refine (Ideal.hostReduceAdd_single h h' _ _ i).trans ?_
  refine (congrArg (((0 : ℝ) : EReal) + ·) (coe_sum n fun j => f (i 0).val j).symm).trans ?_
  exact (EReal.coe_add _ _).symm.trans (congrArg _ (zero_add _))

theorem hsum_cols (h : (⟨2, ![m, n]⟩ : Shape).ReducesTo [0] ⟨1, ![n]⟩) (hu) :
    Host.reduceAdd (mat m n f : FVec Ideal _ φ) (scl 0 : FVec Ideal _ φ) h hu = vec n fun j => ∑ i ∈ range m, f i j := by
  funext i
  have h' : (⟨2, ![m, n]⟩ : Shape).Reduces [0] ⟨1, ![n]⟩ := ⟨h.1, Nat.one_pos, h.2⟩
  refine (Ideal.hostReduceAdd_single h h' _ _ i).trans ?_
  refine (congrArg (((0 : ℝ) : EReal) + ·) (coe_sum m fun j => f j (i 0).val).symm).trans ?_
  exact (EReal.coe_add _ _).symm.trans (congrArg _ (zero_add _))

theorem hsum_vec (h : (⟨1, ![n]⟩ : Shape).ReducesTo [0] ⟨0, ![]⟩) (hu) :
    Host.reduceAdd (vec n a : FVec Ideal _ φ) (scl 0 : FVec Ideal _ φ) h hu = scl (∑ i ∈ range n, a i) := by
  funext i
  refine (Ideal.hostReduceAdd_total h (fun b => b.elim0) _ _ i).trans ?_
  rw [sum_idx1]
  refine (congrArg (((0 : ℝ) : EReal) + ·) (coe_sum n a).symm).trans ?_
  exact (EReal.coe_add _ _).symm.trans (congrArg _ (zero_add _))

/-- Rows `f` above rows `g`. -/
theorem concat_rows (h : Shape.Concatenates [(⟨2, ![p, n]⟩ : Shape), ⟨2, ![q, n]⟩] ⟨2, ![m, n]⟩ 0) :
    concatenate ⟨2, ![m, n]⟩ 0 [⟨⟨2, ![p, n]⟩, (mat p n f : FVec Ideal _ φ)⟩, ⟨⟨2, ![q, n]⟩, (mat q n g : FVec Ideal _ φ)⟩] h
      = mat m n fun i j => if i < p then f i j else g (i - p) j := by
  funext i
  have hm : p + q = m := by simpa [Shape.Concatenates] using h.2.2
  have hi : (i 0).val < m := (i 0).isLt
  show _ = ((if (i 0).val < p then f (i 0).val (i 1).val else g ((i 0).val - p) (i 1).val : ℝ) : EReal)
  by_cases h0 : (i 0).val < p
  · rw [if_pos h0]
    exact concatenate_pair_apply_left (s₁ := ⟨2, ![p, n]⟩) (s₂ := ⟨2, ![q, n]⟩) _ (mat p n f : FVec Ideal _ φ) (mat q n g : FVec Ideal _ φ) h i rfl (ix2 (n0 := p) ⟨(i 0).val, h0⟩ (i 1)) fun b => match b with | ⟨0, _⟩ => rfl | ⟨1, _⟩ => rfl
  · rw [if_neg h0]
    refine concatenate_pair_apply_right (s₁ := ⟨2, ![p, n]⟩) (s₂ := ⟨2, ![q, n]⟩) _ (mat p n f : FVec Ideal _ φ) (mat q n g : FVec Ideal _ φ) h i rfl rfl (ix2 (n0 := q) ⟨(i 0).val - p, by omega⟩ (i 1)) (fun b hb => ?_) ?_
    · match b with
      | ⟨0, _⟩ => exact absurd rfl hb
      | ⟨1, _⟩ => rfl
    · show (i 0).val - p + p = (i 0).val
      omega

/-- Columns `f` left of columns `g`. -/
theorem concat_cols (h : Shape.Concatenates [(⟨2, ![m, p]⟩ : Shape), ⟨2, ![m, q]⟩] ⟨2, ![m, n]⟩ 1) :
    concatenate ⟨2, ![m, n]⟩ 1 [⟨⟨2, ![m, p]⟩, (mat m p f : FVec Ideal _ φ)⟩, ⟨⟨2, ![m, q]⟩, (mat m q g : FVec Ideal _ φ)⟩] h
      = mat m n fun i j => if j < p then f i j else g i (j - p) := by
  funext i
  have hm : p + q = n := by simpa [Shape.Concatenates] using h.2.2
  have hi : (i 1).val < n := (i 1).isLt
  show _ = ((if (i 1).val < p then f (i 0).val (i 1).val else g (i 0).val ((i 1).val - p) : ℝ) : EReal)
  by_cases h0 : (i 1).val < p
  · rw [if_pos h0]
    exact concatenate_pair_apply_left (s₁ := ⟨2, ![m, p]⟩) (s₂ := ⟨2, ![m, q]⟩) _ (mat m p f : FVec Ideal _ φ) (mat m q g : FVec Ideal _ φ) h i rfl (ix2 (n1 := p) (i 0) ⟨(i 1).val, h0⟩) fun b => match b with | ⟨0, _⟩ => rfl | ⟨1, _⟩ => rfl
  · rw [if_neg h0]
    refine concatenate_pair_apply_right (s₁ := ⟨2, ![m, p]⟩) (s₂ := ⟨2, ![m, q]⟩) _ (mat m p f : FVec Ideal _ φ) (mat m q g : FVec Ideal _ φ) h i rfl rfl (ix2 (n1 := q) (i 0) ⟨(i 1).val - p, by omega⟩) (fun b hb => ?_) ?_
    · match b with
      | ⟨0, _⟩ => rfl
      | ⟨1, _⟩ => exact absurd rfl hb
    · show (i 1).val - p + p = (i 1).val
      omega

/-- One row of a join of rows: the piece it lies in, `pre` rows in. -/
theorem concat_row (xs : List ((s : Shape) × (s.Idx → EReal))) (h : Shape.Concatenates (xs.map (·.1)) ⟨2, ![m, n]⟩ 0) (i : (⟨2, ![m, n]⟩ : Shape).Idx)
    (l : ℕ) (hl : l < xs.length) (hx : xs[l] = ⟨⟨2, ![p, n]⟩, (mat p n f : FVec Ideal _ φ)⟩) (pre : ℕ)
    (hpre : (((xs.take l).map (·.1)).map fun s => if h : s.rank = (⟨2, ![m, n]⟩ : Shape).rank then s.size ((0 : Fin 2).cast h.symm) else 0).sum = pre)
    (hi : pre ≤ (i 0).val) (hi' : (i 0).val - pre < p) :
    concatenate ⟨2, ![m, n]⟩ 0 xs h i = ((f ((i 0).val - pre) (i 1).val : ℝ) : EReal) :=
  concatenate_apply_piece (t := ⟨2, ![m, n]⟩) 0 xs h i l hl ⟨2, ![p, n]⟩ _ hx rfl pre hpre (ix2 ⟨(i 0).val - pre, hi'⟩ (i 1))
    (fun b hb => match b with | ⟨0, _⟩ => absurd rfl hb | ⟨1, _⟩ => rfl) (by show pre + ((i 0).val - pre) = (i 0).val; omega)

/-- The cotangent of a row through a layer norm, as the derivatives of its steps compose: the mean's, the variance's and the
    reciprocal square root's parts, added, are the closed form. -/
theorem layer_norm_back (c u : ℕ → ℝ) (ρ v : ℝ) (hc : ∑ l ∈ range n, c l = 0) (hv : ρ / v = ρ * ρ * ρ) (N : ℝ) (j : ℕ) :
    u j * ρ + (∑ l ∈ range n, c l * u l) * (-(1 / 2) * (ρ / v)) / N * (2 * c j)
      + ((∑ l ∈ range n, -(u l * ρ)) + ∑ l ∈ range n, -((∑ l ∈ range n, c l * u l) * (-(1 / 2) * (ρ / v)) / N * (2 * c l))) / N
      = ρ * (u j - (∑ l ∈ range n, u l) / N - c j * ρ * ((∑ l ∈ range n, u l * (c l * ρ)) / N)) := by
  have h1 : ∑ l ∈ range n, -((∑ l ∈ range n, c l * u l) * (-(1 / 2) * (ρ / v)) / N * (2 * c l)) = 0 := by
    rw [sum_neg_distrib, ← mul_sum, ← mul_sum, hc]; ring
  have h2 : ∑ l ∈ range n, -(u l * ρ) = -(ρ * ∑ l ∈ range n, u l) := by
    rw [sum_neg_distrib, mul_sum]; exact congrArg _ (sum_congr rfl fun l _ => mul_comm _ _)
  have h3 : ∑ l ∈ range n, u l * (c l * ρ) = ρ * ∑ l ∈ range n, c l * u l := by
    rw [mul_sum]; exact sum_congr rfl fun l _ => by ring
  rw [h1, h2, h3, hv]; ring

theorem sum_centred (r : ℕ → ℝ) (hn : (n : ℝ) ≠ 0) : ∑ l ∈ range n, (r l - (∑ k ∈ range n, r k) / n) = 0 := by
  rw [sum_sub_distrib, sum_const, card_range, nsmul_eq_mul]; field_simp; ring

theorem inv_sqrt_cube (v : ℝ) (hv : 0 < v) : (√v)⁻¹ / v = (√v)⁻¹ * (√v)⁻¹ * (√v)⁻¹ := by
  have h : √v * √v = v := Real.mul_self_sqrt hv.le
  have h0 : √v ≠ 0 := (Real.sqrt_pos.mpr hv).ne'
  generalize √v = w at h h0
  rw [← h]
  field_simp

end Cert.RealMat

end
-- ==== Proof.MlpReal.lean ====
/- The MLP sublayer, its layer norm and its loss over the reals, forward and backward, row by row. -/
module

public import proofs.«01_k».proof.Proof.RealMat

@[expose] public section

noncomputable section

namespace Cert.MlpReal

open Finset Cert.RealMat

/-- What the sublayer starts from: the normalised rows before it, the targets, the six rows of the
    modulation (rows 3, 4, 5 are this sublayer's shift, scale and gate), the four rows of layer norm
    gains and offsets, and the two weight matrices. -/
structure Mlp where
  xh : ℕ → ℕ → ℝ
  t : ℕ → ℕ → ℝ
  md : ℕ → ℕ → ℝ
  ln : ℕ → ℕ → ℝ
  wi : ℕ → ℕ → ℝ
  wo : ℕ → ℕ → ℝ

variable (D : Mlp)

abbrev Mlp.sh : ℕ → ℝ := D.md 3
abbrev Mlp.sc : ℕ → ℝ := D.md 4
abbrev Mlp.g : ℕ → ℝ := D.md 5
abbrev Mlp.l1g : ℕ → ℝ := D.ln 0
abbrev Mlp.l1b : ℕ → ℝ := D.ln 1
abbrev Mlp.l2g : ℕ → ℝ := D.ln 2
abbrev Mlp.l2b : ℕ → ℝ := D.ln 3
def Mlp.x1 (i j : ℕ) : ℝ := D.xh i j * D.l1g j + D.l1b j
def Mlp.h (i j : ℕ) : ℝ := D.x1 i j * (1 + D.sc j) + D.sh j
/-- The hidden layer's positive part. -/
def Mlp.p (i k : ℕ) : ℝ := max (∑ l ∈ range 1024, D.h i l * D.wi l k) 0
def Mlp.a (i k : ℕ) : ℝ := D.p i k * D.p i k
def Mlp.f (i j : ℕ) : ℝ := ∑ k ∈ range 4096, D.a i k * D.wo k j
def Mlp.r (i j : ℕ) : ℝ := alpha * D.x1 i j + (1 + D.g j) * D.f i j
/-- A row less its mean. -/
def Mlp.ctr (i j : ℕ) : ℝ := D.r i j - (∑ l ∈ range 1024, D.r i l) / 1024
def Mlp.var (i : ℕ) : ℝ := (∑ l ∈ range 1024, D.ctr i l * D.ctr i l) / 1024
def Mlp.rstd (i : ℕ) : ℝ := (√(D.var i + eps))⁻¹
def Mlp.xh2 (i j : ℕ) : ℝ := D.ctr i j * D.rstd i
def Mlp.d (i j : ℕ) : ℝ := D.xh2 i j * D.l2g j + D.l2b j - D.t i j
/-- The cotangent of the normalised row. -/
def Mlp.u (i j : ℕ) : ℝ := D.d i j * (D.l2g j * (1 / 1024))
def Mlp.dr (i j : ℕ) : ℝ :=
  D.rstd i * (D.u i j - (∑ l ∈ range 1024, D.u i l) / 1024 - D.xh2 i j * ((∑ l ∈ range 1024, D.u i l * D.xh2 i l) / 1024))
def Mlp.df (i j : ℕ) : ℝ := (1 + D.g j) * D.dr i j
def Mlp.du (i k : ℕ) : ℝ := (∑ j ∈ range 1024, D.df i j * D.wo k j) * (2 * D.p i k)
def Mlp.dh (i j : ℕ) : ℝ := ∑ k ∈ range 4096, D.du i k * D.wi j k
def Mlp.dx (i j : ℕ) : ℝ := alpha * D.dr i j + D.dh i j * (1 + D.sc j)

theorem Mlp.var_eps_pos (i : ℕ) : 0 < D.var i + eps := by
  have : 0 ≤ D.var i := div_nonneg (sum_nonneg fun l _ => mul_self_nonneg _) (by norm_num)
  have := eps_pos
  linarith

/-- The rows of one block of 512. -/
def rows (t : ℕ) (f : ℕ → ℕ → ℝ) (i j : ℕ) : ℝ := f (512 * t + i) j

/-- A sum over 4096 by four sums over 1024. -/
theorem sum_four (f : ℕ → ℝ) :
    ∑ k ∈ range 4096, f k = (((0 + (0 + ∑ k ∈ range 1024, f (1024 * 0 + k))) + (0 + ∑ k ∈ range 1024, f (1024 * 1 + k)))
      + (0 + ∑ k ∈ range 1024, f (1024 * 2 + k))) + (0 + ∑ k ∈ range 1024, f (1024 * 3 + k)) := by
  rw [show 4096 = 1024 + 1024 + 1024 + 1024 from rfl, sum_range_add, sum_range_add, sum_range_add]
  simp only [zero_add, Nat.mul_zero, Nat.mul_one, Nat.reduceMul, Nat.reduceAdd]

end Cert.MlpReal

end
-- ==== Proof.MlpRef.lean ====
/- The reference of the MLP sublayer's gradients, one operation after the other, on real numbers. -/
module

public import proofs.«01_k».proof.Proof.RealHost
public import proofs.«01_k».proof.Proof.MlpReal
public import proofs.«01_k».proof.Proof.Gen.ReferenceIdeal.Read

@[expose] public section

set_option backward.isDefEq.respectTransparency false

noncomputable section

namespace Cert.MlpRef

open Finset Cert.RealMat Cert.MlpReal Idealize.ShloMosaic Cert.ReferenceIdeal Cert.ReferenceIdeal.Gen Cert.ReferenceIdeal.Read

/-- The arguments hold the real numbers of `D`; the modulation and the normalised rows are what the forward lines compute. -/
structure Holds (x0 : FVec Ideal S8192x1024 .f32) (x1 : FVec Ideal S8192x1024 .f32) (x2 : FVec Ideal S1x1024 .f32)
    (x3 : FVec Ideal S1024x6144 .f32) (x4 : FVec Ideal S1x6144 .f32) (x5 : FVec Ideal S1024x2048 .f32) (x6 : FVec Ideal S3x512 .f32)
    (x7 : FVec Ideal S4x128x128 .f32) (x8 : FVec Ideal S1x512 .f32) (x9 : FVec Ideal S1024x1024 .f32)
    (x10 x11 : FVec Ideal S1x1024 .f32) (x12 : FVec Ideal S1024x4096 .f32) (x13 : FVec Ideal S4096x1024 .f32)
    (x14 x15 : FVec Ideal S1x1024 .f32) (D : Mlp) : Prop where
  xh : val_main_v127 (F := Ideal) x1 x2 x3 x4 x5 x6 x7 x8 x9 = mat (φ := .f32) 8192 1024 D.xh
  md : val_main_v3 (F := Ideal) x2 x3 x4 = mat (φ := .f32) 6 1024 D.md
  t : x0 = mat (φ := .f32) 8192 1024 D.t
  l1g : x10 = mat (φ := .f32) 1 1024 fun _ j => D.ln 0 j
  l1b : x11 = mat (φ := .f32) 1 1024 fun _ j => D.ln 1 j
  wi : x12 = mat (φ := .f32) 1024 4096 D.wi
  wo : x13 = mat (φ := .f32) 4096 1024 D.wo
  l2g : x14 = mat (φ := .f32) 1 1024 fun _ j => D.ln 2 j
  l2b : x15 = mat (φ := .f32) 1 1024 fun _ j => D.ln 3 j

variable {x0 : FVec Ideal S8192x1024 .f32} {x1 : FVec Ideal S8192x1024 .f32} {x2 : FVec Ideal S1x1024 .f32}
    {x3 : FVec Ideal S1024x6144 .f32} {x4 : FVec Ideal S1x6144 .f32} {x5 : FVec Ideal S1024x2048 .f32} {x6 : FVec Ideal S3x512 .f32}
    {x7 : FVec Ideal S4x128x128 .f32} {x8 : FVec Ideal S1x512 .f32} {x9 : FVec Ideal S1024x1024 .f32}
    {x10 x11 : FVec Ideal S1x1024 .f32} {x12 : FVec Ideal S1024x4096 .f32} {x13 : FVec Ideal S4096x1024 .f32}
    {x14 x15 : FVec Ideal S1x1024 .f32} {D : Mlp} (H : Holds x0 x1 x2 x3 x4 x5 x6 x7 x8 x9 x10 x11 x12 x13 x14 x15 D)
include H

def g128 (D : Mlp) (i j : ℕ) : ℝ := ((fun _ j => D.ln 0 j) 0 j)
theorem l_v128 : val_main_v128 (F := Ideal) x10 = mat (φ := .f32) 8192 1024 (g128 D) := by
  unfold val_main_v128; rw [H.l1g]
  exact bcastInDim_row _ _

def g129 (D : Mlp) (i j : ℕ) : ℝ := (D.xh i j) * (g128 D i j)
theorem l_v129 : val_main_v129 (F := Ideal) x1 x2 x3 x4 x5 x6 x7 x8 x9 x10 = mat (φ := .f32) 8192 1024 (g129 D) := by
  unfold val_main_v129; rw [H.xh, l_v128 H]
  exact mulf_mat _ _

def g130 (D : Mlp) (i j : ℕ) : ℝ := ((fun _ j => D.ln 1 j) 0 j)
theorem l_v130 : val_main_v130 (F := Ideal) x11 = mat (φ := .f32) 8192 1024 (g130 D) := by
  unfold val_main_v130; rw [H.l1b]
  exact bcastInDim_row _ _
theorem l_v131 : val_main_v131 (F := Ideal) x1 x2 x3 x4 x5 x6 x7 x8 x9 x10 x11 = mat (φ := .f32) 8192 1024 (D.x1) := by
  unfold val_main_v131; rw [l_v129 H, l_v130 H]
  exact (addf_mat _ _).trans (mat_congr fun i _ j _ => rfl)

def g132 (D : Mlp) (i j : ℕ) : ℝ := (D.md (3 + i) (0 + j))
theorem l_v132 : val_main_v132 (F := Ideal) x2 x3 x4 = mat (φ := .f32) 1 1024 (g132 D) := by
  unfold val_main_v132; rw [H.md]
  exact slice_mat _ _ _ _ _ _

def g133 (D : Mlp) (i j : ℕ) : ℝ := (D.md (4 + i) (0 + j))
theorem l_v133 : val_main_v133 (F := Ideal) x2 x3 x4 = mat (φ := .f32) 1 1024 (g133 D) := by
  unfold val_main_v133; rw [H.md]
  exact slice_mat _ _ _ _ _ _

def g134 (D : Mlp) (i j : ℕ) : ℝ := (D.md (5 + i) (0 + j))
theorem l_v134 : val_main_v134 (F := Ideal) x2 x3 x4 = mat (φ := .f32) 1 1024 (g134 D) := by
  unfold val_main_v134; rw [H.md]
  exact slice_mat _ _ _ _ _ _

omit H in
theorem c_main_cst_17 : val_main_cst_17 (F := Ideal) = scl (φ := .f32) 0 := constant_scl _ _ ofBits_zero
def g135 (D : Mlp) (i j : ℕ) : ℝ := 0
theorem l_v135 : val_main_v135 (F := Ideal) = mat (φ := .f32) 8192 4096 (g135 D) := by
  unfold val_main_v135; rw [c_main_cst_17]
  exact bcastInDim_scl_mat _ _

omit H in
theorem c_main_cst_18 : val_main_cst_18 (F := Ideal) = scl (φ := .f32) 0 := constant_scl _ _ ofBits_zero
def g136 (D : Mlp) (i j : ℕ) : ℝ := 0
theorem l_v136 : val_main_v136 (F := Ideal) = mat (φ := .f32) 8192 1024 (g136 D) := by
  unfold val_main_v136; rw [c_main_cst_18]
  exact bcastInDim_scl_mat _ _

omit H in
theorem c_main_cst_19 : val_main_cst_19 (F := Ideal) = scl (φ := .f32) 1 := constant_scl _ _ ofBits_one
def g137 (D : Mlp) (i j : ℕ) : ℝ := 1
theorem l_v137 : val_main_v137 (F := Ideal) = mat (φ := .f32) 1 1024 (g137 D) := by
  unfold val_main_v137; rw [c_main_cst_19]
  exact bcastInDim_scl_mat _ _

def g138 (D : Mlp) (i j : ℕ) : ℝ := (g137 D i j) + (g133 D i j)
theorem l_v138 : val_main_v138 (F := Ideal) x2 x3 x4 = mat (φ := .f32) 1 1024 (g138 D) := by
  unfold val_main_v138; rw [l_v137 H, l_v133 H]
  exact addf_mat _ _

def g139 (D : Mlp) (i j : ℕ) : ℝ := (g138 D 0 j)
theorem l_v139 : val_main_v139 (F := Ideal) x2 x3 x4 = mat (φ := .f32) 8192 1024 (g139 D) := by
  unfold val_main_v139; rw [l_v138 H]
  exact bcastInDim_row _ _

def g140 (D : Mlp) (i j : ℕ) : ℝ := (D.x1 i j) * (g139 D i j)
theorem l_v140 : val_main_v140 (F := Ideal) x1 x2 x3 x4 x5 x6 x7 x8 x9 x10 x11 = mat (φ := .f32) 8192 1024 (g140 D) := by
  unfold val_main_v140; rw [l_v131 H, l_v139 H]
  exact mulf_mat _ _

def g141 (D : Mlp) (i j : ℕ) : ℝ := (g132 D 0 j)
theorem l_v141 : val_main_v141 (F := Ideal) x2 x3 x4 = mat (φ := .f32) 8192 1024 (g141 D) := by
  unfold val_main_v141; rw [l_v132 H]
  exact bcastInDim_row _ _
theorem l_v142 : val_main_v142 (F := Ideal) x1 x2 x3 x4 x5 x6 x7 x8 x9 x10 x11 = mat (φ := .f32) 8192 1024 (D.h) := by
  unfold val_main_v142; rw [l_v140 H, l_v141 H]
  exact (addf_mat _ _).trans (mat_congr fun i _ j _ => (by simp only [Mlp.h, g140, g139, g138, g137, g133, g141, g132, add_zero, zero_add, Mlp.sh, Mlp.sc, Mlp.g]))

def g143 (D : Mlp) (i j : ℕ) : ℝ := ∑ l ∈ range 1024, (D.h i l) * (D.wi l j)
theorem l_v143 : val_main_v143 (F := Ideal) x1 x2 x3 x4 x5 x6 x7 x8 x9 x10 x11 x12 = mat (φ := .f32) 8192 4096 (g143 D) := by
  unfold val_main_v143; rw [(l_v142 H), H.wi]; unfold Host.dotGeneral;
  exact dot_mat _ _ _ rfl _ _

def g144 (D : Mlp) (i j : ℕ) : ℝ := (g143 D i j) + (g135 D i j)
theorem l_v144 : val_main_v144 (F := Ideal) x1 x2 x3 x4 x5 x6 x7 x8 x9 x10 x11 x12 = mat (φ := .f32) 8192 4096 (g144 D) := by
  unfold val_main_v144; rw [l_v143 H, l_v135 H]
  exact addf_mat _ _

omit H in
theorem c_main_call2_cst : val_main_call2_cst (F := Ideal) = scl (φ := .f32) 0 := constant_scl _ _ ofBits_zero
def g_call2_v0 (D : Mlp) (i j : ℕ) : ℝ := 0
theorem l_call2_v0 : val_main_call2_v0 (F := Ideal) = mat (φ := .f32) 8192 4096 (g_call2_v0 D) := by
  unfold val_main_call2_v0; rw [c_main_call2_cst]
  exact bcastInDim_scl_mat _ _
theorem l_v145 : val_main_v145 (F := Ideal) x1 x2 x3 x4 x5 x6 x7 x8 x9 x10 x11 x12 = mat (φ := .f32) 8192 4096 (D.p) := by
  unfold val_main_v145; rw [l_v144 H, l_call2_v0 H]
  exact (maximumf_mat _ _).trans (mat_congr fun i _ j _ => (by simp only [Mlp.p, g144, g143, g135, g_call2_v0, add_zero, zero_add, Mlp.sh, Mlp.sc, Mlp.g]))

omit H in
theorem c_main_cst_20 : val_main_cst_20 (F := Ideal) = scl (φ := .f32) 0 := constant_scl _ _ ofBits_zero
def g146 (D : Mlp) (i j : ℕ) : ℝ := 0
theorem l_v146 : val_main_v146 (F := Ideal) = mat (φ := .f32) 8192 4096 (g146 D) := by
  unfold val_main_v146; rw [c_main_cst_20]
  exact bcastInDim_scl_mat _ _

omit H in
theorem c_main_cst_21 : val_main_cst_21 (F := Ideal) = scl (φ := .f32) 0 := constant_scl _ _ ofBits_zero
def g148 (D : Mlp) (i j : ℕ) : ℝ := 0
theorem l_v148 : val_main_v148 (F := Ideal) = mat (φ := .f32) 8192 4096 (g148 D) := by
  unfold val_main_v148; rw [c_main_cst_21]
  exact bcastInDim_scl_mat _ _
theorem l_v149 : val_main_v149 (F := Ideal) x1 x2 x3 x4 x5 x6 x7 x8 x9 x10 x11 x12 = mat (φ := .f32) 8192 4096 (D.a) := by
  unfold val_main_v149; rw [l_v145 H]
  exact (mulf_mat _ _).trans (mat_congr fun i _ j _ => rfl)

omit H in
theorem c_main_cst_22 : val_main_cst_22 (F := Ideal) = scl (φ := .f32) 2 := constant_scl _ _ ofBits_two
def g150 (D : Mlp) (i j : ℕ) : ℝ := 2
theorem l_v150 : val_main_v150 (F := Ideal) = mat (φ := .f32) 8192 4096 (g150 D) := by
  unfold val_main_v150; rw [c_main_cst_22]
  exact bcastInDim_scl_mat _ _

def g151 (D : Mlp) (i j : ℕ) : ℝ := (g150 D i j) * (D.p i j)
theorem l_v151 : val_main_v151 (F := Ideal) x1 x2 x3 x4 x5 x6 x7 x8 x9 x10 x11 x12 = mat (φ := .f32) 8192 4096 (g151 D) := by
  unfold val_main_v151; rw [l_v150 H, l_v145 H]
  exact mulf_mat _ _

def g152 (D : Mlp) (i j : ℕ) : ℝ := ∑ l ∈ range 4096, (D.a i l) * (D.wo l j)
theorem l_v152 : val_main_v152 (F := Ideal) x1 x2 x3 x4 x5 x6 x7 x8 x9 x10 x11 x12 x13 = mat (φ := .f32) 8192 1024 (g152 D) := by
  unfold val_main_v152; rw [(l_v149 H), H.wo]; unfold Host.dotGeneral;
  exact dot_mat _ _ _ rfl _ _
theorem l_v153 : val_main_v153 (F := Ideal) x1 x2 x3 x4 x5 x6 x7 x8 x9 x10 x11 x12 x13 = mat (φ := .f32) 8192 1024 (D.f) := by
  unfold val_main_v153; rw [l_v152 H, l_v136 H]
  exact (addf_mat _ _).trans (mat_congr fun i _ j _ => (by simp only [Mlp.f, g152, g136, add_zero, zero_add, Mlp.sh, Mlp.sc, Mlp.g]))

omit H in
theorem c_main_cst_23 : val_main_cst_23 (F := Ideal) = scl (φ := .f32) alpha := constant_scl _ _ ofBits_alpha
def g154 (D : Mlp) (i j : ℕ) : ℝ := alpha
theorem l_v154 : val_main_v154 (F := Ideal) = mat (φ := .f32) 8192 1024 (g154 D) := by
  unfold val_main_v154; rw [c_main_cst_23]
  exact bcastInDim_scl_mat _ _

def g155 (D : Mlp) (i j : ℕ) : ℝ := (g154 D i j) * (D.x1 i j)
theorem l_v155 : val_main_v155 (F := Ideal) x1 x2 x3 x4 x5 x6 x7 x8 x9 x10 x11 = mat (φ := .f32) 8192 1024 (g155 D) := by
  unfold val_main_v155; rw [l_v154 H, l_v131 H]
  exact mulf_mat _ _

omit H in
theorem c_main_cst_24 : val_main_cst_24 (F := Ideal) = scl (φ := .f32) 1 := constant_scl _ _ ofBits_one
def g156 (D : Mlp) (i j : ℕ) : ℝ := 1
theorem l_v156 : val_main_v156 (F := Ideal) = mat (φ := .f32) 1 1024 (g156 D) := by
  unfold val_main_v156; rw [c_main_cst_24]
  exact bcastInDim_scl_mat _ _

def g157 (D : Mlp) (i j : ℕ) : ℝ := (g156 D i j) + (g134 D i j)
theorem l_v157 : val_main_v157 (F := Ideal) x2 x3 x4 = mat (φ := .f32) 1 1024 (g157 D) := by
  unfold val_main_v157; rw [l_v156 H, l_v134 H]
  exact addf_mat _ _

def g158 (D : Mlp) (i j : ℕ) : ℝ := (g157 D 0 j)
theorem l_v158 : val_main_v158 (F := Ideal) x2 x3 x4 = mat (φ := .f32) 8192 1024 (g158 D) := by
  unfold val_main_v158; rw [l_v157 H]
  exact bcastInDim_row _ _

def g159 (D : Mlp) (i j : ℕ) : ℝ := (g158 D i j) * (D.f i j)
theorem l_v159 : val_main_v159 (F := Ideal) x1 x2 x3 x4 x5 x6 x7 x8 x9 x10 x11 x12 x13 = mat (φ := .f32) 8192 1024 (g159 D) := by
  unfold val_main_v159; rw [l_v158 H, l_v153 H]
  exact mulf_mat _ _
theorem l_v160 : val_main_v160 (F := Ideal) x1 x2 x3 x4 x5 x6 x7 x8 x9 x10 x11 x12 x13 = mat (φ := .f32) 8192 1024 (D.r) := by
  unfold val_main_v160; rw [l_v155 H, l_v159 H]
  exact (addf_mat _ _).trans (mat_congr fun i _ j _ => (by simp only [Mlp.r, g155, g154, g159, g158, g157, g156, g134, add_zero, zero_add, Mlp.sh, Mlp.sc, Mlp.g]))

omit H in
theorem c_main_cst_25 : val_main_cst_25 (F := Ideal) = scl (φ := .f32) 0 := constant_scl _ _ ofBits_zero
def g161 (D : Mlp) (i : ℕ) : ℝ := ∑ l ∈ range 1024, (D.r i l)
theorem l_v161 : val_main_v161 (F := Ideal) x1 x2 x3 x4 x5 x6 x7 x8 x9 x10 x11 x12 x13 = vec (φ := .f32) 8192 (g161 D) := by
  unfold val_main_v161; rw [l_v160 H, c_main_cst_25]
  exact hsum_rows _ _ _

def g162 (D : Mlp) (i j : ℕ) : ℝ := (g161 D i)
theorem l_v162 : val_main_v162 (F := Ideal) x1 x2 x3 x4 x5 x6 x7 x8 x9 x10 x11 x12 x13 = mat (φ := .f32) 8192 1 (g162 D) := by
  unfold val_main_v162; rw [l_v161 H]
  exact bcastInDim_vec_col _ _

omit H in
theorem c_main_cst_26 : val_main_cst_26 (F := Ideal) = scl (φ := .f32) 1024 := constant_scl _ _ ofBits_1024
def g163 (D : Mlp) (i j : ℕ) : ℝ := 1024
theorem l_v163 : val_main_v163 (F := Ideal) = mat (φ := .f32) 8192 1 (g163 D) := by
  unfold val_main_v163; rw [c_main_cst_26]
  exact bcastInDim_scl_mat _ _

def g164 (D : Mlp) (i j : ℕ) : ℝ := (g162 D i j) / (g163 D i j)
theorem l_v164 : val_main_v164 (F := Ideal) x1 x2 x3 x4 x5 x6 x7 x8 x9 x10 x11 x12 x13 = mat (φ := .f32) 8192 1 (g164 D) := by
  unfold val_main_v164; rw [l_v162 H, l_v163 H]
  exact hdivf_mat_of _ _ (fun i _ j _ => by norm_num [g163])

def g165 (D : Mlp) (i j : ℕ) : ℝ := (g164 D i 0)
theorem l_v165 : val_main_v165 (F := Ideal) x1 x2 x3 x4 x5 x6 x7 x8 x9 x10 x11 x12 x13 = mat (φ := .f32) 8192 1024 (g165 D) := by
  unfold val_main_v165; rw [l_v164 H]
  exact bcastInDim_col _ _
theorem l_v166 : val_main_v166 (F := Ideal) x1 x2 x3 x4 x5 x6 x7 x8 x9 x10 x11 x12 x13 = mat (φ := .f32) 8192 1024 (D.ctr) := by
  unfold val_main_v166; rw [l_v160 H, l_v165 H]
  exact (subf_mat _ _).trans (mat_congr fun i _ j _ => rfl)

def g167 (D : Mlp) (i j : ℕ) : ℝ := (D.ctr i j) * (D.ctr i j)
theorem l_v167 : val_main_v167 (F := Ideal) x1 x2 x3 x4 x5 x6 x7 x8 x9 x10 x11 x12 x13 = mat (φ := .f32) 8192 1024 (g167 D) := by
  unfold val_main_v167; rw [l_v166 H]
  exact mulf_mat _ _

omit H in
theorem c_main_cst_27 : val_main_cst_27 (F := Ideal) = scl (φ := .f32) 2 := constant_scl _ _ ofBits_two
def g168 (D : Mlp) (i j : ℕ) : ℝ := 2
theorem l_v168 : val_main_v168 (F := Ideal) = mat (φ := .f32) 8192 1024 (g168 D) := by
  unfold val_main_v168; rw [c_main_cst_27]
  exact bcastInDim_scl_mat _ _

def g169 (D : Mlp) (i j : ℕ) : ℝ := (g168 D i j) * (D.ctr i j)
theorem l_v169 : val_main_v169 (F := Ideal) x1 x2 x3 x4 x5 x6 x7 x8 x9 x10 x11 x12 x13 = mat (φ := .f32) 8192 1024 (g169 D) := by
  unfold val_main_v169; rw [l_v168 H, l_v166 H]
  exact mulf_mat _ _

omit H in
theorem c_main_cst_28 : val_main_cst_28 (F := Ideal) = scl (φ := .f32) 0 := constant_scl _ _ ofBits_zero
def g170 (D : Mlp) (i : ℕ) : ℝ := ∑ l ∈ range 1024, (g167 D i l)
theorem l_v170 : val_main_v170 (F := Ideal) x1 x2 x3 x4 x5 x6 x7 x8 x9 x10 x11 x12 x13 = vec (φ := .f32) 8192 (g170 D) := by
  unfold val_main_v170; rw [l_v167 H, c_main_cst_28]
  exact hsum_rows _ _ _

def g171 (D : Mlp) (i j : ℕ) : ℝ := (g170 D i)
theorem l_v171 : val_main_v171 (F := Ideal) x1 x2 x3 x4 x5 x6 x7 x8 x9 x10 x11 x12 x13 = mat (φ := .f32) 8192 1 (g171 D) := by
  unfold val_main_v171; rw [l_v170 H]
  exact bcastInDim_vec_col _ _

omit H in
theorem c_main_cst_29 : val_main_cst_29 (F := Ideal) = scl (φ := .f32) 1024 := constant_scl _ _ ofBits_1024
def g172 (D : Mlp) (i j : ℕ) : ℝ := 1024
theorem l_v172 : val_main_v172 (F := Ideal) = mat (φ := .f32) 8192 1 (g172 D) := by
  unfold val_main_v172; rw [c_main_cst_29]
  exact bcastInDim_scl_mat _ _

def g173 (D : Mlp) (i j : ℕ) : ℝ := (g171 D i j) / (g172 D i j)
theorem l_v173 : val_main_v173 (F := Ideal) x1 x2 x3 x4 x5 x6 x7 x8 x9 x10 x11 x12 x13 = mat (φ := .f32) 8192 1 (g173 D) := by
  unfold val_main_v173; rw [l_v171 H, l_v172 H]
  exact hdivf_mat_of _ _ (fun i _ j _ => by norm_num [g172])

def g174 (D : Mlp) (i j : ℕ) : ℝ := (g164 D i 0)
theorem l_v174 : val_main_v174 (F := Ideal) x1 x2 x3 x4 x5 x6 x7 x8 x9 x10 x11 x12 x13 = mat (φ := .f32) 8192 1024 (g174 D) := by
  unfold val_main_v174; rw [l_v164 H]
  exact bcastInDim_col _ _
theorem l_v175 : val_main_v175 (F := Ideal) x1 x2 x3 x4 x5 x6 x7 x8 x9 x10 x11 x12 x13 = mat (φ := .f32) 8192 1024 (D.ctr) := by
  unfold val_main_v175; rw [l_v160 H, l_v174 H]
  exact (subf_mat _ _).trans (mat_congr fun i _ j _ => rfl)

omit H in
theorem c_main_cst_30 : val_main_cst_30 (F := Ideal) = scl (φ := .f32) eps := constant_scl _ _ ofBits_eps
def g176 (D : Mlp) (i j : ℕ) : ℝ := eps
theorem l_v176 : val_main_v176 (F := Ideal) = mat (φ := .f32) 8192 1 (g176 D) := by
  unfold val_main_v176; rw [c_main_cst_30]
  exact bcastInDim_scl_mat _ _

def g177 (D : Mlp) (i j : ℕ) : ℝ := (g173 D i j) + (g176 D i j)
theorem l_v177 : val_main_v177 (F := Ideal) x1 x2 x3 x4 x5 x6 x7 x8 x9 x10 x11 x12 x13 = mat (φ := .f32) 8192 1 (g177 D) := by
  unfold val_main_v177; rw [l_v173 H, l_v176 H]
  exact addf_mat _ _
theorem l_v178 : val_main_v178 (F := Ideal) x1 x2 x3 x4 x5 x6 x7 x8 x9 x10 x11 x12 x13 = mat (φ := .f32) 8192 1 (fun i _ => D.rstd i) := by
  unfold val_main_v178; rw [l_v177 H]
  exact (hrsqrt_mat _ (fun i _ _ _ => D.var_eps_pos i)).trans (mat_congr fun i _ j _ => (by simp only [Mlp.rstd, Mlp.var, g177, g173, g171, g170, g167, g172, g176]))

def g179 (D : Mlp) (i j : ℕ) : ℝ := ((fun i _ => D.rstd i) i j) / (g177 D i j)
theorem l_v179 : val_main_v179 (F := Ideal) x1 x2 x3 x4 x5 x6 x7 x8 x9 x10 x11 x12 x13 = mat (φ := .f32) 8192 1 (g179 D) := by
  unfold val_main_v179; rw [l_v178 H, l_v177 H]
  exact hdivf_mat_of _ _ (fun i _ _ _ => (D.var_eps_pos i).ne')

omit H in
theorem c_main_cst_31 : val_main_cst_31 (F := Ideal) = scl (φ := .f32) (-(1 / 2)) := constant_scl _ _ ofBits_neg_half
def g180 (D : Mlp) (i j : ℕ) : ℝ := (-(1 / 2))
theorem l_v180 : val_main_v180 (F := Ideal) = mat (φ := .f32) 8192 1 (g180 D) := by
  unfold val_main_v180; rw [c_main_cst_31]
  exact bcastInDim_scl_mat _ _

def g181 (D : Mlp) (i j : ℕ) : ℝ := (g180 D i j) * (g179 D i j)
theorem l_v181 : val_main_v181 (F := Ideal) x1 x2 x3 x4 x5 x6 x7 x8 x9 x10 x11 x12 x13 = mat (φ := .f32) 8192 1 (g181 D) := by
  unfold val_main_v181; rw [l_v180 H, l_v179 H]
  exact mulf_mat _ _

def g182 (D : Mlp) (i j : ℕ) : ℝ := ((fun i _ => D.rstd i) i 0)
theorem l_v182 : val_main_v182 (F := Ideal) x1 x2 x3 x4 x5 x6 x7 x8 x9 x10 x11 x12 x13 = mat (φ := .f32) 8192 1024 (g182 D) := by
  unfold val_main_v182; rw [l_v178 H]
  exact bcastInDim_col _ _
theorem l_v183 : val_main_v183 (F := Ideal) x1 x2 x3 x4 x5 x6 x7 x8 x9 x10 x11 x12 x13 = mat (φ := .f32) 8192 1024 (D.xh2) := by
  unfold val_main_v183; rw [l_v175 H, l_v182 H]
  exact (mulf_mat _ _).trans (mat_congr fun i _ j _ => rfl)

def g184 (D : Mlp) (i j : ℕ) : ℝ := ((fun _ j => D.ln 2 j) 0 j)
theorem l_v184 : val_main_v184 (F := Ideal) x14 = mat (φ := .f32) 8192 1024 (g184 D) := by
  unfold val_main_v184; rw [H.l2g]
  exact bcastInDim_row _ _

def g185 (D : Mlp) (i j : ℕ) : ℝ := (D.xh2 i j) * (g184 D i j)
theorem l_v185 : val_main_v185 (F := Ideal) x1 x2 x3 x4 x5 x6 x7 x8 x9 x10 x11 x12 x13 x14 = mat (φ := .f32) 8192 1024 (g185 D) := by
  unfold val_main_v185; rw [l_v183 H, l_v184 H]
  exact mulf_mat _ _

def g186 (D : Mlp) (i j : ℕ) : ℝ := ((fun _ j => D.ln 3 j) 0 j)
theorem l_v186 : val_main_v186 (F := Ideal) x15 = mat (φ := .f32) 8192 1024 (g186 D) := by
  unfold val_main_v186; rw [H.l2b]
  exact bcastInDim_row _ _

def g187 (D : Mlp) (i j : ℕ) : ℝ := (g185 D i j) + (g186 D i j)
theorem l_v187 : val_main_v187 (F := Ideal) x1 x2 x3 x4 x5 x6 x7 x8 x9 x10 x11 x12 x13 x14 x15 = mat (φ := .f32) 8192 1024 (g187 D) := by
  unfold val_main_v187; rw [l_v185 H, l_v186 H]
  exact addf_mat _ _
theorem l_v188 : val_main_v188 (F := Ideal) x0 x1 x2 x3 x4 x5 x6 x7 x8 x9 x10 x11 x12 x13 x14 x15 = mat (φ := .f32) 8192 1024 (D.d) := by
  unfold val_main_v188; rw [l_v187 H, H.t]
  exact (subf_mat _ _).trans (mat_congr fun i _ j _ => (by simp only [Mlp.d, g187, g185, g184, g186]))

def g189 (D : Mlp) (i j : ℕ) : ℝ := (D.d i j) * (D.d i j)
theorem l_v189 : val_main_v189 (F := Ideal) x0 x1 x2 x3 x4 x5 x6 x7 x8 x9 x10 x11 x12 x13 x14 x15 = mat (φ := .f32) 8192 1024 (g189 D) := by
  unfold val_main_v189; rw [l_v188 H]
  exact mulf_mat _ _

omit H in
theorem c_main_cst_32 : val_main_cst_32 (F := Ideal) = scl (φ := .f32) 2 := constant_scl _ _ ofBits_two
def g190 (D : Mlp) (i j : ℕ) : ℝ := 2
theorem l_v190 : val_main_v190 (F := Ideal) = mat (φ := .f32) 8192 1024 (g190 D) := by
  unfold val_main_v190; rw [c_main_cst_32]
  exact bcastInDim_scl_mat _ _

def g191 (D : Mlp) (i j : ℕ) : ℝ := (g190 D i j) * (D.d i j)
theorem l_v191 : val_main_v191 (F := Ideal) x0 x1 x2 x3 x4 x5 x6 x7 x8 x9 x10 x11 x12 x13 x14 x15 = mat (φ := .f32) 8192 1024 (g191 D) := by
  unfold val_main_v191; rw [l_v190 H, l_v188 H]
  exact mulf_mat _ _

omit H in
theorem c_main_cst_33 : val_main_cst_33 (F := Ideal) = scl (φ := .f32) 0 := constant_scl _ _ ofBits_zero
def g192 (D : Mlp) (i : ℕ) : ℝ := ∑ l ∈ range 1024, (g189 D i l)
theorem l_v192 : val_main_v192 (F := Ideal) x0 x1 x2 x3 x4 x5 x6 x7 x8 x9 x10 x11 x12 x13 x14 x15 = vec (φ := .f32) 8192 (g192 D) := by
  unfold val_main_v192; rw [l_v189 H, c_main_cst_33]
  exact hsum_rows _ _ _

omit H in
theorem c_main_cst_34 : val_main_cst_34 (F := Ideal) = scl (φ := .f32) 1024 := constant_scl _ _ ofBits_1024
def g193 (D : Mlp) (i : ℕ) : ℝ := 1024
theorem l_v193 : val_main_v193 (F := Ideal) = vec (φ := .f32) 8192 (g193 D) := by
  unfold val_main_v193; rw [c_main_cst_34]
  exact bcastInDim_scl_vec _ _

def g194 (D : Mlp) (i : ℕ) : ℝ := (g192 D i) / (g193 D i)
theorem l_v194 : val_main_v194 (F := Ideal) x0 x1 x2 x3 x4 x5 x6 x7 x8 x9 x10 x11 x12 x13 x14 x15 = vec (φ := .f32) 8192 (g194 D) := by
  unfold val_main_v194; rw [l_v192 H, l_v193 H]
  exact hdivf_vec_of _ _ (fun i _ => by norm_num [g193])

omit H in
theorem c_main_cst_35 : val_main_cst_35 (F := Ideal) = scl (φ := .f32) 0 := constant_scl _ _ ofBits_zero
def g195 (D : Mlp) : ℝ := ∑ l ∈ range 8192, (g194 D l)
theorem l_v195 : val_main_v195 (F := Ideal) x0 x1 x2 x3 x4 x5 x6 x7 x8 x9 x10 x11 x12 x13 x14 x15 = scl (φ := .f32) (g195 D) := by
  unfold val_main_v195; rw [l_v194 H, c_main_cst_35]
  exact hsum_vec _ _ _

omit H in
theorem c_main_cst_36 : val_main_cst_36 (F := Ideal) = scl (φ := .f32) (1 / 2) := constant_scl _ _ ofBits_half
def g196 (D : Mlp) : ℝ := (1 / 2) * (g195 D)
theorem l_v196 : val_main_v196 (F := Ideal) x0 x1 x2 x3 x4 x5 x6 x7 x8 x9 x10 x11 x12 x13 x14 x15 = scl (φ := .f32) (g196 D) := by
  unfold val_main_v196; rw [c_main_cst_36, l_v195 H]
  exact mulf_scl _ _

omit H in
theorem c_main_cst_37 : val_main_cst_37 (F := Ideal) = scl (φ := .f32) (1 / 2) := constant_scl _ _ ofBits_half
omit H in
theorem c_main_cst_38 : val_main_cst_38 (F := Ideal) = scl (φ := .f32) 1 := constant_scl _ _ ofBits_one
def g197 (D : Mlp) : ℝ := (1 / 2) * 1
theorem l_v197 : val_main_v197 (F := Ideal) = scl (φ := .f32) (g197 D) := by
  unfold val_main_v197; rw [c_main_cst_37, c_main_cst_38]
  exact mulf_scl _ _

def g198 (D : Mlp) (i : ℕ) : ℝ := (g197 D)
theorem l_v198 : val_main_v198 (F := Ideal) = vec (φ := .f32) 8192 (g198 D) := by
  unfold val_main_v198; rw [l_v197 H]
  exact bcastInDim_scl_vec _ _

omit H in
theorem c_main_cst_39 : val_main_cst_39 (F := Ideal) = scl (φ := .f32) 1024 := constant_scl _ _ ofBits_1024
def g199 (D : Mlp) (i : ℕ) : ℝ := 1024
theorem l_v199 : val_main_v199 (F := Ideal) = vec (φ := .f32) 8192 (g199 D) := by
  unfold val_main_v199; rw [c_main_cst_39]
  exact bcastInDim_scl_vec _ _

def g200 (D : Mlp) (i : ℕ) : ℝ := (g198 D i) / (g199 D i)
theorem l_v200 : val_main_v200 (F := Ideal) = vec (φ := .f32) 8192 (g200 D) := by
  unfold val_main_v200; rw [l_v198 H, l_v199 H]
  exact hdivf_vec_of _ _ (fun i _ => by norm_num [g199])

def g201 (D : Mlp) (i j : ℕ) : ℝ := (g200 D i)
theorem l_v201 : val_main_v201 (F := Ideal) = mat (φ := .f32) 8192 1024 (g201 D) := by
  unfold val_main_v201; rw [l_v200 H]
  exact bcastInDim_vec_col _ _

def g202 (D : Mlp) (i j : ℕ) : ℝ := (g201 D i j) * (g191 D i j)
theorem l_v202 : val_main_v202 (F := Ideal) x0 x1 x2 x3 x4 x5 x6 x7 x8 x9 x10 x11 x12 x13 x14 x15 = mat (φ := .f32) 8192 1024 (g202 D) := by
  unfold val_main_v202; rw [l_v201 H, l_v191 H]
  exact mulf_mat _ _

omit H in
theorem c_main_cst_40 : val_main_cst_40 (F := Ideal) = scl (φ := .f32) 0 := constant_scl _ _ ofBits_zero
def g203 (D : Mlp) (i : ℕ) : ℝ := ∑ l ∈ range 8192, (g202 D l i)
theorem l_v203 : val_main_v203 (F := Ideal) x0 x1 x2 x3 x4 x5 x6 x7 x8 x9 x10 x11 x12 x13 x14 x15 = vec (φ := .f32) 1024 (g203 D) := by
  unfold val_main_v203; rw [l_v202 H, c_main_cst_40]
  exact hsum_cols _ _ _

def g204 (D : Mlp) (i j : ℕ) : ℝ := (g203 D j)
theorem l_v204 : val_main_v204 (F := Ideal) x0 x1 x2 x3 x4 x5 x6 x7 x8 x9 x10 x11 x12 x13 x14 x15 = mat (φ := .f32) 1 1024 (g204 D) := by
  unfold val_main_v204; rw [l_v203 H]
  exact shapeCast_vec_row _ _

def g205 (D : Mlp) (i j : ℕ) : ℝ := (D.xh2 i j) * (g202 D i j)
theorem l_v205 : val_main_v205 (F := Ideal) x0 x1 x2 x3 x4 x5 x6 x7 x8 x9 x10 x11 x12 x13 x14 x15 = mat (φ := .f32) 8192 1024 (g205 D) := by
  unfold val_main_v205; rw [l_v183 H, l_v202 H]
  exact mulf_mat _ _

omit H in
theorem c_main_cst_41 : val_main_cst_41 (F := Ideal) = scl (φ := .f32) 0 := constant_scl _ _ ofBits_zero
def g206 (D : Mlp) (i : ℕ) : ℝ := ∑ l ∈ range 8192, (g205 D l i)
theorem l_v206 : val_main_v206 (F := Ideal) x0 x1 x2 x3 x4 x5 x6 x7 x8 x9 x10 x11 x12 x13 x14 x15 = vec (φ := .f32) 1024 (g206 D) := by
  unfold val_main_v206; rw [l_v205 H, c_main_cst_41]
  exact hsum_cols _ _ _

def g207 (D : Mlp) (i j : ℕ) : ℝ := (g206 D j)
theorem l_v207 : val_main_v207 (F := Ideal) x0 x1 x2 x3 x4 x5 x6 x7 x8 x9 x10 x11 x12 x13 x14 x15 = mat (φ := .f32) 1 1024 (g207 D) := by
  unfold val_main_v207; rw [l_v206 H]
  exact shapeCast_vec_row _ _

def g208 (D : Mlp) (i j : ℕ) : ℝ := ((fun _ j => D.ln 2 j) 0 j)
theorem l_v208 : val_main_v208 (F := Ideal) x14 = mat (φ := .f32) 8192 1024 (g208 D) := by
  unfold val_main_v208; rw [H.l2g]
  exact bcastInDim_row _ _
theorem l_v209 : val_main_v209 (F := Ideal) x0 x1 x2 x3 x4 x5 x6 x7 x8 x9 x10 x11 x12 x13 x14 x15 = mat (φ := .f32) 8192 1024 (D.u) := by
  unfold val_main_v209; rw [l_v202 H, l_v208 H]
  exact (mulf_mat _ _).trans (mat_congr fun i _ j _ => (by simp only [Mlp.u, g202, g201, g200, g198, g197, g199, g191, g190, g208]; ring))

def g210 (D : Mlp) (i j : ℕ) : ℝ := (D.ctr i j) * (D.u i j)
theorem l_v210 : val_main_v210 (F := Ideal) x0 x1 x2 x3 x4 x5 x6 x7 x8 x9 x10 x11 x12 x13 x14 x15 = mat (φ := .f32) 8192 1024 (g210 D) := by
  unfold val_main_v210; rw [l_v175 H, l_v209 H]
  exact mulf_mat _ _

omit H in
theorem c_main_cst_42 : val_main_cst_42 (F := Ideal) = scl (φ := .f32) 0 := constant_scl _ _ ofBits_zero
def g211 (D : Mlp) (i : ℕ) : ℝ := ∑ l ∈ range 1024, (g210 D i l)
theorem l_v211 : val_main_v211 (F := Ideal) x0 x1 x2 x3 x4 x5 x6 x7 x8 x9 x10 x11 x12 x13 x14 x15 = vec (φ := .f32) 8192 (g211 D) := by
  unfold val_main_v211; rw [l_v210 H, c_main_cst_42]
  exact hsum_rows _ _ _

def g212 (D : Mlp) (i j : ℕ) : ℝ := (g211 D i)
theorem l_v212 : val_main_v212 (F := Ideal) x0 x1 x2 x3 x4 x5 x6 x7 x8 x9 x10 x11 x12 x13 x14 x15 = mat (φ := .f32) 8192 1 (g212 D) := by
  unfold val_main_v212; rw [l_v211 H]
  exact shapeCast_vec_col _ _

def g213 (D : Mlp) (i j : ℕ) : ℝ := ((fun i _ => D.rstd i) i 0)
theorem l_v213 : val_main_v213 (F := Ideal) x1 x2 x3 x4 x5 x6 x7 x8 x9 x10 x11 x12 x13 = mat (φ := .f32) 8192 1024 (g213 D) := by
  unfold val_main_v213; rw [l_v178 H]
  exact bcastInDim_col _ _

def g214 (D : Mlp) (i j : ℕ) : ℝ := (D.u i j) * (g213 D i j)
theorem l_v214 : val_main_v214 (F := Ideal) x0 x1 x2 x3 x4 x5 x6 x7 x8 x9 x10 x11 x12 x13 x14 x15 = mat (φ := .f32) 8192 1024 (g214 D) := by
  unfold val_main_v214; rw [l_v209 H, l_v213 H]
  exact mulf_mat _ _

def g215 (D : Mlp) (i j : ℕ) : ℝ := (g212 D i j) * (g181 D i j)
theorem l_v215 : val_main_v215 (F := Ideal) x0 x1 x2 x3 x4 x5 x6 x7 x8 x9 x10 x11 x12 x13 x14 x15 = mat (φ := .f32) 8192 1 (g215 D) := by
  unfold val_main_v215; rw [l_v212 H, l_v181 H]
  exact mulf_mat _ _

def g216 (D : Mlp) (i j : ℕ) : ℝ := -(g214 D i j)
theorem l_v216 : val_main_v216 (F := Ideal) x0 x1 x2 x3 x4 x5 x6 x7 x8 x9 x10 x11 x12 x13 x14 x15 = mat (φ := .f32) 8192 1024 (g216 D) := by
  unfold val_main_v216; rw [l_v214 H]
  exact hnegf_mat _

omit H in
theorem c_main_cst_43 : val_main_cst_43 (F := Ideal) = scl (φ := .f32) 0 := constant_scl _ _ ofBits_zero
def g217 (D : Mlp) (i : ℕ) : ℝ := ∑ l ∈ range 1024, (g216 D i l)
theorem l_v217 : val_main_v217 (F := Ideal) x0 x1 x2 x3 x4 x5 x6 x7 x8 x9 x10 x11 x12 x13 x14 x15 = vec (φ := .f32) 8192 (g217 D) := by
  unfold val_main_v217; rw [l_v216 H, c_main_cst_43]
  exact hsum_rows _ _ _

def g218 (D : Mlp) (i j : ℕ) : ℝ := (g217 D i)
theorem l_v218 : val_main_v218 (F := Ideal) x0 x1 x2 x3 x4 x5 x6 x7 x8 x9 x10 x11 x12 x13 x14 x15 = mat (φ := .f32) 8192 1 (g218 D) := by
  unfold val_main_v218; rw [l_v217 H]
  exact shapeCast_vec_col _ _

omit H in
theorem c_main_cst_44 : val_main_cst_44 (F := Ideal) = scl (φ := .f32) 1024 := constant_scl _ _ ofBits_1024
def g219 (D : Mlp) (i j : ℕ) : ℝ := 1024
theorem l_v219 : val_main_v219 (F := Ideal) = mat (φ := .f32) 8192 1 (g219 D) := by
  unfold val_main_v219; rw [c_main_cst_44]
  exact bcastInDim_scl_mat _ _

def g220 (D : Mlp) (i j : ℕ) : ℝ := (g215 D i j) / (g219 D i j)
theorem l_v220 : val_main_v220 (F := Ideal) x0 x1 x2 x3 x4 x5 x6 x7 x8 x9 x10 x11 x12 x13 x14 x15 = mat (φ := .f32) 8192 1 (g220 D) := by
  unfold val_main_v220; rw [l_v215 H, l_v219 H]
  exact hdivf_mat_of _ _ (fun i _ j _ => by norm_num [g219])

omit H in
theorem c_main_cst_45 : val_main_cst_45 (F := Ideal) = scl (φ := .f32) 0 := constant_scl _ _ ofBits_zero
def g221 (D : Mlp) (i : ℕ) : ℝ := ∑ l ∈ range 1, (g220 D i l)
theorem l_v221 : val_main_v221 (F := Ideal) x0 x1 x2 x3 x4 x5 x6 x7 x8 x9 x10 x11 x12 x13 x14 x15 = vec (φ := .f32) 8192 (g221 D) := by
  unfold val_main_v221; rw [l_v220 H, c_main_cst_45]
  exact hsum_rows _ _ _

def g222 (D : Mlp) (i j : ℕ) : ℝ := (g221 D i)
theorem l_v222 : val_main_v222 (F := Ideal) x0 x1 x2 x3 x4 x5 x6 x7 x8 x9 x10 x11 x12 x13 x14 x15 = mat (φ := .f32) 8192 1024 (g222 D) := by
  unfold val_main_v222; rw [l_v221 H]
  exact bcastInDim_vec_col _ _

def g223 (D : Mlp) (i j : ℕ) : ℝ := (g222 D i j) * (g169 D i j)
theorem l_v223 : val_main_v223 (F := Ideal) x0 x1 x2 x3 x4 x5 x6 x7 x8 x9 x10 x11 x12 x13 x14 x15 = mat (φ := .f32) 8192 1024 (g223 D) := by
  unfold val_main_v223; rw [l_v222 H, l_v169 H]
  exact mulf_mat _ _

def g224 (D : Mlp) (i j : ℕ) : ℝ := -(g223 D i j)
theorem l_v224 : val_main_v224 (F := Ideal) x0 x1 x2 x3 x4 x5 x6 x7 x8 x9 x10 x11 x12 x13 x14 x15 = mat (φ := .f32) 8192 1024 (g224 D) := by
  unfold val_main_v224; rw [l_v223 H]
  exact hnegf_mat _

omit H in
theorem c_main_cst_46 : val_main_cst_46 (F := Ideal) = scl (φ := .f32) 0 := constant_scl _ _ ofBits_zero
def g225 (D : Mlp) (i : ℕ) : ℝ := ∑ l ∈ range 1024, (g224 D i l)
theorem l_v225 : val_main_v225 (F := Ideal) x0 x1 x2 x3 x4 x5 x6 x7 x8 x9 x10 x11 x12 x13 x14 x15 = vec (φ := .f32) 8192 (g225 D) := by
  unfold val_main_v225; rw [l_v224 H, c_main_cst_46]
  exact hsum_rows _ _ _

def g226 (D : Mlp) (i j : ℕ) : ℝ := (g225 D i)
theorem l_v226 : val_main_v226 (F := Ideal) x0 x1 x2 x3 x4 x5 x6 x7 x8 x9 x10 x11 x12 x13 x14 x15 = mat (φ := .f32) 8192 1 (g226 D) := by
  unfold val_main_v226; rw [l_v225 H]
  exact shapeCast_vec_col _ _

def g227 (D : Mlp) (i j : ℕ) : ℝ := (g214 D i j) + (g223 D i j)
theorem l_v227 : val_main_v227 (F := Ideal) x0 x1 x2 x3 x4 x5 x6 x7 x8 x9 x10 x11 x12 x13 x14 x15 = mat (φ := .f32) 8192 1024 (g227 D) := by
  unfold val_main_v227; rw [l_v214 H, l_v223 H]
  exact addf_mat _ _

def g228 (D : Mlp) (i j : ℕ) : ℝ := (g218 D i j) + (g226 D i j)
theorem l_v228 : val_main_v228 (F := Ideal) x0 x1 x2 x3 x4 x5 x6 x7 x8 x9 x10 x11 x12 x13 x14 x15 = mat (φ := .f32) 8192 1 (g228 D) := by
  unfold val_main_v228; rw [l_v218 H, l_v226 H]
  exact addf_mat _ _

omit H in
theorem c_main_cst_47 : val_main_cst_47 (F := Ideal) = scl (φ := .f32) 1024 := constant_scl _ _ ofBits_1024
def g229 (D : Mlp) (i j : ℕ) : ℝ := 1024
theorem l_v229 : val_main_v229 (F := Ideal) = mat (φ := .f32) 8192 1 (g229 D) := by
  unfold val_main_v229; rw [c_main_cst_47]
  exact bcastInDim_scl_mat _ _

def g230 (D : Mlp) (i j : ℕ) : ℝ := (g228 D i j) / (g229 D i j)
theorem l_v230 : val_main_v230 (F := Ideal) x0 x1 x2 x3 x4 x5 x6 x7 x8 x9 x10 x11 x12 x13 x14 x15 = mat (φ := .f32) 8192 1 (g230 D) := by
  unfold val_main_v230; rw [l_v228 H, l_v229 H]
  exact hdivf_mat_of _ _ (fun i _ j _ => by norm_num [g229])

omit H in
theorem c_main_cst_48 : val_main_cst_48 (F := Ideal) = scl (φ := .f32) 0 := constant_scl _ _ ofBits_zero
def g231 (D : Mlp) (i : ℕ) : ℝ := ∑ l ∈ range 1, (g230 D i l)
theorem l_v231 : val_main_v231 (F := Ideal) x0 x1 x2 x3 x4 x5 x6 x7 x8 x9 x10 x11 x12 x13 x14 x15 = vec (φ := .f32) 8192 (g231 D) := by
  unfold val_main_v231; rw [l_v230 H, c_main_cst_48]
  exact hsum_rows _ _ _

def g232 (D : Mlp) (i j : ℕ) : ℝ := (g231 D i)
theorem l_v232 : val_main_v232 (F := Ideal) x0 x1 x2 x3 x4 x5 x6 x7 x8 x9 x10 x11 x12 x13 x14 x15 = mat (φ := .f32) 8192 1024 (g232 D) := by
  unfold val_main_v232; rw [l_v231 H]
  exact bcastInDim_vec_col _ _
theorem l_v233 : val_main_v233 (F := Ideal) x0 x1 x2 x3 x4 x5 x6 x7 x8 x9 x10 x11 x12 x13 x14 x15 = mat (φ := .f32) 8192 1024 (D.dr) := by
  unfold val_main_v233; rw [l_v227 H, l_v232 H]
  exact (addf_mat _ _).trans (mat_congr fun i _ j _ => (by
    have h := layer_norm_back (fun l => D.ctr i l) (fun l => D.u i l) (D.rstd i) (D.var i + eps)
      (sum_centred (n := 1024) (fun l => D.r i l) (by norm_num)) (inv_sqrt_cube _ (D.var_eps_pos i)) 1024 j
    simp only [sum_range_one, g232, g231, g230, g229, g228, g227, g226, g225, g224, g223, g222, g221, g220, g219, g218, g217, g216, g215, g214, g213, g212, g211, g210, g181, g180, g179, g177, g176, g173, g172, g171, g170, g169, g168, g167]
    exact h))

def g234 (D : Mlp) (i j : ℕ) : ℝ := (g157 D 0 j)
theorem l_v234 : val_main_v234 (F := Ideal) x2 x3 x4 = mat (φ := .f32) 8192 1024 (g234 D) := by
  unfold val_main_v234; rw [l_v157 H]
  exact bcastInDim_row _ _
theorem l_v235 : val_main_v235 (F := Ideal) x0 x1 x2 x3 x4 x5 x6 x7 x8 x9 x10 x11 x12 x13 x14 x15 = mat (φ := .f32) 8192 1024 (D.df) := by
  unfold val_main_v235; rw [l_v234 H, l_v233 H]
  exact (mulf_mat _ _).trans (mat_congr fun i _ j _ => (by simp only [Mlp.df, g234, g157, g156, g134, add_zero, zero_add, Mlp.sh, Mlp.sc, Mlp.g]))

def g236 (D : Mlp) (i j : ℕ) : ℝ := (D.dr i j) * (D.f i j)
theorem l_v236 : val_main_v236 (F := Ideal) x0 x1 x2 x3 x4 x5 x6 x7 x8 x9 x10 x11 x12 x13 x14 x15 = mat (φ := .f32) 8192 1024 (g236 D) := by
  unfold val_main_v236; rw [l_v233 H, l_v153 H]
  exact mulf_mat _ _

omit H in
theorem c_main_cst_49 : val_main_cst_49 (F := Ideal) = scl (φ := .f32) 0 := constant_scl _ _ ofBits_zero
def g237 (D : Mlp) (i : ℕ) : ℝ := ∑ l ∈ range 8192, (g236 D l i)
theorem l_v237 : val_main_v237 (F := Ideal) x0 x1 x2 x3 x4 x5 x6 x7 x8 x9 x10 x11 x12 x13 x14 x15 = vec (φ := .f32) 1024 (g237 D) := by
  unfold val_main_v237; rw [l_v236 H, c_main_cst_49]
  exact hsum_cols _ _ _

def g238 (D : Mlp) (i j : ℕ) : ℝ := (g237 D j)
theorem l_v238 : val_main_v238 (F := Ideal) x0 x1 x2 x3 x4 x5 x6 x7 x8 x9 x10 x11 x12 x13 x14 x15 = mat (φ := .f32) 1 1024 (g238 D) := by
  unfold val_main_v238; rw [l_v237 H]
  exact shapeCast_vec_row _ _

omit H in
theorem c_main_cst_50 : val_main_cst_50 (F := Ideal) = scl (φ := .f32) alpha := constant_scl _ _ ofBits_alpha
def g239 (D : Mlp) (i j : ℕ) : ℝ := alpha
theorem l_v239 : val_main_v239 (F := Ideal) = mat (φ := .f32) 8192 1024 (g239 D) := by
  unfold val_main_v239; rw [c_main_cst_50]
  exact bcastInDim_scl_mat _ _

def g240 (D : Mlp) (i j : ℕ) : ℝ := (g239 D i j) * (D.dr i j)
theorem l_v240 : val_main_v240 (F := Ideal) x0 x1 x2 x3 x4 x5 x6 x7 x8 x9 x10 x11 x12 x13 x14 x15 = mat (φ := .f32) 8192 1024 (g240 D) := by
  unfold val_main_v240; rw [l_v239 H, l_v233 H]
  exact mulf_mat _ _

def g241 (D : Mlp) (i j : ℕ) : ℝ := ∑ l ∈ range 1024, (D.df i l) * (D.wo j l)
theorem l_v241 : val_main_v241 (F := Ideal) x0 x1 x2 x3 x4 x5 x6 x7 x8 x9 x10 x11 x12 x13 x14 x15 = mat (φ := .f32) 8192 4096 (g241 D) := by
  unfold val_main_v241; rw [(l_v235 H), H.wo]; unfold Host.dotGeneral;
  exact dot_t_mat _ _ _ rfl _ _

def g242 (D : Mlp) (i j : ℕ) : ℝ := (g241 D i j) * (g151 D i j)
theorem l_v242 : val_main_v242 (F := Ideal) x0 x1 x2 x3 x4 x5 x6 x7 x8 x9 x10 x11 x12 x13 x14 x15 = mat (φ := .f32) 8192 4096 (g242 D) := by
  unfold val_main_v242; rw [l_v241 H, l_v151 H]
  exact mulf_mat _ _

omit H in
theorem c_main_cst_51 : val_main_cst_51 (F := Ideal) = scl (φ := .f32) 0 := constant_scl _ _ ofBits_zero
def g243 (D : Mlp) (i j : ℕ) : ℝ := 0
theorem l_v243 : val_main_v243 (F := Ideal) = mat (φ := .f32) 8192 4096 (g243 D) := by
  unfold val_main_v243; rw [c_main_cst_51]
  exact bcastInDim_scl_mat _ _

/-- The hidden layer's derivative is twice its positive part: nothing where it is not positive. -/
theorem l_v244 : val_main_v244 (F := Ideal) x0 x1 x2 x3 x4 x5 x6 x7 x8 x9 x10 x11 x12 x13 x14 x15 = mat (φ := .f32) 8192 4096 D.du := by
  unfold val_main_v244 val_main_v147; rw [l_v144 H, l_v146 H, l_v242 H, l_v243 H]
  refine (select_ogt_mat _ _ _ _).trans (mat_congr fun i _ j _ => ?_)
  have hp : D.p i j = max (g144 D i j) 0 := by simp only [Mlp.p, g144, g143, g135, add_zero]
  simp only [g146, g242, g243, g241, g151, g150, Mlp.du]
  split_ifs with h
  · rfl
  · rw [hp, max_eq_right (not_lt.mp h), mul_zero, mul_zero]
theorem l_v245 : val_main_v245 (F := Ideal) x0 x1 x2 x3 x4 x5 x6 x7 x8 x9 x10 x11 x12 x13 x14 x15 = mat (φ := .f32) 8192 1024 (D.dh) := by
  unfold val_main_v245; rw [(l_v244 H), H.wi]; unfold Host.dotGeneral;
  exact (dot_t_mat _ _ _ rfl _ _).trans (mat_congr fun i _ j _ => rfl)

omit H in
theorem c_main_cst_52 : val_main_cst_52 (F := Ideal) = scl (φ := .f32) 0 := constant_scl _ _ ofBits_zero
def g246 (D : Mlp) (i : ℕ) : ℝ := ∑ l ∈ range 8192, (D.dh l i)
theorem l_v246 : val_main_v246 (F := Ideal) x0 x1 x2 x3 x4 x5 x6 x7 x8 x9 x10 x11 x12 x13 x14 x15 = vec (φ := .f32) 1024 (g246 D) := by
  unfold val_main_v246; rw [l_v245 H, c_main_cst_52]
  exact hsum_cols _ _ _

def g247 (D : Mlp) (i j : ℕ) : ℝ := (g246 D j)
theorem l_v247 : val_main_v247 (F := Ideal) x0 x1 x2 x3 x4 x5 x6 x7 x8 x9 x10 x11 x12 x13 x14 x15 = mat (φ := .f32) 1 1024 (g247 D) := by
  unfold val_main_v247; rw [l_v246 H]
  exact shapeCast_vec_row _ _

def g248 (D : Mlp) (i j : ℕ) : ℝ := (D.x1 i j) * (D.dh i j)
theorem l_v248 : val_main_v248 (F := Ideal) x0 x1 x2 x3 x4 x5 x6 x7 x8 x9 x10 x11 x12 x13 x14 x15 = mat (φ := .f32) 8192 1024 (g248 D) := by
  unfold val_main_v248; rw [l_v131 H, l_v245 H]
  exact mulf_mat _ _

omit H in
theorem c_main_cst_53 : val_main_cst_53 (F := Ideal) = scl (φ := .f32) 0 := constant_scl _ _ ofBits_zero
def g249 (D : Mlp) (i : ℕ) : ℝ := ∑ l ∈ range 8192, (g248 D l i)
theorem l_v249 : val_main_v249 (F := Ideal) x0 x1 x2 x3 x4 x5 x6 x7 x8 x9 x10 x11 x12 x13 x14 x15 = vec (φ := .f32) 1024 (g249 D) := by
  unfold val_main_v249; rw [l_v248 H, c_main_cst_53]
  exact hsum_cols _ _ _

def g250 (D : Mlp) (i j : ℕ) : ℝ := (g249 D j)
theorem l_v250 : val_main_v250 (F := Ideal) x0 x1 x2 x3 x4 x5 x6 x7 x8 x9 x10 x11 x12 x13 x14 x15 = mat (φ := .f32) 1 1024 (g250 D) := by
  unfold val_main_v250; rw [l_v249 H]
  exact shapeCast_vec_row _ _

def g251 (D : Mlp) (i j : ℕ) : ℝ := (g138 D 0 j)
theorem l_v251 : val_main_v251 (F := Ideal) x2 x3 x4 = mat (φ := .f32) 8192 1024 (g251 D) := by
  unfold val_main_v251; rw [l_v138 H]
  exact bcastInDim_row _ _

def g252 (D : Mlp) (i j : ℕ) : ℝ := (D.dh i j) * (g251 D i j)
theorem l_v252 : val_main_v252 (F := Ideal) x0 x1 x2 x3 x4 x5 x6 x7 x8 x9 x10 x11 x12 x13 x14 x15 = mat (φ := .f32) 8192 1024 (g252 D) := by
  unfold val_main_v252; rw [l_v245 H, l_v251 H]
  exact mulf_mat _ _
theorem l_v253 : val_main_v253 (F := Ideal) x0 x1 x2 x3 x4 x5 x6 x7 x8 x9 x10 x11 x12 x13 x14 x15 = mat (φ := .f32) 8192 1024 (D.dx) := by
  unfold val_main_v253; rw [l_v240 H, l_v252 H]
  exact (addf_mat _ _).trans (mat_congr fun i _ j _ => (by simp only [Mlp.dx, g240, g239, g252, g251, g138, g137, g133, add_zero, zero_add, Mlp.sh, Mlp.sc, Mlp.g]))

def g254 (D : Mlp) (i j : ℕ) : ℝ := (g196 D)
theorem l_v254 : val_main_v254 (F := Ideal) x0 x1 x2 x3 x4 x5 x6 x7 x8 x9 x10 x11 x12 x13 x14 x15 = mat (φ := .f32) 1 1024 (g254 D) := by
  unfold val_main_v254; rw [l_v196 H]
  exact bcastInDim_scl_mat _ _

omit H in
theorem c_main_cst_54 : val_main_cst_54 (F := Ideal) = scl (φ := .f32) 0 := constant_scl _ _ ofBits_zero
def g255 (D : Mlp) (i j : ℕ) : ℝ := 0
theorem l_v255 : val_main_v255 (F := Ideal) = mat (φ := .f32) 2 1024 (g255 D) := by
  unfold val_main_v255; rw [c_main_cst_54]
  exact bcastInDim_scl_mat _ _

/-- The eight rows of the sums, as the reference joins them. -/
theorem l_v256 : val_main_v256 (F := Ideal) x0 x1 x2 x3 x4 x5 x6 x7 x8 x9 x10 x11 x12 x13 x14 x15 = mat (φ := .f32) 8 1024 fun i j =>
    if i = 0 then g207 D 0 j else if i = 1 then g204 D 0 j else if i = 2 then g247 D 0 j else if i = 3 then g250 D 0 j
    else if i = 4 then g238 D 0 j else if i = 5 then g254 D 0 j else 0 := by
  unfold val_main_v256; rw [l_v207 H, l_v204 H, l_v247 H, l_v250 H, l_v238 H, l_v254 H, l_v255 H]
  funext i
  have hi : (i 0).val < 8 := (i 0).isLt
  show _ = ((if (i 0).val = 0 then g207 D 0 (i 1).val else if (i 0).val = 1 then g204 D 0 (i 1).val else if (i 0).val = 2 then g247 D 0 (i 1).val
    else if (i 0).val = 3 then g250 D 0 (i 1).val else if (i 0).val = 4 then g238 D 0 (i 1).val else if (i 0).val = 5 then g254 D 0 (i 1).val else 0 : ℝ) : EReal)
  obtain h | h | h | h | h | h | h : (i 0).val = 0 ∨ (i 0).val = 1 ∨ (i 0).val = 2 ∨ (i 0).val = 3 ∨ (i 0).val = 4 ∨ (i 0).val = 5 ∨ 6 ≤ (i 0).val := by omega
  · refine (concat_row (p := 1) (g207 D) _ _ i 0 (by exact show 0 < 7 by norm_num) rfl 0 rfl (by omega) (by omega)).trans ?_
    rw [h, if_pos rfl]
  · refine (concat_row (p := 1) (g204 D) _ _ i 1 (by exact show 1 < 7 by norm_num) rfl 1 rfl (by omega) (by omega)).trans ?_
    rw [h]; norm_num
  · refine (concat_row (p := 1) (g247 D) _ _ i 2 (by exact show 2 < 7 by norm_num) rfl 2 rfl (by omega) (by omega)).trans ?_
    rw [h]; norm_num
  · refine (concat_row (p := 1) (g250 D) _ _ i 3 (by exact show 3 < 7 by norm_num) rfl 3 rfl (by omega) (by omega)).trans ?_
    rw [h]; norm_num
  · refine (concat_row (p := 1) (g238 D) _ _ i 4 (by exact show 4 < 7 by norm_num) rfl 4 rfl (by omega) (by omega)).trans ?_
    rw [h]; norm_num
  · refine (concat_row (p := 1) (g254 D) _ _ i 5 (by exact show 5 < 7 by norm_num) rfl 5 rfl (by omega) (by omega)).trans ?_
    rw [h]; norm_num
  · refine (concat_row (p := 2) (g255 D) _ _ i 6 (by exact show 6 < 7 by norm_num) rfl 6 rfl (by omega) (by omega)).trans ?_
    rw [if_neg (by omega), if_neg (by omega), if_neg (by omega), if_neg (by omega), if_neg (by omega), if_neg (by omega)]; rfl

end Cert.MlpRef

end
-- ==== Proof.MlpPoint.lean ====
/- What one grid point of the MLP kernel computes from real blocks. -/
module

public import proofs.«01_k».proof.Proof.MlpReal
public import proofs.«01_k».proof.Proof.Gen.KernelIdeal.Skeleton

@[expose] public section

set_option maxRecDepth 16384
set_option backward.isDefEq.respectTransparency false

noncomputable section

namespace Cert.MlpPoint

open Finset Cert.RealMat Cert.MlpReal Idealize.ShloMosaic Cert.KernelIdeal Cert.KernelIdeal.Gen

theorem dot_nn : dot_S512x1024_S1024x1024_S512x1024_1_0_0_1_n_n = DotDims.plain 512 1024 1024 := rfl
theorem dot_nt : dot_S512x1024_S1024x1024_S512x1024_1_1_0_0_n_n = DotDims.transposedRhs 512 1024 1024 := rfl

/-- A row of 1024 real numbers. -/
abbrev row (f : ℕ → ℝ) : FVec Ideal S1x1024 .f32 := mat 1 1024 fun _ => f
/-- A column of 512 real numbers. -/
abbrev col (f : ℕ → ℝ) : FVec Ideal S512x1 .f32 := mat 512 1 fun i _ => f i
abbrev blk (f : ℕ → ℕ → ℝ) : FVec Ideal S512x1024 .f32 := mat 512 1024 f
abbrev blkB (f : ℕ → ℕ → ℝ) : FVec Ideal S512x1024 .bf16 := mat 512 1024 f
/-- Column block `b` of the first weight. -/
abbrev wiB (D : Mlp) (b : ℕ) : FVec Ideal S1024x1024 .bf16 := mat 1024 1024 fun i j => D.wi i (1024 * b + j)
/-- Row block `b` of the second weight. -/
abbrev woB (D : Mlp) (b : ℕ) : FVec Ideal S1024x1024 .bf16 := mat 1024 1024 fun i j => D.wo (1024 * b + i) j
/-- Column block `b` of a wide array. -/
abbrev cols (b : ℕ) (f : ℕ → ℕ → ℝ) (i j : ℕ) : ℝ := f i (1024 * b + j)

/-- Entry-by-entry operations on matrices of real numbers. -/
def E := And.intro @shapeCast_mat_self (And.intro @broadcastTo_row (And.intro @broadcastTo_col (And.intro @broadcast_mat (And.intro @mulf_mat (And.intro @addf_mat (And.intro @subf_mat (And.intro @truncf_mat (@extf_mat))))))))
/-- Row sums, means and constants. -/
def R := And.intro @sum_rows_mat (And.intro @shapeCast_vec_col (And.intro @divf_mat_1024 (And.intro @ofBits_1024 (And.intro @ofBits_alpha (And.intro @ofBits_one (@ofBits_inv_1024))))))

variable (D : Mlp) (t : ℕ)

theorem pay4 : k0_pay4 (F := Ideal) (row D.sc)
    = row D.sc := by
  simp only [k0_pay4, E]

theorem pay5 : k0_pay5 (F := Ideal) (row D.g)
    = row D.g := by
  simp only [k0_pay5, E]

theorem pay6 : k0_pay6 (F := Ideal) (blk (rows t D.xh)) (row D.l1g) (row D.l1b)
    = blk (rows t D.x1) := by
  simp only [k0_pay6, E]; rfl

theorem pay7 : k0_pay7 (F := Ideal) (row D.sh) (row D.sc) (blk (rows t D.xh)) (row D.l1g) (row D.l1b)
    = blkB (rows t D.h) := by
  simp only [k0_pay7, pay4, pay6, ofBits_one, E]; rfl

theorem pay8 : k0_pay8 (F := Ideal)
    = blk fun _ _ => 0 := by
  simp only [k0_pay8, ofBits_zero, broadcast_mat]

theorem pay9 : k0_pay9 (F := Ideal) (row D.sh) (row D.sc) (blk (rows t D.xh)) (row D.l1g) (row D.l1b) (wiB D 0)
    = blk (cols 0 (rows t D.p)) := by
  simp only [k0_pay9, pay7, E, constant_mat_zero, dot_nn, dot_nt, matmul_plain, matmul_transposed, maximumf_mat, ofBits_zero, ofBits_two, zero_add]; rfl

theorem pay10 : k0_pay10 (F := Ideal) (row D.sh) (row D.sc) (blk (rows t D.xh)) (row D.l1g) (row D.l1b) (wiB D 0)
    = blkB (cols 0 (rows t D.p)) := by
  simp only [k0_pay10, pay9, E]

theorem pay11 : k0_pay11 (F := Ideal) (blk (cols 0 (rows t D.p)))
    = blkB (cols 0 (rows t D.a)) := by
  simp only [k0_pay11, E]; rfl

theorem pay12 : k0_pay12 (F := Ideal) (blkB (rows t D.h)) (wiB D 1)
    = blk (cols 1 (rows t D.p)) := by
  simp only [k0_pay12, E, constant_mat_zero, dot_nn, dot_nt, matmul_plain, matmul_transposed, maximumf_mat, ofBits_zero, ofBits_two, zero_add]; rfl

theorem pay13 : k0_pay13 (F := Ideal) (blkB (rows t D.h)) (wiB D 1)
    = blkB (cols 1 (rows t D.p)) := by
  simp only [k0_pay13, pay12, E]

theorem pay14 : k0_pay14 (F := Ideal) (blkB (rows t D.h)) (wiB D 1)
    = blkB (cols 1 (rows t D.a)) := by
  simp only [k0_pay14, pay12, E]; rfl

theorem pay16 : k0_pay16 (F := Ideal) (blkB (rows t D.h)) (wiB D 2)
    = blk (cols 2 (rows t D.p)) := by
  simp only [k0_pay16, E, constant_mat_zero, dot_nn, dot_nt, matmul_plain, matmul_transposed, maximumf_mat, ofBits_zero, ofBits_two, zero_add]; rfl

theorem pay17 : k0_pay17 (F := Ideal) (blkB (rows t D.h)) (wiB D 2)
    = blkB (cols 2 (rows t D.p)) := by
  simp only [k0_pay17, pay16, E]

theorem pay18 : k0_pay18 (F := Ideal) (blkB (rows t D.h)) (wiB D 2)
    = blkB (cols 2 (rows t D.a)) := by
  simp only [k0_pay18, pay16, E]; rfl

theorem pay19 : k0_pay19 (F := Ideal) (blkB (rows t D.h)) (wiB D 3)
    = blk (cols 3 (rows t D.p)) := by
  simp only [k0_pay19, E, constant_mat_zero, dot_nn, dot_nt, matmul_plain, matmul_transposed, maximumf_mat, ofBits_zero, ofBits_two, zero_add]; rfl

theorem pay20 : k0_pay20 (F := Ideal) (blkB (rows t D.h)) (wiB D 3)
    = blkB (cols 3 (rows t D.p)) := by
  simp only [k0_pay20, pay19, E]

theorem pay21 : k0_pay21 (F := Ideal) (blkB (rows t D.h)) (wiB D 3)
    = blkB (cols 3 (rows t D.a)) := by
  simp only [k0_pay21, pay19, E]; rfl

/-- The second product over its first two blocks. -/
def fHalf (i j : ℕ) : ℝ := (0 + (0 + ∑ k ∈ range 1024, rows t D.a i (1024 * 0 + k) * D.wo (1024 * 0 + k) j))
  + (0 + ∑ k ∈ range 1024, rows t D.a i (1024 * 1 + k) * D.wo (1024 * 1 + k) j)

theorem pay15 : k0_pay15 (F := Ideal) (blkB (rows t D.h)) (blk fun _ _ => 0) (blk (cols 0 (rows t D.p))) (woB D 0) (wiB D 1) (woB D 1)
    = blk (fHalf D t) := by
  simp only [k0_pay15, pay11, pay14, E, constant_mat_zero, dot_nn, dot_nt, matmul_plain, matmul_transposed, maximumf_mat, ofBits_zero, ofBits_two]; rfl

theorem pay22 : k0_pay22 (F := Ideal) (blkB (rows t D.h)) (blk (fHalf D t)) (blkB (cols 2 (rows t D.a))) (woB D 2) (wiB D 3) (woB D 3)
    = blk (rows t D.f) := by
  simp only [k0_pay22, pay21, E, constant_mat_zero, dot_nn, dot_nt, matmul_plain, matmul_transposed, maximumf_mat, ofBits_zero, ofBits_two]
  refine mat_congr fun i _ j _ => ?_
  exact (sum_four fun k => rows t D.a i k * D.wo k j).symm

theorem pay23 : k0_pay23 (F := Ideal) (row D.g) (blk (rows t D.x1)) (blkB (rows t D.h)) (blk (fHalf D t)) (blkB (cols 2 (rows t D.a))) (woB D 2) (wiB D 3) (woB D 3)
    = blk (rows t D.ctr) := by
  simp only [k0_pay23, pay22, E, R]; rfl

theorem pay24 : k0_pay24 (F := Ideal) (row D.g) (blk (rows t D.x1)) (blkB (rows t D.h)) (blk (fHalf D t)) (blkB (cols 2 (rows t D.a))) (woB D 2) (wiB D 3) (woB D 3)
    = col fun i => ∑ l ∈ range 1024, rows t D.ctr i l * rows t D.ctr i l := by
  simp only [k0_pay24, pay23, E, R]

theorem pay25 : k0_pay25 (F := Ideal)
    = col fun _ => 1024 := by
  simp only [k0_pay25, ofBits_1024, broadcast_mat]

theorem pay26 : k0_pay26 (F := Ideal) (col fun i => ∑ l ∈ range 1024, rows t D.ctr i l * rows t D.ctr i l) (col fun _ => 1024)
    = col fun i => D.rstd (512 * t + i) := by
  simp only [k0_pay26, E, R, ofBits_eps]
  exact rsqrt_mat _ fun i _ j _ => D.var_eps_pos (512 * t + i)

theorem pay27 : k0_pay27 (F := Ideal) (blk (rows t D.ctr)) (col fun i => ∑ l ∈ range 1024, rows t D.ctr i l * rows t D.ctr i l) (col fun _ => 1024)
    = blk (rows t D.xh2) := by
  simp only [k0_pay27, pay26, E]; rfl

theorem pay28 : k0_pay28 (F := Ideal) (row D.l2g)
    = row D.l2g := by
  simp only [k0_pay28, E]

theorem pay29 : k0_pay29 (F := Ideal) (blk (rows t D.ctr)) (col fun i => ∑ l ∈ range 1024, rows t D.ctr i l * rows t D.ctr i l) (col fun _ => 1024) (row D.l2g) (row D.l2b) (blk (rows t D.t))
    = blk (rows t D.d) := by
  simp only [k0_pay29, pay28, pay27, E]; rfl

theorem pay30 : k0_pay30 (F := Ideal) (blk (rows t D.ctr)) (col fun i => ∑ l ∈ range 1024, rows t D.ctr i l * rows t D.ctr i l) (col fun _ => 1024) (row D.l2g) (row D.l2b) (blk (rows t D.t))
    = blk (rows t D.dr) := by
  simp only [k0_pay30, pay29, pay28, pay27, pay26, E, R]; rfl

theorem pay31 : k0_pay31 (F := Ideal) (row D.g) (blk (rows t D.ctr)) (col fun i => ∑ l ∈ range 1024, rows t D.ctr i l * rows t D.ctr i l) (col fun _ => 1024) (row D.l2g) (row D.l2b) (blk (rows t D.t))
    = blkB (rows t D.df) := by
  simp only [k0_pay31, pay30, E, R]; rfl

theorem pay32 : k0_pay32 (F := Ideal)
    = blk fun _ _ => 0 := by
  simp only [k0_pay32, ofBits_zero, broadcast_mat]

theorem pay33 : k0_pay33 (F := Ideal) (blkB (rows t D.df)) (woB D 0) (blkB (cols 0 (rows t D.p)))
    = blkB (cols 0 (rows t D.du)) := by
  simp only [k0_pay33, E, constant_mat_zero, dot_nn, dot_nt, matmul_plain, matmul_transposed, maximumf_mat, ofBits_zero, ofBits_two, zero_add]; rfl

theorem pay34 : k0_pay34 (F := Ideal) (blkB (rows t D.df)) (woB D 1) (blkB (cols 1 (rows t D.p)))
    = blkB (cols 1 (rows t D.du)) := by
  simp only [k0_pay34, E, constant_mat_zero, dot_nn, dot_nt, matmul_plain, matmul_transposed, maximumf_mat, ofBits_zero, ofBits_two, zero_add]; rfl

theorem pay38 : k0_pay38 (F := Ideal) (blkB (rows t D.df)) (woB D 3) (blkB (cols 3 (rows t D.p)))
    = blkB (cols 3 (rows t D.du)) := by
  simp only [k0_pay38, E, constant_mat_zero, dot_nn, dot_nt, matmul_plain, matmul_transposed, maximumf_mat, ofBits_zero, ofBits_two, zero_add]; rfl

/-- The backward product over its first two blocks. -/
def hHalf (i j : ℕ) : ℝ := (0 + (0 + ∑ k ∈ range 1024, rows t D.du i (1024 * 0 + k) * D.wi j (1024 * 0 + k)))
  + (0 + ∑ k ∈ range 1024, rows t D.du i (1024 * 1 + k) * D.wi j (1024 * 1 + k))

theorem pay35 : k0_pay35 (F := Ideal) (blkB (rows t D.df)) (blk fun _ _ => 0) (woB D 0) (blkB (cols 0 (rows t D.p))) (wiB D 0) (woB D 1) (blkB (cols 1 (rows t D.p))) (wiB D 1)
    = blk (hHalf D t) := by
  simp only [k0_pay35, pay33, pay34, E, constant_mat_zero, dot_nn, dot_nt, matmul_plain, matmul_transposed, maximumf_mat, ofBits_zero, ofBits_two]; rfl

/-- The gradient of the hidden layer's third block before its factor. -/
def g2 (i k : ℕ) : ℝ := ∑ j ∈ range 1024, rows t D.df i j * D.wo (1024 * 2 + k) j

theorem pay36 : k0_pay36 (F := Ideal) (blkB (rows t D.df)) (woB D 2)
    = blk (g2 D t) := by
  simp only [k0_pay36, E, constant_mat_zero, dot_nn, dot_nt, matmul_plain, matmul_transposed, maximumf_mat, ofBits_zero, ofBits_two, zero_add]; rfl

theorem pay37 : k0_pay37 (F := Ideal) (blk (g2 D t)) (blkB (cols 2 (rows t D.p)))
    = blkB (cols 2 (rows t D.du)) := by
  simp only [k0_pay37, E, constant_mat_zero, dot_nn, dot_nt, matmul_plain, matmul_transposed, maximumf_mat, ofBits_zero, ofBits_two, zero_add]; rfl

theorem pay39 : k0_pay39 (F := Ideal) (blkB (rows t D.df)) (blk (hHalf D t)) (blk (g2 D t)) (blkB (cols 2 (rows t D.p))) (wiB D 2) (woB D 3) (blkB (cols 3 (rows t D.p))) (wiB D 3)
    = blk (rows t D.dh) := by
  simp only [k0_pay39, pay37, pay38, E, constant_mat_zero, dot_nn, dot_nt, matmul_plain, matmul_transposed, maximumf_mat, ofBits_zero, ofBits_two]
  refine mat_congr fun i _ j _ => ?_
  exact (sum_four fun k => rows t D.du i k * D.wi j k).symm

theorem pay40 : k0_pay40 (F := Ideal) (row D.sc) (blk (rows t D.dr)) (blkB (rows t D.df)) (blk (hHalf D t)) (blk (g2 D t)) (blkB (cols 2 (rows t D.p))) (wiB D 2) (woB D 3) (blkB (cols 3 (rows t D.p))) (wiB D 3)
    = blk (rows t D.dx) := by
  simp only [k0_pay40, pay39, E, R]; rfl

theorem pay41 (f : ℕ → ℝ) : k0_pay41 (F := Ideal) (blk (rows t D.xh2)) (blk (rows t D.d)) (row f)
    = row fun j => f j + (∑ i ∈ range 512, rows t D.d i j * rows t D.xh2 i j) * (1 / 1024) := by
  simp only [k0_pay41, E, R, sum_cols_mat, shapeCast_vec_row]

theorem pay42 (f : ℕ → ℝ) : k0_pay42 (F := Ideal) (blk (rows t D.d)) (row f)
    = row fun j => f j + (∑ i ∈ range 512, rows t D.d i j) * (1 / 1024) := by
  simp only [k0_pay42, E, R, sum_cols_mat, shapeCast_vec_row]

theorem pay43 (f : ℕ → ℝ) : k0_pay43 (F := Ideal) (blk (rows t D.dh)) (row f)
    = row fun j => f j + ∑ i ∈ range 512, rows t D.dh i j := by
  simp only [k0_pay43, E, R, sum_cols_mat, shapeCast_vec_row]

theorem pay44 (f : ℕ → ℝ) : k0_pay44 (F := Ideal) (blk (rows t D.x1)) (blk (rows t D.dh)) (row f)
    = row fun j => f j + ∑ i ∈ range 512, rows t D.dh i j * rows t D.x1 i j := by
  simp only [k0_pay44, E, R, sum_cols_mat, shapeCast_vec_row]

theorem pay1 (f : ℕ → ℝ) : k0_pay1 (F := Ideal) (blk (rows t D.f)) (blk (rows t D.dr)) (row f)
    = row fun j => f j + ∑ i ∈ range 512, rows t D.dr i j * rows t D.f i j := by
  simp only [k0_pay1, E, R, sum_cols_mat, shapeCast_vec_row]

theorem pay2 (f : ℕ → ℝ) : k0_pay2 (F := Ideal) (blk (rows t D.d)) (row f)
    = row fun j => f j + (0 + (1 / 2048) * ∑ i ∈ range 512, ∑ j ∈ range 1024, rows t D.d i j * rows t D.d i j) := by
  simp only [k0_pay2, E, R, sum_cols_mat, shapeCast_vec_row, ofBits_zero, ofBits_inv_2048, sum_all_mat, mulf_real]

theorem pay3 : k0_pay3 (F := Ideal) = mat 8 1024 fun _ _ => 0 := by
  simp only [k0_pay3, ofBits_zero]; rfl

end Cert.MlpPoint

end
-- ==== Proof.MlpOut.lean ====
module

public import proofs.«01_k».proof.Proof.MlpPoint
public import proofs.«01_k».proof.Proof.Gen.KernelIdeal.Frame
public import Idealize.ShloMosaic.Lib.WritesUnit
public import Idealize.ShloMosaic.Lib.VecWindow
public import Idealize.ShloMosaic.Lib.Pipeline.CanonAppend
public import Idealize.ShloMosaic.Lib.Pipeline.ReadBack

@[expose] public section

set_option maxRecDepth 16384

noncomputable section

namespace Cert.MlpPoint

open Finset Cert.RealMat Cert.MlpReal Idealize.ShloMosaic Idealize.ShloMosaic.TcCoe Idealize.ShloMosaic.Tactic Idealize.SL Idealize.SL.Sem Cert.KernelIdeal Cert.KernelIdeal.Gen

theorem hz : (![0, 0] : Fin 2 → Nat) = fun _ => 0 := funext fun a => by fin_cases a <;> rfl

variable (D : Mlp) (t : ℕ) (md ln : ℕ → ℕ → ℝ)
variable (c : Dev nD) (i : grid0.Coords) (p1 : Memref sig .tc .vmem S512x1024 .f32) (h1 : p1.IsWhole) (p2 : Memref sig .tc .vmem S512x1024 .f32) (h2 : p2.IsWhole) (p3 : Memref sig .tc .vmem S6x1024 .f32) (h3 : p3.IsWhole) (p4 : Memref sig .tc .vmem S4x1024 .f32) (h4 : p4.IsWhole) (p5 : Memref sig .tc .vmem S1024x4096 .bf16) (h5 : p5.IsWhole) (p6 : Memref sig .tc .vmem S4096x1024 .bf16) (h6 : p6.IsWhole) (p7 : Memref sig .tc .vmem S512x1024 .f32) (h7 : p7.IsWhole) (p8 : Memref sig .tc .vmem S512x1024 .bf16) (h8 : p8.IsWhole) (p9 : Memref sig .tc .vmem S512x4096 .bf16) (h9 : p9.IsWhole) (p10 : Memref sig .tc .vmem S512x4096 .bf16) (h10 : p10.IsWhole) (p11 : Memref sig .tc .vmem S512x1024 .bf16) (h11 : p11.IsWhole) (p12 : Memref sig .tc .vmem S8x1024 .f32) (h12 : p12.IsWhole)

/-- The point's blocks: rows of the two big arguments, the modulation, the layer norms' rows, the weights. -/
abbrev bx (D : Mlp) (t : ℕ) : Vec Ideal S512x1024 .f32 := mat (φ := .f32) 512 1024 (rows t D.xh)
abbrev bt (D : Mlp) (t : ℕ) : Vec Ideal S512x1024 .f32 := mat (φ := .f32) 512 1024 (rows t D.t)
abbrev bm (f : ℕ → ℕ → ℝ) : Vec Ideal S6x1024 .f32 := mat (φ := .f32) 6 1024 f
abbrev bl (f : ℕ → ℕ → ℝ) : Vec Ideal S4x1024 .f32 := mat (φ := .f32) 4 1024 f
abbrev bi (D : Mlp) : Vec Ideal S1024x4096 .bf16 := mat (φ := .bf16) 1024 4096 D.wi
abbrev bo (D : Mlp) : Vec Ideal S4096x1024 .bf16 := mat (φ := .bf16) 4096 1024 D.wo

theorem ld_mat {φ : FTy} {m n p q a b : ℕ} (f : ℕ → ℕ → ℝ) (inb) :
    (fun x : (⟨2, ![p, q]⟩ : Shape).Idx => (mat m n f : FVec Ideal _ φ) ((Rect.unit (s := ⟨2, ![m, n]⟩) ![a, b] ![p, q] inb).idx x)) = mat (φ := φ) p q fun i j => f (a + i) (b + j) := by
  funext x
  show ((f (a + 1 * (x 0).val) (b + 1 * (x 1).val) : ℝ) : EReal) = ((f (a + (x 0).val) (b + (x 1).val) : ℝ) : EReal)
  rw [Nat.one_mul, Nat.one_mul]

theorem ld_row {φ : FTy} {m n a : ℕ} (f : ℕ → ℕ → ℝ) (inb) :
    (fun x : (⟨2, ![1, n]⟩ : Shape).Idx => (mat m n f : FVec Ideal _ φ) ((Rect.unit (s := ⟨2, ![m, n]⟩) ![a, 0] ![1, n] inb).idx x)) = mat (φ := φ) 1 n fun _ j => f a j := by
  rw [ld_mat]
  exact mat_congr fun i hi j _ => by rw [Nat.lt_one_iff.mp hi, Nat.zero_add, Nat.add_zero]

variable (D : Mlp)
theorem ld_wi0 (inb) : View.ld (bi D) (Rect.unit ![0, 0] ![1024, 1024] inb) = wiB D 0 := by
  refine (ld_mat _ _).trans (mat_congr fun i _ j _ => ?_); rw [Nat.zero_add]
theorem ld_wi1 (inb) : View.ld (bi D) (Rect.unit ![0, 1024] ![1024, 1024] inb) = wiB D 1 := by
  refine (ld_mat _ _).trans (mat_congr fun i _ j _ => ?_); rw [Nat.zero_add]
theorem ld_wi2 (inb) : View.ld (bi D) (Rect.unit ![0, 2048] ![1024, 1024] inb) = wiB D 2 := by
  refine (ld_mat _ _).trans (mat_congr fun i _ j _ => ?_); rw [Nat.zero_add]
theorem ld_wi3 (inb) : View.ld (bi D) (Rect.unit ![0, 3072] ![1024, 1024] inb) = wiB D 3 := by
  refine (ld_mat _ _).trans (mat_congr fun i _ j _ => ?_); rw [Nat.zero_add]
theorem ld_wo0 (inb) : View.ld (bo D) (Rect.unit ![0, 0] ![1024, 1024] inb) = woB D 0 := by
  refine (ld_mat _ _).trans (mat_congr fun i _ j _ => ?_); rw [Nat.zero_add j]
theorem ld_wo1 (inb) : View.ld (bo D) (Rect.unit ![1024, 0] ![1024, 1024] inb) = woB D 1 := by
  refine (ld_mat _ _).trans (mat_congr fun i _ j _ => ?_); rw [Nat.zero_add j]
theorem ld_wo2 (inb) : View.ld (bo D) (Rect.unit ![2048, 0] ![1024, 1024] inb) = woB D 2 := by
  refine (ld_mat _ _).trans (mat_congr fun i _ j _ => ?_); rw [Nat.zero_add j]
theorem ld_wo3 (inb) : View.ld (bo D) (Rect.unit ![3072, 0] ![1024, 1024] inb) = woB D 3 := by
  refine (ld_mat _ _).trans (mat_congr fun i _ j _ => ?_); rw [Nat.zero_add j]

theorem ld_md {a : ℕ} (inb) : View.ld (bm D.md) (Rect.unit ![a, 0] ![1, 1024] inb) = row (D.md a) := ld_row _ _
theorem ld_ln {a : ℕ} (inb) : View.ld (bl D.ln) (Rect.unit ![a, 0] ![1, 1024] inb) = row (D.ln a) := ld_row _ _

/-- The accumulator's rows after one more block: five column sums and the loss. -/
def accTile (D : Mlp) (t : ℕ) (f : ℕ → ℕ → ℝ) : ℕ → ℕ → ℝ
  | 0, j => f 0 j + (∑ i ∈ range 512, rows t D.d i j * rows t D.xh2 i j) * (1 / 1024)
  | 1, j => f 1 j + (∑ i ∈ range 512, rows t D.d i j) * (1 / 1024)
  | 2, j => f 2 j + ∑ i ∈ range 512, rows t D.dh i j
  | 3, j => f 3 j + ∑ i ∈ range 512, rows t D.dh i j * rows t D.x1 i j
  | 4, j => f 4 j + ∑ i ∈ range 512, rows t D.dr i j * rows t D.f i j
  | 5, j => f 5 j + (0 + (1 / 2048) * ∑ i ∈ range 512, ∑ j ∈ range 1024, rows t D.d i j * rows t D.d i j)
  | i, j => f i j

theorem read_hit (v : View sig .tc .vmem S512x4096 .bf16) (b : ℕ) (inb) (w : FVec Ideal S512x1024 .bf16)
    (L : List (View.Piece (Elt Ideal) S512x4096 .bf16)) :
    v.readCov (⟨Rect.unit ![0, b] ![512, 1024] inb, w⟩ :: L) (Rect.unit (s := S512x4096) ![0, b] ![512, 1024] inb).toLoadRect = w :=
  View.readCov_cons_toLoadRect v _ _ _

theorem read_skip (v : View sig .tc .vmem S512x4096 .bf16) (a b : ℕ) (inb) (inb') (w : FVec Ideal S512x1024 .bf16)
    (L : List (View.Piece (Elt Ideal) S512x4096 .bf16)) (h : a + 1024 ≤ b ∨ b + 1024 ≤ a) :
    v.readCov (⟨Rect.unit ![0, a] ![512, 1024] inb, w⟩ :: L) (Rect.unit (s := S512x4096) ![0, b] ![512, 1024] inb').toLoadRect
      = v.readCov L (Rect.unit (s := S512x4096) ![0, b] ![512, 1024] inb').toLoadRect := by
  refine View.readCov_cons_of_disjoint v _ _ _ (Rect.unit_disjoint (inb := inb) (inb' := inb') 1 ?_)
  exact h

theorem piece_mat {φ : FTy} {m n p q a b : ℕ} (f g : ℕ → ℕ → ℝ) (inb) (h : ∀ i, i < p → ∀ j, j < q → g i j = f (a + i) (b + j))
    (x : (⟨2, ![p, q]⟩ : Shape).Idx) :
    (mat p q g : FVec Ideal _ φ) x = (mat m n f : FVec Ideal _ φ) ((Rect.unit (s := ⟨2, ![m, n]⟩) ![a, b] ![p, q] inb).emb x) :=
  (congrFun (mat_congr h) x).trans (congrFun (ld_mat (φ := φ) f inb) x).symm

/-- Four blocks of 1024 columns, written last, are the whole buffer whatever was written before them. -/
theorem canon_cols (f : ℕ → ℕ → ℝ) (i0 i1 i2 i3) (L : List (View.Piece (Elt Ideal) S512x4096 .bf16)) :
    View.canon ((⟨Rect.unit ![0, 3072] ![512, 1024] i3, blkB (cols 3 f)⟩ : View.Piece (Elt Ideal) S512x4096 .bf16) ::
      ⟨Rect.unit ![0, 2048] ![512, 1024] i2, blkB (cols 2 f)⟩ :: ⟨Rect.unit ![0, 1024] ![512, 1024] i1, blkB (cols 1 f)⟩ ::
      ⟨Rect.unit ![0, 0] ![512, 1024] i0, blkB (cols 0 f)⟩ :: L) = mat (φ := .bf16) 512 4096 f := by
  funext y
  refine View.canon_append_of_pieces (mat (φ := .bf16) 512 4096 f) L [⟨Rect.unit ![0, 3072] ![512, 1024] i3, blkB (cols 3 f)⟩,
      ⟨Rect.unit ![0, 2048] ![512, 1024] i2, blkB (cols 2 f)⟩, ⟨Rect.unit ![0, 1024] ![512, 1024] i1, blkB (cols 1 f)⟩,
      ⟨Rect.unit ![0, 0] ![512, 1024] i0, blkB (cols 0 f)⟩] ?_ y ?_
  · simp only [List.forall_mem_cons, List.not_mem_nil, false_imp_iff, implies_true, and_true]
    refine ⟨?_, ?_, ?_, ?_⟩ <;> exact piece_mat _ _ _ fun i _ j _ => by rw [Nat.zero_add]
  · have h0 : (y 0).val < 512 := (y 0).isLt
    have h1 : (y 1).val < 4096 := (y 1).isLt
    simp only [List.exists_mem_cons_iff, List.not_mem_nil, false_and, exists_false, or_false, Rect.mem_set_unit, Fin.forall_fin_two]
    show (0 ≤ (y 0).val ∧ (y 0).val < 0 + 512) ∧ (3072 ≤ (y 1).val ∧ (y 1).val < 3072 + 1024) ∨
      (0 ≤ (y 0).val ∧ (y 0).val < 0 + 512) ∧ (2048 ≤ (y 1).val ∧ (y 1).val < 2048 + 1024) ∨
      (0 ≤ (y 0).val ∧ (y 0).val < 0 + 512) ∧ (1024 ≤ (y 1).val ∧ (y 1).val < 1024 + 1024) ∨
      (0 ≤ (y 0).val ∧ (y 0).val < 0 + 512) ∧ (0 ≤ (y 1).val ∧ (y 1).val < 0 + 1024)
    omega

/-- One row written over a buffer of reals. -/
theorem read_row (v : View sig .tc .vmem S8x1024 .f32) (x) {L : List (View.Piece (Elt Ideal) S8x1024 .f32)} {a : ℕ} (inb)
    {f : ℕ → ℕ → ℝ} (g : ℕ → ℝ) (h : v.read (Elt Ideal) (v.writes (Elt Ideal) x L) = mat (φ := .f32) 8 1024 f) :
    v.read (Elt Ideal) (v.writes (Elt Ideal) x ((⟨Rect.unit (s := S8x1024) ![a, 0] ![1, 1024] inb, row g⟩ : View.Piece (Elt Ideal) S8x1024 .f32) :: L))
      = mat (φ := .f32) 8 1024 fun i j => if i = a then g j else f i j := by
  funext y
  have h1 : (y 1).val < 1024 := (y 1).isLt
  by_cases hy : (y 0).val = a
  · refine (View.read_writes_cons_unit_of_mem (s := S8x1024) v x inb (row g) L y (ix2 (n0 := 1) (n1 := 1024) ⟨0, by decide⟩ ⟨(y 1).val, h1⟩) rfl ?_).trans ?_
    · refine Fin.forall_fin_two.mpr ⟨hy, ?_⟩
      show (y 1).val = 0 + (y 1).val
      omega
    · show ((g (y 1).val : ℝ) : EReal) = ((if (y 0).val = a then g (y 1).val else f (y 0).val (y 1).val : ℝ) : EReal)
      rw [if_pos hy]
  · refine (View.read_writes_cons_unit_of_not_mem (s := S8x1024) v x inb (row g) L y rfl 0 ?_).trans ?_
    · show (y 0).val < a ∨ a + 1 ≤ (y 0).val
      omega
    · rw [h]
      show ((f (y 0).val (y 1).val : ℝ) : EReal) = ((if (y 0).val = a then g (y 1).val else f (y 0).val (y 1).val : ℝ) : EReal)
      rw [if_neg hy]

abbrev ba (f : ℕ → ℕ → ℝ) : Vec Ideal S8x1024 .f32 := mat (φ := .f32) 8 1024 f
theorem ld_acc {a : ℕ} (f : ℕ → ℕ → ℝ) (inb) : View.ld (ba f) (Rect.unit ![a, 0] ![1, 1024] inb) = row (f a) := ld_row _ _

theorem acc_skip (v : View sig .tc .vmem S8x1024 .f32) (a b : ℕ) (inb) (inb') (w : FVec Ideal S1x1024 .f32)
    (L : List (View.Piece (Elt Ideal) S8x1024 .f32)) (h : a + 1 ≤ b ∨ b + 1 ≤ a) :
    v.readCov (⟨Rect.unit ![a, 0] ![1, 1024] inb, w⟩ :: L) (Rect.unit (s := S8x1024) ![b, 0] ![1, 1024] inb').toLoadRect
      = v.readCov L (Rect.unit (s := S8x1024) ![b, 0] ![1, 1024] inb').toLoadRect := by
  refine View.readCov_cons_of_disjoint v _ _ _ (Rect.unit_disjoint (inb := inb) (inb' := inb') 0 ?_)
  exact h

theorem acc_fill (v : View sig .tc .vmem S8x1024 .f32) (b : ℕ) (inb) (inb') (f : ℕ → ℕ → ℝ) :
    v.readCov [⟨Rect.unit ![0, 0] ![8, 1024] inb, ba f⟩] (Rect.unit (s := S8x1024) ![b, 0] ![1, 1024] inb').toLoadRect
      = (row (f b) : Vec Ideal S1x1024 .f32) :=
  (View.readCov_fill v inb _ [] _ (Fin.forall_fin_two.mpr ⟨rfl, rfl⟩)).trans (ld_acc f inb')

/-- All the loads. -/
def lds := And.intro @ld_wi0 <| And.intro @ld_wi1 <| And.intro @ld_wi2 <| And.intro @ld_wi3 <| And.intro @ld_wo0 <| And.intro @ld_wo1 <| And.intro @ld_wo2 <| And.intro @ld_wo3 <| And.intro @ld_md <| And.intro @ld_ln <| And.intro @read_skip <| And.intro @read_hit <| And.intro @ld_acc <| And.intro @acc_skip <| @acc_fill

/-- All the payloads. -/
def pays := And.intro @pay1 <| And.intro @pay2 <| And.intro @pay3 <| And.intro @pay4 <| And.intro @pay5 <| And.intro @pay6 <| And.intro @pay7 <| And.intro @pay8 <| And.intro @pay9 <| And.intro @pay10 <| And.intro @pay11 <| And.intro @pay12 <| And.intro @pay13 <| And.intro @pay14 <| And.intro @pay15 <| And.intro @pay16 <| And.intro @pay17 <| And.intro @pay18 <| And.intro @pay19 <| And.intro @pay20 <| And.intro @pay21 <| And.intro @pay22 <| And.intro @pay23 <| And.intro @pay24 <| And.intro @pay25 <| And.intro @pay26 <| And.intro @pay27 <| And.intro @pay28 <| And.intro @pay29 <| And.intro @pay30 <| And.intro @pay31 <| And.intro @pay32 <| And.intro @pay33 <| And.intro @pay34 <| And.intro @pay35 <| And.intro @pay36 <| And.intro @pay37 <| And.intro @pay38 <| And.intro @pay39 <| And.intro @pay40 <| And.intro @pay41 <| And.intro @pay42 <| And.intro @pay43 <| @pay44

set_option backward.isDefEq.respectTransparency false
theorem out_A_6 (hc0 : cond0_0 i) :
    out0_A_6 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .f32) 512 1024 (rows t D.dx) := by
  unfold out0_A_6
  rw [View.read_writes_eq_canon _ _ _ (cover0_A_6 _ _ _ _ _ _ _ _ _ _ _ _ _ _ _ _ _ _ _ _ _ _ _ _ _ _ _ _ _ _ _ _ _)]
  unfold kernelRun0_A
  dsimp only
  sl_unfold_words
  rw [View.canon_unit_zero hz]
  simp (disch := decide) only [View.readAt_eq_ld, Memref.IsWhole.read_unread, View.ld_unit_zero (S := S512x1024) hz,
    lds, pays]
theorem out_A_7 (hc0 : cond0_0 i) :
    out0_A_7 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .bf16) 512 1024 (rows t D.h) := by
  unfold out0_A_7
  rw [View.read_writes_eq_canon _ _ _ (cover0_A_7 _ _ _ _ _ _ _ _ _ _ _ _ _ _ _ _ _ _ _ _ _ _ _ _ _ _ _ _ _ _ _ _ _)]
  unfold kernelRun0_A
  dsimp only
  sl_unfold_words
  rw [View.canon_unit_zero hz]
  simp (disch := decide) only [View.readAt_eq_ld, Memref.IsWhole.read_unread, View.ld_unit_zero (S := S512x1024) hz,
    lds, pays]
theorem out_A_10 (hc0 : cond0_0 i) :
    out0_A_10 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .bf16) 512 1024 (rows t D.df) := by
  unfold out0_A_10
  rw [View.read_writes_eq_canon _ _ _ (cover0_A_10 _ _ _ _ _ _ _ _ _ _ _ _ _ _ _ _ _ _ _ _ _ _ _ _ _ _ _ _ _ _ _ _ _)]
  unfold kernelRun0_A
  dsimp only
  sl_unfold_words
  rw [View.canon_unit_zero hz]
  simp (disch := decide) only [View.readAt_eq_ld, Memref.IsWhole.read_unread, View.ld_unit_zero (S := S512x1024) hz,
    lds, pays]
theorem out_A_8 (hc0 : cond0_0 i) :
    out0_A_8 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .bf16) 512 4096 (rows t D.a) := by
  unfold out0_A_8
  rw [View.read_writes_eq_canon _ _ _ (cover0_A_8 _ _ _ _ _ _ _ _ _ _ _ _ _ _ _ _ _ _ _ _ _ _ _ _ _ _ _ _ _ _ _ _ _)]
  have hcov := cover0_A_8 c i p1 h1 p2 h2 p3 h3 p4 h4 p5 h5 p6 h6 p7 h7 p8 h8 p9 h9 p10 h10 p11 h11 p12 h12 hc0 (bx D t) (bt D t) (bm D.md) (bl D.ln) (bi D) (bo D)
  revert hcov
  unfold kernelRun0_A
  dsimp only
  sl_unfold_words
  simp (disch := decide) only [View.readAt_eq_ld, Memref.IsWhole.read_unread, View.ld_unit_zero (S := S512x1024) hz,
    lds, pays]
  intro hcov
  exact canon_cols _ _ _ _ _ _
theorem out_A_9 (hc0 : cond0_0 i) :
    out0_A_9 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .bf16) 512 4096 (rows t D.du) := by
  unfold out0_A_9
  rw [View.read_writes_eq_canon _ _ _ (cover0_A_9 _ _ _ _ _ _ _ _ _ _ _ _ _ _ _ _ _ _ _ _ _ _ _ _ _ _ _ _ _ _ _ _ _)]
  have hcov := cover0_A_9 c i p1 h1 p2 h2 p3 h3 p4 h4 p5 h5 p6 h6 p7 h7 p8 h8 p9 h9 p10 h10 p11 h11 p12 h12 hc0 (bx D t) (bt D t) (bm D.md) (bl D.ln) (bi D) (bo D)
  revert hcov
  unfold kernelRun0_A
  dsimp only
  sl_unfold_words
  simp (disch := decide) only [View.readAt_eq_ld, Memref.IsWhole.read_unread, View.ld_unit_zero (S := S512x1024) hz,
    lds, pays]
  intro hcov
  exact canon_cols _ _ _ _ _ _
theorem out_A_11 (hc0 : cond0_0 i) :
    out0_A_11 c i p1 h1 p2 h2 p3 h3 p4 h4 p5 h5 p6 h6 p7 h7 p8 h8 p9 h9 p10 h10 p11 h11 p12 h12 hc0 (bx D t) (bt D t) (bm D.md) (bl D.ln) (bi D) (bo D)
      = mat (φ := .f32) 8 1024 (accTile D t fun _ _ => 0) := by
  unfold out0_A_11
  unfold kernelRun0_A
  dsimp only
  sl_unfold_words
  simp (disch := decide) only [View.readAt_eq_ld, Memref.IsWhole.read_unread, View.ld_unit_zero (S := S512x1024) hz,
    lds, pays]

  refine (read_row _ _ _ _ (read_row _ _ _ _ (read_row _ _ _ _ (read_row _ _ _ _ (read_row _ _ _ _ (read_row _ _ _ _ (View.read_writes_full _ _ _ _ _))))))).trans (mat_congr fun i hi j _ => ?_)
  interval_cases i <;> rfl
theorem out_B_6 (hc0 : ¬cond0_0 i) (xo : Vec Ideal S8x1024 .f32) :
    out0_B_6 c i p1 h1 p2 h2 p3 h3 p4 h4 p5 h5 p6 h6 p7 h7 p8 h8 p9 h9 p10 h10 p11 h11 p12 h12 hc0 (bx D t) (bt D t) (bm D.md) (bl D.ln) (bi D) (bo D) xo
      = mat (φ := .f32) 512 1024 (rows t D.dx) := by
  unfold out0_B_6
  rw [View.read_writes_eq_canon _ _ _ (cover0_B_6 _ _ _ _ _ _ _ _ _ _ _ _ _ _ _ _ _ _ _ _ _ _ _ _ _ _ _ _ _ _ _ _ _ _)]
  unfold kernelRun0_B
  dsimp only
  sl_unfold_words
  rw [View.canon_unit_zero hz]
  simp (disch := decide) only [View.readAt_eq_ld, Memref.IsWhole.read_unread, View.ld_unit_zero (S := S512x1024) hz,
    lds, pays]
theorem out_B_7 (hc0 : ¬cond0_0 i) (xo : Vec Ideal S8x1024 .f32) :
    out0_B_7 c i p1 h1 p2 h2 p3 h3 p4 h4 p5 h5 p6 h6 p7 h7 p8 h8 p9 h9 p10 h10 p11 h11 p12 h12 hc0 (bx D t) (bt D t) (bm D.md) (bl D.ln) (bi D) (bo D) xo
      = mat (φ := .bf16) 512 1024 (rows t D.h) := by
  unfold out0_B_7
  rw [View.read_writes_eq_canon _ _ _ (cover0_B_7 _ _ _ _ _ _ _ _ _ _ _ _ _ _ _ _ _ _ _ _ _ _ _ _ _ _ _ _ _ _ _ _ _ _)]
  unfold kernelRun0_B
  dsimp only
  sl_unfold_words
  rw [View.canon_unit_zero hz]
  simp (disch := decide) only [View.readAt_eq_ld, Memref.IsWhole.read_unread, View.ld_unit_zero (S := S512x1024) hz,
    lds, pays]
theorem out_B_10 (hc0 : ¬cond0_0 i) (xo : Vec Ideal S8x1024 .f32) :
    out0_B_10 c i p1 h1 p2 h2 p3 h3 p4 h4 p5 h5 p6 h6 p7 h7 p8 h8 p9 h9 p10 h10 p11 h11 p12 h12 hc0 (bx D t) (bt D t) (bm D.md) (bl D.ln) (bi D) (bo D) xo
      = mat (φ := .bf16) 512 1024 (rows t D.df) := by
  unfold out0_B_10
  rw [View.read_writes_eq_canon _ _ _ (cover0_B_10 _ _ _ _ _ _ _ _ _ _ _ _ _ _ _ _ _ _ _ _ _ _ _ _ _ _ _ _ _ _ _ _ _ _)]
  unfold kernelRun0_B
  dsimp only
  sl_unfold_words
  rw [View.canon_unit_zero hz]
  simp (disch := decide) only [View.readAt_eq_ld, Memref.IsWhole.read_unread, View.ld_unit_zero (S := S512x1024) hz,
    lds, pays]
theorem out_B_8 (hc0 : ¬cond0_0 i) (xo : Vec Ideal S8x1024 .f32) :
    out0_B_8 c i p1 h1 p2 h2 p3 h3 p4 h4 p5 h5 p6 h6 p7 h7 p8 h8 p9 h9 p10 h10 p11 h11 p12 h12 hc0 (bx D t) (bt D t) (bm D.md) (bl D.ln) (bi D) (bo D) xo
      = mat (φ := .bf16) 512 4096 (rows t D.a) := by
  unfold out0_B_8
  rw [View.read_writes_eq_canon _ _ _ (cover0_B_8 _ _ _ _ _ _ _ _ _ _ _ _ _ _ _ _ _ _ _ _ _ _ _ _ _ _ _ _ _ _ _ _ _ _)]
  have hcov := cover0_B_8 c i p1 h1 p2 h2 p3 h3 p4 h4 p5 h5 p6 h6 p7 h7 p8 h8 p9 h9 p10 h10 p11 h11 p12 h12 hc0 (bx D t) (bt D t) (bm D.md) (bl D.ln) (bi D) (bo D) xo
  revert hcov
  unfold kernelRun0_B
  dsimp only
  sl_unfold_words
  simp (disch := decide) only [View.readAt_eq_ld, Memref.IsWhole.read_unread, View.ld_unit_zero (S := S512x1024) hz,
    lds, pays]
  intro hcov
  exact canon_cols _ _ _ _ _ _
theorem out_B_9 (hc0 : ¬cond0_0 i) (xo : Vec Ideal S8x1024 .f32) :
    out0_B_9 c i p1 h1 p2 h2 p3 h3 p4 h4 p5 h5 p6 h6 p7 h7 p8 h8 p9 h9 p10 h10 p11 h11 p12 h12 hc0 (bx D t) (bt D t) (bm D.md) (bl D.ln) (bi D) (bo D) xo
      = mat (φ := .bf16) 512 4096 (rows t D.du) := by
  unfold out0_B_9
  rw [View.read_writes_eq_canon _ _ _ (cover0_B_9 _ _ _ _ _ _ _ _ _ _ _ _ _ _ _ _ _ _ _ _ _ _ _ _ _ _ _ _ _ _ _ _ _ _)]
  have hcov := cover0_B_9 c i p1 h1 p2 h2 p3 h3 p4 h4 p5 h5 p6 h6 p7 h7 p8 h8 p9 h9 p10 h10 p11 h11 p12 h12 hc0 (bx D t) (bt D t) (bm D.md) (bl D.ln) (bi D) (bo D) xo
  revert hcov
  unfold kernelRun0_B
  dsimp only
  sl_unfold_words
  simp (disch := decide) only [View.readAt_eq_ld, Memref.IsWhole.read_unread, View.ld_unit_zero (S := S512x1024) hz,
    lds, pays]
  intro hcov
  exact canon_cols _ _ _ _ _ _
theorem out_B_11 (hc0 : ¬cond0_0 i) (f : ℕ → ℕ → ℝ) :
    out0_B_11 c i p1 h1 p2 h2 p3 h3 p4 h4 p5 h5 p6 h6 p7 h7 p8 h8 p9 h9 p10 h10 p11 h11 p12 h12 hc0 (bx D t) (bt D t) (bm D.md) (bl D.ln) (bi D) (bo D) (mat (φ := .f32) 8 1024 f)
      = mat (φ := .f32) 8 1024 (accTile D t f) := by
  unfold out0_B_11
  unfold kernelRun0_B
  dsimp only
  sl_unfold_words
  simp (disch := decide) only [View.readAt_eq_ld, Memref.IsWhole.read_unread, View.ld_unit_zero (S := S512x1024) hz,
    lds, pays]

  refine (read_row _ _ _ _ (read_row _ _ _ _ (read_row _ _ _ _ (read_row _ _ _ _ (read_row _ _ _ _ (read_row _ _ _ _ (h12.read_unread _))))))).trans (mat_congr fun i hi j _ => ?_)
  interval_cases i <;> rfl

end Cert.MlpPoint
end
-- ==== Proof.MlpArr.lean ====
module

public import proofs.«01_k».proof.Proof.MlpOut
public import proofs.«01_k».proof.Proof.Gen.KernelIdeal.Value

/-!
The result arrays of the MLP sublayer's hand-written backward call, over the reals: if the arrays the call reads hold
real numbers, its six results are the backward formulas of `MlpReal` over the whole sequence, the accumulator's rows
being sums over all 8192 rows.
-/

@[expose] public section

set_option maxRecDepth 16384

noncomputable section

namespace Cert.MlpArr

open Finset Cert.RealMat Cert.MlpReal Cert.MlpPoint Idealize.ShloMosaic Idealize.ShloMosaic.TcCoe Idealize.ShloMosaic.Tactic Idealize.SL Idealize.SL.Sem Cert.KernelIdeal Cert.KernelIdeal.Gen
open Idealize.ShloMosaic.Pipeline (Dat)

variable (m : (ℓ : Loc nD τ sig) → Buf (Elt Ideal) ℓ) (c : Dev nD) (D : Mlp)

/-- The six arrays the call reads hold the real numbers of `D`. -/
structure Holds : Prop where
  h0 : V m c main_v128 = mat (φ := .f32) 8192 1024 D.xh
  h1 : V m c main_arg0 = mat (φ := .f32) 8192 1024 D.t
  h2 : V m c main_v4 = mat (φ := .f32) 6 1024 D.md
  h3 : V m c main_v0 = mat (φ := .f32) 4 1024 D.ln
  h4 : V m c main_v129 = mat (φ := .bf16) 1024 4096 D.wi
  h5 : V m c main_v130 = mat (φ := .bf16) 4096 1024 D.wo

variable {m c D} (H : Holds m c D)
include H

theorem iblk0 (t : Fin cfg0.N) : (iblk m c 0 t : Vec Ideal S512x1024 .f32) = bx D t.val := by
  have hi : win0_0.index t 0 = t.val ∧ win0_0.index t 1 = 0 :=
    (by decide +kernel : ∀ t : Fin grid0.N, win0_0.index t 0 = t.val ∧ win0_0.index t 1 = 0) t
  funext j
  unfold iblk
  rw [View.read_apply]
  show V m c main_v128 _ = _
  rw [H.h0]
  show ((D.xh (win0_0.index t 0 * 512 + 1 * (j 0).val) (win0_0.index t 1 * 1024 + 1 * (j 1).val) : ℝ) : EReal) = ((D.xh (512 * t.val + (j 0).val) (j 1).val : ℝ) : EReal)
  rw [hi.1, hi.2]
  congr 2 <;> omega

theorem iblk1 (t : Fin cfg0.N) : (iblk m c 1 t : Vec Ideal S512x1024 .f32) = bt D t.val := by
  have hi : win0_1.index t 0 = t.val ∧ win0_1.index t 1 = 0 :=
    (by decide +kernel : ∀ t : Fin grid0.N, win0_1.index t 0 = t.val ∧ win0_1.index t 1 = 0) t
  funext j
  unfold iblk
  rw [View.read_apply]
  show V m c main_arg0 _ = _
  rw [H.h1]
  show ((D.t (win0_1.index t 0 * 512 + 1 * (j 0).val) (win0_1.index t 1 * 1024 + 1 * (j 1).val) : ℝ) : EReal) = ((D.t (512 * t.val + (j 0).val) (j 1).val : ℝ) : EReal)
  rw [hi.1, hi.2]
  congr 2 <;> omega

theorem iblk2 (t : Fin cfg0.N) : (iblk m c 2 t : Vec Ideal S6x1024 .f32) = bm D.md := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_v4 _ = _
  rw [H.h2]
  show ((D.md (win0_2.index t 0 * 6 + 1 * (j 0).val) (win0_2.index t 1 * 1024 + 1 * (j 1).val) : ℝ) : EReal) = ((D.md (j 0).val (j 1).val : ℝ) : EReal)
  rw [hi.1, hi.2]
  congr 2 <;> omega

theorem iblk3 (t : Fin cfg0.N) : (iblk m c 3 t : Vec Ideal S4x1024 .f32) = bl D.ln := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_v0 _ = _
  rw [H.h3]
  show ((D.ln (win0_3.index t 0 * 4 + 1 * (j 0).val) (win0_3.index t 1 * 1024 + 1 * (j 1).val) : ℝ) : EReal) = ((D.ln (j 0).val (j 1).val : ℝ) : EReal)
  rw [hi.1, hi.2]
  congr 2 <;> omega

theorem iblk4 (t : Fin cfg0.N) : (iblk m c 4 t : Vec Ideal S1024x4096 .bf16) = bi D := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_v129 _ = _
  rw [H.h4]
  show ((D.wi (win0_4.index t 0 * 1024 + 1 * (j 0).val) (win0_4.index t 1 * 4096 + 1 * (j 1).val) : ℝ) : EReal) = ((D.wi (j 0).val (j 1).val : ℝ) : EReal)
  rw [hi.1, hi.2]
  congr 2 <;> omega

theorem iblk5 (t : Fin cfg0.N) : (iblk m c 5 t : Vec Ideal S4096x1024 .bf16) = bo D := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_v130 _ = _
  rw [H.h5]
  show ((D.wo (win0_5.index t 0 * 4096 + 1 * (j 0).val) (win0_5.index t 1 * 1024 + 1 * (j 1).val) : ℝ) : EReal) = ((D.wo (j 0).val (j 1).val : ℝ) : EReal)
  rw [hi.1, hi.2]
  congr 2 <;> omega

theorem outsAt_6 (t : Fin cfg0.N) : (outsAt0 m c t.val t.isLt).1 = mat (φ := .f32) 512 1024 (rows t.val D.dx) := by
  by_cases h0 : t.val % 16 = 0
  · rw [outsAt0_A m c t h0]
    dsimp only
    rw [iblk0 H t, iblk1 H t, iblk2 H t, iblk3 H t, iblk4 H t, iblk5 H t, out_A_6]
  · rw [outsAt0_B m c t h0]
    dsimp only
    rw [iblk0 H t, iblk1 H t, iblk2 H t, iblk3 H t, iblk4 H t, iblk5 H t, out_B_6]

theorem arr6 : (dats m 0 c).arrAt 6 cfg0.N = mat (φ := .f32) 8192 1024 D.dx := by
  have hi : ∀ t : Fin cfg0.N, win0_6.index t 0 = t.val ∧ win0_6.index t 1 = 0 := (by decide +kernel : ∀ t : Fin grid0.N, win0_6.index t 0 = t.val ∧ win0_6.index t 1 = 0)
  refine (dats m 0 c).arrAt_eq_of_cover 6 (mat (φ := .f32) 8192 1024 D.dx) (fun t _ => ?_) fun (i : S8192x1024.Idx) => ?_
  · rw [Cert.KernelIdeal.Value.flushed6, outsAt_6 H]
    funext j
    rw [View.read_apply]
    show ((D.dx (512 * t.val + (j 0).val) (j 1).val : ℝ) : EReal) = ((D.dx (win0_6.index t 0 * 512 + 1 * (j 0).val) (win0_6.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_6 t, ?_⟩
    show i ∈ ((View.whole main_v131_0).slice (win0_6.rect t)).set
    rw [View.set_slice_whole, Rect.mem_set_unit]
    refine Fin.forall_fin_two.mpr ⟨?_, ?_⟩
    · show win0_6.index _ 0 * 512 ≤ (i 0).val ∧ (i 0).val < win0_6.index _ 0 * 512 + 512
      rw [(hi _).1]
      omega
    · show win0_6.index _ 1 * 1024 ≤ (i 1).val ∧ (i 1).val < win0_6.index _ 1 * 1024 + 1024
      rw [(hi _).2]
      omega

theorem outsAt_7 (t : Fin cfg0.N) : (outsAt0 m c t.val t.isLt).2.1 = mat (φ := .bf16) 512 1024 (rows t.val D.h) := by
  by_cases h0 : t.val % 16 = 0
  · rw [outsAt0_A m c t h0]
    dsimp only
    rw [iblk0 H t, iblk1 H t, iblk2 H t, iblk3 H t, iblk4 H t, iblk5 H t, out_A_7]
  · rw [outsAt0_B m c t h0]
    dsimp only
    rw [iblk0 H t, iblk1 H t, iblk2 H t, iblk3 H t, iblk4 H t, iblk5 H t, out_B_7]

theorem arr7 : (dats m 0 c).arrAt 7 cfg0.N = mat (φ := .bf16) 8192 1024 D.h := by
  have hi : ∀ t : Fin cfg0.N, win0_7.index t 0 = t.val ∧ win0_7.index t 1 = 0 := (by decide +kernel : ∀ t : Fin grid0.N, win0_7.index t 0 = t.val ∧ win0_7.index t 1 = 0)
  refine (dats m 0 c).arrAt_eq_of_cover 7 (mat (φ := .bf16) 8192 1024 D.h) (fun t _ => ?_) fun (i : S8192x1024.Idx) => ?_
  · rw [Cert.KernelIdeal.Value.flushed7, outsAt_7 H]
    funext j
    rw [View.read_apply]
    show ((D.h (512 * t.val + (j 0).val) (j 1).val : ℝ) : EReal) = ((D.h (win0_7.index t 0 * 512 + 1 * (j 0).val) (win0_7.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_7 t, ?_⟩
    show i ∈ ((View.whole main_v131_1).slice (win0_7.rect t)).set
    rw [View.set_slice_whole, Rect.mem_set_unit]
    refine Fin.forall_fin_two.mpr ⟨?_, ?_⟩
    · show win0_7.index _ 0 * 512 ≤ (i 0).val ∧ (i 0).val < win0_7.index _ 0 * 512 + 512
      rw [(hi _).1]
      omega
    · show win0_7.index _ 1 * 1024 ≤ (i 1).val ∧ (i 1).val < win0_7.index _ 1 * 1024 + 1024
      rw [(hi _).2]
      omega

theorem outsAt_8 (t : Fin cfg0.N) : (outsAt0 m c t.val t.isLt).2.2.1 = mat (φ := .bf16) 512 4096 (rows t.val D.a) := by
  by_cases h0 : t.val % 16 = 0
  · rw [outsAt0_A m c t h0]
    dsimp only
    rw [iblk0 H t, iblk1 H t, iblk2 H t, iblk3 H t, iblk4 H t, iblk5 H t, out_A_8]
  · rw [outsAt0_B m c t h0]
    dsimp only
    rw [iblk0 H t, iblk1 H t, iblk2 H t, iblk3 H t, iblk4 H t, iblk5 H t, out_B_8]

theorem arr8 : (dats m 0 c).arrAt 8 cfg0.N = mat (φ := .bf16) 8192 4096 D.a := by
  have hi : ∀ t : Fin cfg0.N, win0_8.index t 0 = t.val ∧ win0_8.index t 1 = 0 := (by decide +kernel : ∀ t : Fin grid0.N, win0_8.index t 0 = t.val ∧ win0_8.index t 1 = 0)
  refine (dats m 0 c).arrAt_eq_of_cover 8 (mat (φ := .bf16) 8192 4096 D.a) (fun t _ => ?_) fun (i : S8192x4096.Idx) => ?_
  · rw [Cert.KernelIdeal.Value.flushed8, outsAt_8 H]
    funext j
    rw [View.read_apply]
    show ((D.a (512 * t.val + (j 0).val) (j 1).val : ℝ) : EReal) = ((D.a (win0_8.index t 0 * 512 + 1 * (j 0).val) (win0_8.index t 1 * 4096 + 1 * (j 1).val) : ℝ) : EReal)
    rw [(hi t).1, (hi t).2]
    congr 2 <;> omega
  · have h0 : (i 0).val < 8192 := (i 0).isLt
    have h1 : (i 1).val < 4096 := (i 1).isLt
    have hN : cfg0.N = 16 := N_0
    obtain ⟨t, ht⟩ : ∃ t : Fin cfg0.N, t.val = (i 0).val / 512 := ⟨⟨(i 0).val / 512, by omega⟩, rfl⟩
    refine ⟨t, flush0_8 t, ?_⟩
    show i ∈ ((View.whole main_v131_2).slice (win0_8.rect t)).set
    rw [View.set_slice_whole, Rect.mem_set_unit]
    refine Fin.forall_fin_two.mpr ⟨?_, ?_⟩
    · show win0_8.index _ 0 * 512 ≤ (i 0).val ∧ (i 0).val < win0_8.index _ 0 * 512 + 512
      rw [(hi _).1]
      omega
    · show win0_8.index _ 1 * 4096 ≤ (i 1).val ∧ (i 1).val < win0_8.index _ 1 * 4096 + 4096
      rw [(hi _).2]
      omega

theorem outsAt_9 (t : Fin cfg0.N) : (outsAt0 m c t.val t.isLt).2.2.2.1 = mat (φ := .bf16) 512 4096 (rows t.val D.du) := by
  by_cases h0 : t.val % 16 = 0
  · rw [outsAt0_A m c t h0]
    dsimp only
    rw [iblk0 H t, iblk1 H t, iblk2 H t, iblk3 H t, iblk4 H t, iblk5 H t, out_A_9]
  · rw [outsAt0_B m c t h0]
    dsimp only
    rw [iblk0 H t, iblk1 H t, iblk2 H t, iblk3 H t, iblk4 H t, iblk5 H t, out_B_9]

theorem arr9 : (dats m 0 c).arrAt 9 cfg0.N = mat (φ := .bf16) 8192 4096 D.du := by
  have hi : ∀ t : Fin cfg0.N, win0_9.index t 0 = t.val ∧ win0_9.index t 1 = 0 := (by decide +kernel : ∀ t : Fin grid0.N, win0_9.index t 0 = t.val ∧ win0_9.index t 1 = 0)
  refine (dats m 0 c).arrAt_eq_of_cover 9 (mat (φ := .bf16) 8192 4096 D.du) (fun t _ => ?_) fun (i : S8192x4096.Idx) => ?_
  · rw [Cert.KernelIdeal.Value.flushed9, outsAt_9 H]
    funext j
    rw [View.read_apply]
    show ((D.du (512 * t.val + (j 0).val) (j 1).val : ℝ) : EReal) = ((D.du (win0_9.index t 0 * 512 + 1 * (j 0).val) (win0_9.index t 1 * 4096 + 1 * (j 1).val) : ℝ) : EReal)
    rw [(hi t).1, (hi t).2]
    congr 2 <;> omega
  · have h0 : (i 0).val < 8192 := (i 0).isLt
    have h1 : (i 1).val < 4096 := (i 1).isLt
    have hN : cfg0.N = 16 := N_0
    obtain ⟨t, ht⟩ : ∃ t : Fin cfg0.N, t.val = (i 0).val / 512 := ⟨⟨(i 0).val / 512, by omega⟩, rfl⟩
    refine ⟨t, flush0_9 t, ?_⟩
    show i ∈ ((View.whole main_v131_3).slice (win0_9.rect t)).set
    rw [View.set_slice_whole, Rect.mem_set_unit]
    refine Fin.forall_fin_two.mpr ⟨?_, ?_⟩
    · show win0_9.index _ 0 * 512 ≤ (i 0).val ∧ (i 0).val < win0_9.index _ 0 * 512 + 512
      rw [(hi _).1]
      omega
    · show win0_9.index _ 1 * 4096 ≤ (i 1).val ∧ (i 1).val < win0_9.index _ 1 * 4096 + 4096
      rw [(hi _).2]
      omega

theorem outsAt_10 (t : Fin cfg0.N) : (outsAt0 m c t.val t.isLt).2.2.2.2.1 = mat (φ := .bf16) 512 1024 (rows t.val D.df) := by
  by_cases h0 : t.val % 16 = 0
  · rw [outsAt0_A m c t h0]
    dsimp only
    rw [iblk0 H t, iblk1 H t, iblk2 H t, iblk3 H t, iblk4 H t, iblk5 H t, out_A_10]
  · rw [outsAt0_B m c t h0]
    dsimp only
    rw [iblk0 H t, iblk1 H t, iblk2 H t, iblk3 H t, iblk4 H t, iblk5 H t, out_B_10]

theorem arr10 : (dats m 0 c).arrAt 10 cfg0.N = mat (φ := .bf16) 8192 1024 D.df := by
  have hi : ∀ t : Fin cfg0.N, win0_10.index t 0 = t.val ∧ win0_10.index t 1 = 0 := (by decide +kernel : ∀ t : Fin grid0.N, win0_10.index t 0 = t.val ∧ win0_10.index t 1 = 0)
  refine (dats m 0 c).arrAt_eq_of_cover 10 (mat (φ := .bf16) 8192 1024 D.df) (fun t _ => ?_) fun (i : S8192x1024.Idx) => ?_
  · rw [Cert.KernelIdeal.Value.flushed10, outsAt_10 H]
    funext j
    rw [View.read_apply]
    show ((D.df (512 * t.val + (j 0).val) (j 1).val : ℝ) : EReal) = ((D.df (win0_10.index t 0 * 512 + 1 * (j 0).val) (win0_10.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_10 t, ?_⟩
    show i ∈ ((View.whole main_v131_4).slice (win0_10.rect t)).set
    rw [View.set_slice_whole, Rect.mem_set_unit]
    refine Fin.forall_fin_two.mpr ⟨?_, ?_⟩
    · show win0_10.index _ 0 * 512 ≤ (i 0).val ∧ (i 0).val < win0_10.index _ 0 * 512 + 512
      rw [(hi _).1]
      omega
    · show win0_10.index _ 1 * 1024 ≤ (i 1).val ∧ (i 1).val < win0_10.index _ 1 * 1024 + 1024
      rw [(hi _).2]
      omega

omit H in
/-- The accumulator's rows after `n` blocks. -/
def accAt (D : Mlp) : ℕ → ℕ → ℕ → ℝ
  | 0 => fun _ _ => 0
  | n + 1 => accTile D n (accAt D n)

theorem outsAt_11 : ∀ (n : ℕ) (h : n < cfg0.N), (outsAt0 m c n h).2.2.2.2.2 = mat (φ := .f32) 8 1024 (accAt D (n + 1))
  | 0, h => by
    rw [outsAt0_A m c ⟨0, h⟩ rfl]
    dsimp only
    rw [iblk0 H, iblk1 H, iblk2 H, iblk3 H, iblk4 H, iblk5 H, out_A_11]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only [Nat.add_sub_cancel]
    rw [iblk0 H, iblk1 H, iblk2 H, iblk3 H, iblk4 H, iblk5 H, show (outsAt0 m c (n + 1 - 1) _).2.2.2.2.2 = _ from outsAt_11 n (Nat.lt_of_succ_lt h), out_B_11]
    rfl

theorem arr11 : (dats m 0 c).arrAt 11 cfg0.N = mat (φ := .f32) 8 1024 (accAt D 16) := by
  have hN : cfg0.N = 16 := N_0
  have hi : ∀ t : Fin cfg0.N, win0_11.index t 0 = 0 ∧ win0_11.index t 1 = 0 := (by decide +kernel : ∀ t : Fin grid0.N, win0_11.index t 0 = 0 ∧ win0_11.index t 1 = 0)
  refine (dats m 0 c).arrAt_eq_of_cover 11 (mat (φ := .f32) 8 1024 (accAt D 16)) (fun t hf => ?_) fun (i : S8x1024.Idx) => ?_
  · have h3 : t.val = 15 := by have := (flush0_11 t).mp hf; have := t.isLt; omega
    rw [Cert.KernelIdeal.Value.flushed11, outsAt_11 H]
    funext j
    rw [View.read_apply]
    show ((accAt D (t.val + 1) (j 0).val (j 1).val : ℝ) : EReal) = ((accAt D 16 (win0_11.index t 0 * 8 + 1 * (j 0).val) (win0_11.index t 1 * 1024 + 1 * (j 1).val) : ℝ) : EReal)
    rw [(hi t).1, (hi t).2, h3]
    congr 2 <;> omega
  · have h0 : (i 0).val < 8 := (i 0).isLt
    have h1 : (i 1).val < 1024 := (i 1).isLt
    obtain ⟨t, ht⟩ : ∃ t : Fin cfg0.N, t.val = 15 := ⟨⟨15, by omega⟩, rfl⟩
    refine ⟨t, (flush0_11 t).mpr (by rw [ht]), ?_⟩
    show i ∈ ((View.whole main_v131_5).slice (win0_11.rect t)).set
    rw [View.set_slice_whole, Rect.mem_set_unit]
    refine Fin.forall_fin_two.mpr ⟨?_, ?_⟩
    · show win0_11.index _ 0 * 8 ≤ (i 0).val ∧ (i 0).val < win0_11.index _ 0 * 8 + 8
      rw [(hi _).1]
      omega
    · show win0_11.index _ 1 * 1024 ≤ (i 1).val ∧ (i 1).val < win0_11.index _ 1 * 1024 + 1024
      rw [(hi _).2]
      omega

omit H
/-- A sum over blocks of 512 rows is the sum over all rows. -/
theorem sum_blocks (f : ℕ → ℝ) : ∀ n : ℕ, ∑ t ∈ range n, ∑ i ∈ range 512, f (512 * t + i) = ∑ r ∈ range (512 * n), f r
  | 0 => by simp
  | n + 1 => by rw [sum_range_succ, sum_blocks f n, Nat.mul_succ, sum_range_add]

/-- The accumulator's rows over `N` rows: five column sums and the loss. -/
def accSum (D : Mlp) (N : ℕ) : ℕ → ℕ → ℝ
  | 0, j => (∑ i ∈ range N, D.d i j * D.xh2 i j) * (1 / 1024)
  | 1, j => (∑ i ∈ range N, D.d i j) * (1 / 1024)
  | 2, j => ∑ i ∈ range N, D.dh i j
  | 3, j => ∑ i ∈ range N, D.dh i j * D.x1 i j
  | 4, j => ∑ i ∈ range N, D.dr i j * D.f i j
  | 5, _ => (1 / 2048) * ∑ i ∈ range N, ∑ j ∈ range 1024, D.d i j * D.d i j
  | _, _ => 0

theorem accAt_eq : ∀ n i j : ℕ, accAt D n i j = accSum D (512 * n) i j
  | 0, i, j => by
    rcases i with _ | _ | _ | _ | _ | _ | i <;> simp [accAt, accSum]
  | n + 1, i, j => by
    have h := accAt_eq n
    rcases i with _ | _ | _ | _ | _ | _ | i <;>
      simp only [accAt, accTile, accSum, h, rows, Nat.mul_succ, sum_range_add] <;> ring

end Cert.MlpArr
end
-- ==== Proof.MlpClaim.lean ====
/- The second sublayer's call: from finite arguments, the kernel's six results are the reference's. -/
module

public import proofs.«01_k».proof.Defs
public import proofs.«01_k».proof.Proof.Pre
public import proofs.«01_k».proof.Proof.MlpHost
public import proofs.«01_k».proof.Proof.MlpFinite
public import proofs.«01_k».proof.Proof.MlpRef
public import proofs.«01_k».proof.Proof.MlpArr
public import proofs.«01_k».proof.Proof.Gen.ReferenceIdeal.Run
public import Idealize.ShloMosaic.Adequacy

@[expose] public section

set_option backward.isDefEq.respectTransparency false

noncomputable section

namespace Cert.MlpClaim

open Finset Cert.RealMat Cert.MlpReal Idealize.ShloMosaic Idealize.ShloMosaic.TcCoe Idealize.SL.Sem
open Cert.ReferenceIdeal.Read

/-- The eight rows the reference joins are the kernel's sums over all rows. -/
theorem acc_rows (D : Mlp) : (mat (φ := .f32) 8 1024 fun i j =>
      if i = 0 then MlpRef.g207 D 0 j else if i = 1 then MlpRef.g204 D 0 j else if i = 2 then MlpRef.g247 D 0 j else if i = 3 then MlpRef.g250 D 0 j
      else if i = 4 then MlpRef.g238 D 0 j else if i = 5 then MlpRef.g254 D 0 j else 0)
    = mat (φ := .f32) 8 1024 (MlpArr.accAt D 16) := by
  refine mat_congr fun i hi j _ => ?_
  rw [MlpArr.accAt_eq]
  rcases i with _ | _ | _ | _ | _ | _ | i
  · simp only [MlpArr.accSum, MlpRef.g207, MlpRef.g206, MlpRef.g205, MlpRef.g202, MlpRef.g201, MlpRef.g200, MlpRef.g191, MlpRef.g190, MlpRef.g198, MlpRef.g199, MlpRef.g197, sum_mul, if_true]
    exact sum_congr rfl fun _ _ => by ring
  · simp only [MlpArr.accSum, MlpRef.g204, MlpRef.g203, MlpRef.g202, MlpRef.g201, MlpRef.g200, MlpRef.g191, MlpRef.g190, MlpRef.g198, MlpRef.g199, MlpRef.g197, sum_mul]
    norm_num
    exact sum_congr rfl fun _ _ => by ring
  · norm_num [MlpArr.accSum, MlpRef.g247, MlpRef.g246]
  · norm_num [MlpArr.accSum, MlpRef.g250, MlpRef.g249, MlpRef.g248]
    try exact sum_congr rfl fun _ _ => by ring
  · norm_num [MlpArr.accSum, MlpRef.g238, MlpRef.g237, MlpRef.g236]
    try exact sum_congr rfl fun _ _ => by ring
  · norm_num [MlpArr.accSum, MlpRef.g254, MlpRef.g196, MlpRef.g195, MlpRef.g194, MlpRef.g193, MlpRef.g192, MlpRef.g189, mul_sum, sum_div]
    try exact sum_congr rfl fun _ _ => sum_congr rfl fun _ _ => by ring
  · simp [MlpArr.accSum]

open Cert.KernelIdeal in
/-- Real numbers behind finite arguments: both programs start from the same ones. -/
theorem reals (m : (ℓ : Loc nD τ sig) → Buf (Elt Ideal) ℓ) (hp : Pre_KernelIdeal_mlp_arguments_finite m) (c : Dev nD) : ∃ D : Mlp,
    MlpArr.Holds m c D ∧ MlpRef.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) D := by
  obtain ⟨e0, e1, e2, e3, e4, e5, e6, e7, e8, e9, e10, e11, e12, e13, e14, e15⟩ := Pre.mlp (hp c)
  obtain ⟨xh, hxh, -⟩ := (MlpFinite.f_main_v127 e1 e2 e3 e4 e5 e6 e7 e8 e9).mat (φ := .f32)
  obtain ⟨md, hmd, -⟩ := (MlpFinite.f_main_v3 e2 e3 e4).mat (φ := .f32)
  obtain ⟨t, ht, -⟩ := e0.mat (φ := .f32)
  obtain ⟨l1g, h1g, -⟩ := e10.mat (φ := .f32)
  obtain ⟨l1b, h1b, -⟩ := e11.mat (φ := .f32)
  obtain ⟨wi, hwi, -⟩ := e12.mat (φ := .f32)
  obtain ⟨wo, hwo, -⟩ := e13.mat (φ := .f32)
  obtain ⟨l2g, h2g, -⟩ := e14.mat (φ := .f32)
  obtain ⟨l2b, h2b, -⟩ := e15.mat (φ := .f32)
  let ln (i j : ℕ) : ℝ := if i = 0 then l1g 0 j else if i = 1 then l1b 0 j else if i = 2 then l2g 0 j else l2b 0 j
  have row (f : ℕ → ℕ → ℝ) : (mat 1 1024 f : FVec Ideal S1x1024 .f32) = mat 1 1024 fun _ j => f 0 j :=
    mat_congr fun i hi j _ => by rw [Nat.lt_one_iff.1 hi]
  refine ⟨⟨xh, t, md, ln, wi, wo⟩, ⟨?_, ?_, ?_, ?_, ?_, ?_⟩, ⟨hxh, hmd, ht, ?_, ?_, hwi, hwo, ?_, ?_⟩⟩
  · exact (MlpHost.v_main_v128 m c).trans hxh
  · exact (MlpHost.v_main_arg0 m c).trans ht
  · exact (MlpHost.v_main_v4 m c).trans hmd
  · rw [MlpHost.v_main_v0]
    rw [show MlpHost.A m c main_arg10 = _ from h1g, show MlpHost.A m c main_arg11 = _ from h1b, show MlpHost.A m c main_arg14 = _ from h2g, show MlpHost.A m c main_arg15 = _ from h2b]
    funext i
    have hi : (i 0).val < 4 := (i 0).isLt
    show _ = ((ln (i 0).val (i 1).val : ℝ) : EReal)
    obtain h | h | h | h : (i 0).val = 0 ∨ (i 0).val = 1 ∨ (i 0).val = 2 ∨ (i 0).val = 3 := by omega
    · refine (concat_row (p := 1) l1g _ _ i 0 (by exact show 0 < 4 by norm_num) rfl 0 rfl (by omega) (by omega)).trans ?_
      rw [h]; rfl
    · refine (concat_row (p := 1) l1b _ _ i 1 (by exact show 1 < 4 by norm_num) rfl 1 rfl (by omega) (by omega)).trans ?_
      rw [h]; rfl
    · refine (concat_row (p := 1) l2g _ _ i 2 (by exact show 2 < 4 by norm_num) rfl 2 rfl (by omega) (by omega)).trans ?_
      rw [h]; rfl
    · refine (concat_row (p := 1) l2b _ _ i 3 (by exact show 3 < 4 by norm_num) rfl 3 rfl (by omega) (by omega)).trans ?_
      rw [h]; rfl
  · rw [MlpHost.v_main_v129, show MlpHost.A m c main_arg12 = _ from hwi]; rfl
  · rw [MlpHost.v_main_v130, show MlpHost.A m c main_arg13 = _ from hwo]; rfl
  · exact h1g.trans (row l1g)
  · exact h1b.trans (row l1b)
  · exact h2g.trans (row l2g)
  · exact h2b.trans (row l2b)

theorem algebraic : Cert.algebraic_KernelIdeal_ReferenceIdeal_pre_mlp_arguments_finite := by
  intro m g m' g' hp hm
  choose D hK hR using fun c => reals m hp c
  refine ⟨fun c => mat (φ := .f32) 8192 1024 (D c).dx, fun c => mat (φ := .bf16) 8192 1024 (D c).h, fun c => mat (φ := .bf16) 8192 4096 (D c).a,
    fun c => mat (φ := .bf16) 8192 4096 (D c).du, fun c => mat (φ := .bf16) 8192 1024 (D c).df, fun c => mat (φ := .f32) 8 1024 (MlpArr.accAt (D c) 16), ?_, ?_⟩
  · refine (θ_run Cert.KernelIdeal.defs _ _).mono (fun r h c => ?_) (Cert.KernelIdeal.Value.run_blocks m g)
    obtain ⟨r0, r1, r2, r3, r4, r5, h⟩ := h c
    exact ⟨r0.trans (MlpArr.arr6 (hK c)), r1.trans (MlpArr.arr7 (hK c)), r2.trans (MlpArr.arr8 (hK c)), r3.trans (MlpArr.arr9 (hK c)),
      r4.trans (MlpArr.arr10 (hK c)), r5.trans (MlpArr.arr11 (hK c)), h⟩
  · refine (θ_run Cert.ReferenceIdeal.defs _ _).mono (fun r h c => ?_) (Cert.ReferenceIdeal.Value.run (F := Ideal) m' g')
    obtain ⟨r0, r1, r2, r3, r4, r5, h⟩ := h c
    have H := hR c
    obtain ⟨a0, a1, a2, a3, a4, a5, a6, a7, a8, a9, a10, a11, a12, a13, a14, a15⟩ := hm c
    rw [← a0, ← a1, ← a2, ← a3, ← a4, ← a5, ← a6, ← a7, ← a8, ← a9, ← a10, ← a11, ← a12, ← a13, ← a14, ← a15] at H
    replace H : MlpRef.Holds (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2)) (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5)) (StableHlo.launchContents m' c (Proc.devRef .tc Cert.ReferenceIdeal.main_arg6)) (StableHlo.launchContents m' c (Proc.devRef .tc Cert.ReferenceIdeal.main_arg7)) (StableHlo.launchContents m' c (Proc.devRef .tc Cert.ReferenceIdeal.main_arg8)) (StableHlo.launchContents m' c (Proc.devRef .tc Cert.ReferenceIdeal.main_arg9)) (StableHlo.launchContents m' c (Proc.devRef .tc Cert.ReferenceIdeal.main_arg10)) (StableHlo.launchContents m' c (Proc.devRef .tc Cert.ReferenceIdeal.main_arg11)) (StableHlo.launchContents m' c (Proc.devRef .tc Cert.ReferenceIdeal.main_arg12)) (StableHlo.launchContents m' c (Proc.devRef .tc Cert.ReferenceIdeal.main_arg13)) (StableHlo.launchContents m' c (Proc.devRef .tc Cert.ReferenceIdeal.main_arg14)) (StableHlo.launchContents m' c (Proc.devRef .tc Cert.ReferenceIdeal.main_arg15)) (D c) := H
    refine ⟨r0.trans ((val_main_v253_eq _).trans (MlpRef.l_v253 H)), r1.trans ((val_main_v257_eq _).trans ?_),
      r2.trans ((val_main_v258_eq _).trans ?_), r3.trans ((val_main_v259_eq _).trans ?_),
      r4.trans ((val_main_v260_eq _).trans ?_), r5.trans ((val_main_v256_eq _).trans ((MlpRef.l_v256 H).trans (acc_rows (D c)))), h⟩
    · exact (congrArg (fun x => truncf .bf16 x _) (MlpRef.l_v142 H)).trans rfl
    · exact (congrArg (fun x => truncf .bf16 x _) (MlpRef.l_v149 H)).trans rfl
    · exact (congrArg (fun x => truncf .bf16 x _) (MlpRef.l_v244 H)).trans rfl
    · exact (congrArg (fun x => truncf .bf16 x _) (MlpRef.l_v235 H)).trans rfl

end Cert.MlpClaim

end
-- ==== Proof.MixRun.lean ====
module

public import proofs.«01_k».proof.Proof.Gen.Kernel2Ideal.Frame.RunB
public import Idealize.ShloMosaic.Lib.Claim

/-! The run of the mixer's backward call, over any element type: what each grid point leaves in the outputs' buffers and in
the two carried scratch buffers, point by point, and the frame. -/

@[expose] public section

set_option maxRecDepth 16384

noncomputable section

namespace Cert.MixRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point. -/
abbrev runA (c : Dev nD) (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's run at a later point, over what the point before left in the accumulators and the scratch. -/
abbrev runB (c : Dev nD) (t : Fin cfg0.N) (h : ¬t.val % 16 = 0) (o18 : Vec F S8x1024 .f32) (o19 : Vec F S8x512 .f32) (o20 : Vec F S4x128x128 .f32) (s2 s3 : Vec F S528x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _)
    (fun hc => h ((hcond0_0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) o18 o19 o20 s2 s3

theorem coverA_o14 (c : Dev nD) (t : Fin cfg0.N) (h : t.val % 16 = 0) (y : S512x1024.Idx) :
    ∃ pc ∈ (runA m c t h).1, y ∈ pc.1.set :=
  View.cover_of_tiledL (runA m c t h).1 S512x1024.size (by sl_kernel_rfl) y
theorem coverA_o15 (c : Dev nD) (t : Fin cfg0.N) (h : t.val % 16 = 0) (y : S512x1024.Idx) :
    ∃ pc ∈ (runA m c t h).2.1, y ∈ pc.1.set :=
  View.cover_of_tiledL (runA m c t h).2.1 S512x1024.size (by sl_kernel_rfl) y
theorem coverA_o16 (c : Dev nD) (t : Fin cfg0.N) (h : t.val % 16 = 0) (y : S512x1024.Idx) :
    ∃ pc ∈ (runA m c t h).2.2.1, y ∈ pc.1.set :=
  View.cover_of_tiledL (runA m c t h).2.2.1 S512x1024.size (by sl_kernel_rfl) y
theorem coverA_o17 (c : Dev nD) (t : Fin cfg0.N) (h : t.val % 16 = 0) (y : S512x2048.Idx) :
    ∃ pc ∈ (runA m c t h).2.2.2.1, y ∈ pc.1.set :=
  View.cover_of_tiledL (runA m c t h).2.2.2.1 S512x2048.size (by sl_kernel_rfl) y
theorem coverA_o18 (c : Dev nD) (t : Fin cfg0.N) (h : t.val % 16 = 0) (y : S8x1024.Idx) :
    ∃ pc ∈ (runA m c t h).2.2.2.2.1, y ∈ pc.1.set :=
  View.cover_of_tiledBy (runA m c t h).2.2.2.2.1 ![1, 1024] (by sl_kernel_rfl) y
theorem coverA_o19 (c : Dev nD) (t : Fin cfg0.N) (h : t.val % 16 = 0) (y : S8x512.Idx) :
    ∃ pc ∈ (runA m c t h).2.2.2.2.2.1, y ∈ pc.1.set :=
  View.cover_of_tiledBy (runA m c t h).2.2.2.2.2.1 ![1, 512] (by sl_kernel_rfl) y
theorem coverA_o20 (c : Dev nD) (t : Fin cfg0.N) (h : t.val % 16 = 0) (y : S4x128x128.Idx) :
    ∃ pc ∈ (runA m c t h).2.2.2.2.2.2.1, y ∈ pc.1.set :=
  View.cover_of_tiledBy (runA m c t h).2.2.2.2.2.2.1 ![1, 128, 128] (by sl_kernel_rfl) y
theorem coverA_s2 (c : Dev nD) (t : Fin cfg0.N) (h : t.val % 16 = 0) (y : S528x512.Idx) :
    ∃ pc ∈ (runA m c t h).2.2.2.2.2.2.2.1, y ∈ pc.1.set :=
  View.cover_of_tiledBy (runA m c t h).2.2.2.2.2.2.2.1 ![16, 512] (by sl_kernel_rfl) y
theorem coverA_s3 (c : Dev nD) (t : Fin cfg0.N) (h : t.val % 16 = 0) (y : S528x512.Idx) :
    ∃ pc ∈ (runA m c t h).2.2.2.2.2.2.2.2.1, y ∈ pc.1.set :=
  View.cover_of_tiledBy (runA m c t h).2.2.2.2.2.2.2.2.1 ![16, 128] (by sl_kernel_rfl) y
theorem coverB_o14 (c : Dev nD) (t : Fin cfg0.N) (h : ¬t.val % 16 = 0) (o18 : Vec F S8x1024 .f32) (o19 : Vec F S8x512 .f32) (o20 : Vec F S4x128x128 .f32) (s2 s3 : Vec F S528x512 .f32) (y : S512x1024.Idx) :
    ∃ pc ∈ (runB m c t h o18 o19 o20 s2 s3).1, y ∈ pc.1.set :=
  View.cover_of_tiledL (runB m c t h o18 o19 o20 s2 s3).1 S512x1024.size (by sl_kernel_rfl) y
theorem coverB_o15 (c : Dev nD) (t : Fin cfg0.N) (h : ¬t.val % 16 = 0) (o18 : Vec F S8x1024 .f32) (o19 : Vec F S8x512 .f32) (o20 : Vec F S4x128x128 .f32) (s2 s3 : Vec F S528x512 .f32) (y : S512x1024.Idx) :
    ∃ pc ∈ (runB m c t h o18 o19 o20 s2 s3).2.1, y ∈ pc.1.set :=
  View.cover_of_tiledL (runB m c t h o18 o19 o20 s2 s3).2.1 S512x1024.size (by sl_kernel_rfl) y
theorem coverB_o16 (c : Dev nD) (t : Fin cfg0.N) (h : ¬t.val % 16 = 0) (o18 : Vec F S8x1024 .f32) (o19 : Vec F S8x512 .f32) (o20 : Vec F S4x128x128 .f32) (s2 s3 : Vec F S528x512 .f32) (y : S512x1024.Idx) :
    ∃ pc ∈ (runB m c t h o18 o19 o20 s2 s3).2.2.1, y ∈ pc.1.set :=
  View.cover_of_tiledL (runB m c t h o18 o19 o20 s2 s3).2.2.1 S512x1024.size (by sl_kernel_rfl) y
theorem coverB_o17 (c : Dev nD) (t : Fin cfg0.N) (h : ¬t.val % 16 = 0) (o18 : Vec F S8x1024 .f32) (o19 : Vec F S8x512 .f32) (o20 : Vec F S4x128x128 .f32) (s2 s3 : Vec F S528x512 .f32) (y : S512x2048.Idx) :
    ∃ pc ∈ (runB m c t h o18 o19 o20 s2 s3).2.2.2.1, y ∈ pc.1.set :=
  View.cover_of_tiledL (runB m c t h o18 o19 o20 s2 s3).2.2.2.1 S512x2048.size (by sl_kernel_rfl) y
theorem coverB_o20 (c : Dev nD) (t : Fin cfg0.N) (h : ¬t.val % 16 = 0) (o18 : Vec F S8x1024 .f32) (o19 : Vec F S8x512 .f32) (o20 : Vec F S4x128x128 .f32) (s2 s3 : Vec F S528x512 .f32) (y : S4x128x128.Idx) :
    ∃ pc ∈ (runB m c t h o18 o19 o20 s2 s3).2.2.2.2.2.2.1, y ∈ pc.1.set :=
  View.cover_of_tiledL (runB m c t h o18 o19 o20 s2 s3).2.2.2.2.2.2.1 S1x128x128.size (by sl_kernel_rfl) y
theorem coverB_s2 (c : Dev nD) (t : Fin cfg0.N) (h : ¬t.val % 16 = 0) (o18 : Vec F S8x1024 .f32) (o19 : Vec F S8x512 .f32) (o20 : Vec F S4x128x128 .f32) (s2 s3 : Vec F S528x512 .f32) (y : S528x512.Idx) :
    ∃ pc ∈ (runB m c t h o18 o19 o20 s2 s3).2.2.2.2.2.2.2.1, y ∈ pc.1.set :=
  View.cover_of_tiledBy (runB m c t h o18 o19 o20 s2 s3).2.2.2.2.2.2.2.1 ![16, 512] (by sl_kernel_rfl) y
theorem coverB_s3 (c : Dev nD) (t : Fin cfg0.N) (h : ¬t.val % 16 = 0) (o18 : Vec F S8x1024 .f32) (o19 : Vec F S8x512 .f32) (o20 : Vec F S4x128x128 .f32) (s2 s3 : Vec F S528x512 .f32) (y : S528x512.Idx) :
    ∃ pc ∈ (runB m c t h o18 o19 o20 s2 s3).2.2.2.2.2.2.2.2.1, y ∈ pc.1.set :=
  View.cover_of_tiledBy (runB m c t h o18 o19 o20 s2 s3).2.2.2.2.2.2.2.2.1 ![16, 128] (by sl_kernel_rfl) y

/-- What one point leaves: the seven outputs' buffers and the two carried scratch buffers. -/
structure Left (F : FTy → Type) [FloatOps F] where
  o14 : Vec F S512x1024 .f32
  o15 : Vec F S512x1024 .bf16
  o16 : Vec F S512x1024 .bf16
  o17 : Vec F S512x2048 .bf16
  o18 : Vec F S8x1024 .f32
  o19 : Vec F S8x512 .f32
  o20 : Vec F S4x128x128 .f32
  s2 : Vec F S528x512 .f32
  s3 : Vec F S528x512 .f32

def leftA (c : Dev nD) (t : Fin cfg0.N) (h : t.val % 16 = 0) : Left F where
  o14 := VO0_14.read (Elt F) (VO0_14.writes (Elt F) VO0_14.junk (runA m c t h).1)
  o15 := VO0_15.read (Elt F) (VO0_15.writes (Elt F) VO0_15.junk (runA m c t h).2.1)
  o16 := VO0_16.read (Elt F) (VO0_16.writes (Elt F) VO0_16.junk (runA m c t h).2.2.1)
  o17 := VO0_17.read (Elt F) (VO0_17.writes (Elt F) VO0_17.junk (runA m c t h).2.2.2.1)
  o18 := VO0_18.read (Elt F) (VO0_18.writes (Elt F) VO0_18.junk (runA m c t h).2.2.2.2.1)
  o19 := VO0_19.read (Elt F) (VO0_19.writes (Elt F) VO0_19.junk (runA m c t h).2.2.2.2.2.1)
  o20 := VO0_20.read (Elt F) (VO0_20.writes (Elt F) VO0_20.junk (runA m c t h).2.2.2.2.2.2.1)
  s2 := VS0_2.read (Elt F) (VS0_2.writes (Elt F) VS0_2.junk (runA m c t h).2.2.2.2.2.2.2.1)
  s3 := VS0_3.read (Elt F) (VS0_3.writes (Elt F) VS0_3.junk (runA m c t h).2.2.2.2.2.2.2.2.1)

def leftB (c : Dev nD) (t : Fin cfg0.N) (h : ¬t.val % 16 = 0) (p : Left F) : Left F where
  o14 := VO0_14.read (Elt F) (VO0_14.writes (Elt F) VO0_14.junk (runB m c t h p.o18 p.o19 p.o20 p.s2 p.s3).1)
  o15 := VO0_15.read (Elt F) (VO0_15.writes (Elt F) VO0_15.junk (runB m c t h p.o18 p.o19 p.o20 p.s2 p.s3).2.1)
  o16 := VO0_16.read (Elt F) (VO0_16.writes (Elt F) VO0_16.junk (runB m c t h p.o18 p.o19 p.o20 p.s2 p.s3).2.2.1)
  o17 := VO0_17.read (Elt F) (VO0_17.writes (Elt F) VO0_17.junk (runB m c t h p.o18 p.o19 p.o20 p.s2 p.s3).2.2.2.1)
  o18 := (ms0_18 t).view.read (Elt F) ((ms0_18 t).view.writes (Elt F) ((hs0_18 t).unread p.o18) (runB m c t h p.o18 p.o19 p.o20 p.s2 p.s3).2.2.2.2.1)
  o19 := (ms0_19 t).view.read (Elt F) ((ms0_19 t).view.writes (Elt F) ((hs0_19 t).unread p.o19) (runB m c t h p.o18 p.o19 p.o20 p.s2 p.s3).2.2.2.2.2.1)
  o20 := VO0_20.read (Elt F) (VO0_20.writes (Elt F) VO0_20.junk (runB m c t h p.o18 p.o19 p.o20 p.s2 p.s3).2.2.2.2.2.2.1)
  s2 := VS0_2.read (Elt F) (VS0_2.writes (Elt F) VS0_2.junk (runB m c t h p.o18 p.o19 p.o20 p.s2 p.s3).2.2.2.2.2.2.2.1)
  s3 := VS0_3.read (Elt F) (VS0_3.writes (Elt F) VS0_3.junk (runB m c t h p.o18 p.o19 p.o20 p.s2 p.s3).2.2.2.2.2.2.2.2.1)

/-- What the points up to position `n` leave: the first case at position 0, then the second over the position before. -/
def left (c : Dev nD) : (n : ℕ) → n < cfg0.N → Left F
  | 0, hn => leftA m c ⟨0, hn⟩ (Nat.zero_mod _)
  | n + 1, hn => leftB m c ⟨n + 1, hn⟩ (by have : n + 1 < 16 := lt_of_lt_of_eq hn (show cfg0.N = 16 from N_0); show ¬(n + 1) % 16 = 0; omega) (left c n (Nat.lt_of_succ_lt hn))

theorem left_A (c : Dev nD) (t : Fin cfg0.N) (h : t.val % 16 = 0) : left m c t.val t.isLt = leftA m c t h := by
  obtain ⟨n, hn⟩ := t
  have h16 : n < 16 := lt_of_lt_of_eq hn (show cfg0.N = 16 from N_0)
  cases n with
  | zero => rfl
  | succ n => exfalso; dsimp only at h; omega

theorem left_B (c : Dev nD) (t : Fin cfg0.N) (h : ¬t.val % 16 = 0) :
    left m c t.val t.isLt = leftB m c t h (left m c (t.val - 1) (Nat.lt_of_le_of_lt (Nat.sub_le _ _) t.isLt)) := by
  obtain ⟨n, hn⟩ := t
  cases n with
  | zero => exact absurd (Nat.zero_mod _) h
  | succ n => rfl

/-- The region's invariant before position `n`: the carried scratch at what the position before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (left m c n hn).s2 ∗ owns (c : Thread nD τ) scM0_3 fullShare (left m c n hn).s3) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare (left m c n hn).s2 ∗ owns (c : Thread nD τ) scM0_3 fullShare (left m c n hn).s3) ∗ (∃ r, prngReg c r)) := rfl
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (left m c (n - 1) (by omega)).s2 ∗ owns (c : Thread nD τ) scM0_3 fullShare (left m c (n - 1) (by omega)).s3) ∗ (∃ r, prngReg c r)) := by
  cases n with
  | zero => exact absurd rfl hz
  | succ n => rfl

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (left m c t.val t.isLt).o14
    | ⟨15, _⟩ => (left m c t.val t.isLt).o15
    | ⟨16, _⟩ => (left m c t.val t.isLt).o16
    | ⟨17, _⟩ => (left m c t.val t.isLt).o17
    | ⟨18, _⟩ => (left m c t.val t.isLt).o18
    | ⟨19, _⟩ => (left m c t.val t.isLt).o19
    | ⟨20, _⟩ => (left m c t.val t.isLt).o20
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (left m c t.val t.isLt).o14 := by dsimp only [dats]
theorem after_15 (c : Dev nD) (t : Fin cfg0.N) : (dats m 0 c).after 15 t = (left m c t.val t.isLt).o15 := by dsimp only [dats]
theorem after_16 (c : Dev nD) (t : Fin cfg0.N) : (dats m 0 c).after 16 t = (left m c t.val t.isLt).o16 := by dsimp only [dats]
theorem after_17 (c : Dev nD) (t : Fin cfg0.N) : (dats m 0 c).after 17 t = (left m c t.val t.isLt).o17 := by dsimp only [dats]
theorem after_18 (c : Dev nD) (t : Fin cfg0.N) : (dats m 0 c).after 18 t = (left m c t.val t.isLt).o18 := by dsimp only [dats]
theorem after_19 (c : Dev nD) (t : Fin cfg0.N) : (dats m 0 c).after 19 t = (left m c t.val t.isLt).o19 := by dsimp only [dats]
theorem after_20 (c : Dev nD) (t : Fin cfg0.N) : (dats m 0 c).after 20 t = (left m c t.val t.isLt).o20 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_18 (c : Dev nD) (t : Fin cfg0.N) (h0 : ¬t.val % 16 = 0) (d) :
    (dats m 0 c).before 18 t d = (left m c (t.val - 1) (Nat.lt_of_le_of_lt (Nat.sub_le _ _) t.isLt)).o18 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
theorem before_19 (c : Dev nD) (t : Fin cfg0.N) (h0 : ¬t.val % 16 = 0) (d) :
    (dats m 0 c).before 19 t d = (left m c (t.val - 1) (Nat.lt_of_le_of_lt (Nat.sub_le _ _) t.isLt)).o19 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
theorem before_20 (c : Dev nD) (t : Fin cfg0.N) (h0 : ¬t.val % 16 = 0) (d) :
    (dats m 0 c).before 20 t d = (left m c (t.val - 1) (Nat.lt_of_le_of_lt (Nat.sub_le _ _) t.isLt)).o20 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 19200000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [left_A m c t h0]
      dsimp only [leftA]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runA m c t h0).2.2.2.2.2.2.2.2.2.2.2 Set.univ _)
      iframe H0 H1 H2 H3 H4 H5 H6 H7 H8 H9 H10 H11 H12 H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      iframe HS0 HS1 HS2 HS3
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%fT0, HS0⟩, ⟨%fT1, HS1⟩, ⟨%es2, HS2⟩, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (coverA_s2 m c t h0)
          unfold owns; iexists _; isplitr
          swap; · iexact HS3
          ipureintro; exact View.read_writes_of_cover _ _ _ _ _ (coverA_s3 m c t h0)
        iexact Hg
      iframe Ho H0 H1 H2 H3 H4 H5 H6 H7 H8 H9 H10 H11 H12 H13
      isplitl [H14]
      · unfold owns; iexists _; isplitr
        swap; · iexact H14
        ipureintro; exact View.read_writes_of_cover _ _ _ _ _ (coverA_o14 m c t h0)
      isplitl [H15]
      · unfold owns; iexists _; isplitr
        swap; · iexact H15
        ipureintro; exact View.read_writes_of_cover _ _ _ _ _ (coverA_o15 m c t h0)
      isplitl [H16]
      · unfold owns; iexists _; isplitr
        swap; · iexact H16
        ipureintro; exact View.read_writes_of_cover _ _ _ _ _ (coverA_o16 m c t h0)
      isplitl [H17]
      · unfold owns; iexists _; isplitr
        swap; · iexact H17
        ipureintro; exact View.read_writes_of_cover _ _ _ _ _ (coverA_o17 m c t h0)
      isplitl [H18]
      · unfold owns; iexists _; isplitr
        swap; · iexact H18
        ipureintro; exact View.read_writes_of_cover _ _ _ _ _ (coverA_o18 m c t h0)
      isplitl [H19]
      · unfold owns; iexists _; isplitr
        swap; · iexact H19
        ipureintro; exact View.read_writes_of_cover _ _ _ _ _ (coverA_o19 m c t h0)
      unfold owns; iexists _; isplitr
      swap; · iexact H20
      ipureintro; exact View.read_writes_of_cover _ _ _ _ _ (coverA_o20 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [left_B m c t h0]
      simp only [before_18 m c t h0, before_19 m c t h0, before_20 m c t h0]
      generalize left m c (t.val - 1) (Nat.lt_of_le_of_lt (Nat.sub_le _ _) t.isLt) = p
      dsimp only [leftB]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runB m c t h0 p.o18 p.o19 p.o20 p.s2 p.s3).2.2.2.2.2.2.2.2.2.2.2 Set.univ _)
      iframe H0 H1 H2 H3 H4 H5 H6 H7 H8 H9 H10 H11 H12 H13
      isplitl [H14]; · iexists _; iexact H14
      isplitl [H15]; · iexists _; iexact H15
      isplitl [H16]; · iexists _; iexact H16
      isplitl [H17]; · iexists _; iexact H17
      iframe H18 H19 H20 HS0 HS1 HS2 HS3
      iintro ⟨H0, H1, H2, H3, H4, H5, H6, H7, H8, H9, H10, H11, H12, H13, ⟨%e14, H14⟩, ⟨%e15, H15⟩, ⟨%e16, H16⟩, ⟨%e17, H17⟩, H18, H19, ⟨%e20, H20⟩, ⟨%fT0, HS0⟩, ⟨%fT1, HS1⟩, ⟨%es2, HS2⟩, ⟨%es3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (coverB_s2 m c t h0 _ _ _ _ _)
          unfold owns; iexists _; isplitr
          swap; · iexact HS3
          ipureintro; exact View.read_writes_of_cover _ _ _ _ _ (coverB_s3 m c t h0 _ _ _ _ _)
        iexact Hg
      iframe Ho H0 H1 H2 H3 H4 H5 H6 H7 H8 H9 H10 H11 H12 H13
      isplitl [H14]
      · unfold owns; iexists _; isplitr
        swap; · iexact H14
        ipureintro; exact View.read_writes_of_cover _ _ _ _ _ (coverB_o14 m c t h0 _ _ _ _ _)
      isplitl [H15]
      · unfold owns; iexists _; isplitr
        swap; · iexact H15
        ipureintro; exact View.read_writes_of_cover _ _ _ _ _ (coverB_o15 m c t h0 _ _ _ _ _)
      isplitl [H16]
      · unfold owns; iexists _; isplitr
        swap; · iexact H16
        ipureintro; exact View.read_writes_of_cover _ _ _ _ _ (coverB_o16 m c t h0 _ _ _ _ _)
      isplitl [H17]
      · unfold owns; iexists _; isplitr
        swap; · iexact H17
        ipureintro; exact View.read_writes_of_cover _ _ _ _ _ (coverB_o17 m c t h0 _ _ _ _ _)
      isplitl [H18]
      · unfold owns; iexists _; isplitr
        swap; · iexact H18
        ipureintro; rfl
      isplitl [H19]
      · unfold owns; iexists _; isplitr
        swap; · iexact H19
        ipureintro; rfl
      unfold owns; iexists _; isplitr
      swap; · iexact H20
      ipureintro; exact View.read_writes_of_cover _ _ _ _ _ (coverB_o20 m c t h0 _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

theorem flushed_14 (c : Dev nD) (t : Fin cfg0.N) : (dats m 0 c).flushed 14 t = (cfg0.win 14).cut (grid0.coords t) (left m c t.val t.isLt).o14 := by
  show (cfg0.win 14).cut (grid0.coords t) ((dats m 0 c).after 14 t) = _; rw [after_14]
theorem flushed_15 (c : Dev nD) (t : Fin cfg0.N) : (dats m 0 c).flushed 15 t = (cfg0.win 15).cut (grid0.coords t) (left m c t.val t.isLt).o15 := by
  show (cfg0.win 15).cut (grid0.coords t) ((dats m 0 c).after 15 t) = _; rw [after_15]
theorem flushed_16 (c : Dev nD) (t : Fin cfg0.N) : (dats m 0 c).flushed 16 t = (cfg0.win 16).cut (grid0.coords t) (left m c t.val t.isLt).o16 := by
  show (cfg0.win 16).cut (grid0.coords t) ((dats m 0 c).after 16 t) = _; rw [after_16]
theorem flushed_17 (c : Dev nD) (t : Fin cfg0.N) : (dats m 0 c).flushed 17 t = (cfg0.win 17).cut (grid0.coords t) (left m c t.val t.isLt).o17 := by
  show (cfg0.win 17).cut (grid0.coords t) ((dats m 0 c).after 17 t) = _; rw [after_17]
theorem flushed_18 (c : Dev nD) (t : Fin cfg0.N) : (dats m 0 c).flushed 18 t = (cfg0.win 18).cut (grid0.coords t) (left m c t.val t.isLt).o18 := by
  show (cfg0.win 18).cut (grid0.coords t) ((dats m 0 c).after 18 t) = _; rw [after_18]
theorem flushed_19 (c : Dev nD) (t : Fin cfg0.N) : (dats m 0 c).flushed 19 t = (cfg0.win 19).cut (grid0.coords t) (left m c t.val t.isLt).o19 := by
  show (cfg0.win 19).cut (grid0.coords t) ((dats m 0 c).after 19 t) = _; rw [after_19]
theorem flushed_20 (c : Dev nD) (t : Fin cfg0.N) : (dats m 0 c).flushed 20 t = (cfg0.win 20).cut (grid0.coords t) (left m c t.val t.isLt).o20 := by
  show (cfg0.win 20).cut (grid0.coords t) ((dats m 0 c).after 20 t) = _; rw [after_20]

end Cert.MixRun

end
-- ==== Proof.MixHost.lean ====
/- What the lines before the kernel call leave in its buffers, one operation after the other: each buffer holds the value the
   reference's line of the same name computes from the same arguments. -/
module

public import proofs.«01_k».proof.Proof.HostStep
public import proofs.«01_k».proof.Proof.Gen.Kernel2Ideal.Frame.Runs
public import proofs.«01_k».proof.Proof.Gen.ReferenceIdeal.Read

@[expose] public section

set_option maxRecDepth 4000

noncomputable section

namespace Cert.MixHost

open Idealize.ShloMosaic Idealize.ShloMosaic.TcCoe Idealize.SL.Sem Cert.Kernel2Ideal Cert.Kernel2Ideal.Gen Cert.ReferenceIdeal.Read

variable {F : FTy → Type} [FloatOps F] (m : (ℓ : Loc nD τ sig) → Buf (Elt F) ℓ) (c : Dev nD)

/-- Everything the lines write, in order. -/
abbrev W : List (Ref sig .tc) := [main_v0, main_call0_v0, main_call0_v1, main_call0_cst, main_call0_v2, main_call0_v3, main_call0_cst_0, main_call0_v4, main_call0_v5, main_v1, main_v2, main_v3, main_v4, main_v5, main_cst, main_v6, main_v7, main_v8, main_v9, main_v10, main_v11, main_v12, main_v13, main_v14, main_v15, main_v16, main_v17, main_v18, main_cst_0, main_v19, main_v20, main_v21, main_v22, main_v23, main_v24, main_v25, main_v26, main_v27, main_v28, main_v29, main_v30, main_v31, main_v32, main_v33, main_v34, main_v35, main_v36, main_v37, main_v38, main_v39, main_v40, main_v41, main_call1_call0_cst, main_call1_call0_v0, main_v42, main_v43, main_cst_1, main_v44, main_v45, main_v46, main_v47, main_cst_2, main_v48, main_v49, main_v50, main_v51, main_cst_3, main_v52, main_v53, main_v54, main_v55, main_v56, main_v57, main_v58, main_cst_4, main_v59, main_v60, main_v61, main_v62, main_cst_5, main_v63, main_v64, main_v65, main_v66, main_v67, main_v68, main_v69, main_cst_6, main_v70, main_v71, main_v72, main_v73, main_cst_7, main_v74, main_v75, main_v76, main_v77, main_v78, main_v79, main_v80, main_cst_8, main_v81, main_v82, main_v83, main_v84, main_cst_9, main_v85, main_v86, main_v87, main_v88, main_v89, main_v90, main_v91, main_v92, main_v93, main_v94, main_v95, main_v96, main_v97, main_v98, main_v99, main_v100, main_v101, main_v102, main_cst_10, main_v103, main_v104, main_v105, main_cst_11, main_v106, main_v107, main_v108, main_v109, main_v110, main_cst_12, main_v111, main_v112, main_cst_13, main_v113, main_v114, main_v115, main_v116, main_v117, main_cst_14, main_v118, main_v119, main_cst_15, main_v120, main_v121, main_cst_16, main_v122, main_v123, main_v124, main_v125, main_v126, main_v127, main_v128, main_v129, main_v130, main_v131]

theorem hW : Step.Writes (τ := τ) (Val := Elt F) (List.flatten [hostOps0, hostOps0_1, hostOps0_2, hostOps0_3, hostOps0_4]) W := rfl

/-- What the buffer `b` holds when the program starts. -/
abbrev A (b : Ref sig .tc) : b.ty.Contents (Elt F) := m (c, Proc.devRef .tc b)
abbrev a1 := A m c main_arg1
abbrev a2 := A m c main_arg2
abbrev a3 := A m c main_arg3
abbrev a4 := A m c main_arg4
abbrev a5 := A m c main_arg5
abbrev a6 := A m c main_arg6
abbrev a7 := A m c main_arg7
abbrev a8 := A m c main_arg8
abbrev a9 := A m c main_arg9
theorem v_main_arg0 : V m c main_arg0 = A m c main_arg0 := Step.arg hW
theorem v_main_arg10 : V m c main_arg10 = A m c main_arg10 := Step.arg hW
theorem v_main_arg11 : V m c main_arg11 = A m c main_arg11 := Step.arg hW
theorem v_main_arg12 : V m c main_arg12 = A m c main_arg12 := Step.arg hW
theorem v_main_arg13 : V m c main_arg13 = A m c main_arg13 := Step.arg hW
theorem v_main_arg1 : V m c main_arg1 = A m c main_arg1 := Step.arg hW
theorem v_main_arg2 : V m c main_arg2 = A m c main_arg2 := Step.arg hW
theorem v_main_arg3 : V m c main_arg3 = A m c main_arg3 := Step.arg hW
theorem v_main_arg4 : V m c main_arg4 = A m c main_arg4 := Step.arg hW
theorem v_main_arg5 : V m c main_arg5 = A m c main_arg5 := Step.arg hW
theorem v_main_arg6 : V m c main_arg6 = A m c main_arg6 := Step.arg hW
theorem v_main_arg7 : V m c main_arg7 = A m c main_arg7 := Step.arg hW
theorem v_main_arg8 : V m c main_arg8 = A m c main_arg8 := Step.arg hW
theorem v_main_arg9 : V m c main_arg9 = A m c main_arg9 := Step.arg hW
theorem v_main_call0_v0 : V m c main_call0_v0 = val_main_call0_v0 (a2 m c) := Step.unary hW 1 (v_main_arg2 m c)
theorem v_main_call0_v1 : V m c main_call0_v1 = val_main_call0_v1 (a2 m c) := Step.unary hW 2 (v_main_call0_v0 m c)
theorem v_main_call0_cst : V m c main_call0_cst = val_main_call0_cst (F := F) := Step.nullary hW 3
theorem v_main_call0_v2 : V m c main_call0_v2 = val_main_call0_v2 (F := F) := Step.unary hW 4 (v_main_call0_cst m c)
theorem v_main_call0_v3 : V m c main_call0_v3 = val_main_call0_v3 (a2 m c) := Step.binary hW 5 (v_main_call0_v2 m c) (v_main_call0_v1 m c)
theorem v_main_call0_cst_0 : V m c main_call0_cst_0 = val_main_call0_cst_0 (F := F) := Step.nullary hW 6
theorem v_main_call0_v4 : V m c main_call0_v4 = val_main_call0_v4 (F := F) := Step.unary hW 7 (v_main_call0_cst_0 m c)
theorem v_main_call0_v5 : V m c main_call0_v5 = val_main_call0_v5 (a2 m c) := Step.binary hW 8 (v_main_call0_v4 m c) (v_main_call0_v3 m c)
theorem v_main_v1 : V m c main_v1 = val_main_v0 (a2 m c) := Step.binary hW 9 (v_main_arg2 m c) (v_main_call0_v5 m c)
theorem v_main_v2 : V m c main_v2 = val_main_v1 (a2 m c) (a3 m c) := Step.binary hW 10 (v_main_v1 m c) (v_main_arg3 m c)
theorem v_main_v3 : V m c main_v3 = val_main_v2 (a2 m c) (a3 m c) (a4 m c) := Step.binary hW 11 (v_main_v2 m c) (v_main_arg4 m c)
theorem v_main_v4 : V m c main_v4 = val_main_v3 (a2 m c) (a3 m c) (a4 m c) := Step.reshape hW 12 (v_main_v3 m c)
theorem v_main_v5 : V m c main_v5 = val_main_v4 (a2 m c) (a3 m c) (a4 m c) := Step.unary hW 13 (v_main_v4 m c)
theorem v_main_cst : V m c main_cst = val_main_cst (F := F) := Step.nullary hW 14
theorem v_main_v6 : V m c main_v6 = val_main_v5 (F := F) := Step.unary hW 15 (v_main_cst m c)
theorem v_main_v7 : V m c main_v7 = val_main_v6 (a2 m c) (a3 m c) (a4 m c) := Step.binary hW 16 (v_main_v6 m c) (v_main_v5 m c)
theorem v_main_v8 : V m c main_v8 = val_main_v7 (a2 m c) (a3 m c) (a4 m c) := Step.unary hW 17 (v_main_v7 m c)
theorem v_main_v9 : V m c main_v9 = val_main_v8 (a1 m c) (a2 m c) (a3 m c) (a4 m c) := Step.binary hW 18 (v_main_arg1 m c) (v_main_v8 m c)
theorem v_main_v10 : V m c main_v10 = val_main_v9 (a2 m c) (a3 m c) (a4 m c) := Step.unary hW 19 (v_main_v4 m c)
theorem v_main_v11 : V m c main_v11 = val_main_v10 (a2 m c) (a3 m c) (a4 m c) := Step.unary hW 20 (v_main_v10 m c)
theorem v_main_v12 : V m c main_v12 = val_main_v11 (a1 m c) (a2 m c) (a3 m c) (a4 m c) := Step.binary hW 21 (v_main_v9 m c) (v_main_v11 m c)
theorem v_main_v13 : V m c main_v13 = val_main_v12 (a1 m c) (a2 m c) (a3 m c) (a4 m c) (a5 m c) := Step.binary hW 22 (v_main_v12 m c) (v_main_arg5 m c)
theorem v_main_v14 : V m c main_v14 = val_main_v13 (a1 m c) (a2 m c) (a3 m c) (a4 m c) (a5 m c) := Step.unary hW 23 (v_main_v13 m c)
theorem v_main_v15 : V m c main_v15 = val_main_v14 (a1 m c) (a2 m c) (a3 m c) (a4 m c) (a5 m c) := Step.unary hW 24 (v_main_v13 m c)
theorem v_main_v16 : V m c main_v16 = val_main_v15 (a1 m c) (a2 m c) (a3 m c) (a4 m c) (a5 m c) := Step.unary hW 25 (v_main_v13 m c)
theorem v_main_v17 : V m c main_v17 = val_main_v16 (a1 m c) (a2 m c) (a3 m c) (a4 m c) (a5 m c) := Step.unary hW 26 (v_main_v13 m c)
theorem v_main_v18 : V m c main_v18 = val_main_v17 (a1 m c) (a2 m c) (a3 m c) (a4 m c) (a5 m c) := Step.binary hW 27 (v_main_v15 m c) (v_main_v16 m c)
theorem v_main_cst_0 : V m c main_cst_0 = val_main_cst_0 (F := F) := Step.nullary hW 28
theorem v_main_v19 : V m c main_v19 = val_main_v18 (F := F) := Step.unary hW 29 (v_main_cst_0 m c)
theorem v_main_v20 : V m c main_v20 = val_main_v19 (a1 m c) (a2 m c) (a3 m c) (a4 m c) (a5 m c) := Step.binary hW 30 (v_main_v19 m c) (v_main_v18 m c)
theorem v_main_v21 : V m c main_v21 = val_main_v20 (a1 m c) (a2 m c) (a3 m c) (a4 m c) (a5 m c) := Step.unary hW 31 (v_main_v20 m c)
theorem v_main_v22 : V m c main_v22 = val_main_v21 (a6 m c) := Step.unary hW 32 (v_main_arg6 m c)
theorem v_main_v23 : V m c main_v23 = val_main_v22 (a6 m c) := Step.reshape hW 33 (v_main_v22 m c)
theorem v_main_v24 : V m c main_v24 = val_main_v23 (a6 m c) := Step.unary hW 34 (v_main_v23 m c)
theorem v_main_v25 : V m c main_v25 = val_main_v24 (a6 m c) := Step.unary hW 35 (v_main_v24 m c)
theorem v_main_v26 : V m c main_v26 = val_main_v25 (a1 m c) (a2 m c) (a3 m c) (a4 m c) (a5 m c) (a6 m c) := Step.binary hW 36 (v_main_v21 m c) (v_main_v25 m c)
theorem v_main_v27 : V m c main_v27 = val_main_v26 (a1 m c) (a2 m c) (a3 m c) (a4 m c) (a5 m c) := Step.unary hW 37 (v_main_v20 m c)
theorem v_main_v28 : V m c main_v28 = val_main_v27 (a6 m c) := Step.unary hW 38 (v_main_arg6 m c)
theorem v_main_v29 : V m c main_v29 = val_main_v28 (a6 m c) := Step.reshape hW 39 (v_main_v28 m c)
theorem v_main_v30 : V m c main_v30 = val_main_v29 (a6 m c) := Step.unary hW 40 (v_main_v29 m c)
theorem v_main_v31 : V m c main_v31 = val_main_v30 (a6 m c) := Step.unary hW 41 (v_main_v30 m c)
theorem v_main_v32 : V m c main_v32 = val_main_v31 (a1 m c) (a2 m c) (a3 m c) (a4 m c) (a5 m c) (a6 m c) := Step.binary hW 42 (v_main_v27 m c) (v_main_v31 m c)
theorem v_main_v33 : V m c main_v33 = val_main_v32 (a1 m c) (a2 m c) (a3 m c) (a4 m c) (a5 m c) (a6 m c) := Step.binary hW 43 (v_main_v26 m c) (v_main_v32 m c)
theorem v_main_v34 : V m c main_v34 = val_main_v33 (a1 m c) (a2 m c) (a3 m c) (a4 m c) (a5 m c) := Step.unary hW 44 (v_main_v20 m c)
theorem v_main_v35 : V m c main_v35 = val_main_v34 (a6 m c) := Step.unary hW 45 (v_main_arg6 m c)
theorem v_main_v36 : V m c main_v36 = val_main_v35 (a6 m c) := Step.reshape hW 46 (v_main_v35 m c)
theorem v_main_v37 : V m c main_v37 = val_main_v36 (a6 m c) := Step.unary hW 47 (v_main_v36 m c)
theorem v_main_v38 : V m c main_v38 = val_main_v37 (a6 m c) := Step.unary hW 48 (v_main_v37 m c)
theorem v_main_v39 : V m c main_v39 = val_main_v38 (a1 m c) (a2 m c) (a3 m c) (a4 m c) (a5 m c) (a6 m c) := Step.binary hW 49 (v_main_v34 m c) (v_main_v38 m c)
theorem v_main_v40 : V m c main_v40 = val_main_v39 (a1 m c) (a2 m c) (a3 m c) (a4 m c) (a5 m c) (a6 m c) := Step.binary hW 50 (v_main_v33 m c) (v_main_v39 m c)
theorem v_main_v41 : V m c main_v41 = val_main_v40 (a1 m c) (a2 m c) (a3 m c) (a4 m c) (a5 m c) (a6 m c) := Step.binary hW 51 (v_main_v14 m c) (v_main_v40 m c)
theorem v_main_call1_call0_cst : V m c main_call1_call0_cst = val_main_call1_call0_cst (F := F) := Step.nullary hW 52
theorem v_main_call1_call0_v0 : V m c main_call1_call0_v0 = val_main_call1_call0_v0 (F := F) := Step.unary hW 53 (v_main_call1_call0_cst m c)
theorem v_main_v42 : V m c main_v42 = val_main_v41 (a1 m c) (a2 m c) (a3 m c) (a4 m c) (a5 m c) := Step.binary hW 54 (v_main_v17 m c) (v_main_call1_call0_v0 m c)
theorem v_main_v43 : V m c main_v43 = val_main_v42 (F := F) := Step.nullary hW 55
theorem v_main_cst_1 : V m c main_cst_1 = val_main_cst_1 (F := F) := Step.nullary hW 56
theorem v_main_v44 : V m c main_v44 = val_main_v43 (F := F) := Step.unary hW 57 (v_main_cst_1 m c)
theorem v_main_v45 : V m c main_v45 = val_main_v44 (F := F) := Step.binary hW 58 (v_main_v44 m c) (v_main_v43 m c)
theorem v_main_v46 : V m c main_v46 = val_main_v45 (F := F) := Step.unary hW 59 (v_main_v45 m c)
theorem v_main_v47 : V m c main_v47 = val_main_v46 (a1 m c) (a2 m c) (a3 m c) (a4 m c) (a5 m c) := Step.unary hW 60 (v_main_v42 m c)
theorem v_main_cst_2 : V m c main_cst_2 = val_main_cst_2 (F := F) := Step.nullary hW 61
theorem v_main_v48 : V m c main_v48 = val_main_v47 (F := F) := Step.unary hW 62 (v_main_cst_2 m c)
theorem v_main_v49 : V m c main_v49 = val_main_v48 (a1 m c) (a2 m c) (a3 m c) (a4 m c) (a5 m c) := Step.binary hW 63 (v_main_v48 m c) (v_main_v47 m c)
theorem v_main_v50 : V m c main_v50 = val_main_v49 (a1 m c) (a2 m c) (a3 m c) (a4 m c) (a5 m c) := Step.unary hW 64 (v_main_v49 m c)
theorem v_main_v51 : V m c main_v51 = val_main_v50 (a1 m c) (a2 m c) (a3 m c) (a4 m c) (a5 m c) := Step.binary hW 65 (v_main_v47 m c) (v_main_v50 m c)
theorem v_main_cst_3 : V m c main_cst_3 = val_main_cst_3 (F := F) := Step.nullary hW 66
theorem v_main_v52 : V m c main_v52 = val_main_v51 (F := F) := Step.unary hW 67 (v_main_cst_3 m c)
theorem v_main_v53 : V m c main_v53 = val_main_v52 (F := F) := Step.binary hW 68 (v_main_v46 m c) (v_main_v52 m c)
theorem v_main_v54 : V m c main_v54 = val_main_v53 (F := F) := Step.unary hW 69 (v_main_v53 m c)
theorem v_main_v55 : V m c main_v55 = val_main_v54 (a1 m c) (a2 m c) (a3 m c) (a4 m c) (a5 m c) := Step.binary hW 70 (v_main_v51 m c) (v_main_v54 m c)
theorem v_main_v56 : V m c main_v56 = val_main_v55 (a1 m c) (a2 m c) (a3 m c) (a4 m c) (a5 m c) := Step.unary hW 71 (v_main_v17 m c)
theorem v_main_v57 : V m c main_v57 = val_main_v56 (a1 m c) (a2 m c) (a3 m c) (a4 m c) (a5 m c) := Step.binary hW 72 (v_main_v55 m c) (v_main_v56 m c)
theorem v_main_v58 : V m c main_v58 = val_main_v57 (a1 m c) (a2 m c) (a3 m c) (a4 m c) (a5 m c) := Step.unary hW 73 (v_main_v42 m c)
theorem v_main_cst_4 : V m c main_cst_4 = val_main_cst_4 (F := F) := Step.nullary hW 74
theorem v_main_v59 : V m c main_v59 = val_main_v58 (F := F) := Step.unary hW 75 (v_main_cst_4 m c)
theorem v_main_v60 : V m c main_v60 = val_main_v59 (a1 m c) (a2 m c) (a3 m c) (a4 m c) (a5 m c) := Step.binary hW 76 (v_main_v59 m c) (v_main_v58 m c)
theorem v_main_v61 : V m c main_v61 = val_main_v60 (a1 m c) (a2 m c) (a3 m c) (a4 m c) (a5 m c) := Step.unary hW 77 (v_main_v60 m c)
theorem v_main_v62 : V m c main_v62 = val_main_v61 (a1 m c) (a2 m c) (a3 m c) (a4 m c) (a5 m c) := Step.binary hW 78 (v_main_v58 m c) (v_main_v61 m c)
theorem v_main_cst_5 : V m c main_cst_5 = val_main_cst_5 (F := F) := Step.nullary hW 79
theorem v_main_v63 : V m c main_v63 = val_main_v62 (F := F) := Step.unary hW 80 (v_main_cst_5 m c)
theorem v_main_v64 : V m c main_v64 = val_main_v63 (F := F) := Step.binary hW 81 (v_main_v46 m c) (v_main_v63 m c)
theorem v_main_v65 : V m c main_v65 = val_main_v64 (F := F) := Step.unary hW 82 (v_main_v64 m c)
theorem v_main_v66 : V m c main_v66 = val_main_v65 (a1 m c) (a2 m c) (a3 m c) (a4 m c) (a5 m c) := Step.binary hW 83 (v_main_v62 m c) (v_main_v65 m c)
theorem v_main_v67 : V m c main_v67 = val_main_v66 (a1 m c) (a2 m c) (a3 m c) (a4 m c) (a5 m c) := Step.unary hW 84 (v_main_v17 m c)
theorem v_main_v68 : V m c main_v68 = val_main_v67 (a1 m c) (a2 m c) (a3 m c) (a4 m c) (a5 m c) := Step.binary hW 85 (v_main_v66 m c) (v_main_v67 m c)
theorem v_main_v69 : V m c main_v69 = val_main_v68 (a1 m c) (a2 m c) (a3 m c) (a4 m c) (a5 m c) := Step.unary hW 86 (v_main_v42 m c)
theorem v_main_cst_6 : V m c main_cst_6 = val_main_cst_6 (F := F) := Step.nullary hW 87
theorem v_main_v70 : V m c main_v70 = val_main_v69 (F := F) := Step.unary hW 88 (v_main_cst_6 m c)
theorem v_main_v71 : V m c main_v71 = val_main_v70 (a1 m c) (a2 m c) (a3 m c) (a4 m c) (a5 m c) := Step.binary hW 89 (v_main_v70 m c) (v_main_v69 m c)
theorem v_main_v72 : V m c main_v72 = val_main_v71 (a1 m c) (a2 m c) (a3 m c) (a4 m c) (a5 m c) := Step.unary hW 90 (v_main_v71 m c)
theorem v_main_v73 : V m c main_v73 = val_main_v72 (a1 m c) (a2 m c) (a3 m c) (a4 m c) (a5 m c) := Step.binary hW 91 (v_main_v69 m c) (v_main_v72 m c)
theorem v_main_cst_7 : V m c main_cst_7 = val_main_cst_7 (F := F) := Step.nullary hW 92
theorem v_main_v74 : V m c main_v74 = val_main_v73 (F := F) := Step.unary hW 93 (v_main_cst_7 m c)
theorem v_main_v75 : V m c main_v75 = val_main_v74 (F := F) := Step.binary hW 94 (v_main_v46 m c) (v_main_v74 m c)
theorem v_main_v76 : V m c main_v76 = val_main_v75 (F := F) := Step.unary hW 95 (v_main_v75 m c)
theorem v_main_v77 : V m c main_v77 = val_main_v76 (a1 m c) (a2 m c) (a3 m c) (a4 m c) (a5 m c) := Step.binary hW 96 (v_main_v73 m c) (v_main_v76 m c)
theorem v_main_v78 : V m c main_v78 = val_main_v77 (a1 m c) (a2 m c) (a3 m c) (a4 m c) (a5 m c) := Step.unary hW 97 (v_main_v17 m c)
theorem v_main_v79 : V m c main_v79 = val_main_v78 (a1 m c) (a2 m c) (a3 m c) (a4 m c) (a5 m c) := Step.binary hW 98 (v_main_v77 m c) (v_main_v78 m c)
theorem v_main_v80 : V m c main_v80 = val_main_v79 (a1 m c) (a2 m c) (a3 m c) (a4 m c) (a5 m c) := Step.unary hW 99 (v_main_v42 m c)
theorem v_main_cst_8 : V m c main_cst_8 = val_main_cst_8 (F := F) := Step.nullary hW 100
theorem v_main_v81 : V m c main_v81 = val_main_v80 (F := F) := Step.unary hW 101 (v_main_cst_8 m c)
theorem v_main_v82 : V m c main_v82 = val_main_v81 (a1 m c) (a2 m c) (a3 m c) (a4 m c) (a5 m c) := Step.binary hW 102 (v_main_v81 m c) (v_main_v80 m c)
theorem v_main_v83 : V m c main_v83 = val_main_v82 (a1 m c) (a2 m c) (a3 m c) (a4 m c) (a5 m c) := Step.unary hW 103 (v_main_v82 m c)
theorem v_main_v84 : V m c main_v84 = val_main_v83 (a1 m c) (a2 m c) (a3 m c) (a4 m c) (a5 m c) := Step.binary hW 104 (v_main_v80 m c) (v_main_v83 m c)
theorem v_main_cst_9 : V m c main_cst_9 = val_main_cst_9 (F := F) := Step.nullary hW 105
theorem v_main_v85 : V m c main_v85 = val_main_v84 (F := F) := Step.unary hW 106 (v_main_cst_9 m c)
theorem v_main_v86 : V m c main_v86 = val_main_v85 (F := F) := Step.binary hW 107 (v_main_v46 m c) (v_main_v85 m c)
theorem v_main_v87 : V m c main_v87 = val_main_v86 (F := F) := Step.unary hW 108 (v_main_v86 m c)
theorem v_main_v88 : V m c main_v88 = val_main_v87 (a1 m c) (a2 m c) (a3 m c) (a4 m c) (a5 m c) := Step.binary hW 109 (v_main_v84 m c) (v_main_v87 m c)
theorem v_main_v89 : V m c main_v89 = val_main_v88 (a1 m c) (a2 m c) (a3 m c) (a4 m c) (a5 m c) := Step.unary hW 110 (v_main_v17 m c)
theorem v_main_v90 : V m c main_v90 = val_main_v89 (a1 m c) (a2 m c) (a3 m c) (a4 m c) (a5 m c) := Step.binary hW 111 (v_main_v88 m c) (v_main_v89 m c)
theorem v_main_v91 : V m c main_v91 = val_main_v90 (a1 m c) (a2 m c) (a3 m c) (a4 m c) (a5 m c) := Step.unary hW 112 (v_main_v57 m c)
theorem v_main_v92 : V m c main_v92 = val_main_v91 (a1 m c) (a2 m c) (a3 m c) (a4 m c) (a5 m c) := Step.unary hW 113 (v_main_v68 m c)
theorem v_main_v93 : V m c main_v93 = val_main_v92 (a1 m c) (a2 m c) (a3 m c) (a4 m c) (a5 m c) := Step.unary hW 114 (v_main_v79 m c)
theorem v_main_v94 : V m c main_v94 = val_main_v93 (a1 m c) (a2 m c) (a3 m c) (a4 m c) (a5 m c) := Step.unary hW 115 (v_main_v90 m c)
theorem v_main_v95 : V m c main_v95 = val_main_v94 (a1 m c) (a2 m c) (a3 m c) (a4 m c) (a5 m c) := Step.nary4 hW (a := main_v91) (b := main_v92) (d := main_v93) (e := main_v94) (y := main_v95) 116 rfl (by decide) (by decide) (by decide) (by decide) (by decide) (v_main_v91 m c) (v_main_v92 m c) (v_main_v93 m c) (v_main_v94 m c) rfl
theorem v_main_v96 : V m c main_v96 = val_main_v95 (a1 m c) (a2 m c) (a3 m c) (a4 m c) (a5 m c) (a7 m c) := Step.binary hW 117 (v_main_arg7 m c) (v_main_v95 m c)
theorem v_main_v97 : V m c main_v97 = val_main_v96 (a1 m c) (a2 m c) (a3 m c) (a4 m c) (a5 m c) (a7 m c) := Step.unary hW 118 (v_main_v96 m c)
theorem v_main_v98 : V m c main_v98 = val_main_v97 (a1 m c) (a2 m c) (a3 m c) (a4 m c) (a5 m c) (a7 m c) := Step.reshape hW 119 (v_main_v97 m c)
theorem v_main_v99 : V m c main_v99 = val_main_v98 (a8 m c) := Step.unary hW 120 (v_main_arg8 m c)
theorem v_main_v100 : V m c main_v100 = val_main_v99 (a1 m c) (a2 m c) (a3 m c) (a4 m c) (a5 m c) (a7 m c) (a8 m c) := Step.binary hW 121 (v_main_v98 m c) (v_main_v99 m c)
theorem v_main_v101 : V m c main_v101 = val_main_v100 (a1 m c) (a2 m c) (a3 m c) (a4 m c) (a5 m c) (a6 m c) (a7 m c) (a8 m c) := Step.binary hW 122 (v_main_v41 m c) (v_main_v100 m c)
theorem v_main_v102 : V m c main_v102 = val_main_v101 (a1 m c) (a2 m c) (a3 m c) (a4 m c) (a5 m c) (a6 m c) (a7 m c) (a8 m c) (a9 m c) := Step.binary hW 123 (v_main_v101 m c) (v_main_arg9 m c)
theorem v_main_cst_10 : V m c main_cst_10 = val_main_cst_10 (F := F) := Step.nullary hW 124
theorem v_main_v103 : V m c main_v103 = val_main_v102 (F := F) := Step.unary hW 125 (v_main_cst_10 m c)
theorem v_main_v104 : V m c main_v104 = val_main_v103 (a1 m c) := Step.binary hW 126 (v_main_v103 m c) (v_main_arg1 m c)
theorem v_main_v105 : V m c main_v105 = val_main_v104 (a2 m c) (a3 m c) (a4 m c) := Step.unary hW 127 (v_main_v4 m c)
theorem v_main_cst_11 : V m c main_cst_11 = val_main_cst_11 (F := F) := Step.nullary hW 128
theorem v_main_v106 : V m c main_v106 = val_main_v105 (F := F) := Step.unary hW 129 (v_main_cst_11 m c)
theorem v_main_v107 : V m c main_v107 = val_main_v106 (a2 m c) (a3 m c) (a4 m c) := Step.binary hW 130 (v_main_v106 m c) (v_main_v105 m c)
theorem v_main_v108 : V m c main_v108 = val_main_v107 (a2 m c) (a3 m c) (a4 m c) := Step.unary hW 131 (v_main_v107 m c)
theorem v_main_v109 : V m c main_v109 = val_main_v108 (a1 m c) (a2 m c) (a3 m c) (a4 m c) (a5 m c) (a6 m c) (a7 m c) (a8 m c) (a9 m c) := Step.binary hW 132 (v_main_v108 m c) (v_main_v102 m c)
theorem v_main_v110 : V m c main_v110 = val_main_v109 (a1 m c) (a2 m c) (a3 m c) (a4 m c) (a5 m c) (a6 m c) (a7 m c) (a8 m c) (a9 m c) := Step.binary hW 133 (v_main_v104 m c) (v_main_v109 m c)
theorem v_main_cst_12 : V m c main_cst_12 = val_main_cst_12 (F := F) := Step.nullary hW 134
theorem v_main_v111 : V m c main_v111 = val_main_v110 (a1 m c) (a2 m c) (a3 m c) (a4 m c) (a5 m c) (a6 m c) (a7 m c) (a8 m c) (a9 m c) := Step.binary hW 135 (v_main_v110 m c) (v_main_cst_12 m c)
theorem v_main_v112 : V m c main_v112 = val_main_v111 (a1 m c) (a2 m c) (a3 m c) (a4 m c) (a5 m c) (a6 m c) (a7 m c) (a8 m c) (a9 m c) := Step.unary hW 136 (v_main_v111 m c)
theorem v_main_cst_13 : V m c main_cst_13 = val_main_cst_13 (F := F) := Step.nullary hW 137
theorem v_main_v113 : V m c main_v113 = val_main_v112 (F := F) := Step.unary hW 138 (v_main_cst_13 m c)
theorem v_main_v114 : V m c main_v114 = val_main_v113 (a1 m c) (a2 m c) (a3 m c) (a4 m c) (a5 m c) (a6 m c) (a7 m c) (a8 m c) (a9 m c) := Step.binary hW 139 (v_main_v112 m c) (v_main_v113 m c)
theorem v_main_v115 : V m c main_v115 = val_main_v114 (a1 m c) (a2 m c) (a3 m c) (a4 m c) (a5 m c) (a6 m c) (a7 m c) (a8 m c) (a9 m c) := Step.unary hW 140 (v_main_v114 m c)
theorem v_main_v116 : V m c main_v116 = val_main_v115 (a1 m c) (a2 m c) (a3 m c) (a4 m c) (a5 m c) (a6 m c) (a7 m c) (a8 m c) (a9 m c) := Step.binary hW 141 (v_main_v110 m c) (v_main_v115 m c)
theorem v_main_v117 : V m c main_v117 = val_main_v116 (a1 m c) (a2 m c) (a3 m c) (a4 m c) (a5 m c) (a6 m c) (a7 m c) (a8 m c) (a9 m c) := Step.binary hW 142 (v_main_v116 m c) (v_main_v116 m c)
theorem v_main_cst_14 : V m c main_cst_14 = val_main_cst_14 (F := F) := Step.nullary hW 143
theorem v_main_v118 : V m c main_v118 = val_main_v117 (a1 m c) (a2 m c) (a3 m c) (a4 m c) (a5 m c) (a6 m c) (a7 m c) (a8 m c) (a9 m c) := Step.binary hW 144 (v_main_v117 m c) (v_main_cst_14 m c)
theorem v_main_v119 : V m c main_v119 = val_main_v118 (a1 m c) (a2 m c) (a3 m c) (a4 m c) (a5 m c) (a6 m c) (a7 m c) (a8 m c) (a9 m c) := Step.unary hW 145 (v_main_v118 m c)
theorem v_main_cst_15 : V m c main_cst_15 = val_main_cst_15 (F := F) := Step.nullary hW 146
theorem v_main_v120 : V m c main_v120 = val_main_v119 (F := F) := Step.unary hW 147 (v_main_cst_15 m c)
theorem v_main_v121 : V m c main_v121 = val_main_v120 (a1 m c) (a2 m c) (a3 m c) (a4 m c) (a5 m c) (a6 m c) (a7 m c) (a8 m c) (a9 m c) := Step.binary hW 148 (v_main_v119 m c) (v_main_v120 m c)
theorem v_main_cst_16 : V m c main_cst_16 = val_main_cst_16 (F := F) := Step.nullary hW 149
theorem v_main_v122 : V m c main_v122 = val_main_v123 (F := F) := Step.unary hW 150 (v_main_cst_16 m c)
theorem v_main_v123 : V m c main_v123 = val_main_v124 (a1 m c) (a2 m c) (a3 m c) (a4 m c) (a5 m c) (a6 m c) (a7 m c) (a8 m c) (a9 m c) := Step.binary hW 151 (v_main_v121 m c) (v_main_v122 m c)
theorem v_main_v124 : V m c main_v124 = val_main_v125 (a1 m c) (a2 m c) (a3 m c) (a4 m c) (a5 m c) (a6 m c) (a7 m c) (a8 m c) (a9 m c) := Step.unary hW 152 (v_main_v123 m c)
theorem v_main_v125 : V m c main_v125 = val_main_v121 (a1 m c) (a2 m c) (a3 m c) (a4 m c) (a5 m c) (a6 m c) (a7 m c) (a8 m c) (a9 m c) := Step.unary hW 153 (v_main_v114 m c)
theorem v_main_v126 : V m c main_v126 = val_main_v122 (a1 m c) (a2 m c) (a3 m c) (a4 m c) (a5 m c) (a6 m c) (a7 m c) (a8 m c) (a9 m c) := Step.binary hW 154 (v_main_v110 m c) (v_main_v125 m c)
theorem v_main_v127 : V m c main_v127 = val_main_v126 (a1 m c) (a2 m c) (a3 m c) (a4 m c) (a5 m c) (a6 m c) (a7 m c) (a8 m c) (a9 m c) := Step.unary hW 155 (v_main_v124 m c)
theorem v_main_v128 : V m c main_v128 = val_main_v127 (a1 m c) (a2 m c) (a3 m c) (a4 m c) (a5 m c) (a6 m c) (a7 m c) (a8 m c) (a9 m c) := Step.binary hW 156 (v_main_v126 m c) (v_main_v127 m c)
theorem v_main_v0 : V m c main_v0 = concatenate S4x1024 0 [⟨S1x1024, A m c main_arg10⟩, ⟨S1x1024, A m c main_arg11⟩, ⟨S1x1024, A m c main_arg12⟩, ⟨S1x1024, A m c main_arg13⟩] concatenates_S1x1024_S1x1024_S1x1024_S1x1024_S4x1024_d0 := Step.nary4 hW (a := main_arg10) (b := main_arg11) (d := main_arg12) (e := main_arg13) (y := main_v0) 0 rfl (by decide) (by decide) (by decide) (by decide) (by decide) (v_main_arg10 m c) (v_main_arg11 m c) (v_main_arg12 m c) (v_main_arg13 m c) rfl
theorem v_main_v129 : V m c main_v129 = truncf .bf16 (V m c main_v13 : FVec F S8192x2048 .f32) bitsLt_bf16_f32 := Step.unary hW 157 rfl
theorem v_main_v130 : V m c main_v130 = truncf .bf16 (A m c main_arg9 : FVec F S1024x1024 .f32) bitsLt_bf16_f32 := Step.unary hW 158 (v_main_arg9 m c)
theorem v_main_v131 : V m c main_v131 = truncf .bf16 (A m c main_arg5 : FVec F S1024x2048 .f32) bitsLt_bf16_f32 := Step.unary hW 159 (v_main_arg5 m c)

end Cert.MixHost
-- ==== Proof.MixReal.lean ====
/- The convolution and pooling mixer and its layer norm over the reals: the backward pass, row by row, from the
   projected rows on. -/
module

public import proofs.«01_k».proof.Proof.MlpReal

@[expose] public section

noncomputable section

namespace Cert.MixReal

open Finset Cert.RealMat Cert.MlpReal

/-- What the backward pass starts from: the cotangent `g` of the normalised rows, the centred rows and their reciprocal
    deviations, the layer's input, the mixed rows, the projected rows, the six rows of the modulation (rows 0, 1, 2 are this
    sublayer's shift, scale and gate), the rows of layer norm gains and offsets, and the weights. -/
structure Mix where
  g : ℕ → ℕ → ℝ
  xh : ℕ → ℕ → ℝ
  rs : ℕ → ℝ
  x : ℕ → ℕ → ℝ
  mix : ℕ → ℕ → ℝ
  z : ℕ → ℕ → ℝ
  md : ℕ → ℕ → ℝ
  ln : ℕ → ℕ → ℝ
  wo : ℕ → ℕ → ℝ
  wi : ℕ → ℕ → ℝ
  cw : ℕ → ℕ → ℝ
  wp : ℕ → ℕ → ℕ → ℝ
  ps : ℕ → ℝ

/-- The row `k` before, zero before the first. -/
def prv (k : ℕ) (f : ℕ → ℕ → ℝ) (i j : ℕ) : ℝ := if i < k then 0 else f (i - k) j
/-- The row `k` after, zero after the last. -/
def nxt (k : ℕ) (f : ℕ → ℕ → ℝ) (i j : ℕ) : ℝ := if i + k < 8192 then f (i + k) j else 0
/-- How many rows a window of `2 ^ (p + 1)` rows ending in row `i` holds. -/
def cnt (p i : ℕ) : ℝ := (min (i + 1) (2 ^ (p + 1)) : ℕ)

theorem cnt_pos (p i : ℕ) : 0 < cnt p i := by
  unfold cnt
  exact_mod_cast lt_min (Nat.succ_pos i) (Nat.two_pow_pos _)

variable (D : Mix)

def Mix.u (i j : ℕ) : ℝ := D.g i j * D.ln 0 j
def Mix.dr (i j : ℕ) : ℝ :=
  D.rs i * (D.u i j - (∑ l ∈ range 1024, D.u i l) / 1024 - D.xh i j * ((∑ l ∈ range 1024, D.u i l * D.xh i l) / 1024))
def Mix.dm (i j : ℕ) : ℝ := (1 + D.md 2 j) * D.dr i j
def Mix.dy (i k : ℕ) : ℝ := ∑ l ∈ range 1024, D.dm i l * D.wo k l
def Mix.cv (i j : ℕ) : ℝ := D.z i (512 + j) * D.z i (1024 + j)
def Mix.conv (i j : ℕ) : ℝ := D.cw 0 j * prv 2 D.cv i j + D.cw 1 j * prv 1 D.cv i j + D.cw 2 j * D.cv i j
def Mix.e (i j : ℕ) : ℝ := D.dy i j * D.z i j
def Mix.dcv (i j : ℕ) : ℝ := D.cw 2 j * D.e i j + D.cw 1 j * nxt 1 D.e i j + D.cw 0 j * nxt 2 D.e i j
def Mix.vp (i j : ℕ) : ℝ := D.z i (1536 + j)
/-- The pooled rows of group `p` less the rows themselves. -/
def Mix.ft (p i j : ℕ) : ℝ := (∑ k ∈ range (2 ^ (p + 1)), prv k D.vp i (128 * p + j)) * (1 / cnt p i) - D.vp i (128 * p + j)
def Mix.pw (p i j : ℕ) : ℝ := ∑ k ∈ range 128, D.ft p i k * D.wp p k j
def Mix.yp (p i j : ℕ) : ℝ := D.pw p i j * D.ps (128 * p + j)
def Mix.dyp (p i j : ℕ) : ℝ := D.dy i (512 + (128 * p + j))
def Mix.dpw (p i j : ℕ) : ℝ := D.dyp p i j * D.ps (128 * p + j)
def Mix.dp (p i j : ℕ) : ℝ := ∑ k ∈ range 128, D.dpw p i k * D.wp p j k
def Mix.q (p i j : ℕ) : ℝ := D.dp p i j * (1 / cnt p i)
def Mix.dvp (p i j : ℕ) : ℝ := (∑ k ∈ range (2 ^ (p + 1)), nxt k (D.q p) i j) - D.dp p i j
def Mix.yc (i j : ℕ) : ℝ := if j < 512 then D.z i j * D.conv i j else D.yp ((j - 512) / 128) i ((j - 512) % 128)
def Mix.dz (i j : ℕ) : ℝ :=
  if j < 512 then D.dy i j * D.conv i j
  else if j < 1024 then D.dcv i (j - 512) * D.z i (1024 + (j - 512))
  else if j < 1536 then D.dcv i (j - 1024) * D.z i (512 + (j - 1024))
  else D.dvp ((j - 1536) / 128) i ((j - 1536) % 128)
def Mix.dh (i j : ℕ) : ℝ := ∑ k ∈ range 2048, D.dz i k * D.wi j k
def Mix.dx (i j : ℕ) : ℝ := alpha * D.dr i j + D.dh i j * (1 + D.md 1 j)
/-- The columns of the pooled groups' `q` side by side. -/
def Mix.qq (i j : ℕ) : ℝ := D.q (j / 128) i (j % 128)

/-- The window sums of group `p` and their transposes. -/
def Mix.wn (p i j : ℕ) : ℝ := ∑ k ∈ range (2 ^ (p + 1)), prv k D.vp i (128 * p + j)
def Mix.up (p i j : ℕ) : ℝ := ∑ k ∈ range (2 ^ (p + 1)), nxt k (D.q p) i j
/-- What the five column sums for the layer norm and the modulation sum. -/
def Mix.A : ℕ → ℕ → ℕ → ℝ
  | 0 => fun i j => D.g i j * D.xh i j
  | 1 => D.g
  | 2 => D.dh
  | 3 => fun i j => D.dh i j * D.x i j
  | 4 => fun i j => D.dr i j * D.mix i j
  | _ => fun _ _ => 0
/-- What the four column sums for the convolution's taps and the pooling's scale sum. -/
def Mix.C : ℕ → ℕ → ℕ → ℝ
  | 0 => fun i j => D.e i j * prv 2 D.cv i j
  | 1 => fun i j => D.e i j * prv 1 D.cv i j
  | 2 => fun i j => D.e i j * D.cv i j
  | 3 => fun i j => D.dyp (j / 128) i (j % 128) * D.pw (j / 128) i (j % 128)
  | _ => fun _ _ => 0
/-- The sum of a column over one block of rows. -/
def sumr (t : ℕ) (f : ℕ → ℕ → ℝ) (j : ℕ) : ℝ := ∑ i ∈ range 512, rows t f i j
/-- One block's part of the pooled projections' gradient. -/
def Mix.G (t p a b : ℕ) : ℝ := ∑ i ∈ range 512, rows t (D.ft p) i a * rows t (D.dpw p) i b

/-! ### Blocks of 512 rows with 16 more -/

/-- Block `t`'s 512 rows behind the 16 rows before it, zero before the first row. -/
def lo (t : ℕ) (f : ℕ → ℕ → ℝ) (i j : ℕ) : ℝ := if 512 * t + i < 16 then 0 else f (512 * t + i - 16) j
/-- Block `t`'s 512 rows in front of the 16 rows after it, zero after the last row. -/
def hi (t : ℕ) (f : ℕ → ℕ → ℝ) (i j : ℕ) : ℝ := if 512 * t + i < 8192 then f (512 * t + i) j else 0

theorem lo_roll (t k : ℕ) (f : ℕ → ℕ → ℝ) {i : ℕ} (j : ℕ) (hi : i < 512) (hk : k ≤ 16) :
    lo t f ((16 + i + 528 - k) % 528) j = rows t (prv k f) i j := by
  rw [show 16 + i + 528 - k = 16 + i - k + 528 by omega, Nat.add_mod_right, Nat.mod_eq_of_lt (by omega)]
  unfold lo rows prv
  by_cases h : 512 * t + i < k
  · rw [if_pos (by omega), if_pos h]
  · rw [if_neg (by omega), if_neg h, show 512 * t + (16 + i - k) - 16 = 512 * t + i - k by omega]

theorem hi_roll (t k : ℕ) (f : ℕ → ℕ → ℝ) {i : ℕ} (j : ℕ) (hi' : i < 512) (hk : k ≤ 16) (k' : ℕ) (hk' : k' = 528 - k) :
    hi t f ((i + 528 - k') % 528) j = rows t (nxt k f) i j := by
  subst hk'
  rw [show i + 528 - (528 - k) = i + k by omega, Nat.mod_eq_of_lt (by omega)]
  unfold hi rows nxt
  rw [← Nat.add_assoc]

/-- Sums over windows ending in a row, each level the sum of the level before and itself rolled down. -/
def lev : ℕ → (ℕ → ℕ → ℝ) → ℕ → ℕ → ℝ
  | 0, f => fun i j => f i j + f ((i + 528 - 1) % 528) j
  | p + 1, f => fun i j => lev p f i j + lev p f ((i + 528 - 2 ^ (p + 1)) % 528) j
/-- Sums over windows starting in a row, each level the sum of the level before and itself rolled up. -/
def ups : ℕ → (ℕ → ℕ → ℝ) → ℕ → ℕ → ℝ
  | 0, f => fun i j => f i j + f ((i + 528 - 527) % 528) j
  | p + 1, f => fun i j => ups p f i j + ups p f ((i + 528 - (528 - 2 ^ (p + 1))) % 528) j

theorem lev_eq (f : ℕ → ℕ → ℝ) (j : ℕ) : ∀ p i : ℕ, p ≤ 3 → 2 ^ (p + 1) ≤ i + 1 → i < 528 → lev p f i j = ∑ k ∈ range (2 ^ (p + 1)), f (i - k) j
  | 0, i, _, h, h' => by
    have h : 2 ≤ i + 1 := h
    show f i j + f ((i + 528 - 1) % 528) j = ∑ k ∈ range 2, f (i - k) j
    rw [show i + 528 - 1 = i - 1 + 528 by omega, Nat.add_mod_right, Nat.mod_eq_of_lt (by omega), sum_range_succ, sum_range_one, Nat.sub_zero]
  | p + 1, i, hp, h, h' => by
    have h0 : 0 < 2 ^ (p + 1) := Nat.two_pow_pos _
    have h2 : 2 ^ (p + 1 + 1) = 2 ^ (p + 1) + 2 ^ (p + 1) := by rw [Nat.pow_succ]; omega
    show lev p f i j + lev p f ((i + 528 - 2 ^ (p + 1)) % 528) j = _
    rw [show i + 528 - 2 ^ (p + 1) = i - 2 ^ (p + 1) + 528 by omega, Nat.add_mod_right, Nat.mod_eq_of_lt (by omega),
      lev_eq f j p i (by omega) (by omega) h', lev_eq f j p (i - 2 ^ (p + 1)) (by omega) (by omega) (by omega), h2, sum_range_add]
    exact congrArg _ (sum_congr rfl fun k _ => by rw [Nat.sub_sub])

theorem ups_eq (f : ℕ → ℕ → ℝ) (j : ℕ) : ∀ p i : ℕ, p ≤ 3 → i + 2 ^ (p + 1) ≤ 528 → ups p f i j = ∑ k ∈ range (2 ^ (p + 1)), f (i + k) j
  | 0, i, _, h => by
    have h : i + 2 ≤ 528 := h
    show f i j + f ((i + 528 - 527) % 528) j = ∑ k ∈ range 2, f (i + k) j
    rw [show i + 528 - 527 = i + 1 by omega, Nat.mod_eq_of_lt (by omega), sum_range_succ, sum_range_one, Nat.add_zero i]
  | p + 1, i, hp, h => by
    have h2 : 2 ^ (p + 1 + 1) = 2 ^ (p + 1) + 2 ^ (p + 1) := by rw [Nat.pow_succ]; omega
    have h0 : 0 < 2 ^ (p + 1) := Nat.two_pow_pos _
    show ups p f i j + ups p f ((i + 528 - (528 - 2 ^ (p + 1))) % 528) j = _
    rw [show i + 528 - (528 - 2 ^ (p + 1)) = i + 2 ^ (p + 1) by omega, Nat.mod_eq_of_lt (by omega),
      ups_eq f j p i (by omega) (by omega), ups_eq f j p (i + 2 ^ (p + 1)) (by omega) (by omega), h2, sum_range_add]
    exact congrArg _ (sum_congr rfl fun k _ => by rw [Nat.add_assoc])

theorem pow_le_16 {p : ℕ} (hp : p ≤ 3) : 2 ^ (p + 1) ≤ 16 := by interval_cases p <;> norm_num

theorem lev_lo (t p : ℕ) (f : ℕ → ℕ → ℝ) {i : ℕ} (j : ℕ) (hi : i < 512) (hp : p ≤ 3) :
    lev p (lo t f) (16 + i) j = ∑ k ∈ range (2 ^ (p + 1)), rows t (prv k f) i j := by
  have := pow_le_16 hp
  rw [lev_eq _ _ _ _ hp (by omega) (by omega)]
  refine sum_congr rfl fun k hk => ?_
  have := mem_range.mp hk
  rw [← lo_roll t k f j hi (by omega), show 16 + i + 528 - k = 16 + i - k + 528 by omega, Nat.add_mod_right, Nat.mod_eq_of_lt (by omega)]

theorem ups_hi (t p : ℕ) (f : ℕ → ℕ → ℝ) {i : ℕ} (j : ℕ) (hi' : i < 512) (hp : p ≤ 3) :
    ups p (hi t f) i j = ∑ k ∈ range (2 ^ (p + 1)), rows t (nxt k f) i j := by
  have := pow_le_16 hp
  rw [ups_eq _ _ _ _ hp (by omega)]
  refine sum_congr rfl fun k hk => ?_
  have := mem_range.mp hk
  rw [← hi_roll t k f j hi' (by omega) _ rfl, show i + 528 - (528 - k) = i + k by omega, Nat.mod_eq_of_lt (by omega)]

end Cert.MixReal

end
-- ==== Proof.MixMat.lean ====
/- Further operations on arrays of real numbers: rotations, slabs of a rank-three array, products over rows, joins of
   several blocks of columns. -/
module

public import proofs.«01_k».proof.Proof.RealHost
public import Idealize.ShloMosaic.Lib.KernelVsHost

@[expose] public section

set_option backward.isDefEq.respectTransparency false

noncomputable section

namespace Cert.RealMat

open Finset Idealize.ShloMosaic

variable {φ ψ : FTy} {m n p q k : ℕ} (f g : ℕ → ℕ → ℝ)

/-- The rank-three array of the real numbers `f l i j`. -/
def ten (p m n : ℕ) (f : ℕ → ℕ → ℕ → ℝ) : FVec Ideal ⟨3, ![p, m, n]⟩ φ := fun i => ((f (i 0).val (i 1).val (i 2).val : ℝ) : EReal)

theorem ten_congr {f g : ℕ → ℕ → ℕ → ℝ} (h : ∀ l < p, ∀ i < m, ∀ j < n, f l i j = g l i j) : (ten p m n f : FVec Ideal _ φ) = ten p m n g :=
  funext fun i => congrArg _ (h _ (i 0).isLt _ (i 1).isLt _ (i 2).isLt)

theorem shapeCast_ten_mat (F : ℕ → ℕ → ℕ → ℝ) (h : (⟨3, ![1, m, n]⟩ : Shape).ShapeCasts ⟨2, ![m, n]⟩) :
    shapeCast ⟨2, ![m, n]⟩ (ten 1 m n F : FVec Ideal _ φ) h = mat m n (F 0) := by
  funext i
  refine shapeCast_apply _ _ _ (ix3 (n0 := 1) (n1 := m) (n2 := n) 0 (i 0) (i 1)) ?_
  simp only [Shape.rowMajor_val_two, Shape.rowMajor_val_three]
  show (0 * m + (i 0).val) * n + (i 1).val = (i 0).val * n + (i 1).val
  rw [Nat.zero_mul, Nat.zero_add]

theorem shapeCast_mat_ten (h : (⟨2, ![m, n]⟩ : Shape).ShapeCasts ⟨3, ![1, m, n]⟩) :
    shapeCast ⟨3, ![1, m, n]⟩ (mat m n f : FVec Ideal _ φ) h = ten 1 m n fun _ => f := by
  funext i
  refine shapeCast_apply _ _ _ (ix2 (n0 := m) (n1 := n) (i 1) (i 2)) ?_
  simp only [Shape.rowMajor_val_two, Shape.rowMajor_val_three]
  have h0 : (i 0).val < 1 := (i 0).isLt
  show (i 1).val * n + (i 2).val = ((i 0).val * m + (i 1).val) * n + (i 2).val
  rw [Nat.lt_one_iff.mp h0, Nat.zero_mul, Nat.zero_add]

/-- Rows rotated by `s`. -/
theorem rotate_mat (s : BitVec 32) (h : (⟨2, ![m, n]⟩ : Shape).Rotates 0 none) :
    dynamicRotate 0 s none (mat m n f : FVec Ideal _ φ) h = mat m n fun i j => f ((i + m - s.toNat % m) % m) j := by
  funext i
  have hm : 0 < m := lt_of_le_of_lt (Nat.zero_le _) (i 0).isLt
  refine (dynamicRotate_apply (s := ⟨2, ![m, n]⟩) 0 s _ h i (ix2 (n0 := m) (n1 := n) ⟨((i 0).val + m - s.toNat % m) % m, Nat.mod_lt _ hm⟩ (i 1)) ?_).trans rfl
  intro b
  match b with
  | ⟨0, _⟩ => exact (if_pos rfl).symm
  | ⟨1, _⟩ => exact (if_neg (by simp)).symm

/-- The product that contracts the rows of both factors. -/
def plainT (m k n : ℕ) (wf : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := wf

theorem matmul_rows (wf) (prec : Option ContractPrecision) (c : ℕ → ℕ → ℝ) :
    FloatOps.matmul (plainT m k n wf) prec (mat k m f : FVec Ideal _ φ) (mat k n g : FVec Ideal _ ψ) (mat m n c)
      = mat m n fun i j => c i j + ∑ l ∈ range k, f l i * g l j := by
  funext i
  rw [Ideal.matmul_apply, ← Equiv.sum_comp (ValueIdx.contrEquiv1 (plainT m k n wf) k rfl rfl).symm]
  refine (congrArg ((c (i 0).val (i 1).val : EReal) + ·) ?_).trans (EReal.coe_add _ _).symm
  exact (coe_sum k fun l => f l (i 0).val * g l (i 1).val).symm

/-- Blocks of columns joined: each agrees with the columns of the whole from where it starts. -/
theorem concat_blocks (F : ℕ → ℕ → ℝ) (xs : List (ℕ × (ℕ → ℕ → ℝ)))
    (h : Shape.Concatenates ((xs.map fun x => (⟨⟨2, ![m, x.1]⟩, mat m x.1 x.2⟩ : (s : Shape) × (s.Idx → Ideal φ))).map (·.1)) ⟨2, ![m, n]⟩ 1)
    (hF : ∀ l (hl : l < xs.length), ∀ i < m, ∀ j < xs[l].1, F i (((xs.take l).map (·.1)).sum + j) = xs[l].2 i j) :
    concatenate ⟨2, ![m, n]⟩ 1 (xs.map fun x => (⟨⟨2, ![m, x.1]⟩, mat m x.1 x.2⟩ : (s : Shape) × (s.Idx → Ideal φ))) h = mat m n F := by
  funext i
  have hn : (xs.map (·.1)).sum = n := by
    have := h.2.2
    simpa [List.map_map, Function.comp_def] using this
  obtain ⟨l, hl, h0, h1⟩ : ∃ l, ∃ hl : l < xs.length, ((xs.take l).map (·.1)).sum ≤ (i 1).val ∧ (i 1).val < ((xs.take l).map (·.1)).sum + xs[l].1 := by
    have hi : (i 1).val < (xs.map (·.1)).sum := hn ▸ (i 1).isLt
    generalize (i 1).val = v at hi
    clear hF h hn i
    induction xs generalizing v with
    | nil => exact absurd hi (Nat.not_lt_zero _)
    | cons x xs ih =>
      by_cases hv : v < x.1
      · exact ⟨0, Nat.succ_pos _, Nat.zero_le _, by simpa using hv⟩
      · simp only [List.map_cons, List.sum_cons] at hi
        obtain ⟨l, hl, h0, h1⟩ := ih (v - x.1) (by omega)
        refine ⟨l + 1, Nat.succ_lt_succ hl, ?_, ?_⟩
        · simp only [List.take_succ_cons, List.map_cons, List.sum_cons]; omega
        · simp only [List.take_succ_cons, List.map_cons, List.sum_cons, List.getElem_cons_succ]; omega
  refine (concatenate_apply_piece (t := ⟨2, ![m, n]⟩) 1 _ h i l (by simpa using hl) ⟨2, ![m, xs[l].1]⟩ (mat m xs[l].1 xs[l].2) (by simp) rfl
    ((xs.take l).map (·.1)).sum (by simp [List.map_take, List.map_map, Function.comp_def]) (ix2 (i 0) ⟨(i 1).val - ((xs.take l).map (·.1)).sum, by omega⟩)
    (fun b hb => match b with | ⟨0, _⟩ => rfl | ⟨1, _⟩ => absurd rfl hb) (by show _ + ((i 1).val - _) = (i 1).val; omega)).trans ?_
  show ((xs[l].2 (i 0).val ((i 1).val - ((xs.take l).map (·.1)).sum) : ℝ) : EReal) = ((F (i 0).val (i 1).val : ℝ) : EReal)
  rw [← hF l hl _ (i 0).isLt _ (by omega), Nat.add_sub_cancel' h0]

end Cert.RealMat

end
-- ==== Proof.MixWin.lean ====
/- Running sums, padding and stacking on arrays of real numbers, and the sums over windows that running sums give. -/
module

public import proofs.«01_k».proof.Proof.MixReal
public import proofs.«01_k».proof.Proof.MixMat
public import proofs.«01_k».proof.Proof.RealHost
public import proofs.«01_k».proof.Proof.Finite
public import Idealize.ShloMosaic.Lib.KernelVsHost

@[expose] public section

set_option backward.isDefEq.respectTransparency false

noncomputable section

namespace Cert.RealMat

open Finset Idealize.ShloMosaic Cert.MixReal Cert

variable {m n p q : ℕ} {φ : FTy} (f g : ℕ → ℕ → ℝ)

theorem pad_mat (a b a' b' : ℕ) (h : (⟨2, ![p, q]⟩ : Shape).Pads ![a, b] ![a', b'] ![0, 0] ⟨2, ![m, n]⟩) (hu) :
    pad ⟨2, ![m, n]⟩ ![a, b] ![a', b'] ![0, 0] (mat p q f : FVec Ideal _ φ) (scl 0 : FVec Ideal _ φ) h hu
      = mat m n fun i j => if (a ≤ i ∧ i - a < p) ∧ (b ≤ j ∧ j - b < q) then f (i - a) (j - b) else 0 := by
  funext i
  show _ = ((if (a ≤ (i 0).val ∧ (i 0).val - a < p) ∧ (b ≤ (i 1).val ∧ (i 1).val - b < q) then f ((i 0).val - a) ((i 1).val - b) else 0 : ℝ) : EReal)
  by_cases h0 : a ≤ (i 0).val ∧ (i 0).val - a < p
  · by_cases h1 : b ≤ (i 1).val ∧ (i 1).val - b < q
    · rw [if_pos ⟨h0, h1⟩]
      exact pad_apply_of_inside _ _ _ _ _ h hu i (ix2 ⟨(i 0).val - a, h0.2⟩ ⟨(i 1).val - b, h1.2⟩) fun x => match x with
        | ⟨0, _⟩ => by show (i 0).val = a + ((i 0).val - a) * 1; omega
        | ⟨1, _⟩ => by show (i 1).val = b + ((i 1).val - b) * 1; omega
    · rw [if_neg fun h => h1 h.2]
      exact pad_apply_of_not_inside _ _ _ _ _ h hu i 1 fun h => h1 ⟨h.1, by have := h.2.2; rwa [show (![0, 0] : Fin 2 → ℕ) 1 + 1 = 1 from rfl, Nat.div_one] at this⟩
  · rw [if_neg fun h => h0 h.1]
    exact pad_apply_of_not_inside _ _ _ _ _ h hu i 0 fun h => h0 ⟨h.1, by have := h.2.2; rwa [show (![0, 0] : Fin 2 → ℕ) 0 + 1 = 1 from rfl, Nat.div_one] at this⟩

/-- A sum over windows of rows of an array padded with rows of zeros. -/
theorem window_mat (w a a' : ℕ) (h : (⟨2, ![m, n]⟩ : Shape).ReduceWindows ![w, 1] ![1, 1] ![a, 0] ![a', 0] ⟨2, ![p, n]⟩) (hu) :
    Host.reduceWindowAdd ![w, 1] ![1, 1] ![a, 0] ![a', 0] (mat m n f : FVec Ideal _ φ) (scl 0 : FVec Ideal _ φ) h hu
      = mat p n fun i j => ∑ k ∈ range w, if a ≤ i + k ∧ i + k - a < m then f (i + k - a) j else 0 := by
  funext j
  have e (l : List (Fin (Shape.numel ⟨2, ![w, 1]⟩))) (u v : EReal) (G G' : Fin (Shape.numel ⟨2, ![w, 1]⟩) → EReal) (huv : u = v) (hG : ∀ n, G n = G' n) :
      l.foldl (fun r n => r + G n) u = l.foldl (fun r n => r + G' n) v := by rw [huv, funext hG]
  refine (e _ _ _ _ _ EReal.coe_zero fun n => ?_).trans ((sum_idx_eq_foldl (M := EReal) ⟨2, ![w, 1]⟩ fun x => if hin : ∀ b : Fin 2, (![a, 0] : Fin 2 → ℕ) b ≤ (j b).val * (![1, 1] : Fin 2 → ℕ) b + (x b).val ∧ (j b).val * (![1, 1] : Fin 2 → ℕ) b + (x b).val - (![a, 0] : Fin 2 → ℕ) b < (⟨2, ![m, n]⟩ : Shape).size b
    then (mat m n f : FVec Ideal _ φ) (fun b => ⟨_, (hin b).2⟩) else ((0 : ℝ) : EReal)).symm.trans ?_)
  · congr
  rw [sum_idx2]
  refine Eq.trans ?_ (coe_sum w fun k => if a ≤ (j 0).val + k ∧ (j 0).val + k - a < m then f ((j 0).val + k - a) (j 1).val else 0).symm
  refine sum_congr rfl fun k _ => ?_
  rw [Fin.sum_univ_one]
  have hj : (j 1).val < n := (j 1).isLt
  by_cases hk : a ≤ (j 0).val + k.val ∧ (j 0).val + k.val - a < m
  · rw [if_pos hk, dif_pos fun b => match b with
      | ⟨0, _⟩ => by show a ≤ (j 0).val * 1 + k.val ∧ (j 0).val * 1 + k.val - a < m; rwa [Nat.mul_one]
      | ⟨1, _⟩ => by show 0 ≤ (j 1).val * 1 + 0 ∧ (j 1).val * 1 + 0 - 0 < n; omega]
    show ((f ((j 0).val * 1 + k.val - a) ((j 1).val * 1 + 0 - 0) : ℝ) : EReal) = _
    rw [Nat.mul_one, Nat.mul_one]
    rfl
  · rw [if_neg hk, dif_neg fun h => hk (by
      have h0 : a ≤ (j 0).val * 1 + k.val ∧ (j 0).val * 1 + k.val - a < m := h 0
      rwa [Nat.mul_one] at h0)]

theorem minimumf_mat : minimumf (mat m n f : FVec Ideal _ φ) (mat m n g) = mat m n fun i j => min (f i j) (g i j) :=
  funext fun _ => (EReal.coe_strictMono.monotone.map_min).symm

theorem iota_vec (h : n ≤ 2 ^ 31) : sitofp (F := Ideal) .f32 (iotaInDim ⟨1, ![n]⟩ 32 0) = vec n fun i => i := by
  funext i
  have hi : (i 0).val < n := (i 0).isLt
  show ((((BitVec.ofNat 32 (i 0).val).toInt : ℤ) : ℝ) : EReal) = (((i 0).val : ℝ) : EReal)
  rw [BitVec.toInt_eq_toNat_of_lt (by rw [BitVec.toNat_ofNat]; omega), BitVec.toNat_ofNat, Nat.mod_eq_of_lt (by omega), Int.cast_natCast]

theorem shapeCast_row_vec (h : (⟨2, ![1, n]⟩ : Shape).ShapeCasts ⟨1, ![n]⟩) :
    shapeCast ⟨1, ![n]⟩ (mat 1 n f : FVec Ideal _ φ) h = vec n (f 0) := by
  funext i
  refine shapeCast_apply _ h i (ix2 0 (i 0)) ?_
  rw [Shape.rowMajor_val_two, Shape.rowMajor_val_one]
  show 0 * n + (i 0).val = (i 0).val
  omega

/-- Four matrices stacked along a middle axis. -/
theorem stack_ten (F : ℕ → ℕ → ℕ → ℝ) (h) :
    concatenate ⟨3, ![m, 4, n]⟩ 1 [⟨⟨3, ![m, 1, n]⟩, (ten m 1 n fun i _ k => F 0 i k : FVec Ideal _ φ)⟩, ⟨⟨3, ![m, 1, n]⟩, (ten m 1 n fun i _ k => F 1 i k : FVec Ideal _ φ)⟩,
      ⟨⟨3, ![m, 1, n]⟩, (ten m 1 n fun i _ k => F 2 i k : FVec Ideal _ φ)⟩, ⟨⟨3, ![m, 1, n]⟩, (ten m 1 n fun i _ k => F 3 i k : FVec Ideal _ φ)⟩] h
      = ten m 4 n fun i p k => F p i k := by
  funext i
  have hi : (i 1).val < 4 := (i 1).isLt
  show _ = ((F (i 1).val (i 0).val (i 2).val : ℝ) : EReal)
  have hb (l : ℕ) (hl : l < 4) (hx) (hp) (e : (i 1).val = l) := concatenate_apply_piece (t := ⟨3, ![m, 4, n]⟩) 1 [⟨⟨3, ![m, 1, n]⟩, (ten m 1 n fun i _ k => F 0 i k : FVec Ideal _ φ)⟩, ⟨⟨3, ![m, 1, n]⟩, (ten m 1 n fun i _ k => F 1 i k : FVec Ideal _ φ)⟩,
      ⟨⟨3, ![m, 1, n]⟩, (ten m 1 n fun i _ k => F 2 i k : FVec Ideal _ φ)⟩, ⟨⟨3, ![m, 1, n]⟩, (ten m 1 n fun i _ k => F 3 i k : FVec Ideal _ φ)⟩] h i l hl ⟨3, ![m, 1, n]⟩ (ten m 1 n fun i _ k => F l i k : FVec Ideal _ φ) hx rfl l hp
      (ix3 (i 0) 0 (i 2)) (fun b hb => match b with | ⟨0, _⟩ => rfl | ⟨1, _⟩ => absurd rfl hb | ⟨2, _⟩ => rfl) e.symm
  obtain e | e | e | e : (i 1).val = 0 ∨ (i 1).val = 1 ∨ (i 1).val = 2 ∨ (i 1).val = 3 := by omega
  · rw [e]; exact hb 0 (by norm_num) rfl rfl e
  · rw [e]; exact hb 1 (by norm_num) rfl rfl e
  · rw [e]; exact hb 2 (by norm_num) rfl rfl e
  · rw [e]; exact hb 3 (by norm_num) rfl rfl e

/-- The sum of the last rows up to a row, from running sums. -/
theorem run_window (w i j : ℕ) (hw : w ≤ 8191) (hi : i < 8192) :
    (∑ k ∈ range 8192, if 8191 ≤ i + k ∧ i + k - 8191 < 8192 then f (i + k - 8191) j else 0)
      - (if i < w then 0 else ∑ k ∈ range 8192, if 8191 ≤ i - w + k ∧ i - w + k - 8191 < 8192 then f (i - w + k - 8191) j else 0)
      = ∑ k ∈ range w, prv k f i j := by
  have run : ∀ i < 8192, (∑ k ∈ range 8192, if 8191 ≤ i + k ∧ i + k - 8191 < 8192 then f (i + k - 8191) j else 0) = ∑ k ∈ range 8192, prv k f i j := by
    intro i hi
    rw [← sum_range_reflect]
    refine sum_congr rfl fun k hk => ?_
    have hk := mem_range.mp hk
    unfold prv
    by_cases h : i < k
    · rw [if_neg (by omega), if_pos h]
    · rw [if_pos (by omega), if_neg h, show i + (8192 - 1 - k) - 8191 = i - k by omega]
  rw [run i hi]
  have cut : ∑ k ∈ range 8192, prv k f i j = (∑ k ∈ range w, prv k f i j) + ∑ k ∈ range (8192 - w), prv (w + k) f i j := by
    rw [← sum_range_add, Nat.add_sub_cancel' (by omega)]
  have tail : (if i < w then 0 else ∑ k ∈ range 8192, if 8191 ≤ i - w + k ∧ i - w + k - 8191 < 8192 then f (i - w + k - 8191) j else 0)
      = ∑ k ∈ range (8192 - w), prv (w + k) f i j := by
    by_cases h : i < w
    · rw [if_pos h]
      exact (sum_eq_zero fun k _ => by unfold prv; rw [if_pos (by omega)]).symm
    · rw [if_neg h, run (i - w) (by omega), show 8192 = (8192 - w) + w by omega, sum_range_add, show 8192 - w + w - w = 8192 - w by omega]
      refine (congrArg₂ (· + ·) (sum_congr rfl fun k _ => ?_) (sum_eq_zero fun k hk => ?_)).trans (add_zero _)
      · unfold prv
        by_cases h' : i < w + k
        · rw [if_pos (by omega), if_pos h']
        · rw [if_neg (by omega), if_neg h', Nat.sub_sub]
      · unfold prv
        rw [if_pos (by omega)]
  rw [cut, tail, add_sub_cancel_right]

/-- The sum of the first rows from a row on, from running sums of the differences. -/
theorem run_window_back (w i j : ℕ) (hw : w ≤ 8192) (hi : i < 8192) :
    (∑ k ∈ range 8192, if 0 ≤ i + k ∧ i + k - 0 < 8192 then f (i + k - 0) j + (-nxt w f (i + k - 0) j) else 0) = ∑ k ∈ range w, nxt k f i j := by
  have h1 : (∑ k ∈ range 8192, if 0 ≤ i + k ∧ i + k - 0 < 8192 then f (i + k - 0) j + (-nxt w f (i + k - 0) j) else 0)
      = ∑ k ∈ range 8192, nxt k f i j - ∑ k ∈ range 8192, nxt (k + w) f i j := by
    rw [← sum_sub_distrib]
    refine sum_congr rfl fun k _ => ?_
    unfold nxt
    by_cases h : i + k < 8192
    · rw [if_pos (by omega), if_pos h, Nat.sub_zero, ← Nat.add_assoc, sub_eq_add_neg]
    · rw [if_neg (by omega), if_neg h, if_neg (by omega), sub_zero]
  have h2 : ∑ k ∈ range (8192 + w), nxt k f i j = ∑ k ∈ range 8192, nxt k f i j := by
    rw [sum_range_add]
    refine (congrArg _ (sum_eq_zero fun k _ => ?_)).trans (add_zero _)
    unfold nxt
    rw [if_neg (by omega)]
  have h3 : ∑ k ∈ range (8192 + w), nxt k f i j = (∑ k ∈ range w, nxt k f i j) + ∑ k ∈ range 8192, nxt (k + w) f i j := by
    rw [Nat.add_comm 8192 w, sum_range_add]
    exact congrArg _ (sum_congr rfl fun k _ => by rw [Nat.add_comm])
  rw [h1, ← h2, h3, add_sub_cancel_right]

/-! ### The divisors and the constants -/

theorem hdivf_1024 : Host.divf (mat m n f : FVec Ideal _ φ) (mat m n fun _ _ => 1024) = mat m n fun i j => f i j / 1024 :=
  hdivf_mat f 1024 (by norm_num)
theorem hdivf_cnt (c : ℝ) (hc : 0 < c) : Host.divf (mat m n f : FVec Ideal _ φ) (mat m n fun i _ => min (1 + (i : ℝ)) c) = mat m n fun i j => f i j / min (1 + (i : ℝ)) c :=
  hdivf_mat_of _ _ fun i _ _ _ => (lt_min (by positivity) hc).ne'
theorem iota_8192 : sitofp (F := Ideal) .f32 (iotaInDim ⟨1, ![8192]⟩ 32 0) = vec 8192 fun i => i := iota_vec (by norm_num)
theorem k0 : constant (F := Ideal) ⟨0, ![]⟩ .f32 0x00000000#32 = scl 0 := constant_scl _ _ ofBits_zero
theorem k1 : constant (F := Ideal) ⟨0, ![]⟩ .f32 0x3F800000#32 = scl 1 := constant_scl _ _ ofBits_one
theorem k2 : constant (F := Ideal) ⟨0, ![]⟩ .f32 0x40000000#32 = scl 2 := constant_scl _ _ ofBits_two
theorem k4 : constant (F := Ideal) ⟨0, ![]⟩ .f32 0x40800000#32 = scl 4 := constant_scl _ _ Finite.four
theorem k8 : constant (F := Ideal) ⟨0, ![]⟩ .f32 0x41000000#32 = scl 8 := constant_scl _ _ Finite.eight
theorem k16 : constant (F := Ideal) ⟨0, ![]⟩ .f32 0x41800000#32 = scl 16 := constant_scl _ _ Finite.sixteen
theorem k1024 : constant (F := Ideal) ⟨0, ![]⟩ .f32 0x44800000#32 = scl 1024 := constant_scl _ _ ofBits_1024
theorem ka : constant (F := Ideal) ⟨0, ![]⟩ .f32 0x3F9837F0#32 = scl alpha := constant_scl _ _ ofBits_alpha
theorem ke : constant (F := Ideal) ⟨0, ![]⟩ .f32 0x3727C5AC#32 = scl eps := constant_scl _ _ ofBits_eps
theorem kh : constant (F := Ideal) ⟨0, ![]⟩ .f32 0xBF000000#32 = scl (-(1 / 2)) := constant_scl _ _ ofBits_neg_half

/-! ### Broadcasts, whatever form their dimensions have -/

variable (a : ℕ → ℝ) (r : ℝ)

theorem bd_row (h : (⟨2, ![1, n]⟩ : Shape).BroadcastsInDim ⟨2, ![m, n]⟩ ![0, 1]) :
    broadcastInDim ⟨2, ![m, n]⟩ (no_index ![0, 1]) h (mat 1 n f : FVec Ideal _ φ) = mat m n fun _ j => f 0 j := bcastInDim_row f h
theorem bd_col (h : (⟨2, ![m, 1]⟩ : Shape).BroadcastsInDim ⟨2, ![m, n]⟩ ![0, 1]) :
    broadcastInDim ⟨2, ![m, n]⟩ (no_index ![0, 1]) h (mat m 1 f : FVec Ideal _ φ) = mat m n fun i _ => f i 0 := bcastInDim_col f h
theorem bd_vcol (h : (⟨1, ![m]⟩ : Shape).BroadcastsInDim ⟨2, ![m, n]⟩ ![0]) :
    broadcastInDim ⟨2, ![m, n]⟩ (no_index ![0]) h (vec m a : FVec Ideal _ φ) = mat m n fun i _ => a i := bcastInDim_vec_col a h
theorem bd_vrow (h : (⟨1, ![n]⟩ : Shape).BroadcastsInDim ⟨2, ![m, n]⟩ ![1]) :
    broadcastInDim ⟨2, ![m, n]⟩ (no_index ![1]) h (vec n a : FVec Ideal _ φ) = mat m n fun _ j => a j := bcastInDim_vec_row a h
theorem bd_smat (h : (⟨0, ![]⟩ : Shape).BroadcastsInDim ⟨2, ![m, n]⟩ ![]) :
    broadcastInDim ⟨2, ![m, n]⟩ (no_index ![]) h (scl r : FVec Ideal _ φ) = mat m n fun _ _ => r := rfl
theorem bd_svec (h : (⟨0, ![]⟩ : Shape).BroadcastsInDim ⟨1, ![n]⟩ ![]) :
    broadcastInDim ⟨1, ![n]⟩ (no_index ![]) h (scl r : FVec Ideal _ φ) = vec n fun _ => r := rfl
theorem bd_scl (h : (⟨0, ![]⟩ : Shape).BroadcastsInDim ⟨0, ![]⟩ ![]) :
    broadcastInDim ⟨0, ![]⟩ (no_index ![]) h (scl r : FVec Ideal _ φ) = scl r := rfl

end Cert.RealMat

end
-- ==== Proof.MixRef.lean ====
/- The reference of the convolution and pooling mixer's gradients, one operation after the other, on real numbers. -/
module

public import proofs.«01_k».proof.Proof.MixWin
public import proofs.«01_k».proof.Proof.Gen.Reference2Ideal.Read

@[expose] public section

set_option backward.isDefEq.respectTransparency false

noncomputable section

namespace Cert.MixReal

open Finset Cert.RealMat Cert.MlpReal

variable (D : Mix)

/-- The rows before the layer norm, the rows less their means, and their variances. -/
def Mix.r (i j : ℕ) : ℝ := alpha * D.x i j + (1 + D.md 2 j) * D.mix i j
def Mix.ctr (i j : ℕ) : ℝ := D.r i j - (∑ l ∈ range 1024, D.r i l) / 1024
def Mix.var (i : ℕ) : ℝ := (∑ l ∈ range 1024, D.ctr i l * D.ctr i l) / 1024
theorem Mix.var_eps_pos (i : ℕ) : 0 < D.var i + eps := by
  have : 0 ≤ D.var i := div_nonneg (sum_nonneg fun l _ => mul_self_nonneg _) (by norm_num)
  have := eps_pos
  linarith
theorem min_cnt (p i : ℕ) (c : ℝ) (h : c = (2 ^ (p + 1) : ℕ)) : min (1 + (i : ℝ)) c = cnt p i := by
  subst h
  rw [cnt, Nat.cast_min, add_comm]
  push_cast
  rfl

/-- Four groups of 128 columns, each behind zeros, added. -/
theorem four_cols (F : ℕ → ℕ → ℕ → ℝ) {i j : ℕ} (hi : i < 8192) (hj : j < 512) :
    (if (0 ≤ i ∧ i - 0 < 8192) ∧ (384 ≤ j ∧ j - 384 < 128) then F 3 (i - 0) (j - 384) else 0)
      + (if (0 ≤ i ∧ i - 0 < 8192) ∧ (256 ≤ j ∧ j - 256 < 128) then F 2 (i - 0) (j - 256) else 0)
      + (if (0 ≤ i ∧ i - 0 < 8192) ∧ (128 ≤ j ∧ j - 128 < 128) then F 1 (i - 0) (j - 128) else 0)
      + (if (0 ≤ i ∧ i - 0 < 8192) ∧ (0 ≤ j ∧ j - 0 < 128) then F 0 (i - 0) (j - 0) else 0)
      = F (j / 128) i (j % 128) := by
  obtain h | h | h | h : j / 128 = 0 ∨ j / 128 = 1 ∨ j / 128 = 2 ∨ j / 128 = 3 := by omega
  · rw [if_neg (by omega), if_neg (by omega), if_neg (by omega), if_pos (by omega), h, show j % 128 = j - 0 by omega]; simp
  · rw [if_neg (by omega), if_neg (by omega), if_pos (by omega), if_neg (by omega), h, show j % 128 = j - 128 by omega]; simp
  · rw [if_neg (by omega), if_pos (by omega), if_neg (by omega), if_neg (by omega), h, show j % 128 = j - 256 by omega]; simp
  · rw [if_pos (by omega), if_neg (by omega), if_neg (by omega), if_neg (by omega), h, show j % 128 = j - 384 by omega]; simp

end Cert.MixReal

namespace Cert.MixRef

open Cert.MlpReal Cert.MixReal Cert.RealMat Finset Idealize.ShloMosaic Cert.Reference2Ideal Cert.Reference2Ideal.Gen Cert.Reference2Ideal.Read

/-- The arguments hold the real numbers of `D`; the modulation, the projected and the mixed rows are what the forward lines
    compute, and the normalised rows are theirs. -/
structure Holds (x0 x1 : FVec Ideal S8192x1024 .f32) (x2 : FVec Ideal S1x1024 .f32)
    (x3 : FVec Ideal S1024x6144 .f32) (x4 : FVec Ideal S1x6144 .f32) (x5 : FVec Ideal S1024x2048 .f32) (x6 : FVec Ideal S3x512 .f32)
    (x7 : FVec Ideal S4x128x128 .f32) (x8 : FVec Ideal S1x512 .f32) (x9 : FVec Ideal S1024x1024 .f32)
    (x10 : FVec Ideal S1x1024 .f32) (D : Mix) : Prop where
  g : x0 = mat (φ := .f32) 8192 1024 D.g
  x : x1 = mat (φ := .f32) 8192 1024 D.x
  md : val_main_v3 (F := Ideal) x2 x3 x4 = mat (φ := .f32) 6 1024 D.md
  z : val_main_v16 (F := Ideal) x1 x2 x3 x4 x5 = mat (φ := .f32) 8192 2048 D.z
  mix : val_main_v111 (F := Ideal) x1 x2 x3 x4 x5 x6 x7 x8 x9 = mat (φ := .f32) 8192 1024 D.mix
  wi : x5 = mat (φ := .f32) 1024 2048 D.wi
  cw : x6 = mat (φ := .f32) 3 512 D.cw
  wp : x7 = ten (φ := .f32) 4 128 128 D.wp
  ps : x8 = mat (φ := .f32) 1 512 fun _ j => D.ps j
  wo : x9 = mat (φ := .f32) 1024 1024 D.wo
  ln : x10 = mat (φ := .f32) 1 1024 fun _ j => D.ln 0 j
  rs : ∀ i, D.rs i = (√(D.var i + eps))⁻¹
  xh : ∀ i j, D.xh i j = D.ctr i j * D.rs i

variable {x0 x1 : FVec Ideal S8192x1024 .f32} {x2 : FVec Ideal S1x1024 .f32}
    {x3 : FVec Ideal S1024x6144 .f32} {x4 : FVec Ideal S1x6144 .f32} {x5 : FVec Ideal S1024x2048 .f32} {x6 : FVec Ideal S3x512 .f32}
    {x7 : FVec Ideal S4x128x128 .f32} {x8 : FVec Ideal S1x512 .f32} {x9 : FVec Ideal S1024x1024 .f32}
    {x10 : FVec Ideal S1x1024 .f32} {D : Mix} (H : Holds x0 x1 x2 x3 x4 x5 x6 x7 x8 x9 x10 D)
include H
theorem l_v17 : val_main_v17 (F := Ideal) x1 x2 x3 x4 x5 = mat (φ := .f32) 8192 512 D.z := by
  simp only [val_main_v17, H.z]
  simp only [slice_mat]
  exact mat_congr fun i hi j hj => by simp only [zero_add]
theorem l_v18 : val_main_v18 (F := Ideal) x1 x2 x3 x4 x5 = mat (φ := .f32) 8192 512 (fun i j => D.z i (512 + j)) := by
  simp only [val_main_v18, H.z]
  simp only [slice_mat]
  exact mat_congr fun i hi j hj => by simp only [zero_add]
theorem l_v19 : val_main_v19 (F := Ideal) x1 x2 x3 x4 x5 = mat (φ := .f32) 8192 512 (fun i j => D.z i (1024 + j)) := by
  simp only [val_main_v19, H.z]
  simp only [slice_mat]
  exact mat_congr fun i hi j hj => by simp only [zero_add]
theorem l_v20 : val_main_v20 (F := Ideal) x1 x2 x3 x4 x5 = mat (φ := .f32) 8192 512 D.vp := by
  simp only [val_main_v20, H.z]
  simp only [slice_mat]
  exact mat_congr fun i hi j hj => by simp only [zero_add]; rfl
theorem l_v21 : val_main_v21 (F := Ideal) x1 x2 x3 x4 x5 = mat (φ := .f32) 8192 512 D.cv := by
  simp only [val_main_v21, l_v18 H, l_v19 H]
  simp only [mulf_mat]
  rfl
theorem l_v22 : val_main_v22 (F := Ideal)  = mat (φ := .f32) 2 512 (fun _ _ => 0) := by
  simp only [val_main_v22, val_main_cst_2]
  simp only [bd_smat, k0]
theorem l_v25 : val_main_v25 (F := Ideal) x1 x2 x3 x4 x5 = mat (φ := .f32) 8192 512 (prv 2 D.cv) := by
  unfold val_main_v25 val_main_v23
  rw [l_v22 H, l_v21 H, concat_rows]
  simp only [slice_mat]
  exact mat_congr fun i hi j hj => by
    unfold prv
    by_cases h : i < 2
    · rw [if_pos (by omega), if_pos h]
    · rw [if_neg (by omega), if_neg h]; congr 1 <;> omega
theorem l_v31 : val_main_v31 (F := Ideal) x1 x2 x3 x4 x5 = mat (φ := .f32) 8192 512 (prv 1 D.cv) := by
  unfold val_main_v31 val_main_v23
  rw [l_v22 H, l_v21 H, concat_rows]
  simp only [slice_mat]
  exact mat_congr fun i hi j hj => by
    unfold prv
    by_cases h : i < 1
    · rw [if_pos (by omega), if_pos h]
    · rw [if_neg (by omega), if_neg h]; congr 1 <;> omega
theorem l_v38 : val_main_v38 (F := Ideal) x1 x2 x3 x4 x5 = mat (φ := .f32) 8192 512 D.cv := by
  unfold val_main_v38 val_main_v23
  rw [l_v22 H, l_v21 H, concat_rows]
  simp only [slice_mat]
  exact mat_congr fun i hi j hj => by
    rw [if_neg (by omega)]; congr 1 <;> omega
theorem l_v29 : val_main_v29 (F := Ideal) x6 = mat (φ := .f32) 8192 512 (fun _ j => D.cw 0 j) := by
  simp only [val_main_v29, val_main_v28, val_main_v27, val_main_v26]
  simp only [H.cw, bd_row, bd_vrow, shapeCast_row_vec, slice_mat]
  exact mat_congr fun i hi j hj => by simp only [zero_add, add_zero]
theorem l_v35 : val_main_v35 (F := Ideal) x6 = mat (φ := .f32) 8192 512 (fun _ j => D.cw 1 j) := by
  simp only [val_main_v35, val_main_v34, val_main_v33, val_main_v32]
  simp only [H.cw, bd_row, bd_vrow, shapeCast_row_vec, slice_mat]
  exact mat_congr fun i hi j hj => by simp only [zero_add, add_zero]
theorem l_v42 : val_main_v42 (F := Ideal) x6 = mat (φ := .f32) 8192 512 (fun _ j => D.cw 2 j) := by
  simp only [val_main_v42, val_main_v41, val_main_v40, val_main_v39]
  simp only [H.cw, bd_row, bd_vrow, shapeCast_row_vec, slice_mat]
  exact mat_congr fun i hi j hj => by simp only [zero_add, add_zero]
theorem l_v44 : val_main_v44 (F := Ideal) x1 x2 x3 x4 x5 x6 = mat (φ := .f32) 8192 512 D.conv := by
  simp only [val_main_v44, val_main_v37, val_main_v30, val_main_v36, val_main_v43, l_v25 H, l_v29 H, l_v31 H, l_v35 H, l_v38 H, l_v42 H]
  simp only [addf_mat, mulf_mat]
  exact mat_congr fun i hi j hj => by unfold Mix.conv; ring
theorem l_v115 : val_main_v115 (F := Ideal) x2 x3 x4 = mat (φ := .f32) 1 1024 (fun _ j => 1 + D.md 2 j) := by
  simp only [val_main_v115, val_main_v114, val_main_cst_18, val_main_v6, H.md]
  simp only [addf_mat, bd_smat, k1, slice_mat]
  exact mat_congr fun i hi j hj => by rw [show i = 0 by omega]; simp only [zero_add]
theorem l_v118 : val_main_v118 (F := Ideal) x1 x2 x3 x4 x5 x6 x7 x8 x9 = mat (φ := .f32) 8192 1024 D.r := by
  simp only [val_main_v118, val_main_v113, val_main_v112, val_main_cst_17, val_main_v117, val_main_v116, H.mix, l_v115 H]
  simp only [H.x, addf_mat, mulf_mat, bd_smat, ka, bd_row]
  rfl
theorem l_v122 : val_main_v122 (F := Ideal) x1 x2 x3 x4 x5 x6 x7 x8 x9 = mat (φ := .f32) 8192 1 (fun i _ => (∑ l ∈ range 1024, D.r i l) / 1024) := by
  simp only [val_main_v122, val_main_v120, val_main_v119, val_main_cst_19, val_main_v121, val_main_cst_20, l_v118 H]
  simp only [hdivf_1024, bd_vcol, hsum_rows, k0, bd_smat, k1024]
theorem l_v124 : val_main_v124 (F := Ideal) x1 x2 x3 x4 x5 x6 x7 x8 x9 = mat (φ := .f32) 8192 1024 D.ctr := by
  simp only [val_main_v124, val_main_v123, l_v118 H, l_v122 H]
  simp only [subf_mat, bd_col]
  rfl
theorem l_v133 : val_main_v133 (F := Ideal) x1 x2 x3 x4 x5 x6 x7 x8 x9 = mat (φ := .f32) 8192 1024 D.ctr := by
  simp only [val_main_v133, val_main_v132, l_v118 H, l_v122 H]
  simp only [subf_mat, bd_col]
  rfl
theorem l_v135 : val_main_v135 (F := Ideal) x1 x2 x3 x4 x5 x6 x7 x8 x9 = mat (φ := .f32) 8192 1 (fun i _ => D.var i + eps) := by
  simp only [val_main_v135, val_main_v131, val_main_v129, val_main_v128, val_main_v125, val_main_cst_22, val_main_v130, val_main_cst_23, val_main_v134, val_main_cst_24, l_v124 H]
  simp only [addf_mat, hdivf_1024, bd_vcol, hsum_rows, mulf_mat, k0, bd_smat, k1024, ke]
  rfl
theorem l_v136 : val_main_v136 (F := Ideal) x1 x2 x3 x4 x5 x6 x7 x8 x9 = mat (φ := .f32) 8192 1 (fun i _ => D.rs i) := by
  simp only [val_main_v136, l_v135 H]
  exact (hrsqrt_mat _ fun i _ j _ => D.var_eps_pos i).trans (mat_congr fun i _ j _ => (H.rs i).symm)
theorem l_v139 : val_main_v139 (F := Ideal) x1 x2 x3 x4 x5 x6 x7 x8 x9 = mat (φ := .f32) 8192 1 (fun i _ => -(1 / 2) * (D.rs i / (D.var i + eps))) := by
  simp only [val_main_v139, val_main_v138, val_main_cst_25, val_main_v137, l_v135 H, l_v136 H]
  simp only [bd_smat, kh]
  exact (congrArg _ (hdivf_mat_of _ _ fun i _ j _ => (D.var_eps_pos i).ne')).trans (mulf_mat _ _)
theorem l_v127 : val_main_v127 (F := Ideal) x1 x2 x3 x4 x5 x6 x7 x8 x9 = mat (φ := .f32) 8192 1024 (fun i j => 2 * D.ctr i j) := by
  simp only [val_main_v127, val_main_v126, val_main_cst_21, l_v124 H]
  simp only [mulf_mat, bd_smat, k2]
theorem l_v141 : val_main_v141 (F := Ideal) x1 x2 x3 x4 x5 x6 x7 x8 x9 = mat (φ := .f32) 8192 1024 D.xh := by
  simp only [val_main_v141, val_main_v140, l_v133 H, l_v136 H]
  simp only [mulf_mat, bd_col]
  exact mat_congr fun i hi j hj => (H.xh i j).symm
theorem l_v153 : val_main_v153 (F := Ideal) x0 x10 = mat (φ := .f32) 8192 1024 D.u := by
  simp only [val_main_v153, val_main_v146, val_main_v152]
  simp only [H.g, H.ln, mulf_mat, shapeCast_mat_self, bd_row]
  rfl
theorem l_v177 : val_main_v177 (F := Ideal) x0 x1 x2 x3 x4 x5 x6 x7 x8 x9 x10 = mat (φ := .f32) 8192 1024 D.dr := by
  simp only [val_main_v177, val_main_v171, val_main_v158, val_main_v157, val_main_v167, val_main_v166, val_main_v165, val_main_v164, val_main_v159, val_main_v156, val_main_v155, val_main_v154, val_main_cst_28, val_main_v163, val_main_cst_30, val_main_cst_31, val_main_v176, val_main_v175, val_main_v174, val_main_v172, val_main_v162, val_main_v161, val_main_v160, val_main_cst_29, val_main_v170, val_main_v169, val_main_v168, val_main_cst_32, val_main_v173, val_main_cst_33, val_main_cst_34, l_v127 H, l_v133 H, l_v136 H, l_v139 H, l_v153 H]
  simp only [addf_mat, mulf_mat, bd_col, bd_vcol, hsum_rows, hdivf_1024, shapeCast_vec_col, k0, bd_smat, k1024, hnegf_mat]
  exact mat_congr fun i hi j hj => by
    have h := layer_norm_back (fun l => D.ctr i l) (fun l => D.u i l) (D.rs i) (D.var i + eps)
      (sum_centred (n := 1024) (fun l => D.r i l) (by norm_num)) (by rw [H.rs i]; exact inv_sqrt_cube _ (D.var_eps_pos i)) 1024 j
    simp only [sum_range_one, Mix.dr, H.xh]
    exact h
theorem l_v179 : val_main_v179 (F := Ideal) x0 x1 x2 x3 x4 x5 x6 x7 x8 x9 x10 = mat (φ := .f32) 8192 1024 D.dm := by
  simp only [val_main_v179, val_main_v178, l_v115 H, l_v177 H]
  simp only [mulf_mat, bd_row]
  rfl
theorem l_v185 : val_main_v185 (F := Ideal) x0 x1 x2 x3 x4 x5 x6 x7 x8 x9 x10 = mat (φ := .f32) 8192 1024 D.dy := by
  simp only [val_main_v185, l_v179 H]
  simp only [H.wo]
  exact dot_t_mat _ _ _ rfl _ _
theorem l_v186 : val_main_v186 (F := Ideal) x0 x1 x2 x3 x4 x5 x6 x7 x8 x9 x10 = mat (φ := .f32) 8192 512 D.dy := by
  simp only [val_main_v186, l_v185 H]
  simp only [slice_mat]
  exact mat_congr fun i hi j hj => by simp only [zero_add]
theorem l_v187 : val_main_v187 (F := Ideal) x0 x1 x2 x3 x4 x5 x6 x7 x8 x9 x10 = mat (φ := .f32) 8192 512 (fun i j => D.dy i (512 + j)) := by
  simp only [val_main_v187, l_v185 H]
  simp only [slice_mat]
  exact mat_congr fun i hi j hj => by simp only [zero_add]
theorem l_v255 : val_main_v255 (F := Ideal) x0 x1 x2 x3 x4 x5 x6 x7 x8 x9 x10 = mat (φ := .f32) 8192 512 D.e := by
  simp only [val_main_v255, l_v17 H, l_v186 H]
  simp only [mulf_mat]
  exact mat_congr fun i hi j hj => mul_comm _ _
theorem l_v46 : val_main_v46 (F := Ideal) x1 x2 x3 x4 x5 = mat (φ := .f32) 8192 512 (fun i j => ∑ k ∈ range 8192, if 8191 ≤ i + k ∧ i + k - 8191 < 8192 then D.vp (i + k - 8191) j else 0) := by
  simp only [val_main_v46, val_main_call1_call0_v0, val_main_call1_call0_cst, l_v20 H]
  simp only [bd_scl, k0]
  exact window_mat _ _ _ _ _ _
theorem l_v59 : val_main_v59 (F := Ideal)  = mat (φ := .f32) 8192 128 (fun i _ => min (1 + (i : ℝ)) 2) := by
  simp only [val_main_v59, val_main_v58, val_main_v50, val_main_v49, val_main_v48, val_main_cst_4, val_main_v47, val_main_v57, val_main_cst_7]
  simp only [bd_col, minimumf_mat, bd_vcol, addf_vec, bd_svec, k1, iota_8192, bd_smat, k2]
theorem l_v71 : val_main_v71 (F := Ideal)  = mat (φ := .f32) 8192 128 (fun i _ => min (1 + (i : ℝ)) 4) := by
  simp only [val_main_v71, val_main_v70, val_main_v50, val_main_v49, val_main_v48, val_main_cst_4, val_main_v47, val_main_v69, val_main_cst_10]
  simp only [bd_col, minimumf_mat, bd_vcol, addf_vec, bd_svec, k1, iota_8192, bd_smat, k4]
theorem l_v83 : val_main_v83 (F := Ideal)  = mat (φ := .f32) 8192 128 (fun i _ => min (1 + (i : ℝ)) 8) := by
  simp only [val_main_v83, val_main_v82, val_main_v50, val_main_v49, val_main_v48, val_main_cst_4, val_main_v47, val_main_v81, val_main_cst_13]
  simp only [bd_col, minimumf_mat, bd_vcol, addf_vec, bd_svec, k1, iota_8192, bd_smat, k8]
theorem l_v95 : val_main_v95 (F := Ideal)  = mat (φ := .f32) 8192 128 (fun i _ => min (1 + (i : ℝ)) 16) := by
  simp only [val_main_v95, val_main_v94, val_main_v50, val_main_v49, val_main_v48, val_main_cst_4, val_main_v47, val_main_v93, val_main_cst_16]
  simp only [bd_col, minimumf_mat, bd_vcol, addf_vec, bd_svec, k1, iota_8192, bd_smat, k16]
theorem l_v52 : val_main_v52 (F := Ideal)  = mat (φ := .f32) 2 128 (fun _ _ => 0) := by
  simp only [val_main_v52, val_main_cst_5]
  simp only [bd_smat, k0]
theorem l_v51 : val_main_v51 (F := Ideal) x1 x2 x3 x4 x5 = mat (φ := .f32) 8192 128 (fun i j => ∑ k ∈ range 8192, if 8191 ≤ i + k ∧ i + k - 8191 < 8192 then D.vp (i + k - 8191) (0 + j) else 0) := by
  simp only [val_main_v51, l_v46 H]
  simp only [slice_mat]
  exact mat_congr fun i hi j hj => by simp only [zero_add]
theorem l_v53 : val_main_v53 (F := Ideal) x1 x2 x3 x4 x5 = mat (φ := .f32) 8194 128 (fun i j => if i < 2 then 0 else ∑ k ∈ range 8192, if 8191 ≤ i - 2 + k ∧ i - 2 + k - 8191 < 8192 then D.vp (i - 2 + k - 8191) (0 + j) else 0) := by
  unfold val_main_v53
  rw [l_v52 H, l_v51 H, concat_rows]
theorem l_v62 : val_main_v62 (F := Ideal) x1 x2 x3 x4 x5 = mat (φ := .f32) 8192 128 (D.ft 0) := by
  simp only [val_main_v62, val_main_v60, val_main_v56, val_main_v55, val_main_v61, l_v20 H, l_v51 H, l_v53 H, l_v59 H]
  simp only [subf_mat, slice_mat, hdivf_cnt _ 2 (by norm_num)]
  exact mat_congr fun i hi j hj => by
    have h := run_window D.vp 2 i (0 + j) (by norm_num) hi
    simp only [zero_add] at h ⊢
    rw [h, min_cnt 0 i 2 (by norm_num)]; unfold Mix.ft; norm_num [div_eq_mul_inv]
theorem l_v64 : val_main_v64 (F := Ideal)  = mat (φ := .f32) 4 128 (fun _ _ => 0) := by
  simp only [val_main_v64, val_main_cst_8]
  simp only [bd_smat, k0]
theorem l_v63 : val_main_v63 (F := Ideal) x1 x2 x3 x4 x5 = mat (φ := .f32) 8192 128 (fun i j => ∑ k ∈ range 8192, if 8191 ≤ i + k ∧ i + k - 8191 < 8192 then D.vp (i + k - 8191) (128 + j) else 0) := by
  simp only [val_main_v63, l_v46 H]
  simp only [slice_mat]
  exact mat_congr fun i hi j hj => by simp only [zero_add]
theorem l_v65 : val_main_v65 (F := Ideal) x1 x2 x3 x4 x5 = mat (φ := .f32) 8196 128 (fun i j => if i < 4 then 0 else ∑ k ∈ range 8192, if 8191 ≤ i - 4 + k ∧ i - 4 + k - 8191 < 8192 then D.vp (i - 4 + k - 8191) (128 + j) else 0) := by
  unfold val_main_v65
  rw [l_v64 H, l_v63 H, concat_rows]
theorem l_v74 : val_main_v74 (F := Ideal) x1 x2 x3 x4 x5 = mat (φ := .f32) 8192 128 (D.ft 1) := by
  simp only [val_main_v74, val_main_v72, val_main_v68, val_main_v67, val_main_v73, l_v20 H, l_v63 H, l_v65 H, l_v71 H]
  simp only [subf_mat, slice_mat, hdivf_cnt _ 4 (by norm_num)]
  exact mat_congr fun i hi j hj => by
    have h := run_window D.vp 4 i (128 + j) (by norm_num) hi
    simp only [zero_add]
    rw [h, min_cnt 1 i 4 (by norm_num)]; unfold Mix.ft; norm_num [div_eq_mul_inv]
theorem l_v76 : val_main_v76 (F := Ideal)  = mat (φ := .f32) 8 128 (fun _ _ => 0) := by
  simp only [val_main_v76, val_main_cst_11]
  simp only [bd_smat, k0]
theorem l_v75 : val_main_v75 (F := Ideal) x1 x2 x3 x4 x5 = mat (φ := .f32) 8192 128 (fun i j => ∑ k ∈ range 8192, if 8191 ≤ i + k ∧ i + k - 8191 < 8192 then D.vp (i + k - 8191) (256 + j) else 0) := by
  simp only [val_main_v75, l_v46 H]
  simp only [slice_mat]
  exact mat_congr fun i hi j hj => by simp only [zero_add]
theorem l_v77 : val_main_v77 (F := Ideal) x1 x2 x3 x4 x5 = mat (φ := .f32) 8200 128 (fun i j => if i < 8 then 0 else ∑ k ∈ range 8192, if 8191 ≤ i - 8 + k ∧ i - 8 + k - 8191 < 8192 then D.vp (i - 8 + k - 8191) (256 + j) else 0) := by
  unfold val_main_v77
  rw [l_v76 H, l_v75 H, concat_rows]
theorem l_v86 : val_main_v86 (F := Ideal) x1 x2 x3 x4 x5 = mat (φ := .f32) 8192 128 (D.ft 2) := by
  simp only [val_main_v86, val_main_v84, val_main_v80, val_main_v79, val_main_v85, l_v20 H, l_v75 H, l_v77 H, l_v83 H]
  simp only [subf_mat, slice_mat, hdivf_cnt _ 8 (by norm_num)]
  exact mat_congr fun i hi j hj => by
    have h := run_window D.vp 8 i (256 + j) (by norm_num) hi
    simp only [zero_add]
    rw [h, min_cnt 2 i 8 (by norm_num)]; unfold Mix.ft; norm_num [div_eq_mul_inv]
theorem l_v88 : val_main_v88 (F := Ideal)  = mat (φ := .f32) 16 128 (fun _ _ => 0) := by
  simp only [val_main_v88, val_main_cst_14]
  simp only [bd_smat, k0]
theorem l_v87 : val_main_v87 (F := Ideal) x1 x2 x3 x4 x5 = mat (φ := .f32) 8192 128 (fun i j => ∑ k ∈ range 8192, if 8191 ≤ i + k ∧ i + k - 8191 < 8192 then D.vp (i + k - 8191) (384 + j) else 0) := by
  simp only [val_main_v87, l_v46 H]
  simp only [slice_mat]
  exact mat_congr fun i hi j hj => by simp only [zero_add]
theorem l_v89 : val_main_v89 (F := Ideal) x1 x2 x3 x4 x5 = mat (φ := .f32) 8208 128 (fun i j => if i < 16 then 0 else ∑ k ∈ range 8192, if 8191 ≤ i - 16 + k ∧ i - 16 + k - 8191 < 8192 then D.vp (i - 16 + k - 8191) (384 + j) else 0) := by
  unfold val_main_v89
  rw [l_v88 H, l_v87 H, concat_rows]
theorem l_v98 : val_main_v98 (F := Ideal) x1 x2 x3 x4 x5 = mat (φ := .f32) 8192 128 (D.ft 3) := by
  simp only [val_main_v98, val_main_v96, val_main_v92, val_main_v91, val_main_v97, l_v20 H, l_v87 H, l_v89 H, l_v95 H]
  simp only [subf_mat, slice_mat, hdivf_cnt _ 16 (by norm_num)]
  exact mat_congr fun i hi j hj => by
    have h := run_window D.vp 16 i (384 + j) (by norm_num) hi
    simp only [zero_add]
    rw [h, min_cnt 3 i 16 (by norm_num)]; unfold Mix.ft; norm_num [div_eq_mul_inv]
theorem l_v99 : val_main_v99 (F := Ideal) x1 x2 x3 x4 x5 = ten (φ := .f32) 8192 1 128 fun i _ k => D.ft 0 i k := by
  funext i; rw [val_main_v99_apply, l_v62 H]; rfl
theorem l_v100 : val_main_v100 (F := Ideal) x1 x2 x3 x4 x5 = ten (φ := .f32) 8192 1 128 fun i _ k => D.ft 1 i k := by
  funext i; rw [val_main_v100_apply, l_v74 H]; rfl
theorem l_v101 : val_main_v101 (F := Ideal) x1 x2 x3 x4 x5 = ten (φ := .f32) 8192 1 128 fun i _ k => D.ft 2 i k := by
  funext i; rw [val_main_v101_apply, l_v86 H]; rfl
theorem l_v102 : val_main_v102 (F := Ideal) x1 x2 x3 x4 x5 = ten (φ := .f32) 8192 1 128 fun i _ k => D.ft 3 i k := by
  funext i; rw [val_main_v102_apply, l_v98 H]; rfl
theorem l_v103 : val_main_v103 (F := Ideal) x1 x2 x3 x4 x5 = ten (φ := .f32) 8192 4 128 fun i p k => D.ft p i k := by
  unfold val_main_v103; rw [l_v99 H, l_v100 H, l_v101 H, l_v102 H]; exact stack_ten D.ft _
theorem l_v104 : val_main_v104 (F := Ideal) x1 x2 x3 x4 x5 x7 = ten (φ := .f32) 4 128 8192 fun p j i => D.pw p i j := by
  funext i
  rw [val_main_v104_apply, H.wp, l_v103 H]
  refine (coe_sum 128 fun k => D.wp (i 0).val k (i 1).val * D.ft (i 0).val (i 2).val k).symm.trans ?_
  exact congrArg _ (sum_congr rfl fun k _ => mul_comm _ _)
theorem l_v106 : val_main_v106 (F := Ideal) x1 x2 x3 x4 x5 x7 = mat (φ := .f32) 8192 512 fun i j => D.pw (j / 128) i (j % 128) := by
  funext i
  have h0 : (i 0).val < 8192 := (i 0).isLt
  have h1 : (i 1).val < 512 := (i 1).isLt
  rw [val_main_v106_apply, val_main_v105_apply, l_v104 H]
  show ((D.pw (((i 0).val * 512 + (i 1).val) / 128 % 4) (((i 0).val * 512 + (i 1).val) / 512) (((i 0).val * 512 + (i 1).val) % 128) : ℝ) : EReal) = _
  rw [show ((i 0).val * 512 + (i 1).val) / 128 % 4 = (i 1).val / 128 by omega, show ((i 0).val * 512 + (i 1).val) / 512 = (i 0).val by omega,
    show ((i 0).val * 512 + (i 1).val) % 128 = (i 1).val % 128 by omega]
  rfl
theorem l_v108 : val_main_v108 (F := Ideal) x1 x2 x3 x4 x5 x7 x8 = mat (φ := .f32) 8192 512 (fun i j => D.yp (j / 128) i (j % 128)) := by
  simp only [val_main_v108, val_main_v107, l_v106 H]
  simp only [H.ps, mulf_mat, bd_row]
  exact mat_congr fun i hi j hj => by unfold Mix.yp; rw [Nat.div_add_mod]
theorem l_v45 : val_main_v45 (F := Ideal) x1 x2 x3 x4 x5 x6 = mat (φ := .f32) 8192 512 (fun i j => D.z i j * D.conv i j) := by
  simp only [val_main_v45, l_v17 H, l_v44 H]
  simp only [mulf_mat]
theorem l_v109 : val_main_v109 (F := Ideal) x1 x2 x3 x4 x5 x6 x7 x8 = mat (φ := .f32) 8192 1024 D.yc := by
  unfold val_main_v109
  rw [l_v45 H, l_v108 H, concat_cols]
  rfl
theorem l_v188 : val_main_v188 (F := Ideal) x0 x1 x2 x3 x4 x5 x6 x7 x8 x9 x10 = mat (φ := .f32) 8192 512 (D.C 3) := by
  simp only [val_main_v188, l_v106 H, l_v187 H]
  simp only [mulf_mat]
  exact mat_congr fun i hi j hj => by
    show _ = D.dyp (j / 128) i (j % 128) * D.pw (j / 128) i (j % 128)
    unfold Mix.dyp; rw [Nat.div_add_mod]; exact mul_comm _ _
theorem l_v190 : val_main_v190 (F := Ideal) x0 x1 x2 x3 x4 x5 x6 x7 x8 x9 x10 = mat (φ := .f32) 1 512 (fun _ j => ∑ i ∈ range 8192, D.C 3 i j) := by
  simp only [val_main_v190, val_main_v189, val_main_cst_37, l_v188 H]
  simp only [shapeCast_vec_row, hsum_cols, k0]
theorem l_v192 : val_main_v192 (F := Ideal) x0 x1 x2 x3 x4 x5 x6 x7 x8 x9 x10 = mat (φ := .f32) 8192 512 (fun i j => D.dpw (j / 128) i (j % 128)) := by
  simp only [val_main_v192, val_main_v191, l_v187 H]
  simp only [H.ps, mulf_mat, bd_row]
  exact mat_congr fun i hi j hj => by unfold Mix.dpw Mix.dyp; rw [Nat.div_add_mod]
theorem l_v194 : val_main_v194 (F := Ideal) x0 x1 x2 x3 x4 x5 x6 x7 x8 x9 x10 = ten (φ := .f32) 4 128 8192 fun p k i => D.dpw p i k := by
  funext i
  have h0 : (i 0).val < 4 := (i 0).isLt
  have h1 : (i 1).val < 128 := (i 1).isLt
  rw [val_main_v194_apply, val_main_v193_apply, l_v192 H]
  show ((D.dpw ((((i 2).val * 4 + (i 0).val) * 128 + (i 1).val) % 512 / 128) ((((i 2).val * 4 + (i 0).val) * 128 + (i 1).val) / 512) ((((i 2).val * 4 + (i 0).val) * 128 + (i 1).val) % 512 % 128) : ℝ) : EReal) = _
  rw [show (((i 2).val * 4 + (i 0).val) * 128 + (i 1).val) % 512 / 128 = (i 0).val by omega, show (((i 2).val * 4 + (i 0).val) * 128 + (i 1).val) / 512 = (i 2).val by omega,
    show (((i 2).val * 4 + (i 0).val) * 128 + (i 1).val) % 512 % 128 = (i 1).val by omega]
  rfl
theorem l_v196 : val_main_v196 (F := Ideal) x0 x1 x2 x3 x4 x5 x6 x7 x8 x9 x10 = ten (φ := .f32) 8192 4 128 fun i p j => D.dp p i j := by
  funext i
  rw [val_main_v196_apply, val_main_v195_apply, l_v194 H, H.wp]
  exact (coe_sum 128 fun k => D.dpw (i 1).val (i 0).val k * D.wp (i 1).val (i 2).val k).symm
theorem l_v198 : val_main_v198 (F := Ideal) x0 x1 x2 x3 x4 x5 x6 x7 x8 x9 x10 = ten (φ := .f32) 4 128 128 fun p a b => ∑ r ∈ range 8192, D.ft p r a * D.dpw p r b := by
  funext i
  rw [val_main_v198_apply, val_main_v197_apply, l_v194 H, l_v103 H]
  refine (coe_sum 8192 fun r => D.dpw (i 0).val r (i 2).val * D.ft (i 0).val r (i 1).val).symm.trans ?_
  exact congrArg _ (sum_congr rfl fun r _ => mul_comm _ _)
theorem l_v200 : val_main_v200 (F := Ideal) x0 x1 x2 x3 x4 x5 x6 x7 x8 x9 x10 = mat (φ := .f32) 8192 128 (D.dp 0) := by
  funext i
  have h1 : (i 1).val < 128 := (i 1).isLt
  rw [val_main_v200_apply, val_main_v199_apply, l_v196 H]
  show ((D.dp 0 (((i 0).val * 128 + (i 1).val) / 128) (((i 0).val * 128 + (i 1).val) % 128) : ℝ) : EReal) = _
  rw [show ((i 0).val * 128 + (i 1).val) / 128 = (i 0).val by omega, show ((i 0).val * 128 + (i 1).val) % 128 = (i 1).val by omega]
  rfl
theorem l_v202 : val_main_v202 (F := Ideal) x0 x1 x2 x3 x4 x5 x6 x7 x8 x9 x10 = mat (φ := .f32) 8192 128 (D.dp 1) := by
  funext i
  have h1 : (i 1).val < 128 := (i 1).isLt
  rw [val_main_v202_apply, val_main_v201_apply, l_v196 H]
  show ((D.dp 1 (((i 0).val * 128 + (i 1).val) / 128) (((i 0).val * 128 + (i 1).val) % 128) : ℝ) : EReal) = _
  rw [show ((i 0).val * 128 + (i 1).val) / 128 = (i 0).val by omega, show ((i 0).val * 128 + (i 1).val) % 128 = (i 1).val by omega]
  rfl
theorem l_v204 : val_main_v204 (F := Ideal) x0 x1 x2 x3 x4 x5 x6 x7 x8 x9 x10 = mat (φ := .f32) 8192 128 (D.dp 2) := by
  funext i
  have h1 : (i 1).val < 128 := (i 1).isLt
  rw [val_main_v204_apply, val_main_v203_apply, l_v196 H]
  show ((D.dp 2 (((i 0).val * 128 + (i 1).val) / 128) (((i 0).val * 128 + (i 1).val) % 128) : ℝ) : EReal) = _
  rw [show ((i 0).val * 128 + (i 1).val) / 128 = (i 0).val by omega, show ((i 0).val * 128 + (i 1).val) % 128 = (i 1).val by omega]
  rfl
theorem l_v206 : val_main_v206 (F := Ideal) x0 x1 x2 x3 x4 x5 x6 x7 x8 x9 x10 = mat (φ := .f32) 8192 128 (D.dp 3) := by
  funext i
  have h1 : (i 1).val < 128 := (i 1).isLt
  rw [val_main_v206_apply, val_main_v205_apply, l_v196 H]
  show ((D.dp 3 (((i 0).val * 128 + (i 1).val) / 128) (((i 0).val * 128 + (i 1).val) % 128) : ℝ) : EReal) = _
  rw [show ((i 0).val * 128 + (i 1).val) / 128 = (i 0).val by omega, show ((i 0).val * 128 + (i 1).val) % 128 = (i 1).val by omega]
  rfl
theorem l_v244 : val_main_v244 (F := Ideal)  = mat (φ := .f32) 8192 128 (fun i _ => min (1 + (i : ℝ)) 2) := by
  simp only [val_main_v244, val_main_v58, val_main_v50, val_main_v49, val_main_v48, val_main_cst_4, val_main_v47, val_main_v57, val_main_cst_7]
  simp only [bd_col, minimumf_mat, bd_vcol, addf_vec, bd_svec, k1, iota_8192, bd_smat, k2]
theorem l_v232 : val_main_v232 (F := Ideal)  = mat (φ := .f32) 8192 128 (fun i _ => min (1 + (i : ℝ)) 4) := by
  simp only [val_main_v232, val_main_v70, val_main_v50, val_main_v49, val_main_v48, val_main_cst_4, val_main_v47, val_main_v69, val_main_cst_10]
  simp only [bd_col, minimumf_mat, bd_vcol, addf_vec, bd_svec, k1, iota_8192, bd_smat, k4]
theorem l_v220 : val_main_v220 (F := Ideal)  = mat (φ := .f32) 8192 128 (fun i _ => min (1 + (i : ℝ)) 8) := by
  simp only [val_main_v220, val_main_v82, val_main_v50, val_main_v49, val_main_v48, val_main_cst_4, val_main_v47, val_main_v81, val_main_cst_13]
  simp only [bd_col, minimumf_mat, bd_vcol, addf_vec, bd_svec, k1, iota_8192, bd_smat, k8]
theorem l_v209 : val_main_v209 (F := Ideal)  = mat (φ := .f32) 8192 128 (fun i _ => min (1 + (i : ℝ)) 16) := by
  simp only [val_main_v209, val_main_v94, val_main_v50, val_main_v49, val_main_v48, val_main_cst_4, val_main_v47, val_main_v93, val_main_cst_16]
  simp only [bd_col, minimumf_mat, bd_vcol, addf_vec, bd_svec, k1, iota_8192, bd_smat, k16]
theorem l_v210 : val_main_v210 (F := Ideal) x0 x1 x2 x3 x4 x5 x6 x7 x8 x9 x10 = mat (φ := .f32) 8192 128 (D.q 3) := by
  simp only [val_main_v210, l_v206 H, l_v209 H]
  simp only [hdivf_cnt _ 16 (by norm_num)]
  exact mat_congr fun i hi j hj => by rw [min_cnt 3 i 16 (by norm_num)]; unfold Mix.q; rw [mul_one_div]
theorem l_v215 : val_main_v215 (F := Ideal) x0 x1 x2 x3 x4 x5 x6 x7 x8 x9 x10 = mat (φ := .f32) 8192 128 (fun i j => D.q 3 i j + -nxt 16 (D.q 3) i j) := by
  simp only [val_main_v215, val_main_v214, val_main_v212, val_main_v211, val_main_cst_39, l_v210 H]
  simp only [addf_mat, slice_mat, pad_mat, hnegf_mat, k0]
  exact mat_congr fun i hi j hj => by
    simp only [Nat.sub_zero, Nat.zero_add, Nat.zero_le, true_and]
    unfold nxt
    by_cases h : i + 16 < 8192
    · rw [if_pos (by omega), if_pos h, Nat.add_comm 16 i]
    · rw [if_neg (by omega), if_neg h, neg_zero]
theorem l_v208 : val_main_v208 (F := Ideal) x0 x1 x2 x3 x4 x5 x6 x7 x8 x9 x10 = mat (φ := .f32) 8192 512 (fun i j => if (0 ≤ i ∧ i - 0 < 8192) ∧ (384 ≤ j ∧ j - 384 < 128) then -D.dp 3 (i - 0) (j - 384) else 0) := by
  simp only [val_main_v208, val_main_v207, val_main_cst_38, l_v206 H]
  simp only [pad_mat, hnegf_mat, k0]
theorem l_v216 : val_main_v216 (F := Ideal) x0 x1 x2 x3 x4 x5 x6 x7 x8 x9 x10 = mat (φ := .f32) 8192 512 (fun i j => if (0 ≤ i ∧ i - 0 < 8192) ∧ (384 ≤ j ∧ j - 384 < 128) then D.q 3 (i - 0) (j - 384) + -nxt (2 ^ (3 + 1)) (D.q 3) (i - 0) (j - 384) else 0) := by
  simp only [val_main_v216, val_main_cst_40, l_v215 H]
  simp only [pad_mat, k0]
  rfl
theorem l_v221 : val_main_v221 (F := Ideal) x0 x1 x2 x3 x4 x5 x6 x7 x8 x9 x10 = mat (φ := .f32) 8192 128 (D.q 2) := by
  simp only [val_main_v221, l_v204 H, l_v220 H]
  simp only [hdivf_cnt _ 8 (by norm_num)]
  exact mat_congr fun i hi j hj => by rw [min_cnt 2 i 8 (by norm_num)]; unfold Mix.q; rw [mul_one_div]
theorem l_v226 : val_main_v226 (F := Ideal) x0 x1 x2 x3 x4 x5 x6 x7 x8 x9 x10 = mat (φ := .f32) 8192 128 (fun i j => D.q 2 i j + -nxt 8 (D.q 2) i j) := by
  simp only [val_main_v226, val_main_v225, val_main_v223, val_main_v222, val_main_cst_42, l_v221 H]
  simp only [addf_mat, slice_mat, pad_mat, hnegf_mat, k0]
  exact mat_congr fun i hi j hj => by
    simp only [Nat.sub_zero, Nat.zero_add, Nat.zero_le, true_and]
    unfold nxt
    by_cases h : i + 8 < 8192
    · rw [if_pos (by omega), if_pos h, Nat.add_comm 8 i]
    · rw [if_neg (by omega), if_neg h, neg_zero]
theorem l_v218 : val_main_v218 (F := Ideal) x0 x1 x2 x3 x4 x5 x6 x7 x8 x9 x10 = mat (φ := .f32) 8192 512 (fun i j => if (0 ≤ i ∧ i - 0 < 8192) ∧ (256 ≤ j ∧ j - 256 < 128) then -D.dp 2 (i - 0) (j - 256) else 0) := by
  simp only [val_main_v218, val_main_v217, val_main_cst_41, l_v204 H]
  simp only [pad_mat, hnegf_mat, k0]
theorem l_v227 : val_main_v227 (F := Ideal) x0 x1 x2 x3 x4 x5 x6 x7 x8 x9 x10 = mat (φ := .f32) 8192 512 (fun i j => if (0 ≤ i ∧ i - 0 < 8192) ∧ (256 ≤ j ∧ j - 256 < 128) then D.q 2 (i - 0) (j - 256) + -nxt (2 ^ (2 + 1)) (D.q 2) (i - 0) (j - 256) else 0) := by
  simp only [val_main_v227, val_main_cst_43, l_v226 H]
  simp only [pad_mat, k0]
  rfl
theorem l_v233 : val_main_v233 (F := Ideal) x0 x1 x2 x3 x4 x5 x6 x7 x8 x9 x10 = mat (φ := .f32) 8192 128 (D.q 1) := by
  simp only [val_main_v233, l_v202 H, l_v232 H]
  simp only [hdivf_cnt _ 4 (by norm_num)]
  exact mat_congr fun i hi j hj => by rw [min_cnt 1 i 4 (by norm_num)]; unfold Mix.q; rw [mul_one_div]
theorem l_v238 : val_main_v238 (F := Ideal) x0 x1 x2 x3 x4 x5 x6 x7 x8 x9 x10 = mat (φ := .f32) 8192 128 (fun i j => D.q 1 i j + -nxt 4 (D.q 1) i j) := by
  simp only [val_main_v238, val_main_v237, val_main_v235, val_main_v234, val_main_cst_45, l_v233 H]
  simp only [addf_mat, slice_mat, pad_mat, hnegf_mat, k0]
  exact mat_congr fun i hi j hj => by
    simp only [Nat.sub_zero, Nat.zero_add, Nat.zero_le, true_and]
    unfold nxt
    by_cases h : i + 4 < 8192
    · rw [if_pos (by omega), if_pos h, Nat.add_comm 4 i]
    · rw [if_neg (by omega), if_neg h, neg_zero]
theorem l_v230 : val_main_v230 (F := Ideal) x0 x1 x2 x3 x4 x5 x6 x7 x8 x9 x10 = mat (φ := .f32) 8192 512 (fun i j => if (0 ≤ i ∧ i - 0 < 8192) ∧ (128 ≤ j ∧ j - 128 < 128) then -D.dp 1 (i - 0) (j - 128) else 0) := by
  simp only [val_main_v230, val_main_v229, val_main_cst_44, l_v202 H]
  simp only [pad_mat, hnegf_mat, k0]
theorem l_v239 : val_main_v239 (F := Ideal) x0 x1 x2 x3 x4 x5 x6 x7 x8 x9 x10 = mat (φ := .f32) 8192 512 (fun i j => if (0 ≤ i ∧ i - 0 < 8192) ∧ (128 ≤ j ∧ j - 128 < 128) then D.q 1 (i - 0) (j - 128) + -nxt (2 ^ (1 + 1)) (D.q 1) (i - 0) (j - 128) else 0) := by
  simp only [val_main_v239, val_main_cst_46, l_v238 H]
  simp only [pad_mat, k0]
  rfl
theorem l_v245 : val_main_v245 (F := Ideal) x0 x1 x2 x3 x4 x5 x6 x7 x8 x9 x10 = mat (φ := .f32) 8192 128 (D.q 0) := by
  simp only [val_main_v245, l_v200 H, l_v244 H]
  simp only [hdivf_cnt _ 2 (by norm_num)]
  exact mat_congr fun i hi j hj => by rw [min_cnt 0 i 2 (by norm_num)]; unfold Mix.q; rw [mul_one_div]
theorem l_v250 : val_main_v250 (F := Ideal) x0 x1 x2 x3 x4 x5 x6 x7 x8 x9 x10 = mat (φ := .f32) 8192 128 (fun i j => D.q 0 i j + -nxt 2 (D.q 0) i j) := by
  simp only [val_main_v250, val_main_v249, val_main_v247, val_main_v246, val_main_cst_48, l_v245 H]
  simp only [addf_mat, slice_mat, pad_mat, hnegf_mat, k0]
  exact mat_congr fun i hi j hj => by
    simp only [Nat.sub_zero, Nat.zero_add, Nat.zero_le, true_and]
    unfold nxt
    by_cases h : i + 2 < 8192
    · rw [if_pos (by omega), if_pos h, Nat.add_comm 2 i]
    · rw [if_neg (by omega), if_neg h, neg_zero]
theorem l_v242 : val_main_v242 (F := Ideal) x0 x1 x2 x3 x4 x5 x6 x7 x8 x9 x10 = mat (φ := .f32) 8192 512 (fun i j => if (0 ≤ i ∧ i - 0 < 8192) ∧ (0 ≤ j ∧ j - 0 < 128) then -D.dp 0 (i - 0) (j - 0) else 0) := by
  simp only [val_main_v242, val_main_v241, val_main_cst_47, l_v200 H]
  simp only [pad_mat, hnegf_mat, k0]
theorem l_v251 : val_main_v251 (F := Ideal) x0 x1 x2 x3 x4 x5 x6 x7 x8 x9 x10 = mat (φ := .f32) 8192 512 (fun i j => if (0 ≤ i ∧ i - 0 < 8192) ∧ (0 ≤ j ∧ j - 0 < 128) then D.q 0 (i - 0) (j - 0) + -nxt (2 ^ (0 + 1)) (D.q 0) (i - 0) (j - 0) else 0) := by
  simp only [val_main_v251, val_main_cst_49, l_v250 H]
  simp only [pad_mat, k0]
  rfl
theorem l_v243 : val_main_v243 (F := Ideal) x0 x1 x2 x3 x4 x5 x6 x7 x8 x9 x10 = mat (φ := .f32) 8192 512 (fun i j => -D.dp (j / 128) i (j % 128)) := by
  simp only [val_main_v243, val_main_v231, val_main_v219, l_v208 H, l_v218 H, l_v230 H, l_v242 H]
  simp only [addf_mat]
  exact mat_congr fun i hi j hj => four_cols (fun p i j => -D.dp p i j) hi hj
theorem l_v252 : val_main_v252 (F := Ideal) x0 x1 x2 x3 x4 x5 x6 x7 x8 x9 x10 = mat (φ := .f32) 8192 512 (fun i j => D.q (j / 128) i (j % 128) + -nxt (2 ^ (j / 128 + 1)) (D.q (j / 128)) i (j % 128)) := by
  simp only [val_main_v252, val_main_v240, val_main_v228, l_v216 H, l_v227 H, l_v239 H, l_v251 H]
  simp only [addf_mat]
  exact mat_congr fun i hi j hj => four_cols (fun p i j => D.q p i j + -nxt (2 ^ (p + 1)) (D.q p) i j) hi hj
theorem l_v253 : val_main_v253 (F := Ideal) x0 x1 x2 x3 x4 x5 x6 x7 x8 x9 x10 = mat (φ := .f32) 8192 512 (fun i j => ∑ k ∈ range (2 ^ (j / 128 + 1)), nxt k (D.q (j / 128)) i (j % 128)) := by
  simp only [val_main_v253, val_main_call2_call0_v0, val_main_call2_call0_cst, l_v252 H]
  simp only [bd_scl, k0]
  refine (window_mat _ _ _ _ _ _).trans (mat_congr fun i hi j hj => ?_)
  exact run_window_back (D.q (j / 128)) (2 ^ (j / 128 + 1)) i (j % 128) ((Nat.pow_le_pow_right (by norm_num) (show j / 128 + 1 ≤ 4 by omega)).trans (by norm_num)) hi
theorem l_v254 : val_main_v254 (F := Ideal) x0 x1 x2 x3 x4 x5 x6 x7 x8 x9 x10 = mat (φ := .f32) 8192 512 (fun i j => D.dvp (j / 128) i (j % 128)) := by
  simp only [val_main_v254, l_v243 H, l_v253 H]
  simp only [addf_mat]
  exact mat_congr fun i hi j hj => (add_comm _ _).trans (sub_eq_add_neg _ _).symm
theorem l_v256 : val_main_v256 (F := Ideal) x0 x1 x2 x3 x4 x5 x6 x7 x8 x9 x10 = mat (φ := .f32) 8192 512 (fun i j => D.dy i j * D.conv i j) := by
  simp only [val_main_v256, l_v186 H, l_v44 H]
  simp only [mulf_mat]
theorem l_v257 : val_main_v257 (F := Ideal) x0 x1 x2 x3 x4 x5 x6 x7 x8 x9 x10 = mat (φ := .f32) 8192 512 (D.C 2) := by
  simp only [val_main_v257, l_v255 H, l_v38 H]
  simp only [mulf_mat]
  exact mat_congr fun i hi j hj => mul_comm _ _
theorem l_v264 : val_main_v264 (F := Ideal) x0 x1 x2 x3 x4 x5 x6 x7 x8 x9 x10 = mat (φ := .f32) 3 512 (fun i j => if (2 ≤ i ∧ i - 2 < 1) ∧ (0 ≤ j ∧ j - 0 < 512) then ∑ r ∈ range 8192, D.C 2 r (j - 0) else 0) := by
  simp only [val_main_v264, val_main_v263, val_main_v262, val_main_v259, val_main_v258, val_main_cst_50, val_main_cst_51, val_main_cst_52, l_v257 H]
  simp only [pad_mat, bd_vrow, hsum_cols, shapeCast_vec_row, k0, sum_range_one]
theorem l_v260 : val_main_v260 (F := Ideal) x6 = mat (φ := .f32) 8192 512 (fun _ j => D.cw 2 j) := by
  simp only [val_main_v260, val_main_v41, val_main_v40, val_main_v39]
  simp only [H.cw, bd_row, bd_vrow, shapeCast_row_vec, slice_mat]
  exact mat_congr fun i hi j hj => by simp only [zero_add, add_zero]
theorem l_v265 : val_main_v265 (F := Ideal) x0 x1 x2 x3 x4 x5 x6 x7 x8 x9 x10 = mat (φ := .f32) 8194 512 (fun i j => if (2 ≤ i ∧ i - 2 < 8192) ∧ (0 ≤ j ∧ j - 0 < 512) then D.e (i - 2) (j - 0) * D.cw 2 (j - 0) else 0) := by
  simp only [val_main_v265, val_main_v261, val_main_cst_53, l_v255 H, l_v260 H]
  simp only [pad_mat, mulf_mat, k0]
theorem l_v266 : val_main_v266 (F := Ideal) x0 x1 x2 x3 x4 x5 x6 x7 x8 x9 x10 = mat (φ := .f32) 8192 512 (D.C 1) := by
  simp only [val_main_v266, l_v255 H, l_v31 H]
  simp only [mulf_mat]
  exact mat_congr fun i hi j hj => mul_comm _ _
theorem l_v273 : val_main_v273 (F := Ideal) x0 x1 x2 x3 x4 x5 x6 x7 x8 x9 x10 = mat (φ := .f32) 3 512 (fun i j => if (1 ≤ i ∧ i - 1 < 1) ∧ (0 ≤ j ∧ j - 0 < 512) then ∑ r ∈ range 8192, D.C 1 r (j - 0) else 0) := by
  simp only [val_main_v273, val_main_v272, val_main_v271, val_main_v268, val_main_v267, val_main_cst_54, val_main_cst_55, val_main_cst_56, l_v266 H]
  simp only [pad_mat, bd_vrow, hsum_cols, shapeCast_vec_row, k0, sum_range_one]
theorem l_v269 : val_main_v269 (F := Ideal) x6 = mat (φ := .f32) 8192 512 (fun _ j => D.cw 1 j) := by
  simp only [val_main_v269, val_main_v34, val_main_v33, val_main_v32]
  simp only [H.cw, bd_row, bd_vrow, shapeCast_row_vec, slice_mat]
  exact mat_congr fun i hi j hj => by simp only [zero_add, add_zero]
theorem l_v275 : val_main_v275 (F := Ideal) x0 x1 x2 x3 x4 x5 x6 x7 x8 x9 x10 = mat (φ := .f32) 8194 512 (fun i j => if (1 ≤ i ∧ i - 1 < 8192) ∧ (0 ≤ j ∧ j - 0 < 512) then D.e (i - 1) (j - 0) * D.cw 1 (j - 0) else 0) := by
  simp only [val_main_v275, val_main_v270, val_main_cst_57, l_v255 H, l_v269 H]
  simp only [pad_mat, mulf_mat, k0]
theorem l_v277 : val_main_v277 (F := Ideal) x0 x1 x2 x3 x4 x5 x6 x7 x8 x9 x10 = mat (φ := .f32) 8192 512 (D.C 0) := by
  simp only [val_main_v277, l_v25 H, l_v255 H]
  simp only [mulf_mat]
  exact mat_congr fun i hi j hj => mul_comm _ _
theorem l_v284 : val_main_v284 (F := Ideal) x0 x1 x2 x3 x4 x5 x6 x7 x8 x9 x10 = mat (φ := .f32) 3 512 (fun i j => if (0 ≤ i ∧ i - 0 < 1) ∧ (0 ≤ j ∧ j - 0 < 512) then ∑ r ∈ range 8192, D.C 0 r (j - 0) else 0) := by
  simp only [val_main_v284, val_main_v283, val_main_v282, val_main_v279, val_main_v278, val_main_cst_58, val_main_cst_59, val_main_cst_60, l_v277 H]
  simp only [pad_mat, bd_vrow, hsum_cols, shapeCast_vec_row, k0, sum_range_one]
theorem l_v280 : val_main_v280 (F := Ideal) x6 = mat (φ := .f32) 8192 512 (fun _ j => D.cw 0 j) := by
  simp only [val_main_v280, val_main_v28, val_main_v27, val_main_v26]
  simp only [H.cw, bd_row, bd_vrow, shapeCast_row_vec, slice_mat]
  exact mat_congr fun i hi j hj => by simp only [zero_add, add_zero]
theorem l_v286 : val_main_v286 (F := Ideal) x0 x1 x2 x3 x4 x5 x6 x7 x8 x9 x10 = mat (φ := .f32) 8194 512 (fun i j => if (0 ≤ i ∧ i - 0 < 8192) ∧ (0 ≤ j ∧ j - 0 < 512) then D.e (i - 0) (j - 0) * D.cw 0 (j - 0) else 0) := by
  simp only [val_main_v286, val_main_v281, val_main_cst_61, l_v255 H, l_v280 H]
  simp only [pad_mat, mulf_mat, k0]
theorem l_v285 : val_main_v285 (F := Ideal) x0 x1 x2 x3 x4 x5 x6 x7 x8 x9 x10 = mat (φ := .f32) 3 512 (fun k j => ∑ r ∈ range 8192, D.C k r j) := by
  simp only [val_main_v285, val_main_v274, l_v264 H, l_v273 H, l_v284 H]
  simp only [addf_mat]
  exact mat_congr fun i hi j hj => by
    obtain h | h | h : i = 0 ∨ i = 1 ∨ i = 2 := by omega
    · subst h; rw [if_neg (by omega), if_neg (by omega), if_pos (by omega)]; simp
    · subst h; rw [if_neg (by omega), if_pos (by omega), if_neg (by omega)]; simp
    · subst h; rw [if_pos (by omega), if_neg (by omega), if_neg (by omega)]; simp
theorem l_v289 : val_main_v289 (F := Ideal) x0 x1 x2 x3 x4 x5 x6 x7 x8 x9 x10 = mat (φ := .f32) 8192 512 D.dcv := by
  simp only [val_main_v289, val_main_v287, val_main_v276, l_v265 H, l_v275 H, l_v286 H]
  simp only [slice_mat, addf_mat]
  exact mat_congr fun i hi j hj => by
    unfold Mix.dcv nxt
    rw [if_pos (by omega), show 2 + i - 2 = i by omega]
    by_cases h1 : i + 1 < 8192
    · rw [if_pos (by omega), if_pos h1, show 2 + i - 1 = i + 1 by omega]
      by_cases h2 : i + 2 < 8192
      · rw [if_pos (by omega), if_pos h2, show 2 + i - 0 = i + 2 by omega, zero_add, Nat.sub_zero]; ring
      · rw [if_neg (by omega), if_neg h2, zero_add, Nat.sub_zero]; ring
    · rw [if_neg (by omega), if_neg h1, if_neg (by omega), if_neg (by omega), zero_add, Nat.sub_zero]; ring
theorem l_v290 : val_main_v290 (F := Ideal) x0 x1 x2 x3 x4 x5 x6 x7 x8 x9 x10 = mat (φ := .f32) 8192 512 (fun i j => D.dcv i j * D.z i (512 + j)) := by
  simp only [val_main_v290, l_v18 H, l_v289 H]
  simp only [mulf_mat]
  exact mat_congr fun i hi j hj => mul_comm _ _
theorem l_v291 : val_main_v291 (F := Ideal) x0 x1 x2 x3 x4 x5 x6 x7 x8 x9 x10 = mat (φ := .f32) 8192 512 (fun i j => D.dcv i j * D.z i (1024 + j)) := by
  simp only [val_main_v291, l_v19 H, l_v289 H]
  simp only [mulf_mat]
theorem l_v292 : val_main_v292 (F := Ideal) x0 x1 x2 x3 x4 x5 x6 x7 x8 x9 x10 = mat (φ := .f32) 8192 2048 D.dz := by
  unfold val_main_v292
  rw [l_v256 H, l_v291 H, l_v290 H, l_v254 H]
  exact concat_blocks (φ := .f32) (m := 8192) (n := 2048) D.dz [(512, fun i j => D.dy i j * D.conv i j), (512, fun i j => D.dcv i j * D.z i (1024 + j)), (512, fun i j => D.dcv i j * D.z i (512 + j)), (512, fun i j => D.dvp (j / 128) i (j % 128))] _ fun l hl i _ j hj => by
    match l, hl with
    | 0, _ => exact (congrArg (D.dz i) (Nat.zero_add j)).trans (if_pos hj)
    | 1, _ =>
      have hj : j < 512 := hj
      show D.dz i (512 + j) = D.dcv i j * D.z i (1024 + j)
      unfold Mix.dz; rw [if_neg (by omega), if_pos (by omega), show 512 + j - 512 = j by omega]
    | 2, _ =>
      have hj : j < 512 := hj
      show D.dz i (1024 + j) = D.dcv i j * D.z i (512 + j)
      unfold Mix.dz; rw [if_neg (by omega), if_neg (by omega), if_pos (by omega), show 1024 + j - 1024 = j by omega]
    | 3, _ =>
      show D.dz i (1536 + j) = D.dvp (j / 128) i (j % 128)
      unfold Mix.dz; rw [if_neg (by omega), if_neg (by omega), if_neg (by omega), show 1536 + j - 1536 = j by omega]
theorem l_v293 : val_main_v293 (F := Ideal) x0 x1 x2 x3 x4 x5 x6 x7 x8 x9 x10 = mat (φ := .f32) 8192 1024 D.dh := by
  simp only [val_main_v293, l_v292 H]
  simp only [H.wi]
  exact dot_t_mat _ _ _ rfl _ _
theorem l_v10 : val_main_v10 (F := Ideal) x2 x3 x4 = mat (φ := .f32) 1 1024 (fun i j => 1 + D.md (1 + i) j) := by
  simp only [val_main_v10, val_main_v9, val_main_cst_1, val_main_v5, H.md]
  simp only [addf_mat, bd_smat, k1, slice_mat]
  exact mat_congr fun i hi j hj => by simp only [zero_add]
theorem l_v301 : val_main_v301 (F := Ideal) x0 x1 x2 x3 x4 x5 x6 x7 x8 x9 x10 = mat (φ := .f32) 8192 1024 D.dx := by
  simp only [val_main_v301, val_main_v184, val_main_v183, val_main_cst_36, val_main_v300, val_main_v299, l_v10 H, l_v177 H, l_v293 H]
  simp only [addf_mat, mulf_mat, bd_smat, ka, bd_row]
  exact mat_congr fun i hi j hj => by simp only [add_zero]; rfl
theorem l_v148 : val_main_v148 (F := Ideal) x0 = mat (φ := .f32) 1 1024 (fun _ j => ∑ i ∈ range 8192, D.A 1 i j) := by
  simp only [val_main_v148, val_main_v147, val_main_cst_26]
  simp only [H.g, shapeCast_vec_row, hsum_cols, k0]
  rfl
theorem l_v151 : val_main_v151 (F := Ideal) x0 x1 x2 x3 x4 x5 x6 x7 x8 x9 = mat (φ := .f32) 1 1024 (fun _ j => ∑ i ∈ range 8192, D.A 0 i j) := by
  simp only [val_main_v151, val_main_v150, val_main_v149, val_main_v146, val_main_cst_27, l_v141 H]
  simp only [H.g, shapeCast_vec_row, hsum_cols, mulf_mat, shapeCast_mat_self, k0]
  exact mat_congr fun i hi j hj => sum_congr rfl fun r _ => mul_comm _ _
theorem l_v182 : val_main_v182 (F := Ideal) x0 x1 x2 x3 x4 x5 x6 x7 x8 x9 x10 = mat (φ := .f32) 1 1024 (fun _ j => ∑ i ∈ range 8192, D.A 4 i j) := by
  simp only [val_main_v182, val_main_v181, val_main_v180, val_main_cst_35, H.mix, l_v177 H]
  simp only [shapeCast_vec_row, hsum_cols, mulf_mat, k0]
  rfl
theorem l_v295 : val_main_v295 (F := Ideal) x0 x1 x2 x3 x4 x5 x6 x7 x8 x9 x10 = mat (φ := .f32) 1 1024 (fun _ j => ∑ i ∈ range 8192, D.A 2 i j) := by
  simp only [val_main_v295, val_main_v294, val_main_cst_62, l_v293 H]
  simp only [shapeCast_vec_row, hsum_cols, k0]
  rfl
theorem l_v298 : val_main_v298 (F := Ideal) x0 x1 x2 x3 x4 x5 x6 x7 x8 x9 x10 = mat (φ := .f32) 1 1024 (fun _ j => ∑ i ∈ range 8192, D.A 3 i j) := by
  simp only [val_main_v298, val_main_v297, val_main_v296, val_main_cst_63, l_v293 H]
  simp only [H.x, shapeCast_vec_row, hsum_cols, mulf_mat, k0]
  exact mat_congr fun i hi j hj => sum_congr rfl fun r _ => mul_comm _ _
theorem l_v302 : val_main_v302 (F := Ideal)  = mat (φ := .f32) 3 1024 (fun _ _ => 0) := by
  simp only [val_main_v302, val_main_cst_64]
  simp only [bd_smat, k0]
theorem l_v304 : val_main_v304 (F := Ideal)  = mat (φ := .f32) 4 512 (fun _ _ => 0) := by
  simp only [val_main_v304, val_main_cst_65]
  simp only [bd_smat, k0]
theorem l_v303 : val_main_v303 (F := Ideal) x0 x1 x2 x3 x4 x5 x6 x7 x8 x9 x10 = mat (φ := .f32) 8 1024 fun i j => if i < 5 then ∑ r ∈ range 8192, D.A i r j else 0 := by
  unfold val_main_v303
  rw [l_v151 H, l_v148 H, l_v295 H, l_v298 H, l_v182 H, l_v302 H]
  funext i
  have hi : (i 0).val < 8 := (i 0).isLt
  show _ = (((if (i 0).val < 5 then ∑ r ∈ range 8192, D.A (i 0).val r (i 1).val else 0 : ℝ)) : EReal)
  obtain h | h | h | h | h | h : (i 0).val = 0 ∨ (i 0).val = 1 ∨ (i 0).val = 2 ∨ (i 0).val = 3 ∨ (i 0).val = 4 ∨ 5 ≤ (i 0).val := by omega
  · refine (concat_row (p := 1) (fun _ j => ∑ r ∈ range 8192, D.A 0 r j) _ _ i 0 (by exact show 0 < 6 by norm_num) rfl 0 rfl (by omega) (by omega)).trans ?_
    rw [h, if_pos (by norm_num)]
  · refine (concat_row (p := 1) (fun _ j => ∑ r ∈ range 8192, D.A 1 r j) _ _ i 1 (by exact show 1 < 6 by norm_num) rfl 1 rfl (by omega) (by omega)).trans ?_
    rw [h, if_pos (by norm_num)]
  · refine (concat_row (p := 1) (fun _ j => ∑ r ∈ range 8192, D.A 2 r j) _ _ i 2 (by exact show 2 < 6 by norm_num) rfl 2 rfl (by omega) (by omega)).trans ?_
    rw [h, if_pos (by norm_num)]
  · refine (concat_row (p := 1) (fun _ j => ∑ r ∈ range 8192, D.A 3 r j) _ _ i 3 (by exact show 3 < 6 by norm_num) rfl 3 rfl (by omega) (by omega)).trans ?_
    rw [h, if_pos (by norm_num)]
  · refine (concat_row (p := 1) (fun _ j => ∑ r ∈ range 8192, D.A 4 r j) _ _ i 4 (by exact show 4 < 6 by norm_num) rfl 4 rfl (by omega) (by omega)).trans ?_
    rw [h, if_pos (by norm_num)]
  · refine (concat_row (p := 3) (fun _ _ => 0) _ _ i 5 (by exact show 5 < 6 by norm_num) rfl 5 rfl (by omega) (by omega)).trans ?_
    rw [if_neg (by omega)]
theorem l_v305 : val_main_v305 (F := Ideal) x0 x1 x2 x3 x4 x5 x6 x7 x8 x9 x10 = mat (φ := .f32) 8 512 fun i j => if i < 4 then ∑ r ∈ range 8192, D.C i r j else 0 := by
  unfold val_main_v305
  rw [l_v285 H, l_v190 H, l_v304 H]
  funext i
  have hi : (i 0).val < 8 := (i 0).isLt
  show _ = (((if (i 0).val < 4 then ∑ r ∈ range 8192, D.C (i 0).val r (i 1).val else 0 : ℝ)) : EReal)
  obtain h | h | h : (i 0).val < 3 ∨ (i 0).val = 3 ∨ 4 ≤ (i 0).val := by omega
  · refine (concat_row (p := 3) (fun k j => ∑ r ∈ range 8192, D.C k r j) _ _ i 0 (by exact show 0 < 3 by norm_num) rfl 0 rfl (by omega) (by omega)).trans ?_
    rw [Nat.sub_zero, if_pos (by omega)]
  · refine (concat_row (p := 1) (fun _ j => ∑ r ∈ range 8192, D.C 3 r j) _ _ i 1 (by exact show 1 < 3 by norm_num) rfl 3 rfl (by omega) (by omega)).trans ?_
    rw [h, if_pos (by norm_num)]
  · refine (concat_row (p := 4) (fun _ _ => 0) _ _ i 2 (by exact show 2 < 3 by norm_num) rfl 4 rfl (by omega) (by omega)).trans ?_
    rw [if_neg (by omega)]
theorem l_v306 : val_main_v306 (F := Ideal) x0 x1 x2 x3 x4 x5 x6 x7 x8 x9 x10 = mat (φ := .bf16) 8192 1024 D.dm := by
  simp only [val_main_v306, l_v179 H]
  simp only [truncf_mat]
theorem l_v307 : val_main_v307 (F := Ideal) x1 x2 x3 x4 x5 x6 x7 x8 = mat (φ := .bf16) 8192 1024 D.yc := by
  simp only [val_main_v307, l_v109 H]
  simp only [truncf_mat]
theorem l_v308 : val_main_v308 (F := Ideal) x0 x1 x2 x3 x4 x5 x6 x7 x8 x9 x10 = mat (φ := .bf16) 8192 2048 D.dz := by
  simp only [val_main_v308, l_v292 H]
  simp only [truncf_mat]

end Cert.MixRef

end
-- ==== Proof.MixPoint.lean ====
/- What one grid point of the mixer's backward kernel computes from real blocks. -/
module

public import proofs.«01_k».proof.Proof.MixReal
public import proofs.«01_k».proof.Proof.MixMat
public import proofs.«01_k».proof.Proof.Gen.Kernel2Ideal.Skeleton

@[expose] public section

set_option maxRecDepth 16384
set_option backward.isDefEq.respectTransparency false

noncomputable section

namespace Cert.MixPoint

open Finset Cert.RealMat Cert.MlpReal Cert.MixReal Idealize.ShloMosaic Cert.Kernel2Ideal Cert.Kernel2Ideal.Gen

theorem dot_dy : dot_S512x1024_S1024x1024_S512x1024_1_1_0_0_n_n = DotDims.transposedRhs 512 1024 1024 := rfl
theorem dot_dh : dot_S512x2048_S1024x2048_S512x1024_1_1_0_0_n_n = DotDims.transposedRhs 512 2048 1024 := rfl
theorem dot_pw : dot_S512x128_S128x128_S512x128_1_0_0_1_n_n = DotDims.plain 512 128 128 := rfl
theorem dot_dp : dot_S512x128_S128x128_S512x128_1_1_0_0_n_n = DotDims.transposedRhs 512 128 128 := rfl
theorem dot_gw : dot_S512x128_S512x128_S128x128_0_0_1_1_n_n = plainT 128 512 128 dot_S512x128_S512x128_S128x128_0_0_1_1_n_n.wf := rfl

/-- A row of real numbers. -/
abbrev row (n : ℕ) (f : ℕ → ℝ) : FVec Ideal ⟨2, ![1, n]⟩ .f32 := mat 1 n fun _ => f
/-- A column of 512 real numbers. -/
abbrev col (f : ℕ → ℝ) : FVec Ideal S512x1 .f32 := mat 512 1 fun i _ => f i
abbrev blk (n : ℕ) (f : ℕ → ℕ → ℝ) : FVec Ideal ⟨2, ![512, n]⟩ .f32 := mat 512 n f
abbrev blkB (n : ℕ) (f : ℕ → ℕ → ℝ) : FVec Ideal ⟨2, ![512, n]⟩ .bf16 := mat 512 n f
abbrev ext (n : ℕ) (f : ℕ → ℕ → ℝ) : FVec Ideal ⟨2, ![528, n]⟩ .f32 := mat 528 n f
abbrev slab (f : ℕ → ℕ → ℝ) : FVec Ideal S1x128x128 .f32 := ten 1 128 128 fun _ => f
/-- The 16 rows before block `t`, the first 16 for the first block. -/
abbrev halo (D : Mix) (t : ℕ) : FVec Ideal S16x2048 .bf16 := mat 16 2048 fun i j => D.z (16 * (32 * t - 1) + i) j
abbrev word (t : ℕ) : BitVec 32 := BitVec.ofNat 32 t

/-- The reciprocal of a row's window length, as the kernel computes it. -/
theorem inv_cnt (p t : ℕ) (ht : t < 16) (hp : p ≤ 3) (i : S512x1.Idx) :
    Ideal.div ((1 : ℝ) : EReal) (((IntOp.minsi (word t * 512#32 + BitVec.ofNat 32 (0 * 512 + (i 0).val) + 1#32) (BitVec.ofNat 32 (2 ^ (p + 1)))).toInt : ℝ) : EReal)
      = ((1 / cnt p (512 * t + (i 0).val) : ℝ) : EReal) := by
  have hi : (i 0).val < 512 := (i 0).isLt
  have h2 := pow_le_16 hp
  have hw : word t * 512#32 + BitVec.ofNat 32 (0 * 512 + (i 0).val) + 1#32 = BitVec.ofNat 32 (512 * t + (i 0).val + 1) := by
    apply BitVec.eq_of_toNat_eq
    simp only [BitVec.toNat_add, BitVec.toNat_mul, BitVec.toNat_ofNat]
    omega
  have hn : ∀ n : ℕ, n < 10000 → (BitVec.ofNat 32 n).toInt = n := fun n hn => by
    rw [BitVec.toInt_eq_toNat_of_lt] <;> rw [BitVec.toNat_ofNat] <;> omega
  have hm : (IntOp.minsi (BitVec.ofNat 32 (512 * t + (i 0).val + 1)) (BitVec.ofNat 32 (2 ^ (p + 1)))).toInt = (min (512 * t + (i 0).val + 1) (2 ^ (p + 1)) : ℕ) := by
    unfold IntOp.minsi BitVec.slt
    rw [hn _ (by omega), hn _ (by omega)]
    by_cases h : 512 * t + (i 0).val + 1 < 2 ^ (p + 1)
    · rw [if_pos (decide_eq_true (by exact_mod_cast h)), hn _ (by omega), min_eq_left h.le]
    · rw [if_neg (fun h' => h (by exact_mod_cast of_decide_eq_true h')), hn _ (by omega), min_eq_right (by omega)]
  rw [hw, hm]
  refine (congrArg (fun x : ℝ => Ideal.div ((1 : ℝ) : EReal) (x : EReal)) (Int.cast_natCast _)).trans ?_
  exact ediv_coe _ _ (cnt_pos p (512 * t + (i 0).val)).ne'

variable (D : Mix) (t : ℕ)

theorem pay5 : k0_pay5 (F := Ideal)
    = mat 8 1024 fun _ _ => 0 := by
  simp only [k0_pay5, broadcast_mat, ofBits_zero]

theorem pay6 : k0_pay6 (F := Ideal)
    = mat 8 512 fun _ _ => 0 := by
  simp only [k0_pay6, broadcast_mat, ofBits_zero]

theorem pay7 : k0_pay7 (F := Ideal) = ten 4 128 128 fun _ _ _ => 0 := by
  simp only [k0_pay7, ofBits_zero]; rfl

theorem pay8 : k0_pay8 (F := Ideal)
    = mat 16 512 fun _ _ => 0 := by
  simp only [k0_pay8, shapeCast_mat_self, broadcast_mat, ofBits_zero]

theorem pay9 : k0_pay9 (F := Ideal)
    = mat 16 512 fun _ _ => 0 := by
  simp only [k0_pay9, shapeCast_mat_self, broadcast_mat, ofBits_zero]

theorem pay3 (f : ℕ → ℕ → ℝ) : k0_pay3 (F := Ideal) (mat (φ := .f32) 16 512 f) = mat 16 512 f := by
  simp only [k0_pay3, shapeCast_mat_self]
theorem pay4 (f : ℕ → ℕ → ℝ) : k0_pay4 (F := Ideal) (mat (φ := .f32) 16 512 f) = mat 16 512 f := by
  simp only [k0_pay4, shapeCast_mat_self]

theorem pay10 : k0_pay10 (F := Ideal) (row 1024 (D.md 1))
    = row 1024 (D.md 1) := by
  simp only [k0_pay10, shapeCast_mat_self]

theorem pay11 : k0_pay11 (F := Ideal) (row 1024 (D.md 2))
    = row 1024 (D.md 2) := by
  simp only [k0_pay11, shapeCast_mat_self]

theorem pay12 : k0_pay12 (F := Ideal) (blk 1024 (rows t D.xh))
    = blk 1024 (rows t D.xh) := by
  simp only [k0_pay12, shapeCast_mat_self]

theorem pay13 (a : ℕ → ℝ) : k0_pay13 (F := Ideal) (blk 1024 (rows t D.g)) (blk 1024 (rows t D.xh)) (row 1024 a)
    = row 1024 fun j => a j + sumr t (D.A 0) j := by
  simp only [k0_pay13, pay12, shapeCast_mat_self, mulf_mat, addf_mat, rotate_mat, sum_rows_mat, sum_cols_mat, shapeCast_vec_row, constant_mat_zero, ofBits_zero, zero_add]; rfl

theorem pay14 (a : ℕ → ℝ) : k0_pay14 (F := Ideal) (blk 1024 (rows t D.g)) (row 1024 a)
    = row 1024 fun j => a j + sumr t (D.A 1) j := by
  simp only [k0_pay14, shapeCast_mat_self, addf_mat, rotate_mat, sum_rows_mat, sum_cols_mat, shapeCast_vec_row, constant_mat_zero, ofBits_zero, zero_add]; rfl

theorem pay15 : k0_pay15 (F := Ideal) (blk 1024 (rows t D.g)) (row 1024 (D.ln 0))
    = blk 1024 (rows t D.u) := by
  simp only [k0_pay15, shapeCast_mat_self, broadcastTo_row, mulf_mat]; rfl

theorem pay16 : k0_pay16 (F := Ideal) (col fun i => D.rs (512 * t + i))
    = col fun i => D.rs (512 * t + i) := by
  simp only [k0_pay16, shapeCast_mat_self]

theorem pay17 : k0_pay17 (F := Ideal) (blk 1024 (rows t D.xh)) (blk 1024 (rows t D.u)) (col fun i => D.rs (512 * t + i))
    = blk 1024 (rows t D.dr) := by
  simp only [k0_pay17, shapeCast_mat_self, broadcastTo_col, broadcast_mat, mulf_mat, subf_mat, rotate_mat, sum_rows_mat, sum_cols_mat, shapeCast_vec_col, constant_mat_zero, divf_mat_1024, ofBits_zero, ofBits_1024, zero_add]; rfl

theorem pay18 (a : ℕ → ℝ) : k0_pay18 (F := Ideal) (blk 1024 (rows t D.xh)) (blk 1024 (rows t D.u)) (col fun i => D.rs (512 * t + i)) (row 1024 a) (blk 1024 (rows t D.mix))
    = row 1024 fun j => a j + sumr t (D.A 4) j := by
  simp only [k0_pay18, pay17, shapeCast_mat_self, mulf_mat, addf_mat, rotate_mat, sum_rows_mat, sum_cols_mat, shapeCast_vec_row, constant_mat_zero, ofBits_zero, zero_add]; rfl

theorem pay19 : k0_pay19 (F := Ideal) (row 1024 (D.md 2)) (blk 1024 (rows t D.xh)) (blk 1024 (rows t D.u)) (col fun i => D.rs (512 * t + i))
    = blkB 1024 (rows t D.dm) := by
  simp only [k0_pay19, pay17, broadcastTo_row, broadcast_mat, mulf_mat, addf_mat, truncf_mat, ofBits_one]; rfl

theorem pay20 : k0_pay20 (F := Ideal) (row 1024 (D.md 2)) (blk 1024 (rows t D.xh)) (blk 1024 (rows t D.u)) (col fun i => D.rs (512 * t + i)) (mat (φ := .bf16) 1024 1024 D.wo)
    = blk 1024 (rows t D.dy) := by
  simp only [k0_pay20, pay19, shapeCast_mat_self, constant_mat_zero, dot_dy, matmul_transposed, ofBits_zero, zero_add]; rfl

theorem pay21 : k0_pay21 (F := Ideal) (blkB 2048 (rows t D.z))
    = blk 2048 (rows t D.z) := by
  simp only [k0_pay21, shapeCast_mat_self, extf_mat]

theorem pay22 (ht : t < 16) : k0_pay22 (F := Ideal) (word t) (halo D t) = mat 16 2048 (lo t D.z) := by
  have h : Scalar.select (Scalar.cmpi .sgt (word t) 0#32) (((1 : ℝ) : EReal) : Ideal .f32) ((0 : ℝ) : EReal) = (((if t = 0 then 0 else 1) : ℝ) : EReal) := by
    interval_cases t <;> simp [Scalar.cmpi, IntOp.cmpi, Scalar.select] <;> decide
  simp only [k0_pay22, shapeCast_mat_self, extf_mat, ofBits_one, ofBits_zero]
  rw [h]
  simp only [broadcast_mat, mulf_mat]
  refine mat_congr fun i hi j _ => ?_
  unfold lo
  by_cases h0 : t = 0
  · rw [if_pos h0, if_pos (by omega), mul_zero]
  · rw [if_neg h0, if_neg (by omega), mul_one]
    exact congrArg (D.z · j) (by omega)

theorem pay23 : k0_pay23 (F := Ideal) (blk 2048 (rows t D.z))
    = blk 512 (rows t D.z) := by
  simp only [k0_pay23, slice_mat, zero_add]

theorem pay24 : k0_pay24 (F := Ideal) (blk 2048 (rows t D.z))
    = blk 512 (rows t fun i j => D.z i (512 + j)) := by
  simp only [k0_pay24, slice_mat, zero_add]; rfl

theorem pay25 : k0_pay25 (F := Ideal) (blk 2048 (rows t D.z))
    = blk 512 (rows t fun i j => D.z i (1024 + j)) := by
  simp only [k0_pay25, slice_mat, zero_add]; rfl

theorem pay26 : k0_pay26 (F := Ideal) (blk 2048 (rows t D.z))
    = blk 512 (rows t D.vp) := by
  simp only [k0_pay26, slice_mat, zero_add]; rfl

theorem pay27 : k0_pay27 (F := Ideal) (blk 2048 (rows t D.z))
    = blk 512 (rows t D.cv) := by
  simp only [k0_pay27, pay24, pay25, mulf_mat]; rfl

theorem lo_mul (f g : ℕ → ℕ → ℝ) : (fun i j => lo t f i j * lo t g i j) = lo t fun i j => f i j * g i j := by
  funext i j
  unfold lo
  by_cases h : 512 * t + i < 16
  · rw [if_pos h, if_pos h, if_pos h, mul_zero]
  · rw [if_neg h, if_neg h, if_neg h]
theorem pay28 (ht : t < 16) : k0_pay28 (F := Ideal) (word t) (halo D t) = mat 16 512 (lo t D.cv) := by
  simp only [k0_pay28, pay22 D t ht, slice_mat, mulf_mat, shapeCast_mat_self, zero_add]
  exact congrArg (mat (φ := .f32) 16 512) (lo_mul t (fun i j => D.z i (512 + j)) fun i j => D.z i (1024 + j))
theorem pay30 (ht : t < 16) : k0_pay30 (F := Ideal) (word t) (halo D t) = mat 16 512 (lo t D.vp) := by
  simp only [k0_pay30, pay22 D t ht, slice_mat, mulf_mat, shapeCast_mat_self, zero_add]; rfl

theorem pay29 : k0_pay29 (F := Ideal) (blk 2048 (rows t D.z))
    = blk 512 (rows t D.cv) := by
  simp only [k0_pay29, pay27, shapeCast_mat_self]

theorem pay31 : k0_pay31 (F := Ideal) (blk 2048 (rows t D.z))
    = blk 512 (rows t D.vp) := by
  simp only [k0_pay31, pay26, shapeCast_mat_self]

theorem pay32 : k0_pay32 (F := Ideal) (ext 512 (lo t D.cv))
    = blk 512 (rows t (prv 2 D.cv)) := by
  simp only [k0_pay32, slice_mat, rotate_mat, zero_add]
  rw [rotate_mat, slice_mat]
  simp only [zero_add]
  exact mat_congr fun i hi j _ => lo_roll t 2 D.cv j hi (by norm_num)

theorem pay33 : k0_pay33 (F := Ideal) (ext 512 (lo t D.cv))
    = blk 512 (rows t (prv 1 D.cv)) := by
  simp only [k0_pay33, slice_mat, rotate_mat, zero_add]
  rw [rotate_mat, slice_mat]
  simp only [zero_add]
  exact mat_congr fun i hi j _ => lo_roll t 1 D.cv j hi (by norm_num)

theorem pay34 : k0_pay34 (F := Ideal) (blk 512 (rows t D.cv)) (blk 512 (rows t (prv 2 D.cv))) (blk 512 (rows t (prv 1 D.cv))) (row 512 (D.cw 0)) (row 512 (D.cw 1)) (row 512 (D.cw 2))
    = blk 512 (rows t D.conv) := by
  simp only [k0_pay34, broadcastTo_row, mulf_mat, addf_mat]; rfl

theorem pay35 : k0_pay35 (F := Ideal) (blk 1024 (rows t D.dy))
    = blk 512 (rows t D.dy) := by
  simp only [k0_pay35, slice_mat, zero_add]

theorem pay36 : k0_pay36 (F := Ideal) (blk 1024 (rows t D.dy)) (blk 512 (rows t D.z))
    = blk 512 (rows t D.e) := by
  simp only [k0_pay36, pay35, mulf_mat]; rfl

theorem pay37 : k0_pay37 (F := Ideal) (blk 1024 (rows t D.dy)) (blk 512 (rows t D.z))
    = blk 512 (rows t D.e) := by
  simp only [k0_pay37, pay36, shapeCast_mat_self]

theorem pay38 : k0_pay38 (F := Ideal) (blk 1024 (rows t D.dy)) (blk 512 (rows t D.z)) (row 512 (D.cw 0)) (row 512 (D.cw 1)) (row 512 (D.cw 2)) (ext 512 (hi t D.e))
    = blk 512 (rows t D.dcv) := by
  simp only [k0_pay38, pay36, broadcastTo_row, mulf_mat, addf_mat, slice_mat, rotate_mat, zero_add]
  rw [rotate_mat, rotate_mat, slice_mat, slice_mat, mulf_mat, mulf_mat, addf_mat, addf_mat]
  simp only [zero_add]
  refine mat_congr fun i h j _ => ?_
  refine congrArg₂ (· + ·) (congrArg₂ (· + ·) rfl (congrArg (D.cw 1 j * ·) ?_)) (congrArg (D.cw 0 j * ·) ?_)
  · exact hi_roll t 1 D.e j h (by norm_num) 527 rfl
  · exact hi_roll t 2 D.e j h (by norm_num) 526 rfl

theorem pay39 (a : ℕ → ℝ) : k0_pay39 (F := Ideal) (blk 1024 (rows t D.dy)) (blk 512 (rows t D.z)) (blk 512 (rows t (prv 2 D.cv))) (row 512 a)
    = row 512 fun j => a j + sumr t (D.C 0) j := by
  simp only [k0_pay39, pay36, shapeCast_mat_self, mulf_mat, addf_mat, rotate_mat, sum_rows_mat, sum_cols_mat, shapeCast_vec_row, constant_mat_zero, ofBits_zero, zero_add]; rfl

theorem pay40 (a : ℕ → ℝ) : k0_pay40 (F := Ideal) (blk 1024 (rows t D.dy)) (blk 512 (rows t D.z)) (blk 512 (rows t (prv 1 D.cv))) (row 512 a)
    = row 512 fun j => a j + sumr t (D.C 1) j := by
  simp only [k0_pay40, pay36, shapeCast_mat_self, mulf_mat, addf_mat, rotate_mat, sum_rows_mat, sum_cols_mat, shapeCast_vec_row, constant_mat_zero, ofBits_zero, zero_add]; rfl

theorem pay41 (a : ℕ → ℝ) : k0_pay41 (F := Ideal) (blk 512 (rows t D.cv)) (blk 512 (rows t D.e)) (row 512 a)
    = row 512 fun j => a j + sumr t (D.C 2) j := by
  simp only [k0_pay41, shapeCast_mat_self, mulf_mat, addf_mat, rotate_mat, sum_rows_mat, sum_cols_mat, shapeCast_vec_row, constant_mat_zero, ofBits_zero, zero_add]; rfl

theorem pay42 : k0_pay42 (F := Ideal) (blk 512 (rows t D.z)) (blk 512 (rows t D.conv))
    = blk 512 (rows t fun i j => D.z i j * D.conv i j) := by
  simp only [k0_pay42, mulf_mat]; rfl

theorem pay43 : k0_pay43 (F := Ideal) (blk 512 (rows t D.conv)) (blk 512 (rows t D.dy))
    = blk 512 (rows t fun i j => D.dy i j * D.conv i j) := by
  simp only [k0_pay43, mulf_mat]; rfl

theorem pay44 : k0_pay44 (F := Ideal) (blk 512 (rows t fun i j => D.z i (1024 + j))) (blk 512 (rows t D.dcv))
    = blk 512 (rows t fun i j => D.dcv i j * D.z i (1024 + j)) := by
  simp only [k0_pay44, mulf_mat]; rfl

theorem pay45 : k0_pay45 (F := Ideal) (blk 512 (rows t fun i j => D.z i (512 + j))) (blk 512 (rows t D.dcv))
    = blk 512 (rows t fun i j => D.dcv i j * D.z i (512 + j)) := by
  simp only [k0_pay45, mulf_mat]; rfl

theorem pay47 : k0_pay47 (F := Ideal) (ext 512 (lo t D.vp))
    = ext 512 (lev 0 (lo t D.vp)) := by
  simp only [k0_pay47, addf_mat, rotate_mat]; rfl

theorem pay48 : k0_pay48 (F := Ideal) (ext 512 (lo t D.vp))
    = ext 384 fun i j => lev 1 (lo t D.vp) i (128 + j) := by
  simp only [k0_pay48, pay47, addf_mat, slice_mat, rotate_mat, zero_add]; rfl

theorem pay50 : k0_pay50 (F := Ideal) (ext 512 (lo t D.vp))
    = ext 256 fun i j => lev 2 (lo t D.vp) i (256 + j) := by
  simp only [k0_pay50, pay48, addf_mat, slice_mat, rotate_mat, zero_add]
  rw [rotate_mat, addf_mat]
  exact mat_congr fun i _ j _ => by rw [← Nat.add_assoc]; rfl

theorem pay49 : k0_pay49 (F := Ideal) (ext 512 (lo t D.vp))
    = blk 128 (rows t (D.wn 1)) := by
  simp only [k0_pay49, pay48, slice_mat, zero_add]
  refine mat_congr fun i hi j _ => ?_
  exact lev_lo t 1 D.vp (128 + j) hi (by norm_num)

theorem pay51 : k0_pay51 (F := Ideal) (ext 512 (lo t D.vp))
    = blk 128 (rows t (D.wn 2)) := by
  simp only [k0_pay51, pay50, slice_mat, zero_add]
  refine mat_congr fun i hi j _ => ?_
  exact lev_lo t 2 D.vp (256 + j) hi (by norm_num)

theorem pay52 : k0_pay52 (F := Ideal) (ext 512 (lo t D.vp))
    = blk 128 (rows t (D.wn 3)) := by
  simp only [k0_pay52, pay50, addf_mat, slice_mat, rotate_mat, zero_add]
  rw [rotate_mat, addf_mat, slice_mat]
  refine mat_congr fun i hi j _ => ?_
  exact (congrArg (lev 3 _ (16 + i)) (by omega)).trans <| lev_lo t 3 D.vp (384 + j) hi (by norm_num)

theorem pay53 (ht : t < 16) : k0_pay53 (F := Ideal) (word t) = col fun i => 1 / cnt 0 (512 * t + i) := by
  funext i
  refine (congrArg (fun x : EReal => Ideal.div x _) ofBits_one).trans ?_
  exact inv_cnt 0 t ht (by norm_num) i

theorem pay56 (ht : t < 16) : k0_pay56 (F := Ideal) (k0_pay55 (word t)) = col fun i => 1 / cnt 1 (512 * t + i) := by
  funext i
  refine (congrArg (fun x : EReal => Ideal.div x _) ofBits_one).trans ?_
  exact inv_cnt 1 t ht (by norm_num) i

theorem pay58 (ht : t < 16) : k0_pay58 (F := Ideal) (k0_pay46 (word t)) = col fun i => 1 / cnt 2 (512 * t + i) := by
  funext i
  refine (congrArg (fun x : EReal => Ideal.div x _) ofBits_one).trans ?_
  exact inv_cnt 2 t ht (by norm_num) i

theorem pay60 (ht : t < 16) : k0_pay60 (F := Ideal) (k0_pay46 (word t)) = col fun i => 1 / cnt 3 (512 * t + i) := by
  funext i
  refine (congrArg (fun x : EReal => Ideal.div x _) ofBits_one).trans ?_
  exact inv_cnt 3 t ht (by norm_num) i

theorem pay54 (ht : t < 16) : k0_pay54 (F := Ideal) (word t) (blk 512 (rows t D.vp)) (ext 512 (lo t D.vp)) = blk 128 (rows t (D.ft 0)) := by
  simp only [k0_pay54, pay53 t ht, pay47, slice_mat, broadcastTo_col, mulf_mat, subf_mat, zero_add]
  refine mat_congr fun i hi j _ => ?_
  refine congrArg₂ (· - ·) (congrArg (· * _) ?_) ?_
  · refine (lev_lo t 0 D.vp j hi (by norm_num)).trans ?_
    exact sum_congr rfl fun k _ => by unfold rows; rw [Nat.mul_zero, Nat.zero_add]
  · show D.vp _ j = D.vp _ (128 * 0 + j)
    rw [Nat.mul_zero, Nat.zero_add]

theorem pay57 (ht : t < 16) : k0_pay57 (F := Ideal) (blk 512 (rows t D.vp)) (blk 128 (rows t (D.wn 1))) (k0_pay55 (word t)) = blk 128 (rows t (D.ft 1)) := by
  simp only [k0_pay57, pay56 t ht, slice_mat, broadcastTo_col, mulf_mat, subf_mat, zero_add]; rfl

theorem pay59 (ht : t < 16) : k0_pay59 (F := Ideal) (blk 512 (rows t D.vp)) (k0_pay46 (word t)) (blk 128 (rows t (D.wn 2))) = blk 128 (rows t (D.ft 2)) := by
  simp only [k0_pay59, pay58 t ht, slice_mat, broadcastTo_col, mulf_mat, subf_mat, zero_add]; rfl

theorem pay61 (ht : t < 16) : k0_pay61 (F := Ideal) (blk 512 (rows t D.vp)) (k0_pay46 (word t)) (blk 128 (rows t (D.wn 3))) = blk 128 (rows t (D.ft 3)) := by
  simp only [k0_pay61, pay60 t ht, slice_mat, broadcastTo_col, mulf_mat, subf_mat, zero_add]; rfl

theorem pay62 : k0_pay62 (F := Ideal) (blk 128 (rows t (D.ft 0)))
    = blkB 128 (rows t (D.ft 0)) := by
  simp only [k0_pay62, truncf_mat]

theorem pay63 : k0_pay63 (F := Ideal) (slab (D.wp 0))
    = mat (φ := .bf16) 128 128 (D.wp 0) := by
  simp only [k0_pay63, truncf_mat, shapeCast_ten_mat, shapeCast_mat_ten]

theorem pay64 : k0_pay64 (F := Ideal) (blk 128 (rows t (D.ft 0))) (slab (D.wp 0))
    = blk 128 (rows t (D.pw 0)) := by
  simp only [k0_pay64, pay62, pay63, constant_mat_zero, dot_pw, matmul_plain, ofBits_zero, zero_add]; rfl

theorem pay65 : k0_pay65 (F := Ideal) (blk 128 (rows t (D.ft 0))) (row 128 fun j => D.ps (128 * 0 + j)) (slab (D.wp 0))
    = blk 128 (rows t (D.yp 0)) := by
  simp only [k0_pay65, pay64, broadcastTo_row, mulf_mat]; rfl

theorem pay66 : k0_pay66 (F := Ideal) (blk 1024 (rows t D.dy))
    = blk 128 (rows t (D.dyp 0)) := by
  simp only [k0_pay66, slice_mat, zero_add]
  exact mat_congr fun i _ j _ => congrArg (D.dy _) (by omega)

theorem pay67 : k0_pay67 (F := Ideal) (blk 1024 (rows t D.dy)) (blk 128 (rows t (D.ft 0))) (slab (D.wp 0))
    = row 128 (sumr t fun i j => D.dyp 0 i j * D.pw 0 i j) := by
  simp only [k0_pay67, pay66, pay64, shapeCast_mat_self, mulf_mat, rotate_mat, sum_rows_mat, sum_cols_mat, shapeCast_vec_row, constant_mat_zero, ofBits_zero, zero_add]; rfl

theorem pay68 : k0_pay68 (F := Ideal) (blk 1024 (rows t D.dy)) (row 128 fun j => D.ps (128 * 0 + j))
    = blk 128 (rows t (D.dpw 0)) := by
  simp only [k0_pay68, pay66, broadcastTo_row, mulf_mat]; rfl

theorem pay69 : k0_pay69 (F := Ideal) (blk 128 (rows t (D.dpw 0)))
    = blkB 128 (rows t (D.dpw 0)) := by
  simp only [k0_pay69, truncf_mat]

theorem pay70 (g : ℕ → ℕ → ℝ) : k0_pay70 (F := Ideal) (blkB 128 (rows t (D.ft 0))) (blk 128 (rows t (D.dpw 0))) (ten (φ := .f32) 1 128 128 fun _ => g)
    = slab fun i j => g i j + D.G t 0 i j := by
  simp only [k0_pay70, pay69, addf_mat, shapeCast_ten_mat, shapeCast_mat_ten, constant_mat_zero, dot_gw, matmul_rows, ofBits_zero, zero_add]; rfl

theorem pay71 : k0_pay71 (F := Ideal) (mat (φ := .bf16) 128 128 (D.wp 0)) (blk 128 (rows t (D.dpw 0)))
    = blk 128 (rows t (D.dp 0)) := by
  simp only [k0_pay71, pay69, constant_mat_zero, dot_dp, matmul_transposed, ofBits_zero, zero_add]; rfl

theorem pay72 : k0_pay72 (F := Ideal) (col fun i => 1 / cnt 0 (512 * t + i)) (mat (φ := .bf16) 128 128 (D.wp 0)) (blk 128 (rows t (D.dpw 0)))
    = blk 128 (rows t (D.q 0)) := by
  simp only [k0_pay72, pay71, shapeCast_mat_self, broadcastTo_col, mulf_mat]; rfl

theorem pay73 : k0_pay73 (F := Ideal) (blk 128 (rows t (D.ft 1)))
    = blkB 128 (rows t (D.ft 1)) := by
  simp only [k0_pay73, truncf_mat]

theorem pay74 : k0_pay74 (F := Ideal) (slab (D.wp 1))
    = mat (φ := .bf16) 128 128 (D.wp 1) := by
  simp only [k0_pay74, truncf_mat, shapeCast_ten_mat, shapeCast_mat_ten]

theorem pay75 : k0_pay75 (F := Ideal) (blk 128 (rows t (D.ft 1))) (slab (D.wp 1))
    = blk 128 (rows t (D.pw 1)) := by
  simp only [k0_pay75, pay73, pay74, constant_mat_zero, dot_pw, matmul_plain, ofBits_zero, zero_add]; rfl

theorem pay76 : k0_pay76 (F := Ideal) (blk 128 (rows t (D.ft 1))) (row 128 fun j => D.ps (128 * 1 + j)) (slab (D.wp 1))
    = blk 128 (rows t (D.yp 1)) := by
  simp only [k0_pay76, pay75, broadcastTo_row, mulf_mat]; rfl

theorem pay77 : k0_pay77 (F := Ideal) (blk 1024 (rows t D.dy))
    = blk 128 (rows t (D.dyp 1)) := by
  simp only [k0_pay77, slice_mat, zero_add]
  exact mat_congr fun i _ j _ => congrArg (D.dy _) (by omega)

theorem pay78 : k0_pay78 (F := Ideal) (blk 1024 (rows t D.dy)) (blk 128 (rows t (D.ft 1))) (slab (D.wp 1))
    = row 128 (sumr t fun i j => D.dyp 1 i j * D.pw 1 i j) := by
  simp only [k0_pay78, pay77, pay75, shapeCast_mat_self, mulf_mat, rotate_mat, sum_rows_mat, sum_cols_mat, shapeCast_vec_row, constant_mat_zero, ofBits_zero, zero_add]; rfl

theorem pay79 : k0_pay79 (F := Ideal) (blk 1024 (rows t D.dy)) (row 128 fun j => D.ps (128 * 1 + j))
    = blkB 128 (rows t (D.dpw 1)) := by
  simp only [k0_pay79, pay77, broadcastTo_row, mulf_mat, truncf_mat]; rfl

theorem pay80 (g : ℕ → ℕ → ℝ) : k0_pay80 (F := Ideal) (blk 1024 (rows t D.dy)) (blk 128 (rows t (D.ft 1))) (row 128 fun j => D.ps (128 * 1 + j)) (ten (φ := .f32) 1 128 128 fun _ => g)
    = mat 128 128 fun i j => g i j + D.G t 1 i j := by
  simp only [k0_pay80, pay73, pay79, addf_mat, shapeCast_ten_mat, shapeCast_mat_ten, constant_mat_zero, dot_gw, matmul_rows, ofBits_zero, zero_add]; rfl

theorem pay81 (g : ℕ → ℕ → ℝ) : k0_pay81 (F := Ideal) (mat (φ := .f32) 128 128 g)
    = slab g := by
  simp only [k0_pay81, shapeCast_mat_ten]

theorem pay82 : k0_pay82 (F := Ideal) (mat (φ := .bf16) 128 128 (D.wp 1)) (blkB 128 (rows t (D.dpw 1)))
    = blk 128 (rows t (D.dp 1)) := by
  simp only [k0_pay82, constant_mat_zero, dot_dp, matmul_transposed, ofBits_zero, zero_add]; rfl

theorem pay83 : k0_pay83 (F := Ideal) (col fun i => 1 / cnt 1 (512 * t + i)) (mat (φ := .bf16) 128 128 (D.wp 1)) (blkB 128 (rows t (D.dpw 1)))
    = blk 128 (rows t (D.q 1)) := by
  simp only [k0_pay83, pay82, shapeCast_mat_self, broadcastTo_col, mulf_mat]; rfl

theorem pay84 : k0_pay84 (F := Ideal) (blk 128 (rows t (D.ft 2)))
    = blkB 128 (rows t (D.ft 2)) := by
  simp only [k0_pay84, truncf_mat]

theorem pay85 : k0_pay85 (F := Ideal) (slab (D.wp 2))
    = mat (φ := .bf16) 128 128 (D.wp 2) := by
  simp only [k0_pay85, truncf_mat, shapeCast_ten_mat, shapeCast_mat_ten]

theorem pay86 : k0_pay86 (F := Ideal) (blk 128 (rows t (D.ft 2))) (slab (D.wp 2))
    = blk 128 (rows t (D.pw 2)) := by
  simp only [k0_pay86, pay84, pay85, constant_mat_zero, dot_pw, matmul_plain, ofBits_zero, zero_add]; rfl

theorem pay87 : k0_pay87 (F := Ideal) (blk 128 (rows t (D.ft 2))) (row 128 fun j => D.ps (128 * 2 + j)) (slab (D.wp 2))
    = blk 128 (rows t (D.yp 2)) := by
  simp only [k0_pay87, pay86, broadcastTo_row, mulf_mat]; rfl

theorem pay88 : k0_pay88 (F := Ideal) (blk 1024 (rows t D.dy))
    = blk 128 (rows t (D.dyp 2)) := by
  simp only [k0_pay88, slice_mat, zero_add]
  exact mat_congr fun i _ j _ => congrArg (D.dy _) (by omega)

theorem pay89 : k0_pay89 (F := Ideal) (blk 1024 (rows t D.dy)) (blk 128 (rows t (D.ft 2))) (slab (D.wp 2))
    = row 128 (sumr t fun i j => D.dyp 2 i j * D.pw 2 i j) := by
  simp only [k0_pay89, pay88, pay86, shapeCast_mat_self, mulf_mat, rotate_mat, sum_rows_mat, sum_cols_mat, shapeCast_vec_row, constant_mat_zero, ofBits_zero, zero_add]; rfl

theorem pay90 : k0_pay90 (F := Ideal) (blk 1024 (rows t D.dy)) (row 128 fun j => D.ps (128 * 2 + j))
    = blkB 128 (rows t (D.dpw 2)) := by
  simp only [k0_pay90, pay88, broadcastTo_row, mulf_mat, truncf_mat]; rfl

theorem pay91 (g : ℕ → ℕ → ℝ) : k0_pay91 (F := Ideal) (blk 1024 (rows t D.dy)) (blk 128 (rows t (D.ft 2))) (row 128 fun j => D.ps (128 * 2 + j)) (ten (φ := .f32) 1 128 128 fun _ => g)
    = slab fun i j => g i j + D.G t 2 i j := by
  simp only [k0_pay91, pay84, pay90, addf_mat, shapeCast_ten_mat, shapeCast_mat_ten, constant_mat_zero, dot_gw, matmul_rows, ofBits_zero, zero_add]; rfl

theorem pay92 : k0_pay92 (F := Ideal) (blk 1024 (rows t D.dy)) (row 128 fun j => D.ps (128 * 2 + j)) (slab (D.wp 2))
    = blk 128 (rows t (D.dp 2)) := by
  simp only [k0_pay92, pay90, pay85, constant_mat_zero, dot_dp, matmul_transposed, ofBits_zero, zero_add]; rfl

theorem pay93 : k0_pay93 (F := Ideal) (blk 1024 (rows t D.dy)) (col fun i => 1 / cnt 2 (512 * t + i)) (row 128 fun j => D.ps (128 * 2 + j)) (slab (D.wp 2))
    = blk 128 (rows t (D.q 2)) := by
  simp only [k0_pay93, pay92, shapeCast_mat_self, broadcastTo_col, mulf_mat]; rfl

theorem pay94 : k0_pay94 (F := Ideal) (blk 128 (rows t (D.ft 3)))
    = blkB 128 (rows t (D.ft 3)) := by
  simp only [k0_pay94, truncf_mat]

theorem pay95 : k0_pay95 (F := Ideal) (slab (D.wp 3))
    = mat (φ := .bf16) 128 128 (D.wp 3) := by
  simp only [k0_pay95, truncf_mat, shapeCast_ten_mat, shapeCast_mat_ten]

theorem pay96 : k0_pay96 (F := Ideal) (blk 128 (rows t (D.ft 3))) (slab (D.wp 3))
    = blk 128 (rows t (D.pw 3)) := by
  simp only [k0_pay96, pay94, pay95, constant_mat_zero, dot_pw, matmul_plain, ofBits_zero, zero_add]; rfl

theorem pay97 : k0_pay97 (F := Ideal) (blk 128 (rows t (D.ft 3))) (row 128 fun j => D.ps (128 * 3 + j)) (slab (D.wp 3))
    = blk 128 (rows t (D.yp 3)) := by
  simp only [k0_pay97, pay96, broadcastTo_row, mulf_mat]; rfl

theorem pay98 : k0_pay98 (F := Ideal) (blk 1024 (rows t D.dy))
    = blk 128 (rows t (D.dyp 3)) := by
  simp only [k0_pay98, slice_mat, zero_add]
  exact mat_congr fun i _ j _ => congrArg (D.dy _) (by omega)

theorem pay99 : k0_pay99 (F := Ideal) (blk 1024 (rows t D.dy)) (blk 128 (rows t (D.ft 3))) (slab (D.wp 3))
    = row 128 (sumr t fun i j => D.dyp 3 i j * D.pw 3 i j) := by
  simp only [k0_pay99, pay98, pay96, shapeCast_mat_self, mulf_mat, rotate_mat, sum_rows_mat, sum_cols_mat, shapeCast_vec_row, constant_mat_zero, ofBits_zero, zero_add]; rfl

theorem pay100 : k0_pay100 (F := Ideal) (blk 1024 (rows t D.dy)) (row 128 fun j => D.ps (128 * 3 + j))
    = blkB 128 (rows t (D.dpw 3)) := by
  simp only [k0_pay100, pay98, broadcastTo_row, mulf_mat, truncf_mat]; rfl

theorem pay101 (g : ℕ → ℕ → ℝ) : k0_pay101 (F := Ideal) (blk 1024 (rows t D.dy)) (blk 128 (rows t (D.ft 3))) (row 128 fun j => D.ps (128 * 3 + j)) (ten (φ := .f32) 1 128 128 fun _ => g)
    = slab fun i j => g i j + D.G t 3 i j := by
  simp only [k0_pay101, pay94, pay100, addf_mat, shapeCast_ten_mat, shapeCast_mat_ten, constant_mat_zero, dot_gw, matmul_rows, ofBits_zero, zero_add]; rfl

theorem pay102 : k0_pay102 (F := Ideal) (blk 1024 (rows t D.dy)) (row 128 fun j => D.ps (128 * 3 + j)) (slab (D.wp 3))
    = blk 128 (rows t (D.dp 3)) := by
  simp only [k0_pay102, pay100, pay95, constant_mat_zero, dot_dp, matmul_transposed, ofBits_zero, zero_add]; rfl

theorem pay103 : k0_pay103 (F := Ideal) (blk 1024 (rows t D.dy)) (col fun i => 1 / cnt 3 (512 * t + i)) (row 128 fun j => D.ps (128 * 3 + j)) (slab (D.wp 3))
    = blk 128 (rows t (D.q 3)) := by
  simp only [k0_pay103, pay102, shapeCast_mat_self, broadcastTo_col, mulf_mat]; rfl

theorem pay104 : k0_pay104 (F := Ideal) (ext 512 (hi t D.qq))
    = ext 512 (ups 0 (hi t D.qq)) := by
  simp only [k0_pay104, addf_mat, rotate_mat]; rfl

theorem qq_eq (p : ℕ) {i j : ℕ} (h : j < 128) : D.qq i (128 * p + j) = D.q p i j := by
  unfold Mix.qq
  rw [show (128 * p + j) / 128 = p by omega, show (128 * p + j) % 128 = j by omega]
theorem up_eq (p : ℕ) (hp : p ≤ 3) {i j : ℕ} (h : i < 512) (hj : j < 128) : ups p (hi t D.qq) i (128 * p + j) = rows t (D.up p) i j := by
  rw [ups_hi t p _ _ h hp]
  exact sum_congr rfl fun k _ => by unfold rows nxt; simp only [qq_eq D p hj]

theorem pay105 : k0_pay105 (F := Ideal) (ext 512 (hi t D.qq))
    = blk 128 (rows t (D.up 0)) := by
  simp only [k0_pay105, pay104, slice_mat, zero_add]
  exact mat_congr fun i hi j hj => (congrArg (ups 0 _ i) (by omega)).trans (up_eq D t 0 (by norm_num) hi hj)

theorem pay106 : k0_pay106 (F := Ideal) (ext 512 (hi t D.qq))
    = ext 384 fun i j => ups 1 (hi t D.qq) i (128 + j) := by
  simp only [k0_pay106, pay104, addf_mat, slice_mat, rotate_mat, zero_add]; rfl

theorem pay107 : k0_pay107 (F := Ideal) (ext 512 (hi t D.qq))
    = blk 128 (rows t (D.up 1)) := by
  simp only [k0_pay107, pay106, slice_mat, zero_add]
  exact mat_congr fun i hi j hj => (congrArg (ups 1 _ i) (by omega)).trans (up_eq D t 1 (by norm_num) hi hj)

theorem pay108 : k0_pay108 (F := Ideal) (ext 512 (hi t D.qq))
    = ext 256 fun i j => ups 1 (hi t D.qq) i (256 + j) := by
  simp only [k0_pay108, pay106, slice_mat, zero_add]
  exact mat_congr fun i _ j _ => by rw [← Nat.add_assoc]

theorem C_eq (p : ℕ) {j : ℕ} (h : j < 128) : sumr t (D.C 3) (128 * p + j) = sumr t (fun i j => D.dyp p i j * D.pw p i j) j := by
  refine sum_congr rfl fun i _ => ?_
  show D.dyp ((128 * p + j) / 128) _ ((128 * p + j) % 128) * D.pw ((128 * p + j) / 128) _ ((128 * p + j) % 128) = D.dyp p _ j * D.pw p _ j
  rw [show (128 * p + j) / 128 = p by omega, show (128 * p + j) % 128 = j by omega]
theorem pay109 (a : ℕ → ℝ) : k0_pay109 (F := Ideal) (row 128 (sumr t fun i j => D.dyp 0 i j * D.pw 0 i j)) (row 128 (sumr t fun i j => D.dyp 1 i j * D.pw 1 i j)) (row 128 (sumr t fun i j => D.dyp 2 i j * D.pw 2 i j)) (row 128 (sumr t fun i j => D.dyp 3 i j * D.pw 3 i j)) (row 512 a)
    = row 512 fun j => a j + sumr t (D.C 3) j := by
  have h := concat_blocks (φ := .f32) (m := 1) (n := 512) (fun _ => sumr t (D.C 3)) [(128, fun _ => sumr t fun i j => D.dyp 0 i j * D.pw 0 i j), (128, fun _ => sumr t fun i j => D.dyp 1 i j * D.pw 1 i j), (128, fun _ => sumr t fun i j => D.dyp 2 i j * D.pw 2 i j), (128, fun _ => sumr t fun i j => D.dyp 3 i j * D.pw 3 i j)]
    concatenates_S1x128_S1x128_S1x128_S1x128_S1x512_d1 fun l hl i _ j hj => by
      match l, hl with
      | 0, _ => exact (congrArg (sumr t (D.C 3)) (show 0 + j = 128 * 0 + j by omega)).trans (C_eq D t 0 hj)
      | 1, _ => exact C_eq D t 1 hj
      | 2, _ => exact C_eq D t 2 hj
      | 3, _ => exact C_eq D t 3 hj
  simp only [k0_pay109, shapeCast_mat_self]
  refine (congrArg (addf _) h).trans ?_
  rfl

theorem yc_eq (p : ℕ) {i j : ℕ} (h : j < 128) : D.yc i (512 + (128 * p + j)) = D.yp p i j := by
  unfold Mix.yc
  rw [if_neg (by omega), show (512 + (128 * p + j) - 512) / 128 = p by omega, show (512 + (128 * p + j) - 512) % 128 = j by omega]
theorem pay110 : k0_pay110 (F := Ideal) (blk 512 (rows t fun i j => D.z i j * D.conv i j)) (blk 128 (rows t (D.yp 0))) (blk 128 (rows t (D.yp 1))) (blk 128 (rows t (D.yp 2))) (blk 128 (rows t (D.yp 3)))
    = blkB 1024 (rows t D.yc) := by
  have h := concat_blocks (φ := .f32) (m := 512) (n := 1024) (rows t D.yc) [(512, rows t fun i j => D.z i j * D.conv i j), (128, rows t (D.yp 0)), (128, rows t (D.yp 1)), (128, rows t (D.yp 2)), (128, rows t (D.yp 3))]
    concatenates_S512x512_S512x128_S512x128_S512x128_S512x128_S512x1024_d1 fun l hl i _ j hj => by
      match l, hl with
      | 0, _ => exact (congrArg (rows t D.yc i) (Nat.zero_add j)).trans (if_pos hj)
      | 1, _ => exact (congrArg (D.yc _) (show 512 + j = 512 + (128 * 0 + j) by omega)).trans (yc_eq D 0 hj)
      | 2, _ => exact (congrArg (D.yc _) (show 640 + j = 512 + (128 * 1 + j) by omega)).trans (yc_eq D 1 hj)
      | 3, _ => exact (congrArg (D.yc _) (show 768 + j = 512 + (128 * 2 + j) by omega)).trans (yc_eq D 2 hj)
      | 4, _ => exact (congrArg (D.yc _) (show 896 + j = 512 + (128 * 3 + j) by omega)).trans (yc_eq D 3 hj)
  exact (congrArg (fun x => truncf .bf16 x bitsLt_bf16_f32) h).trans (truncf_mat _ _)

theorem dz_eq (p : ℕ) {i j : ℕ} (h : j < 128) : D.dz i (1536 + (128 * p + j)) = D.dvp p i j := by
  unfold Mix.dz
  rw [if_neg (by omega), if_neg (by omega), if_neg (by omega), show (1536 + (128 * p + j) - 1536) / 128 = p by omega,
    show (1536 + (128 * p + j) - 1536) % 128 = j by omega]
theorem dz_1 {i j : ℕ} (h : j < 512) : D.dz i (512 + j) = D.dcv i j * D.z i (1024 + j) := by
  unfold Mix.dz
  rw [if_neg (by omega), if_pos (by omega), Nat.add_sub_cancel_left]
theorem dz_2 {i j : ℕ} (h : j < 512) : D.dz i (1024 + j) = D.dcv i j * D.z i (512 + j) := by
  unfold Mix.dz
  rw [if_neg (by omega), if_neg (by omega), if_pos (by omega), Nat.add_sub_cancel_left]
theorem up2 : extractStridedSlice S512x128 ![0, 0] (ext 256 fun i j => ups 2 (hi t D.qq) i (256 + j)) slices_S528x256_o0_0_S512x128 = blk 128 (rows t (D.up 2)) := by
  simp only [slice_mat, zero_add]
  exact mat_congr fun i hi j hj => up_eq D t 2 (by norm_num) hi hj
theorem up3 : extractStridedSlice S512x128 ![0, 0] (ext 128 fun i j => ups 3 (hi t D.qq) i (256 + (128 + j))) slices_S528x128_o0_0_S512x128 = blk 128 (rows t (D.up 3)) := by
  simp only [slice_mat, zero_add]
  exact mat_congr fun i hi j hj => (congrArg (ups 3 _ i) (show 256 + (128 + j) = 128 * 3 + j by omega)).trans (up_eq D t 3 (by norm_num) hi hj)
theorem pay111 : k0_pay111 (F := Ideal) (blk 512 (rows t fun i j => D.dy i j * D.conv i j)) (blk 512 (rows t fun i j => D.dcv i j * D.z i (1024 + j))) (blk 512 (rows t fun i j => D.dcv i j * D.z i (512 + j))) (blk 128 (rows t (D.dp 0))) (blk 128 (rows t (D.dp 1))) (blk 128 (rows t (D.dp 2))) (blk 128 (rows t (D.dp 3))) (blk 128 (rows t (D.up 0))) (blk 128 (rows t (D.up 1))) (ext 256 fun i j => ups 1 (hi t D.qq) i (256 + j))
    = blkB 2048 (rows t D.dz) := by
  have h := concat_blocks (φ := .f32) (m := 512) (n := 2048) (rows t D.dz) [(512, rows t fun i j => D.dy i j * D.conv i j), (512, rows t fun i j => D.dcv i j * D.z i (1024 + j)), (512, rows t fun i j => D.dcv i j * D.z i (512 + j)), (128, rows t (D.dvp 0)), (128, rows t (D.dvp 1)), (128, rows t (D.dvp 2)), (128, rows t (D.dvp 3))]
    concatenates_S512x512_S512x512_S512x512_S512x128_S512x128_S512x128_S512x128_S512x2048_d1 fun l hl i _ j hj => by
      match l, hl with
      | 0, _ => exact (congrArg (rows t D.dz i) (Nat.zero_add j)).trans (if_pos hj)
      | 1, _ => exact dz_1 D hj
      | 2, _ => exact dz_2 D hj
      | 3, _ => exact (congrArg (D.dz _) (show 1536 + j = 1536 + (128 * 0 + j) by omega)).trans (dz_eq D 0 hj)
      | 4, _ => exact (congrArg (D.dz _) (show 1664 + j = 1536 + (128 * 1 + j) by omega)).trans (dz_eq D 1 hj)
      | 5, _ => exact (congrArg (D.dz _) (show 1792 + j = 1536 + (128 * 2 + j) by omega)).trans (dz_eq D 2 hj)
      | 6, _ => exact (congrArg (D.dz _) (show 1920 + j = 1536 + (128 * 3 + j) by omega)).trans (dz_eq D 3 hj)
  have h2 : addf (ext 256 fun i j => ups 1 (hi t D.qq) i (256 + j)) (dynamicRotate 0 524#32 none (ext 256 fun i j => ups 1 (hi t D.qq) i (256 + j)) rotates_S528x256_d0)
      = ext 256 fun i j => ups 2 (hi t D.qq) i (256 + j) := by rw [rotate_mat, addf_mat]; rfl
  have h3 : addf (ext 128 fun i j => ups 2 (hi t D.qq) i (256 + (128 + j))) (dynamicRotate 0 520#32 none (ext 128 fun i j => ups 2 (hi t D.qq) i (256 + (128 + j))) rotates_S528x128_d0)
      = ext 128 fun i j => ups 3 (hi t D.qq) i (256 + (128 + j)) := by rw [rotate_mat, addf_mat]; rfl
  have h4 : extractStridedSlice S528x128 ![0, 128] (ext 256 fun i j => ups 2 (hi t D.qq) i (256 + j)) slices_S528x256_o0_128_S528x128
      = ext 128 fun i j => ups 2 (hi t D.qq) i (256 + (128 + j)) := by rw [slice_mat]; exact mat_congr fun i _ j _ => by rw [Nat.zero_add]
  unfold k0_pay111
  dsimp only
  rw [h2, h4, h3, up2 D t, up3 D t]
  exact (congrArg (fun x => truncf .bf16 x bitsLt_bf16_f32) h).trans (truncf_mat _ _)

theorem pay112 : k0_pay112 (F := Ideal) (blk 512 (rows t fun i j => D.dy i j * D.conv i j)) (blk 512 (rows t fun i j => D.dcv i j * D.z i (1024 + j))) (blk 512 (rows t fun i j => D.dcv i j * D.z i (512 + j))) (blk 128 (rows t (D.dp 0))) (blk 128 (rows t (D.dp 1))) (blk 128 (rows t (D.dp 2))) (blk 128 (rows t (D.dp 3))) (blk 128 (rows t (D.up 0))) (blk 128 (rows t (D.up 1))) (ext 256 fun i j => ups 1 (hi t D.qq) i (256 + j)) (mat (φ := .bf16) 1024 2048 D.wi)
    = blk 1024 (rows t D.dh) := by
  simp only [k0_pay112, pay111, shapeCast_mat_self, constant_mat_zero, dot_dh, matmul_transposed, ofBits_zero, zero_add]; rfl

theorem pay113 (a : ℕ → ℝ) : k0_pay113 (F := Ideal) (blk 512 (rows t fun i j => D.dy i j * D.conv i j)) (blk 512 (rows t fun i j => D.dcv i j * D.z i (1024 + j))) (blk 512 (rows t fun i j => D.dcv i j * D.z i (512 + j))) (blk 128 (rows t (D.dp 0))) (blk 128 (rows t (D.dp 1))) (blk 128 (rows t (D.dp 2))) (blk 128 (rows t (D.dp 3))) (blk 128 (rows t (D.up 0))) (blk 128 (rows t (D.up 1))) (ext 256 fun i j => ups 1 (hi t D.qq) i (256 + j)) (mat (φ := .bf16) 1024 2048 D.wi) (row 1024 a)
    = row 1024 fun j => a j + sumr t (D.A 2) j := by
  simp only [k0_pay113, pay112, shapeCast_mat_self, addf_mat, rotate_mat, sum_rows_mat, sum_cols_mat, shapeCast_vec_row, constant_mat_zero, ofBits_zero, zero_add]; rfl

theorem pay114 (a : ℕ → ℝ) : k0_pay114 (F := Ideal) (row 1024 a)
    = row 1024 a := by
  simp only [k0_pay114, shapeCast_mat_self]

theorem pay1 (a : ℕ → ℝ) : k0_pay1 (F := Ideal) (blk 1024 (rows t D.dh)) (row 1024 a) (blk 1024 (rows t D.x))
    = row 1024 fun j => a j + sumr t (D.A 3) j := by
  simp only [k0_pay1, shapeCast_mat_self, mulf_mat, addf_mat, rotate_mat, sum_rows_mat, sum_cols_mat, shapeCast_vec_row, constant_mat_zero, ofBits_zero, zero_add]; rfl

theorem pay2 : k0_pay2 (F := Ideal) (row 1024 (D.md 1)) (blk 1024 (rows t D.dr)) (blk 1024 (rows t D.dh))
    = blk 1024 (rows t D.dx) := by
  simp only [k0_pay2, broadcastTo_row, broadcast_mat, mulf_mat, addf_mat, ofBits_one, ofBits_alpha]; rfl

end Cert.MixPoint

end
-- ==== Proof.MixOut.lean ====
/- What one grid point of the mixer's backward kernel leaves in its buffers, from real blocks. -/
module

public import proofs.«01_k».proof.Proof.MixPoint
public import proofs.«01_k».proof.Proof.MixRun
public import Idealize.ShloMosaic.Lib.WritesUnit
public import Idealize.ShloMosaic.Lib.VecWindow
public import Idealize.ShloMosaic.Lib.Pipeline.CanonAppend
public import Idealize.ShloMosaic.Lib.Pipeline.ReadBack

@[expose] public section

set_option maxRecDepth 16384

noncomputable section

namespace Cert.MixPoint

open Finset Cert.RealMat Cert.MlpReal Cert.MixReal Idealize.ShloMosaic Idealize.ShloMosaic.TcCoe Idealize.ShloMosaic.Tactic Idealize.SL Idealize.SL.Sem Cert.Kernel2Ideal Cert.Kernel2Ideal.Gen

theorem hz : (![0, 0] : Fin 2 → Nat) = fun _ => 0 := funext fun a => by fin_cases a <;> rfl

section Reads
variable {sig : RefSig} {κ : Kind} {sp : Space} {s : Shape} {e : EltTy} {m n p q a b : ℕ}

/-- A load of what stores of blocks of `G` cover reads `G`. -/
theorem cov_read (G : s.Idx → Elt Ideal e) (v : View sig κ sp s e) (L : List (View.Piece (Elt Ideal) s e)) (r : Rect s) (hL : View.PiecesOf G L)
    (hc : ∀ x : r.shape.Idx, ∃ p ∈ L, r.idx x ∈ p.1.set) : v.readCov L r.toLoadRect = View.ld G r := by
  rw [View.readCov_eq_canon']
  funext x
  simpa using View.canon_append_of_piecesOf G [] L hL _ (hc x)

/-- Stores of blocks of `G`, over contents that are `G` where no store lands, leave `G`. -/
theorem over_read (G : s.Idx → Elt Ideal e) (v : View sig κ sp s e) (x) (y : s.Idx) : ∀ (L : List (View.Piece (Elt Ideal) s e)), View.PiecesOf G L →
    ((∃ p ∈ L, y ∈ p.1.set) ∨ v.read (Elt Ideal) x y = G y) → v.read (Elt Ideal) (v.writes (Elt Ideal) x L) y = G y
  | [], _, h => h.resolve_left fun ⟨_, hp, _⟩ => absurd hp List.not_mem_nil
  | p :: L, hL, h => by
    by_cases hy : y ∈ p.1.set
    · obtain ⟨r, w⟩ := p
      obtain ⟨z, rfl⟩ : ∃ z, r.idx z = y := r.exists_idx_of_mem hy
      exact (View.read_writes_cons_emb v x r w L z).trans (hL.1 z)
    · have hy' : y ∉ Finset.univ.map p.1.emb := by rwa [Rect.map_emb_univ]
      refine ((congrFun (congrArg _ (View.writes_cons ..)) y).trans (View.read_slice_write_of_not_mem p.1 _ _ _ hy')).trans ?_
      refine over_read G v x y L hL.2 (h.imp_left fun ⟨q, hq, hyq⟩ => ?_)
      rcases List.mem_cons.mp hq with rfl | hq'
      · exact absurd hyq hy
      · exact ⟨q, hq', hyq⟩

theorem ld_mat {φ : FTy} (f : ℕ → ℕ → ℝ) (inb) :
    (fun x : (⟨2, ![p, q]⟩ : Shape).Idx => (mat m n f : FVec Ideal _ φ) ((Rect.unit (s := ⟨2, ![m, n]⟩) ![a, b] ![p, q] inb).idx x)) = mat (φ := φ) p q fun i j => f (a + i) (b + j) := by
  funext x
  show ((f (a + 1 * (x 0).val) (b + 1 * (x 1).val) : ℝ) : EReal) = ((f (a + (x 0).val) (b + (x 1).val) : ℝ) : EReal)
  rw [Nat.one_mul, Nat.one_mul]

theorem ld_row {φ : FTy} (f : ℕ → ℕ → ℝ) (inb) :
    (fun x : (⟨2, ![1, q]⟩ : Shape).Idx => (mat m n f : FVec Ideal _ φ) ((Rect.unit (s := ⟨2, ![m, n]⟩) ![a, b] ![1, q] inb).idx x)) = mat (φ := φ) 1 q fun _ j => f a (b + j) := by
  rw [ld_mat]
  exact mat_congr fun i hi j _ => by rw [Nat.lt_one_iff.mp hi, Nat.add_zero]

theorem piece_mat {φ : FTy} (f g : ℕ → ℕ → ℝ) (inb) (h : ∀ i, i < p → ∀ j, j < q → g i j = f (a + i) (b + j))
    (x : (⟨2, ![p, q]⟩ : Shape).Idx) :
    (mat p q g : FVec Ideal _ φ) x = (mat m n f : FVec Ideal _ φ) ((Rect.unit (s := ⟨2, ![m, n]⟩) ![a, b] ![p, q] inb).emb x) :=
  (congrFun (mat_congr h) x).trans (congrFun (ld_mat (φ := φ) f inb) x).symm

theorem mem_unit2 (inb) (y : (⟨2, ![m, n]⟩ : Shape).Idx) (h0 : a ≤ (y 0).val ∧ (y 0).val < a + p) (h1 : b ≤ (y 1).val ∧ (y 1).val < b + q) :
    y ∈ (Rect.unit (s := ⟨2, ![m, n]⟩) ![a, b] ![p, q] inb).set :=
  Rect.mem_set_unit.mpr (Fin.forall_fin_two.mpr ⟨h0, h1⟩)

/-- One block written over a buffer of reals. -/
theorem read_put (v : View sig κ sp ⟨2, ![m, n]⟩ .f32) (x) {L : List (View.Piece (Elt Ideal) ⟨2, ![m, n]⟩ .f32)} (inb)
    {f : ℕ → ℕ → ℝ} (g : ℕ → ℝ) (h : v.read (Elt Ideal) (v.writes (Elt Ideal) x L) = mat (φ := .f32) m n f) :
    v.read (Elt Ideal) (v.writes (Elt Ideal) x ((⟨Rect.unit (s := ⟨2, ![m, n]⟩) ![a, 0] ![1, n] inb, row n g⟩ : View.Piece (Elt Ideal) ⟨2, ![m, n]⟩ .f32) :: L))
      = mat (φ := .f32) m n fun i j => if i = a then g j else f i j := by
  funext y
  have h1 : (y 1).val < n := (y 1).isLt
  by_cases hy : (y 0).val = a
  · refine (View.read_writes_cons_unit_of_mem (s := ⟨2, ![m, n]⟩) v x inb (row n g) L y (ix2 (n0 := 1) (n1 := n) ⟨0, by decide⟩ ⟨(y 1).val, h1⟩) rfl ?_).trans ?_
    · refine Fin.forall_fin_two.mpr ⟨hy, ?_⟩
      show (y 1).val = 0 + (y 1).val
      omega
    · show ((g (y 1).val : ℝ) : EReal) = ((if (y 0).val = a then g (y 1).val else f (y 0).val (y 1).val : ℝ) : EReal)
      rw [if_pos hy]
  · refine (View.read_writes_cons_unit_of_not_mem (s := ⟨2, ![m, n]⟩) v x inb (row n g) L y rfl 0 ?_).trans ?_
    · show (y 0).val < a ∨ a + 1 ≤ (y 0).val
      omega
    · rw [h]
      show ((f (y 0).val (y 1).val : ℝ) : EReal) = ((if (y 0).val = a then g (y 1).val else f (y 0).val (y 1).val : ℝ) : EReal)
      rw [if_neg hy]

/-- One slab written over a stack of reals. -/
theorem read_put3 (v : View sig κ sp S4x128x128 .f32) (x) {L : List (View.Piece (Elt Ideal) S4x128x128 .f32)} (inb)
    {f : ℕ → ℕ → ℕ → ℝ} (g : ℕ → ℕ → ℝ) (h : v.read (Elt Ideal) (v.writes (Elt Ideal) x L) = ten (φ := .f32) 4 128 128 f) :
    v.read (Elt Ideal) (v.writes (Elt Ideal) x ((⟨Rect.unit (s := S4x128x128) ![a, 0, 0] ![1, 128, 128] inb, slab g⟩ : View.Piece (Elt Ideal) S4x128x128 .f32) :: L))
      = ten (φ := .f32) 4 128 128 fun p i j => if p = a then g i j else f p i j := by
  funext y
  have h1 : (y 1).val < 128 := (y 1).isLt
  have h2 : (y 2).val < 128 := (y 2).isLt
  by_cases hy : (y 0).val = a
  · refine (View.read_writes_cons_unit_of_mem (s := S4x128x128) v x inb (slab g) L y (ix3 (n0 := 1) (n1 := 128) (n2 := 128) ⟨0, by decide⟩ ⟨(y 1).val, h1⟩ ⟨(y 2).val, h2⟩) rfl ?_).trans ?_
    · refine Fin.forall_fin_succ.mpr ⟨hy, Fin.forall_fin_two.mpr ⟨?_, ?_⟩⟩
      · show (y 1).val = 0 + (y 1).val
        omega
      · show (y 2).val = 0 + (y 2).val
        omega
    · show ((g (y 1).val (y 2).val : ℝ) : EReal) = ((if (y 0).val = a then g (y 1).val (y 2).val else f (y 0).val (y 1).val (y 2).val : ℝ) : EReal)
      rw [if_pos hy]
  · refine (View.read_writes_cons_unit_of_not_mem (s := S4x128x128) v x inb (slab g) L y rfl 0 ?_).trans ?_
    · show (y 0).val < a ∨ a + 1 ≤ (y 0).val
      omega
    · rw [h]
      show ((f (y 0).val (y 1).val (y 2).val : ℝ) : EReal) = ((if (y 0).val = a then g (y 1).val (y 2).val else f (y 0).val (y 1).val (y 2).val : ℝ) : EReal)
      rw [if_neg hy]

theorem ld_ten (f : ℕ → ℕ → ℕ → ℝ) (inb) :
    View.ld (Val := Elt Ideal) (e' := .f32) (ten (φ := .f32) 4 128 128 f) (Rect.unit (s := S4x128x128) ![a, 0, 0] ![1, 128, 128] inb) = slab (f a) := by
  funext x
  have h0 : (x 0).val < 1 := (x 0).isLt
  show ((f (a + 1 * (x 0).val) (0 + 1 * (x 1).val) (0 + 1 * (x 2).val) : ℝ) : EReal) = ((f a (x 1).val (x 2).val : ℝ) : EReal)
  rw [Nat.one_mul, Nat.one_mul, Nat.one_mul, Nat.zero_add, Nat.zero_add, show a + (x 0).val = a by omega]

/-- A load of a row, after other rows were stored. -/
theorem row_skip {r : ℕ} (v : View sig κ sp ⟨2, ![m, n]⟩ .f32) (inb) (inb') (w : FVec Ideal ⟨2, ![1, n]⟩ .f32)
    (L : List (View.Piece (Elt Ideal) ⟨2, ![m, n]⟩ .f32)) (h : a + 1 ≤ r ∨ r + 1 ≤ a) :
    v.readCov (⟨Rect.unit ![a, 0] ![1, n] inb, w⟩ :: L) (Rect.unit (s := ⟨2, ![m, n]⟩) ![r, 0] ![1, n] inb').toLoadRect
      = v.readCov L (Rect.unit (s := ⟨2, ![m, n]⟩) ![r, 0] ![1, n] inb').toLoadRect := by
  refine View.readCov_cons_of_disjoint v _ _ _ (Rect.unit_disjoint (inb := inb) (inb' := inb') 0 ?_)
  exact h

theorem row_fill {r : ℕ} (v : View sig κ sp ⟨2, ![m, n]⟩ .f32) (inb) (inb') (f : ℕ → ℕ → ℝ) :
    v.readCov (Val := Elt Ideal) [⟨Rect.unit ![0, 0] ![m, n] inb, mat (φ := .f32) m n f⟩] (Rect.unit (s := ⟨2, ![m, n]⟩) ![r, 0] ![1, n] inb').toLoadRect
      = (row n (f r) : Vec Ideal ⟨2, ![1, n]⟩ .f32) :=
  (View.readCov_fill v inb _ [] _ (Fin.forall_fin_two.mpr ⟨rfl, rfl⟩)).trans ((ld_row (φ := .f32) f inb').trans (mat_congr fun _ _ j _ => by rw [Nat.zero_add]))

theorem slab_skip {r : ℕ} (v : View sig κ sp S4x128x128 .f32) (inb) (inb') (w : FVec Ideal S1x128x128 .f32)
    (L : List (View.Piece (Elt Ideal) S4x128x128 .f32)) (h : a + 1 ≤ r ∨ r + 1 ≤ a) :
    v.readCov (⟨Rect.unit ![a, 0, 0] ![1, 128, 128] inb, w⟩ :: L) (Rect.unit (s := S4x128x128) ![r, 0, 0] ![1, 128, 128] inb').toLoadRect
      = v.readCov L (Rect.unit (s := S4x128x128) ![r, 0, 0] ![1, 128, 128] inb').toLoadRect := by
  refine View.readCov_cons_of_disjoint v _ _ _ (Rect.unit_disjoint (inb := inb) (inb' := inb') 0 ?_)
  exact h

theorem slab_fill {r : ℕ} (v : View sig κ sp S4x128x128 .f32) (inb) (inb') (f : ℕ → ℕ → ℕ → ℝ) :
    v.readCov (Val := Elt Ideal) [⟨Rect.unit ![0, 0, 0] ![4, 128, 128] inb, ten (φ := .f32) 4 128 128 f⟩] (Rect.unit (s := S4x128x128) ![r, 0, 0] ![1, 128, 128] inb').toLoadRect
      = (slab (f r) : Vec Ideal S1x128x128 .f32) :=
  (View.readCov_fill v inb _ [] _ (Fin.forall_fin_succ.mpr ⟨rfl, Fin.forall_fin_two.mpr ⟨rfl, rfl⟩⟩)).trans (ld_ten f inb')

end Reads

/-- Block `t`'s 512 rows in front of its own first 16: what one point leaves in a carried buffer. -/
def car (t : ℕ) (f : ℕ → ℕ → ℝ) (i j : ℕ) : ℝ := if i < 512 then f (512 * t + i) j else f (512 * t + i - 512) j

theorem lo_top (t : ℕ) (f : ℕ → ℕ → ℝ) {i : ℕ} (j : ℕ) (h : 16 ≤ i) : lo t f i j = f (512 * t + (i - 16)) j := by
  unfold lo
  rw [if_neg (by omega), show 512 * t + i - 16 = 512 * t + (i - 16) by omega]

section Scratch
variable {sig : RefSig} (t : ℕ) (f : ℕ → ℕ → ℝ) (v : View sig .tc .vmem S528x512 .f32)

abbrev E528 (f : ℕ → ℕ → ℝ) : Vec Ideal S528x512 .f32 := ext 512 f

theorem pc {m n p q a b : ℕ} (G g : ℕ → ℕ → ℝ) (inb) (h : ∀ i, i < p → ∀ j, j < q → g i j = G (a + i) (b + j)) :
    ∀ x, (mat (φ := .f32) p q g) x = (mat (φ := .f32) m n G) ((Rect.unit (s := ⟨2, ![m, n]⟩) ![a, b] ![p, q] inb).emb x) :=
  piece_mat _ _ _ h

/-- What stores that cover the first `k` rows with blocks of `G` leave there. -/
theorem rd_cov (G : ℕ → ℕ → ℝ) (k : ℕ) (hk : k ≤ 528) (L : List (View.Piece (Elt Ideal) S528x512 .f32)) (inb) (hL : View.PiecesOf (E528 G) L)
    (hc : ∀ y : S528x512.Idx, (y 0).val < k → ∃ p ∈ L, y ∈ p.1.set) :
    v.readCov L (Rect.unit (s := S528x512) ![0, 0] ![k, 512] inb).toLoadRect = (mat (φ := .f32) k 512 G : Vec Ideal ⟨2, ![k, 512]⟩ .f32) := by
  refine (cov_read (E528 G) v _ _ hL fun x => hc _ ?_).trans ((ld_mat (φ := .f32) G inb).trans (mat_congr fun _ _ _ _ => by rw [Nat.zero_add, Nat.zero_add]))
  have h0 : (x 0).val < k := (x 0).isLt
  show 0 + 1 * (x 0).val < k
  omega

/-- The 512 rows of a block behind the 16 before it, stored in two pieces. -/
theorem rd_lo (inb inb' inb'') :
    v.readCov (Val := Elt Ideal) [⟨Rect.unit ![16, 0] ![512, 512] inb, blk 512 (rows t f)⟩, ⟨Rect.unit ![0, 0] ![16, 512] inb', mat (φ := .f32) 16 512 (lo t f)⟩] (Rect.unit (s := S528x512) ![0, 0] ![528, 512] inb'').toLoadRect
      = E528 (lo t f) := by
  refine rd_cov v (lo t f) 528 le_rfl _ inb'' ⟨pc _ _ inb ?_, pc _ _ inb' ?_, trivial⟩ fun y hy => ?_
  · exact fun i _ j _ => by rw [Nat.zero_add, lo_top _ _ _ (by omega), show 16 + i - 16 = i by omega]; rfl
  · exact fun i _ j _ => by rw [Nat.zero_add, Nat.zero_add]
  have h1 : (y 1).val < 512 := (y 1).isLt
  by_cases h : (y 0).val < 16
  · exact ⟨_, .tail _ (.head _), mem_unit2 inb' _ (by omega) (by omega)⟩
  · exact ⟨_, .head _, mem_unit2 inb _ (by omega) (by omega)⟩

variable (D : Mix)

theorem hi_low {t : ℕ} (ht : t < 16) (f : ℕ → ℕ → ℝ) {i : ℕ} (j : ℕ) (h : i < 512) : hi t f i j = rows t f i j := if_pos (by omega)
theorem hi_past (f : ℕ → ℕ → ℝ) {i : ℕ} (j : ℕ) (h : 8192 ≤ 512 * t + i) : hi t f i j = 0 := if_neg (by omega)
theorem car_low (t : ℕ) (f : ℕ → ℕ → ℝ) {i : ℕ} (j : ℕ) (h : i < 512) : car t f i j = rows t f i j := if_pos h
theorem car_top (f : ℕ → ℕ → ℝ) (i j : ℕ) : car t f (512 + i) j = rows t f i j :=
  (if_neg (by omega)).trans (by rw [show 512 * t + (512 + i) - 512 = 512 * t + i by omega]; rfl)
theorem car_hi (f : ℕ → ℕ → ℝ) {i : ℕ} (j : ℕ) (ht : t < 15) (h : 512 ≤ i) (h' : i < 528) : car (t + 1) f i j = hi t f i j := by
  unfold car hi
  rw [if_neg (by omega), if_pos (by omega), show 512 * (t + 1) + i - 512 = 512 * t + i by omega]

theorem rdA_e (hz : t = 15) (inb0 inbz inb) :
    v.readCov (Val := Elt Ideal) [⟨Rect.unit (s := S528x512) ![0, 0] ![512, 512] inb0, blk 512 (rows t f)⟩, ⟨Rect.unit (s := S528x512) ![512, 0] ![16, 512] inbz, mat (φ := .f32) 16 512 fun _ _ => 0⟩] (Rect.unit (s := S528x512) ![0, 0] ![528, 512] inb).toLoadRect = E528 (hi t f) := by
  have ht : t < 16 := by omega
  refine rd_cov v (hi t f) 528 le_rfl _ inb ⟨pc _ _ inb0 fun i hi j _ => by rw [Nat.zero_add, Nat.zero_add, hi_low ht _ _ hi], pc (hi t f) (fun _ _ => 0) inbz fun i _ j _ => by rw [hi_past _ _ _ (by omega)], trivial⟩ fun y hy => ?_
  have h1 : (y 1).val < 512 := (y 1).isLt
  by_cases h : (y 0).val < 512
  · exact ⟨_, .head _, mem_unit2 inb0 _ (by omega) (by omega)⟩
  · exact ⟨_, .tail _ (.head _), mem_unit2 inbz _ (by omega) (by omega)⟩

theorem topA_e (hz : t = 15) (inb0 inbz inb) :
    v.readCov (Val := Elt Ideal) [⟨Rect.unit (s := S528x512) ![0, 0] ![512, 512] inb0, blk 512 (rows t f)⟩, ⟨Rect.unit (s := S528x512) ![512, 0] ![16, 512] inbz, mat (φ := .f32) 16 512 fun _ _ => 0⟩] (Rect.unit (s := S528x512) ![0, 0] ![16, 512] inb).toLoadRect = (mat (φ := .f32) 16 512 (rows t f) : Vec Ideal S16x512 .f32) := by
  have ht : t < 16 := by omega
  refine (rd_cov v (hi t f) 16 (by omega) _ inb ?_ fun y hy => ?_).trans (mat_congr fun i h j _ => hi_low ht _ _ (by omega))
  · exact ⟨pc _ _ inb0 fun i hi j _ => by rw [Nat.zero_add, Nat.zero_add, hi_low ht _ _ hi], pc (hi t f) (fun _ _ => 0) inbz fun i _ j _ => by rw [hi_past _ _ _ (by omega)], trivial⟩
  have h1 : (y 1).val < 512 := (y 1).isLt
  exact ⟨_, .head _, mem_unit2 inb0 _ (by omega) (by omega)⟩

theorem topB_e (ht : t < 16) (inb0 inb) :
    v.readCov (Val := Elt Ideal) [⟨Rect.unit (s := S528x512) ![0, 0] ![512, 512] inb0, blk 512 (rows t f)⟩] (Rect.unit (s := S528x512) ![0, 0] ![16, 512] inb).toLoadRect = (mat (φ := .f32) 16 512 (rows t f) : Vec Ideal S16x512 .f32) := by
  refine (rd_cov v (hi t f) 16 (by omega) _ inb ?_ fun y hy => ?_).trans (mat_congr fun i h j _ => hi_low ht _ _ (by omega))
  · exact ⟨pc _ _ inb0 fun i hi j _ => by rw [Nat.zero_add, Nat.zero_add, hi_low ht _ _ hi], trivial⟩
  have h1 : (y 1).val < 512 := (y 1).isLt
  exact ⟨_, .head _, mem_unit2 inb0 _ (by omega) (by omega)⟩

theorem rdB_e (ht : t < 15) (x) (hx : v.read (Elt Ideal) x = E528 (car (t + 1) f)) (inb0) :
    v.read (Elt Ideal) (v.writes (Elt Ideal) x [⟨Rect.unit (s := S528x512) ![0, 0] ![512, 512] inb0, blk 512 (rows t f)⟩]) = E528 (hi t f) := by
  have ht : t < 16 := by omega
  funext y
  refine over_read (E528 (hi t f)) v x y _ ⟨pc _ _ inb0 fun i hi j _ => by rw [Nat.zero_add, Nat.zero_add, hi_low ht _ _ hi], trivial⟩ ?_
  have h0 : (y 0).val < 528 := (y 0).isLt
  have h1 : (y 1).val < 512 := (y 1).isLt
  by_cases h : (y 0).val < 512
  · left
    exact ⟨_, .head _, mem_unit2 inb0 _ (by omega) (by omega)⟩
  · right
    rw [hx]
    exact congrArg (fun r : ℝ => (r : EReal)) (car_hi t _ _ (by omega) (by omega) h0)

theorem finA_e (inb0 inbz inbt) :
    View.canon (Val := Elt Ideal) [⟨Rect.unit (s := S528x512) ![512, 0] ![16, 512] inbt, mat (φ := .f32) 16 512 (rows t f)⟩, ⟨Rect.unit (s := S528x512) ![0, 0] ![512, 512] inb0, blk 512 (rows t f)⟩, ⟨Rect.unit (s := S528x512) ![512, 0] ![16, 512] inbz, mat (φ := .f32) 16 512 fun _ _ => 0⟩] = E528 (car t f) := by
  funext y
  have h0 : (y 0).val < 528 := (y 0).isLt
  have h1 : (y 1).val < 512 := (y 1).isLt
  refine View.canon_append_of_piecesOf (E528 (car t f)) [_] [_, _] ⟨pc _ _ inbt fun i _ j _ => by rw [Nat.zero_add, car_top], pc _ _ inb0 fun i hi j _ => by rw [Nat.zero_add, Nat.zero_add, car_low _ _ _ hi], trivial⟩ y ?_
  by_cases h : (y 0).val < 512
  · exact ⟨_, .tail _ (.head _), mem_unit2 inb0 _ (by omega) (by omega)⟩
  · exact ⟨_, .head _, mem_unit2 inbt _ (by omega) (by omega)⟩

theorem finB_e (inb0 inbt) :
    View.canon (Val := Elt Ideal) [⟨Rect.unit (s := S528x512) ![512, 0] ![16, 512] inbt, mat (φ := .f32) 16 512 (rows t f)⟩, ⟨Rect.unit (s := S528x512) ![0, 0] ![512, 512] inb0, blk 512 (rows t f)⟩] = E528 (car t f) := by
  funext y
  have h0 : (y 0).val < 528 := (y 0).isLt
  have h1 : (y 1).val < 512 := (y 1).isLt
  refine View.canon_append_of_piecesOf (E528 (car t f)) [] [_, _] ⟨pc _ _ inbt fun i _ j _ => by rw [Nat.zero_add, car_top], pc _ _ inb0 fun i hi j _ => by rw [Nat.zero_add, Nat.zero_add, car_low _ _ _ hi], trivial⟩ y ?_
  by_cases h : (y 0).val < 512
  · exact ⟨_, .tail _ (.head _), mem_unit2 inb0 _ (by omega) (by omega)⟩
  · exact ⟨_, .head _, mem_unit2 inbt _ (by omega) (by omega)⟩

theorem rdA_q (hz : t = 15) (inb3 inb2 inb1 inb0 inbz inb) :
    v.readCov (Val := Elt Ideal) [⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩, ⟨Rect.unit (s := S528x512) ![512, 0] ![16, 512] inbz, mat (φ := .f32) 16 512 fun _ _ => 0⟩] (Rect.unit (s := S528x512) ![0, 0] ![528, 512] inb).toLoadRect = E528 (hi t D.qq) := by
  have ht : t < 16 := by omega
  refine rd_cov v (hi t D.qq) 528 le_rfl _ inb ⟨pc _ _ inb3 fun i hi j hj => by rw [Nat.zero_add, hi_low ht _ _ hi]; exact (qq_eq D 3 hj).symm, pc _ _ inb2 fun i hi j hj => by rw [Nat.zero_add, hi_low ht _ _ hi]; exact (qq_eq D 2 hj).symm, pc _ _ inb1 fun i hi j hj => by rw [Nat.zero_add, hi_low ht _ _ hi]; exact (qq_eq D 1 hj).symm, pc _ _ inb0 fun i hi j hj => by rw [Nat.zero_add, hi_low ht _ _ hi]; exact (qq_eq D 0 hj).symm, pc (hi t D.qq) (fun _ _ => 0) inbz fun i _ j _ => by rw [hi_past _ _ _ (by omega)], trivial⟩ fun y hy => ?_
  have h1 : (y 1).val < 512 := (y 1).isLt
  by_cases h : (y 0).val < 512
  · rcases (by omega : 384 ≤ (y 1).val ∨ (256 ≤ (y 1).val ∧ (y 1).val < 384) ∨ (128 ≤ (y 1).val ∧ (y 1).val < 256) ∨ (y 1).val < 128) with h | h | h | h
    · exact ⟨_, .head _, mem_unit2 inb3 _ (by omega) (by omega)⟩
    · exact ⟨_, .tail _ (.head _), mem_unit2 inb2 _ (by omega) (by omega)⟩
    · exact ⟨_, .tail _ (.tail _ (.head _)), mem_unit2 inb1 _ (by omega) (by omega)⟩
    · exact ⟨_, .tail _ (.tail _ (.tail _ (.head _))), mem_unit2 inb0 _ (by omega) (by omega)⟩
  · exact ⟨_, .tail _ (.tail _ (.tail _ (.tail _ (.head _)))), mem_unit2 inbz _ (by omega) (by omega)⟩

theorem topA_q (hz : t = 15) (inb3 inb2 inb1 inb0 inbz inb) :
    v.readCov (Val := Elt Ideal) [⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩, ⟨Rect.unit (s := S528x512) ![512, 0] ![16, 512] inbz, mat (φ := .f32) 16 512 fun _ _ => 0⟩] (Rect.unit (s := S528x512) ![0, 0] ![16, 512] inb).toLoadRect = (mat (φ := .f32) 16 512 (rows t D.qq) : Vec Ideal S16x512 .f32) := by
  have ht : t < 16 := by omega
  refine (rd_cov v (hi t D.qq) 16 (by omega) _ inb ?_ fun y hy => ?_).trans (mat_congr fun i h j _ => hi_low ht _ _ (by omega))
  · exact ⟨pc _ _ inb3 fun i hi j hj => by rw [Nat.zero_add, hi_low ht _ _ hi]; exact (qq_eq D 3 hj).symm, pc _ _ inb2 fun i hi j hj => by rw [Nat.zero_add, hi_low ht _ _ hi]; exact (qq_eq D 2 hj).symm, pc _ _ inb1 fun i hi j hj => by rw [Nat.zero_add, hi_low ht _ _ hi]; exact (qq_eq D 1 hj).symm, pc _ _ inb0 fun i hi j hj => by rw [Nat.zero_add, hi_low ht _ _ hi]; exact (qq_eq D 0 hj).symm, pc (hi t D.qq) (fun _ _ => 0) inbz fun i _ j _ => by rw [hi_past _ _ _ (by omega)], trivial⟩
  have h1 : (y 1).val < 512 := (y 1).isLt
  rcases (by omega : 384 ≤ (y 1).val ∨ (256 ≤ (y 1).val ∧ (y 1).val < 384) ∨ (128 ≤ (y 1).val ∧ (y 1).val < 256) ∨ (y 1).val < 128) with h | h | h | h
  · exact ⟨_, .head _, mem_unit2 inb3 _ (by omega) (by omega)⟩
  · exact ⟨_, .tail _ (.head _), mem_unit2 inb2 _ (by omega) (by omega)⟩
  · exact ⟨_, .tail _ (.tail _ (.head _)), mem_unit2 inb1 _ (by omega) (by omega)⟩
  · exact ⟨_, .tail _ (.tail _ (.tail _ (.head _))), mem_unit2 inb0 _ (by omega) (by omega)⟩

theorem topB_q (ht : t < 16) (inb3 inb2 inb1 inb0 inb) :
    v.readCov (Val := Elt Ideal) [⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩] (Rect.unit (s := S528x512) ![0, 0] ![16, 512] inb).toLoadRect = (mat (φ := .f32) 16 512 (rows t D.qq) : Vec Ideal S16x512 .f32) := by
  refine (rd_cov v (hi t D.qq) 16 (by omega) _ inb ?_ fun y hy => ?_).trans (mat_congr fun i h j _ => hi_low ht _ _ (by omega))
  · exact ⟨pc _ _ inb3 fun i hi j hj => by rw [Nat.zero_add, hi_low ht _ _ hi]; exact (qq_eq D 3 hj).symm, pc _ _ inb2 fun i hi j hj => by rw [Nat.zero_add, hi_low ht _ _ hi]; exact (qq_eq D 2 hj).symm, pc _ _ inb1 fun i hi j hj => by rw [Nat.zero_add, hi_low ht _ _ hi]; exact (qq_eq D 1 hj).symm, pc _ _ inb0 fun i hi j hj => by rw [Nat.zero_add, hi_low ht _ _ hi]; exact (qq_eq D 0 hj).symm, trivial⟩
  have h1 : (y 1).val < 512 := (y 1).isLt
  rcases (by omega : 384 ≤ (y 1).val ∨ (256 ≤ (y 1).val ∧ (y 1).val < 384) ∨ (128 ≤ (y 1).val ∧ (y 1).val < 256) ∨ (y 1).val < 128) with h | h | h | h
  · exact ⟨_, .head _, mem_unit2 inb3 _ (by omega) (by omega)⟩
  · exact ⟨_, .tail _ (.head _), mem_unit2 inb2 _ (by omega) (by omega)⟩
  · exact ⟨_, .tail _ (.tail _ (.head _)), mem_unit2 inb1 _ (by omega) (by omega)⟩
  · exact ⟨_, .tail _ (.tail _ (.tail _ (.head _))), mem_unit2 inb0 _ (by omega) (by omega)⟩

theorem rdB_q (ht : t < 15) (x) (hx : v.read (Elt Ideal) x = E528 (car (t + 1) D.qq)) (inb3 inb2 inb1 inb0) :
    v.read (Elt Ideal) (v.writes (Elt Ideal) x [⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩]) = E528 (hi t D.qq) := by
  have ht : t < 16 := by omega
  funext y
  refine over_read (E528 (hi t D.qq)) v x y _ ⟨pc _ _ inb3 fun i hi j hj => by rw [Nat.zero_add, hi_low ht _ _ hi]; exact (qq_eq D 3 hj).symm, pc _ _ inb2 fun i hi j hj => by rw [Nat.zero_add, hi_low ht _ _ hi]; exact (qq_eq D 2 hj).symm, pc _ _ inb1 fun i hi j hj => by rw [Nat.zero_add, hi_low ht _ _ hi]; exact (qq_eq D 1 hj).symm, pc _ _ inb0 fun i hi j hj => by rw [Nat.zero_add, hi_low ht _ _ hi]; exact (qq_eq D 0 hj).symm, trivial⟩ ?_
  have h0 : (y 0).val < 528 := (y 0).isLt
  have h1 : (y 1).val < 512 := (y 1).isLt
  by_cases h : (y 0).val < 512
  · left
    rcases (by omega : 384 ≤ (y 1).val ∨ (256 ≤ (y 1).val ∧ (y 1).val < 384) ∨ (128 ≤ (y 1).val ∧ (y 1).val < 256) ∨ (y 1).val < 128) with h | h | h | h
    · exact ⟨_, .head _, mem_unit2 inb3 _ (by omega) (by omega)⟩
    · exact ⟨_, .tail _ (.head _), mem_unit2 inb2 _ (by omega) (by omega)⟩
    · exact ⟨_, .tail _ (.tail _ (.head _)), mem_unit2 inb1 _ (by omega) (by omega)⟩
    · exact ⟨_, .tail _ (.tail _ (.tail _ (.head _))), mem_unit2 inb0 _ (by omega) (by omega)⟩
  · right
    rw [hx]
    exact congrArg (fun r : ℝ => (r : EReal)) (car_hi t _ _ (by omega) (by omega) h0)

theorem finA_q (inb3 inb2 inb1 inb0 inbz inbt) :
    View.canon (Val := Elt Ideal) [⟨Rect.unit (s := S528x512) ![512, 0] ![16, 512] inbt, mat (φ := .f32) 16 512 (rows t D.qq)⟩, ⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩, ⟨Rect.unit (s := S528x512) ![512, 0] ![16, 512] inbz, mat (φ := .f32) 16 512 fun _ _ => 0⟩] = E528 (car t D.qq) := by
  funext y
  have h0 : (y 0).val < 528 := (y 0).isLt
  have h1 : (y 1).val < 512 := (y 1).isLt
  refine View.canon_append_of_piecesOf (E528 (car t D.qq)) [_] [_, _, _, _, _] ⟨pc _ _ inbt fun i _ j _ => by rw [Nat.zero_add, car_top], pc _ _ inb3 fun i hi j hj => by rw [Nat.zero_add, car_low _ _ _ hi]; exact (qq_eq D 3 hj).symm, pc _ _ inb2 fun i hi j hj => by rw [Nat.zero_add, car_low _ _ _ hi]; exact (qq_eq D 2 hj).symm, pc _ _ inb1 fun i hi j hj => by rw [Nat.zero_add, car_low _ _ _ hi]; exact (qq_eq D 1 hj).symm, pc _ _ inb0 fun i hi j hj => by rw [Nat.zero_add, car_low _ _ _ hi]; exact (qq_eq D 0 hj).symm, trivial⟩ y ?_
  by_cases h : (y 0).val < 512
  · rcases (by omega : 384 ≤ (y 1).val ∨ (256 ≤ (y 1).val ∧ (y 1).val < 384) ∨ (128 ≤ (y 1).val ∧ (y 1).val < 256) ∨ (y 1).val < 128) with h | h | h | h
    · exact ⟨_, .tail _ (.head _), mem_unit2 inb3 _ (by omega) (by omega)⟩
    · exact ⟨_, .tail _ (.tail _ (.head _)), mem_unit2 inb2 _ (by omega) (by omega)⟩
    · exact ⟨_, .tail _ (.tail _ (.tail _ (.head _))), mem_unit2 inb1 _ (by omega) (by omega)⟩
    · exact ⟨_, .tail _ (.tail _ (.tail _ (.tail _ (.head _)))), mem_unit2 inb0 _ (by omega) (by omega)⟩
  · exact ⟨_, .head _, mem_unit2 inbt _ (by omega) (by omega)⟩

theorem finB_q (inb3 inb2 inb1 inb0 inbt) :
    View.canon (Val := Elt Ideal) [⟨Rect.unit (s := S528x512) ![512, 0] ![16, 512] inbt, mat (φ := .f32) 16 512 (rows t D.qq)⟩, ⟨Rect.unit (s := S528x512) ![0, 384] ![512, 128] inb3, blk 128 (rows t (D.q 3))⟩, ⟨Rect.unit (s := S528x512) ![0, 256] ![512, 128] inb2, blk 128 (rows t (D.q 2))⟩, ⟨Rect.unit (s := S528x512) ![0, 128] ![512, 128] inb1, blk 128 (rows t (D.q 1))⟩, ⟨Rect.unit (s := S528x512) ![0, 0] ![512, 128] inb0, blk 128 (rows t (D.q 0))⟩] = E528 (car t D.qq) := by
  funext y
  have h0 : (y 0).val < 528 := (y 0).isLt
  have h1 : (y 1).val < 512 := (y 1).isLt
  refine View.canon_append_of_piecesOf (E528 (car t D.qq)) [] [_, _, _, _, _] ⟨pc _ _ inbt fun i _ j _ => by rw [Nat.zero_add, car_top], pc _ _ inb3 fun i hi j hj => by rw [Nat.zero_add, car_low _ _ _ hi]; exact (qq_eq D 3 hj).symm, pc _ _ inb2 fun i hi j hj => by rw [Nat.zero_add, car_low _ _ _ hi]; exact (qq_eq D 2 hj).symm, pc _ _ inb1 fun i hi j hj => by rw [Nat.zero_add, car_low _ _ _ hi]; exact (qq_eq D 1 hj).symm, pc _ _ inb0 fun i hi j hj => by rw [Nat.zero_add, car_low _ _ _ hi]; exact (qq_eq D 0 hj).symm, trivial⟩ y ?_
  by_cases h : (y 0).val < 512
  · rcases (by omega : 384 ≤ (y 1).val ∨ (256 ≤ (y 1).val ∧ (y 1).val < 384) ∨ (128 ≤ (y 1).val ∧ (y 1).val < 256) ∨ (y 1).val < 128) with h | h | h | h
    · exact ⟨_, .tail _ (.head _), mem_unit2 inb3 _ (by omega) (by omega)⟩
    · exact ⟨_, .tail _ (.tail _ (.head _)), mem_unit2 inb2 _ (by omega) (by omega)⟩
    · exact ⟨_, .tail _ (.tail _ (.tail _ (.head _))), mem_unit2 inb1 _ (by omega) (by omega)⟩
    · exact ⟨_, .tail _ (.tail _ (.tail _ (.tail _ (.head _)))), mem_unit2 inb0 _ (by omega) (by omega)⟩
  · exact ⟨_, .head _, mem_unit2 inbt _ (by omega) (by omega)⟩

end Scratch
variable (D : Mix)

theorem ld_md {a : ℕ} (inb) : View.ld (Val := Elt Ideal) (e' := .f32) (mat (φ := .f32) 6 1024 D.md) (Rect.unit (s := S6x1024) ![a, 0] ![1, 1024] inb) = row 1024 (D.md a) :=
  (ld_row (φ := .f32) _ inb).trans (mat_congr fun _ _ j _ => by rw [Nat.zero_add])
theorem ld_cw {a : ℕ} (inb) : View.ld (Val := Elt Ideal) (e' := .f32) (mat (φ := .f32) 3 512 D.cw) (Rect.unit (s := S3x512) ![a, 0] ![1, 512] inb) = row 512 (D.cw a) :=
  (ld_row (φ := .f32) _ inb).trans (mat_congr fun _ _ j _ => by rw [Nat.zero_add])
theorem ld_ps0 (inb) : View.ld (Val := Elt Ideal) (e' := .f32) (row 512 D.ps) (Rect.unit (s := S1x512) ![0, 0] ![1, 128] inb) = row 128 fun j => D.ps (128 * 0 + j) :=
  ld_row (φ := .f32) _ inb
theorem ld_ps1 (inb) : View.ld (Val := Elt Ideal) (e' := .f32) (row 512 D.ps) (Rect.unit (s := S1x512) ![0, 128] ![1, 128] inb) = row 128 fun j => D.ps (128 * 1 + j) :=
  ld_row (φ := .f32) _ inb
theorem ld_ps2 (inb) : View.ld (Val := Elt Ideal) (e' := .f32) (row 512 D.ps) (Rect.unit (s := S1x512) ![0, 256] ![1, 128] inb) = row 128 fun j => D.ps (128 * 2 + j) :=
  ld_row (φ := .f32) _ inb
theorem ld_ps3 (inb) : View.ld (Val := Elt Ideal) (e' := .f32) (row 512 D.ps) (Rect.unit (s := S1x512) ![0, 384] ![1, 128] inb) = row 128 fun j => D.ps (128 * 3 + j) :=
  ld_row (φ := .f32) _ inb
theorem ld_wp {a : ℕ} (inb) : View.ld (Val := Elt Ideal) (e' := .f32) (ten (φ := .f32) 4 128 128 D.wp) (Rect.unit (s := S4x128x128) ![a, 0, 0] ![1, 128, 128] inb) = slab (D.wp a) :=
  ld_ten _ inb
theorem ld_a8 {a : ℕ} (f : ℕ → ℕ → ℝ) (inb) : View.ld (Val := Elt Ideal) (e' := .f32) (mat (φ := .f32) 8 1024 f) (Rect.unit (s := S8x1024) ![a, 0] ![1, 1024] inb) = row 1024 (f a) :=
  (ld_row (φ := .f32) _ inb).trans (mat_congr fun _ _ j _ => by rw [Nat.zero_add])
theorem ld_c8 {a : ℕ} (f : ℕ → ℕ → ℝ) (inb) : View.ld (Val := Elt Ideal) (e' := .f32) (mat (φ := .f32) 8 512 f) (Rect.unit (s := S8x512) ![a, 0] ![1, 512] inb) = row 512 (f a) :=
  (ld_row (φ := .f32) _ inb).trans (mat_congr fun _ _ j _ => by rw [Nat.zero_add])

/-- What one more block adds to the three accumulated arrays. -/
def accT (D : Mix) (t : ℕ) (f : ℕ → ℕ → ℝ) (i j : ℕ) : ℝ := if i < 5 then f i j + sumr t (D.A i) j else f i j
def cwT (D : Mix) (t : ℕ) (f : ℕ → ℕ → ℝ) (i j : ℕ) : ℝ := if i < 4 then f i j + sumr t (D.C i) j else f i j
def wpT (D : Mix) (t : ℕ) (f : ℕ → ℕ → ℕ → ℝ) (p i j : ℕ) : ℝ := f p i j + D.G t p i j

theorem word_rev (i : grid0.Coords) {t : ℕ} (h : (i 0).val + t = 15) : Scalar.subi (15#32) (BitVec.ofNat 32 (i 0).val) = word t := by
  unfold Scalar.subi IntOp.subi word
  have := (i 0).isLt
  apply BitVec.eq_of_toNat_eq
  simp only [BitVec.toNat_sub, BitVec.toNat_ofNat]
  omega

variable (t : ℕ) (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x2048 .bf16) (harg6 : arg6.IsWhole) (arg7 : Memref sig .tc .vmem S16x2048 .bf16) (harg7 : arg7.IsWhole) (arg8 : Memref sig .tc .vmem S6x1024 .f32) (harg8 : arg8.IsWhole) (arg9 : Memref sig .tc .vmem S4x1024 .f32) (harg9 : arg9.IsWhole) (arg10 : Memref sig .tc .vmem S1024x1024 .bf16) (harg10 : arg10.IsWhole) (arg11 : Memref sig .tc .vmem S1024x2048 .bf16) (harg11 : arg11.IsWhole) (arg12 : Memref sig .tc .vmem S3x512 .f32) (harg12 : arg12.IsWhole) (arg13 : Memref sig .tc .vmem S4x128x128 .f32) (harg13 : arg13.IsWhole) (arg14 : Memref sig .tc .vmem S1x512 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S512x2048 .bf16) (harg18 : arg18.IsWhole) (arg19 : Memref sig .tc .vmem S8x1024 .f32) (harg19 : arg19.IsWhole) (arg20 : Memref sig .tc .vmem S8x512 .f32) (harg20 : arg20.IsWhole) (arg21 : Memref sig .tc .vmem S4x128x128 .f32) (harg21 : arg21.IsWhole) (arg22 : Memref sig .tc .vmem S528x512 .f32) (harg22 : arg22.IsWhole) (arg23 : Memref sig .tc .vmem S528x512 .f32) (harg23 : arg23.IsWhole) (arg24 : Memref sig .tc .vmem S528x512 .f32) (harg24 : arg24.IsWhole) (arg25 : Memref sig .tc .vmem S528x512 .f32) (harg25 : arg25.IsWhole)
set_option maxHeartbeats 2000000 in
set_option backward.isDefEq.respectTransparency false in
/-- The first point, the last block: what every buffer holds after it. -/
theorem out_A (hc0 : cond0_0 i) (hi : (i 0).val + t = 15) (ht5 : t = 15) (x8 : Vec Ideal S4x1024 .f32) (hl : ∀ inb, View.ld x8 (Rect.unit (s := S4x1024) ![0, 0] ![1, 1024] inb) = row 1024 (D.ln 0)) (x0 : Vec Ideal S512x1024 .f32) (h0 : x0 = blk 1024 (rows t D.g)) (x1 : Vec Ideal S512x1024 .f32) (h1 : x1 = blk 1024 (rows t D.xh)) (x2 : Vec Ideal S512x1 .f32) (h2 : x2 = col fun i => D.rs (512 * t + i)) (x3 : Vec Ideal S512x1024 .f32) (h3 : x3 = blk 1024 (rows t D.x)) (x4 : Vec Ideal S512x1024 .f32) (h4 : x4 = blk 1024 (rows t D.mix)) (x5 : Vec Ideal S512x2048 .bf16) (h5 : x5 = blkB 2048 (rows t D.z)) (x6 : Vec Ideal S16x2048 .bf16) (h6 : x6 = halo D t) (x7 : Vec Ideal S6x1024 .f32) (h7 : x7 = mat (φ := .f32) 6 1024 D.md) (x9 : Vec Ideal S1024x1024 .bf16) (h9 : x9 = mat (φ := .bf16) 1024 1024 D.wo) (x10 : Vec Ideal S1024x2048 .bf16) (h10 : x10 = mat (φ := .bf16) 1024 2048 D.wi) (x11 : Vec Ideal S3x512 .f32) (h11 : x11 = mat (φ := .f32) 3 512 D.cw) (x12 : Vec Ideal S4x128x128 .f32) (h12 : x12 = ten (φ := .f32) 4 128 128 D.wp) (x13 : Vec Ideal S1x512 .f32) (h13 : x13 = row 512 D.ps) :
    let r := kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13
    View.canon (Val := Elt Ideal) r.1 = blk 1024 (rows t D.dx) ∧
      View.canon (Val := Elt Ideal) r.2.1 = blkB 1024 (rows t D.dm) ∧
      View.canon (Val := Elt Ideal) r.2.2.1 = blkB 1024 (rows t D.yc) ∧
      View.canon (Val := Elt Ideal) r.2.2.2.1 = blkB 2048 (rows t D.dz) ∧
      View.canon (Val := Elt Ideal) r.2.2.2.2.1 = mat (φ := .f32) 8 1024 (accT D t fun _ _ => 0) ∧
      View.canon (Val := Elt Ideal) r.2.2.2.2.2.1 = mat (φ := .f32) 8 512 (cwT D t fun _ _ => 0) ∧
      View.canon (Val := Elt Ideal) r.2.2.2.2.2.2.1 = ten (φ := .f32) 4 128 128 (wpT D t fun _ _ _ => 0) ∧
      View.canon (Val := Elt Ideal) r.2.2.2.2.2.2.2.1 = ext 512 (car t D.e) ∧
      View.canon (Val := Elt Ideal) r.2.2.2.2.2.2.2.2.1 = ext 512 (car t D.qq) := by
  have ht : t < 16 := by omega
  have hJ := word_rev i hi
  subst h0 h1 h2 h3 h4 h5 h6 h7 h9 h10 h11 h12 h13
  unfold kernelRun0_A
  dsimp only
  sl_unfold_words
  refine ⟨(View.canon_unit_zero hz _ _).trans ?_, (View.canon_unit_zero hz _ _).trans ?_, (View.canon_unit_zero hz _ _).trans ?_, (View.canon_unit_zero hz _ _).trans ?_, ?_, ?_, ?_, ?_, ?_⟩
  all_goals simp (disch := decide) only [View.readAt_eq_ld, Memref.IsWhole.read_unread, View.ld_unit_zero (S := S512x1024) hz, View.ld_unit_zero (S := S512x1) hz, View.ld_unit_zero (S := S512x2048) hz, View.ld_unit_zero (S := S16x2048) hz, View.ld_unit_zero (S := S1024x1024) hz, View.ld_unit_zero (S := S1024x2048) hz, View.ld_unit_zero (S := S528x512) hz, ld_md, hl, ld_cw, ld_ps0, ld_ps1, ld_ps2, ld_ps3, ld_wp, ld_ten, ld_a8, ld_c8, hJ, rd_lo, row_skip, row_fill, slab_skip, slab_fill, rdA_e t _ _ ht5, rdA_q t _ D ht5, topA_e t _ _ ht5, topA_q t _ D ht5, pay5, pay6, pay7, pay8, pay9, pay3, pay4, pay10, pay11, pay12, pay13, pay14, pay15, pay16, pay17, pay18, pay19, pay20, pay21, pay22 D t ht, pay23, pay24, pay25, pay26, pay27, pay28 D t ht, pay30 D t ht, pay29, pay31, pay32, pay33, pay34, pay35, pay36, pay37, pay38, pay39, pay40, pay41, pay42, pay43, pay44, pay45, pay47, pay48, pay50, pay49, pay51, pay52, pay53 t ht, pay56 t ht, pay58 t ht, pay60 t ht, pay54 D t ht, pay57 D t ht, pay59 D t ht, pay61 D t ht, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay1, pay2]
  · rw [← View.read_writes_junk_eq_canon arg19.view]
    refine (read_put _ _ _ _ (read_put _ _ _ _ (read_put _ _ _ _ (read_put _ _ _ _ (read_put _ _ _ _ (View.read_writes_full _ _ _ _ _)))))).trans (mat_congr fun i hi j _ => ?_)
    interval_cases i <;> rfl
  · rw [← View.read_writes_junk_eq_canon arg20.view]
    refine (read_put _ _ _ _ (read_put _ _ _ _ (read_put _ _ _ _ (read_put _ _ _ _ (View.read_writes_full _ _ _ _ _))))).trans (mat_congr fun i hi j _ => ?_)
    interval_cases i <;> rfl
  · rw [← View.read_writes_junk_eq_canon arg21.view]
    refine (read_put3 _ _ _ _ (read_put3 _ _ _ _ (read_put3 _ _ _ _ (read_put3 _ _ _ _ (View.read_writes_full _ _ _ _ _))))).trans (ten_congr fun p hp i _ j _ => ?_)
    interval_cases p <;> simp [wpT]
  · exact finA_e ..
  · exact finA_q ..

set_option maxHeartbeats 2000000 in
set_option backward.isDefEq.respectTransparency false in
/-- A later point, an earlier block, from what the point before left in the carried buffers. -/
theorem out_B (hc0 : ¬cond0_0 i) (hi : (i 0).val + t = 15) (ht5 : t < 15) (x8 : Vec Ideal S4x1024 .f32) (hl : ∀ inb, View.ld x8 (Rect.unit (s := S4x1024) ![0, 0] ![1, 1024] inb) = row 1024 (D.ln 0)) (o18 : ℕ → ℕ → ℝ) (o19 : ℕ → ℕ → ℝ) (o20 : ℕ → ℕ → ℕ → ℝ) (y18 : Vec Ideal S8x1024 .f32) (g18 : y18 = mat (φ := .f32) 8 1024 o18) (y19 : Vec Ideal S8x512 .f32) (g19 : y19 = mat (φ := .f32) 8 512 o19) (y20 : Vec Ideal S4x128x128 .f32) (g20 : y20 = ten (φ := .f32) 4 128 128 o20) (s2 s3 : Vec Ideal S528x512 .f32) (g2 : s2 = ext 512 (car (t + 1) D.e)) (g3 : s3 = ext 512 (car (t + 1) D.qq)) (x0 : Vec Ideal S512x1024 .f32) (h0 : x0 = blk 1024 (rows t D.g)) (x1 : Vec Ideal S512x1024 .f32) (h1 : x1 = blk 1024 (rows t D.xh)) (x2 : Vec Ideal S512x1 .f32) (h2 : x2 = col fun i => D.rs (512 * t + i)) (x3 : Vec Ideal S512x1024 .f32) (h3 : x3 = blk 1024 (rows t D.x)) (x4 : Vec Ideal S512x1024 .f32) (h4 : x4 = blk 1024 (rows t D.mix)) (x5 : Vec Ideal S512x2048 .bf16) (h5 : x5 = blkB 2048 (rows t D.z)) (x6 : Vec Ideal S16x2048 .bf16) (h6 : x6 = halo D t) (x7 : Vec Ideal S6x1024 .f32) (h7 : x7 = mat (φ := .f32) 6 1024 D.md) (x9 : Vec Ideal S1024x1024 .bf16) (h9 : x9 = mat (φ := .bf16) 1024 1024 D.wo) (x10 : Vec Ideal S1024x2048 .bf16) (h10 : x10 = mat (φ := .bf16) 1024 2048 D.wi) (x11 : Vec Ideal S3x512 .f32) (h11 : x11 = mat (φ := .f32) 3 512 D.cw) (x12 : Vec Ideal S4x128x128 .f32) (h12 : x12 = ten (φ := .f32) 4 128 128 D.wp) (x13 : Vec Ideal S1x512 .f32) (h13 : x13 = row 512 D.ps) :
    let r := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 y18 y19 y20 s2 s3
    View.canon (Val := Elt Ideal) r.1 = blk 1024 (rows t D.dx) ∧
      View.canon (Val := Elt Ideal) r.2.1 = blkB 1024 (rows t D.dm) ∧
      View.canon (Val := Elt Ideal) r.2.2.1 = blkB 1024 (rows t D.yc) ∧
      View.canon (Val := Elt Ideal) r.2.2.2.1 = blkB 2048 (rows t D.dz) ∧
      arg19.view.read (Elt Ideal) (arg19.view.writes (Elt Ideal) (harg19.unread (y18)) r.2.2.2.2.1) = mat (φ := .f32) 8 1024 (accT D t o18) ∧
      arg20.view.read (Elt Ideal) (arg20.view.writes (Elt Ideal) (harg20.unread (y19)) r.2.2.2.2.2.1) = mat (φ := .f32) 8 512 (cwT D t o19) ∧
      arg21.view.read (Elt Ideal) (arg21.view.writes (Elt Ideal) (harg21.unread (y20)) r.2.2.2.2.2.2.1) = ten (φ := .f32) 4 128 128 (wpT D t o20) ∧
      View.canon (Val := Elt Ideal) r.2.2.2.2.2.2.2.1 = ext 512 (car t D.e) ∧
      View.canon (Val := Elt Ideal) r.2.2.2.2.2.2.2.2.1 = ext 512 (car t D.qq) := by
  have ht : t < 16 := by omega
  have hJ := word_rev i hi
  subst h0 h1 h2 h3 h4 h5 h6 h7 h9 h10 h11 h12 h13 g18 g19 g20 g2 g3
  unfold kernelRun0_B
  dsimp only
  sl_unfold_words
  refine ⟨(View.canon_unit_zero hz _ _).trans ?_, (View.canon_unit_zero hz _ _).trans ?_, (View.canon_unit_zero hz _ _).trans ?_, (View.canon_unit_zero hz _ _).trans ?_, ?_, ?_, ?_, ?_, ?_⟩
  all_goals simp (disch := decide) only [View.readAt_eq_ld, Memref.IsWhole.read_unread, View.ld_unit_zero (S := S512x1024) hz, View.ld_unit_zero (S := S512x1) hz, View.ld_unit_zero (S := S512x2048) hz, View.ld_unit_zero (S := S16x2048) hz, View.ld_unit_zero (S := S1024x1024) hz, View.ld_unit_zero (S := S1024x2048) hz, View.ld_unit_zero (S := S528x512) hz, ld_md, hl, ld_cw, ld_ps0, ld_ps1, ld_ps2, ld_ps3, ld_wp, ld_ten, ld_a8, ld_c8, hJ, rd_lo, row_skip, row_fill, slab_skip, slab_fill, rdB_e t _ _ ht5 _ (Memref.IsWhole.read_unread _ _), rdB_q t _ D ht5 _ (Memref.IsWhole.read_unread _ _), topB_e t _ _ ht, topB_q t _ D ht, pay5, pay6, pay7, pay8, pay9, pay3, pay4, pay10, pay11, pay12, pay13, pay14, pay15, pay16, pay17, pay18, pay19, pay20, pay21, pay22 D t ht, pay23, pay24, pay25, pay26, pay27, pay28 D t ht, pay30 D t ht, pay29, pay31, pay32, pay33, pay34, pay35, pay36, pay37, pay38, pay39, pay40, pay41, pay42, pay43, pay44, pay45, pay47, pay48, pay50, pay49, pay51, pay52, pay53 t ht, pay56 t ht, pay58 t ht, pay60 t ht, pay54 D t ht, pay57 D t ht, pay59 D t ht, pay61 D t ht, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay1, pay2]
  · refine (read_put _ _ _ _ (read_put _ _ _ _ (read_put _ _ _ _ (read_put _ _ _ _ (read_put _ _ _ _ (Memref.IsWhole.read_unread _ _)))))).trans (mat_congr fun i hi j _ => ?_)
    interval_cases i <;> rfl
  · refine (read_put _ _ _ _ (read_put _ _ _ _ (read_put _ _ _ _ (read_put _ _ _ _ (Memref.IsWhole.read_unread _ _))))).trans (mat_congr fun i hi j _ => ?_)
    interval_cases i <;> rfl
  · refine (read_put3 _ _ _ _ (read_put3 _ _ _ _ (read_put3 _ _ _ _ (read_put3 _ _ _ _ (Memref.IsWhole.read_unread _ _))))).trans (ten_congr fun p hp i _ j _ => ?_)
    interval_cases p <;> simp [wpT]
  · exact finB_e ..
  · exact finB_q ..

end Cert.MixPoint
end
-- ==== Proof.MixArr.lean ====
/- The result arrays of the mixer's backward call, over the reals: the backward formulas of the model, block by block from the last. -/
module

public import proofs.«01_k».proof.Proof.MixOut

@[expose] public section

set_option maxRecDepth 16384

noncomputable section

namespace Cert.MixArr

open Finset Cert.RealMat Cert.MlpReal Cert.MixReal Cert.MixPoint Cert.MixRun Idealize.ShloMosaic Idealize.ShloMosaic.TcCoe Idealize.ShloMosaic.Tactic Idealize.SL Idealize.SL.Sem Cert.Kernel2Ideal Cert.Kernel2Ideal.Gen
open Idealize.ShloMosaic.Pipeline (Dat)

variable (m : (ℓ : Loc nD τ sig) → Buf (Elt Ideal) ℓ) (c : Dev nD) (D : Mix)

/-- The arrays the call reads hold the real numbers of `D`; of the layer norms' parameters only the first row is read. -/
structure Holds : Prop where
  h0 : V m c main_arg0 = mat (φ := .f32) 8192 1024 D.g
  h1 : V m c main_v128 = mat (φ := .f32) 8192 1024 D.xh
  h2 : V m c main_v124 = mat (φ := .f32) 8192 1 fun i _ => D.rs i
  h3 : V m c main_arg1 = mat (φ := .f32) 8192 1024 D.x
  h4 : V m c main_v102 = mat (φ := .f32) 8192 1024 D.mix
  h5 : V m c main_v129 = mat (φ := .bf16) 8192 2048 D.z
  h7 : V m c main_v4 = mat (φ := .f32) 6 1024 D.md
  h9 : V m c main_v130 = mat (φ := .bf16) 1024 1024 D.wo
  h10 : V m c main_v131 = mat (φ := .bf16) 1024 2048 D.wi
  h11 : V m c main_arg6 = mat (φ := .f32) 3 512 D.cw
  h12 : V m c main_arg7 = ten (φ := .f32) 4 128 128 D.wp
  h13 : V m c main_arg8 = mat (φ := .f32) 1 512 fun _ j => D.ps j
  h8 : ∀ j : S4x1024.Idx, (j 0).val = 0 → V m c main_v0 j = ((D.ln 0 (j 1).val : ℝ) : EReal)

variable {m c D} (H : Holds m c D)
include H

theorem iblk0 (t : Fin cfg0.N) : (iblk m c 0 t : Vec Ideal S512x1024 .f32) = blk 1024 (rows (15 - t.val) D.g) := by
  have hi : win0_0.index t 0 = 15 - t.val ∧ win0_0.index t 1 = 0 := (by decide +kernel : ∀ t : Fin grid0.N, win0_0.index t 0 = 15 - t.val ∧ win0_0.index t 1 = 0) t
  funext j
  unfold iblk
  rw [View.read_apply]
  show V m c main_arg0 _ = _
  rw [H.h0]
  show ((D.g (win0_0.index t 0 * 512 + 1 * (j 0).val) (win0_0.index t 1 * 1024 + 1 * (j 1).val) : ℝ) : EReal) = ((D.g (512 * (15 - t.val) + (j 0).val) (j 1).val : ℝ) : EReal)
  rw [hi.1, hi.2]
  congr 2 <;> omega

theorem iblk1 (t : Fin cfg0.N) : (iblk m c 1 t : Vec Ideal S512x1024 .f32) = blk 1024 (rows (15 - t.val) D.xh) := by
  have hi : win0_1.index t 0 = 15 - t.val ∧ win0_1.index t 1 = 0 := (by decide +kernel : ∀ t : Fin grid0.N, win0_1.index t 0 = 15 - t.val ∧ win0_1.index t 1 = 0) t
  funext j
  unfold iblk
  rw [View.read_apply]
  show V m c main_v128 _ = _
  rw [H.h1]
  show ((D.xh (win0_1.index t 0 * 512 + 1 * (j 0).val) (win0_1.index t 1 * 1024 + 1 * (j 1).val) : ℝ) : EReal) = ((D.xh (512 * (15 - t.val) + (j 0).val) (j 1).val : ℝ) : EReal)
  rw [hi.1, hi.2]
  congr 2 <;> omega

theorem iblk2 (t : Fin cfg0.N) : (iblk m c 2 t : Vec Ideal S512x1 .f32) = col fun i => D.rs (512 * (15 - t.val) + i) := by
  have hi : win0_2.index t 0 = 15 - t.val ∧ win0_2.index t 1 = 0 := (by decide +kernel : ∀ t : Fin grid0.N, win0_2.index t 0 = 15 - t.val ∧ win0_2.index t 1 = 0) t
  funext j
  unfold iblk
  rw [View.read_apply]
  show V m c main_v124 _ = _
  rw [H.h2]
  show ((D.rs (win0_2.index t 0 * 512 + 1 * (j 0).val) : ℝ) : EReal) = ((D.rs (512 * (15 - t.val) + (j 0).val) : ℝ) : EReal)
  rw [hi.1]
  congr 2 <;> omega

theorem iblk3 (t : Fin cfg0.N) : (iblk m c 3 t : Vec Ideal S512x1024 .f32) = blk 1024 (rows (15 - t.val) D.x) := by
  have hi : win0_3.index t 0 = 15 - t.val ∧ win0_3.index t 1 = 0 := (by decide +kernel : ∀ t : Fin grid0.N, win0_3.index t 0 = 15 - t.val ∧ win0_3.index t 1 = 0) t
  funext j
  unfold iblk
  rw [View.read_apply]
  show V m c main_arg1 _ = _
  rw [H.h3]
  show ((D.x (win0_3.index t 0 * 512 + 1 * (j 0).val) (win0_3.index t 1 * 1024 + 1 * (j 1).val) : ℝ) : EReal) = ((D.x (512 * (15 - t.val) + (j 0).val) (j 1).val : ℝ) : EReal)
  rw [hi.1, hi.2]
  congr 2 <;> omega

theorem iblk4 (t : Fin cfg0.N) : (iblk m c 4 t : Vec Ideal S512x1024 .f32) = blk 1024 (rows (15 - t.val) D.mix) := by
  have hi : win0_4.index t 0 = 15 - t.val ∧ win0_4.index t 1 = 0 := (by decide +kernel : ∀ t : Fin grid0.N, win0_4.index t 0 = 15 - t.val ∧ win0_4.index t 1 = 0) t
  funext j
  unfold iblk
  rw [View.read_apply]
  show V m c main_v102 _ = _
  rw [H.h4]
  show ((D.mix (win0_4.index t 0 * 512 + 1 * (j 0).val) (win0_4.index t 1 * 1024 + 1 * (j 1).val) : ℝ) : EReal) = ((D.mix (512 * (15 - t.val) + (j 0).val) (j 1).val : ℝ) : EReal)
  rw [hi.1, hi.2]
  congr 2 <;> omega

theorem iblk5 (t : Fin cfg0.N) : (iblk m c 5 t : Vec Ideal S512x2048 .bf16) = blkB 2048 (rows (15 - t.val) D.z) := by
  have hi : win0_5.index t 0 = 15 - t.val ∧ win0_5.index t 1 = 0 := (by decide +kernel : ∀ t : Fin grid0.N, win0_5.index t 0 = 15 - t.val ∧ win0_5.index t 1 = 0) t
  funext j
  unfold iblk
  rw [View.read_apply]
  show V m c main_v129 _ = _
  rw [H.h5]
  show ((D.z (win0_5.index t 0 * 512 + 1 * (j 0).val) (win0_5.index t 1 * 2048 + 1 * (j 1).val) : ℝ) : EReal) = ((D.z (512 * (15 - t.val) + (j 0).val) (j 1).val : ℝ) : EReal)
  rw [hi.1, hi.2]
  congr 2 <;> omega

theorem iblk6 (t : Fin cfg0.N) : (iblk m c 6 t : Vec Ideal S16x2048 .bf16) = halo D (15 - t.val) := by
  have hi : win0_6.index t 0 = 32 * (15 - t.val) - 1 ∧ win0_6.index t 1 = 0 := (by decide +kernel : ∀ t : Fin grid0.N, win0_6.index t 0 = 32 * (15 - t.val) - 1 ∧ win0_6.index t 1 = 0) t
  funext j
  unfold iblk
  rw [View.read_apply]
  show V m c main_v129 _ = _
  rw [H.h5]
  show ((D.z (win0_6.index t 0 * 16 + 1 * (j 0).val) (win0_6.index t 1 * 2048 + 1 * (j 1).val) : ℝ) : EReal) = ((D.z (16 * (32 * (15 - t.val) - 1) + (j 0).val) (j 1).val : ℝ) : EReal)
  rw [hi.1, hi.2]
  congr 2 <;> omega

theorem iblk7 (t : Fin cfg0.N) : (iblk m c 7 t : Vec Ideal S6x1024 .f32) = mat (φ := .f32) 6 1024 D.md := by
  have hi : win0_7.index t 0 = 0 ∧ win0_7.index t 1 = 0 := (by decide +kernel : ∀ t : Fin grid0.N, win0_7.index t 0 = 0 ∧ win0_7.index t 1 = 0) t
  funext j
  unfold iblk
  rw [View.read_apply]
  show V m c main_v4 _ = _
  rw [H.h7]
  show ((D.md (win0_7.index t 0 * 6 + 1 * (j 0).val) (win0_7.index t 1 * 1024 + 1 * (j 1).val) : ℝ) : EReal) = ((D.md (j 0).val (j 1).val : ℝ) : EReal)
  rw [hi.1, hi.2]
  congr 2 <;> omega

theorem iblk9 (t : Fin cfg0.N) : (iblk m c 9 t : Vec Ideal S1024x1024 .bf16) = mat (φ := .bf16) 1024 1024 D.wo := by
  have hi : win0_9.index t 0 = 0 ∧ win0_9.index t 1 = 0 := (by decide +kernel : ∀ t : Fin grid0.N, win0_9.index t 0 = 0 ∧ win0_9.index t 1 = 0) t
  funext j
  unfold iblk
  rw [View.read_apply]
  show V m c main_v130 _ = _
  rw [H.h9]
  show ((D.wo (win0_9.index t 0 * 1024 + 1 * (j 0).val) (win0_9.index t 1 * 1024 + 1 * (j 1).val) : ℝ) : EReal) = ((D.wo (j 0).val (j 1).val : ℝ) : EReal)
  rw [hi.1, hi.2]
  congr 2 <;> omega

theorem iblk10 (t : Fin cfg0.N) : (iblk m c 10 t : Vec Ideal S1024x2048 .bf16) = mat (φ := .bf16) 1024 2048 D.wi := by
  have hi : win0_10.index t 0 = 0 ∧ win0_10.index t 1 = 0 := (by decide +kernel : ∀ t : Fin grid0.N, win0_10.index t 0 = 0 ∧ win0_10.index t 1 = 0) t
  funext j
  unfold iblk
  rw [View.read_apply]
  show V m c main_v131 _ = _
  rw [H.h10]
  show ((D.wi (win0_10.index t 0 * 1024 + 1 * (j 0).val) (win0_10.index t 1 * 2048 + 1 * (j 1).val) : ℝ) : EReal) = ((D.wi (j 0).val (j 1).val : ℝ) : EReal)
  rw [hi.1, hi.2]
  congr 2 <;> omega

theorem iblk11 (t : Fin cfg0.N) : (iblk m c 11 t : Vec Ideal S3x512 .f32) = mat (φ := .f32) 3 512 D.cw := by
  have hi : win0_11.index t 0 = 0 ∧ win0_11.index t 1 = 0 := (by decide +kernel : ∀ t : Fin grid0.N, win0_11.index t 0 = 0 ∧ win0_11.index t 1 = 0) t
  funext j
  unfold iblk
  rw [View.read_apply]
  show V m c main_arg6 _ = _
  rw [H.h11]
  show ((D.cw (win0_11.index t 0 * 3 + 1 * (j 0).val) (win0_11.index t 1 * 512 + 1 * (j 1).val) : ℝ) : EReal) = ((D.cw (j 0).val (j 1).val : ℝ) : EReal)
  rw [hi.1, hi.2]
  congr 2 <;> omega

theorem iblk12 (t : Fin cfg0.N) : (iblk m c 12 t : Vec Ideal S4x128x128 .f32) = ten (φ := .f32) 4 128 128 D.wp := by
  have hi : win0_12.index t 0 = 0 ∧ win0_12.index t 1 = 0 ∧ win0_12.index t 2 = 0 := (by decide +kernel : ∀ t : Fin grid0.N, win0_12.index t 0 = 0 ∧ win0_12.index t 1 = 0 ∧ win0_12.index t 2 = 0) t
  funext j
  unfold iblk
  rw [View.read_apply]
  show V m c main_arg7 _ = _
  rw [H.h12]
  show ((D.wp (win0_12.index t 0 * 4 + 1 * (j 0).val) (win0_12.index t 1 * 128 + 1 * (j 1).val) (win0_12.index t 2 * 128 + 1 * (j 2).val) : ℝ) : EReal) = ((D.wp (j 0).val (j 1).val (j 2).val : ℝ) : EReal)
  rw [hi.1, hi.2.1, hi.2.2]
  congr 2 <;> omega

theorem iblk13 (t : Fin cfg0.N) : (iblk m c 13 t : Vec Ideal S1x512 .f32) = row 512 D.ps := by
  have hi : win0_13.index t 0 = 0 ∧ win0_13.index t 1 = 0 := (by decide +kernel : ∀ t : Fin grid0.N, win0_13.index t 0 = 0 ∧ win0_13.index t 1 = 0) t
  funext j
  unfold iblk
  rw [View.read_apply]
  show V m c main_arg8 _ = _
  rw [H.h13]
  show ((D.ps (win0_13.index t 1 * 512 + 1 * (j 1).val) : ℝ) : EReal) = ((D.ps (j 1).val : ℝ) : EReal)
  rw [hi.2]
  congr 2 <;> omega

theorem iblk8 (t : Fin cfg0.N) (inb) : View.ld (iblk m c 8 t : Vec Ideal S4x1024 .f32) (Rect.unit (s := S4x1024) ![0, 0] ![1, 1024] inb) = row 1024 (D.ln 0) := by
  have hi : win0_8.index t 0 = 0 ∧ win0_8.index t 1 = 0 := (by decide +kernel : ∀ t : Fin grid0.N, win0_8.index t 0 = 0 ∧ win0_8.index t 1 = 0) t
  funext j
  have h0 : (j 0).val < 1 := (j 0).isLt
  show iblk m c 8 t _ = _
  unfold iblk
  rw [View.read_apply]
  show V m c main_v0 _ = _
  refine (H.h8 _ ?_).trans ?_
  · show win0_8.index t 0 * 4 + 1 * (0 + 1 * (j 0).val) = 0
    rw [hi.1]
    omega
  · show ((D.ln 0 (win0_8.index t 1 * 1024 + 1 * (0 + 1 * (j 1).val)) : ℝ) : EReal) = ((D.ln 0 (j 1).val : ℝ) : EReal)
    rw [hi.2]
    congr 2
    omega

omit H

/-- The accumulated arrays after `n` blocks, the last block first. -/
def accA (D : Mix) : ℕ → ℕ → ℕ → ℝ
  | 0 => fun _ _ => 0
  | n + 1 => accT D (15 - n) (accA D n)
def cwA (D : Mix) : ℕ → ℕ → ℕ → ℝ
  | 0 => fun _ _ => 0
  | n + 1 => cwT D (15 - n) (cwA D n)
def wpA (D : Mix) : ℕ → ℕ → ℕ → ℕ → ℝ
  | 0 => fun _ _ _ => 0
  | n + 1 => wpT D (15 - n) (wpA D n)

/-- What point `n` leaves: the blocks of the results, the accumulated arrays, the two carried buffers. -/
def good (D : Mix) (n : ℕ) : Left Ideal where
  o14 := blk 1024 (rows (15 - n) D.dx)
  o15 := blkB 1024 (rows (15 - n) D.dm)
  o16 := blkB 1024 (rows (15 - n) D.yc)
  o17 := blkB 2048 (rows (15 - n) D.dz)
  o18 := mat (φ := .f32) 8 1024 (accA D (n + 1))
  o19 := mat (φ := .f32) 8 512 (cwA D (n + 1))
  o20 := ten (φ := .f32) 4 128 128 (wpA D (n + 1))
  s2 := ext 512 (car (15 - n) D.e)
  s3 := ext 512 (car (15 - n) D.qq)

theorem left_ext {a b : Left Ideal} (h14 : a.o14 = b.o14) (h15 : a.o15 = b.o15) (h16 : a.o16 = b.o16) (h17 : a.o17 = b.o17) (h18 : a.o18 = b.o18) (h19 : a.o19 = b.o19) (h20 : a.o20 = b.o20)
    (h2 : a.s2 = b.s2) (h3 : a.s3 = b.s3) : a = b := by
  cases a; cases b; simp_all

theorem coord (t : Fin cfg0.N) : ((grid0.coords t) 0).val + (15 - t.val) = 15 :=
  (by decide +kernel : ∀ t : Fin grid0.N, ((grid0.coords t) 0).val + (15 - t.val) = 15) t

theorem read_junk {s : Shape} {e : EltTy} (v : View sig .tc .vmem s e) (L : List (View.Piece (Elt Ideal) s e)) : v.read (Elt Ideal) (v.writes (Elt Ideal) v.junk L) = View.canon L :=
  View.read_writes_junk_eq_canon (Val := Elt Ideal) v L

variable (m c)

theorem leftA_o14 (t : Fin cfg0.N) (h : t.val % 16 = 0) : (leftA m c t h).o14 = View.canon (Val := Elt Ideal) (runA m c t h).1 := by
  simp only [leftA]
  exact read_junk _ _
theorem leftA_o15 (t : Fin cfg0.N) (h : t.val % 16 = 0) : (leftA m c t h).o15 = View.canon (Val := Elt Ideal) (runA m c t h).2.1 := by
  simp only [leftA]
  exact read_junk _ _
theorem leftA_o16 (t : Fin cfg0.N) (h : t.val % 16 = 0) : (leftA m c t h).o16 = View.canon (Val := Elt Ideal) (runA m c t h).2.2.1 := by
  simp only [leftA]
  exact read_junk _ _
theorem leftA_o17 (t : Fin cfg0.N) (h : t.val % 16 = 0) : (leftA m c t h).o17 = View.canon (Val := Elt Ideal) (runA m c t h).2.2.2.1 := by
  simp only [leftA]
  exact read_junk _ _
theorem leftA_o18 (t : Fin cfg0.N) (h : t.val % 16 = 0) : (leftA m c t h).o18 = View.canon (Val := Elt Ideal) (runA m c t h).2.2.2.2.1 := by
  simp only [leftA]
  exact read_junk _ _
theorem leftA_o19 (t : Fin cfg0.N) (h : t.val % 16 = 0) : (leftA m c t h).o19 = View.canon (Val := Elt Ideal) (runA m c t h).2.2.2.2.2.1 := by
  simp only [leftA]
  exact read_junk _ _
theorem leftA_o20 (t : Fin cfg0.N) (h : t.val % 16 = 0) : (leftA m c t h).o20 = View.canon (Val := Elt Ideal) (runA m c t h).2.2.2.2.2.2.1 := by
  simp only [leftA]
  exact read_junk _ _
theorem leftA_s2 (t : Fin cfg0.N) (h : t.val % 16 = 0) : (leftA m c t h).s2 = View.canon (Val := Elt Ideal) (runA m c t h).2.2.2.2.2.2.2.1 := by
  simp only [leftA]
  exact read_junk _ _
theorem leftA_s3 (t : Fin cfg0.N) (h : t.val % 16 = 0) : (leftA m c t h).s3 = View.canon (Val := Elt Ideal) (runA m c t h).2.2.2.2.2.2.2.2.1 := by
  simp only [leftA]
  exact read_junk _ _
theorem leftB_o14 (t : Fin cfg0.N) (h : ¬t.val % 16 = 0) (p : Left Ideal) : (leftB m c t h p).o14 = View.canon (Val := Elt Ideal) (runB m c t h p.o18 p.o19 p.o20 p.s2 p.s3).1 := by
  simp only [leftB]
  exact read_junk _ _
theorem leftB_o15 (t : Fin cfg0.N) (h : ¬t.val % 16 = 0) (p : Left Ideal) : (leftB m c t h p).o15 = View.canon (Val := Elt Ideal) (runB m c t h p.o18 p.o19 p.o20 p.s2 p.s3).2.1 := by
  simp only [leftB]
  exact read_junk _ _
theorem leftB_o16 (t : Fin cfg0.N) (h : ¬t.val % 16 = 0) (p : Left Ideal) : (leftB m c t h p).o16 = View.canon (Val := Elt Ideal) (runB m c t h p.o18 p.o19 p.o20 p.s2 p.s3).2.2.1 := by
  simp only [leftB]
  exact read_junk _ _
theorem leftB_o17 (t : Fin cfg0.N) (h : ¬t.val % 16 = 0) (p : Left Ideal) : (leftB m c t h p).o17 = View.canon (Val := Elt Ideal) (runB m c t h p.o18 p.o19 p.o20 p.s2 p.s3).2.2.2.1 := by
  simp only [leftB]
  exact read_junk _ _
theorem leftB_o18 (t : Fin cfg0.N) (h : ¬t.val % 16 = 0) (p : Left Ideal) : (leftB m c t h p).o18 = (ms0_18 t).view.read (Elt Ideal) ((ms0_18 t).view.writes (Elt Ideal) ((hs0_18 t).unread p.o18) (runB m c t h p.o18 p.o19 p.o20 p.s2 p.s3).2.2.2.2.1) := by
  simp only [leftB]
theorem leftB_o19 (t : Fin cfg0.N) (h : ¬t.val % 16 = 0) (p : Left Ideal) : (leftB m c t h p).o19 = (ms0_19 t).view.read (Elt Ideal) ((ms0_19 t).view.writes (Elt Ideal) ((hs0_19 t).unread p.o19) (runB m c t h p.o18 p.o19 p.o20 p.s2 p.s3).2.2.2.2.2.1) := by
  simp only [leftB]
theorem leftB_o20 (t : Fin cfg0.N) (h : ¬t.val % 16 = 0) (p : Left Ideal) : (leftB m c t h p).o20 = View.canon (Val := Elt Ideal) (runB m c t h p.o18 p.o19 p.o20 p.s2 p.s3).2.2.2.2.2.2.1 := by
  simp only [leftB]
  exact read_junk _ _
theorem leftB_s2 (t : Fin cfg0.N) (h : ¬t.val % 16 = 0) (p : Left Ideal) : (leftB m c t h p).s2 = View.canon (Val := Elt Ideal) (runB m c t h p.o18 p.o19 p.o20 p.s2 p.s3).2.2.2.2.2.2.2.1 := by
  simp only [leftB]
  exact read_junk _ _
theorem leftB_s3 (t : Fin cfg0.N) (h : ¬t.val % 16 = 0) (p : Left Ideal) : (leftB m c t h p).s3 = View.canon (Val := Elt Ideal) (runB m c t h p.o18 p.o19 p.o20 p.s2 p.s3).2.2.2.2.2.2.2.2.1 := by
  simp only [leftB]
  exact read_junk _ _

variable {m c}
include H

set_option maxHeartbeats 1000000 in
theorem good_A (t : Fin cfg0.N) (h : t.val = 0) (h16 : t.val % 16 = 0) : leftA m c t h16 = good D t.val := by
  obtain ⟨e14, e15, e16, e17, e18, e19, e20, e2, e3⟩ := out_A D (15 - t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h16) (coord t) (by omega) (iblk m c 8 t) (iblk8 H t) _ (iblk0 H t) _ (iblk1 H t) _ (iblk2 H t) _ (iblk3 H t) _ (iblk4 H t) _ (iblk5 H t) _ (iblk6 H t) _ (iblk7 H t) _ (iblk9 H t) _ (iblk10 H t) _ (iblk11 H t) _ (iblk12 H t) _ (iblk13 H t)
  refine left_ext ((leftA_o14 m c t h16).trans e14) ((leftA_o15 m c t h16).trans e15) ((leftA_o16 m c t h16).trans e16) ((leftA_o17 m c t h16).trans e17) ((leftA_o18 m c t h16).trans (e18.trans ?_)) ((leftA_o19 m c t h16).trans (e19.trans ?_)) ((leftA_o20 m c t h16).trans (e20.trans ?_)) ((leftA_s2 m c t h16).trans e2) ((leftA_s3 m c t h16).trans e3)
  all_goals
    rw [h]
    rfl

set_option maxHeartbeats 1000000 in
theorem good_B (t : Fin cfg0.N) (h : ¬t.val % 16 = 0) (n : ℕ) (ht : t.val = n + 1) : leftB m c t h (good D n) = good D (n + 1) := by
  have h16 : n + 1 < 16 := by have := t.isLt; have hN : cfg0.N = 16 := N_0; omega
  have h15 : 15 - n = 15 - t.val + 1 := by omega
  have h14 : 15 - (n + 1) = 15 - t.val := by omega
  have s2 : (good D n).s2 = ext 512 (car (15 - t.val + 1) D.e) := by
    rw [← h15]
    rfl
  have s3 : (good D n).s3 = ext 512 (car (15 - t.val + 1) D.qq) := by
    rw [← h15]
    rfl
  have g14 : (good D (n + 1)).o14 = blk 1024 (rows (15 - t.val) D.dx) := by
    rw [← h14]
    rfl
  have g15 : (good D (n + 1)).o15 = blkB 1024 (rows (15 - t.val) D.dm) := by
    rw [← h14]
    rfl
  have g16 : (good D (n + 1)).o16 = blkB 1024 (rows (15 - t.val) D.yc) := by
    rw [← h14]
    rfl
  have g17 : (good D (n + 1)).o17 = blkB 2048 (rows (15 - t.val) D.dz) := by
    rw [← h14]
    rfl
  have g18 : (good D (n + 1)).o18 = mat (φ := .f32) 8 1024 (accT D (15 - t.val) (accA D (n + 1))) := by
    rw [← h14]
    rfl
  have g19 : (good D (n + 1)).o19 = mat (φ := .f32) 8 512 (cwT D (15 - t.val) (cwA D (n + 1))) := by
    rw [← h14]
    rfl
  have g20 : (good D (n + 1)).o20 = ten (φ := .f32) 4 128 128 (wpT D (15 - t.val) (wpA D (n + 1))) := by
    rw [← h14]
    rfl
  have g2 : (good D (n + 1)).s2 = ext 512 (car (15 - t.val) D.e) := by
    rw [← h14]
    rfl
  have g3 : (good D (n + 1)).s3 = ext 512 (car (15 - t.val) D.qq) := by
    rw [← h14]
    rfl
  have cov := coverB_o20 m c t h (good D n).o18 (good D n).o19 (good D n).o20 (good D n).s2 (good D n).s3
  obtain ⟨e14, e15, e16, e17, e18, e19, e20, e2, e3⟩ := out_B D (15 - t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun hc => h ((hcond0_0 t).mp hc)) (coord t) (by omega) (iblk m c 8 t) (iblk8 H t) (accA D (n + 1)) (cwA D (n + 1)) (wpA D (n + 1)) (good D n).o18 rfl (good D n).o19 rfl (good D n).o20 rfl (good D n).s2 (good D n).s3 s2 s3 _ (iblk0 H t) _ (iblk1 H t) _ (iblk2 H t) _ (iblk3 H t) _ (iblk4 H t) _ (iblk5 H t) _ (iblk6 H t) _ (iblk7 H t) _ (iblk9 H t) _ (iblk10 H t) _ (iblk11 H t) _ (iblk12 H t) _ (iblk13 H t)
  refine left_ext ((leftB_o14 m c t h _).trans (Eq.trans e14 g14.symm)) ((leftB_o15 m c t h _).trans (Eq.trans e15 g15.symm)) ((leftB_o16 m c t h _).trans (Eq.trans e16 g16.symm)) ((leftB_o17 m c t h _).trans (Eq.trans e17 g17.symm))
    ((leftB_o18 m c t h _).trans (Eq.trans e18 g18.symm)) ((leftB_o19 m c t h _).trans (Eq.trans e19 g19.symm)) ((leftB_o20 m c t h _).trans (Eq.trans ?_ g20.symm)) ((leftB_s2 m c t h _).trans (Eq.trans e2 g2.symm)) ((leftB_s3 m c t h _).trans (Eq.trans e3 g3.symm))
  rw [View.read_writes_eq_canon (Val := Elt Ideal) _ _ _ cov] at e20
  exact e20

theorem left_good : ∀ (n : ℕ) (h : n < cfg0.N), left m c n h = good D n
  | 0, h => (left_A m c ⟨0, h⟩ rfl).trans (good_A H ⟨0, h⟩ rfl rfl)
  | n + 1, h => by
    have hN : cfg0.N = 16 := N_0
    have hB : ¬(⟨n + 1, h⟩ : Fin cfg0.N).val % 16 = 0 := by dsimp only; omega
    exact (left_B m c ⟨n + 1, h⟩ hB).trans ((congrArg (leftB m c ⟨n + 1, h⟩ hB) (left_good n (Nat.lt_of_succ_lt h))).trans (good_B H ⟨n + 1, h⟩ hB n rfl))

theorem arr14 : (dats m 0 c).arrAt 14 cfg0.N = mat (φ := .f32) 8192 1024 D.dx := by
  have hi : ∀ t : Fin cfg0.N, win0_14.index t 0 = 15 - t.val ∧ win0_14.index t 1 = 0 := (by decide +kernel : ∀ t : Fin grid0.N, win0_14.index t 0 = 15 - t.val ∧ win0_14.index t 1 = 0)
  refine (dats m 0 c).arrAt_eq_of_cover 14 (mat (φ := .f32) 8192 1024 D.dx) (fun t _ => ?_) fun (i : S8192x1024.Idx) => ?_
  · rw [flushed_14, left_good H]
    funext j
    rw [View.read_apply]
    show ((D.dx (512 * (15 - t.val) + (j 0).val) (j 1).val : ℝ) : EReal) = ((D.dx (win0_14.index t 0 * 512 + 1 * (j 0).val) (win0_14.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = 15 - (i 0).val / 512 := ⟨⟨15 - (i 0).val / 512, by omega⟩, rfl⟩
    refine ⟨t, flush0_14 t, ?_⟩
    show i ∈ ((View.whole main_v132_0).slice (win0_14.rect t)).set
    rw [View.set_slice_whole, Rect.mem_set_unit]
    refine Fin.forall_fin_two.mpr ⟨?_, ?_⟩
    · show win0_14.index _ 0 * 512 ≤ (i 0).val ∧ (i 0).val < win0_14.index _ 0 * 512 + 512
      rw [(hi _).1]
      omega
    · show win0_14.index _ 1 * 1024 ≤ (i 1).val ∧ (i 1).val < win0_14.index _ 1 * 1024 + 1024
      rw [(hi _).2]
      omega

theorem arr15 : (dats m 0 c).arrAt 15 cfg0.N = mat (φ := .bf16) 8192 1024 D.dm := by
  have hi : ∀ t : Fin cfg0.N, win0_15.index t 0 = 15 - t.val ∧ win0_15.index t 1 = 0 := (by decide +kernel : ∀ t : Fin grid0.N, win0_15.index t 0 = 15 - t.val ∧ win0_15.index t 1 = 0)
  refine (dats m 0 c).arrAt_eq_of_cover 15 (mat (φ := .bf16) 8192 1024 D.dm) (fun t _ => ?_) fun (i : S8192x1024.Idx) => ?_
  · rw [flushed_15, left_good H]
    funext j
    rw [View.read_apply]
    show ((D.dm (512 * (15 - t.val) + (j 0).val) (j 1).val : ℝ) : EReal) = ((D.dm (win0_15.index t 0 * 512 + 1 * (j 0).val) (win0_15.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = 15 - (i 0).val / 512 := ⟨⟨15 - (i 0).val / 512, by omega⟩, rfl⟩
    refine ⟨t, flush0_15 t, ?_⟩
    show i ∈ ((View.whole main_v132_1).slice (win0_15.rect t)).set
    rw [View.set_slice_whole, Rect.mem_set_unit]
    refine Fin.forall_fin_two.mpr ⟨?_, ?_⟩
    · show win0_15.index _ 0 * 512 ≤ (i 0).val ∧ (i 0).val < win0_15.index _ 0 * 512 + 512
      rw [(hi _).1]
      omega
    · show win0_15.index _ 1 * 1024 ≤ (i 1).val ∧ (i 1).val < win0_15.index _ 1 * 1024 + 1024
      rw [(hi _).2]
      omega

theorem arr16 : (dats m 0 c).arrAt 16 cfg0.N = mat (φ := .bf16) 8192 1024 D.yc := by
  have hi : ∀ t : Fin cfg0.N, win0_16.index t 0 = 15 - t.val ∧ win0_16.index t 1 = 0 := (by decide +kernel : ∀ t : Fin grid0.N, win0_16.index t 0 = 15 - t.val ∧ win0_16.index t 1 = 0)
  refine (dats m 0 c).arrAt_eq_of_cover 16 (mat (φ := .bf16) 8192 1024 D.yc) (fun t _ => ?_) fun (i : S8192x1024.Idx) => ?_
  · rw [flushed_16, left_good H]
    funext j
    rw [View.read_apply]
    show ((D.yc (512 * (15 - t.val) + (j 0).val) (j 1).val : ℝ) : EReal) = ((D.yc (win0_16.index t 0 * 512 + 1 * (j 0).val) (win0_16.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = 15 - (i 0).val / 512 := ⟨⟨15 - (i 0).val / 512, by omega⟩, rfl⟩
    refine ⟨t, flush0_16 t, ?_⟩
    show i ∈ ((View.whole main_v132_2).slice (win0_16.rect t)).set
    rw [View.set_slice_whole, Rect.mem_set_unit]
    refine Fin.forall_fin_two.mpr ⟨?_, ?_⟩
    · show win0_16.index _ 0 * 512 ≤ (i 0).val ∧ (i 0).val < win0_16.index _ 0 * 512 + 512
      rw [(hi _).1]
      omega
    · show win0_16.index _ 1 * 1024 ≤ (i 1).val ∧ (i 1).val < win0_16.index _ 1 * 1024 + 1024
      rw [(hi _).2]
      omega

theorem arr17 : (dats m 0 c).arrAt 17 cfg0.N = mat (φ := .bf16) 8192 2048 D.dz := by
  have hi : ∀ t : Fin cfg0.N, win0_17.index t 0 = 15 - t.val ∧ win0_17.index t 1 = 0 := (by decide +kernel : ∀ t : Fin grid0.N, win0_17.index t 0 = 15 - t.val ∧ win0_17.index t 1 = 0)
  refine (dats m 0 c).arrAt_eq_of_cover 17 (mat (φ := .bf16) 8192 2048 D.dz) (fun t _ => ?_) fun (i : S8192x2048.Idx) => ?_
  · rw [flushed_17, left_good H]
    funext j
    rw [View.read_apply]
    show ((D.dz (512 * (15 - t.val) + (j 0).val) (j 1).val : ℝ) : EReal) = ((D.dz (win0_17.index t 0 * 512 + 1 * (j 0).val) (win0_17.index t 1 * 2048 + 1 * (j 1).val) : ℝ) : EReal)
    rw [(hi t).1, (hi t).2]
    congr 2 <;> omega
  · have h0 : (i 0).val < 8192 := (i 0).isLt
    have h1 : (i 1).val < 2048 := (i 1).isLt
    have hN : cfg0.N = 16 := N_0
    obtain ⟨t, ht⟩ : ∃ t : Fin cfg0.N, t.val = 15 - (i 0).val / 512 := ⟨⟨15 - (i 0).val / 512, by omega⟩, rfl⟩
    refine ⟨t, flush0_17 t, ?_⟩
    show i ∈ ((View.whole main_v132_3).slice (win0_17.rect t)).set
    rw [View.set_slice_whole, Rect.mem_set_unit]
    refine Fin.forall_fin_two.mpr ⟨?_, ?_⟩
    · show win0_17.index _ 0 * 512 ≤ (i 0).val ∧ (i 0).val < win0_17.index _ 0 * 512 + 512
      rw [(hi _).1]
      omega
    · show win0_17.index _ 1 * 2048 ≤ (i 1).val ∧ (i 1).val < win0_17.index _ 1 * 2048 + 2048
      rw [(hi _).2]
      omega

theorem arr18 : (dats m 0 c).arrAt 18 cfg0.N = mat (φ := .f32) 8 1024 (accA D 16) := by
  have hN : cfg0.N = 16 := N_0
  have hi : ∀ t : Fin cfg0.N, win0_18.index t 0 = 0 ∧ win0_18.index t 1 = 0 := (by decide +kernel : ∀ t : Fin grid0.N, win0_18.index t 0 = 0 ∧ win0_18.index t 1 = 0)
  refine (dats m 0 c).arrAt_eq_of_cover 18 (mat (φ := .f32) 8 1024 (accA D 16)) (fun t hf => ?_) fun (i : S8x1024.Idx) => ?_
  · have h3 : t.val = 15 := by have := (flush0_18 t).mp hf; have := t.isLt; omega
    rw [flushed_18, left_good H]
    funext j
    rw [View.read_apply]
    show ((accA D (t.val + 1) (j 0).val (j 1).val : ℝ) : EReal) = ((accA D 16 (win0_18.index t 0 * 8 + 1 * (j 0).val) (win0_18.index t 1 * 1024 + 1 * (j 1).val) : ℝ) : EReal)
    rw [(hi t).1, (hi t).2, h3]
    congr 2 <;> omega
  · obtain ⟨t, ht⟩ : ∃ t : Fin cfg0.N, t.val = 15 := ⟨⟨15, by omega⟩, rfl⟩
    refine ⟨t, (flush0_18 t).mpr (by rw [ht]), ?_⟩
    show i ∈ ((View.whole main_v132_4).slice (win0_18.rect t)).set
    rw [View.set_slice_whole, Rect.mem_set_unit]
    have h0 : (i 0).val < 8 := (i 0).isLt
    have h1 : (i 1).val < 1024 := (i 1).isLt
    refine Fin.forall_fin_two.mpr ⟨?_, ?_⟩
    · show win0_18.index _ 0 * 8 ≤ (i 0).val ∧ (i 0).val < win0_18.index _ 0 * 8 + 8
      rw [(hi _).1]
      omega
    · show win0_18.index _ 1 * 1024 ≤ (i 1).val ∧ (i 1).val < win0_18.index _ 1 * 1024 + 1024
      rw [(hi _).2]
      omega

theorem arr19 : (dats m 0 c).arrAt 19 cfg0.N = mat (φ := .f32) 8 512 (cwA D 16) := by
  have hN : cfg0.N = 16 := N_0
  have hi : ∀ t : Fin cfg0.N, win0_19.index t 0 = 0 ∧ win0_19.index t 1 = 0 := (by decide +kernel : ∀ t : Fin grid0.N, win0_19.index t 0 = 0 ∧ win0_19.index t 1 = 0)
  refine (dats m 0 c).arrAt_eq_of_cover 19 (mat (φ := .f32) 8 512 (cwA D 16)) (fun t hf => ?_) fun (i : S8x512.Idx) => ?_
  · have h3 : t.val = 15 := by have := (flush0_19 t).mp hf; have := t.isLt; omega
    rw [flushed_19, left_good H]
    funext j
    rw [View.read_apply]
    show ((cwA D (t.val + 1) (j 0).val (j 1).val : ℝ) : EReal) = ((cwA D 16 (win0_19.index t 0 * 8 + 1 * (j 0).val) (win0_19.index t 1 * 512 + 1 * (j 1).val) : ℝ) : EReal)
    rw [(hi t).1, (hi t).2, h3]
    congr 2 <;> omega
  · obtain ⟨t, ht⟩ : ∃ t : Fin cfg0.N, t.val = 15 := ⟨⟨15, by omega⟩, rfl⟩
    refine ⟨t, (flush0_19 t).mpr (by rw [ht]), ?_⟩
    show i ∈ ((View.whole main_v132_5).slice (win0_19.rect t)).set
    rw [View.set_slice_whole, Rect.mem_set_unit]
    have h0 : (i 0).val < 8 := (i 0).isLt
    have h1 : (i 1).val < 512 := (i 1).isLt
    refine Fin.forall_fin_two.mpr ⟨?_, ?_⟩
    · show win0_19.index _ 0 * 8 ≤ (i 0).val ∧ (i 0).val < win0_19.index _ 0 * 8 + 8
      rw [(hi _).1]
      omega
    · show win0_19.index _ 1 * 512 ≤ (i 1).val ∧ (i 1).val < win0_19.index _ 1 * 512 + 512
      rw [(hi _).2]
      omega

theorem arr20 : (dats m 0 c).arrAt 20 cfg0.N = ten (φ := .f32) 4 128 128 (wpA D 16) := by
  have hN : cfg0.N = 16 := N_0
  have hi : ∀ t : Fin cfg0.N, win0_20.index t 0 = 0 ∧ win0_20.index t 1 = 0 ∧ win0_20.index t 2 = 0 := (by decide +kernel : ∀ t : Fin grid0.N, win0_20.index t 0 = 0 ∧ win0_20.index t 1 = 0 ∧ win0_20.index t 2 = 0)
  refine (dats m 0 c).arrAt_eq_of_cover 20 (ten (φ := .f32) 4 128 128 (wpA D 16)) (fun t hf => ?_) fun (i : S4x128x128.Idx) => ?_
  · have h3 : t.val = 15 := by have := (flush0_20 t).mp hf; have := t.isLt; omega
    rw [flushed_20, left_good H]
    funext j
    rw [View.read_apply]
    show ((wpA D (t.val + 1) (j 0).val (j 1).val (j 2).val : ℝ) : EReal) = ((wpA D 16 (win0_20.index t 0 * 4 + 1 * (j 0).val) (win0_20.index t 1 * 128 + 1 * (j 1).val) (win0_20.index t 2 * 128 + 1 * (j 2).val) : ℝ) : EReal)
    rw [(hi t).1, (hi t).2.1, (hi t).2.2, h3]
    congr 2 <;> omega
  · obtain ⟨t, ht⟩ : ∃ t : Fin cfg0.N, t.val = 15 := ⟨⟨15, by omega⟩, rfl⟩
    refine ⟨t, (flush0_20 t).mpr (by rw [ht]), ?_⟩
    show i ∈ ((View.whole main_v132_6).slice (win0_20.rect t)).set
    rw [View.set_slice_whole, Rect.mem_set_unit]
    have h0 : (i 0).val < 4 := (i 0).isLt
    have h1 : (i 1).val < 128 := (i 1).isLt
    have h2 : (i 2).val < 128 := (i 2).isLt
    refine Fin.forall_fin_succ.mpr ⟨?_, Fin.forall_fin_two.mpr ⟨?_, ?_⟩⟩
    · show win0_20.index _ 0 * 4 ≤ (i 0).val ∧ (i 0).val < win0_20.index _ 0 * 4 + 4
      rw [(hi _).1]
      omega
    · show win0_20.index _ 1 * 128 ≤ (i 1).val ∧ (i 1).val < win0_20.index _ 1 * 128 + 128
      rw [(hi _).2.1]
      omega
    · show win0_20.index _ 2 * 128 ≤ (i 2).val ∧ (i 2).val < win0_20.index _ 2 * 128 + 128
      rw [(hi _).2.2]
      omega

omit H
theorem sum_rev (f : ℕ → ℕ → ℝ) (j : ℕ) : ∑ n ∈ range 16, sumr (15 - n) f j = ∑ r ∈ range 8192, f r j := by
  rw [sum_range_reflect (fun t => sumr t f j) 16]
  show ∑ t ∈ range 16, ∑ i ∈ range 512, f (512 * t + i) j = _
  have h : ∀ n : ℕ, ∑ t ∈ range n, ∑ i ∈ range 512, f (512 * t + i) j = ∑ r ∈ range (512 * n), f r j := fun n => by
    induction n with
    | zero => simp
    | succ n ih => rw [sum_range_succ, ih, Nat.mul_succ, sum_range_add]
  exact h 16

theorem accA_eq (n i j : ℕ) : accA D n i j = if i < 5 then ∑ k ∈ range n, sumr (15 - k) (D.A i) j else 0 := by
  induction n with
  | zero => simp [accA]
  | succ n ih =>
    show (if i < 5 then accA D n i j + sumr (15 - n) (D.A i) j else accA D n i j) = _
    rw [ih, sum_range_succ]
    split_ifs <;> rfl

theorem cwA_eq (n i j : ℕ) : cwA D n i j = if i < 4 then ∑ k ∈ range n, sumr (15 - k) (D.C i) j else 0 := by
  induction n with
  | zero => simp [cwA]
  | succ n ih =>
    show (if i < 4 then cwA D n i j + sumr (15 - n) (D.C i) j else cwA D n i j) = _
    rw [ih, sum_range_succ]
    split_ifs <;> rfl

/-- The accumulated arrays at the end: sums over the whole sequence. -/
theorem accA_16 (i j : ℕ) : accA D 16 i j = if i < 5 then ∑ r ∈ range 8192, D.A i r j else 0 := by rw [accA_eq, sum_rev]
theorem cwA_16 (i j : ℕ) : cwA D 16 i j = if i < 4 then ∑ r ∈ range 8192, D.C i r j else 0 := by rw [cwA_eq, sum_rev]
theorem wpA_16 (p a b : ℕ) : wpA D 16 p a b = ∑ r ∈ range 8192, D.ft p r a * D.dpw p r b := by
  have h : ∀ n, wpA D n p a b = ∑ k ∈ range n, sumr (15 - k) (fun i _ => D.ft p i a * D.dpw p i b) 0 := fun n => by
    induction n with
    | zero => simp [wpA]
    | succ n ih =>
      show wpA D n p a b + D.G (15 - n) p a b = _
      rw [ih, sum_range_succ]
      rfl
  rw [h, sum_rev]

end Cert.MixArr
end
-- ==== Proof.MixClaim.lean ====
/- The first sublayer's mixer call: from finite arguments, the kernel's seven results are the reference's. -/
module

public import proofs.«01_k».proof.Defs
public import proofs.«01_k».proof.Proof.Pre
public import proofs.«01_k».proof.Proof.MixHost
public import proofs.«01_k».proof.Proof.MlpFinite
public import proofs.«01_k».proof.Proof.MixRef
public import proofs.«01_k».proof.Proof.MixArr
public import proofs.«01_k».proof.Proof.Gen.Reference2Ideal.Run
public import Idealize.ShloMosaic.Adequacy

@[expose] public section

set_option maxHeartbeats 4000000
set_option backward.isDefEq.respectTransparency false

noncomputable section

namespace Cert.MixClaim

open Finset Cert.RealMat Cert.MlpReal Cert.MixReal Idealize.ShloMosaic Idealize.ShloMosaic.TcCoe Idealize.SL.Sem

section Links
variable {x1 : FVec Ideal Reference2Ideal.S8192x1024 .f32} {x2 : FVec Ideal Reference2Ideal.S1x1024 .f32} {x3 : FVec Ideal Reference2Ideal.S1024x6144 .f32}
  {x4 : FVec Ideal Reference2Ideal.S1x6144 .f32} {x5 : FVec Ideal Reference2Ideal.S1024x2048 .f32} {x6 : FVec Ideal Reference2Ideal.S3x512 .f32}
  {x7 : FVec Ideal Reference2Ideal.S4x128x128 .f32} {x8 : FVec Ideal Reference2Ideal.S1x512 .f32} {x9 : FVec Ideal Reference2Ideal.S1024x1024 .f32}

/-! The forward lines of the two references are the same, but that this one adds the zeros it takes the gradients at. -/

theorem z_eq : Reference2Ideal.Read.val_main_v16 (F := Ideal) x1 x2 x3 x4 x5 = ReferenceIdeal.Read.val_main_v12 (F := Ideal) x1 x2 x3 x4 x5 := by
  funext i
  rw [Reference2Ideal.Read.val_main_v16_apply, Reference2Ideal.Read.val_main_v7_apply, Reference2Ideal.Read.val_main_cst_apply]
  show _ + Ideal.ofBits .f32 _ = _
  rw [show Ideal.ofBits .f32 0x00000000#32 = 0 by simp [Ideal.ofBits, Ideal.ieee], add_zero]
  rfl

open Cert.Reference2Ideal.Read in
theorem mix_eq : Reference2Ideal.Read.val_main_v111 (F := Ideal) x1 x2 x3 x4 x5 x6 x7 x8 x9 = ReferenceIdeal.Read.val_main_v101 (F := Ideal) x1 x2 x3 x4 x5 x6 x7 x8 x9 := by
  have h : Reference2Ideal.Read.val_main_v110 (F := Ideal) x1 x2 x3 x4 x5 x6 x7 x8 x9 = ReferenceIdeal.Read.val_main_v101 (F := Ideal) x1 x2 x3 x4 x5 x6 x7 x8 x9 := by
    simp only [val_main_v110, val_main_v109, val_main_v45, val_main_v17, val_main_v44, val_main_v37, val_main_v30, val_main_v25, val_main_v23, val_main_v22, val_main_cst_2, val_main_v21, val_main_v18, val_main_v19, val_main_v29, val_main_v28, val_main_v27, val_main_v26, val_main_v36, val_main_v31, val_main_v35, val_main_v34, val_main_v33, val_main_v32, val_main_v43, val_main_v38, val_main_v42, val_main_v41, val_main_v40, val_main_v39, val_main_v108, val_main_v106, val_main_v105, val_main_v104, val_main_v103, val_main_v99, val_main_v62, val_main_v60, val_main_v56, val_main_v51, val_main_v46, val_main_v20, val_main_call1_call0_v0, val_main_call1_call0_cst, val_main_v55, val_main_v53, val_main_v52, val_main_cst_5, val_main_v59, val_main_v58, val_main_v50, val_main_v49, val_main_v48, val_main_cst_4, val_main_v47, val_main_v57, val_main_cst_7, val_main_v61, val_main_v100, val_main_v74, val_main_v72, val_main_v68, val_main_v63, val_main_v67, val_main_v65, val_main_v64, val_main_cst_8, val_main_v71, val_main_v70, val_main_v69, val_main_cst_10, val_main_v73, val_main_v101, val_main_v86, val_main_v84, val_main_v80, val_main_v75, val_main_v79, val_main_v77, val_main_v76, val_main_cst_11, val_main_v83, val_main_v82, val_main_v81, val_main_cst_13, val_main_v85, val_main_v102, val_main_v98, val_main_v96, val_main_v92, val_main_v87, val_main_v91, val_main_v89, val_main_v88, val_main_cst_14, val_main_v95, val_main_v94, val_main_v93, val_main_cst_16, val_main_v97, val_main_v107]
    rw [z_eq]
    rfl
  funext i
  rw [Reference2Ideal.Read.val_main_v111_apply, Reference2Ideal.Read.val_main_v8_apply, Reference2Ideal.Read.val_main_cst_0_apply, h]
  show _ + Ideal.ofBits .f32 _ = _
  rw [show Ideal.ofBits .f32 0x00000000#32 = 0 by simp [Ideal.ofBits, Ideal.ieee], add_zero]

open Cert.Reference2Ideal.Read in
theorem rs_eq : Reference2Ideal.Read.val_main_v136 (F := Ideal) x1 x2 x3 x4 x5 x6 x7 x8 x9 = ReferenceIdeal.Read.val_main_v125 (F := Ideal) x1 x2 x3 x4 x5 x6 x7 x8 x9 := by
  simp only [val_main_v136, val_main_v135, val_main_v131, val_main_v129, val_main_v128, val_main_v125, val_main_v124, val_main_v118, val_main_v113, val_main_v112, val_main_cst_17, val_main_v117, val_main_v116, val_main_v115, val_main_v114, val_main_cst_18, val_main_v6, val_main_v3, val_main_v2, val_main_v1, val_main_v0, val_main_call0_v5, val_main_call0_v4, val_main_call0_cst_0, val_main_call0_v3, val_main_call0_v2, val_main_call0_cst, val_main_call0_v1, val_main_call0_v0, val_main_v123, val_main_v122, val_main_v120, val_main_v119, val_main_cst_19, val_main_v121, val_main_cst_20, val_main_cst_22, val_main_v130, val_main_cst_23, val_main_v134, val_main_cst_24, mix_eq]
  rfl

open Cert.Reference2Ideal.Read in
theorem xh_eq : Reference2Ideal.Read.val_main_v141 (F := Ideal) x1 x2 x3 x4 x5 x6 x7 x8 x9 = ReferenceIdeal.Read.val_main_v127 (F := Ideal) x1 x2 x3 x4 x5 x6 x7 x8 x9 := by
  simp only [val_main_v141, val_main_v133, val_main_v118, val_main_v113, val_main_v112, val_main_cst_17, val_main_v117, val_main_v116, val_main_v115, val_main_v114, val_main_cst_18, val_main_v6, val_main_v3, val_main_v2, val_main_v1, val_main_v0, val_main_call0_v5, val_main_call0_v4, val_main_call0_cst_0, val_main_call0_v3, val_main_call0_v2, val_main_call0_cst, val_main_call0_v1, val_main_call0_v0, val_main_v132, val_main_v122, val_main_v120, val_main_v119, val_main_cst_19, val_main_v121, val_main_cst_20, val_main_v140, val_main_v136, val_main_v135, val_main_v131, val_main_v129, val_main_v128, val_main_v125, val_main_v124, val_main_v123, val_main_cst_22, val_main_v130, val_main_cst_23, val_main_v134, val_main_cst_24, mix_eq]
  rfl

end Links

/-- Finite elements of a rank-three array are real numbers of three indices. -/
theorem fin_ten {p q r : ℕ} {x : FVec Ideal ⟨3, ![p, q, r]⟩ .f32} (h : Finite.Fin x) : ∃ f : ℕ → ℕ → ℕ → ℝ, x = ten p q r f := by
  classical
  choose f hf _ using h
  refine ⟨fun a b d => if h : ∃ k : (⟨3, ![p, q, r]⟩ : Shape).Idx, (k 0).val = a ∧ (k 1).val = b ∧ (k 2).val = d then f h.choose else 0, ?_⟩
  funext i
  rw [hf i]
  show ((f i : ℝ) : EReal) = ((dite _ _ _ : ℝ) : EReal)
  have h : ∃ k : (⟨3, ![p, q, r]⟩ : Shape).Idx, (k 0).val = (i 0).val ∧ (k 1).val = (i 1).val ∧ (k 2).val = (i 2).val := ⟨i, rfl, rfl, rfl⟩
  rw [dif_pos h]
  have e : h.choose = i := funext fun a => Fin.ext (by
    obtain ⟨e0, e1, e2⟩ := h.choose_spec
    match a with
    | 0 => exact e0
    | 1 => exact e1
    | 2 => exact e2)
  rw [e]

open Cert.Kernel2Ideal in
/-- Real numbers behind finite arguments: both programs start from the same ones. -/
theorem reals (m : (ℓ : Loc nD τ sig) → Buf (Elt Ideal) ℓ) (hp : Pre_Kernel2Ideal_mixer_arguments_finite m) (c : Dev nD) : ∃ D : Mix,
    MixArr.Holds m c D ∧ MixRef.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) D := by
  obtain ⟨e0, e1, e2, e3, e4, e5, e6, e7, e8, e9, e10⟩ := Pre.mixer (hp c)
  obtain ⟨md, hmd, -⟩ := (MlpFinite.f_main_v3 e2 e3 e4).mat (φ := .f32)
  obtain ⟨z, hz, -⟩ := (MlpFinite.f_main_v12 e1 e2 e3 e4 e5).mat (φ := .f32)
  obtain ⟨mix, hmix, -⟩ := (MlpFinite.f_main_v101 e1 e2 e3 e4 e5 e6 e7 e8 e9).mat (φ := .f32)
  obtain ⟨g, hg, -⟩ := e0.mat (φ := .f32)
  obtain ⟨x, hx, -⟩ := e1.mat (φ := .f32)
  obtain ⟨wi, hwi, -⟩ := e5.mat (φ := .f32)
  obtain ⟨cw, hcw, -⟩ := e6.mat (φ := .f32)
  obtain ⟨wp, hwp⟩ := fin_ten e7
  obtain ⟨ps, hps, -⟩ := e8.mat (φ := .f32)
  obtain ⟨wo, hwo, -⟩ := e9.mat (φ := .f32)
  obtain ⟨l, hl, -⟩ := e10.mat (φ := .f32)
  have row {n : ℕ} (f : ℕ → ℕ → ℝ) : (mat 1 n f : FVec Ideal ⟨2, ![1, n]⟩ .f32) = mat 1 n fun _ j => f 0 j :=
    mat_congr fun i hi j _ => by rw [Nat.lt_one_iff.1 hi]
  let D0 : Mix := ⟨g, fun _ _ => 0, fun _ => 0, x, mix, z, md, fun _ j => l 0 j, wo, wi, cw, wp, fun j => ps 0 j⟩
  let D : Mix := { D0 with rs := fun i => (√(D0.var i + eps))⁻¹, xh := fun i j => D0.ctr i j * (√(D0.var i + eps))⁻¹ }
  have H : MixRef.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) D :=
    ⟨hg, hx, hmd, z_eq.trans hz, mix_eq.trans hmix, hwi, hcw, hwp, hps.trans (row ps), hwo, hl.trans (row l), fun _ => rfl, fun _ _ => rfl⟩
  refine ⟨D, ⟨?_, ?_, ?_, ?_, ?_, ?_, ?_, ?_, ?_, ?_, ?_, ?_, ?_⟩, H⟩
  · exact (MixHost.v_main_arg0 m c).trans hg
  · exact (MixHost.v_main_v128 m c).trans (xh_eq.symm.trans (MixRef.l_v141 H))
  · exact (MixHost.v_main_v124 m c).trans (rs_eq.symm.trans (MixRef.l_v136 H))
  · exact (MixHost.v_main_arg1 m c).trans hx
  · exact (MixHost.v_main_v102 m c).trans hmix
  · rw [MixHost.v_main_v129, MixHost.v_main_v13]
    exact (congrArg (fun x => truncf .bf16 x _) hz).trans rfl
  · exact (MixHost.v_main_v4 m c).trans hmd
  · rw [MixHost.v_main_v130]
    exact (congrArg (fun x => truncf .bf16 x _) hwo).trans rfl
  · rw [MixHost.v_main_v131]
    exact (congrArg (fun x => truncf .bf16 x _) hwi).trans rfl
  · exact (MixHost.v_main_arg6 m c).trans hcw
  · exact (MixHost.v_main_arg7 m c).trans hwp
  · exact (MixHost.v_main_arg8 m c).trans (hps.trans (row ps))
  · intro j hj
    rw [MixHost.v_main_v0, show MixHost.A m c main_arg10 = _ from hl]
    refine (concat_row (p := 1) l _ _ j 0 (by exact show 0 < 4 by norm_num) rfl 0 rfl (by omega) (by omega)).trans ?_
    rw [hj]

open Cert.Kernel2Ideal Cert.Kernel2Ideal.Gen in
/-- The kernel's run: its seven results are the arrays of real numbers, its arguments are unchanged. -/
theorem kernel {m : (ℓ : Loc nD τ sig) → Buf (Elt Ideal) ℓ} (ρ : Dev nD → PrngReg) {D : Dev nD → Mix} (H : ∀ c, MixArr.Holds m c (D c)) :
    θ_run defs (onTc (τ := τ) (main (F := Ideal))) ⟨m, fun _ => 0, ρ⟩ fun r => ∀ c : Dev nD,
      r.2.mem ((c.tc : Thread nD τ).loc main_v132_0) = mat (φ := .f32) 8192 1024 (D c).dx
      ∧ r.2.mem ((c.tc : Thread nD τ).loc main_v132_1) = mat (φ := .bf16) 8192 1024 (D c).dm
      ∧ r.2.mem ((c.tc : Thread nD τ).loc main_v132_2) = mat (φ := .bf16) 8192 1024 (D c).yc
      ∧ r.2.mem ((c.tc : Thread nD τ).loc main_v132_3) = mat (φ := .bf16) 8192 2048 (D c).dz
      ∧ r.2.mem ((c.tc : Thread nD τ).loc main_v132_4) = mat (φ := .f32) 8 1024 (MixArr.accA (D c) 16)
      ∧ r.2.mem ((c.tc : Thread nD τ).loc main_v132_5) = mat (φ := .f32) 8 512 (MixArr.cwA (D c) 16)
      ∧ r.2.mem ((c.tc : Thread nD τ).loc main_v132_6) = ten (φ := .f32) 4 128 128 (MixArr.wpA (D c) 16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 14).trans (MixArr.arr14 (H c)), ((h c).1 15).trans (MixArr.arr15 (H c)), ((h c).1 16).trans (MixArr.arr16 (H c)), ((h c).1 17).trans (MixArr.arr17 (H c)), ((h c).1 18).trans (MixArr.arr18 (H c)), ((h c).1 19).trans (MixArr.arr19 (H c)), ((h c).1 20).trans (MixArr.arr20 (H c)),
      ((h c).1 0).trans (((MixRun.dats m 0 c).arrAt_in 0 rfl _).trans ((MixRun.A_eq m c 0).trans (V_main_arg0 m c))),
      ((h c).1 3).trans (((MixRun.dats m 0 c).arrAt_in 3 rfl _).trans ((MixRun.A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 11).trans (((MixRun.dats m 0 c).arrAt_in 11 rfl _).trans ((MixRun.A_eq m c 11).trans (V_main_arg6 m c))),
      ((h c).1 12).trans (((MixRun.dats m 0 c).arrAt_in 12 rfl _).trans ((MixRun.A_eq m c 12).trans (V_main_arg7 m c))),
      ((h c).1 13).trans (((MixRun.dats m 0 c).arrAt_in 13 rfl _).trans ((MixRun.A_eq m c 13).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (MixRun.run_main m ρ)

open Cert.Reference2Ideal.Read in
theorem algebraic : Cert.algebraic_Kernel2Ideal_Reference2Ideal_pre_mixer_arguments_finite := by
  intro m g m' g' hp hm
  choose D hK hR using fun c => reals m hp c
  refine ⟨fun c => mat (φ := .f32) 8192 1024 (D c).dx, fun c => mat (φ := .bf16) 8192 1024 (D c).dm, fun c => mat (φ := .bf16) 8192 1024 (D c).yc, fun c => mat (φ := .bf16) 8192 2048 (D c).dz, fun c => mat (φ := .f32) 8 1024 (MixArr.accA (D c) 16), fun c => mat (φ := .f32) 8 512 (MixArr.cwA (D c) 16), fun c => ten (φ := .f32) 4 128 128 (MixArr.wpA (D c) 16), kernel g hK, ?_⟩
  refine (θ_run Cert.Reference2Ideal.defs _ _).mono (fun r h c => ?_) (Cert.Reference2Ideal.Value.run (F := Ideal) m' g')
  obtain ⟨r0, r1, r2, r3, r4, r5, r6, h⟩ := h c
  have H := hR c
  obtain ⟨a0, a1, a2, a3, a4, a5, a6, a7, a8, a9, a10, a11, a12, a13⟩ := hm c
  rw [← a0, ← a1, ← a2, ← a3, ← a4, ← a5, ← a6, ← a7, ← a8, ← a9, ← a10] at H
  replace H : MixRef.Holds (StableHlo.launchContents m' c (Proc.devRef .tc Cert.Reference2Ideal.main_arg0)) (StableHlo.launchContents m' c (Proc.devRef .tc Cert.Reference2Ideal.main_arg1)) (StableHlo.launchContents m' c (Proc.devRef .tc Cert.Reference2Ideal.main_arg2)) (StableHlo.launchContents m' c (Proc.devRef .tc Cert.Reference2Ideal.main_arg3)) (StableHlo.launchContents m' c (Proc.devRef .tc Cert.Reference2Ideal.main_arg4)) (StableHlo.launchContents m' c (Proc.devRef .tc Cert.Reference2Ideal.main_arg5)) (StableHlo.launchContents m' c (Proc.devRef .tc Cert.Reference2Ideal.main_arg6)) (StableHlo.launchContents m' c (Proc.devRef .tc Cert.Reference2Ideal.main_arg7)) (StableHlo.launchContents m' c (Proc.devRef .tc Cert.Reference2Ideal.main_arg8)) (StableHlo.launchContents m' c (Proc.devRef .tc Cert.Reference2Ideal.main_arg9)) (StableHlo.launchContents m' c (Proc.devRef .tc Cert.Reference2Ideal.main_arg10)) (D c) := H
  exact ⟨r0.trans ((val_main_v301_eq _).trans (MixRef.l_v301 H)), r1.trans ((val_main_v306_eq _).trans (MixRef.l_v306 H)),
    r2.trans ((val_main_v307_eq _).trans (MixRef.l_v307 H)), r3.trans ((val_main_v308_eq _).trans (MixRef.l_v308 H)),
    r4.trans ((val_main_v303_eq _).trans ((MixRef.l_v303 H).trans (mat_congr fun i _ j _ => (MixArr.accA_16 i j).symm))),
    r5.trans ((val_main_v305_eq _).trans ((MixRef.l_v305 H).trans (mat_congr fun i _ j _ => (MixArr.cwA_16 i j).symm))),
    r6.trans ((val_main_v198_eq _).trans ((MixRef.l_v198 H).trans (ten_congr fun l _ i _ j _ => (MixArr.wpA_16 l i j).symm))), h⟩

end Cert.MixClaim

end
-- ==== Proof.FwdPoint.lean ====
/- What one grid point of the mixer's forward kernel computes from real blocks. -/
module

public import proofs.«01_k».proof.Proof.MixOut
public import proofs.«01_k».proof.Proof.MixRef
public import proofs.«01_k».proof.Proof.Gen.Kernel3Ideal.Skeleton

@[expose] public section

set_option maxRecDepth 16384
set_option backward.isDefEq.respectTransparency false

noncomputable section

namespace Cert.MixReal
open Finset Cert.RealMat Cert.MlpReal
variable (D : Mix)

/-- The modulated input. -/
def Mix.hh (i j : ℕ) : ℝ := D.x i j * (1 + D.md 1 j) + D.md 0 j

/-- The projected rows, the mixed rows and the normalised rows as the forward pass makes them from the input. -/
structure Mix.Fwd : Prop where
  z : ∀ i j, D.z i j = ∑ l ∈ range 1024, D.hh i l * D.wi l j
  mix : ∀ i j, D.mix i j = ∑ k ∈ range 1024, D.yc i k * D.wo k j
  rs : ∀ i, D.rs i = (√(D.var i + eps))⁻¹
  xh : ∀ i j, D.xh i j = D.ctr i j * D.rs i

end Cert.MixReal

namespace Cert.FwdPoint

open Finset Cert.RealMat Cert.MlpReal Cert.MixReal Idealize.ShloMosaic Cert.Kernel3Ideal Cert.Kernel3Ideal.Gen
open Cert.MixPoint (row col blk blkB ext slab word inv_cnt yc_eq)

theorem dot_in : dot_S512x1024_S1024x2048_S512x2048_1_0_0_1_n_n = DotDims.plain 512 1024 2048 := rfl
theorem dot_pw : dot_S512x128_S128x128_S512x128_1_0_0_1_n_n = DotDims.plain 512 128 128 := rfl
theorem dot_out : dot_S512x1024_S1024x1024_S512x1024_1_0_0_1_n_n = DotDims.plain 512 1024 1024 := rfl

variable (D : Mix) (H : D.Fwd) (t : ℕ)

abbrev xB : FVec Ideal S512x1024 .f32 := blk 1024 (rows t D.x)
abbrev wiB : FVec Ideal S1024x2048 .bf16 := mat 1024 2048 D.wi
abbrev woB : FVec Ideal S1024x1024 .bf16 := mat 1024 1024 D.wo
abbrev m0 : FVec Ideal S1x1024 .f32 := row 1024 (D.md 0)
abbrev m1 : FVec Ideal S1x1024 .f32 := row 1024 (D.md 1)
abbrev m2 : FVec Ideal S1x1024 .f32 := row 1024 (D.md 2)
abbrev conB : FVec Ideal S512x512 .f32 := blk 512 (rows t fun i j => D.z i j * D.conv i j)
abbrev ypB (p : ℕ) : FVec Ideal S512x128 .f32 := blk 128 (rows t (D.yp p))

theorem pay1 : k0_pay1 (F := Ideal) = mat 16 512 fun _ _ => 0 := by
  simp only [k0_pay1, ofBits_zero, broadcast_mat, shapeCast_mat_self]

theorem pay2 : k0_pay2 (F := Ideal) = mat 16 512 fun _ _ => 0 := by
  simp only [k0_pay2, ofBits_zero, broadcast_mat, shapeCast_mat_self]

theorem pay3 : k0_pay3 (F := Ideal) (m2 D)
    = m2 D := by
  simp only [k0_pay3, shapeCast_mat_self, broadcastTo_row, broadcast_mat, mulf_mat, addf_mat, truncf_mat, slice_mat, ofBits_one, zero_add]

theorem pay4 : k0_pay4 (F := Ideal) (xB D t) (m0 D) (m1 D)
    = blkB 1024 (rows t D.hh) := by
  simp only [k0_pay4, shapeCast_mat_self, broadcastTo_row, broadcast_mat, mulf_mat, addf_mat, truncf_mat, slice_mat, ofBits_one, zero_add]; rfl

section
include H

theorem pay5 : k0_pay5 (F := Ideal) (xB D t) (m0 D) (m1 D) (wiB D)
    = blk 2048 (rows t D.z) := by
  simp only [k0_pay5, pay4, shapeCast_mat_self, dot_in, truncf_mat, constant_mat_zero, matmul_plain, zero_add]
  exact mat_congr fun i _ j _ => (H.z _ _).symm

theorem pay6 : k0_pay6 (F := Ideal) (xB D t) (m0 D) (m1 D) (wiB D)
    = blkB 2048 (rows t D.z) := by
  simp only [k0_pay6, pay5 D H, truncf_mat]

theorem pay7 : k0_pay7 (F := Ideal) (xB D t) (m0 D) (m1 D) (wiB D)
    = blk 512 (rows t D.z) := by
  simp only [k0_pay7, pay5 D H, slice_mat, zero_add]

theorem pay8 : k0_pay8 (F := Ideal) (xB D t) (m0 D) (m1 D) (wiB D)
    = blk 512 (rows t D.vp) := by
  simp only [k0_pay8, pay5 D H, slice_mat, zero_add]; rfl

theorem pay9 : k0_pay9 (F := Ideal) (xB D t) (m0 D) (m1 D) (wiB D)
    = blk 512 (rows t D.cv) := by
  simp only [k0_pay9, pay5 D H, slice_mat, mulf_mat, zero_add]; rfl

theorem pay10 : k0_pay10 (F := Ideal) (xB D t) (m0 D) (m1 D) (wiB D)
    = blk 512 (rows t D.cv) := by
  simp only [k0_pay10, pay9 D H, shapeCast_mat_self]

end

theorem pay11 : k0_pay11 (F := Ideal) (blk 512 (rows t D.vp))
    = blk 512 (rows t D.vp) := by
  simp only [k0_pay11, shapeCast_mat_self]

theorem pay12 : k0_pay12 (F := Ideal) (blk 512 (rows t D.z)) (blk 512 (rows t D.cv)) (ext 512 (lo t D.cv)) (row 512 (D.cw 0)) (row 512 (D.cw 1)) (row 512 (D.cw 2))
    = conB D t := by
  have h2 := MixPoint.pay32 D t
  have h1 := MixPoint.pay33 D t
  simp only [Cert.Kernel2Ideal.Gen.k0_pay32, Cert.Kernel2Ideal.Gen.k0_pay33] at h1 h2
  simp only [k0_pay12]
  rw [show extractStridedSlice S512x512 ![16, 0] (dynamicRotate 0 2#32 none (ext 512 (lo t D.cv)) rotates_S528x512_d0) slices_S528x512_o16_0_S512x512 = _ from h2,
    show extractStridedSlice S512x512 ![16, 0] (dynamicRotate 0 1#32 none (ext 512 (lo t D.cv)) rotates_S528x512_d0) slices_S528x512_o16_0_S512x512 = _ from h1]
  simp only [broadcastTo_row, mulf_mat, addf_mat]; rfl

theorem pay15 : k0_pay15 (F := Ideal) (ext 512 (lo t D.vp)) = blk 128 (rows t (D.wn 0)) := by
  simp only [k0_pay15, show k0_pay14 (F := Ideal) (ext 512 (lo t D.vp)) = _ from MixPoint.pay47 D t, slice_mat, zero_add]
  refine mat_congr fun i hi j _ => (lev_lo t 0 D.vp j hi (by norm_num)).trans ?_
  show _ = ∑ k ∈ range (2 ^ (0 + 1)), prv k D.vp (512 * t + i) (128 * 0 + j)
  simp only [Nat.mul_zero, Nat.zero_add]; rfl

theorem pay17 : k0_pay17 (F := Ideal) (ext 512 (lo t D.vp)) = blk 128 (rows t (D.wn 1)) := MixPoint.pay49 D t
theorem pay19 : k0_pay19 (F := Ideal) (ext 512 (lo t D.vp)) = blk 128 (rows t (D.wn 2)) := MixPoint.pay51 D t
theorem pay20 : k0_pay20 (F := Ideal) (ext 512 (lo t D.vp)) = blk 128 (rows t (D.wn 3)) := MixPoint.pay52 D t
theorem pay22 (ht : t < 16) : k0_pay22 (F := Ideal) (blk 512 (rows t D.vp)) (k0_pay13 (word t)) (blk 128 (rows t (D.wn 1))) = blk 128 (rows t (D.ft 1)) := MixPoint.pay57 D t ht
theorem pay23 (ht : t < 16) : k0_pay23 (F := Ideal) (blk 512 (rows t D.vp)) (k0_pay13 (word t)) (blk 128 (rows t (D.wn 2))) = blk 128 (rows t (D.ft 2)) := MixPoint.pay59 D t ht
theorem pay24 (ht : t < 16) : k0_pay24 (F := Ideal) (blk 512 (rows t D.vp)) (k0_pay13 (word t)) (blk 128 (rows t (D.wn 3))) = blk 128 (rows t (D.ft 3)) := MixPoint.pay61 D t ht
theorem pay25 (ht : t < 16) : k0_pay25 (F := Ideal) (blk 512 (rows t D.vp)) (blk 128 (rows t (D.wn 0))) (k0_pay21 (word t)) 2#32 = blkB 128 (rows t (D.ft 0)) := by
  have h := MixPoint.pay54 D t ht
  simp only [Cert.Kernel2Ideal.Gen.k0_pay54] at h
  rw [← pay15]
  exact (congrArg (fun x : FVec Ideal S512x128 .f32 => truncf .bf16 x bitsLt_bf16_f32) h).trans (truncf_mat _ _)

theorem pay26 : k0_pay26 (F := Ideal) (slab (D.wp 0)) = mat (φ := .bf16) 128 128 (D.wp 0) := MixPoint.pay63 D
theorem pay27 : k0_pay27 (F := Ideal) (blkB 128 (rows t (D.ft 0))) (mat (φ := .bf16) 128 128 (D.wp 0)) (constant S512x128 .f32 0x00000000#32) (row 128 fun j => D.ps (128 * 0 + j)) = ypB D t 0 := by
  simp only [k0_pay27, constant_mat_zero, dot_pw, matmul_plain, broadcastTo_row, mulf_mat, zero_add]; rfl

theorem pay28 : k0_pay28 (F := Ideal) (blk 128 (rows t (D.ft 1))) (slab (D.wp 1)) (row 128 fun j => D.ps (128 * 1 + j))
    = ypB D t 1 := by
  simp only [k0_pay28, shapeCast_ten_mat, dot_pw, broadcastTo_row, mulf_mat, truncf_mat, constant_mat_zero, matmul_plain, zero_add]; rfl

theorem pay29 : k0_pay29 (F := Ideal) (blk 128 (rows t (D.ft 2))) (slab (D.wp 2)) (row 128 fun j => D.ps (128 * 2 + j))
    = ypB D t 2 := by
  simp only [k0_pay29, shapeCast_ten_mat, dot_pw, broadcastTo_row, mulf_mat, truncf_mat, constant_mat_zero, matmul_plain, zero_add]; rfl

theorem pay30 : k0_pay30 (F := Ideal) (blk 128 (rows t (D.ft 3))) (slab (D.wp 3)) (row 128 fun j => D.ps (128 * 3 + j))
    = ypB D t 3 := by
  simp only [k0_pay30, shapeCast_ten_mat, dot_pw, broadcastTo_row, mulf_mat, truncf_mat, constant_mat_zero, matmul_plain, zero_add]; rfl

theorem pay31 (f : ℕ → ℕ → ℝ) : k0_pay31 (F := Ideal) (mat (φ := .f32) 16 512 f) = mat 16 512 f := shapeCast_mat_self ..

theorem pay32 (f : ℕ → ℕ → ℝ) : k0_pay32 (F := Ideal) (mat (φ := .f32) 16 512 f) = mat 16 512 f := shapeCast_mat_self ..

section
include H

theorem pay33 : k0_pay33 (F := Ideal) (conB D t) (ypB D t 0) (ypB D t 1) (ypB D t 2) (ypB D t 3) (woB D)
    = blk 1024 (rows t D.mix) := by
  have h := MixPoint.pay110 D t
  simp only [Cert.Kernel2Ideal.Gen.k0_pay110] at h
  simp only [k0_pay33, shapeCast_mat_self]
  refine (congrArg (fun x : FVec Ideal S512x1024 .bf16 => matmul dot_S512x1024_S1024x1024_S512x1024_1_0_0_1_n_n none x (woB D) (constant S512x1024 .f32 0x00000000#32)) h).trans ?_
  simp only [dot_out, constant_mat_zero, matmul_plain, zero_add]
  exact mat_congr fun i _ j _ => (H.mix _ _).symm

theorem pay34 : k0_pay34 (F := Ideal) (xB D t) (m2 D) (conB D t) (ypB D t 0) (ypB D t 1) (ypB D t 2) (ypB D t 3) (woB D)
    = blk 1024 (rows t D.ctr) := by
  simp only [k0_pay34, pay33 D H, broadcastTo_row, broadcastTo_col, broadcast_mat, mulf_mat, addf_mat, subf_mat, sum_rows_mat, shapeCast_vec_col, divf_mat_1024, ofBits_1024, ofBits_alpha, ofBits_one, ofBits_eps]; rfl

theorem pay35 : k0_pay35 (F := Ideal) (xB D t) (m2 D) (conB D t) (ypB D t 0) (ypB D t 1) (ypB D t 2) (ypB D t 3) (woB D)
    = col fun i => D.rs (512 * t + i) := by
  simp only [k0_pay35, pay34 D H, broadcastTo_row, broadcastTo_col, broadcast_mat, mulf_mat, addf_mat, subf_mat, sum_rows_mat, shapeCast_vec_col, divf_mat_1024, ofBits_1024, ofBits_alpha, ofBits_one, ofBits_eps]
  exact (rsqrt_mat _ fun i _ j _ => D.var_eps_pos (512 * t + i)).trans (mat_congr fun i _ j _ => (H.rs _).symm)

theorem pay36 : k0_pay36 (F := Ideal) (xB D t) (m2 D) (conB D t) (ypB D t 0) (ypB D t 1) (ypB D t 2) (ypB D t 3) (woB D)
    = blk 1024 (rows t D.xh) := by
  simp only [k0_pay36, pay34 D H, pay35 D H, broadcastTo_col, mulf_mat]
  exact mat_congr fun i _ j _ => (H.xh _ _).symm

end

end Cert.FwdPoint

end
-- ==== Proof.FwdOut.lean ====
/- What one grid point of the mixer's forward kernel leaves in its buffers, from real blocks. -/
module

public import proofs.«01_k».proof.Proof.FwdPoint
public import proofs.«01_k».proof.Proof.Gen.Kernel3Ideal.Frame

@[expose] public section

set_option maxRecDepth 16384

noncomputable section

namespace Cert.FwdPoint

open Finset Cert.RealMat Cert.MlpReal Cert.MixReal Idealize.ShloMosaic Idealize.ShloMosaic.TcCoe Idealize.ShloMosaic.Tactic Idealize.SL Idealize.SL.Sem Cert.Kernel3Ideal Cert.Kernel3Ideal.Gen
open Cert.MixPoint (row col blk blkB ext slab word E528 hz pc rd_cov cov_read over_read mem_unit2 lo_top ld_mat ld_md ld_cw ld_ps0 ld_ps1 ld_ps2 ld_ps3 ld_wp)

/-- Block `t`'s 512 rows behind its own last 16: what one point leaves in a carried buffer. -/
def kept (t : ℕ) (f : ℕ → ℕ → ℝ) (i j : ℕ) : ℝ := if i < 16 then lo (t + 1) f i j else lo t f i j

theorem lo_last (t : ℕ) (f : ℕ → ℕ → ℝ) (i j : ℕ) : lo t f (512 + i) j = lo (t + 1) f i j := by
  unfold lo
  rw [show 512 * t + (512 + i) = 512 * (t + 1) + i by omega]

theorem lo_first (f : ℕ → ℕ → ℝ) {i : ℕ} (j : ℕ) (h : i < 16) : lo 0 f i j = 0 := if_pos (by omega)

section Scratch
variable {sig : RefSig} (t : ℕ) (f : ℕ → ℕ → ℝ) (v : View sig .tc .vmem S528x512 .f32)

theorem lo_piece (inb) : ∀ x, (blk 512 (rows t f)) x = (E528 (lo t f)) ((Rect.unit (s := S528x512) ![16, 0] ![512, 512] inb).emb x) :=
  pc _ _ inb fun i _ j _ => by rw [Nat.zero_add, lo_top _ _ _ (by omega), show 16 + i - 16 = i by omega]; rfl

theorem kept_piece (inb) : ∀ x, (blk 512 (rows t f)) x = (E528 (kept t f)) ((Rect.unit (s := S528x512) ![16, 0] ![512, 512] inb).emb x) :=
  pc _ _ inb fun i _ j _ => by
    unfold kept
    rw [Nat.zero_add, if_neg (by omega), lo_top _ _ _ (by omega), show 16 + i - 16 = i by omega]; rfl

theorem kept_top (inbt) : ∀ x, (mat (φ := .f32) 16 512 (lo (t + 1) f)) x = (E528 (kept t f)) ((Rect.unit (s := S528x512) ![0, 0] ![16, 512] inbt).emb x) :=
  pc _ _ inbt fun i h j _ => by rw [Nat.zero_add, Nat.zero_add]; exact (if_pos h).symm

theorem rdA (h0 : t = 0) (inb inbz inb') :
    v.readCov (Val := Elt Ideal) [⟨Rect.unit (s := S528x512) ![16, 0] ![512, 512] inb, blk 512 (rows t f)⟩, ⟨Rect.unit (s := S528x512) ![0, 0] ![16, 512] inbz, mat (φ := .f32) 16 512 fun _ _ => 0⟩] (Rect.unit (s := S528x512) ![0, 0] ![528, 512] inb').toLoadRect = E528 (lo t f) := by
  refine rd_cov v (lo t f) 528 le_rfl _ inb' ⟨lo_piece t f inb, pc (lo t f) (fun _ _ => 0) inbz fun i hi j _ => by subst h0; rw [Nat.zero_add, lo_first _ _ hi], trivial⟩ fun y hy => ?_
  have h1 : (y 1).val < 512 := (y 1).isLt
  by_cases h : (y 0).val < 16
  · exact ⟨_, List.mem_cons_of_mem _ (List.mem_cons_self ..), mem_unit2 inbz _ (by omega) (by omega)⟩
  · exact ⟨_, List.mem_cons_self .., mem_unit2 inb _ (by omega) (by omega)⟩

theorem top_of (L : List (View.Piece (Elt Ideal) S528x512 .f32)) (inb inb') (hL : View.PiecesOf (E528 (lo t f)) (⟨Rect.unit (s := S528x512) ![16, 0] ![512, 512] inb, blk 512 (rows t f)⟩ :: L)) :
    v.readCov (Val := Elt Ideal) (⟨Rect.unit (s := S528x512) ![16, 0] ![512, 512] inb, blk 512 (rows t f)⟩ :: L) (Rect.unit (s := S528x512) ![512, 0] ![16, 512] inb').toLoadRect = (mat (φ := .f32) 16 512 (lo (t + 1) f) : Vec Ideal S16x512 .f32) := by
  refine (cov_read (E528 (lo t f)) v _ _ hL fun x => ?_).trans ((ld_mat (φ := .f32) _ inb').trans (mat_congr fun i _ j _ => by rw [lo_last, Nat.zero_add]))
  have h0 : (x 0).val < 16 := (x 0).isLt
  have h1 : (x 1).val < 512 := (x 1).isLt
  refine ⟨_, List.mem_cons_self .., mem_unit2 inb _ ?_ ?_⟩
  · show 16 ≤ 512 + 1 * (x 0).val ∧ 512 + 1 * (x 0).val < 16 + 512
    omega
  · show 0 ≤ 0 + 1 * (x 1).val ∧ 0 + 1 * (x 1).val < 0 + 512
    omega

theorem topA (h0 : t = 0) (inb inbz inb') :
    v.readCov (Val := Elt Ideal) [⟨Rect.unit (s := S528x512) ![16, 0] ![512, 512] inb, blk 512 (rows t f)⟩, ⟨Rect.unit (s := S528x512) ![0, 0] ![16, 512] inbz, mat (φ := .f32) 16 512 fun _ _ => 0⟩] (Rect.unit (s := S528x512) ![512, 0] ![16, 512] inb').toLoadRect = (mat (φ := .f32) 16 512 (lo (t + 1) f) : Vec Ideal S16x512 .f32) :=
  top_of t f v _ inb inb' ⟨lo_piece t f inb, pc (lo t f) (fun _ _ => 0) inbz fun i hi j _ => by subst h0; rw [Nat.zero_add, lo_first _ _ hi], trivial⟩

theorem topB (inb inb') :
    v.readCov (Val := Elt Ideal) [⟨Rect.unit (s := S528x512) ![16, 0] ![512, 512] inb, blk 512 (rows t f)⟩] (Rect.unit (s := S528x512) ![512, 0] ![16, 512] inb').toLoadRect = (mat (φ := .f32) 16 512 (lo (t + 1) f) : Vec Ideal S16x512 .f32) :=
  top_of t f v _ inb inb' ⟨lo_piece t f inb, trivial⟩

theorem rdB (x) (hx : v.read (Elt Ideal) x = E528 (kept t f)) (inb) :
    v.read (Elt Ideal) (v.writes (Elt Ideal) x [⟨Rect.unit (s := S528x512) ![16, 0] ![512, 512] inb, blk 512 (rows (t + 1) f)⟩]) = E528 (lo (t + 1) f) := by
  funext y
  refine over_read (E528 (lo (t + 1) f)) v x y _ ⟨lo_piece (t + 1) f inb, trivial⟩ ?_
  have h0 : (y 0).val < 528 := (y 0).isLt
  have h1 : (y 1).val < 512 := (y 1).isLt
  by_cases h : (y 0).val < 16
  · right
    rw [hx]
    exact congrArg (fun r : ℝ => (r : EReal)) (if_pos h)
  · exact .inl ⟨_, List.mem_cons_self .., mem_unit2 inb _ (by omega) (by omega)⟩

theorem fin_of (L : List (View.Piece (Elt Ideal) S528x512 .f32)) (inb inbt) :
    View.canon (Val := Elt Ideal) (⟨Rect.unit (s := S528x512) ![0, 0] ![16, 512] inbt, mat (φ := .f32) 16 512 (lo (t + 1) f)⟩ :: ⟨Rect.unit (s := S528x512) ![16, 0] ![512, 512] inb, blk 512 (rows t f)⟩ :: L) = E528 (kept t f) := by
  funext y
  have h0 : (y 0).val < 528 := (y 0).isLt
  have h1 : (y 1).val < 512 := (y 1).isLt
  refine View.canon_append_of_piecesOf (E528 (kept t f)) L [_, _] ⟨kept_top t f inbt, kept_piece t f inb, trivial⟩ y ?_
  by_cases h : (y 0).val < 16
  · exact ⟨_, List.mem_cons_self .., mem_unit2 inbt _ (by omega) (by omega)⟩
  · exact ⟨_, List.mem_cons_of_mem _ (List.mem_cons_self ..), mem_unit2 inb _ (by omega) (by omega)⟩

end Scratch

variable (D : Mix) (H : D.Fwd) (t : ℕ) (c : Dev nD) (i : grid0.Coords) (arg1 : Memref sig .tc .vmem S512x1024 .f32) (harg1 : arg1.IsWhole) (arg2 : Memref sig .tc .vmem S6x1024 .f32) (harg2 : arg2.IsWhole) (arg3 : Memref sig .tc .vmem S1024x2048 .bf16) (harg3 : arg3.IsWhole) (arg4 : Memref sig .tc .vmem S3x512 .f32) (harg4 : arg4.IsWhole) (arg5 : Memref sig .tc .vmem S4x128x128 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S512x2048 .bf16) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1024 .f32) (harg12 : arg12.IsWhole) (arg13 : Memref sig .tc .vmem S528x512 .f32) (harg13 : arg13.IsWhole) (arg14 : Memref sig .tc .vmem S528x512 .f32) (harg14 : arg14.IsWhole)

set_option maxHeartbeats 2000000 in
set_option backward.isDefEq.respectTransparency false in
include H in
/-- The first point: what every buffer holds after it. -/
theorem out_A (hc0 : cond0_0 i) (hi : (i 0).val = t) (t0 : t = 0) (x0 : Vec Ideal S512x1024 .f32) (h0 : x0 = xB D t) (x1 : Vec Ideal S6x1024 .f32) (h1 : x1 = mat (φ := .f32) 6 1024 D.md) (x2 : Vec Ideal S1024x2048 .bf16) (h2 : x2 = wiB D) (x3 : Vec Ideal S3x512 .f32) (h3 : x3 = mat (φ := .f32) 3 512 D.cw) (x4 : Vec Ideal S4x128x128 .f32) (h4 : x4 = ten (φ := .f32) 4 128 128 D.wp) (x5 : Vec Ideal S1x512 .f32) (h5 : x5 = row 512 D.ps) (x6 : Vec Ideal S1024x1024 .bf16) (h6 : x6 = woB D) :
    let r := kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
    View.canon (Val := Elt Ideal) r.1 = blkB 2048 (rows t D.z) ∧
      View.canon (Val := Elt Ideal) r.2.1 = blkB 1024 (rows t D.hh) ∧
      View.canon (Val := Elt Ideal) r.2.2.1 = blk 1024 (rows t D.xh) ∧
      View.canon (Val := Elt Ideal) r.2.2.2.1 = col (fun i => D.rs (512 * t + i)) ∧
      View.canon (Val := Elt Ideal) r.2.2.2.2.1 = blk 1024 (rows t D.mix) ∧
      View.canon (Val := Elt Ideal) r.2.2.2.2.2.1 = E528 (kept t D.cv) ∧
      View.canon (Val := Elt Ideal) r.2.2.2.2.2.2.1 = E528 (kept t D.vp) := by
  have ht : t < 16 := by omega
  have hJ : BitVec.ofNat 32 (i 0).val = word t := congrArg _ hi
  subst h0 h1 h2 h3 h4 h5 h6
  unfold kernelRun0_A
  dsimp only
  sl_unfold_words
  refine ⟨(View.canon_unit_zero hz _ _).trans ?_, (View.canon_unit_zero hz _ _).trans ?_, (View.canon_unit_zero hz _ _).trans ?_, (View.canon_unit_zero hz _ _).trans ?_, (View.canon_unit_zero hz _ _).trans ?_, ?_, ?_⟩
  all_goals simp (disch := decide) only [View.readAt_eq_ld, Memref.IsWhole.read_unread, View.ld_unit_zero (S := S512x1024) hz, View.ld_unit_zero (S := S1024x2048) hz, View.ld_unit_zero (S := S1024x1024) hz, View.ld_unit_zero (S := S528x512) hz, ld_md, ld_cw, ld_ps0, ld_ps1, ld_ps2, ld_ps3, ld_wp, hJ, pay1, pay2, pay3, pay4, pay5 D H, pay6 D H, pay7 D H, pay8 D H, pay9 D H, pay10 D H, pay11, pay12, pay15, pay17, pay19, pay20, pay22 D _ ht, pay23 D _ ht, pay24 D _ ht, pay25 D _ ht, pay26, pay27, pay28, pay29, pay30, pay31, pay32, pay33 D H, pay34 D H, pay35 D H, pay36 D H, rdA t _ _ t0, topA t _ _ t0]
  · exact fin_of ..
  · exact fin_of ..

set_option maxHeartbeats 2000000 in
set_option backward.isDefEq.respectTransparency false in
include H in
/-- A later point, from what the point before left in the carried buffers. -/
theorem out_B (hc0 : ¬cond0_0 i) (t' : ℕ) (hi : (i 0).val = t) (t0 : t = t' + 1) (ht : t < 16) (s0 s1 : Vec Ideal S528x512 .f32) (g0 : s0 = E528 (kept t' D.cv)) (g1 : s1 = E528 (kept t' D.vp)) (x0 : Vec Ideal S512x1024 .f32) (h0 : x0 = xB D t) (x1 : Vec Ideal S6x1024 .f32) (h1 : x1 = mat (φ := .f32) 6 1024 D.md) (x2 : Vec Ideal S1024x2048 .bf16) (h2 : x2 = wiB D) (x3 : Vec Ideal S3x512 .f32) (h3 : x3 = mat (φ := .f32) 3 512 D.cw) (x4 : Vec Ideal S4x128x128 .f32) (h4 : x4 = ten (φ := .f32) 4 128 128 D.wp) (x5 : Vec Ideal S1x512 .f32) (h5 : x5 = row 512 D.ps) (x6 : Vec Ideal S1024x1024 .bf16) (h6 : x6 = woB D) :
    let r := kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 s0 s1
    View.canon (Val := Elt Ideal) r.1 = blkB 2048 (rows t D.z) ∧
      View.canon (Val := Elt Ideal) r.2.1 = blkB 1024 (rows t D.hh) ∧
      View.canon (Val := Elt Ideal) r.2.2.1 = blk 1024 (rows t D.xh) ∧
      View.canon (Val := Elt Ideal) r.2.2.2.1 = col (fun i => D.rs (512 * t + i)) ∧
      View.canon (Val := Elt Ideal) r.2.2.2.2.1 = blk 1024 (rows t D.mix) ∧
      View.canon (Val := Elt Ideal) r.2.2.2.2.2.1 = E528 (kept t D.cv) ∧
      View.canon (Val := Elt Ideal) r.2.2.2.2.2.2.1 = E528 (kept t D.vp) := by
  have hJ : BitVec.ofNat 32 (i 0).val = word t := congrArg _ hi
  subst h0 h1 h2 h3 h4 h5 h6 g0 g1
  subst t0
  unfold kernelRun0_B
  dsimp only
  sl_unfold_words
  refine ⟨(View.canon_unit_zero hz _ _).trans ?_, (View.canon_unit_zero hz _ _).trans ?_, (View.canon_unit_zero hz _ _).trans ?_, (View.canon_unit_zero hz _ _).trans ?_, (View.canon_unit_zero hz _ _).trans ?_, ?_, ?_⟩
  all_goals simp (disch := decide) only [View.readAt_eq_ld, Memref.IsWhole.read_unread, View.ld_unit_zero (S := S512x1024) hz, View.ld_unit_zero (S := S1024x2048) hz, View.ld_unit_zero (S := S1024x1024) hz, View.ld_unit_zero (S := S528x512) hz, ld_md, ld_cw, ld_ps0, ld_ps1, ld_ps2, ld_ps3, ld_wp, hJ, pay1, pay2, pay3, pay4, pay5 D H, pay6 D H, pay7 D H, pay8 D H, pay9 D H, pay10 D H, pay11, pay12, pay15, pay17, pay19, pay20, pay22 D _ ht, pay23 D _ ht, pay24 D _ ht, pay25 D _ ht, pay26, pay27, pay28, pay29, pay30, pay31, pay32, pay33 D H, pay34 D H, pay35 D H, pay36 D H, rdB t' _ _ _ (Memref.IsWhole.read_unread _ _), topB]
  · exact fin_of ..
  · exact fin_of ..

end Cert.FwdPoint
end
-- ==== Proof.FwdArr.lean ====
/- The result arrays of the mixer's forward call, over the reals. -/
module

public import proofs.«01_k».proof.Proof.FwdOut
public import proofs.«01_k».proof.Proof.Gen.Kernel3Ideal.Value

@[expose] public section

set_option maxRecDepth 16384

noncomputable section

namespace Cert.FwdArr

open Finset Cert.RealMat Cert.MlpReal Cert.MixReal Cert.FwdPoint Idealize.ShloMosaic Idealize.ShloMosaic.TcCoe Idealize.ShloMosaic.Tactic Idealize.SL Idealize.SL.Sem Cert.Kernel3Ideal Cert.Kernel3Ideal.Gen
open Cert.MixPoint (row col blk blkB E528)

variable (m : (ℓ : Loc nD τ sig) → Buf (Elt Ideal) ℓ) (c : Dev nD) (D : Mix)

/-- The arrays the call reads hold the real numbers of `D`. -/
structure Holds : Prop where
  h0 : V m c main_arg0 = mat (φ := .f32) 8192 1024 D.x
  h1 : V m c main_v3 = mat (φ := .f32) 6 1024 D.md
  h2 : V m c main_v4 = mat (φ := .bf16) 1024 2048 D.wi
  h3 : V m c main_arg5 = mat (φ := .f32) 3 512 D.cw
  h4 : V m c main_arg6 = ten (φ := .f32) 4 128 128 D.wp
  h5 : V m c main_arg7 = mat (φ := .f32) 1 512 fun _ j => D.ps j
  h6 : V m c main_v5 = mat (φ := .bf16) 1024 1024 D.wo
  fwd : D.Fwd

variable {m c D} (H : Holds m c D)
include H

theorem iblk0 (t : Fin cfg0.N) : (iblk m c 0 t : Vec Ideal S512x1024 .f32) = xB D t.val := by
  have hi : win0_0.index t 0 = t.val ∧ win0_0.index t 1 = 0 := (by decide +kernel : ∀ t : Fin grid0.N, win0_0.index t 0 = t.val ∧ win0_0.index t 1 = 0) t
  funext j
  unfold iblk
  rw [View.read_apply]
  show V m c main_arg0 _ = _
  rw [H.h0]
  show ((D.x (win0_0.index t 0 * 512 + 1 * (j 0).val) (win0_0.index t 1 * 1024 + 1 * (j 1).val) : ℝ) : EReal) = ((D.x (512 * t.val + (j 0).val) (j 1).val : ℝ) : EReal)
  rw [hi.1, hi.2]
  congr 2 <;> omega

theorem iblk1 (t : Fin cfg0.N) : (iblk m c 1 t : Vec Ideal S6x1024 .f32) = mat (φ := .f32) 6 1024 D.md := by
  have hi : win0_1.index t 0 = 0 ∧ win0_1.index t 1 = 0 := (by decide +kernel : ∀ t : Fin grid0.N, win0_1.index t 0 = 0 ∧ win0_1.index t 1 = 0) t
  funext j
  unfold iblk
  rw [View.read_apply]
  show V m c main_v3 _ = _
  rw [H.h1]
  show ((D.md (win0_1.index t 0 * 6 + 1 * (j 0).val) (win0_1.index t 1 * 1024 + 1 * (j 1).val) : ℝ) : EReal) = ((D.md (j 0).val (j 1).val : ℝ) : EReal)
  rw [hi.1, hi.2]
  congr 2 <;> omega

theorem iblk2 (t : Fin cfg0.N) : (iblk m c 2 t : Vec Ideal S1024x2048 .bf16) = wiB D := by
  have hi : win0_2.index t 0 = 0 ∧ win0_2.index t 1 = 0 := (by decide +kernel : ∀ t : Fin grid0.N, win0_2.index t 0 = 0 ∧ win0_2.index t 1 = 0) t
  funext j
  unfold iblk
  rw [View.read_apply]
  show V m c main_v4 _ = _
  rw [H.h2]
  show ((D.wi (win0_2.index t 0 * 1024 + 1 * (j 0).val) (win0_2.index t 1 * 2048 + 1 * (j 1).val) : ℝ) : EReal) = ((D.wi (j 0).val (j 1).val : ℝ) : EReal)
  rw [hi.1, hi.2]
  congr 2 <;> omega

theorem iblk3 (t : Fin cfg0.N) : (iblk m c 3 t : Vec Ideal S3x512 .f32) = mat (φ := .f32) 3 512 D.cw := by
  have hi : win0_3.index t 0 = 0 ∧ win0_3.index t 1 = 0 := (by decide +kernel : ∀ t : Fin grid0.N, win0_3.index t 0 = 0 ∧ win0_3.index t 1 = 0) t
  funext j
  unfold iblk
  rw [View.read_apply]
  show V m c main_arg5 _ = _
  rw [H.h3]
  show ((D.cw (win0_3.index t 0 * 3 + 1 * (j 0).val) (win0_3.index t 1 * 512 + 1 * (j 1).val) : ℝ) : EReal) = ((D.cw (j 0).val (j 1).val : ℝ) : EReal)
  rw [hi.1, hi.2]
  congr 2 <;> omega

theorem iblk6 (t : Fin cfg0.N) : (iblk m c 6 t : Vec Ideal S1024x1024 .bf16) = woB D := by
  have hi : win0_6.index t 0 = 0 ∧ win0_6.index t 1 = 0 := (by decide +kernel : ∀ t : Fin grid0.N, win0_6.index t 0 = 0 ∧ win0_6.index t 1 = 0) t
  funext j
  unfold iblk
  rw [View.read_apply]
  show V m c main_v5 _ = _
  rw [H.h6]
  show ((D.wo (win0_6.index t 0 * 1024 + 1 * (j 0).val) (win0_6.index t 1 * 1024 + 1 * (j 1).val) : ℝ) : EReal) = ((D.wo (j 0).val (j 1).val : ℝ) : EReal)
  rw [hi.1, hi.2]
  congr 2 <;> omega

theorem iblk4 (t : Fin cfg0.N) : (iblk m c 4 t : Vec Ideal S4x128x128 .f32) = ten (φ := .f32) 4 128 128 D.wp := by
  have hi : win0_4.index t 0 = 0 ∧ win0_4.index t 1 = 0 ∧ win0_4.index t 2 = 0 := (by decide +kernel : ∀ t : Fin grid0.N, win0_4.index t 0 = 0 ∧ win0_4.index t 1 = 0 ∧ win0_4.index t 2 = 0) t
  funext j
  unfold iblk
  rw [View.read_apply]
  show V m c main_arg6 _ = _
  rw [H.h4]
  show ((D.wp (win0_4.index t 0 * 4 + 1 * (j 0).val) (win0_4.index t 1 * 128 + 1 * (j 1).val) (win0_4.index t 2 * 128 + 1 * (j 2).val) : ℝ) : EReal) = ((D.wp (j 0).val (j 1).val (j 2).val : ℝ) : EReal)
  rw [hi.1, hi.2.1, hi.2.2]
  congr 2 <;> omega

theorem iblk5 (t : Fin cfg0.N) : (iblk m c 5 t : Vec Ideal S1x512 .f32) = row 512 D.ps := by
  have hi : win0_5.index t 1 = 0 := (by decide +kernel : ∀ t : Fin grid0.N, win0_5.index t 1 = 0) t
  funext j
  unfold iblk
  rw [View.read_apply]
  show V m c main_arg7 _ = _
  rw [H.h5]
  show ((D.ps (win0_5.index t 1 * 512 + 1 * (j 1).val) : ℝ) : EReal) = ((D.ps (j 1).val : ℝ) : EReal)
  rw [hi]
  congr 2; omega

omit H in
theorem coord (t : Fin cfg0.N) : ((grid0.coords t) 0).val = t.val :=
  (by decide +kernel : ∀ t : Fin grid0.N, ((grid0.coords t) 0).val = t.val) t

omit H in
/-- What a point leaves in the result blocks and in the two carried buffers. -/
def left (D : Mix) (t : ℕ) : Vec Ideal S512x2048 .bf16 × Vec Ideal S512x1024 .bf16 × Vec Ideal S512x1024 .f32 × Vec Ideal S512x1 .f32 × Vec Ideal S512x1024 .f32 × Vec Ideal S528x512 .f32 × Vec Ideal S528x512 .f32 :=
  (blkB 2048 (rows t D.z), blkB 1024 (rows t D.hh), blk 1024 (rows t D.xh), col fun i => D.rs (512 * t + i), blk 1024 (rows t D.mix), E528 (kept t D.cv), E528 (kept t D.vp))

omit H in
theorem seven {A B C E F G K : Type} {a a' : A} {b b' : B} {c c' : C} {d d' : E} {e e' : F} {f f' : G} {g g' : K} (h0 : a = a') (h1 : b = b') (h2 : c = c') (h3 : d = d') (h4 : e = e') (h5 : f = f') (h6 : g = g') : (a, b, c, d, e, f, g) = (a', b', c', d', e', f', g') := by
  subst h0 h1 h2 h3 h4 h5 h6; rfl

set_option maxHeartbeats 1000000 in
theorem outs_A (t : Fin cfg0.N) (h : t.val = 0) (h0 : t.val % 16 = 0) : outsAt0 m c t.val t.isLt = left D t.val := by
  have e := out_A D H.fwd t.val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (coord t) h _ (iblk0 H t) _ (iblk1 H t) _ (iblk2 H t) _ (iblk3 H t) _ (iblk4 H t) _ (iblk5 H t) _ (iblk6 H t)
  rw [outsAt0_A m c t h0]
  unfold out0_A_7 out0_A_8 out0_A_9 out0_A_10 out0_A_11 sout0_A_0 sout0_A_1
  simp only [View.read_writes_junk_eq_canon]
  exact seven e.1 e.2.1 e.2.2.1 e.2.2.2.1 e.2.2.2.2.1 e.2.2.2.2.2.1 e.2.2.2.2.2.2

set_option maxHeartbeats 1000000 in
theorem outs_B (t : Fin cfg0.N) (n : ℕ) (hn : t.val = n + 1) (h0 : ¬t.val % 16 = 0) (hp : outsAt0 m c (t.val - 1) (by omega) = left D n) : outsAt0 m c t.val t.isLt = left D t.val := by
  have hN : cfg0.N = 16 := N_0
  have e := out_B D H.fwd t.val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun hc => h0 ((hcond0_0 t).mp hc)) n (coord t) hn (by omega) _ _ rfl rfl _ (iblk0 H t) _ (iblk1 H t) _ (iblk2 H t) _ (iblk3 H t) _ (iblk4 H t) _ (iblk5 H t) _ (iblk6 H t)
  rw [outsAt0_B m c t h0, hp]
  unfold out0_B_7 out0_B_8 out0_B_9 out0_B_10 out0_B_11 sout0_B_0 sout0_B_1
  simp only [View.read_writes_junk_eq_canon]
  exact seven e.1 e.2.1 e.2.2.1 e.2.2.2.1 e.2.2.2.2.1 e.2.2.2.2.2.1 e.2.2.2.2.2.2

theorem outs : ∀ (n : ℕ) (h : n < cfg0.N), outsAt0 m c n h = left D n
  | 0, h => outs_A H ⟨0, h⟩ rfl rfl
  | n + 1, h => by
    have hN : cfg0.N = 16 := N_0
    exact outs_B H ⟨n + 1, h⟩ n rfl (by dsimp only; omega) (outs n (by omega))

theorem arr7 : (dats m 0 c).arrAt 7 cfg0.N = mat (φ := .bf16) 8192 2048 D.z := by
  have hi : ∀ t : Fin cfg0.N, win0_7.index t 0 = t.val ∧ win0_7.index t 1 = 0 := (by decide +kernel : ∀ t : Fin grid0.N, win0_7.index t 0 = t.val ∧ win0_7.index t 1 = 0)
  refine (dats m 0 c).arrAt_eq_of_cover 7 (mat (φ := .bf16) 8192 2048 D.z) (fun t _ => ?_) fun (i : S8192x2048.Idx) => ?_
  · rw [Cert.Kernel3Ideal.Value.flushed7, outs H]
    funext j
    rw [View.read_apply]
    show ((D.z (512 * t.val + (j 0).val) (j 1).val : ℝ) : EReal) = ((D.z (win0_7.index t 0 * 512 + 1 * (j 0).val) (win0_7.index t 1 * 2048 + 1 * (j 1).val) : ℝ) : EReal)
    rw [(hi t).1, (hi t).2]
    congr 2 <;> omega
  · have h0 : (i 0).val < 8192 := (i 0).isLt
    have h1 : (i 1).val < 2048 := (i 1).isLt
    have hN : cfg0.N = 16 := N_0
    obtain ⟨t, ht⟩ : ∃ t : Fin cfg0.N, t.val = (i 0).val / 512 := ⟨⟨(i 0).val / 512, by omega⟩, rfl⟩
    refine ⟨t, flush0_7 t, ?_⟩
    show i ∈ ((View.whole main_v6_0).slice (win0_7.rect t)).set
    rw [View.set_slice_whole, Rect.mem_set_unit]
    refine Fin.forall_fin_two.mpr ⟨?_, ?_⟩
    · show win0_7.index _ 0 * 512 ≤ (i 0).val ∧ (i 0).val < win0_7.index _ 0 * 512 + 512
      rw [(hi _).1]
      omega
    · show win0_7.index _ 1 * 2048 ≤ (i 1).val ∧ (i 1).val < win0_7.index _ 1 * 2048 + 2048
      rw [(hi _).2]
      omega

theorem arr8 : (dats m 0 c).arrAt 8 cfg0.N = mat (φ := .bf16) 8192 1024 D.hh := by
  have hi : ∀ t : Fin cfg0.N, win0_8.index t 0 = t.val ∧ win0_8.index t 1 = 0 := (by decide +kernel : ∀ t : Fin grid0.N, win0_8.index t 0 = t.val ∧ win0_8.index t 1 = 0)
  refine (dats m 0 c).arrAt_eq_of_cover 8 (mat (φ := .bf16) 8192 1024 D.hh) (fun t _ => ?_) fun (i : S8192x1024.Idx) => ?_
  · rw [Cert.Kernel3Ideal.Value.flushed8, outs H]
    funext j
    rw [View.read_apply]
    show ((D.hh (512 * t.val + (j 0).val) (j 1).val : ℝ) : EReal) = ((D.hh (win0_8.index t 0 * 512 + 1 * (j 0).val) (win0_8.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_8 t, ?_⟩
    show i ∈ ((View.whole main_v6_1).slice (win0_8.rect t)).set
    rw [View.set_slice_whole, Rect.mem_set_unit]
    refine Fin.forall_fin_two.mpr ⟨?_, ?_⟩
    · show win0_8.index _ 0 * 512 ≤ (i 0).val ∧ (i 0).val < win0_8.index _ 0 * 512 + 512
      rw [(hi _).1]
      omega
    · show win0_8.index _ 1 * 1024 ≤ (i 1).val ∧ (i 1).val < win0_8.index _ 1 * 1024 + 1024
      rw [(hi _).2]
      omega

theorem arr9 : (dats m 0 c).arrAt 9 cfg0.N = mat (φ := .f32) 8192 1024 D.xh := by
  have hi : ∀ t : Fin cfg0.N, win0_9.index t 0 = t.val ∧ win0_9.index t 1 = 0 := (by decide +kernel : ∀ t : Fin grid0.N, win0_9.index t 0 = t.val ∧ win0_9.index t 1 = 0)
  refine (dats m 0 c).arrAt_eq_of_cover 9 (mat (φ := .f32) 8192 1024 D.xh) (fun t _ => ?_) fun (i : S8192x1024.Idx) => ?_
  · rw [Cert.Kernel3Ideal.Value.flushed9, outs H]
    funext j
    rw [View.read_apply]
    show ((D.xh (512 * t.val + (j 0).val) (j 1).val : ℝ) : EReal) = ((D.xh (win0_9.index t 0 * 512 + 1 * (j 0).val) (win0_9.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_9 t, ?_⟩
    show i ∈ ((View.whole main_v6_2).slice (win0_9.rect t)).set
    rw [View.set_slice_whole, Rect.mem_set_unit]
    refine Fin.forall_fin_two.mpr ⟨?_, ?_⟩
    · show win0_9.index _ 0 * 512 ≤ (i 0).val ∧ (i 0).val < win0_9.index _ 0 * 512 + 512
      rw [(hi _).1]
      omega
    · show win0_9.index _ 1 * 1024 ≤ (i 1).val ∧ (i 1).val < win0_9.index _ 1 * 1024 + 1024
      rw [(hi _).2]
      omega

theorem arr10 : (dats m 0 c).arrAt 10 cfg0.N = mat (φ := .f32) 8192 1 (fun i _ => D.rs i) := by
  have hi : ∀ t : Fin cfg0.N, win0_10.index t 0 = t.val ∧ win0_10.index t 1 = 0 := (by decide +kernel : ∀ t : Fin grid0.N, win0_10.index t 0 = t.val ∧ win0_10.index t 1 = 0)
  refine (dats m 0 c).arrAt_eq_of_cover 10 (mat (φ := .f32) 8192 1 (fun i _ => D.rs i)) (fun t _ => ?_) fun (i : S8192x1.Idx) => ?_
  · rw [Cert.Kernel3Ideal.Value.flushed10, outs H]
    funext j
    rw [View.read_apply]
    show ((D.rs (512 * t.val + (j 0).val) : ℝ) : EReal) = ((D.rs (win0_10.index t 0 * 512 + 1 * (j 0).val) : ℝ) : EReal)
    rw [(hi t).1]
    congr 2 <;> omega
  · have h0 : (i 0).val < 8192 := (i 0).isLt
    have h1 : (i 1).val < 1 := (i 1).isLt
    have hN : cfg0.N = 16 := N_0
    obtain ⟨t, ht⟩ : ∃ t : Fin cfg0.N, t.val = (i 0).val / 512 := ⟨⟨(i 0).val / 512, by omega⟩, rfl⟩
    refine ⟨t, flush0_10 t, ?_⟩
    show i ∈ ((View.whole main_v6_3).slice (win0_10.rect t)).set
    rw [View.set_slice_whole, Rect.mem_set_unit]
    refine Fin.forall_fin_two.mpr ⟨?_, ?_⟩
    · show win0_10.index _ 0 * 512 ≤ (i 0).val ∧ (i 0).val < win0_10.index _ 0 * 512 + 512
      rw [(hi _).1]
      omega
    · show win0_10.index _ 1 * 1 ≤ (i 1).val ∧ (i 1).val < win0_10.index _ 1 * 1 + 1
      rw [(hi _).2]
      omega

theorem arr11 : (dats m 0 c).arrAt 11 cfg0.N = mat (φ := .f32) 8192 1024 D.mix := by
  have hi : ∀ t : Fin cfg0.N, win0_11.index t 0 = t.val ∧ win0_11.index t 1 = 0 := (by decide +kernel : ∀ t : Fin grid0.N, win0_11.index t 0 = t.val ∧ win0_11.index t 1 = 0)
  refine (dats m 0 c).arrAt_eq_of_cover 11 (mat (φ := .f32) 8192 1024 D.mix) (fun t _ => ?_) fun (i : S8192x1024.Idx) => ?_
  · rw [Cert.Kernel3Ideal.Value.flushed11, outs H]
    funext j
    rw [View.read_apply]
    show ((D.mix (512 * t.val + (j 0).val) (j 1).val : ℝ) : EReal) = ((D.mix (win0_11.index t 0 * 512 + 1 * (j 0).val) (win0_11.index t 1 * 1024 + 1 * (j 1).val) : ℝ) : EReal)
    rw [(hi t).1, (hi t).2]
    congr 2 <;> omega
  · have h0 : (i 0).val < 8192 := (i 0).isLt
    have h1 : (i 1).val < 1024 := (i 1).isLt
    have hN : cfg0.N = 16 := N_0
    obtain ⟨t, ht⟩ : ∃ t : Fin cfg0.N, t.val = (i 0).val / 512 := ⟨⟨(i 0).val / 512, by omega⟩, rfl⟩
    refine ⟨t, flush0_11 t, ?_⟩
    show i ∈ ((View.whole main_v6_4).slice (win0_11.rect t)).set
    rw [View.set_slice_whole, Rect.mem_set_unit]
    refine Fin.forall_fin_two.mpr ⟨?_, ?_⟩
    · show win0_11.index _ 0 * 512 ≤ (i 0).val ∧ (i 0).val < win0_11.index _ 0 * 512 + 512
      rw [(hi _).1]
      omega
    · show win0_11.index _ 1 * 1024 ≤ (i 1).val ∧ (i 1).val < win0_11.index _ 1 * 1024 + 1024
      rw [(hi _).2]
      omega

end Cert.FwdArr
end
-- ==== Proof.FwdClaim.lean ====
/- The mixer's forward call: from finite arguments, the kernel's five results are the reference's. -/
module

public import proofs.«01_k».proof.Defs
public import proofs.«01_k».proof.Proof.MixClaim
public import proofs.«01_k».proof.Proof.FwdArr
public import proofs.«01_k».proof.Proof.Gen.Reference3Ideal.Run
public import proofs.«01_k».proof.Proof.Gen.Reference3Ideal.Read

@[expose] public section

set_option maxRecDepth 4000
set_option maxHeartbeats 4000000

noncomputable section

namespace Cert.FwdHost

open Idealize.ShloMosaic Idealize.ShloMosaic.TcCoe Idealize.SL.Sem Cert.Kernel3Ideal Cert.Kernel3Ideal.Gen Cert.ReferenceIdeal.Read

variable {F : FTy → Type} [FloatOps F] (m : (ℓ : Loc nD τ sig) → Buf (Elt F) ℓ) (c : Dev nD)

/-- Everything the lines before the call write, in order. -/
abbrev W : List (Ref sig .tc) := [main_call0_v0, main_call0_v1, main_call0_cst, main_call0_v2, main_call0_v3, main_call0_cst_0, main_call0_v4, main_call0_v5, main_v0, main_v1, main_v2, main_v3, main_v4, main_v5]

theorem hW : Step.Writes (τ := τ) (Val := Elt F) (List.flatten [hostOps0, hostOps0_1]) W := rfl

/-- What the buffer `b` holds when the program starts. -/
abbrev A (b : Ref sig .tc) : b.ty.Contents (Elt F) := m (c, Proc.devRef .tc b)
theorem v_main_arg0 : V m c main_arg0 = A m c main_arg0 := Step.arg hW
theorem v_main_arg1 : V m c main_arg1 = A m c main_arg1 := Step.arg hW
theorem v_main_arg2 : V m c main_arg2 = A m c main_arg2 := Step.arg hW
theorem v_main_arg3 : V m c main_arg3 = A m c main_arg3 := Step.arg hW
theorem v_main_arg4 : V m c main_arg4 = A m c main_arg4 := Step.arg hW
theorem v_main_arg5 : V m c main_arg5 = A m c main_arg5 := Step.arg hW
theorem v_main_arg6 : V m c main_arg6 = A m c main_arg6 := Step.arg hW
theorem v_main_arg7 : V m c main_arg7 = A m c main_arg7 := Step.arg hW
theorem v_main_arg8 : V m c main_arg8 = A m c main_arg8 := Step.arg hW
theorem v_main_call0_v0 : V m c main_call0_v0 = val_main_call0_v0 (F := F) (A m c main_arg1) :=
  Step.unary hW 0 (v_main_arg1 m c)
theorem v_main_call0_v1 : V m c main_call0_v1 = val_main_call0_v1 (F := F) (A m c main_arg1) :=
  Step.unary hW 1 (v_main_call0_v0 m c)
theorem v_main_call0_cst : V m c main_call0_cst = val_main_call0_cst (F := F) :=
  Step.nullary hW 2
theorem v_main_call0_v2 : V m c main_call0_v2 = val_main_call0_v2 (F := F) :=
  Step.unary hW 3 (v_main_call0_cst m c)
theorem v_main_call0_v3 : V m c main_call0_v3 = val_main_call0_v3 (F := F) (A m c main_arg1) :=
  Step.binary hW 4 (v_main_call0_v2 m c) (v_main_call0_v1 m c)
theorem v_main_call0_cst_0 : V m c main_call0_cst_0 = val_main_call0_cst_0 (F := F) :=
  Step.nullary hW 5
theorem v_main_call0_v4 : V m c main_call0_v4 = val_main_call0_v4 (F := F) :=
  Step.unary hW 6 (v_main_call0_cst_0 m c)
theorem v_main_call0_v5 : V m c main_call0_v5 = val_main_call0_v5 (F := F) (A m c main_arg1) :=
  Step.binary hW 7 (v_main_call0_v4 m c) (v_main_call0_v3 m c)
theorem v_main_v0 : V m c main_v0 = val_main_v0 (F := F) (A m c main_arg1) :=
  Step.binary hW 8 (v_main_arg1 m c) (v_main_call0_v5 m c)
theorem v_main_v1 : V m c main_v1 = val_main_v1 (F := F) (A m c main_arg1) (A m c main_arg2) :=
  Step.binary hW 9 (v_main_v0 m c) (v_main_arg2 m c)
theorem v_main_v2 : V m c main_v2 = val_main_v2 (F := F) (A m c main_arg1) (A m c main_arg2) (A m c main_arg3) :=
  Step.binary hW 10 (v_main_v1 m c) (v_main_arg3 m c)
theorem v_main_v3 : V m c main_v3 = val_main_v3 (F := F) (A m c main_arg1) (A m c main_arg2) (A m c main_arg3) :=
  Step.reshape hW 11 (v_main_v2 m c)
theorem v_main_v4 : V m c main_v4 = truncf .bf16 (A m c main_arg4) bitsLt_bf16_f32 :=
  Step.unary hW 12 (v_main_arg4 m c)
theorem v_main_v5 : V m c main_v5 = truncf .bf16 (A m c main_arg8) bitsLt_bf16_f32 :=
  Step.unary hW 13 (v_main_arg8 m c)

end Cert.FwdHost

set_option backward.isDefEq.respectTransparency false

namespace Cert.FwdClaim

open Finset Cert.RealMat Cert.MlpReal Cert.MixReal Idealize.ShloMosaic Idealize.ShloMosaic.TcCoe Idealize.SL.Sem

section Links
variable {x1 : FVec Ideal Reference3Ideal.S8192x1024 .f32} {x2 : FVec Ideal Reference3Ideal.S1x1024 .f32} {x3 : FVec Ideal Reference3Ideal.S1024x6144 .f32} {x4 : FVec Ideal Reference3Ideal.S1x6144 .f32} {x5 : FVec Ideal Reference3Ideal.S1024x2048 .f32} {x6 : FVec Ideal Reference3Ideal.S3x512 .f32} {x7 : FVec Ideal Reference3Ideal.S4x128x128 .f32} {x8 : FVec Ideal Reference3Ideal.S1x512 .f32} {x9 : FVec Ideal Reference3Ideal.S1024x1024 .f32}

/-! The lines of this reference are the first ones of the reference of the second sublayer's gradients. -/

theorem h_link : Reference3Ideal.Read.val_main_v11 (F := Ideal) x1 x2 x3 x4 = ReferenceIdeal.Read.val_main_v11 (F := Ideal) x1 x2 x3 x4 := rfl

theorem z_link : Reference3Ideal.Read.val_main_v12 (F := Ideal) x1 x2 x3 x4 x5 = ReferenceIdeal.Read.val_main_v12 (F := Ideal) x1 x2 x3 x4 x5 := rfl

open Cert.Reference3Ideal.Read in
theorem mix_link : Reference3Ideal.Read.val_main_v101 (F := Ideal) x1 x2 x3 x4 x5 x6 x7 x8 x9 = ReferenceIdeal.Read.val_main_v101 (F := Ideal) x1 x2 x3 x4 x5 x6 x7 x8 x9 := by
  simp only [val_main_v101, val_main_v100, val_main_v40, val_main_v13, val_main_v39, val_main_v32, val_main_v25, val_main_v20, val_main_v19, val_main_v17, val_main_v14, val_main_v15, val_main_v18, val_main_cst_0, val_main_v24, val_main_v23, val_main_v22, val_main_v21, val_main_v31, val_main_v26, val_main_v30, val_main_v29, val_main_v28, val_main_v27, val_main_v38, val_main_v33, val_main_v37, val_main_v36, val_main_v35, val_main_v34, val_main_v99, val_main_v97, val_main_v96, val_main_v95, val_main_v94, val_main_v90, val_main_v56, val_main_v54, val_main_v50, val_main_v46, val_main_v41, val_main_call1_call0_v0, val_main_call1_call0_cst, val_main_v16, val_main_v49, val_main_v48, val_main_v47, val_main_cst_2, val_main_v53, val_main_v52, val_main_v45, val_main_v44, val_main_v42, val_main_v43, val_main_cst_1, val_main_v51, val_main_cst_3, val_main_v55, val_main_v91, val_main_v67, val_main_v65, val_main_v61, val_main_v57, val_main_v60, val_main_v59, val_main_v58, val_main_cst_4, val_main_v64, val_main_v63, val_main_v62, val_main_cst_5, val_main_v66, val_main_v92, val_main_v78, val_main_v76, val_main_v72, val_main_v68, val_main_v71, val_main_v70, val_main_v69, val_main_cst_6, val_main_v75, val_main_v74, val_main_v73, val_main_cst_7, val_main_v77, val_main_v93, val_main_v89, val_main_v87, val_main_v83, val_main_v79, val_main_v82, val_main_v81, val_main_v80, val_main_cst_8, val_main_v86, val_main_v85, val_main_v84, val_main_cst_9, val_main_v88, val_main_v98]
  rw [z_link]
  rfl

open Cert.Reference3Ideal.Read in
theorem rs_link : Reference3Ideal.Read.val_main_v123 (F := Ideal) x1 x2 x3 x4 x5 x6 x7 x8 x9 = ReferenceIdeal.Read.val_main_v125 (F := Ideal) x1 x2 x3 x4 x5 x6 x7 x8 x9 := by
  simp only [val_main_v123, val_main_v122, val_main_v120, val_main_v118, val_main_v117, val_main_cst_14, val_main_v116, val_main_v115, val_main_v109, val_main_v103, val_main_v102, val_main_cst_10, val_main_v108, val_main_v107, val_main_v106, val_main_v104, val_main_v105, val_main_cst_11, val_main_v114, val_main_v113, val_main_v111, val_main_v110, val_main_cst_12, val_main_v112, val_main_cst_13, val_main_v119, val_main_cst_15, val_main_v121, val_main_cst_16, mix_link]
  rfl

open Cert.Reference3Ideal.Read in
theorem xh_link : Reference3Ideal.Read.val_main_v127 (F := Ideal) x1 x2 x3 x4 x5 x6 x7 x8 x9 = ReferenceIdeal.Read.val_main_v127 (F := Ideal) x1 x2 x3 x4 x5 x6 x7 x8 x9 := by
  simp only [val_main_v127, val_main_v126, rs_link, val_main_v125, val_main_v109, val_main_v103, val_main_v102, val_main_cst_10, val_main_v108, val_main_v107, val_main_v106, val_main_v104, val_main_v105, val_main_cst_11, val_main_v124, val_main_v113, val_main_v111, val_main_v110, val_main_cst_12, val_main_v112, val_main_cst_13, mix_link]
  rfl

variable {D : Mix}

open Cert.ReferenceIdeal.Read in
theorem h_mat (hx : x1 = mat (φ := .f32) 8192 1024 D.x) (hmd : val_main_v3 (F := Ideal) x2 x3 x4 = mat (φ := .f32) 6 1024 D.md) :
    val_main_v11 (F := Ideal) x1 x2 x3 x4 = mat (φ := .f32) 8192 1024 D.hh := by
  simp only [val_main_v11, val_main_v10, val_main_v9, val_main_v8, val_main_v7, val_main_v6, val_main_v5, val_main_v4, val_main_cst, hmd, hx]
  simp only [addf_mat, mulf_mat, bd_smat, bd_row, k1, slice_mat]
  exact mat_congr fun i hi j hj => by simp only [add_zero, zero_add]; rfl

open Cert.ReferenceIdeal.Read in
theorem z_mat (hh : val_main_v11 (F := Ideal) x1 x2 x3 x4 = mat (φ := .f32) 8192 1024 D.hh) (hwi : x5 = mat (φ := .f32) 1024 2048 D.wi) :
    val_main_v12 (F := Ideal) x1 x2 x3 x4 x5 = mat (φ := .f32) 8192 2048 fun i j => ∑ l ∈ range 1024, D.hh i l * D.wi l j := by
  unfold val_main_v12; rw [hh, hwi]; unfold Host.dotGeneral
  exact dot_mat _ _ _ rfl _ _

open Cert.Reference2Ideal.Read in
theorem mix_mat (hyc : val_main_v109 (F := Ideal) x1 x2 x3 x4 x5 x6 x7 x8 = mat (φ := .f32) 8192 1024 D.yc) (hwo : x9 = mat (φ := .f32) 1024 1024 D.wo) :
    val_main_v111 (F := Ideal) x1 x2 x3 x4 x5 x6 x7 x8 x9 = mat (φ := .f32) 8192 1024 fun i j => ∑ k ∈ range 1024, D.yc i k * D.wo k j := by
  have h : val_main_v110 (F := Ideal) x1 x2 x3 x4 x5 x6 x7 x8 x9 = mat (φ := .f32) 8192 1024 fun i j => ∑ k ∈ range 1024, D.yc i k * D.wo k j := by
    unfold val_main_v110; rw [hyc, hwo]; unfold Host.dotGeneral
    exact dot_mat _ _ _ rfl _ _
  simp only [val_main_v111, val_main_v8, val_main_cst_0, h]
  simp only [addf_mat, bd_smat, k0]
  exact mat_congr fun i hi j hj => add_zero _

end Links

open Cert.Kernel3Ideal in
/-- Real numbers behind finite arguments: both programs start from the same ones. -/
theorem reals (m : (ℓ : Loc nD τ sig) → Buf (Elt Ideal) ℓ) (hp : Pre_Kernel3Ideal_forward_arguments_finite m) (c : Dev nD) : ∃ D : Mix,
    FwdArr.Holds m c D ∧ MixRef.Holds (m ((c : Thread nD τ).loc main_arg0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1)) D := by
  obtain ⟨e1, e2, e3, e4, e5, e6, e7, e8, e9⟩ := Pre.forward (hp c)
  obtain ⟨md, hmd, -⟩ := (MlpFinite.f_main_v3 e2 e3 e4).mat (φ := .f32)
  obtain ⟨mx, hmx, -⟩ := (MlpFinite.f_main_v101 e1 e2 e3 e4 e5 e6 e7 e8 e9).mat (φ := .f32)
  obtain ⟨x, hx, -⟩ := e1.mat (φ := .f32)
  obtain ⟨l, hl, -⟩ := e2.mat (φ := .f32)
  obtain ⟨wi, hwi, -⟩ := e5.mat (φ := .f32)
  obtain ⟨cw, hcw, -⟩ := e6.mat (φ := .f32)
  obtain ⟨wp, hwp⟩ := MixClaim.fin_ten e7
  obtain ⟨ps, hps, -⟩ := e8.mat (φ := .f32)
  obtain ⟨wo, hwo, -⟩ := e9.mat (φ := .f32)
  have row {n : ℕ} (f : ℕ → ℕ → ℝ) : (mat 1 n f : FVec Ideal ⟨2, ![1, n]⟩ .f32) = mat 1 n fun _ j => f 0 j :=
    mat_congr fun i hi j _ => by rw [Nat.lt_one_iff.1 hi]
  let D0 : Mix := ⟨x, fun _ _ => 0, fun _ => 0, x, mx, fun _ _ => 0, md, fun _ j => l 0 j, wo, wi, cw, wp, fun j => ps 0 j⟩
  let D1 : Mix := { D0 with z := fun i j => ∑ l ∈ range 1024, D0.hh i l * D0.wi l j }
  let D2 : Mix := { D1 with rs := fun i => (√(D1.var i + eps))⁻¹, xh := fun i j => D1.ctr i j * (√(D1.var i + eps))⁻¹ }
  let D3 : Mix := { D1 with mix := fun i j => ∑ k ∈ range 1024, D1.yc i k * D1.wo k j }
  let D : Mix := { D3 with rs := fun i => (√(D3.var i + eps))⁻¹, xh := fun i j => D3.ctr i j * (√(D3.var i + eps))⁻¹ }
  have hz := z_mat (D := D0) (h_mat hx hmd) hwi
  have H2 : MixRef.Holds (m ((c : Thread nD τ).loc main_arg0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1)) D2 :=
    ⟨hx, hx, hmd, MixClaim.z_eq.trans hz, MixClaim.mix_eq.trans hmx, hwi, hcw, hwp, hps.trans (row ps), hwo, hl.trans (row l), fun _ => rfl, fun _ _ => rfl⟩
  have hmix := mix_mat (D := D2) (MixRef.l_v109 H2) hwo
  have H : MixRef.Holds (m ((c : Thread nD τ).loc main_arg0)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg1)) D :=
    ⟨hx, hx, hmd, MixClaim.z_eq.trans hz, hmix, hwi, hcw, hwp, hps.trans (row ps), hwo, hl.trans (row l), fun _ => rfl, fun _ _ => rfl⟩
  refine ⟨D, ⟨?_, ?_, ?_, ?_, ?_, ?_, ?_, ⟨fun _ _ => rfl, fun _ _ => rfl, fun _ => rfl, fun _ _ => rfl⟩⟩, H⟩
  · exact (FwdHost.v_main_arg0 m c).trans hx
  · exact (FwdHost.v_main_v3 m c).trans hmd
  · exact (FwdHost.v_main_v4 m c).trans ((congrArg (fun x => truncf .bf16 x _) hwi).trans rfl)
  · exact (FwdHost.v_main_arg5 m c).trans hcw
  · exact (FwdHost.v_main_arg6 m c).trans hwp
  · exact (FwdHost.v_main_arg7 m c).trans (hps.trans (row ps))
  · exact (FwdHost.v_main_v5 m c).trans ((congrArg (fun x => truncf .bf16 x _) hwo).trans rfl)

open Cert.Kernel3Ideal Cert.Kernel3Ideal.Gen in
/-- The kernel's run: its five results are the arrays of real numbers, its arguments are unchanged. -/
theorem kernel {m : (ℓ : Loc nD τ sig) → Buf (Elt Ideal) ℓ} (ρ : Dev nD → PrngReg) {D : Dev nD → Mix} (H : ∀ c, FwdArr.Holds m c (D c)) :
    θ_run defs (onTc (τ := τ) (main (F := Ideal))) ⟨m, fun _ => 0, ρ⟩ fun r => ∀ c : Dev nD,
      r.2.mem ((c.tc : Thread nD τ).loc main_v6_0) = mat (φ := .bf16) 8192 2048 (D c).z
      ∧ r.2.mem ((c.tc : Thread nD τ).loc main_v6_1) = mat (φ := .bf16) 8192 1024 (D c).hh
      ∧ r.2.mem ((c.tc : Thread nD τ).loc main_v6_2) = mat (φ := .f32) 8192 1024 (D c).xh
      ∧ r.2.mem ((c.tc : Thread nD τ).loc main_v6_3) = (mat (φ := .f32) 8192 1 fun i _ => (D c).rs i)
      ∧ r.2.mem ((c.tc : Thread nD τ).loc main_v6_4) = mat (φ := .f32) 8192 1024 (D c).mix
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨r0, r1, r2, r3, r4, h⟩ := h c
    exact ⟨r0.trans (FwdArr.arr7 (H c)), r1.trans (FwdArr.arr8 (H c)), r2.trans (FwdArr.arr9 (H c)), r3.trans (FwdArr.arr10 (H c)), r4.trans (FwdArr.arr11 (H c)), h⟩) (Cert.Kernel3Ideal.Value.run_blocks m ρ)

open Cert.Reference3Ideal.Read in
theorem algebraic : Cert.algebraic_Kernel3Ideal_Reference3Ideal_pre_forward_arguments_finite := by
  intro m g m' g' hp hm
  choose D hK hR using fun c => reals m hp c
  refine ⟨fun c => mat (φ := .bf16) 8192 2048 (D c).z, fun c => mat (φ := .bf16) 8192 1024 (D c).hh, fun c => mat (φ := .f32) 8192 1024 (D c).xh, fun c => (mat (φ := .f32) 8192 1 fun i _ => (D c).rs i), fun c => mat (φ := .f32) 8192 1024 (D c).mix, kernel g hK, ?_⟩
  refine (θ_run Cert.Reference3Ideal.defs _ _).mono (fun r h c => ?_) (Cert.Reference3Ideal.Value.run (F := Ideal) m' g')
  obtain ⟨r0, r1, r2, r3, r4, h⟩ := h c
  have H := hR c
  obtain ⟨a0, a1, a2, a3, a4, a5, a6, a7, a8⟩ := hm c
  rw [← a0, ← a1, ← a2, ← a3, ← a4, ← a5, ← a6, ← a7, ← a8] at H
  replace H : MixRef.Holds (StableHlo.launchContents m' c (Proc.devRef .tc Cert.Reference3Ideal.main_arg0)) (StableHlo.launchContents m' c (Proc.devRef .tc Cert.Reference3Ideal.main_arg0)) (StableHlo.launchContents m' c (Proc.devRef .tc Cert.Reference3Ideal.main_arg1)) (StableHlo.launchContents m' c (Proc.devRef .tc Cert.Reference3Ideal.main_arg2)) (StableHlo.launchContents m' c (Proc.devRef .tc Cert.Reference3Ideal.main_arg3)) (StableHlo.launchContents m' c (Proc.devRef .tc Cert.Reference3Ideal.main_arg4)) (StableHlo.launchContents m' c (Proc.devRef .tc Cert.Reference3Ideal.main_arg5)) (StableHlo.launchContents m' c (Proc.devRef .tc Cert.Reference3Ideal.main_arg6)) (StableHlo.launchContents m' c (Proc.devRef .tc Cert.Reference3Ideal.main_arg7)) (StableHlo.launchContents m' c (Proc.devRef .tc Cert.Reference3Ideal.main_arg8)) (StableHlo.launchContents m' c (Proc.devRef .tc Cert.Reference3Ideal.main_arg1)) (D c) := H
  have hz := z_link.trans (MixClaim.z_eq.symm.trans H.z)
  have hh := h_link.trans (h_mat H.x H.md)
  exact ⟨r0.trans ((val_main_v128_eq _).trans ((congrArg (fun x => truncf .bf16 x _) hz).trans rfl)),
    r1.trans ((val_main_v129_eq _).trans ((congrArg (fun x => truncf .bf16 x _) hh).trans rfl)),
    r2.trans ((val_main_v127_eq _).trans (xh_link.trans (MixClaim.xh_eq.symm.trans (MixRef.l_v141 H)))),
    r3.trans ((val_main_v123_eq _).trans (rs_link.trans (MixClaim.rs_eq.symm.trans (MixRef.l_v136 H)))),
    r4.trans ((val_main_v101_eq _).trans (mix_link.trans (MixClaim.mix_eq.symm.trans H.mix))), h⟩

end Cert.FwdClaim

end
-- ==== Proof.Slot.lean ====
/- What the precondition of the small-gradients call says: the slot word is one of 0..7, so its rows lie in the buffer. -/
module

public import proofs.«01_k».proof.Pre_slot_in_range
public import proofs.«01_k».proof.Kernel4Ideal
public import Idealize.ShloMosaic.Lib.ReduceAll

@[expose] public section

set_option backward.isDefEq.respectTransparency false

noncomputable section

namespace Cert.Slot

open Idealize.ShloMosaic Cert.Kernel4Ideal

instance facts : Cert.Pre_slot_in_range.Facts where
  bcast_S_S1 := by decide
  reducesTo_S1_S_d0 := by decide
  h_S_ := by decide

theorem rows (k : Fin 8) : k0_chk1 (BitVec.ofNat 32 k.val) := by revert k; decide

theorem rows_of {w : BitVec 32} (h : IntOp.andi (IntOp.cmpi .sge w 0#32) (IntOp.cmpi .slt w 8#32) = 1#1) : k0_chk1 w := by
  have hk : w.toNat < 8 := by
    obtain ⟨h0, h8⟩ := IntOp.andi_eq_one.1 h
    have h0 : BitVec.sle 0#32 w = true := by
      by_contra h
      exact absurd h0 (by simp [IntOp.cmpi, Bool.eq_false_iff.mpr h])
    have h8 : BitVec.slt w 8#32 = true := by
      by_contra h
      exact absurd h8 (by simp [IntOp.cmpi, Bool.eq_false_iff.mpr h])
    rw [BitVec.sle_iff_toInt_le] at h0
    rw [BitVec.slt_iff_toInt_lt] at h8
    have := BitVec.toInt_eq_toNat_cond w
    simp at h0 h8
    split at this <;> omega
  have e : w = BitVec.ofNat 32 w.toNat := by simp
  rw [e]; exact rows ⟨w.toNat, hk⟩

theorem slot {F : FTy → Type} [FloatOps F] {x0 x1 x2 x3 x4 x5 x6 x7 x8}
    (e : Cert.Pre_slot_in_range.fn (F := F) x0 x1 x2 x3 x4 x5 x6 x7 x8 = fun _ => 1#1) (y : S1.Idx) : k0_chk1 (x5 y) :=
  have : Subsingleton (⟨0, ![]⟩ : Shape).Idx := ⟨fun a b => funext fun k => k.elim0⟩
  rows_of (Host.reduce_andi_all _ _ Cert.Pre_slot_in_range.Facts.reducesTo_S1_S_d0 Cert.Pre_slot_in_range.Facts.h_S_ (fun k => k.elim0)
    (congrFun e (fun k => k.elim0)) y)

end Cert.Slot

end
-- ==== Proof.Small.lean ====
module

public import proofs.«01_k».proof.Proof.Gen.Kernel4Ideal.Frame
public import proofs.«01_k».proof.Proof.Gen.Kernel4Ideal.Skeleton
public import Idealize.ShloMosaic.Lib.Pipeline.Frame
public import Idealize.ShloMosaic.Lib.Tactic
public import Idealize.ShloMosaic.Lib.Claim

/-! The frame of the small-gradients call. Nothing is said of what it computes: the body is run against an invariant that
holds every buffer it touches, its inputs at their blocks and the rest at some contents, so that each load and each store
keeps the invariant whatever it reads or writes. The one side condition, that the rows taken from the carried buffer lie
in it, follows from the word read from scalar memory. -/

@[expose] public section

set_option maxRecDepth 16384

noncomputable section

namespace Cert.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal Cert.Kernel4Ideal.Gen

variable {F : FTy → Type} [FloatOps F]

local notation "𝕄" => MT nD τ sig Unit (Elt F) ℕ (UR sig nD τ) ℕ

/-- `J` holds `P`, and is whole again once `P` is given back. -/
def Has (J P : sProp 𝕄) : Prop := J ⊢ iprop(P ∗ (P -∗ J))

theorem Has.head {P R : sProp 𝕄} : Has iprop(P ∗ R) P := by
  unfold Has
  iintro ⟨HP, HR⟩
  isplitl [HP]; · iexact HP
  iintro HP
  isplitl [HP]; · iexact HP
  iexact HR

theorem Has.last {P : sProp 𝕄} : Has P P := by
  unfold Has
  iintro HP
  isplitl [HP]; · iexact HP
  iintro HP
  iexact HP

theorem Has.tail {P Q R : sProp 𝕄} (h : Has R Q) : Has iprop(P ∗ R) Q := by
  unfold Has at *
  iintro ⟨HP, HR⟩
  ihave HQ := h $$ HR
  icases HQ with ⟨HQ, HB⟩
  isplitl [HQ]; · iexact HQ
  iintro HQ
  isplitl [HP]; · iexact HP
  iapply HB; iexact HQ

theorem Has.left {P Q R : sProp 𝕄} (h : Has P Q) : Has iprop(P ∗ R) Q := by
  unfold Has at *
  iintro ⟨HP, HR⟩
  ihave HQ := h $$ HP
  icases HQ with ⟨HQ, HB⟩
  isplitl [HQ]; · iexact HQ
  iintro HQ
  isplitr [HR]; swap; · iexact HR
  iapply HB; iexact HQ

variable (c : Dev nD) (J : sProp (MT nD τ sig Unit (Elt F) ℕ (UR sig nD τ) ℕ))

/-- `J` holds the buffer of `M` at some contents. -/
def Rd {sp : Space} {s : Shape} {e : EltTy} (M : Memref sig .tc sp s e) : Prop :=
  J ⊢ iprop(∃ f, (M.view.loc (c : Thread nD τ) ↦[M.view.set]{fullShare} f) ∗ ((M.view.loc (c : Thread nD τ) ↦[M.view.set]{fullShare} f) -∗ J))

/-- `J` holds the buffer of `M`, and does not mind what it is given back at. -/
def Wr {sp : Space} {s : Shape} {e : EltTy} (M : Memref sig .tc sp s e) : Prop :=
  J ⊢ iprop(∃ f, (M.view.loc (c : Thread nD τ) ↦[M.view.set]{fullShare} f) ∗ (∀ f', (M.view.loc (c : Thread nD τ) ↦[M.view.set]{fullShare} f') -∗ J))

variable {c J}

theorem Wr.rd {sp : Space} {s : Shape} {e : EltTy} {M : Memref sig .tc sp s e} (h : Wr c J M) : Rd c J M := by
  unfold Wr at h; unfold Rd
  iintro HJ
  ihave H := h $$ HJ
  icases H with ⟨%f, Hf, HB⟩
  iexists f
  isplitl [Hf]; · iexact Hf
  iintro Hf
  iapply HB; iexact Hf

theorem Rd.of {sp : Space} {s : Shape} {e : EltTy} {M : Memref sig .tc sp s e} {d}
    (h : Has J (owns (c : Thread nD τ) M fullShare d)) : Rd c J M := by
  unfold Has owns at h; unfold Rd
  iintro HJ
  ihave H := h $$ HJ
  icases H with ⟨⟨%f, %hf, Hf⟩, HB⟩
  iexists f
  isplitl [Hf]; · iexact Hf
  iintro Hf
  iapply HB; iexists f
  isplitr; · ipureintro; exact hf
  iexact Hf

theorem Wr.of {sp : Space} {s : Shape} {e : EltTy} {M : Memref sig .tc sp s e}
    (h : Has J iprop(∃ d, owns (c : Thread nD τ) M fullShare d)) : Wr c J M := by
  unfold Has owns at h; unfold Wr
  iintro HJ
  ihave H := h $$ HJ
  icases H with ⟨⟨%d, %f, %hf, Hf⟩, HB⟩
  iexists f
  isplitl [Hf]; · iexact Hf
  iintro %f' Hf
  iapply HB; iexists _; iexists f'
  isplitr; swap; · iexact Hf
  ipureintro; rfl

variable (c J)

/-- From `J` the program runs to its return and gives `J` back. -/
def Safe {α : Type} (p : Prog (TpuEff nD τ sig (Elt F) Λ₀ .tc) α) : Prop :=
  J ⊢ wp frame (wpE (defs₀ (F := F)) Variants.none (c : Thread nD τ) none) Set.univ p (fun _ => J)

variable {c J}

theorem Safe.ret {α : Type} (a : α) : Safe c J (pure a) := le_wp_ret _ _ _ a (fun _ => J)

theorem Safe.bind {α β : Type} {p : Prog (TpuEff nD τ sig (Elt F) Λ₀ .tc) α} {k : α → Prog (TpuEff nD τ sig (Elt F) Λ₀ .tc) β}
    (h : Safe c J p) (hk : ∀ a, Safe c J (k a)) : Safe c J (p >>= k) := by
  unfold Safe at *
  rw [wp_bind]
  exact h.trans (wp_mono _ _ _ hk)

theorem Safe.dite {α : Type} {P : Prop} [Decidable P] {a : P → Prog (TpuEff nD τ sig (Elt F) Λ₀ .tc) α} {b : ¬P → Prog (TpuEff nD τ sig (Elt F) Λ₀ .tc) α}
    (ha : ∀ h, Safe c J (a h)) (hb : ∀ h, Safe c J (b h)) : Safe c J (if h : P then a h else b h) := by
  split
  · exact ha _
  · exact hb _

theorem Safe.assume {P : Prop} {d : Decidable P} (h : P) : Safe c J (Prog.lift (TpuEff.assume P d)) := by
  unfold Safe
  exact (le_wp_ret _ _ _ _ (fun _ => J)).trans (wp_assume (k := .ret) Variants.none (c : Thread nD τ) none Set.univ h)

theorem Safe.load {sp : CoreSpace} {s : Shape} {e : EltTy} {M : Memref sig .tc sp s e} {r : LoadRect s} {hl : M.view.LoadsAt r}
    (h : Rd c J M) : Safe c J (Prog.lift (.load M r hl)) := by
  unfold Rd at h; unfold Safe
  refine h.trans ?_
  iintro ⟨%f, Hf, HB⟩
  ihave H := (wp_load (f := f) (q := fullShare) (defs := defs₀ (F := F)) (Q := fun _ => J) (hl := hl) (k := .ret)
    Variants.none (c : Thread nD τ) none Set.univ (View.setOn_subset_set _ _)) $$ Hf
  iapply H
  iintro Hf
  iapply (le_wp_ret _ _ _ _ _)
  iapply HB; iexact Hf

theorem Safe.store {sp : CoreSpace} {s : Shape} {e : EltTy} {M : Memref sig .tc sp s e} {r : Rect s} {w : r.shape.Idx → Elt F e} {Mk : Finset r.shape.Idx}
    {hx : (M.access r).Stores Mk} {hm : Mk = Finset.univ ∨ ∀ a, r.stride a = 1}
    (h : Wr c J M) : Safe c J (Prog.lift (.store M r w Mk hx hm)) := by
  unfold Wr at h; unfold Safe
  refine h.trans ?_
  iintro ⟨%f, Hf, HB⟩
  ihave H := (wp_store (f := f) (w := w) (defs := defs₀ (F := F)) (Q := fun _ => J) (hx := hx) (hm := hm) (k := .ret)
    Variants.none (c : Thread nD τ) none Set.univ (View.setOn_slice_subset_set _ _ _)) $$ Hf
  iapply H
  iintro Hf
  iapply (le_wp_ret _ _ _ _ _)
  iapply HB; iexact Hf

/-- The word of scalar memory read, and the program continued at it. -/
theorem Safe.word {s : Shape} {e : EltTy} {M : Memref sig .tc .smem s e} {r : Rect s} {h1 : r.shape.numel = 1} {hp : e.packing = 1}
    {d : s.Idx → Elt F e} {α : Type} {k : Elt F e → Prog (TpuEff nD τ sig (Elt F) Λ₀ .tc) α} {P : Elt F e → Prop}
    (h : Has J (owns (c : Thread nD τ) M fullShare d)) (hP : ∀ x, P (d x)) (hk : ∀ v, P v → Safe c J (k v)) :
    Safe c J (smemLoad M r h1 hp >>= k) := by
  unfold Has owns at h; unfold Safe at *
  rw [wp_bind]
  refine h.trans ?_
  iintro ⟨⟨%f, %hf, Hf⟩, HB⟩
  unfold smemLoad
  unfold smemLoadElt
  ihave H := (wp_load (f := f) (q := fullShare) (Q := fun a => wp frame (wpE (defs₀ (F := F)) Variants.none (c : Thread nD τ) none) Set.univ (k a) (fun _ => J))
    (hl := View.loadsAt_rect (View.loads_smem_one hp h1)) (k := fun g => .ret (g (Shape.Idx.first (h1.symm ▸ Nat.one_pos))))
    Variants.none (c : Thread nD τ) none Set.univ (View.setOn_subset_set _ _)) $$ Hf
  iapply H
  iintro Hf
  iapply (le_wp_ret _ _ _ _ _)
  iapply (hk (View.readAt (Elt F) M.view r.toLoadRect f (Shape.Idx.first (h1.symm ▸ Nat.one_pos))) (by subst hf; exact hP _))
  iapply HB; iexists f
  isplitr; · ipureintro; exact hf
  iexact Hf

/-- The same for the slot word, whose rows lie in the carried buffer. -/
theorem Safe.slot {M : Memref sig .tc .smem S1 .i32} {w : S1.Idx → Elt F .i32}
    {α : Type} {k : Elt F .i32 → Prog (TpuEff nD τ sig (Elt F) Λ₀ .tc) α} (h : Has J (owns (c : Thread nD τ) M fullShare w))
    (hw : ∀ x, k0_chk1 (w x)) (hk : ∀ v, k0_chk1 v → Safe c J (k v)) :
    Safe c J (smemLoad M (Rect.unit (s := S1) ![0] S1.size inb_S1_S1_0) numel1_S1 rfl >>= k) :=
  Safe.word h hw hk

section Run

variable (i : grid0.Coords)
  (arg1 : Memref sig .tc .smem S1 .i32) (harg1 : arg1.IsWhole)
  (arg2 : Memref sig .tc .vmem S8x8x1024 .f32) (harg2 : arg2.IsWhole)
  (arg3 : Memref sig .tc .vmem S8x8x1024 .f32) (harg3 : arg3.IsWhole)
  (arg4 : Memref sig .tc .vmem S8x8x512 .f32) (harg4 : arg4.IsWhole)
  (arg5 : Memref sig .tc .vmem S8x4x128x128 .f32) (harg5 : arg5.IsWhole)
  (arg6 : Memref sig .tc .vmem S256x8 .f32) (harg6 : arg6.IsWhole)
  (arg7 : Memref sig .tc .vmem S1x256x768 .f32) (harg7 : arg7.IsWhole)
  (arg8 : Memref sig .tc .vmem S1x256x768 .f32) (harg8 : arg8.IsWhole)
  (arg9 : Memref sig .tc .vmem S1x256x768 .f32) (harg9 : arg9.IsWhole)
  (arg10 : Memref sig .tc .vmem S1x6144 .f32) (harg10 : arg10.IsWhole)
  (arg11 : Memref sig .tc .vmem S1x256x768 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S1x1024 .f32) (harg15 : arg15.IsWhole)
  (arg16 : Memref sig .tc .vmem S8x512 .f32) (harg16 : arg16.IsWhole)
  (arg17 : Memref sig .tc .vmem S1x512 .f32) (harg17 : arg17.IsWhole)
  (arg18 : Memref sig .tc .vmem S1x4x128x128 .f32) (harg18 : arg18.IsWhole)
  (arg19 : Memref sig .tc .vmem S1x1 .f32) (harg19 : arg19.IsWhole)
  (arg20 : Memref sig .tc .vmem S1x256x768 .f32) (harg20 : arg20.IsWhole)
  (arg21 : Memref sig .tc .vmem S1x256x768 .f32) (harg21 : arg21.IsWhole)
  (arg22 : Memref sig .tc .vmem S1x256x768 .f32) (harg22 : arg22.IsWhole)
  (arg23 : Memref sig .tc .vmem S48x8x128 .f32) (harg23 : arg23.IsWhole)
  {w : S1.Idx → Elt F .i32} (hw : ∀ x, k0_chk1 (w x)) (h1 : Has J (owns (c : Thread nD τ) arg1 fullShare w))
  (h2 : Rd c J arg2) (h3 : Rd c J arg3) (h4 : Rd c J arg4) (h5 : Rd c J arg5) (h6 : Rd c J arg6) (h7 : Rd c J arg7) (h8 : Rd c J arg8) (h9 : Rd c J arg9)
  (h10 : Wr c J arg10) (h11 : Wr c J arg11) (h12 : Wr c J arg12) (h13 : Wr c J arg13) (h14 : Wr c J arg14) (h15 : Wr c J arg15) (h16 : Wr c J arg16) (h17 : Wr c J arg17) (h18 : Wr c J arg18) (h19 : Wr c J arg19) (h20 : Wr c J arg20) (h21 : Wr c J arg21) (h22 : Wr c J arg22) (h23 : Wr c J arg23)

include hw h1 h2 h3 h4 h5 h6 h7 h8 h9 h10 h11 h12 h13 h14 h15 h16 h17 h18 h19 h20 h21 h22 h23

theorem runs : Safe c J (cc0_small_grads i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) := by
  have := h10.rd; have := h11.rd; have := h12.rd; have := h13.rd; have := h14.rd; have := h15.rd; have := h16.rd; have := h17.rd; have := h18.rd; have := h19.rd; have := h20.rd; have := h21.rd; have := h22.rd; have := h23.rd
  unfold cc0_small_grads
  repeat' first
    | with_reducible exact Safe.ret _
    | with_reducible exact Safe.load (by assumption)
    | with_reducible exact Safe.store (by assumption)
    | with_reducible exact Safe.assume (by assumption)
    | with_reducible refine Safe.slot h1 hw (fun _ _ => ?_)
    | with_reducible refine Safe.bind ?_ (fun _ => ?_)
    | with_reducible refine Safe.dite (fun _ => ?_) (fun _ => ?_)
    | (first | unfold k0_part1 | unfold k0_part2 | unfold k0_part3 | unfold k0_part4 | unfold k0_part5 | unfold k0_part6 | unfold k0_part7 | unfold k0_part8 | unfold k0_part9 | unfold k0_part10 | unfold k0_part11 | unfold k0_part12 | unfold k0_part13 | unfold k0_part14 | unfold k0_part15 | unfold k0_part16 | unfold k0_part17 | unfold k0_part18 | unfold k0_part19 | unfold k0_part20 | unfold k0_part21 | unfold k0_part22 | unfold k0_part23 | unfold k0_part24 | unfold k0_part25 | unfold k0_part26 | unfold k0_part27 | unfold k0_part28 | unfold k0_part29 | unfold k0_part30 | unfold k0_part31 | unfold k0_part32 | unfold k0_part33 | unfold k0_part34 | unfold k0_part35 | unfold k0_part36 | unfold k0_part37 | unfold k0_part38 | unfold k0_part39 | unfold k0_part40 | unfold k0_part41 | unfold k0_part42 | unfold k0_part43 | unfold k0_part44 | unfold k0_part45 | unfold k0_part46 | unfold k0_part47 | unfold k0_part48 | unfold k0_part49 | unfold k0_part50 | unfold k0_part51 | unfold k0_part52 | unfold k0_part53 | unfold k0_part54 | unfold k0_part55 | unfold k0_part56 | unfold k0_part57 | unfold k0_part58 | unfold k0_part59 | unfold k0_part60 | unfold k0_part61 | unfold k0_part62 | unfold k0_part63 | unfold k0_part64 | unfold k0_part65 | unfold k0_part66 | unfold k0_part67 | unfold k0_part68 | unfold k0_part69 | unfold k0_part70 | unfold k0_part71 | unfold k0_part72 | unfold k0_part73 | unfold k0_part74 | unfold k0_part75 | unfold k0_part76 | unfold k0_part77 | unfold k0_part78 | unfold k0_part79 | unfold k0_part80 | unfold k0_part81 | unfold k0_part82 | unfold k0_part83)

end Run

/-! ## The proof data -/

variable (m : (ℓ : Loc nD τ sig) → Buf (Elt F) ℓ) (ρ : Dev nD → PrngReg)

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev ms0_14 (t : Fin cfg0.N) := win0_14.stage (cfg0.slots t 14)
abbrev ms0_15 (t : Fin cfg0.N) := win0_15.stage (cfg0.slots t 15)
abbrev ms0_16 (t : Fin cfg0.N) := win0_16.stage (cfg0.slots t 16)
abbrev ms0_17 (t : Fin cfg0.N) := win0_17.stage (cfg0.slots t 17)
abbrev ms0_18 (t : Fin cfg0.N) := win0_18.stage (cfg0.slots t 18)
abbrev ms0_19 (t : Fin cfg0.N) := win0_19.stage (cfg0.slots t 19)
abbrev ms0_20 (t : Fin cfg0.N) := win0_20.stage (cfg0.slots t 20)
abbrev ms0_21 (t : Fin cfg0.N) := win0_21.stage (cfg0.slots t 21)
abbrev scM : Memref sig .tc .vmem S48x8x128 .f32 := Memref.whole cc0_scratch0

/-- The outputs are forgotten: nothing here reads what the kernel leaves in them. -/
def forgets0 : Fin 22 → Bool := ![false, false, false, false, false, false, false, false, false, true, true, true, true, true, true, true, true, true, true, true, true, true]

/-- The proof data on core `c`: the inputs stay at their blocks, the outputs are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨20, _⟩ => Pipeline.Dat.unnamed (cfg := cfg0) 20 t
    | ⟨21, _⟩ => Pipeline.Dat.unnamed (cfg := cfg0) 21 t
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The outputs' buffers, at some contents. -/
def outs (c : Dev nD) (t : Fin cfg0.N) : sProp 𝕄 :=
  iprop((∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ outs c t)

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ outs c t)

/-- What the body is called with is what it returns: the inputs at their blocks, the rest at some contents. -/
theorem pre_post (c : Dev nD) (t : Fin cfg0.N) : bodyPre m c t ⊢ bodyPost m c t := by
  unfold bodyPre bodyPost
  simp only [before_0, after_0, before_1, after_1, before_2, after_2, before_3, after_3, before_4, after_4, before_5, after_5, before_6, after_6, before_7, after_7, before_8, after_8]
  rw [show (dats m 0 c).owesAt () t.succ = (dats m 0 c).owesAt () t.castSucc from rfl,
    show (dats m 0 c).Φ t.succ = (dats m 0 c).Φ t.castSucc from rfl]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HR⟩
  iframe HP HO H0 H1 H2 H3 H4 H5 H6 H7 H8
  iexact HR

/-- The slot word the body reads is an element of the sixth argument. -/
theorem word_eq (c : Dev nD) (t : Fin cfg0.N) (x) : ∃ y, iblk m c 0 t x = m ((c : Thread nD τ).loc main_arg5) y := by
  rw [← V_main_arg5 m c]
  exact ⟨_, rfl⟩

variable (hm : ∀ (c : Dev nD) (y : S1.Idx), k0_chk1 (m ((c : Thread nD τ).loc main_arg5) y))

include hm

theorem sound_body (c : Dev nD) (t : Fin cfg0.N) :
    bodyPre m c t ⊢ wp frame (wpE (defs₀ (F := F)) Variants.none c none) Set.univ (bodyAt0 t) (fun _ => bodyPost m c t) := by
  refine (pre_post m c t).trans ?_
  have hw : ∀ x, k0_chk1 (iblk m c 0 t x) := fun x => by
    obtain ⟨y, hy⟩ := word_eq m c t x
    rw [hy]; exact hm c y
  have key : ∀ {P : sProp 𝕄}, bodyPost m c t = P → Safe c P (bodyAt0 t) := by
    unfold bodyPost outs
    rw [show (dats m 0 c).Φ t.succ = Pipeline.ΦA spec0 c from rfl, PhiA0_eq]
    simp only [after_0, after_1, after_2, after_3, after_4, after_5, after_6, after_7, after_8]
    rintro P rfl
    exact runs (w := iblk m c 0 t) _ _ _ _ _ _ _ _ _ _ _ _ _ _ _ _ _ _ _ _ _ _ _ _ _ _ _ _ _ _ _ _ _ _ _ _ _ _ _ _ _ _ _ _ _ _ _ hw (by (iterate 2 refine .tail ?_); exact .head)
      (Rd.of (d := iblk m c 1 t) (by (iterate 3 refine .tail ?_); exact .head))
      (Rd.of (d := iblk m c 2 t) (by (iterate 4 refine .tail ?_); exact .head))
      (Rd.of (d := iblk m c 3 t) (by (iterate 5 refine .tail ?_); exact .head))
      (Rd.of (d := iblk m c 4 t) (by (iterate 6 refine .tail ?_); exact .head))
      (Rd.of (d := iblk m c 5 t) (by (iterate 7 refine .tail ?_); exact .head))
      (Rd.of (d := iblk m c 6 t) (by (iterate 8 refine .tail ?_); exact .head))
      (Rd.of (d := iblk m c 7 t) (by (iterate 9 refine .tail ?_); exact .head))
      (Rd.of (d := iblk m c 8 t) (by (iterate 10 refine .tail ?_); exact .head))
      (Wr.of (by (iterate 11 refine .tail ?_); exact .head))
      (Wr.of (by (iterate 12 refine .tail ?_); exact .head))
      (Wr.of (by (iterate 13 refine .tail ?_); exact .head))
      (Wr.of (by (iterate 14 refine .tail ?_); exact .head))
      (Wr.of (by (iterate 15 refine .tail ?_); exact .head))
      (Wr.of (by (iterate 16 refine .tail ?_); exact .head))
      (Wr.of (by (iterate 17 refine .tail ?_); exact .head))
      (Wr.of (by (iterate 18 refine .tail ?_); exact .head))
      (Wr.of (by (iterate 19 refine .tail ?_); exact .head))
      (Wr.of (by (iterate 20 refine .tail ?_); exact .head))
      (Wr.of (by (iterate 21 refine .tail ?_); exact .head))
      (Wr.of (by (iterate 22 refine .tail ?_); exact .head))
      (Wr.of (by (iterate 23 refine .tail ?_); exact .last))
      (Wr.of (.left .head))
  exact key rfl

omit hm in
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m hm c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

/-- The call runs to its end, its arguments end as they began, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(Pipeline.RDat.FramePost.arr_in h.1 c 1 rfl).trans ((A_eq m c 1).trans (V_main_arg0 m c)),
    (Pipeline.RDat.FramePost.arr_in h.1 c 2 rfl).trans ((A_eq m c 2).trans (V_main_arg1 m c)),
    (Pipeline.RDat.FramePost.arr_in h.1 c 3 rfl).trans ((A_eq m c 3).trans (V_main_arg2 m c)),
    (Pipeline.RDat.FramePost.arr_in h.1 c 4 rfl).trans ((A_eq m c 4).trans (V_main_arg3 m c)),
    (h.1 c).2 main_arg4 (Pipeline.mem_restRefs_of main_arg4 (by decide) (by decide)) |>.trans (V_main_arg4 m c),
    (Pipeline.RDat.FramePost.arr_in h.1 c 0 rfl).trans ((A_eq m c 0).trans (V_main_arg5 m c)),
    (Pipeline.RDat.FramePost.arr_in h.1 c 6 rfl).trans ((A_eq m c 6).trans (V_main_arg6 m c)),
    (Pipeline.RDat.FramePost.arr_in h.1 c 7 rfl).trans ((A_eq m c 7).trans (V_main_arg7 m c)),
    (Pipeline.RDat.FramePost.arr_in h.1 c 8 rfl).trans ((A_eq m c 8).trans (V_main_arg8 m c))⟩, h.2⟩) (run_main m ρ hm)

end Cert.Small

end
-- ==== Proof.Wgrad.lean ====
/- The weight gradient of the MLP's second layer: the kernel's two partial sums are the whole product. -/
module

public import proofs.«01_k».proof.Defs
public import proofs.«01_k».proof.Proof.MixOut
public import proofs.«01_k».proof.Proof.Gen.Kernel5Ideal.Value
public import proofs.«01_k».proof.Proof.Gen.Reference5Ideal.Run
public import Idealize.ShloMosaic.Lib.MatmulPlain
public import Idealize.ShloMosaic.Lib.StackMember

@[expose] public section

set_option maxRecDepth 16384

noncomputable section

namespace Cert.Wgrad

open Finset Idealize.ShloMosaic Idealize.ShloMosaic.TcCoe Idealize.ShloMosaic.Tactic Idealize.SL Idealize.SL.Sem Cert.Kernel5Ideal Cert.Kernel5Ideal.Gen Cert.Kernel5Ideal.Value
open Cert.MixPoint (hz cov_read over_read mem_unit2)

/-- One block's share of the product. -/
def part (x0 x1 : Vec Ideal S4096x1024 .bf16) (p q : Fin 1024) : EReal := ∑ k : Fin 4096, x0 (ix2 k p) * x1 (ix2 k q)

/-- What is stored: what was read, and the product of the two blocks. -/
theorem pay3 (x0 : Vec Ideal S4096x1024 .bf16) (v5 : Vec Ideal S1024x512 .f32) (v6 : Vec Ideal S4096x512 .bf16) (x : S1024x512.Idx) :
    k0_pay3 x0 v5 v6 x = v5 x + ∑ k : Fin 4096, x0 (ix2 k (x 0 : Fin 1024)) * v6 (ix2 k (x 1 : Fin 512)) := by
  have e : x = ix2 (x 0 : Fin 1024) (x 1 : Fin 512) := funext (Fin.forall_fin_two.mpr ⟨rfl, rfl⟩)
  unfold k0_pay3 k0_pay2
  dsimp only
  rw [shapeCast_self]
  refine congrArg (v5 x + ·) ?_
  refine (congrArg _ e).trans ((Ideal.matmul_plain_apply (M := 1024) (K := 4096) (N := 512) none _ _ _ (x 0 : Fin 1024) (x 1 : Fin 512)).trans ?_)
  refine (congrArg (· + _) Ideal.ofBits_zero_f32).trans ((zero_add _).trans (Finset.sum_congr rfl fun k _ => congrArg (· * _) ?_))
  exact transpose_apply _ _ _ _ _ (Fin.forall_fin_two.mpr ⟨rfl, rfl⟩)

/-- What is stored over 512 columns: what was there, and the block's share. -/
theorem half (x0 x1 : Vec Ideal S4096x1024 .bf16) (z : Vec Ideal S1024x1024 .f32) (b : ℕ) (inb inb') (v5 : Vec Ideal S1024x512 .f32)
    (h : ∀ x, v5 x = z ((Rect.unit (s := S1024x1024) ![0, b] ![1024, 512] inb).emb x)) :
    ∀ x, k0_pay3 x0 v5 (View.ld (Val := Elt Ideal) (e' := .bf16) x1 (Rect.unit (s := S4096x1024) ![0, b] ![4096, 512] inb')) x
      = (fun y : S1024x1024.Idx => z y + part x0 x1 (y 0) (y 1)) ((Rect.unit (s := S1024x1024) ![0, b] ![1024, 512] inb).emb x) := by
  intro x
  refine (pay3 ..).trans (congrArg₂ (· + ·) (h x) (Finset.sum_congr rfl fun k _ => congrArg₂ (· * ·) (congrArg x0 ?_) (congrArg x1 ?_)))
  · refine funext (Fin.forall_fin_two.mpr ⟨rfl, Fin.ext ?_⟩)
    show (x 0).val = 0 + 1 * (x 0).val
    omega
  · refine funext (Fin.forall_fin_two.mpr ⟨Fin.ext ?_, rfl⟩)
    show 0 + 1 * k.val = k.val
    omega

/-- The two stores together cover the sum's buffer. -/
theorem halves {L : List (View.Piece (Elt Ideal) S1024x1024 .f32)} (inb inb' w w') (y : S1024x1024.Idx) :
    ∃ p ∈ (⟨Rect.unit (s := S1024x1024) ![0, 512] ![1024, 512] inb, w⟩ : View.Piece (Elt Ideal) S1024x1024 .f32) :: ⟨Rect.unit (s := S1024x1024) ![0, 0] ![1024, 512] inb', w'⟩ :: L, y ∈ p.1.set := by
  have h0 : (y 0).val < 1024 := (y 0).isLt
  have h1 : (y 1).val < 1024 := (y 1).isLt
  by_cases h : (y 1).val < 512
  · exact ⟨_, List.mem_cons_of_mem _ (List.mem_cons_self ..), mem_unit2 inb' _ (by omega) (by omega)⟩
  · exact ⟨_, List.mem_cons_self .., mem_unit2 inb _ (by omega) (by omega)⟩

variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S4096x1024 .bf16) (x1 : Vec Ideal S4096x1024 .bf16) (xs : Vec Ideal S1024x1024 .f32)

/-- The first store of a pair of points fills the sum's buffer with zeros. -/
theorem zeros (v : View sig .tc .vmem S1024x1024 .f32) (f inb) (y : S1024x1024.Idx) :
    v.read (Elt Ideal) (v.writes (Elt Ideal) f [⟨Rect.unit (s := S1024x1024) ![0, 0] ![1024, 1024] inb, k0_pay1 (F := Ideal)⟩]) y = 0 :=
  (congrFun (View.read_writes_full (s := S1024x1024) (e := .f32) (Val := Elt Ideal) v f inb (k0_pay1 (F := Ideal)) []) y).trans Ideal.ofBits_zero_f32

/-- The first point of a pair leaves its share. -/
theorem out_A (hc0 : cond0_0 i) (hc1 : ¬cond0_1 i) :
    sout0_A_0 c i arg3 harg3 arg4 harg4 arg5 harg5 arg6 harg6 hc0 hc1 x0 x1 = fun y => part x0 x1 (y 0) (y 1) := by
  unfold sout0_A_0 kernelRun0_A
  dsimp only
  sl_unfold_words
  simp (disch := decide) only [View.readAt_eq_ld, Memref.IsWhole.read_unread, View.ld_unit_zero (S := S4096x1024) hz]
  funext y
  refine Eq.trans (over_read (fun y => 0 + part x0 x1 (y 0) (y 1)) VS0_0 (VS0_0.writes (Elt Ideal) VS0_0.junk [⟨Rect.unit (s := S1024x1024) ![0, 0] ![1024, 1024] inb_S1024x1024_S1024x1024_0_0, k0_pay1 (F := Ideal)⟩]) y
    [⟨Rect.unit (s := S1024x1024) ![0, 512] ![1024, 512] inb_S1024x1024_S1024x512_0_512, k0_pay4 x0 _ _⟩, ⟨Rect.unit (s := S1024x1024) ![0, 0] ![1024, 512] inb_S1024x1024_S1024x512_0_0, k0_pay3 x0 _ _⟩] ?_ (Or.inl (halves ..))) (zero_add _)
  refine ⟨half x0 x1 (fun _ => 0) 512 inb_S1024x1024_S1024x512_0_512 inb_S4096x1024_S4096x512_0_512 _ fun x => ?_, half x0 x1 (fun _ => 0) 0 inb_S1024x1024_S1024x512_0_0 inb_S4096x1024_S4096x512_0_0 _ fun x => ?_, trivial⟩
  · refine (View.read_writes_cons_unit_of_not_mem _ _ _ _ _ _ rfl 1 (Or.inr ?_)).trans (zeros ..)
    show 0 + 512 ≤ 512 + 1 * (x 1).val
    omega
  · exact zeros ..

/-- The second point adds its share and writes the sum out. -/
theorem out_B (hc0 : ¬cond0_0 i) (hc1 : cond0_1 i) :
    out0_B_2 c i arg3 harg3 arg4 harg4 arg5 harg5 arg6 harg6 hc0 hc1 x0 x1 xs = fun y => xs y + part x0 x1 (y 0) (y 1) := by
  unfold out0_B_2 kernelRun0_B
  dsimp only
  sl_unfold_words
  simp (disch := decide) only [View.readAt_eq_ld, Memref.IsWhole.read_unread, View.ld_unit_zero (S := S4096x1024) hz]
  refine (View.read_writes_full (Val := Elt Ideal) (s := S1024x1024) (e := .bf16) VO0_2 _ _ _ []).trans ?_
  refine (congrArg k0_pay5 (Eq.trans (cov_read (fun y => xs y + part x0 x1 (y 0) (y 1)) arg6.view _ _ ?_ fun x => ?_) (View.ld_unit_zero (S := S1024x1024) hz _ _))).trans rfl
  · exact ⟨half x0 x1 xs 512 _ _ _ fun _ => rfl, half x0 x1 xs 0 _ _ _ fun _ => rfl, trivial⟩
  · exact halves ..

/-- One term of the product's sum. -/
def term (A : Vec Ideal S8192x4096 .bf16) (B : Vec Ideal S8192x1024 .bf16) (r : Fin 4096) (s : Fin 1024) (k : Fin 8192) : EReal := A (ix2 k r) * B (ix2 k s)

section Array
variable (m : (ℓ : Loc nD τ sig) → Buf (Elt Ideal) ℓ) (c : Dev nD)

/-- A point's share, in the argument arrays. -/
theorem share (t : Fin cfg0.N) (p q : Fin 1024) (r : Fin 4096) (hr : r.val = 1024 * (t.val / 2) + p.val) (f : Fin 4096 → Fin 8192) (hf : ∀ k, (f k).val = 4096 * (t.val % 2) + k.val) :
    part (iblk m c 0 t) (iblk m c 1 t) p q = ∑ k : Fin 4096, term (m ((c : Thread nD τ).loc main_arg0)) (m ((c : Thread nD τ).loc main_arg1)) r q (f k) := by
  have hi : win0_0.index t 0 = t.val % 2 ∧ win0_0.index t 1 = t.val / 2 ∧ win0_1.index t 0 = t.val % 2 ∧ win0_1.index t 1 = 0 :=
    (by decide +kernel : ∀ t : Fin grid0.N, win0_0.index t 0 = t.val % 2 ∧ win0_0.index t 1 = t.val / 2 ∧ win0_1.index t 0 = t.val % 2 ∧ win0_1.index t 1 = 0) t
  obtain ⟨h0, h1, h2, h3⟩ := hi
  refine Finset.sum_congr rfl fun k _ => congrArg₂ (· * ·) ?_ ?_
  · unfold iblk
    rw [View.read_apply]
    refine congrArg (m ((c : Thread nD τ).loc main_arg0)) (funext (Fin.forall_fin_two.mpr ⟨Fin.ext ?_, Fin.ext ?_⟩))
    · show win0_0.index t 0 * 4096 + 1 * k.val = (f k).val
      rw [h0, hf]; omega
    · show win0_0.index t 1 * 1024 + 1 * p.val = r.val
      rw [h1, hr]; omega
  · unfold iblk
    rw [View.read_apply]
    refine congrArg (m ((c : Thread nD τ).loc main_arg1)) (funext (Fin.forall_fin_two.mpr ⟨Fin.ext ?_, Fin.ext ?_⟩))
    · show win0_1.index t 0 * 4096 + 1 * k.val = (f k).val
      rw [h2, hf]; omega
    · show win0_1.index t 1 * 1024 + 1 * q.val = q.val
      rw [h3]; omega

/-- A pair of points writes the whole product's entries. -/
theorem pair (t : Fin cfg0.N) (h : t.val % 2 = 1) (y : S1024x1024.Idx) (r : Fin 4096) (hr : r.val = 1024 * (t.val / 2) + (y 0).val) (s : Fin 1024) (hs : s = y 1) :
    (outsAt0 m c t.val t.isLt).1 y = ∑ k : Fin 8192, term (m ((c : Thread nD τ).loc main_arg0)) (m ((c : Thread nD τ).loc main_arg1)) r s k := by
  subst hs
  have hb : t.val - 1 < cfg0.N := Nat.lt_of_le_of_lt (Nat.sub_le _ _) t.isLt
  rw [outsAt0_B m c t (by omega) h]
  dsimp only
  rw [out_B, outsAt0_A m c ⟨t.val - 1, hb⟩ (show (t.val - 1) % 2 = 0 by omega) (show ¬(t.val - 1) % 2 = 1 by omega)]
  dsimp only
  rw [out_A]
  dsimp only
  refine Eq.trans ?_ (Fin.sum_univ_add (a := 4096) (b := 4096) _).symm
  exact congrArg₂ (· + ·) (share m c ⟨t.val - 1, hb⟩ _ _ r (by show _ = 1024 * ((t.val - 1) / 2) + (y 0).val; omega) _ fun k => by show k.val = 4096 * ((t.val - 1) % 2) + k.val; omega)
    (share m c t _ _ r hr _ fun k => by show 4096 + k.val = 4096 * (t.val % 2) + k.val; omega)

/-- The result array is the product. -/
theorem array (i : S4096x1024.Idx) :
    (show EReal from G2 m c i) = ∑ k : Fin 8192, term (m ((c : Thread nD τ).loc main_arg0)) (m ((c : Thread nD τ).loc main_arg1)) (i 0 : Fin 4096) (i 1 : Fin 1024) k := by
  have h0 : (i 0).val < 4096 := (i 0).isLt
  have h1 : (i 1).val < 1024 := (i 1).isLt
  have hN : cfg0.N = 8 := N_0
  have hp : pt2Of i = 2 * ((i 0).val / 1024) + 1 := by
    show 2 * (1 * ((i 0).val / 1024 - 0) + 1 * ((i 1).val / 1024 - 0)) + 1 = _
    omega
  have hlt : pt2Of i < cfg0.N := by rw [hp, hN]; omega
  refine (dif_pos hlt).trans ?_
  refine (congrArg (fun o => o.1 (loc2Of i)) (outsAt0_sweep m c _ hlt).symm).trans (pair m c ⟨_, hlt⟩ ?_ _ _ ?_ _ (Fin.ext ?_))
  · show pt2Of i % 2 = 1
    omega
  · show (i 0).val = 1024 * (pt2Of i / 2) + (i 0).val % 1024
    omega
  · show (i 1).val = (i 1).val % 1024
    omega

end Array

/-- The kernel and the reference have the same result. -/
theorem algebraic : Cert.algebraic_Kernel5Ideal_Reference5Ideal := by
  intro m g m' g' _ hm
  refine ⟨fun c => G2 m c, Cert.Kernel5Ideal.Value.run m g, ?_⟩
  refine (θ_run Cert.Reference5Ideal.defs _ _).mono (fun r h c => ?_) (Cert.Reference5Ideal.Value.run (F := Ideal) m' g')
  obtain ⟨r0, h⟩ := h c
  obtain ⟨a0, a1⟩ := hm c
  refine ⟨r0.trans (funext fun i => ?_), h⟩
  rw [a0, a1]
  refine Eq.trans ?_ (array m c i).symm
  have e : i = ix2 (i 0 : Fin 4096) (i 1 : Fin 1024) := funext (Fin.forall_fin_two.mpr ⟨rfl, rfl⟩)
  refine (congrArg _ e).trans ((StackMember.dotGeneral_plain_apply (m := 4096) (k := 8192) (n := 1024) (φ₁ := .bf16) (φ₂ := .bf16) none _ _ (i 0 : Fin 4096) (i 1 : Fin 1024)).trans (Finset.sum_congr rfl fun k _ => congrArg (· * _) ?_))
  exact transpose_apply _ _ _ _ _ (Fin.forall_fin_two.mpr ⟨rfl, rfl⟩)

end Cert.Wgrad

end
-- ==== Proof.Adam.lean ====
/- The optimiser's step: the kernel's blocks of rows are those of the plain formula. -/
module

public import proofs.«01_k».proof.Defs
public import proofs.«01_k».proof.Proof.Gen.Kernel6Ideal.Value
public import proofs.«01_k».proof.Proof.Gen.Reference6Ideal.Run
public import Idealize.ShloMosaic.Lib.ValueLayout
public import Idealize.ShloMosaic.Lib.Pointwise

@[expose] public section

set_option maxRecDepth 16384

noncomputable section

namespace Cert.Adam

open Finset Idealize.ShloMosaic Idealize.ShloMosaic.TcCoe Idealize.ShloMosaic.Tactic Idealize.SL Idealize.SL.Sem Cert.Kernel6Ideal Cert.Kernel6Ideal.Gen Cert.Kernel6Ideal.Value
open Idealize.ShloMosaic.ValueIdx (shapeCast_1ab_ab_apply shapeCast_ab_1ab_apply)

/-- The number a constant stands for. -/
def num (b : BitVec 32) : EReal := Scalar.ofBits (F := Ideal) .f32 b

/-- The moving mean of the gradient. -/
def newM (g m : EReal) : EReal := num 0x3F666666#32 * m + num 0x3DCCCCCD#32 * g

/-- The moving mean of its square. -/
def newV (g v : EReal) : EReal := num 0x3F7FBE77#32 * v + num 0x3A83126F#32 * (g * g)

/-- What is added to the weight. -/
def delta (g w m v : EReal) : EReal :=
  num 0xBA83126F#32 * (Ideal.div (Ideal.div (newM g m) (num 0x3F26BD02#32)) (Ideal.sqrt (Ideal.div (newV g v) (num 0x3C231ACC#32)) + num 0x322BCC77#32) + num 0x3C23D70A#32 * w)

/-- The sum of eight arrays, at a row and a column. -/
def eight {n : ℕ} (A : (⟨3, ![8, n, 1024]⟩ : Shape).Idx → EReal) (p : Fin n) (q : Fin 1024) : EReal := ∑ k : Fin 8, A (ix3 k p q)

variable (x0 : Vec Ideal S8x128x1024 .bf16) (x1 x2 x3 : Vec Ideal S1x128x1024 .f32)
theorem e3 {a b d : ℕ} (y : (⟨3, ![a, b, d]⟩ : Shape).Idx) : y = ix3 (y 0) (y 1) (y 2) :=
  funext (Fin.forall_fin_succ.mpr ⟨rfl, Fin.forall_fin_two.mpr ⟨rfl, rfl⟩⟩)

/-- A row of the eight, laid out as a matrix. -/
theorem row (k : ℕ) (hk : k < 8) (inb h) (p : Fin 128) (q : Fin 1024) :
    shapeCast S128x1024 (View.ld (Val := Elt Ideal) (e' := .bf16) x0 (Rect.unit (s := S8x128x1024) ![k, 0, 0] S1x128x1024.size inb)) h (ix2 p q) = x0 (ix3 (⟨k, hk⟩ : Fin 8) p q) := by
  refine (shapeCast_1ab_ab_apply (a := 128) (b := 1024) _ h p q).trans (congrArg x0 ?_)
  refine funext (Fin.forall_fin_succ.mpr ⟨Fin.ext ?_, Fin.forall_fin_two.mpr ⟨Fin.ext ?_, Fin.ext ?_⟩⟩)
  · show k + 1 * 0 = k
    omega
  · show 0 + 1 * p.val = p.val
    omega
  · show 0 + 1 * q.val = q.val
    omega

/-- The gradient's block. -/
theorem grad (p : Fin 128) (q : Fin 1024) : (k0_pay8 x0 x1 x2 x3 : S128x1024.Idx → EReal) (ix2 p q) = eight x0 p q := by
  unfold k0_pay8 k0_pay3 eight
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;> exact row ..
theorem hz3 : (![0, 0, 0] : Fin 3 → ℕ) = fun _ => 0 := funext (Fin.forall_fin_succ.mpr ⟨rfl, Fin.forall_fin_two.mpr ⟨rfl, rfl⟩⟩)
theorem whole (x : Vec Ideal S1x128x1024 .f32) (h) (p : Fin 128) (q : Fin 1024) :
    shapeCast S128x1024 (View.ld (Val := Elt Ideal) (e' := .f32) x r0_8) h (ix2 p q) = x (ix3 (0 : Fin 1) p q) :=
  (shapeCast_1ab_ab_apply (a := 128) (b := 1024) _ h p q).trans (congrFun (View.ld_unit_zero (S := S1x128x1024) hz3 _ x) _)

/-- The four results' blocks, at an index. -/
theorem out4 (u : Fin 1) (p : Fin 128) (q : Fin 1024) : (out0_4 x0 x1 x2 x3 : S1x128x1024.Idx → EReal) (ix3 u p q) = eight x0 p q := by
  unfold out0_4
  refine (congrFun (View.canon_unit_zero (S := S1x128x1024) hz3 _ _) _).trans ?_
  unfold k0_pay6
  exact (shapeCast_ab_1ab_apply (a := 128) (b := 1024) _ _ u p q).trans (grad ..)
theorem mean (p : Fin 128) (q : Fin 1024) : (k0_pay4 (k0_pay8 x0 x1 x2 x3) (View.ld x2 r0_8) : S128x1024.Idx → EReal) (ix2 p q) = newM (eight x0 p q) (x2 (ix3 (0 : Fin 1) p q)) := by
  unfold k0_pay4
  exact congrArg₂ (· + ·) (congrArg (num _ * ·) (whole ..)) (congrArg (num _ * ·) (grad ..))
theorem square (p : Fin 128) (q : Fin 1024) : (k0_pay5 (k0_pay8 x0 x1 x2 x3) (View.ld x3 r0_8) : S128x1024.Idx → EReal) (ix2 p q) = newV (eight x0 p q) (x3 (ix3 (0 : Fin 1) p q)) := by
  unfold k0_pay5
  exact congrArg₂ (· + ·) (congrArg (num _ * ·) (whole ..)) (congrArg (num _ * ·) (congrArg₂ (· * ·) (grad ..) (grad ..)))
theorem out5 (u : Fin 1) (p : Fin 128) (q : Fin 1024) : (out0_5 x0 x1 x2 x3 : S1x128x1024.Idx → EReal) (ix3 u p q) = delta (eight x0 p q) (x1 (ix3 (0 : Fin 1) p q)) (x2 (ix3 (0 : Fin 1) p q)) (x3 (ix3 (0 : Fin 1) p q)) := by
  unfold out0_5
  refine (congrFun (View.canon_unit_zero (S := S1x128x1024) hz3 _ _) _).trans ?_
  unfold k0_pay7
  refine (shapeCast_ab_1ab_apply (a := 128) (b := 1024) _ _ u p q).trans ?_
  refine congrArg (num _ * ·) (congrArg₂ (· + ·) (congrArg₂ Ideal.div (congrArg (Ideal.div · _) (mean ..)) (congrArg (· + num _) (congrArg Ideal.sqrt (congrArg (Ideal.div · _) (square ..))))) (congrArg (num _ * ·) (whole ..)))
theorem out6 (u : Fin 1) (p : Fin 128) (q : Fin 1024) : (out0_6 x0 x1 x2 x3 : S1x128x1024.Idx → EReal) (ix3 u p q) = newM (eight x0 p q) (x2 (ix3 (0 : Fin 1) p q)) := by
  unfold out0_6
  refine (congrFun (View.canon_unit_zero (S := S1x128x1024) hz3 _ _) _).trans ?_
  unfold k0_pay1
  exact (shapeCast_ab_1ab_apply (a := 128) (b := 1024) _ _ u p q).trans (mean ..)
theorem out7 (u : Fin 1) (p : Fin 128) (q : Fin 1024) : (out0_7 x0 x1 x2 x3 : S1x128x1024.Idx → EReal) (ix3 u p q) = newV (eight x0 p q) (x3 (ix3 (0 : Fin 1) p q)) := by
  unfold out0_7
  refine (congrFun (View.canon_unit_zero (S := S1x128x1024) hz3 _ _) _).trans ?_
  unfold k0_pay2
  exact (shapeCast_ab_1ab_apply (a := 128) (b := 1024) _ _ u p q).trans (square ..)

section Array
variable (m : (ℓ : Loc nD τ sig) → Buf (Elt Ideal) ℓ) (c : Dev nD)

/-- The four arguments. -/
def a0 : S8x512x1024.Idx → EReal := m ((c : Thread nD τ).loc main_arg0)
def a1 : S1x512x1024.Idx → EReal := m ((c : Thread nD τ).loc main_arg1)
def a2 : S1x512x1024.Idx → EReal := m ((c : Thread nD τ).loc main_arg2)
def a3 : S1x512x1024.Idx → EReal := m ((c : Thread nD τ).loc main_arg3)

/-- The four results. -/
def g4 (i : S1x512x1024.Idx) : EReal := eight (a0 m c) (i 1) (i 2)
def g5 (i : S1x512x1024.Idx) : EReal := delta (g4 m c i) (a1 m c i) (a2 m c i) (a3 m c i)
def g6 (i : S1x512x1024.Idx) : EReal := newM (g4 m c i) (a2 m c i)
def g7 (i : S1x512x1024.Idx) : EReal := newV (g4 m c i) (a3 m c i)

/-- The block of a point. -/
def T (t : Fin grid0.N) : Fin 3 → ℕ := cc0_transform_0 (grid0.coords t)
theorem hT : ∀ t, T t 0 = 0 ∧ T t 1 = t.val ∧ T t 2 = 0 := by decide +kernel

/-- Every index is in some point's block. -/
theorem cov (i : S1x512x1024.Idx) : ∃ t : Fin cfg0.N, (T t 0 * 1 ≤ (i 0).val ∧ (i 0).val < T t 0 * 1 + 1) ∧ (T t 1 * 128 ≤ (i 1).val ∧ (i 1).val < T t 1 * 128 + 128) ∧ (T t 2 * 1024 ≤ (i 2).val ∧ (i 2).val < T t 2 * 1024 + 1024) := by
  have h0 : (i 0).val < 1 := (i 0).isLt
  have h1 : (i 1).val < 512 := (i 1).isLt
  have h2 : (i 2).val < 1024 := (i 2).isLt
  have hN : cfg0.N = 4 := N_0
  obtain ⟨t, ht⟩ : ∃ t : Fin cfg0.N, t.val = (i 1).val / 128 := ⟨⟨(i 1).val / 128, by omega⟩, rfl⟩
  obtain ⟨e0, e1, e2⟩ := hT t
  exact ⟨t, by rw [e0]; omega, by rw [e1]; omega, by rw [e2]; omega⟩

variable (t : Fin cfg0.N) (p : Fin 128) (q : Fin 1024) (i : S1x512x1024.Idx) (hp : (i 1).val = T t 1 * 128 + 1 * p.val) (hq : (i 2).val = T t 2 * 1024 + 1 * q.val)

include hp hq
theorem b0 : eight (iblk m c 0 t) p q = g4 m c i := by
  show (∑ k : Fin 8, (show EReal from iblk m c 0 t (ix3 k p q))) = ∑ k : Fin 8, a0 m c (ix3 k (i 1 : Fin 512) (i 2 : Fin 1024))
  refine Finset.sum_congr rfl fun k _ => ?_
  unfold iblk
  rw [View.read_apply]
  refine congrArg (a0 m c) (funext (Fin.forall_fin_succ.mpr ⟨Fin.ext ?_, Fin.forall_fin_two.mpr ⟨Fin.ext hp.symm, Fin.ext hq.symm⟩⟩))
  show T t 0 * 8 + 1 * k.val = k.val
  rw [(hT t).1]; omega
theorem same (j : S1x512x1024.Idx) (h1 : (j 1).val = T t 1 * 128 + 1 * p.val) (h2 : (j 2).val = T t 2 * 1024 + 1 * q.val) : j = i := by
  have h0 : (j 0).val < 1 := (j 0).isLt
  have h0' : (i 0).val < 1 := (i 0).isLt
  exact funext (Fin.forall_fin_succ.mpr ⟨Fin.ext (by omega), Fin.forall_fin_two.mpr ⟨Fin.ext (h1.trans hp.symm), Fin.ext (h2.trans hq.symm)⟩⟩)
theorem b1 : iblk m c 1 t (ix3 (0 : Fin 1) p q) = a1 m c i := by
  unfold iblk
  exact (View.read_apply ..).trans (congrArg (a1 m c) (same t p q i hp hq _ rfl rfl))
theorem b2 : iblk m c 2 t (ix3 (0 : Fin 1) p q) = a2 m c i := by
  unfold iblk
  exact (View.read_apply ..).trans (congrArg (a2 m c) (same t p q i hp hq _ rfl rfl))
theorem b3 : iblk m c 3 t (ix3 (0 : Fin 1) p q) = a3 m c i := by
  unfold iblk
  exact (View.read_apply ..).trans (congrArg (a3 m c) (same t p q i hp hq _ rfl rfl))

omit hp hq
theorem arr4 : (dats m 0 c).arrAt 4 cfg0.N = g4 m c := by
  refine (dats m 0 c).arrAt_eq_of_cover 4 (g4 m c) (fun t _ => ?_) fun (i : S1x512x1024.Idx) => ?_
  · rw [flushed4]
    funext (j : S1x128x1024.Idx)
    rw [View.read_apply]
    exact (congrArg (out0_4 (iblk m c 0 t) (iblk m c 1 t) (iblk m c 2 t) (iblk m c 3 t)) (e3 j)).trans ((out4 _ _ _ _ (j 0) (j 1) (j 2)).trans (b0 m c t _ _ _ rfl rfl))
  · obtain ⟨t, h0, h1, h2⟩ := cov i
    refine ⟨t, flush0_4 t, ?_⟩
    show i ∈ ((View.whole main_v0_0).slice (win0_4.rect t)).set
    rw [View.set_slice_whole, Rect.mem_set_unit]
    exact Fin.forall_fin_succ.mpr ⟨h0, Fin.forall_fin_two.mpr ⟨h1, h2⟩⟩
theorem arr5 : (dats m 0 c).arrAt 5 cfg0.N = g5 m c := by
  refine (dats m 0 c).arrAt_eq_of_cover 5 (g5 m c) (fun t _ => ?_) fun (i : S1x512x1024.Idx) => ?_
  · rw [flushed5]
    funext (j : S1x128x1024.Idx)
    rw [View.read_apply]
    exact (congrArg (out0_5 (iblk m c 0 t) (iblk m c 1 t) (iblk m c 2 t) (iblk m c 3 t)) (e3 j)).trans ((out5 _ _ _ _ (j 0) (j 1) (j 2)).trans (show _ = delta _ _ _ _ from congr (congr (congr (congrArg delta (b0 m c t _ _ _ rfl rfl)) (b1 m c t _ _ _ rfl rfl)) (b2 m c t _ _ _ rfl rfl)) (b3 m c t _ _ _ rfl rfl)))
  · obtain ⟨t, h0, h1, h2⟩ := cov i
    refine ⟨t, flush0_5 t, ?_⟩
    show i ∈ ((View.whole main_v0_1).slice (win0_5.rect t)).set
    rw [View.set_slice_whole, Rect.mem_set_unit]
    exact Fin.forall_fin_succ.mpr ⟨h0, Fin.forall_fin_two.mpr ⟨h1, h2⟩⟩
theorem arr6 : (dats m 0 c).arrAt 6 cfg0.N = g6 m c := by
  refine (dats m 0 c).arrAt_eq_of_cover 6 (g6 m c) (fun t _ => ?_) fun (i : S1x512x1024.Idx) => ?_
  · rw [flushed6]
    funext (j : S1x128x1024.Idx)
    rw [View.read_apply]
    exact (congrArg (out0_6 (iblk m c 0 t) (iblk m c 1 t) (iblk m c 2 t) (iblk m c 3 t)) (e3 j)).trans ((out6 _ _ _ _ (j 0) (j 1) (j 2)).trans (congrArg₂ newM (b0 m c t _ _ _ rfl rfl) (b2 m c t _ _ _ rfl rfl)))
  · obtain ⟨t, h0, h1, h2⟩ := cov i
    refine ⟨t, flush0_6 t, ?_⟩
    show i ∈ ((View.whole main_v0_2).slice (win0_6.rect t)).set
    rw [View.set_slice_whole, Rect.mem_set_unit]
    exact Fin.forall_fin_succ.mpr ⟨h0, Fin.forall_fin_two.mpr ⟨h1, h2⟩⟩
theorem arr7 : (dats m 0 c).arrAt 7 cfg0.N = g7 m c := by
  refine (dats m 0 c).arrAt_eq_of_cover 7 (g7 m c) (fun t _ => ?_) fun (i : S1x512x1024.Idx) => ?_
  · rw [flushed7]
    funext (j : S1x128x1024.Idx)
    rw [View.read_apply]
    exact (congrArg (out0_7 (iblk m c 0 t) (iblk m c 1 t) (iblk m c 2 t) (iblk m c 3 t)) (e3 j)).trans ((out7 _ _ _ _ (j 0) (j 1) (j 2)).trans (congrArg₂ newV (b0 m c t _ _ _ rfl rfl) (b3 m c t _ _ _ rfl rfl)))
  · obtain ⟨t, h0, h1, h2⟩ := cov i
    refine ⟨t, flush0_7 t, ?_⟩
    show i ∈ ((View.whole main_v0_3).slice (win0_7.rect t)).set
    rw [View.set_slice_whole, Rect.mem_set_unit]
    exact Fin.forall_fin_succ.mpr ⟨h0, Fin.forall_fin_two.mpr ⟨h1, h2⟩⟩

end Array

/-- The reference's sum of eight. -/
theorem ref_sum (A : Vec Ideal Cert.Reference6Ideal.S8x512x1024 .bf16) (i : S1x512x1024.Idx) :
    (broadcastInDim Cert.Reference6Ideal.S1x512x1024 ![1, 2] Cert.Reference6Ideal.Facts₀.bcast_S512x1024_S1x512x1024_1_2 (Host.reduceAdd (F := Ideal) (extf .f32 A Cert.Reference6Ideal.Facts₀.bitsLt_bf16_f32) (constant Cert.Reference6Ideal.S_ .f32 0x00000000#32) Cert.Reference6Ideal.Facts₀.reducesTo_S8x512x1024_S512x1024_d0 Cert.Reference6Ideal.Facts₀.h_S_) : S1x512x1024.Idx → EReal) i = eight A (i 1) (i 2) := by
  refine (broadcastInDim_apply _ _ _ i (ix2 (i 1 : Fin 512) (i 2 : Fin 1024)) (Fin.forall_fin_two.mpr ⟨rfl, rfl⟩)).trans ?_
  refine (Ideal.hostReduceAdd_r3_a0 (n0 := 8) (n1 := 512) (n2 := 1024) _ _ _ _).trans ?_
  exact (congrArg (· + _) Ideal.ofBits_zero_f32).trans (zero_add _)

/-- The kernel and the reference have the same results. -/
theorem algebraic : Cert.algebraic_Kernel6Ideal_Reference6Ideal := by
  intro m g m' g' _ hm
  refine ⟨fun c => g4 m c, fun c => g5 m c, fun c => g6 m c, fun c => g7 m c, ?_, ?_⟩
  · refine (θ_run Cert.Kernel6Ideal.defs _ _).mono (fun r h c => ?_) (run_blocks (F := Ideal) m g)
    obtain ⟨r4, r5, r6, r7, h⟩ := h c
    exact ⟨r4.trans (arr4 m c), r5.trans (arr5 m c), r6.trans (arr6 m c), r7.trans (arr7 m c), h⟩
  · refine (θ_run Cert.Reference6Ideal.defs _ _).mono (fun r h c => ?_) (Cert.Reference6Ideal.Value.run (F := Ideal) m' g')
    obtain ⟨r4, r5, r6, r7, h⟩ := h c
    obtain ⟨e0, e1, e2, e3⟩ := hm c
    rw [e0] at r4 r5 r6 r7
    rw [e1] at r5
    rw [e2] at r5 r6
    rw [e3] at r5 r7
    have E := ref_sum (m ((c : Thread nD τ).loc main_arg0))
    have M := fun i => congrArg (fun x => newM x (a2 m c i)) (E i)
    have V := fun i => congrArg (fun x => newV x (a3 m c i)) (E i)
    exact ⟨r4.trans (funext E), r5.trans (funext fun i => congrArg (num _ * ·) (congrArg (· + num _ * a1 m c i) (congrArg₂ Ideal.div (congrArg (Ideal.div · _) (M i)) (congrArg (· + num _) (congrArg Ideal.sqrt (congrArg (Ideal.div · _) (V i))))))), r6.trans (funext M), r7.trans (funext V), h⟩

end Cert.Adam

end
-- ==== Proof.lean ====
/- The certificate's claims, put together. -/
module

public import proofs.«01_k».proof.Defs
public import proofs.«01_k».proof.Proof.Gen.Kernel
public import proofs.«01_k».proof.Proof.Gen.Kernel2
public import proofs.«01_k».proof.Proof.Gen.ReferenceIdeal.Run
public import proofs.«01_k».proof.Proof.Gen.Reference2Ideal.Run
public import proofs.«01_k».proof.Proof.Pre
public import proofs.«01_k».proof.Proof.MlpClaim
public import proofs.«01_k».proof.Proof.MixRun
public import proofs.«01_k».proof.Proof.MixClaim
public import proofs.«01_k».proof.Proof.Gen.Kernel3
public import proofs.«01_k».proof.Proof.Gen.Kernel3Ideal.Frame
public import proofs.«01_k».proof.Proof.Gen.Reference3Ideal.Run
public import proofs.«01_k».proof.Proof.FwdClaim
public import proofs.«01_k».proof.Proof.Gen.Kernel4
public import proofs.«01_k».proof.Proof.Slot
public import proofs.«01_k».proof.Proof.Small
public import proofs.«01_k».proof.Proof.Gen.Kernel5Ideal.Frame
public import proofs.«01_k».proof.Proof.Gen.Kernel5Ideal.Value
public import proofs.«01_k».proof.Proof.Wgrad
public import proofs.«01_k».proof.Proof.Gen.Kernel5
public import proofs.«01_k».proof.Proof.Gen.Reference5Ideal.Run
public import proofs.«01_k».proof.Proof.Gen.Kernel6
public import proofs.«01_k».proof.Proof.Adam
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel := by
  have h := fun m ρ (_ : True) => Cert.KernelIdeal.Gen.frame (F := Bits) m ρ
  exact cast (by sl_kernel_rfl) h

theorem frame_kernel2 : Cert.quiescent_Kernel2 := by
  have h := fun m ρ (_ : True) => Cert.MixRun.frame (F := Bits) m ρ
  exact cast (by sl_kernel_rfl) h

theorem frame_kernel3 : Cert.quiescent_Kernel3 := by
  have h := fun m ρ (_ : True) => Cert.Kernel3Ideal.Gen.frame (F := Bits) m ρ
  exact cast (by sl_kernel_rfl) h

theorem frame_kernel4 : Cert.quiescent_Kernel4 := by
  have h := fun (m : (ℓ : Loc Cert.Kernel4Ideal.nD Cert.Kernel4Ideal.τ Cert.Kernel4Ideal.sig) → Buf (Elt Bits) ℓ) ρ
      (hm : ∀ c : Dev Cert.Kernel4Ideal.nD, Cert.Pre_slot_in_range.fn (F := Bits) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) = fun _ => 1#1) => Cert.Small.frame (F := Bits) m ρ fun c y => Cert.Slot.slot (hm c) y
  exact cast (by sl_kernel_rfl) h

theorem frame_kernel4_ideal : Cert.quiescent_Kernel4Ideal := fun m ρ hm =>
  Cert.Small.frame (F := Ideal) m ρ fun c y => Cert.Slot.slot (hm c) y

theorem frame_kernel5 : Cert.quiescent_Kernel5 := by
  have h := fun m ρ (_ : True) => Cert.Kernel5Ideal.Gen.frame (F := Bits) m ρ
  exact cast (by sl_kernel_rfl) h

theorem frame_kernel6 : Cert.quiescent_Kernel6 := by
  have h := fun m ρ (_ : True) => Cert.Kernel6Ideal.Gen.frame (F := Bits) m ρ
  exact cast (by sl_kernel_rfl) h

theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre.facts_mlp, Cert.Pre.facts_mixer, Cert.Pre.facts_forward, Cert.Slot.facts,
    frame_kernel, fun m ρ _ => Cert.KernelIdeal.Gen.frame m ρ, fun m ρ _ => Cert.KernelIdeal.Gen.frame m ρ, frame_reference, fun m ρ _ => frame_reference m ρ trivial,
    frame_kernel2, fun m ρ _ => Cert.MixRun.frame m ρ, fun m ρ _ => Cert.MixRun.frame m ρ, frame_reference2, fun m ρ _ => frame_reference2 m ρ trivial,
    frame_kernel3, fun m ρ _ => Cert.Kernel3Ideal.Gen.frame m ρ, fun m ρ _ => Cert.Kernel3Ideal.Gen.frame m ρ, frame_reference3, fun m ρ _ => frame_reference3 m ρ trivial,
    frame_kernel4, frame_kernel4_ideal,
    frame_kernel5, fun m ρ _ => Cert.Kernel5Ideal.Gen.frame m ρ, frame_reference5,
    frame_kernel6, fun m ρ _ => Cert.Kernel6Ideal.Gen.frame m ρ, frame_reference6,
    trivial, Cert.MlpClaim.algebraic, trivial, Cert.MixClaim.algebraic, trivial, Cert.FwdClaim.algebraic, trivial, trivial, Cert.Wgrad.algebraic, trivial, Cert.Adam.algebraic⟩

end Cert.Proof

end
